-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_Weight (m : (ℓ : Loc Cert.Weight.nD Cert.Weight.τ Cert.Weight.sig) → Buf (Elt Bits) ℓ) : Prop :=
  True

def Pre_WeightIdeal (m : (ℓ : Loc Cert.WeightIdeal.nD Cert.WeightIdeal.τ Cert.WeightIdeal.sig) → Buf (Elt Ideal) ℓ) : Prop :=
  True

def Pre_WeightRefIdeal (m : (ℓ : Loc Cert.WeightRefIdeal.nD Cert.WeightRefIdeal.τ Cert.WeightRefIdeal.sig) → Buf (Elt Ideal) ℓ) : Prop :=
  True

def Pre_Inner (m : (ℓ : Loc Cert.Inner.nD Cert.Inner.τ Cert.Inner.sig) → Buf (Elt Bits) ℓ) : Prop :=
  True

def Pre_InnerIdeal (m : (ℓ : Loc Cert.InnerIdeal.nD Cert.InnerIdeal.τ Cert.InnerIdeal.sig) → Buf (Elt Ideal) ℓ) : Prop :=
  True

def Pre_InnerIdeal_finite3 [hPre_finite3 : Cert.Pre_finite3.Facts] (m : (ℓ : Loc Cert.InnerIdeal.nD Cert.InnerIdeal.τ Cert.InnerIdeal.sig) → Buf (Elt Ideal) ℓ) : Prop :=
  ∀ c : Dev Cert.InnerIdeal.nD,
    (Cert.Pre_finite3.fn (F := Ideal) (m ((c.tc : Thread Cert.InnerIdeal.nD Cert.InnerIdeal.τ).loc Cert.InnerIdeal.main_arg0)) (m ((c.tc : Thread Cert.InnerIdeal.nD Cert.InnerIdeal.τ).loc Cert.InnerIdeal.main_arg1)) (m ((c.tc : Thread Cert.InnerIdeal.nD Cert.InnerIdeal.τ).loc Cert.InnerIdeal.main_arg2)) (m ((c.tc : Thread Cert.InnerIdeal.nD Cert.InnerIdeal.τ).loc Cert.InnerIdeal.main_arg3)) (m ((c.tc : Thread Cert.InnerIdeal.nD Cert.InnerIdeal.τ).loc Cert.InnerIdeal.main_arg4)) (m ((c.tc : Thread Cert.InnerIdeal.nD Cert.InnerIdeal.τ).loc Cert.InnerIdeal.main_arg5)) (m ((c.tc : Thread Cert.InnerIdeal.nD Cert.InnerIdeal.τ).loc Cert.InnerIdeal.main_arg6))) = (fun _ => 1#1)

def Pre_InnerRefIdeal (m : (ℓ : Loc Cert.InnerRefIdeal.nD Cert.InnerRefIdeal.τ Cert.InnerRefIdeal.sig) → Buf (Elt Ideal) ℓ) : Prop :=
  True

def Pre_InnerRefIdeal_finite3 [hPre_finite3 : Cert.Pre_finite3.Facts] (m : (ℓ : Loc Cert.InnerRefIdeal.nD Cert.InnerRefIdeal.τ Cert.InnerRefIdeal.sig) → Buf (Elt Ideal) ℓ) : Prop :=
  ∀ c : Dev Cert.InnerRefIdeal.nD,
    (Cert.Pre_finite3.fn (F := Ideal) (m ((c.tc : Thread Cert.InnerRefIdeal.nD Cert.InnerRefIdeal.τ).loc Cert.InnerRefIdeal.main_arg0)) (m ((c.tc : Thread Cert.InnerRefIdeal.nD Cert.InnerRefIdeal.τ).loc Cert.InnerRefIdeal.main_arg1)) (m ((c.tc : Thread Cert.InnerRefIdeal.nD Cert.InnerRefIdeal.τ).loc Cert.InnerRefIdeal.main_arg2)) (m ((c.tc : Thread Cert.InnerRefIdeal.nD Cert.InnerRefIdeal.τ).loc Cert.InnerRefIdeal.main_arg3)) (m ((c.tc : Thread Cert.InnerRefIdeal.nD Cert.InnerRefIdeal.τ).loc Cert.InnerRefIdeal.main_arg4)) (m ((c.tc : Thread Cert.InnerRefIdeal.nD Cert.InnerRefIdeal.τ).loc Cert.InnerRefIdeal.main_arg5)) (m ((c.tc : Thread Cert.InnerRefIdeal.nD Cert.InnerRefIdeal.τ).loc Cert.InnerRefIdeal.main_arg6))) = (fun _ => 1#1)

def Pre_Hidden (m : (ℓ : Loc Cert.Hidden.nD Cert.Hidden.τ Cert.Hidden.sig) → Buf (Elt Bits) ℓ) : Prop :=
  True

def Pre_HiddenIdeal (m : (ℓ : Loc Cert.HiddenIdeal.nD Cert.HiddenIdeal.τ Cert.HiddenIdeal.sig) → Buf (Elt Ideal) ℓ) : Prop :=
  True

def Pre_HiddenIdeal_finite4 [hPre_finite4 : Cert.Pre_finite4.Facts] (m : (ℓ : Loc Cert.HiddenIdeal.nD Cert.HiddenIdeal.τ Cert.HiddenIdeal.sig) → Buf (Elt Ideal) ℓ) : Prop :=
  ∀ c : Dev Cert.HiddenIdeal.nD,
    (Cert.Pre_finite4.fn (F := Ideal) (m ((c.tc : Thread Cert.HiddenIdeal.nD Cert.HiddenIdeal.τ).loc Cert.HiddenIdeal.main_arg0)) (m ((c.tc : Thread Cert.HiddenIdeal.nD Cert.HiddenIdeal.τ).loc Cert.HiddenIdeal.main_arg1)) (m ((c.tc : Thread Cert.HiddenIdeal.nD Cert.HiddenIdeal.τ).loc Cert.HiddenIdeal.main_arg2)) (m ((c.tc : Thread Cert.HiddenIdeal.nD Cert.HiddenIdeal.τ).loc Cert.HiddenIdeal.main_arg3))) = (fun _ => 1#1)

def Pre_HiddenRefIdeal (m : (ℓ : Loc Cert.HiddenRefIdeal.nD Cert.HiddenRefIdeal.τ Cert.HiddenRefIdeal.sig) → Buf (Elt Ideal) ℓ) : Prop :=
  True

def Pre_HiddenRefIdeal_finite4 [hPre_finite4 : Cert.Pre_finite4.Facts] (m : (ℓ : Loc Cert.HiddenRefIdeal.nD Cert.HiddenRefIdeal.τ Cert.HiddenRefIdeal.sig) → Buf (Elt Ideal) ℓ) : Prop :=
  ∀ c : Dev Cert.HiddenRefIdeal.nD,
    (Cert.Pre_finite4.fn (F := Ideal) (m ((c.tc : Thread Cert.HiddenRefIdeal.nD Cert.HiddenRefIdeal.τ).loc Cert.HiddenRefIdeal.main_arg0)) (m ((c.tc : Thread Cert.HiddenRefIdeal.nD Cert.HiddenRefIdeal.τ).loc Cert.HiddenRefIdeal.main_arg1)) (m ((c.tc : Thread Cert.HiddenRefIdeal.nD Cert.HiddenRefIdeal.τ).loc Cert.HiddenRefIdeal.main_arg2)) (m ((c.tc : Thread Cert.HiddenRefIdeal.nD Cert.HiddenRefIdeal.τ).loc Cert.HiddenRefIdeal.main_arg3))) = (fun _ => 1#1)

def Pre_Forward (m : (ℓ : Loc Cert.Forward.nD Cert.Forward.τ Cert.Forward.sig) → Buf (Elt Bits) ℓ) : Prop :=
  True

def Pre_ForwardIdeal (m : (ℓ : Loc Cert.ForwardIdeal.nD Cert.ForwardIdeal.τ Cert.ForwardIdeal.sig) → Buf (Elt Ideal) ℓ) : Prop :=
  True

def Pre_ForwardIdeal_finite5 [hPre_finite5 : Cert.Pre_finite5.Facts] (m : (ℓ : Loc Cert.ForwardIdeal.nD Cert.ForwardIdeal.τ Cert.ForwardIdeal.sig) → Buf (Elt Ideal) ℓ) : Prop :=
  ∀ c : Dev Cert.ForwardIdeal.nD,
    (Cert.Pre_finite5.fn (F := Ideal) (m ((c.tc : Thread Cert.ForwardIdeal.nD Cert.ForwardIdeal.τ).loc Cert.ForwardIdeal.main_arg0)) (m ((c.tc : Thread Cert.ForwardIdeal.nD Cert.ForwardIdeal.τ).loc Cert.ForwardIdeal.main_arg1)) (m ((c.tc : Thread Cert.ForwardIdeal.nD Cert.ForwardIdeal.τ).loc Cert.ForwardIdeal.main_arg2)) (m ((c.tc : Thread Cert.ForwardIdeal.nD Cert.ForwardIdeal.τ).loc Cert.ForwardIdeal.main_arg3)) (m ((c.tc : Thread Cert.ForwardIdeal.nD Cert.ForwardIdeal.τ).loc Cert.ForwardIdeal.main_arg4)) (m ((c.tc : Thread Cert.ForwardIdeal.nD Cert.ForwardIdeal.τ).loc Cert.ForwardIdeal.main_arg5)) (m ((c.tc : Thread Cert.ForwardIdeal.nD Cert.ForwardIdeal.τ).loc Cert.ForwardIdeal.main_arg6))) = (fun _ => 1#1)

def Pre_ForwardRefIdeal (m : (ℓ : Loc Cert.ForwardRefIdeal.nD Cert.ForwardRefIdeal.τ Cert.ForwardRefIdeal.sig) → Buf (Elt Ideal) ℓ) : Prop :=
  True

def Pre_ForwardRefIdeal_finite5 [hPre_finite5 : Cert.Pre_finite5.Facts] (m : (ℓ : Loc Cert.ForwardRefIdeal.nD Cert.ForwardRefIdeal.τ Cert.ForwardRefIdeal.sig) → Buf (Elt Ideal) ℓ) : Prop :=
  ∀ c : Dev Cert.ForwardRefIdeal.nD,
    (Cert.Pre_finite5.fn (F := Ideal) (m ((c.tc : Thread Cert.ForwardRefIdeal.nD Cert.ForwardRefIdeal.τ).loc Cert.ForwardRefIdeal.main_arg0)) (m ((c.tc : Thread Cert.ForwardRefIdeal.nD Cert.ForwardRefIdeal.τ).loc Cert.ForwardRefIdeal.main_arg1)) (m ((c.tc : Thread Cert.ForwardRefIdeal.nD Cert.ForwardRefIdeal.τ).loc Cert.ForwardRefIdeal.main_arg2)) (m ((c.tc : Thread Cert.ForwardRefIdeal.nD Cert.ForwardRefIdeal.τ).loc Cert.ForwardRefIdeal.main_arg3)) (m ((c.tc : Thread Cert.ForwardRefIdeal.nD Cert.ForwardRefIdeal.τ).loc Cert.ForwardRefIdeal.main_arg4)) (m ((c.tc : Thread Cert.ForwardRefIdeal.nD Cert.ForwardRefIdeal.τ).loc Cert.ForwardRefIdeal.main_arg5)) (m ((c.tc : Thread Cert.ForwardRefIdeal.nD Cert.ForwardRefIdeal.τ).loc Cert.ForwardRefIdeal.main_arg6))) = (fun _ => 1#1)

def Pre_ProjWeight (m : (ℓ : Loc Cert.ProjWeight.nD Cert.ProjWeight.τ Cert.ProjWeight.sig) → Buf (Elt Bits) ℓ) : Prop :=
  True

def Pre_ProjWeightIdeal (m : (ℓ : Loc Cert.ProjWeightIdeal.nD Cert.ProjWeightIdeal.τ Cert.ProjWeightIdeal.sig) → Buf (Elt Ideal) ℓ) : Prop :=
  True

def Pre_ProjWeightRefIdeal (m : (ℓ : Loc Cert.ProjWeightRefIdeal.nD Cert.ProjWeightRefIdeal.τ Cert.ProjWeightRefIdeal.sig) → Buf (Elt Ideal) ℓ) : Prop :=
  True

def Pre_OutWeight (m : (ℓ : Loc Cert.OutWeight.nD Cert.OutWeight.τ Cert.OutWeight.sig) → Buf (Elt Bits) ℓ) : Prop :=
  True

def Pre_OutWeightIdeal (m : (ℓ : Loc Cert.OutWeightIdeal.nD Cert.OutWeightIdeal.τ Cert.OutWeightIdeal.sig) → Buf (Elt Ideal) ℓ) : Prop :=
  True

def Pre_OutWeightRefIdeal (m : (ℓ : Loc Cert.OutWeightRefIdeal.nD Cert.OutWeightRefIdeal.τ Cert.OutWeightRefIdeal.sig) → Buf (Elt Ideal) ℓ) : Prop :=
  True

def Pre_MixIn (m : (ℓ : Loc Cert.MixIn.nD Cert.MixIn.τ Cert.MixIn.sig) → Buf (Elt Bits) ℓ) : Prop :=
  True

def Pre_MixInIdeal (m : (ℓ : Loc Cert.MixInIdeal.nD Cert.MixInIdeal.τ Cert.MixInIdeal.sig) → Buf (Elt Ideal) ℓ) : Prop :=
  True

def Pre_MixInRefIdeal (m : (ℓ : Loc Cert.MixInRefIdeal.nD Cert.MixInRefIdeal.τ Cert.MixInRefIdeal.sig) → Buf (Elt Ideal) ℓ) : Prop :=
  True

def Pre_MixOut (m : (ℓ : Loc Cert.MixOut.nD Cert.MixOut.τ Cert.MixOut.sig) → Buf (Elt Bits) ℓ) : Prop :=
  True

def Pre_MixOutIdeal (m : (ℓ : Loc Cert.MixOutIdeal.nD Cert.MixOutIdeal.τ Cert.MixOutIdeal.sig) → Buf (Elt Ideal) ℓ) : Prop :=
  True

def Pre_MixOutRefIdeal (m : (ℓ : Loc Cert.MixOutRefIdeal.nD Cert.MixOutRefIdeal.τ Cert.MixOutRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Weight [hWeight : Cert.Weight.Facts] : Prop :=
  ∀ (m : (ℓ : Loc Cert.Weight.nD Cert.Weight.τ Cert.Weight.sig) → Buf (Elt Bits) ℓ) (g : Dev Cert.Weight.nD → PrngReg), Pre_Weight m →
    θ_run (Cert.Weight.defs (F := Bits)) (onTc (τ := Cert.Weight.τ) (Cert.Weight.main (F := Bits))) ⟨m, fun _ => 0, g⟩ (fun r => (∀ c : Dev Cert.Weight.nD,
      r.2.mem ((c.tc : Thread Cert.Weight.nD Cert.Weight.τ).loc Cert.Weight.main_arg0) = m ((c.tc : Thread Cert.Weight.nD Cert.Weight.τ).loc Cert.Weight.main_arg0)
      ∧ r.2.mem ((c.tc : Thread Cert.Weight.nD Cert.Weight.τ).loc Cert.Weight.main_arg1) = m ((c.tc : Thread Cert.Weight.nD Cert.Weight.τ).loc Cert.Weight.main_arg1))
      ∧ r.2.sem = fun _ => 0)

def quiescent_WeightIdeal [hWeightIdeal : Cert.WeightIdeal.Facts] : Prop :=
  ∀ (m : (ℓ : Loc Cert.WeightIdeal.nD Cert.WeightIdeal.τ Cert.WeightIdeal.sig) → Buf (Elt Ideal) ℓ) (g : Dev Cert.WeightIdeal.nD → PrngReg), Pre_WeightIdeal m →
    θ_run (Cert.WeightIdeal.defs (F := Ideal)) (onTc (τ := Cert.WeightIdeal.τ) (Cert.WeightIdeal.main (F := Ideal))) ⟨m, fun _ => 0, g⟩ (fun r => (∀ c : Dev Cert.WeightIdeal.nD,
      r.2.mem ((c.tc : Thread Cert.WeightIdeal.nD Cert.WeightIdeal.τ).loc Cert.WeightIdeal.main_arg0) = m ((c.tc : Thread Cert.WeightIdeal.nD Cert.WeightIdeal.τ).loc Cert.WeightIdeal.main_arg0)
      ∧ r.2.mem ((c.tc : Thread Cert.WeightIdeal.nD Cert.WeightIdeal.τ).loc Cert.WeightIdeal.main_arg1) = m ((c.tc : Thread Cert.WeightIdeal.nD Cert.WeightIdeal.τ).loc Cert.WeightIdeal.main_arg1))
      ∧ r.2.sem = fun _ => 0)

def quiescent_WeightRefIdeal [hWeightRefIdeal : Cert.WeightRefIdeal.Facts] : Prop :=
  ∀ (m : (ℓ : Loc Cert.WeightRefIdeal.nD Cert.WeightRefIdeal.τ Cert.WeightRefIdeal.sig) → Buf (Elt Ideal) ℓ) (g : Dev Cert.WeightRefIdeal.nD → PrngReg), Pre_WeightRefIdeal m →
    θ_run (Cert.WeightRefIdeal.defs (F := Ideal)) (onTc (τ := Cert.WeightRefIdeal.τ) (Cert.WeightRefIdeal.main (F := Ideal))) ⟨m, fun _ => 0, g⟩ (fun r => (∀ c : Dev Cert.WeightRefIdeal.nD,
      r.2.mem ((c.tc : Thread Cert.WeightRefIdeal.nD Cert.WeightRefIdeal.τ).loc Cert.WeightRefIdeal.main_arg0) = m ((c.tc : Thread Cert.WeightRefIdeal.nD Cert.WeightRefIdeal.τ).loc Cert.WeightRefIdeal.main_arg0)
      ∧ r.2.mem ((c.tc : Thread Cert.WeightRefIdeal.nD Cert.WeightRefIdeal.τ).loc Cert.WeightRefIdeal.main_arg1) = m ((c.tc : Thread Cert.WeightRefIdeal.nD Cert.WeightRefIdeal.τ).loc Cert.WeightRefIdeal.main_arg1))
      ∧ r.2.sem = fun _ => 0)

def quiescent_Inner [hInner : Cert.Inner.Facts] : Prop :=
  ∀ (m : (ℓ : Loc Cert.Inner.nD Cert.Inner.τ Cert.Inner.sig) → Buf (Elt Bits) ℓ) (g : Dev Cert.Inner.nD → PrngReg), Pre_Inner m →
    θ_run (Cert.Inner.defs (F := Bits)) (onTc (τ := Cert.Inner.τ) (Cert.Inner.main (F := Bits))) ⟨m, fun _ => 0, g⟩ (fun r => (∀ c : Dev Cert.Inner.nD,
      r.2.mem ((c.tc : Thread Cert.Inner.nD Cert.Inner.τ).loc Cert.Inner.main_arg0) = m ((c.tc : Thread Cert.Inner.nD Cert.Inner.τ).loc Cert.Inner.main_arg0)
      ∧ r.2.mem ((c.tc : Thread Cert.Inner.nD Cert.Inner.τ).loc Cert.Inner.main_arg1) = m ((c.tc : Thread Cert.Inner.nD Cert.Inner.τ).loc Cert.Inner.main_arg1)
      ∧ r.2.mem ((c.tc : Thread Cert.Inner.nD Cert.Inner.τ).loc Cert.Inner.main_arg2) = m ((c.tc : Thread Cert.Inner.nD Cert.Inner.τ).loc Cert.Inner.main_arg2)
      ∧ r.2.mem ((c.tc : Thread Cert.Inner.nD Cert.Inner.τ).loc Cert.Inner.main_arg3) = m ((c.tc : Thread Cert.Inner.nD Cert.Inner.τ).loc Cert.Inner.main_arg3)
      ∧ r.2.mem ((c.tc : Thread Cert.Inner.nD Cert.Inner.τ).loc Cert.Inner.main_arg4) = m ((c.tc : Thread Cert.Inner.nD Cert.Inner.τ).loc Cert.Inner.main_arg4)
      ∧ r.2.mem ((c.tc : Thread Cert.Inner.nD Cert.Inner.τ).loc Cert.Inner.main_arg5) = m ((c.tc : Thread Cert.Inner.nD Cert.Inner.τ).loc Cert.Inner.main_arg5)
      ∧ r.2.mem ((c.tc : Thread Cert.Inner.nD Cert.Inner.τ).loc Cert.Inner.main_arg6) = m ((c.tc : Thread Cert.Inner.nD Cert.Inner.τ).loc Cert.Inner.main_arg6))
      ∧ r.2.sem = fun _ => 0)

def quiescent_InnerIdeal [hInnerIdeal : Cert.InnerIdeal.Facts] : Prop :=
  ∀ (m : (ℓ : Loc Cert.InnerIdeal.nD Cert.InnerIdeal.τ Cert.InnerIdeal.sig) → Buf (Elt Ideal) ℓ) (g : Dev Cert.InnerIdeal.nD → PrngReg), Pre_InnerIdeal m →
    θ_run (Cert.InnerIdeal.defs (F := Ideal)) (onTc (τ := Cert.InnerIdeal.τ) (Cert.InnerIdeal.main (F := Ideal))) ⟨m, fun _ => 0, g⟩ (fun r => (∀ c : Dev Cert.InnerIdeal.nD,
      r.2.mem ((c.tc : Thread Cert.InnerIdeal.nD Cert.InnerIdeal.τ).loc Cert.InnerIdeal.main_arg0) = m ((c.tc : Thread Cert.InnerIdeal.nD Cert.InnerIdeal.τ).loc Cert.InnerIdeal.main_arg0)
      ∧ r.2.mem ((c.tc : Thread Cert.InnerIdeal.nD Cert.InnerIdeal.τ).loc Cert.InnerIdeal.main_arg1) = m ((c.tc : Thread Cert.InnerIdeal.nD Cert.InnerIdeal.τ).loc Cert.InnerIdeal.main_arg1)
      ∧ r.2.mem ((c.tc : Thread Cert.InnerIdeal.nD Cert.InnerIdeal.τ).loc Cert.InnerIdeal.main_arg2) = m ((c.tc : Thread Cert.InnerIdeal.nD Cert.InnerIdeal.τ).loc Cert.InnerIdeal.main_arg2)
      ∧ r.2.mem ((c.tc : Thread Cert.InnerIdeal.nD Cert.InnerIdeal.τ).loc Cert.InnerIdeal.main_arg3) = m ((c.tc : Thread Cert.InnerIdeal.nD Cert.InnerIdeal.τ).loc Cert.InnerIdeal.main_arg3)
      ∧ r.2.mem ((c.tc : Thread Cert.InnerIdeal.nD Cert.InnerIdeal.τ).loc Cert.InnerIdeal.main_arg4) = m ((c.tc : Thread Cert.InnerIdeal.nD Cert.InnerIdeal.τ).loc Cert.InnerIdeal.main_arg4)
      ∧ r.2.mem ((c.tc : Thread Cert.InnerIdeal.nD Cert.InnerIdeal.τ).loc Cert.InnerIdeal.main_arg5) = m ((c.tc : Thread Cert.InnerIdeal.nD Cert.InnerIdeal.τ).loc Cert.InnerIdeal.main_arg5)
      ∧ r.2.mem ((c.tc : Thread Cert.InnerIdeal.nD Cert.InnerIdeal.τ).loc Cert.InnerIdeal.main_arg6) = m ((c.tc : Thread Cert.InnerIdeal.nD Cert.InnerIdeal.τ).loc Cert.InnerIdeal.main_arg6))
      ∧ r.2.sem = fun _ => 0)

def quiescent_InnerIdeal_pre_finite3 [hInnerIdeal : Cert.InnerIdeal.Facts] [hPre_finite3 : Cert.Pre_finite3.Facts] : Prop :=
  ∀ (m : (ℓ : Loc Cert.InnerIdeal.nD Cert.InnerIdeal.τ Cert.InnerIdeal.sig) → Buf (Elt Ideal) ℓ) (g : Dev Cert.InnerIdeal.nD → PrngReg), Pre_InnerIdeal_finite3 m →
    θ_run (Cert.InnerIdeal.defs (F := Ideal)) (onTc (τ := Cert.InnerIdeal.τ) (Cert.InnerIdeal.main (F := Ideal))) ⟨m, fun _ => 0, g⟩ (fun r => (∀ c : Dev Cert.InnerIdeal.nD,
      r.2.mem ((c.tc : Thread Cert.InnerIdeal.nD Cert.InnerIdeal.τ).loc Cert.InnerIdeal.main_arg0) = m ((c.tc : Thread Cert.InnerIdeal.nD Cert.InnerIdeal.τ).loc Cert.InnerIdeal.main_arg0)
      ∧ r.2.mem ((c.tc : Thread Cert.InnerIdeal.nD Cert.InnerIdeal.τ).loc Cert.InnerIdeal.main_arg1) = m ((c.tc : Thread Cert.InnerIdeal.nD Cert.InnerIdeal.τ).loc Cert.InnerIdeal.main_arg1)
      ∧ r.2.mem ((c.tc : Thread Cert.InnerIdeal.nD Cert.InnerIdeal.τ).loc Cert.InnerIdeal.main_arg2) = m ((c.tc : Thread Cert.InnerIdeal.nD Cert.InnerIdeal.τ).loc Cert.InnerIdeal.main_arg2)
      ∧ r.2.mem ((c.tc : Thread Cert.InnerIdeal.nD Cert.InnerIdeal.τ).loc Cert.InnerIdeal.main_arg3) = m ((c.tc : Thread Cert.InnerIdeal.nD Cert.InnerIdeal.τ).loc Cert.InnerIdeal.main_arg3)
      ∧ r.2.mem ((c.tc : Thread Cert.InnerIdeal.nD Cert.InnerIdeal.τ).loc Cert.InnerIdeal.main_arg4) = m ((c.tc : Thread Cert.InnerIdeal.nD Cert.InnerIdeal.τ).loc Cert.InnerIdeal.main_arg4)
      ∧ r.2.mem ((c.tc : Thread Cert.InnerIdeal.nD Cert.InnerIdeal.τ).loc Cert.InnerIdeal.main_arg5) = m ((c.tc : Thread Cert.InnerIdeal.nD Cert.InnerIdeal.τ).loc Cert.InnerIdeal.main_arg5)
      ∧ r.2.mem ((c.tc : Thread Cert.InnerIdeal.nD Cert.InnerIdeal.τ).loc Cert.InnerIdeal.main_arg6) = m ((c.tc : Thread Cert.InnerIdeal.nD Cert.InnerIdeal.τ).loc Cert.InnerIdeal.main_arg6))
      ∧ r.2.sem = fun _ => 0)

def quiescent_InnerRefIdeal [hInnerRefIdeal : Cert.InnerRefIdeal.Facts] : Prop :=
  ∀ (m : (ℓ : Loc Cert.InnerRefIdeal.nD Cert.InnerRefIdeal.τ Cert.InnerRefIdeal.sig) → Buf (Elt Ideal) ℓ) (g : Dev Cert.InnerRefIdeal.nD → PrngReg), Pre_InnerRefIdeal m →
    θ_run (Cert.InnerRefIdeal.defs (F := Ideal)) (onTc (τ := Cert.InnerRefIdeal.τ) (Cert.InnerRefIdeal.main (F := Ideal))) ⟨m, fun _ => 0, g⟩ (fun r => (∀ c : Dev Cert.InnerRefIdeal.nD,
      r.2.mem ((c.tc : Thread Cert.InnerRefIdeal.nD Cert.InnerRefIdeal.τ).loc Cert.InnerRefIdeal.main_arg0) = m ((c.tc : Thread Cert.InnerRefIdeal.nD Cert.InnerRefIdeal.τ).loc Cert.InnerRefIdeal.main_arg0)
      ∧ r.2.mem ((c.tc : Thread Cert.InnerRefIdeal.nD Cert.InnerRefIdeal.τ).loc Cert.InnerRefIdeal.main_arg1) = m ((c.tc : Thread Cert.InnerRefIdeal.nD Cert.InnerRefIdeal.τ).loc Cert.InnerRefIdeal.main_arg1)
      ∧ r.2.mem ((c.tc : Thread Cert.InnerRefIdeal.nD Cert.InnerRefIdeal.τ).loc Cert.InnerRefIdeal.main_arg2) = m ((c.tc : Thread Cert.InnerRefIdeal.nD Cert.InnerRefIdeal.τ).loc Cert.InnerRefIdeal.main_arg2)
      ∧ r.2.mem ((c.tc : Thread Cert.InnerRefIdeal.nD Cert.InnerRefIdeal.τ).loc Cert.InnerRefIdeal.main_arg3) = m ((c.tc : Thread Cert.InnerRefIdeal.nD Cert.InnerRefIdeal.τ).loc Cert.InnerRefIdeal.main_arg3)
      ∧ r.2.mem ((c.tc : Thread Cert.InnerRefIdeal.nD Cert.InnerRefIdeal.τ).loc Cert.InnerRefIdeal.main_arg4) = m ((c.tc : Thread Cert.InnerRefIdeal.nD Cert.InnerRefIdeal.τ).loc Cert.InnerRefIdeal.main_arg4)
      ∧ r.2.mem ((c.tc : Thread Cert.InnerRefIdeal.nD Cert.InnerRefIdeal.τ).loc Cert.InnerRefIdeal.main_arg5) = m ((c.tc : Thread Cert.InnerRefIdeal.nD Cert.InnerRefIdeal.τ).loc Cert.InnerRefIdeal.main_arg5)
      ∧ r.2.mem ((c.tc : Thread Cert.InnerRefIdeal.nD Cert.InnerRefIdeal.τ).loc Cert.InnerRefIdeal.main_arg6) = m ((c.tc : Thread Cert.InnerRefIdeal.nD Cert.InnerRefIdeal.τ).loc Cert.InnerRefIdeal.main_arg6))
      ∧ r.2.sem = fun _ => 0)

def quiescent_InnerRefIdeal_pre_finite3 [hInnerRefIdeal : Cert.InnerRefIdeal.Facts] [hPre_finite3 : Cert.Pre_finite3.Facts] : Prop :=
  ∀ (m : (ℓ : Loc Cert.InnerRefIdeal.nD Cert.InnerRefIdeal.τ Cert.InnerRefIdeal.sig) → Buf (Elt Ideal) ℓ) (g : Dev Cert.InnerRefIdeal.nD → PrngReg), Pre_InnerRefIdeal_finite3 m →
    θ_run (Cert.InnerRefIdeal.defs (F := Ideal)) (onTc (τ := Cert.InnerRefIdeal.τ) (Cert.InnerRefIdeal.main (F := Ideal))) ⟨m, fun _ => 0, g⟩ (fun r => (∀ c : Dev Cert.InnerRefIdeal.nD,
      r.2.mem ((c.tc : Thread Cert.InnerRefIdeal.nD Cert.InnerRefIdeal.τ).loc Cert.InnerRefIdeal.main_arg0) = m ((c.tc : Thread Cert.InnerRefIdeal.nD Cert.InnerRefIdeal.τ).loc Cert.InnerRefIdeal.main_arg0)
      ∧ r.2.mem ((c.tc : Thread Cert.InnerRefIdeal.nD Cert.InnerRefIdeal.τ).loc Cert.InnerRefIdeal.main_arg1) = m ((c.tc : Thread Cert.InnerRefIdeal.nD Cert.InnerRefIdeal.τ).loc Cert.InnerRefIdeal.main_arg1)
      ∧ r.2.mem ((c.tc : Thread Cert.InnerRefIdeal.nD Cert.InnerRefIdeal.τ).loc Cert.InnerRefIdeal.main_arg2) = m ((c.tc : Thread Cert.InnerRefIdeal.nD Cert.InnerRefIdeal.τ).loc Cert.InnerRefIdeal.main_arg2)
      ∧ r.2.mem ((c.tc : Thread Cert.InnerRefIdeal.nD Cert.InnerRefIdeal.τ).loc Cert.InnerRefIdeal.main_arg3) = m ((c.tc : Thread Cert.InnerRefIdeal.nD Cert.InnerRefIdeal.τ).loc Cert.InnerRefIdeal.main_arg3)
      ∧ r.2.mem ((c.tc : Thread Cert.InnerRefIdeal.nD Cert.InnerRefIdeal.τ).loc Cert.InnerRefIdeal.main_arg4) = m ((c.tc : Thread Cert.InnerRefIdeal.nD Cert.InnerRefIdeal.τ).loc Cert.InnerRefIdeal.main_arg4)
      ∧ r.2.mem ((c.tc : Thread Cert.InnerRefIdeal.nD Cert.InnerRefIdeal.τ).loc Cert.InnerRefIdeal.main_arg5) = m ((c.tc : Thread Cert.InnerRefIdeal.nD Cert.InnerRefIdeal.τ).loc Cert.InnerRefIdeal.main_arg5)
      ∧ r.2.mem ((c.tc : Thread Cert.InnerRefIdeal.nD Cert.InnerRefIdeal.τ).loc Cert.InnerRefIdeal.main_arg6) = m ((c.tc : Thread Cert.InnerRefIdeal.nD Cert.InnerRefIdeal.τ).loc Cert.InnerRefIdeal.main_arg6))
      ∧ r.2.sem = fun _ => 0)

def quiescent_Hidden [hHidden : Cert.Hidden.Facts] : Prop :=
  ∀ (m : (ℓ : Loc Cert.Hidden.nD Cert.Hidden.τ Cert.Hidden.sig) → Buf (Elt Bits) ℓ) (g : Dev Cert.Hidden.nD → PrngReg), Pre_Hidden m →
    θ_run (Cert.Hidden.defs (F := Bits)) (onTc (τ := Cert.Hidden.τ) (Cert.Hidden.main (F := Bits))) ⟨m, fun _ => 0, g⟩ (fun r => (∀ c : Dev Cert.Hidden.nD,
      r.2.mem ((c.tc : Thread Cert.Hidden.nD Cert.Hidden.τ).loc Cert.Hidden.main_arg0) = m ((c.tc : Thread Cert.Hidden.nD Cert.Hidden.τ).loc Cert.Hidden.main_arg0)
      ∧ r.2.mem ((c.tc : Thread Cert.Hidden.nD Cert.Hidden.τ).loc Cert.Hidden.main_arg1) = m ((c.tc : Thread Cert.Hidden.nD Cert.Hidden.τ).loc Cert.Hidden.main_arg1)
      ∧ r.2.mem ((c.tc : Thread Cert.Hidden.nD Cert.Hidden.τ).loc Cert.Hidden.main_arg2) = m ((c.tc : Thread Cert.Hidden.nD Cert.Hidden.τ).loc Cert.Hidden.main_arg2)
      ∧ r.2.mem ((c.tc : Thread Cert.Hidden.nD Cert.Hidden.τ).loc Cert.Hidden.main_arg3) = m ((c.tc : Thread Cert.Hidden.nD Cert.Hidden.τ).loc Cert.Hidden.main_arg3))
      ∧ r.2.sem = fun _ => 0)

def quiescent_HiddenIdeal [hHiddenIdeal : Cert.HiddenIdeal.Facts] : Prop :=
  ∀ (m : (ℓ : Loc Cert.HiddenIdeal.nD Cert.HiddenIdeal.τ Cert.HiddenIdeal.sig) → Buf (Elt Ideal) ℓ) (g : Dev Cert.HiddenIdeal.nD → PrngReg), Pre_HiddenIdeal m →
    θ_run (Cert.HiddenIdeal.defs (F := Ideal)) (onTc (τ := Cert.HiddenIdeal.τ) (Cert.HiddenIdeal.main (F := Ideal))) ⟨m, fun _ => 0, g⟩ (fun r => (∀ c : Dev Cert.HiddenIdeal.nD,
      r.2.mem ((c.tc : Thread Cert.HiddenIdeal.nD Cert.HiddenIdeal.τ).loc Cert.HiddenIdeal.main_arg0) = m ((c.tc : Thread Cert.HiddenIdeal.nD Cert.HiddenIdeal.τ).loc Cert.HiddenIdeal.main_arg0)
      ∧ r.2.mem ((c.tc : Thread Cert.HiddenIdeal.nD Cert.HiddenIdeal.τ).loc Cert.HiddenIdeal.main_arg1) = m ((c.tc : Thread Cert.HiddenIdeal.nD Cert.HiddenIdeal.τ).loc Cert.HiddenIdeal.main_arg1)
      ∧ r.2.mem ((c.tc : Thread Cert.HiddenIdeal.nD Cert.HiddenIdeal.τ).loc Cert.HiddenIdeal.main_arg2) = m ((c.tc : Thread Cert.HiddenIdeal.nD Cert.HiddenIdeal.τ).loc Cert.HiddenIdeal.main_arg2)
      ∧ r.2.mem ((c.tc : Thread Cert.HiddenIdeal.nD Cert.HiddenIdeal.τ).loc Cert.HiddenIdeal.main_arg3) = m ((c.tc : Thread Cert.HiddenIdeal.nD Cert.HiddenIdeal.τ).loc Cert.HiddenIdeal.main_arg3))
      ∧ r.2.sem = fun _ => 0)

def quiescent_HiddenIdeal_pre_finite4 [hHiddenIdeal : Cert.HiddenIdeal.Facts] [hPre_finite4 : Cert.Pre_finite4.Facts] : Prop :=
  ∀ (m : (ℓ : Loc Cert.HiddenIdeal.nD Cert.HiddenIdeal.τ Cert.HiddenIdeal.sig) → Buf (Elt Ideal) ℓ) (g : Dev Cert.HiddenIdeal.nD → PrngReg), Pre_HiddenIdeal_finite4 m →
    θ_run (Cert.HiddenIdeal.defs (F := Ideal)) (onTc (τ := Cert.HiddenIdeal.τ) (Cert.HiddenIdeal.main (F := Ideal))) ⟨m, fun _ => 0, g⟩ (fun r => (∀ c : Dev Cert.HiddenIdeal.nD,
      r.2.mem ((c.tc : Thread Cert.HiddenIdeal.nD Cert.HiddenIdeal.τ).loc Cert.HiddenIdeal.main_arg0) = m ((c.tc : Thread Cert.HiddenIdeal.nD Cert.HiddenIdeal.τ).loc Cert.HiddenIdeal.main_arg0)
      ∧ r.2.mem ((c.tc : Thread Cert.HiddenIdeal.nD Cert.HiddenIdeal.τ).loc Cert.HiddenIdeal.main_arg1) = m ((c.tc : Thread Cert.HiddenIdeal.nD Cert.HiddenIdeal.τ).loc Cert.HiddenIdeal.main_arg1)
      ∧ r.2.mem ((c.tc : Thread Cert.HiddenIdeal.nD Cert.HiddenIdeal.τ).loc Cert.HiddenIdeal.main_arg2) = m ((c.tc : Thread Cert.HiddenIdeal.nD Cert.HiddenIdeal.τ).loc Cert.HiddenIdeal.main_arg2)
      ∧ r.2.mem ((c.tc : Thread Cert.HiddenIdeal.nD Cert.HiddenIdeal.τ).loc Cert.HiddenIdeal.main_arg3) = m ((c.tc : Thread Cert.HiddenIdeal.nD Cert.HiddenIdeal.τ).loc Cert.HiddenIdeal.main_arg3))
      ∧ r.2.sem = fun _ => 0)

def quiescent_HiddenRefIdeal [hHiddenRefIdeal : Cert.HiddenRefIdeal.Facts] : Prop :=
  ∀ (m : (ℓ : Loc Cert.HiddenRefIdeal.nD Cert.HiddenRefIdeal.τ Cert.HiddenRefIdeal.sig) → Buf (Elt Ideal) ℓ) (g : Dev Cert.HiddenRefIdeal.nD → PrngReg), Pre_HiddenRefIdeal m →
    θ_run (Cert.HiddenRefIdeal.defs (F := Ideal)) (onTc (τ := Cert.HiddenRefIdeal.τ) (Cert.HiddenRefIdeal.main (F := Ideal))) ⟨m, fun _ => 0, g⟩ (fun r => (∀ c : Dev Cert.HiddenRefIdeal.nD,
      r.2.mem ((c.tc : Thread Cert.HiddenRefIdeal.nD Cert.HiddenRefIdeal.τ).loc Cert.HiddenRefIdeal.main_arg0) = m ((c.tc : Thread Cert.HiddenRefIdeal.nD Cert.HiddenRefIdeal.τ).loc Cert.HiddenRefIdeal.main_arg0)
      ∧ r.2.mem ((c.tc : Thread Cert.HiddenRefIdeal.nD Cert.HiddenRefIdeal.τ).loc Cert.HiddenRefIdeal.main_arg1) = m ((c.tc : Thread Cert.HiddenRefIdeal.nD Cert.HiddenRefIdeal.τ).loc Cert.HiddenRefIdeal.main_arg1)
      ∧ r.2.mem ((c.tc : Thread Cert.HiddenRefIdeal.nD Cert.HiddenRefIdeal.τ).loc Cert.HiddenRefIdeal.main_arg2) = m ((c.tc : Thread Cert.HiddenRefIdeal.nD Cert.HiddenRefIdeal.τ).loc Cert.HiddenRefIdeal.main_arg2)
      ∧ r.2.mem ((c.tc : Thread Cert.HiddenRefIdeal.nD Cert.HiddenRefIdeal.τ).loc Cert.HiddenRefIdeal.main_arg3) = m ((c.tc : Thread Cert.HiddenRefIdeal.nD Cert.HiddenRefIdeal.τ).loc Cert.HiddenRefIdeal.main_arg3))
      ∧ r.2.sem = fun _ => 0)

def quiescent_HiddenRefIdeal_pre_finite4 [hHiddenRefIdeal : Cert.HiddenRefIdeal.Facts] [hPre_finite4 : Cert.Pre_finite4.Facts] : Prop :=
  ∀ (m : (ℓ : Loc Cert.HiddenRefIdeal.nD Cert.HiddenRefIdeal.τ Cert.HiddenRefIdeal.sig) → Buf (Elt Ideal) ℓ) (g : Dev Cert.HiddenRefIdeal.nD → PrngReg), Pre_HiddenRefIdeal_finite4 m →
    θ_run (Cert.HiddenRefIdeal.defs (F := Ideal)) (onTc (τ := Cert.HiddenRefIdeal.τ) (Cert.HiddenRefIdeal.main (F := Ideal))) ⟨m, fun _ => 0, g⟩ (fun r => (∀ c : Dev Cert.HiddenRefIdeal.nD,
      r.2.mem ((c.tc : Thread Cert.HiddenRefIdeal.nD Cert.HiddenRefIdeal.τ).loc Cert.HiddenRefIdeal.main_arg0) = m ((c.tc : Thread Cert.HiddenRefIdeal.nD Cert.HiddenRefIdeal.τ).loc Cert.HiddenRefIdeal.main_arg0)
      ∧ r.2.mem ((c.tc : Thread Cert.HiddenRefIdeal.nD Cert.HiddenRefIdeal.τ).loc Cert.HiddenRefIdeal.main_arg1) = m ((c.tc : Thread Cert.HiddenRefIdeal.nD Cert.HiddenRefIdeal.τ).loc Cert.HiddenRefIdeal.main_arg1)
      ∧ r.2.mem ((c.tc : Thread Cert.HiddenRefIdeal.nD Cert.HiddenRefIdeal.τ).loc Cert.HiddenRefIdeal.main_arg2) = m ((c.tc : Thread Cert.HiddenRefIdeal.nD Cert.HiddenRefIdeal.τ).loc Cert.HiddenRefIdeal.main_arg2)
      ∧ r.2.mem ((c.tc : Thread Cert.HiddenRefIdeal.nD Cert.HiddenRefIdeal.τ).loc Cert.HiddenRefIdeal.main_arg3) = m ((c.tc : Thread Cert.HiddenRefIdeal.nD Cert.HiddenRefIdeal.τ).loc Cert.HiddenRefIdeal.main_arg3))
      ∧ r.2.sem = fun _ => 0)

def quiescent_Forward [hForward : Cert.Forward.Facts] : Prop :=
  ∀ (m : (ℓ : Loc Cert.Forward.nD Cert.Forward.τ Cert.Forward.sig) → Buf (Elt Bits) ℓ) (g : Dev Cert.Forward.nD → PrngReg), Pre_Forward m →
    θ_run (Cert.Forward.defs (F := Bits)) (onTc (τ := Cert.Forward.τ) (Cert.Forward.main (F := Bits))) ⟨m, fun _ => 0, g⟩ (fun r => (∀ c : Dev Cert.Forward.nD,
      r.2.mem ((c.tc : Thread Cert.Forward.nD Cert.Forward.τ).loc Cert.Forward.main_arg0) = m ((c.tc : Thread Cert.Forward.nD Cert.Forward.τ).loc Cert.Forward.main_arg0)
      ∧ r.2.mem ((c.tc : Thread Cert.Forward.nD Cert.Forward.τ).loc Cert.Forward.main_arg1) = m ((c.tc : Thread Cert.Forward.nD Cert.Forward.τ).loc Cert.Forward.main_arg1)
      ∧ r.2.mem ((c.tc : Thread Cert.Forward.nD Cert.Forward.τ).loc Cert.Forward.main_arg2) = m ((c.tc : Thread Cert.Forward.nD Cert.Forward.τ).loc Cert.Forward.main_arg2)
      ∧ r.2.mem ((c.tc : Thread Cert.Forward.nD Cert.Forward.τ).loc Cert.Forward.main_arg3) = m ((c.tc : Thread Cert.Forward.nD Cert.Forward.τ).loc Cert.Forward.main_arg3)
      ∧ r.2.mem ((c.tc : Thread Cert.Forward.nD Cert.Forward.τ).loc Cert.Forward.main_arg4) = m ((c.tc : Thread Cert.Forward.nD Cert.Forward.τ).loc Cert.Forward.main_arg4)
      ∧ r.2.mem ((c.tc : Thread Cert.Forward.nD Cert.Forward.τ).loc Cert.Forward.main_arg5) = m ((c.tc : Thread Cert.Forward.nD Cert.Forward.τ).loc Cert.Forward.main_arg5)
      ∧ r.2.mem ((c.tc : Thread Cert.Forward.nD Cert.Forward.τ).loc Cert.Forward.main_arg6) = m ((c.tc : Thread Cert.Forward.nD Cert.Forward.τ).loc Cert.Forward.main_arg6))
      ∧ r.2.sem = fun _ => 0)

def quiescent_ForwardIdeal [hForwardIdeal : Cert.ForwardIdeal.Facts] : Prop :=
  ∀ (m : (ℓ : Loc Cert.ForwardIdeal.nD Cert.ForwardIdeal.τ Cert.ForwardIdeal.sig) → Buf (Elt Ideal) ℓ) (g : Dev Cert.ForwardIdeal.nD → PrngReg), Pre_ForwardIdeal m →
    θ_run (Cert.ForwardIdeal.defs (F := Ideal)) (onTc (τ := Cert.ForwardIdeal.τ) (Cert.ForwardIdeal.main (F := Ideal))) ⟨m, fun _ => 0, g⟩ (fun r => (∀ c : Dev Cert.ForwardIdeal.nD,
      r.2.mem ((c.tc : Thread Cert.ForwardIdeal.nD Cert.ForwardIdeal.τ).loc Cert.ForwardIdeal.main_arg0) = m ((c.tc : Thread Cert.ForwardIdeal.nD Cert.ForwardIdeal.τ).loc Cert.ForwardIdeal.main_arg0)
      ∧ r.2.mem ((c.tc : Thread Cert.ForwardIdeal.nD Cert.ForwardIdeal.τ).loc Cert.ForwardIdeal.main_arg1) = m ((c.tc : Thread Cert.ForwardIdeal.nD Cert.ForwardIdeal.τ).loc Cert.ForwardIdeal.main_arg1)
      ∧ r.2.mem ((c.tc : Thread Cert.ForwardIdeal.nD Cert.ForwardIdeal.τ).loc Cert.ForwardIdeal.main_arg2) = m ((c.tc : Thread Cert.ForwardIdeal.nD Cert.ForwardIdeal.τ).loc Cert.ForwardIdeal.main_arg2)
      ∧ r.2.mem ((c.tc : Thread Cert.ForwardIdeal.nD Cert.ForwardIdeal.τ).loc Cert.ForwardIdeal.main_arg3) = m ((c.tc : Thread Cert.ForwardIdeal.nD Cert.ForwardIdeal.τ).loc Cert.ForwardIdeal.main_arg3)
      ∧ r.2.mem ((c.tc : Thread Cert.ForwardIdeal.nD Cert.ForwardIdeal.τ).loc Cert.ForwardIdeal.main_arg4) = m ((c.tc : Thread Cert.ForwardIdeal.nD Cert.ForwardIdeal.τ).loc Cert.ForwardIdeal.main_arg4)
      ∧ r.2.mem ((c.tc : Thread Cert.ForwardIdeal.nD Cert.ForwardIdeal.τ).loc Cert.ForwardIdeal.main_arg5) = m ((c.tc : Thread Cert.ForwardIdeal.nD Cert.ForwardIdeal.τ).loc Cert.ForwardIdeal.main_arg5)
      ∧ r.2.mem ((c.tc : Thread Cert.ForwardIdeal.nD Cert.ForwardIdeal.τ).loc Cert.ForwardIdeal.main_arg6) = m ((c.tc : Thread Cert.ForwardIdeal.nD Cert.ForwardIdeal.τ).loc Cert.ForwardIdeal.main_arg6))
      ∧ r.2.sem = fun _ => 0)

def quiescent_ForwardIdeal_pre_finite5 [hForwardIdeal : Cert.ForwardIdeal.Facts] [hPre_finite5 : Cert.Pre_finite5.Facts] : Prop :=
  ∀ (m : (ℓ : Loc Cert.ForwardIdeal.nD Cert.ForwardIdeal.τ Cert.ForwardIdeal.sig) → Buf (Elt Ideal) ℓ) (g : Dev Cert.ForwardIdeal.nD → PrngReg), Pre_ForwardIdeal_finite5 m →
    θ_run (Cert.ForwardIdeal.defs (F := Ideal)) (onTc (τ := Cert.ForwardIdeal.τ) (Cert.ForwardIdeal.main (F := Ideal))) ⟨m, fun _ => 0, g⟩ (fun r => (∀ c : Dev Cert.ForwardIdeal.nD,
      r.2.mem ((c.tc : Thread Cert.ForwardIdeal.nD Cert.ForwardIdeal.τ).loc Cert.ForwardIdeal.main_arg0) = m ((c.tc : Thread Cert.ForwardIdeal.nD Cert.ForwardIdeal.τ).loc Cert.ForwardIdeal.main_arg0)
      ∧ r.2.mem ((c.tc : Thread Cert.ForwardIdeal.nD Cert.ForwardIdeal.τ).loc Cert.ForwardIdeal.main_arg1) = m ((c.tc : Thread Cert.ForwardIdeal.nD Cert.ForwardIdeal.τ).loc Cert.ForwardIdeal.main_arg1)
      ∧ r.2.mem ((c.tc : Thread Cert.ForwardIdeal.nD Cert.ForwardIdeal.τ).loc Cert.ForwardIdeal.main_arg2) = m ((c.tc : Thread Cert.ForwardIdeal.nD Cert.ForwardIdeal.τ).loc Cert.ForwardIdeal.main_arg2)
      ∧ r.2.mem ((c.tc : Thread Cert.ForwardIdeal.nD Cert.ForwardIdeal.τ).loc Cert.ForwardIdeal.main_arg3) = m ((c.tc : Thread Cert.ForwardIdeal.nD Cert.ForwardIdeal.τ).loc Cert.ForwardIdeal.main_arg3)
      ∧ r.2.mem ((c.tc : Thread Cert.ForwardIdeal.nD Cert.ForwardIdeal.τ).loc Cert.ForwardIdeal.main_arg4) = m ((c.tc : Thread Cert.ForwardIdeal.nD Cert.ForwardIdeal.τ).loc Cert.ForwardIdeal.main_arg4)
      ∧ r.2.mem ((c.tc : Thread Cert.ForwardIdeal.nD Cert.ForwardIdeal.τ).loc Cert.ForwardIdeal.main_arg5) = m ((c.tc : Thread Cert.ForwardIdeal.nD Cert.ForwardIdeal.τ).loc Cert.ForwardIdeal.main_arg5)
      ∧ r.2.mem ((c.tc : Thread Cert.ForwardIdeal.nD Cert.ForwardIdeal.τ).loc Cert.ForwardIdeal.main_arg6) = m ((c.tc : Thread Cert.ForwardIdeal.nD Cert.ForwardIdeal.τ).loc Cert.ForwardIdeal.main_arg6))
      ∧ r.2.sem = fun _ => 0)

def quiescent_ForwardRefIdeal [hForwardRefIdeal : Cert.ForwardRefIdeal.Facts] : Prop :=
  ∀ (m : (ℓ : Loc Cert.ForwardRefIdeal.nD Cert.ForwardRefIdeal.τ Cert.ForwardRefIdeal.sig) → Buf (Elt Ideal) ℓ) (g : Dev Cert.ForwardRefIdeal.nD → PrngReg), Pre_ForwardRefIdeal m →
    θ_run (Cert.ForwardRefIdeal.defs (F := Ideal)) (onTc (τ := Cert.ForwardRefIdeal.τ) (Cert.ForwardRefIdeal.main (F := Ideal))) ⟨m, fun _ => 0, g⟩ (fun r => (∀ c : Dev Cert.ForwardRefIdeal.nD,
      r.2.mem ((c.tc : Thread Cert.ForwardRefIdeal.nD Cert.ForwardRefIdeal.τ).loc Cert.ForwardRefIdeal.main_arg0) = m ((c.tc : Thread Cert.ForwardRefIdeal.nD Cert.ForwardRefIdeal.τ).loc Cert.ForwardRefIdeal.main_arg0)
      ∧ r.2.mem ((c.tc : Thread Cert.ForwardRefIdeal.nD Cert.ForwardRefIdeal.τ).loc Cert.ForwardRefIdeal.main_arg1) = m ((c.tc : Thread Cert.ForwardRefIdeal.nD Cert.ForwardRefIdeal.τ).loc Cert.ForwardRefIdeal.main_arg1)
      ∧ r.2.mem ((c.tc : Thread Cert.ForwardRefIdeal.nD Cert.ForwardRefIdeal.τ).loc Cert.ForwardRefIdeal.main_arg2) = m ((c.tc : Thread Cert.ForwardRefIdeal.nD Cert.ForwardRefIdeal.τ).loc Cert.ForwardRefIdeal.main_arg2)
      ∧ r.2.mem ((c.tc : Thread Cert.ForwardRefIdeal.nD Cert.ForwardRefIdeal.τ).loc Cert.ForwardRefIdeal.main_arg3) = m ((c.tc : Thread Cert.ForwardRefIdeal.nD Cert.ForwardRefIdeal.τ).loc Cert.ForwardRefIdeal.main_arg3)
      ∧ r.2.mem ((c.tc : Thread Cert.ForwardRefIdeal.nD Cert.ForwardRefIdeal.τ).loc Cert.ForwardRefIdeal.main_arg4) = m ((c.tc : Thread Cert.ForwardRefIdeal.nD Cert.ForwardRefIdeal.τ).loc Cert.ForwardRefIdeal.main_arg4)
      ∧ r.2.mem ((c.tc : Thread Cert.ForwardRefIdeal.nD Cert.ForwardRefIdeal.τ).loc Cert.ForwardRefIdeal.main_arg5) = m ((c.tc : Thread Cert.ForwardRefIdeal.nD Cert.ForwardRefIdeal.τ).loc Cert.ForwardRefIdeal.main_arg5)
      ∧ r.2.mem ((c.tc : Thread Cert.ForwardRefIdeal.nD Cert.ForwardRefIdeal.τ).loc Cert.ForwardRefIdeal.main_arg6) = m ((c.tc : Thread Cert.ForwardRefIdeal.nD Cert.ForwardRefIdeal.τ).loc Cert.ForwardRefIdeal.main_arg6))
      ∧ r.2.sem = fun _ => 0)

def quiescent_ForwardRefIdeal_pre_finite5 [hForwardRefIdeal : Cert.ForwardRefIdeal.Facts] [hPre_finite5 : Cert.Pre_finite5.Facts] : Prop :=
  ∀ (m : (ℓ : Loc Cert.ForwardRefIdeal.nD Cert.ForwardRefIdeal.τ Cert.ForwardRefIdeal.sig) → Buf (Elt Ideal) ℓ) (g : Dev Cert.ForwardRefIdeal.nD → PrngReg), Pre_ForwardRefIdeal_finite5 m →
    θ_run (Cert.ForwardRefIdeal.defs (F := Ideal)) (onTc (τ := Cert.ForwardRefIdeal.τ) (Cert.ForwardRefIdeal.main (F := Ideal))) ⟨m, fun _ => 0, g⟩ (fun r => (∀ c : Dev Cert.ForwardRefIdeal.nD,
      r.2.mem ((c.tc : Thread Cert.ForwardRefIdeal.nD Cert.ForwardRefIdeal.τ).loc Cert.ForwardRefIdeal.main_arg0) = m ((c.tc : Thread Cert.ForwardRefIdeal.nD Cert.ForwardRefIdeal.τ).loc Cert.ForwardRefIdeal.main_arg0)
      ∧ r.2.mem ((c.tc : Thread Cert.ForwardRefIdeal.nD Cert.ForwardRefIdeal.τ).loc Cert.ForwardRefIdeal.main_arg1) = m ((c.tc : Thread Cert.ForwardRefIdeal.nD Cert.ForwardRefIdeal.τ).loc Cert.ForwardRefIdeal.main_arg1)
      ∧ r.2.mem ((c.tc : Thread Cert.ForwardRefIdeal.nD Cert.ForwardRefIdeal.τ).loc Cert.ForwardRefIdeal.main_arg2) = m ((c.tc : Thread Cert.ForwardRefIdeal.nD Cert.ForwardRefIdeal.τ).loc Cert.ForwardRefIdeal.main_arg2)
      ∧ r.2.mem ((c.tc : Thread Cert.ForwardRefIdeal.nD Cert.ForwardRefIdeal.τ).loc Cert.ForwardRefIdeal.main_arg3) = m ((c.tc : Thread Cert.ForwardRefIdeal.nD Cert.ForwardRefIdeal.τ).loc Cert.ForwardRefIdeal.main_arg3)
      ∧ r.2.mem ((c.tc : Thread Cert.ForwardRefIdeal.nD Cert.ForwardRefIdeal.τ).loc Cert.ForwardRefIdeal.main_arg4) = m ((c.tc : Thread Cert.ForwardRefIdeal.nD Cert.ForwardRefIdeal.τ).loc Cert.ForwardRefIdeal.main_arg4)
      ∧ r.2.mem ((c.tc : Thread Cert.ForwardRefIdeal.nD Cert.ForwardRefIdeal.τ).loc Cert.ForwardRefIdeal.main_arg5) = m ((c.tc : Thread Cert.ForwardRefIdeal.nD Cert.ForwardRefIdeal.τ).loc Cert.ForwardRefIdeal.main_arg5)
      ∧ r.2.mem ((c.tc : Thread Cert.ForwardRefIdeal.nD Cert.ForwardRefIdeal.τ).loc Cert.ForwardRefIdeal.main_arg6) = m ((c.tc : Thread Cert.ForwardRefIdeal.nD Cert.ForwardRefIdeal.τ).loc Cert.ForwardRefIdeal.main_arg6))
      ∧ r.2.sem = fun _ => 0)

def quiescent_ProjWeight [hProjWeight : Cert.ProjWeight.Facts] : Prop :=
  ∀ (m : (ℓ : Loc Cert.ProjWeight.nD Cert.ProjWeight.τ Cert.ProjWeight.sig) → Buf (Elt Bits) ℓ) (g : Dev Cert.ProjWeight.nD → PrngReg), Pre_ProjWeight m →
    θ_run (Cert.ProjWeight.defs (F := Bits)) (onTc (τ := Cert.ProjWeight.τ) (Cert.ProjWeight.main (F := Bits))) ⟨m, fun _ => 0, g⟩ (fun r => (∀ c : Dev Cert.ProjWeight.nD,
      r.2.mem ((c.tc : Thread Cert.ProjWeight.nD Cert.ProjWeight.τ).loc Cert.ProjWeight.main_arg0) = m ((c.tc : Thread Cert.ProjWeight.nD Cert.ProjWeight.τ).loc Cert.ProjWeight.main_arg0)
      ∧ r.2.mem ((c.tc : Thread Cert.ProjWeight.nD Cert.ProjWeight.τ).loc Cert.ProjWeight.main_arg1) = m ((c.tc : Thread Cert.ProjWeight.nD Cert.ProjWeight.τ).loc Cert.ProjWeight.main_arg1)
      ∧ r.2.mem ((c.tc : Thread Cert.ProjWeight.nD Cert.ProjWeight.τ).loc Cert.ProjWeight.main_arg2) = m ((c.tc : Thread Cert.ProjWeight.nD Cert.ProjWeight.τ).loc Cert.ProjWeight.main_arg2))
      ∧ r.2.sem = fun _ => 0)

def quiescent_ProjWeightIdeal [hProjWeightIdeal : Cert.ProjWeightIdeal.Facts] : Prop :=
  ∀ (m : (ℓ : Loc Cert.ProjWeightIdeal.nD Cert.ProjWeightIdeal.τ Cert.ProjWeightIdeal.sig) → Buf (Elt Ideal) ℓ) (g : Dev Cert.ProjWeightIdeal.nD → PrngReg), Pre_ProjWeightIdeal m →
    θ_run (Cert.ProjWeightIdeal.defs (F := Ideal)) (onTc (τ := Cert.ProjWeightIdeal.τ) (Cert.ProjWeightIdeal.main (F := Ideal))) ⟨m, fun _ => 0, g⟩ (fun r => (∀ c : Dev Cert.ProjWeightIdeal.nD,
      r.2.mem ((c.tc : Thread Cert.ProjWeightIdeal.nD Cert.ProjWeightIdeal.τ).loc Cert.ProjWeightIdeal.main_arg0) = m ((c.tc : Thread Cert.ProjWeightIdeal.nD Cert.ProjWeightIdeal.τ).loc Cert.ProjWeightIdeal.main_arg0)
      ∧ r.2.mem ((c.tc : Thread Cert.ProjWeightIdeal.nD Cert.ProjWeightIdeal.τ).loc Cert.ProjWeightIdeal.main_arg1) = m ((c.tc : Thread Cert.ProjWeightIdeal.nD Cert.ProjWeightIdeal.τ).loc Cert.ProjWeightIdeal.main_arg1)
      ∧ r.2.mem ((c.tc : Thread Cert.ProjWeightIdeal.nD Cert.ProjWeightIdeal.τ).loc Cert.ProjWeightIdeal.main_arg2) = m ((c.tc : Thread Cert.ProjWeightIdeal.nD Cert.ProjWeightIdeal.τ).loc Cert.ProjWeightIdeal.main_arg2))
      ∧ r.2.sem = fun _ => 0)

def quiescent_ProjWeightRefIdeal [hProjWeightRefIdeal : Cert.ProjWeightRefIdeal.Facts] : Prop :=
  ∀ (m : (ℓ : Loc Cert.ProjWeightRefIdeal.nD Cert.ProjWeightRefIdeal.τ Cert.ProjWeightRefIdeal.sig) → Buf (Elt Ideal) ℓ) (g : Dev Cert.ProjWeightRefIdeal.nD → PrngReg), Pre_ProjWeightRefIdeal m →
    θ_run (Cert.ProjWeightRefIdeal.defs (F := Ideal)) (onTc (τ := Cert.ProjWeightRefIdeal.τ) (Cert.ProjWeightRefIdeal.main (F := Ideal))) ⟨m, fun _ => 0, g⟩ (fun r => (∀ c : Dev Cert.ProjWeightRefIdeal.nD,
      r.2.mem ((c.tc : Thread Cert.ProjWeightRefIdeal.nD Cert.ProjWeightRefIdeal.τ).loc Cert.ProjWeightRefIdeal.main_arg0) = m ((c.tc : Thread Cert.ProjWeightRefIdeal.nD Cert.ProjWeightRefIdeal.τ).loc Cert.ProjWeightRefIdeal.main_arg0)
      ∧ r.2.mem ((c.tc : Thread Cert.ProjWeightRefIdeal.nD Cert.ProjWeightRefIdeal.τ).loc Cert.ProjWeightRefIdeal.main_arg1) = m ((c.tc : Thread Cert.ProjWeightRefIdeal.nD Cert.ProjWeightRefIdeal.τ).loc Cert.ProjWeightRefIdeal.main_arg1)
      ∧ r.2.mem ((c.tc : Thread Cert.ProjWeightRefIdeal.nD Cert.ProjWeightRefIdeal.τ).loc Cert.ProjWeightRefIdeal.main_arg2) = m ((c.tc : Thread Cert.ProjWeightRefIdeal.nD Cert.ProjWeightRefIdeal.τ).loc Cert.ProjWeightRefIdeal.main_arg2))
      ∧ r.2.sem = fun _ => 0)

def quiescent_OutWeight [hOutWeight : Cert.OutWeight.Facts] : Prop :=
  ∀ (m : (ℓ : Loc Cert.OutWeight.nD Cert.OutWeight.τ Cert.OutWeight.sig) → Buf (Elt Bits) ℓ) (g : Dev Cert.OutWeight.nD → PrngReg), Pre_OutWeight m →
    θ_run (Cert.OutWeight.defs (F := Bits)) (onTc (τ := Cert.OutWeight.τ) (Cert.OutWeight.main (F := Bits))) ⟨m, fun _ => 0, g⟩ (fun r => (∀ c : Dev Cert.OutWeight.nD,
      r.2.mem ((c.tc : Thread Cert.OutWeight.nD Cert.OutWeight.τ).loc Cert.OutWeight.main_arg0) = m ((c.tc : Thread Cert.OutWeight.nD Cert.OutWeight.τ).loc Cert.OutWeight.main_arg0)
      ∧ r.2.mem ((c.tc : Thread Cert.OutWeight.nD Cert.OutWeight.τ).loc Cert.OutWeight.main_arg1) = m ((c.tc : Thread Cert.OutWeight.nD Cert.OutWeight.τ).loc Cert.OutWeight.main_arg1)
      ∧ r.2.mem ((c.tc : Thread Cert.OutWeight.nD Cert.OutWeight.τ).loc Cert.OutWeight.main_arg2) = m ((c.tc : Thread Cert.OutWeight.nD Cert.OutWeight.τ).loc Cert.OutWeight.main_arg2))
      ∧ r.2.sem = fun _ => 0)

def quiescent_OutWeightIdeal [hOutWeightIdeal : Cert.OutWeightIdeal.Facts] : Prop :=
  ∀ (m : (ℓ : Loc Cert.OutWeightIdeal.nD Cert.OutWeightIdeal.τ Cert.OutWeightIdeal.sig) → Buf (Elt Ideal) ℓ) (g : Dev Cert.OutWeightIdeal.nD → PrngReg), Pre_OutWeightIdeal m →
    θ_run (Cert.OutWeightIdeal.defs (F := Ideal)) (onTc (τ := Cert.OutWeightIdeal.τ) (Cert.OutWeightIdeal.main (F := Ideal))) ⟨m, fun _ => 0, g⟩ (fun r => (∀ c : Dev Cert.OutWeightIdeal.nD,
      r.2.mem ((c.tc : Thread Cert.OutWeightIdeal.nD Cert.OutWeightIdeal.τ).loc Cert.OutWeightIdeal.main_arg0) = m ((c.tc : Thread Cert.OutWeightIdeal.nD Cert.OutWeightIdeal.τ).loc Cert.OutWeightIdeal.main_arg0)
      ∧ r.2.mem ((c.tc : Thread Cert.OutWeightIdeal.nD Cert.OutWeightIdeal.τ).loc Cert.OutWeightIdeal.main_arg1) = m ((c.tc : Thread Cert.OutWeightIdeal.nD Cert.OutWeightIdeal.τ).loc Cert.OutWeightIdeal.main_arg1)
      ∧ r.2.mem ((c.tc : Thread Cert.OutWeightIdeal.nD Cert.OutWeightIdeal.τ).loc Cert.OutWeightIdeal.main_arg2) = m ((c.tc : Thread Cert.OutWeightIdeal.nD Cert.OutWeightIdeal.τ).loc Cert.OutWeightIdeal.main_arg2))
      ∧ r.2.sem = fun _ => 0)

def quiescent_OutWeightRefIdeal [hOutWeightRefIdeal : Cert.OutWeightRefIdeal.Facts] : Prop :=
  ∀ (m : (ℓ : Loc Cert.OutWeightRefIdeal.nD Cert.OutWeightRefIdeal.τ Cert.OutWeightRefIdeal.sig) → Buf (Elt Ideal) ℓ) (g : Dev Cert.OutWeightRefIdeal.nD → PrngReg), Pre_OutWeightRefIdeal m →
    θ_run (Cert.OutWeightRefIdeal.defs (F := Ideal)) (onTc (τ := Cert.OutWeightRefIdeal.τ) (Cert.OutWeightRefIdeal.main (F := Ideal))) ⟨m, fun _ => 0, g⟩ (fun r => (∀ c : Dev Cert.OutWeightRefIdeal.nD,
      r.2.mem ((c.tc : Thread Cert.OutWeightRefIdeal.nD Cert.OutWeightRefIdeal.τ).loc Cert.OutWeightRefIdeal.main_arg0) = m ((c.tc : Thread Cert.OutWeightRefIdeal.nD Cert.OutWeightRefIdeal.τ).loc Cert.OutWeightRefIdeal.main_arg0)
      ∧ r.2.mem ((c.tc : Thread Cert.OutWeightRefIdeal.nD Cert.OutWeightRefIdeal.τ).loc Cert.OutWeightRefIdeal.main_arg1) = m ((c.tc : Thread Cert.OutWeightRefIdeal.nD Cert.OutWeightRefIdeal.τ).loc Cert.OutWeightRefIdeal.main_arg1)
      ∧ r.2.mem ((c.tc : Thread Cert.OutWeightRefIdeal.nD Cert.OutWeightRefIdeal.τ).loc Cert.OutWeightRefIdeal.main_arg2) = m ((c.tc : Thread Cert.OutWeightRefIdeal.nD Cert.OutWeightRefIdeal.τ).loc Cert.OutWeightRefIdeal.main_arg2))
      ∧ r.2.sem = fun _ => 0)

def quiescent_MixIn [hMixIn : Cert.MixIn.Facts] : Prop :=
  ∀ (m : (ℓ : Loc Cert.MixIn.nD Cert.MixIn.τ Cert.MixIn.sig) → Buf (Elt Bits) ℓ) (g : Dev Cert.MixIn.nD → PrngReg), Pre_MixIn m →
    θ_run (Cert.MixIn.defs (F := Bits)) (onTc (τ := Cert.MixIn.τ) (Cert.MixIn.main (F := Bits))) ⟨m, fun _ => 0, g⟩ (fun r => (∀ c : Dev Cert.MixIn.nD,
      r.2.mem ((c.tc : Thread Cert.MixIn.nD Cert.MixIn.τ).loc Cert.MixIn.main_arg0) = m ((c.tc : Thread Cert.MixIn.nD Cert.MixIn.τ).loc Cert.MixIn.main_arg0)
      ∧ r.2.mem ((c.tc : Thread Cert.MixIn.nD Cert.MixIn.τ).loc Cert.MixIn.main_arg1) = m ((c.tc : Thread Cert.MixIn.nD Cert.MixIn.τ).loc Cert.MixIn.main_arg1)
      ∧ r.2.mem ((c.tc : Thread Cert.MixIn.nD Cert.MixIn.τ).loc Cert.MixIn.main_arg2) = m ((c.tc : Thread Cert.MixIn.nD Cert.MixIn.τ).loc Cert.MixIn.main_arg2))
      ∧ r.2.sem = fun _ => 0)

def quiescent_MixInIdeal [hMixInIdeal : Cert.MixInIdeal.Facts] : Prop :=
  ∀ (m : (ℓ : Loc Cert.MixInIdeal.nD Cert.MixInIdeal.τ Cert.MixInIdeal.sig) → Buf (Elt Ideal) ℓ) (g : Dev Cert.MixInIdeal.nD → PrngReg), Pre_MixInIdeal m →
    θ_run (Cert.MixInIdeal.defs (F := Ideal)) (onTc (τ := Cert.MixInIdeal.τ) (Cert.MixInIdeal.main (F := Ideal))) ⟨m, fun _ => 0, g⟩ (fun r => (∀ c : Dev Cert.MixInIdeal.nD,
      r.2.mem ((c.tc : Thread Cert.MixInIdeal.nD Cert.MixInIdeal.τ).loc Cert.MixInIdeal.main_arg0) = m ((c.tc : Thread Cert.MixInIdeal.nD Cert.MixInIdeal.τ).loc Cert.MixInIdeal.main_arg0)
      ∧ r.2.mem ((c.tc : Thread Cert.MixInIdeal.nD Cert.MixInIdeal.τ).loc Cert.MixInIdeal.main_arg1) = m ((c.tc : Thread Cert.MixInIdeal.nD Cert.MixInIdeal.τ).loc Cert.MixInIdeal.main_arg1)
      ∧ r.2.mem ((c.tc : Thread Cert.MixInIdeal.nD Cert.MixInIdeal.τ).loc Cert.MixInIdeal.main_arg2) = m ((c.tc : Thread Cert.MixInIdeal.nD Cert.MixInIdeal.τ).loc Cert.MixInIdeal.main_arg2))
      ∧ r.2.sem = fun _ => 0)

def quiescent_MixInRefIdeal [hMixInRefIdeal : Cert.MixInRefIdeal.Facts] : Prop :=
  ∀ (m : (ℓ : Loc Cert.MixInRefIdeal.nD Cert.MixInRefIdeal.τ Cert.MixInRefIdeal.sig) → Buf (Elt Ideal) ℓ) (g : Dev Cert.MixInRefIdeal.nD → PrngReg), Pre_MixInRefIdeal m →
    θ_run (Cert.MixInRefIdeal.defs (F := Ideal)) (onTc (τ := Cert.MixInRefIdeal.τ) (Cert.MixInRefIdeal.main (F := Ideal))) ⟨m, fun _ => 0, g⟩ (fun r => (∀ c : Dev Cert.MixInRefIdeal.nD,
      r.2.mem ((c.tc : Thread Cert.MixInRefIdeal.nD Cert.MixInRefIdeal.τ).loc Cert.MixInRefIdeal.main_arg0) = m ((c.tc : Thread Cert.MixInRefIdeal.nD Cert.MixInRefIdeal.τ).loc Cert.MixInRefIdeal.main_arg0)
      ∧ r.2.mem ((c.tc : Thread Cert.MixInRefIdeal.nD Cert.MixInRefIdeal.τ).loc Cert.MixInRefIdeal.main_arg1) = m ((c.tc : Thread Cert.MixInRefIdeal.nD Cert.MixInRefIdeal.τ).loc Cert.MixInRefIdeal.main_arg1)
      ∧ r.2.mem ((c.tc : Thread Cert.MixInRefIdeal.nD Cert.MixInRefIdeal.τ).loc Cert.MixInRefIdeal.main_arg2) = m ((c.tc : Thread Cert.MixInRefIdeal.nD Cert.MixInRefIdeal.τ).loc Cert.MixInRefIdeal.main_arg2))
      ∧ r.2.sem = fun _ => 0)

def quiescent_MixOut [hMixOut : Cert.MixOut.Facts] : Prop :=
  ∀ (m : (ℓ : Loc Cert.MixOut.nD Cert.MixOut.τ Cert.MixOut.sig) → Buf (Elt Bits) ℓ) (g : Dev Cert.MixOut.nD → PrngReg), Pre_MixOut m →
    θ_run (Cert.MixOut.defs (F := Bits)) (onTc (τ := Cert.MixOut.τ) (Cert.MixOut.main (F := Bits))) ⟨m, fun _ => 0, g⟩ (fun r => (∀ c : Dev Cert.MixOut.nD,
      r.2.mem ((c.tc : Thread Cert.MixOut.nD Cert.MixOut.τ).loc Cert.MixOut.main_arg0) = m ((c.tc : Thread Cert.MixOut.nD Cert.MixOut.τ).loc Cert.MixOut.main_arg0)
      ∧ r.2.mem ((c.tc : Thread Cert.MixOut.nD Cert.MixOut.τ).loc Cert.MixOut.main_arg1) = m ((c.tc : Thread Cert.MixOut.nD Cert.MixOut.τ).loc Cert.MixOut.main_arg1)
      ∧ r.2.mem ((c.tc : Thread Cert.MixOut.nD Cert.MixOut.τ).loc Cert.MixOut.main_arg2) = m ((c.tc : Thread Cert.MixOut.nD Cert.MixOut.τ).loc Cert.MixOut.main_arg2)
      ∧ r.2.mem ((c.tc : Thread Cert.MixOut.nD Cert.MixOut.τ).loc Cert.MixOut.main_arg3) = m ((c.tc : Thread Cert.MixOut.nD Cert.MixOut.τ).loc Cert.MixOut.main_arg3)
      ∧ r.2.mem ((c.tc : Thread Cert.MixOut.nD Cert.MixOut.τ).loc Cert.MixOut.main_arg4) = m ((c.tc : Thread Cert.MixOut.nD Cert.MixOut.τ).loc Cert.MixOut.main_arg4)
      ∧ r.2.mem ((c.tc : Thread Cert.MixOut.nD Cert.MixOut.τ).loc Cert.MixOut.main_arg5) = m ((c.tc : Thread Cert.MixOut.nD Cert.MixOut.τ).loc Cert.MixOut.main_arg5)
      ∧ r.2.mem ((c.tc : Thread Cert.MixOut.nD Cert.MixOut.τ).loc Cert.MixOut.main_arg6) = m ((c.tc : Thread Cert.MixOut.nD Cert.MixOut.τ).loc Cert.MixOut.main_arg6)
      ∧ r.2.mem ((c.tc : Thread Cert.MixOut.nD Cert.MixOut.τ).loc Cert.MixOut.main_arg7) = m ((c.tc : Thread Cert.MixOut.nD Cert.MixOut.τ).loc Cert.MixOut.main_arg7)
      ∧ r.2.mem ((c.tc : Thread Cert.MixOut.nD Cert.MixOut.τ).loc Cert.MixOut.main_arg8) = m ((c.tc : Thread Cert.MixOut.nD Cert.MixOut.τ).loc Cert.MixOut.main_arg8))
      ∧ r.2.sem = fun _ => 0)

def quiescent_MixOutIdeal [hMixOutIdeal : Cert.MixOutIdeal.Facts] : Prop :=
  ∀ (m : (ℓ : Loc Cert.MixOutIdeal.nD Cert.MixOutIdeal.τ Cert.MixOutIdeal.sig) → Buf (Elt Ideal) ℓ) (g : Dev Cert.MixOutIdeal.nD → PrngReg), Pre_MixOutIdeal m →
    θ_run (Cert.MixOutIdeal.defs (F := Ideal)) (onTc (τ := Cert.MixOutIdeal.τ) (Cert.MixOutIdeal.main (F := Ideal))) ⟨m, fun _ => 0, g⟩ (fun r => (∀ c : Dev Cert.MixOutIdeal.nD,
      r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
      ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
      ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2)
      ∧ r.2.mem ((c.tc : Thread Cert.MixOutIdeal.nD Cert.MixOutIdeal.τ).loc Cert.MixOutIdeal.main_arg3) = m ((c.tc : Thread Cert.MixOutIdeal.nD Cert.MixOutIdeal.τ).loc Cert.MixOutIdeal.main_arg3)
      ∧ r.2.mem ((c.tc : Thread Cert.MixOutIdeal.nD Cert.MixOutIdeal.τ).loc Cert.MixOutIdeal.main_arg4) = m ((c.tc : Thread Cert.MixOutIdeal.nD Cert.MixOutIdeal.τ).loc Cert.MixOutIdeal.main_arg4)
      ∧ r.2.mem ((c.tc : Thread Cert.MixOutIdeal.nD Cert.MixOutIdeal.τ).loc Cert.MixOutIdeal.main_arg5) = m ((c.tc : Thread Cert.MixOutIdeal.nD Cert.MixOutIdeal.τ).loc Cert.MixOutIdeal.main_arg5)
      ∧ r.2.mem ((c.tc : Thread Cert.MixOutIdeal.nD Cert.MixOutIdeal.τ).loc Cert.MixOutIdeal.main_arg6) = m ((c.tc : Thread Cert.MixOutIdeal.nD Cert.MixOutIdeal.τ).loc Cert.MixOutIdeal.main_arg6)
      ∧ r.2.mem ((c.tc : Thread Cert.MixOutIdeal.nD Cert.MixOutIdeal.τ).loc Cert.MixOutIdeal.main_arg7) = m ((c.tc : Thread Cert.MixOutIdeal.nD Cert.MixOutIdeal.τ).loc Cert.MixOutIdeal.main_arg7)
      ∧ r.2.mem ((c.tc : Thread Cert.MixOutIdeal.nD Cert.MixOutIdeal.τ).loc Cert.MixOutIdeal.main_arg8) = m ((c.tc : Thread Cert.MixOutIdeal.nD Cert.MixOutIdeal.τ).loc Cert.MixOutIdeal.main_arg8))
      ∧ r.2.sem = fun _ => 0)

def quiescent_MixOutRefIdeal [hMixOutRefIdeal : Cert.MixOutRefIdeal.Facts] : Prop :=
  ∀ (m : (ℓ : Loc Cert.MixOutRefIdeal.nD Cert.MixOutRefIdeal.τ Cert.MixOutRefIdeal.sig) → Buf (Elt Ideal) ℓ) (g : Dev Cert.MixOutRefIdeal.nD → PrngReg), Pre_MixOutRefIdeal m →
    θ_run (Cert.MixOutRefIdeal.defs (F := Ideal)) (onTc (τ := Cert.MixOutRefIdeal.τ) (Cert.MixOutRefIdeal.main (F := Ideal))) ⟨m, fun _ => 0, g⟩ (fun r => (∀ c : Dev Cert.MixOutRefIdeal.nD,
      r.2.mem ((c.tc : Thread Cert.MixOutRefIdeal.nD Cert.MixOutRefIdeal.τ).loc Cert.MixOutRefIdeal.main_arg0) = m ((c.tc : Thread Cert.MixOutRefIdeal.nD Cert.MixOutRefIdeal.τ).loc Cert.MixOutRefIdeal.main_arg0)
      ∧ r.2.mem ((c.tc : Thread Cert.MixOutRefIdeal.nD Cert.MixOutRefIdeal.τ).loc Cert.MixOutRefIdeal.main_arg1) = m ((c.tc : Thread Cert.MixOutRefIdeal.nD Cert.MixOutRefIdeal.τ).loc Cert.MixOutRefIdeal.main_arg1)
      ∧ r.2.mem ((c.tc : Thread Cert.MixOutRefIdeal.nD Cert.MixOutRefIdeal.τ).loc Cert.MixOutRefIdeal.main_arg2) = m ((c.tc : Thread Cert.MixOutRefIdeal.nD Cert.MixOutRefIdeal.τ).loc Cert.MixOutRefIdeal.main_arg2)
      ∧ r.2.mem ((c.tc : Thread Cert.MixOutRefIdeal.nD Cert.MixOutRefIdeal.τ).loc Cert.MixOutRefIdeal.main_arg3) = m ((c.tc : Thread Cert.MixOutRefIdeal.nD Cert.MixOutRefIdeal.τ).loc Cert.MixOutRefIdeal.main_arg3)
      ∧ r.2.mem ((c.tc : Thread Cert.MixOutRefIdeal.nD Cert.MixOutRefIdeal.τ).loc Cert.MixOutRefIdeal.main_arg4) = m ((c.tc : Thread Cert.MixOutRefIdeal.nD Cert.MixOutRefIdeal.τ).loc Cert.MixOutRefIdeal.main_arg4)
      ∧ r.2.mem ((c.tc : Thread Cert.MixOutRefIdeal.nD Cert.MixOutRefIdeal.τ).loc Cert.MixOutRefIdeal.main_arg5) = m ((c.tc : Thread Cert.MixOutRefIdeal.nD Cert.MixOutRefIdeal.τ).loc Cert.MixOutRefIdeal.main_arg5)
      ∧ r.2.mem ((c.tc : Thread Cert.MixOutRefIdeal.nD Cert.MixOutRefIdeal.τ).loc Cert.MixOutRefIdeal.main_arg6) = m ((c.tc : Thread Cert.MixOutRefIdeal.nD Cert.MixOutRefIdeal.τ).loc Cert.MixOutRefIdeal.main_arg6)
      ∧ r.2.mem ((c.tc : Thread Cert.MixOutRefIdeal.nD Cert.MixOutRefIdeal.τ).loc Cert.MixOutRefIdeal.main_arg7) = m ((c.tc : Thread Cert.MixOutRefIdeal.nD Cert.MixOutRefIdeal.τ).loc Cert.MixOutRefIdeal.main_arg7)
      ∧ r.2.mem ((c.tc : Thread Cert.MixOutRefIdeal.nD Cert.MixOutRefIdeal.τ).loc Cert.MixOutRefIdeal.main_arg8) = m ((c.tc : Thread Cert.MixOutRefIdeal.nD Cert.MixOutRefIdeal.τ).loc Cert.MixOutRefIdeal.main_arg8))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v84_0)) (v1 : (c : Dev Cert.KernelIdeal.nD) → Buf (Elt Ideal) ((c.tc : Thread Cert.KernelIdeal.nD Cert.KernelIdeal.τ).loc Cert.KernelIdeal.main_v84_1)) (v2 : (c : Dev Cert.KernelIdeal.nD) → Buf (Elt Ideal) ((c.tc : Thread Cert.KernelIdeal.nD Cert.KernelIdeal.τ).loc Cert.KernelIdeal.main_v84_2)) (v3 : (c : Dev Cert.KernelIdeal.nD) → Buf (Elt Ideal) ((c.tc : Thread Cert.KernelIdeal.nD Cert.KernelIdeal.τ).loc Cert.KernelIdeal.main_v84_3)) (v4 : (c : Dev Cert.KernelIdeal.nD) → Buf (Elt Ideal) ((c.tc : Thread Cert.KernelIdeal.nD Cert.KernelIdeal.τ).loc Cert.KernelIdeal.main_v84_4)) (v5 : (c : Dev Cert.KernelIdeal.nD) → Buf (Elt Ideal) ((c.tc : Thread Cert.KernelIdeal.nD Cert.KernelIdeal.τ).loc Cert.KernelIdeal.main_v84_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v84_0) = v0 c
          ∧ r.2.mem ((c.tc : Thread Cert.KernelIdeal.nD Cert.KernelIdeal.τ).loc Cert.KernelIdeal.main_v84_1) = v1 c
          ∧ r.2.mem ((c.tc : Thread Cert.KernelIdeal.nD Cert.KernelIdeal.τ).loc Cert.KernelIdeal.main_v84_2) = v2 c
          ∧ r.2.mem ((c.tc : Thread Cert.KernelIdeal.nD Cert.KernelIdeal.τ).loc Cert.KernelIdeal.main_v84_3) = v3 c
          ∧ r.2.mem ((c.tc : Thread Cert.KernelIdeal.nD Cert.KernelIdeal.τ).loc Cert.KernelIdeal.main_v84_4) = v4 c
          ∧ r.2.mem ((c.tc : Thread Cert.KernelIdeal.nD Cert.KernelIdeal.τ).loc Cert.KernelIdeal.main_v84_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v328) = v0 c
          ∧ r.2.mem ((c.tc : Thread Cert.ReferenceIdeal.nD Cert.ReferenceIdeal.τ).loc Cert.ReferenceIdeal.main_v329) = v1 c
          ∧ r.2.mem ((c.tc : Thread Cert.ReferenceIdeal.nD Cert.ReferenceIdeal.τ).loc Cert.ReferenceIdeal.main_v188) = v2 c
          ∧ r.2.mem ((c.tc : Thread Cert.ReferenceIdeal.nD Cert.ReferenceIdeal.τ).loc Cert.ReferenceIdeal.main_v162) = v3 c
          ∧ r.2.mem ((c.tc : Thread Cert.ReferenceIdeal.nD Cert.ReferenceIdeal.τ).loc Cert.ReferenceIdeal.main_v155) = v4 c
          ∧ r.2.mem ((c.tc : Thread Cert.ReferenceIdeal.nD Cert.ReferenceIdeal.τ).loc Cert.ReferenceIdeal.main_v136) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Weight_WeightIdeal : Prop :=
  True

def algebraic_WeightIdeal_WeightRefIdeal [hWeightIdeal : Cert.WeightIdeal.Facts] [hWeightRefIdeal : Cert.WeightRefIdeal.Facts] : Prop :=
  ∀ (m : (ℓ : Loc Cert.WeightIdeal.nD Cert.WeightIdeal.τ Cert.WeightIdeal.sig) → Buf (Elt Ideal) ℓ) (g : Dev Cert.WeightIdeal.nD → PrngReg)
    (m' : (ℓ : Loc Cert.WeightRefIdeal.nD Cert.WeightRefIdeal.τ Cert.WeightRefIdeal.sig) → Buf (Elt Ideal) ℓ) (g' : Dev Cert.WeightRefIdeal.nD → PrngReg), Pre_WeightIdeal m →
    (∀ c : Dev Cert.WeightIdeal.nD,
      m' ((c.tc : Thread Cert.WeightRefIdeal.nD Cert.WeightRefIdeal.τ).loc Cert.WeightRefIdeal.main_arg0) = m ((c.tc : Thread Cert.WeightIdeal.nD Cert.WeightIdeal.τ).loc Cert.WeightIdeal.main_arg0)
      ∧ m' ((c.tc : Thread Cert.WeightRefIdeal.nD Cert.WeightRefIdeal.τ).loc Cert.WeightRefIdeal.main_arg1) = m ((c.tc : Thread Cert.WeightIdeal.nD Cert.WeightIdeal.τ).loc Cert.WeightIdeal.main_arg1)) →
    ∃ (v0 : (c : Dev Cert.WeightIdeal.nD) → Buf (Elt Ideal) ((c.tc : Thread Cert.WeightIdeal.nD Cert.WeightIdeal.τ).loc Cert.WeightIdeal.main_v0)),
      θ_run (Cert.WeightIdeal.defs (F := Ideal)) (onTc (τ := Cert.WeightIdeal.τ) (Cert.WeightIdeal.main (F := Ideal))) ⟨m, fun _ => 0, g⟩ (fun r => ∀ c : Dev Cert.WeightIdeal.nD,
          r.2.mem ((c.tc : Thread Cert.WeightIdeal.nD Cert.WeightIdeal.τ).loc Cert.WeightIdeal.main_v0) = v0 c
          ∧ r.2.mem ((c.tc : Thread Cert.WeightIdeal.nD Cert.WeightIdeal.τ).loc Cert.WeightIdeal.main_arg0) = m ((c.tc : Thread Cert.WeightIdeal.nD Cert.WeightIdeal.τ).loc Cert.WeightIdeal.main_arg0)
          ∧ r.2.mem ((c.tc : Thread Cert.WeightIdeal.nD Cert.WeightIdeal.τ).loc Cert.WeightIdeal.main_arg1) = m ((c.tc : Thread Cert.WeightIdeal.nD Cert.WeightIdeal.τ).loc Cert.WeightIdeal.main_arg1))
      ∧ θ_run (Cert.WeightRefIdeal.defs (F := Ideal)) (onTc (τ := Cert.WeightRefIdeal.τ) (Cert.WeightRefIdeal.main (F := Ideal))) ⟨m', fun _ => 0, g'⟩ (fun r => ∀ c : Dev Cert.WeightRefIdeal.nD,
          r.2.mem ((c.tc : Thread Cert.WeightRefIdeal.nD Cert.WeightRefIdeal.τ).loc Cert.WeightRefIdeal.main_v6) = v0 c
          ∧ r.2.mem ((c.tc : Thread Cert.WeightRefIdeal.nD Cert.WeightRefIdeal.τ).loc Cert.WeightRefIdeal.main_arg0) = m' ((c.tc : Thread Cert.WeightRefIdeal.nD Cert.WeightRefIdeal.τ).loc Cert.WeightRefIdeal.main_arg0)
          ∧ r.2.mem ((c.tc : Thread Cert.WeightRefIdeal.nD Cert.WeightRefIdeal.τ).loc Cert.WeightRefIdeal.main_arg1) = m' ((c.tc : Thread Cert.WeightRefIdeal.nD Cert.WeightRefIdeal.τ).loc Cert.WeightRefIdeal.main_arg1))

def preserves_Inner_InnerIdeal : Prop :=
  True

def algebraic_InnerIdeal_InnerRefIdeal_pre_finite3 [hInnerIdeal : Cert.InnerIdeal.Facts] [hInnerRefIdeal : Cert.InnerRefIdeal.Facts] [hPre_finite3 : Cert.Pre_finite3.Facts] : Prop :=
  ∀ (m : (ℓ : Loc Cert.InnerIdeal.nD Cert.InnerIdeal.τ Cert.InnerIdeal.sig) → Buf (Elt Ideal) ℓ) (g : Dev Cert.InnerIdeal.nD → PrngReg)
    (m' : (ℓ : Loc Cert.InnerRefIdeal.nD Cert.InnerRefIdeal.τ Cert.InnerRefIdeal.sig) → Buf (Elt Ideal) ℓ) (g' : Dev Cert.InnerRefIdeal.nD → PrngReg), Pre_InnerIdeal_finite3 m →
    (∀ c : Dev Cert.InnerIdeal.nD,
      m' ((c.tc : Thread Cert.InnerRefIdeal.nD Cert.InnerRefIdeal.τ).loc Cert.InnerRefIdeal.main_arg0) = m ((c.tc : Thread Cert.InnerIdeal.nD Cert.InnerIdeal.τ).loc Cert.InnerIdeal.main_arg0)
      ∧ m' ((c.tc : Thread Cert.InnerRefIdeal.nD Cert.InnerRefIdeal.τ).loc Cert.InnerRefIdeal.main_arg1) = m ((c.tc : Thread Cert.InnerIdeal.nD Cert.InnerIdeal.τ).loc Cert.InnerIdeal.main_arg1)
      ∧ m' ((c.tc : Thread Cert.InnerRefIdeal.nD Cert.InnerRefIdeal.τ).loc Cert.InnerRefIdeal.main_arg2) = m ((c.tc : Thread Cert.InnerIdeal.nD Cert.InnerIdeal.τ).loc Cert.InnerIdeal.main_arg2)
      ∧ m' ((c.tc : Thread Cert.InnerRefIdeal.nD Cert.InnerRefIdeal.τ).loc Cert.InnerRefIdeal.main_arg3) = m ((c.tc : Thread Cert.InnerIdeal.nD Cert.InnerIdeal.τ).loc Cert.InnerIdeal.main_arg3)
      ∧ m' ((c.tc : Thread Cert.InnerRefIdeal.nD Cert.InnerRefIdeal.τ).loc Cert.InnerRefIdeal.main_arg4) = m ((c.tc : Thread Cert.InnerIdeal.nD Cert.InnerIdeal.τ).loc Cert.InnerIdeal.main_arg4)
      ∧ m' ((c.tc : Thread Cert.InnerRefIdeal.nD Cert.InnerRefIdeal.τ).loc Cert.InnerRefIdeal.main_arg5) = m ((c.tc : Thread Cert.InnerIdeal.nD Cert.InnerIdeal.τ).loc Cert.InnerIdeal.main_arg5)
      ∧ m' ((c.tc : Thread Cert.InnerRefIdeal.nD Cert.InnerRefIdeal.τ).loc Cert.InnerRefIdeal.main_arg6) = m ((c.tc : Thread Cert.InnerIdeal.nD Cert.InnerIdeal.τ).loc Cert.InnerIdeal.main_arg6)) →
    ∃ (v0 : (c : Dev Cert.InnerIdeal.nD) → Buf (Elt Ideal) ((c.tc : Thread Cert.InnerIdeal.nD Cert.InnerIdeal.τ).loc Cert.InnerIdeal.main_v4_0)) (v1 : (c : Dev Cert.InnerIdeal.nD) → Buf (Elt Ideal) ((c.tc : Thread Cert.InnerIdeal.nD Cert.InnerIdeal.τ).loc Cert.InnerIdeal.main_v4_1)),
      θ_run (Cert.InnerIdeal.defs (F := Ideal)) (onTc (τ := Cert.InnerIdeal.τ) (Cert.InnerIdeal.main (F := Ideal))) ⟨m, fun _ => 0, g⟩ (fun r => ∀ c : Dev Cert.InnerIdeal.nD,
          r.2.mem ((c.tc : Thread Cert.InnerIdeal.nD Cert.InnerIdeal.τ).loc Cert.InnerIdeal.main_v4_0) = v0 c
          ∧ r.2.mem ((c.tc : Thread Cert.InnerIdeal.nD Cert.InnerIdeal.τ).loc Cert.InnerIdeal.main_v4_1) = v1 c
          ∧ r.2.mem ((c.tc : Thread Cert.InnerIdeal.nD Cert.InnerIdeal.τ).loc Cert.InnerIdeal.main_arg0) = m ((c.tc : Thread Cert.InnerIdeal.nD Cert.InnerIdeal.τ).loc Cert.InnerIdeal.main_arg0)
          ∧ r.2.mem ((c.tc : Thread Cert.InnerIdeal.nD Cert.InnerIdeal.τ).loc Cert.InnerIdeal.main_arg1) = m ((c.tc : Thread Cert.InnerIdeal.nD Cert.InnerIdeal.τ).loc Cert.InnerIdeal.main_arg1)
          ∧ r.2.mem ((c.tc : Thread Cert.InnerIdeal.nD Cert.InnerIdeal.τ).loc Cert.InnerIdeal.main_arg2) = m ((c.tc : Thread Cert.InnerIdeal.nD Cert.InnerIdeal.τ).loc Cert.InnerIdeal.main_arg2)
          ∧ r.2.mem ((c.tc : Thread Cert.InnerIdeal.nD Cert.InnerIdeal.τ).loc Cert.InnerIdeal.main_arg3) = m ((c.tc : Thread Cert.InnerIdeal.nD Cert.InnerIdeal.τ).loc Cert.InnerIdeal.main_arg3)
          ∧ r.2.mem ((c.tc : Thread Cert.InnerIdeal.nD Cert.InnerIdeal.τ).loc Cert.InnerIdeal.main_arg4) = m ((c.tc : Thread Cert.InnerIdeal.nD Cert.InnerIdeal.τ).loc Cert.InnerIdeal.main_arg4)
          ∧ r.2.mem ((c.tc : Thread Cert.InnerIdeal.nD Cert.InnerIdeal.τ).loc Cert.InnerIdeal.main_arg5) = m ((c.tc : Thread Cert.InnerIdeal.nD Cert.InnerIdeal.τ).loc Cert.InnerIdeal.main_arg5)
          ∧ r.2.mem ((c.tc : Thread Cert.InnerIdeal.nD Cert.InnerIdeal.τ).loc Cert.InnerIdeal.main_arg6) = m ((c.tc : Thread Cert.InnerIdeal.nD Cert.InnerIdeal.τ).loc Cert.InnerIdeal.main_arg6))
      ∧ θ_run (Cert.InnerRefIdeal.defs (F := Ideal)) (onTc (τ := Cert.InnerRefIdeal.τ) (Cert.InnerRefIdeal.main (F := Ideal))) ⟨m', fun _ => 0, g'⟩ (fun r => ∀ c : Dev Cert.InnerRefIdeal.nD,
          r.2.mem ((c.tc : Thread Cert.InnerRefIdeal.nD Cert.InnerRefIdeal.τ).loc Cert.InnerRefIdeal.main_v41) = v0 c
          ∧ r.2.mem ((c.tc : Thread Cert.InnerRefIdeal.nD Cert.InnerRefIdeal.τ).loc Cert.InnerRefIdeal.main_v24) = v1 c
          ∧ r.2.mem ((c.tc : Thread Cert.InnerRefIdeal.nD Cert.InnerRefIdeal.τ).loc Cert.InnerRefIdeal.main_arg0) = m' ((c.tc : Thread Cert.InnerRefIdeal.nD Cert.InnerRefIdeal.τ).loc Cert.InnerRefIdeal.main_arg0)
          ∧ r.2.mem ((c.tc : Thread Cert.InnerRefIdeal.nD Cert.InnerRefIdeal.τ).loc Cert.InnerRefIdeal.main_arg1) = m' ((c.tc : Thread Cert.InnerRefIdeal.nD Cert.InnerRefIdeal.τ).loc Cert.InnerRefIdeal.main_arg1)
          ∧ r.2.mem ((c.tc : Thread Cert.InnerRefIdeal.nD Cert.InnerRefIdeal.τ).loc Cert.InnerRefIdeal.main_arg2) = m' ((c.tc : Thread Cert.InnerRefIdeal.nD Cert.InnerRefIdeal.τ).loc Cert.InnerRefIdeal.main_arg2)
          ∧ r.2.mem ((c.tc : Thread Cert.InnerRefIdeal.nD Cert.InnerRefIdeal.τ).loc Cert.InnerRefIdeal.main_arg3) = m' ((c.tc : Thread Cert.InnerRefIdeal.nD Cert.InnerRefIdeal.τ).loc Cert.InnerRefIdeal.main_arg3)
          ∧ r.2.mem ((c.tc : Thread Cert.InnerRefIdeal.nD Cert.InnerRefIdeal.τ).loc Cert.InnerRefIdeal.main_arg4) = m' ((c.tc : Thread Cert.InnerRefIdeal.nD Cert.InnerRefIdeal.τ).loc Cert.InnerRefIdeal.main_arg4)
          ∧ r.2.mem ((c.tc : Thread Cert.InnerRefIdeal.nD Cert.InnerRefIdeal.τ).loc Cert.InnerRefIdeal.main_arg5) = m' ((c.tc : Thread Cert.InnerRefIdeal.nD Cert.InnerRefIdeal.τ).loc Cert.InnerRefIdeal.main_arg5)
          ∧ r.2.mem ((c.tc : Thread Cert.InnerRefIdeal.nD Cert.InnerRefIdeal.τ).loc Cert.InnerRefIdeal.main_arg6) = m' ((c.tc : Thread Cert.InnerRefIdeal.nD Cert.InnerRefIdeal.τ).loc Cert.InnerRefIdeal.main_arg6))

def preserves_Hidden_HiddenIdeal : Prop :=
  True

def algebraic_HiddenIdeal_HiddenRefIdeal_pre_finite4 [hHiddenIdeal : Cert.HiddenIdeal.Facts] [hHiddenRefIdeal : Cert.HiddenRefIdeal.Facts] [hPre_finite4 : Cert.Pre_finite4.Facts] : Prop :=
  ∀ (m : (ℓ : Loc Cert.HiddenIdeal.nD Cert.HiddenIdeal.τ Cert.HiddenIdeal.sig) → Buf (Elt Ideal) ℓ) (g : Dev Cert.HiddenIdeal.nD → PrngReg)
    (m' : (ℓ : Loc Cert.HiddenRefIdeal.nD Cert.HiddenRefIdeal.τ Cert.HiddenRefIdeal.sig) → Buf (Elt Ideal) ℓ) (g' : Dev Cert.HiddenRefIdeal.nD → PrngReg), Pre_HiddenIdeal_finite4 m →
    (∀ c : Dev Cert.HiddenIdeal.nD,
      m' ((c.tc : Thread Cert.HiddenRefIdeal.nD Cert.HiddenRefIdeal.τ).loc Cert.HiddenRefIdeal.main_arg0) = m ((c.tc : Thread Cert.HiddenIdeal.nD Cert.HiddenIdeal.τ).loc Cert.HiddenIdeal.main_arg0)
      ∧ m' ((c.tc : Thread Cert.HiddenRefIdeal.nD Cert.HiddenRefIdeal.τ).loc Cert.HiddenRefIdeal.main_arg1) = m ((c.tc : Thread Cert.HiddenIdeal.nD Cert.HiddenIdeal.τ).loc Cert.HiddenIdeal.main_arg1)
      ∧ m' ((c.tc : Thread Cert.HiddenRefIdeal.nD Cert.HiddenRefIdeal.τ).loc Cert.HiddenRefIdeal.main_arg2) = m ((c.tc : Thread Cert.HiddenIdeal.nD Cert.HiddenIdeal.τ).loc Cert.HiddenIdeal.main_arg2)
      ∧ m' ((c.tc : Thread Cert.HiddenRefIdeal.nD Cert.HiddenRefIdeal.τ).loc Cert.HiddenRefIdeal.main_arg3) = m ((c.tc : Thread Cert.HiddenIdeal.nD Cert.HiddenIdeal.τ).loc Cert.HiddenIdeal.main_arg3)) →
    ∃ (v0 : (c : Dev Cert.HiddenIdeal.nD) → Buf (Elt Ideal) ((c.tc : Thread Cert.HiddenIdeal.nD Cert.HiddenIdeal.τ).loc Cert.HiddenIdeal.main_v1_0)) (v1 : (c : Dev Cert.HiddenIdeal.nD) → Buf (Elt Ideal) ((c.tc : Thread Cert.HiddenIdeal.nD Cert.HiddenIdeal.τ).loc Cert.HiddenIdeal.main_v1_1)) (v2 : (c : Dev Cert.HiddenIdeal.nD) → Buf (Elt Ideal) ((c.tc : Thread Cert.HiddenIdeal.nD Cert.HiddenIdeal.τ).loc Cert.HiddenIdeal.main_v1_2)) (v3 : (c : Dev Cert.HiddenIdeal.nD) → Buf (Elt Ideal) ((c.tc : Thread Cert.HiddenIdeal.nD Cert.HiddenIdeal.τ).loc Cert.HiddenIdeal.main_v1_3)),
      θ_run (Cert.HiddenIdeal.defs (F := Ideal)) (onTc (τ := Cert.HiddenIdeal.τ) (Cert.HiddenIdeal.main (F := Ideal))) ⟨m, fun _ => 0, g⟩ (fun r => ∀ c : Dev Cert.HiddenIdeal.nD,
          r.2.mem ((c.tc : Thread Cert.HiddenIdeal.nD Cert.HiddenIdeal.τ).loc Cert.HiddenIdeal.main_v1_0) = v0 c
          ∧ r.2.mem ((c.tc : Thread Cert.HiddenIdeal.nD Cert.HiddenIdeal.τ).loc Cert.HiddenIdeal.main_v1_1) = v1 c
          ∧ r.2.mem ((c.tc : Thread Cert.HiddenIdeal.nD Cert.HiddenIdeal.τ).loc Cert.HiddenIdeal.main_v1_2) = v2 c
          ∧ r.2.mem ((c.tc : Thread Cert.HiddenIdeal.nD Cert.HiddenIdeal.τ).loc Cert.HiddenIdeal.main_v1_3) = v3 c
          ∧ r.2.mem ((c.tc : Thread Cert.HiddenIdeal.nD Cert.HiddenIdeal.τ).loc Cert.HiddenIdeal.main_arg0) = m ((c.tc : Thread Cert.HiddenIdeal.nD Cert.HiddenIdeal.τ).loc Cert.HiddenIdeal.main_arg0)
          ∧ r.2.mem ((c.tc : Thread Cert.HiddenIdeal.nD Cert.HiddenIdeal.τ).loc Cert.HiddenIdeal.main_arg1) = m ((c.tc : Thread Cert.HiddenIdeal.nD Cert.HiddenIdeal.τ).loc Cert.HiddenIdeal.main_arg1)
          ∧ r.2.mem ((c.tc : Thread Cert.HiddenIdeal.nD Cert.HiddenIdeal.τ).loc Cert.HiddenIdeal.main_arg2) = m ((c.tc : Thread Cert.HiddenIdeal.nD Cert.HiddenIdeal.τ).loc Cert.HiddenIdeal.main_arg2)
          ∧ r.2.mem ((c.tc : Thread Cert.HiddenIdeal.nD Cert.HiddenIdeal.τ).loc Cert.HiddenIdeal.main_arg3) = m ((c.tc : Thread Cert.HiddenIdeal.nD Cert.HiddenIdeal.τ).loc Cert.HiddenIdeal.main_arg3))
      ∧ θ_run (Cert.HiddenRefIdeal.defs (F := Ideal)) (onTc (τ := Cert.HiddenRefIdeal.τ) (Cert.HiddenRefIdeal.main (F := Ideal))) ⟨m', fun _ => 0, g'⟩ (fun r => ∀ c : Dev Cert.HiddenRefIdeal.nD,
          r.2.mem ((c.tc : Thread Cert.HiddenRefIdeal.nD Cert.HiddenRefIdeal.τ).loc Cert.HiddenRefIdeal.main_v15) = v0 c
          ∧ r.2.mem ((c.tc : Thread Cert.HiddenRefIdeal.nD Cert.HiddenRefIdeal.τ).loc Cert.HiddenRefIdeal.main_v16) = v1 c
          ∧ r.2.mem ((c.tc : Thread Cert.HiddenRefIdeal.nD Cert.HiddenRefIdeal.τ).loc Cert.HiddenRefIdeal.main_v17) = v2 c
          ∧ r.2.mem ((c.tc : Thread Cert.HiddenRefIdeal.nD Cert.HiddenRefIdeal.τ).loc Cert.HiddenRefIdeal.main_v20) = v3 c
          ∧ r.2.mem ((c.tc : Thread Cert.HiddenRefIdeal.nD Cert.HiddenRefIdeal.τ).loc Cert.HiddenRefIdeal.main_arg0) = m' ((c.tc : Thread Cert.HiddenRefIdeal.nD Cert.HiddenRefIdeal.τ).loc Cert.HiddenRefIdeal.main_arg0)
          ∧ r.2.mem ((c.tc : Thread Cert.HiddenRefIdeal.nD Cert.HiddenRefIdeal.τ).loc Cert.HiddenRefIdeal.main_arg1) = m' ((c.tc : Thread Cert.HiddenRefIdeal.nD Cert.HiddenRefIdeal.τ).loc Cert.HiddenRefIdeal.main_arg1)
          ∧ r.2.mem ((c.tc : Thread Cert.HiddenRefIdeal.nD Cert.HiddenRefIdeal.τ).loc Cert.HiddenRefIdeal.main_arg2) = m' ((c.tc : Thread Cert.HiddenRefIdeal.nD Cert.HiddenRefIdeal.τ).loc Cert.HiddenRefIdeal.main_arg2)
          ∧ r.2.mem ((c.tc : Thread Cert.HiddenRefIdeal.nD Cert.HiddenRefIdeal.τ).loc Cert.HiddenRefIdeal.main_arg3) = m' ((c.tc : Thread Cert.HiddenRefIdeal.nD Cert.HiddenRefIdeal.τ).loc Cert.HiddenRefIdeal.main_arg3))

def preserves_Forward_ForwardIdeal : Prop :=
  True

def algebraic_ForwardIdeal_ForwardRefIdeal_pre_finite5 [hForwardIdeal : Cert.ForwardIdeal.Facts] [hForwardRefIdeal : Cert.ForwardRefIdeal.Facts] [hPre_finite5 : Cert.Pre_finite5.Facts] : Prop :=
  ∀ (m : (ℓ : Loc Cert.ForwardIdeal.nD Cert.ForwardIdeal.τ Cert.ForwardIdeal.sig) → Buf (Elt Ideal) ℓ) (g : Dev Cert.ForwardIdeal.nD → PrngReg)
    (m' : (ℓ : Loc Cert.ForwardRefIdeal.nD Cert.ForwardRefIdeal.τ Cert.ForwardRefIdeal.sig) → Buf (Elt Ideal) ℓ) (g' : Dev Cert.ForwardRefIdeal.nD → PrngReg), Pre_ForwardIdeal_finite5 m →
    (∀ c : Dev Cert.ForwardIdeal.nD,
      m' ((c.tc : Thread Cert.ForwardRefIdeal.nD Cert.ForwardRefIdeal.τ).loc Cert.ForwardRefIdeal.main_arg0) = m ((c.tc : Thread Cert.ForwardIdeal.nD Cert.ForwardIdeal.τ).loc Cert.ForwardIdeal.main_arg0)
      ∧ m' ((c.tc : Thread Cert.ForwardRefIdeal.nD Cert.ForwardRefIdeal.τ).loc Cert.ForwardRefIdeal.main_arg1) = m ((c.tc : Thread Cert.ForwardIdeal.nD Cert.ForwardIdeal.τ).loc Cert.ForwardIdeal.main_arg1)
      ∧ m' ((c.tc : Thread Cert.ForwardRefIdeal.nD Cert.ForwardRefIdeal.τ).loc Cert.ForwardRefIdeal.main_arg2) = m ((c.tc : Thread Cert.ForwardIdeal.nD Cert.ForwardIdeal.τ).loc Cert.ForwardIdeal.main_arg2)
      ∧ m' ((c.tc : Thread Cert.ForwardRefIdeal.nD Cert.ForwardRefIdeal.τ).loc Cert.ForwardRefIdeal.main_arg3) = m ((c.tc : Thread Cert.ForwardIdeal.nD Cert.ForwardIdeal.τ).loc Cert.ForwardIdeal.main_arg3)
      ∧ m' ((c.tc : Thread Cert.ForwardRefIdeal.nD Cert.ForwardRefIdeal.τ).loc Cert.ForwardRefIdeal.main_arg4) = m ((c.tc : Thread Cert.ForwardIdeal.nD Cert.ForwardIdeal.τ).loc Cert.ForwardIdeal.main_arg4)
      ∧ m' ((c.tc : Thread Cert.ForwardRefIdeal.nD Cert.ForwardRefIdeal.τ).loc Cert.ForwardRefIdeal.main_arg5) = m ((c.tc : Thread Cert.ForwardIdeal.nD Cert.ForwardIdeal.τ).loc Cert.ForwardIdeal.main_arg5)
      ∧ m' ((c.tc : Thread Cert.ForwardRefIdeal.nD Cert.ForwardRefIdeal.τ).loc Cert.ForwardRefIdeal.main_arg6) = m ((c.tc : Thread Cert.ForwardIdeal.nD Cert.ForwardIdeal.τ).loc Cert.ForwardIdeal.main_arg6)) →
    ∃ (v0 : (c : Dev Cert.ForwardIdeal.nD) → Buf (Elt Ideal) ((c.tc : Thread Cert.ForwardIdeal.nD Cert.ForwardIdeal.τ).loc Cert.ForwardIdeal.main_v5_0)) (v1 : (c : Dev Cert.ForwardIdeal.nD) → Buf (Elt Ideal) ((c.tc : Thread Cert.ForwardIdeal.nD Cert.ForwardIdeal.τ).loc Cert.ForwardIdeal.main_v5_1)) (v2 : (c : Dev Cert.ForwardIdeal.nD) → Buf (Elt Ideal) ((c.tc : Thread Cert.ForwardIdeal.nD Cert.ForwardIdeal.τ).loc Cert.ForwardIdeal.main_v5_2)) (v3 : (c : Dev Cert.ForwardIdeal.nD) → Buf (Elt Ideal) ((c.tc : Thread Cert.ForwardIdeal.nD Cert.ForwardIdeal.τ).loc Cert.ForwardIdeal.main_v5_3)) (v4 : (c : Dev Cert.ForwardIdeal.nD) → Buf (Elt Ideal) ((c.tc : Thread Cert.ForwardIdeal.nD Cert.ForwardIdeal.τ).loc Cert.ForwardIdeal.main_v5_4)) (v5 : (c : Dev Cert.ForwardIdeal.nD) → Buf (Elt Ideal) ((c.tc : Thread Cert.ForwardIdeal.nD Cert.ForwardIdeal.τ).loc Cert.ForwardIdeal.main_v5_5)),
      θ_run (Cert.ForwardIdeal.defs (F := Ideal)) (onTc (τ := Cert.ForwardIdeal.τ) (Cert.ForwardIdeal.main (F := Ideal))) ⟨m, fun _ => 0, g⟩ (fun r => ∀ c : Dev Cert.ForwardIdeal.nD,
          r.2.mem ((c.tc : Thread Cert.ForwardIdeal.nD Cert.ForwardIdeal.τ).loc Cert.ForwardIdeal.main_v5_0) = v0 c
          ∧ r.2.mem ((c.tc : Thread Cert.ForwardIdeal.nD Cert.ForwardIdeal.τ).loc Cert.ForwardIdeal.main_v5_1) = v1 c
          ∧ r.2.mem ((c.tc : Thread Cert.ForwardIdeal.nD Cert.ForwardIdeal.τ).loc Cert.ForwardIdeal.main_v5_2) = v2 c
          ∧ r.2.mem ((c.tc : Thread Cert.ForwardIdeal.nD Cert.ForwardIdeal.τ).loc Cert.ForwardIdeal.main_v5_3) = v3 c
          ∧ r.2.mem ((c.tc : Thread Cert.ForwardIdeal.nD Cert.ForwardIdeal.τ).loc Cert.ForwardIdeal.main_v5_4) = v4 c
          ∧ r.2.mem ((c.tc : Thread Cert.ForwardIdeal.nD Cert.ForwardIdeal.τ).loc Cert.ForwardIdeal.main_v5_5) = v5 c
          ∧ r.2.mem ((c.tc : Thread Cert.ForwardIdeal.nD Cert.ForwardIdeal.τ).loc Cert.ForwardIdeal.main_arg0) = m ((c.tc : Thread Cert.ForwardIdeal.nD Cert.ForwardIdeal.τ).loc Cert.ForwardIdeal.main_arg0)
          ∧ r.2.mem ((c.tc : Thread Cert.ForwardIdeal.nD Cert.ForwardIdeal.τ).loc Cert.ForwardIdeal.main_arg1) = m ((c.tc : Thread Cert.ForwardIdeal.nD Cert.ForwardIdeal.τ).loc Cert.ForwardIdeal.main_arg1)
          ∧ r.2.mem ((c.tc : Thread Cert.ForwardIdeal.nD Cert.ForwardIdeal.τ).loc Cert.ForwardIdeal.main_arg2) = m ((c.tc : Thread Cert.ForwardIdeal.nD Cert.ForwardIdeal.τ).loc Cert.ForwardIdeal.main_arg2)
          ∧ r.2.mem ((c.tc : Thread Cert.ForwardIdeal.nD Cert.ForwardIdeal.τ).loc Cert.ForwardIdeal.main_arg3) = m ((c.tc : Thread Cert.ForwardIdeal.nD Cert.ForwardIdeal.τ).loc Cert.ForwardIdeal.main_arg3)
          ∧ r.2.mem ((c.tc : Thread Cert.ForwardIdeal.nD Cert.ForwardIdeal.τ).loc Cert.ForwardIdeal.main_arg4) = m ((c.tc : Thread Cert.ForwardIdeal.nD Cert.ForwardIdeal.τ).loc Cert.ForwardIdeal.main_arg4)
          ∧ r.2.mem ((c.tc : Thread Cert.ForwardIdeal.nD Cert.ForwardIdeal.τ).loc Cert.ForwardIdeal.main_arg5) = m ((c.tc : Thread Cert.ForwardIdeal.nD Cert.ForwardIdeal.τ).loc Cert.ForwardIdeal.main_arg5)
          ∧ r.2.mem ((c.tc : Thread Cert.ForwardIdeal.nD Cert.ForwardIdeal.τ).loc Cert.ForwardIdeal.main_arg6) = m ((c.tc : Thread Cert.ForwardIdeal.nD Cert.ForwardIdeal.τ).loc Cert.ForwardIdeal.main_arg6))
      ∧ θ_run (Cert.ForwardRefIdeal.defs (F := Ideal)) (onTc (τ := Cert.ForwardRefIdeal.τ) (Cert.ForwardRefIdeal.main (F := Ideal))) ⟨m', fun _ => 0, g'⟩ (fun r => ∀ c : Dev Cert.ForwardRefIdeal.nD,
          r.2.mem ((c.tc : Thread Cert.ForwardRefIdeal.nD Cert.ForwardRefIdeal.τ).loc Cert.ForwardRefIdeal.main_v68) = v0 c
          ∧ r.2.mem ((c.tc : Thread Cert.ForwardRefIdeal.nD Cert.ForwardRefIdeal.τ).loc Cert.ForwardRefIdeal.main_v69) = v1 c
          ∧ r.2.mem ((c.tc : Thread Cert.ForwardRefIdeal.nD Cert.ForwardRefIdeal.τ).loc Cert.ForwardRefIdeal.main_v70) = v2 c
          ∧ r.2.mem ((c.tc : Thread Cert.ForwardRefIdeal.nD Cert.ForwardRefIdeal.τ).loc Cert.ForwardRefIdeal.main_v71) = v3 c
          ∧ r.2.mem ((c.tc : Thread Cert.ForwardRefIdeal.nD Cert.ForwardRefIdeal.τ).loc Cert.ForwardRefIdeal.main_v72) = v4 c
          ∧ r.2.mem ((c.tc : Thread Cert.ForwardRefIdeal.nD Cert.ForwardRefIdeal.τ).loc Cert.ForwardRefIdeal.main_v52) = v5 c
          ∧ r.2.mem ((c.tc : Thread Cert.ForwardRefIdeal.nD Cert.ForwardRefIdeal.τ).loc Cert.ForwardRefIdeal.main_arg0) = m' ((c.tc : Thread Cert.ForwardRefIdeal.nD Cert.ForwardRefIdeal.τ).loc Cert.ForwardRefIdeal.main_arg0)
          ∧ r.2.mem ((c.tc : Thread Cert.ForwardRefIdeal.nD Cert.ForwardRefIdeal.τ).loc Cert.ForwardRefIdeal.main_arg1) = m' ((c.tc : Thread Cert.ForwardRefIdeal.nD Cert.ForwardRefIdeal.τ).loc Cert.ForwardRefIdeal.main_arg1)
          ∧ r.2.mem ((c.tc : Thread Cert.ForwardRefIdeal.nD Cert.ForwardRefIdeal.τ).loc Cert.ForwardRefIdeal.main_arg2) = m' ((c.tc : Thread Cert.ForwardRefIdeal.nD Cert.ForwardRefIdeal.τ).loc Cert.ForwardRefIdeal.main_arg2)
          ∧ r.2.mem ((c.tc : Thread Cert.ForwardRefIdeal.nD Cert.ForwardRefIdeal.τ).loc Cert.ForwardRefIdeal.main_arg3) = m' ((c.tc : Thread Cert.ForwardRefIdeal.nD Cert.ForwardRefIdeal.τ).loc Cert.ForwardRefIdeal.main_arg3)
          ∧ r.2.mem ((c.tc : Thread Cert.ForwardRefIdeal.nD Cert.ForwardRefIdeal.τ).loc Cert.ForwardRefIdeal.main_arg4) = m' ((c.tc : Thread Cert.ForwardRefIdeal.nD Cert.ForwardRefIdeal.τ).loc Cert.ForwardRefIdeal.main_arg4)
          ∧ r.2.mem ((c.tc : Thread Cert.ForwardRefIdeal.nD Cert.ForwardRefIdeal.τ).loc Cert.ForwardRefIdeal.main_arg5) = m' ((c.tc : Thread Cert.ForwardRefIdeal.nD Cert.ForwardRefIdeal.τ).loc Cert.ForwardRefIdeal.main_arg5)
          ∧ r.2.mem ((c.tc : Thread Cert.ForwardRefIdeal.nD Cert.ForwardRefIdeal.τ).loc Cert.ForwardRefIdeal.main_arg6) = m' ((c.tc : Thread Cert.ForwardRefIdeal.nD Cert.ForwardRefIdeal.τ).loc Cert.ForwardRefIdeal.main_arg6))

def preserves_ProjWeight_ProjWeightIdeal : Prop :=
  True

def algebraic_ProjWeightIdeal_ProjWeightRefIdeal [hProjWeightIdeal : Cert.ProjWeightIdeal.Facts] [hProjWeightRefIdeal : Cert.ProjWeightRefIdeal.Facts] : Prop :=
  ∀ (m : (ℓ : Loc Cert.ProjWeightIdeal.nD Cert.ProjWeightIdeal.τ Cert.ProjWeightIdeal.sig) → Buf (Elt Ideal) ℓ) (g : Dev Cert.ProjWeightIdeal.nD → PrngReg)
    (m' : (ℓ : Loc Cert.ProjWeightRefIdeal.nD Cert.ProjWeightRefIdeal.τ Cert.ProjWeightRefIdeal.sig) → Buf (Elt Ideal) ℓ) (g' : Dev Cert.ProjWeightRefIdeal.nD → PrngReg), Pre_ProjWeightIdeal m →
    (∀ c : Dev Cert.ProjWeightIdeal.nD,
      m' ((c.tc : Thread Cert.ProjWeightRefIdeal.nD Cert.ProjWeightRefIdeal.τ).loc Cert.ProjWeightRefIdeal.main_arg0) = m ((c.tc : Thread Cert.ProjWeightIdeal.nD Cert.ProjWeightIdeal.τ).loc Cert.ProjWeightIdeal.main_arg0)
      ∧ m' ((c.tc : Thread Cert.ProjWeightRefIdeal.nD Cert.ProjWeightRefIdeal.τ).loc Cert.ProjWeightRefIdeal.main_arg1) = m ((c.tc : Thread Cert.ProjWeightIdeal.nD Cert.ProjWeightIdeal.τ).loc Cert.ProjWeightIdeal.main_arg1)
      ∧ m' ((c.tc : Thread Cert.ProjWeightRefIdeal.nD Cert.ProjWeightRefIdeal.τ).loc Cert.ProjWeightRefIdeal.main_arg2) = m ((c.tc : Thread Cert.ProjWeightIdeal.nD Cert.ProjWeightIdeal.τ).loc Cert.ProjWeightIdeal.main_arg2)) →
    ∃ (v0 : (c : Dev Cert.ProjWeightIdeal.nD) → Buf (Elt Ideal) ((c.tc : Thread Cert.ProjWeightIdeal.nD Cert.ProjWeightIdeal.τ).loc Cert.ProjWeightIdeal.main_v0)),
      θ_run (Cert.ProjWeightIdeal.defs (F := Ideal)) (onTc (τ := Cert.ProjWeightIdeal.τ) (Cert.ProjWeightIdeal.main (F := Ideal))) ⟨m, fun _ => 0, g⟩ (fun r => ∀ c : Dev Cert.ProjWeightIdeal.nD,
          r.2.mem ((c.tc : Thread Cert.ProjWeightIdeal.nD Cert.ProjWeightIdeal.τ).loc Cert.ProjWeightIdeal.main_v0) = v0 c
          ∧ r.2.mem ((c.tc : Thread Cert.ProjWeightIdeal.nD Cert.ProjWeightIdeal.τ).loc Cert.ProjWeightIdeal.main_arg0) = m ((c.tc : Thread Cert.ProjWeightIdeal.nD Cert.ProjWeightIdeal.τ).loc Cert.ProjWeightIdeal.main_arg0)
          ∧ r.2.mem ((c.tc : Thread Cert.ProjWeightIdeal.nD Cert.ProjWeightIdeal.τ).loc Cert.ProjWeightIdeal.main_arg1) = m ((c.tc : Thread Cert.ProjWeightIdeal.nD Cert.ProjWeightIdeal.τ).loc Cert.ProjWeightIdeal.main_arg1)
          ∧ r.2.mem ((c.tc : Thread Cert.ProjWeightIdeal.nD Cert.ProjWeightIdeal.τ).loc Cert.ProjWeightIdeal.main_arg2) = m ((c.tc : Thread Cert.ProjWeightIdeal.nD Cert.ProjWeightIdeal.τ).loc Cert.ProjWeightIdeal.main_arg2))
      ∧ θ_run (Cert.ProjWeightRefIdeal.defs (F := Ideal)) (onTc (τ := Cert.ProjWeightRefIdeal.τ) (Cert.ProjWeightRefIdeal.main (F := Ideal))) ⟨m', fun _ => 0, g'⟩ (fun r => ∀ c : Dev Cert.ProjWeightRefIdeal.nD,
          r.2.mem ((c.tc : Thread Cert.ProjWeightRefIdeal.nD Cert.ProjWeightRefIdeal.τ).loc Cert.ProjWeightRefIdeal.main_v7) = v0 c
          ∧ r.2.mem ((c.tc : Thread Cert.ProjWeightRefIdeal.nD Cert.ProjWeightRefIdeal.τ).loc Cert.ProjWeightRefIdeal.main_arg0) = m' ((c.tc : Thread Cert.ProjWeightRefIdeal.nD Cert.ProjWeightRefIdeal.τ).loc Cert.ProjWeightRefIdeal.main_arg0)
          ∧ r.2.mem ((c.tc : Thread Cert.ProjWeightRefIdeal.nD Cert.ProjWeightRefIdeal.τ).loc Cert.ProjWeightRefIdeal.main_arg1) = m' ((c.tc : Thread Cert.ProjWeightRefIdeal.nD Cert.ProjWeightRefIdeal.τ).loc Cert.ProjWeightRefIdeal.main_arg1)
          ∧ r.2.mem ((c.tc : Thread Cert.ProjWeightRefIdeal.nD Cert.ProjWeightRefIdeal.τ).loc Cert.ProjWeightRefIdeal.main_arg2) = m' ((c.tc : Thread Cert.ProjWeightRefIdeal.nD Cert.ProjWeightRefIdeal.τ).loc Cert.ProjWeightRefIdeal.main_arg2))

def preserves_OutWeight_OutWeightIdeal : Prop :=
  True

def algebraic_OutWeightIdeal_OutWeightRefIdeal [hOutWeightIdeal : Cert.OutWeightIdeal.Facts] [hOutWeightRefIdeal : Cert.OutWeightRefIdeal.Facts] : Prop :=
  ∀ (m : (ℓ : Loc Cert.OutWeightIdeal.nD Cert.OutWeightIdeal.τ Cert.OutWeightIdeal.sig) → Buf (Elt Ideal) ℓ) (g : Dev Cert.OutWeightIdeal.nD → PrngReg)
    (m' : (ℓ : Loc Cert.OutWeightRefIdeal.nD Cert.OutWeightRefIdeal.τ Cert.OutWeightRefIdeal.sig) → Buf (Elt Ideal) ℓ) (g' : Dev Cert.OutWeightRefIdeal.nD → PrngReg), Pre_OutWeightIdeal m →
    (∀ c : Dev Cert.OutWeightIdeal.nD,
      m' ((c.tc : Thread Cert.OutWeightRefIdeal.nD Cert.OutWeightRefIdeal.τ).loc Cert.OutWeightRefIdeal.main_arg0) = m ((c.tc : Thread Cert.OutWeightIdeal.nD Cert.OutWeightIdeal.τ).loc Cert.OutWeightIdeal.main_arg0)
      ∧ m' ((c.tc : Thread Cert.OutWeightRefIdeal.nD Cert.OutWeightRefIdeal.τ).loc Cert.OutWeightRefIdeal.main_arg1) = m ((c.tc : Thread Cert.OutWeightIdeal.nD Cert.OutWeightIdeal.τ).loc Cert.OutWeightIdeal.main_arg1)
      ∧ m' ((c.tc : Thread Cert.OutWeightRefIdeal.nD Cert.OutWeightRefIdeal.τ).loc Cert.OutWeightRefIdeal.main_arg2) = m ((c.tc : Thread Cert.OutWeightIdeal.nD Cert.OutWeightIdeal.τ).loc Cert.OutWeightIdeal.main_arg2)) →
    ∃ (v0 : (c : Dev Cert.OutWeightIdeal.nD) → Buf (Elt Ideal) ((c.tc : Thread Cert.OutWeightIdeal.nD Cert.OutWeightIdeal.τ).loc Cert.OutWeightIdeal.main_v0)),
      θ_run (Cert.OutWeightIdeal.defs (F := Ideal)) (onTc (τ := Cert.OutWeightIdeal.τ) (Cert.OutWeightIdeal.main (F := Ideal))) ⟨m, fun _ => 0, g⟩ (fun r => ∀ c : Dev Cert.OutWeightIdeal.nD,
          r.2.mem ((c.tc : Thread Cert.OutWeightIdeal.nD Cert.OutWeightIdeal.τ).loc Cert.OutWeightIdeal.main_v0) = v0 c
          ∧ r.2.mem ((c.tc : Thread Cert.OutWeightIdeal.nD Cert.OutWeightIdeal.τ).loc Cert.OutWeightIdeal.main_arg0) = m ((c.tc : Thread Cert.OutWeightIdeal.nD Cert.OutWeightIdeal.τ).loc Cert.OutWeightIdeal.main_arg0)
          ∧ r.2.mem ((c.tc : Thread Cert.OutWeightIdeal.nD Cert.OutWeightIdeal.τ).loc Cert.OutWeightIdeal.main_arg1) = m ((c.tc : Thread Cert.OutWeightIdeal.nD Cert.OutWeightIdeal.τ).loc Cert.OutWeightIdeal.main_arg1)
          ∧ r.2.mem ((c.tc : Thread Cert.OutWeightIdeal.nD Cert.OutWeightIdeal.τ).loc Cert.OutWeightIdeal.main_arg2) = m ((c.tc : Thread Cert.OutWeightIdeal.nD Cert.OutWeightIdeal.τ).loc Cert.OutWeightIdeal.main_arg2))
      ∧ θ_run (Cert.OutWeightRefIdeal.defs (F := Ideal)) (onTc (τ := Cert.OutWeightRefIdeal.τ) (Cert.OutWeightRefIdeal.main (F := Ideal))) ⟨m', fun _ => 0, g'⟩ (fun r => ∀ c : Dev Cert.OutWeightRefIdeal.nD,
          r.2.mem ((c.tc : Thread Cert.OutWeightRefIdeal.nD Cert.OutWeightRefIdeal.τ).loc Cert.OutWeightRefIdeal.main_v5) = v0 c
          ∧ r.2.mem ((c.tc : Thread Cert.OutWeightRefIdeal.nD Cert.OutWeightRefIdeal.τ).loc Cert.OutWeightRefIdeal.main_arg0) = m' ((c.tc : Thread Cert.OutWeightRefIdeal.nD Cert.OutWeightRefIdeal.τ).loc Cert.OutWeightRefIdeal.main_arg0)
          ∧ r.2.mem ((c.tc : Thread Cert.OutWeightRefIdeal.nD Cert.OutWeightRefIdeal.τ).loc Cert.OutWeightRefIdeal.main_arg1) = m' ((c.tc : Thread Cert.OutWeightRefIdeal.nD Cert.OutWeightRefIdeal.τ).loc Cert.OutWeightRefIdeal.main_arg1)
          ∧ r.2.mem ((c.tc : Thread Cert.OutWeightRefIdeal.nD Cert.OutWeightRefIdeal.τ).loc Cert.OutWeightRefIdeal.main_arg2) = m' ((c.tc : Thread Cert.OutWeightRefIdeal.nD Cert.OutWeightRefIdeal.τ).loc Cert.OutWeightRefIdeal.main_arg2))

def preserves_MixIn_MixInIdeal : Prop :=
  True

def algebraic_MixInIdeal_MixInRefIdeal [hMixInIdeal : Cert.MixInIdeal.Facts] [hMixInRefIdeal : Cert.MixInRefIdeal.Facts] : Prop :=
  ∀ (m : (ℓ : Loc Cert.MixInIdeal.nD Cert.MixInIdeal.τ Cert.MixInIdeal.sig) → Buf (Elt Ideal) ℓ) (g : Dev Cert.MixInIdeal.nD → PrngReg)
    (m' : (ℓ : Loc Cert.MixInRefIdeal.nD Cert.MixInRefIdeal.τ Cert.MixInRefIdeal.sig) → Buf (Elt Ideal) ℓ) (g' : Dev Cert.MixInRefIdeal.nD → PrngReg), Pre_MixInIdeal m →
    (∀ c : Dev Cert.MixInIdeal.nD,
      m' ((c.tc : Thread Cert.MixInRefIdeal.nD Cert.MixInRefIdeal.τ).loc Cert.MixInRefIdeal.main_arg0) = m ((c.tc : Thread Cert.MixInIdeal.nD Cert.MixInIdeal.τ).loc Cert.MixInIdeal.main_arg0)
      ∧ m' ((c.tc : Thread Cert.MixInRefIdeal.nD Cert.MixInRefIdeal.τ).loc Cert.MixInRefIdeal.main_arg1) = m ((c.tc : Thread Cert.MixInIdeal.nD Cert.MixInIdeal.τ).loc Cert.MixInIdeal.main_arg1)
      ∧ m' ((c.tc : Thread Cert.MixInRefIdeal.nD Cert.MixInRefIdeal.τ).loc Cert.MixInRefIdeal.main_arg2) = m ((c.tc : Thread Cert.MixInIdeal.nD Cert.MixInIdeal.τ).loc Cert.MixInIdeal.main_arg2)) →
    ∃ (v0 : (c : Dev Cert.MixInIdeal.nD) → Buf (Elt Ideal) ((c.tc : Thread Cert.MixInIdeal.nD Cert.MixInIdeal.τ).loc Cert.MixInIdeal.main_v2_0)) (v1 : (c : Dev Cert.MixInIdeal.nD) → Buf (Elt Ideal) ((c.tc : Thread Cert.MixInIdeal.nD Cert.MixInIdeal.τ).loc Cert.MixInIdeal.main_v2_1)),
      θ_run (Cert.MixInIdeal.defs (F := Ideal)) (onTc (τ := Cert.MixInIdeal.τ) (Cert.MixInIdeal.main (F := Ideal))) ⟨m, fun _ => 0, g⟩ (fun r => ∀ c : Dev Cert.MixInIdeal.nD,
          r.2.mem ((c.tc : Thread Cert.MixInIdeal.nD Cert.MixInIdeal.τ).loc Cert.MixInIdeal.main_v2_0) = v0 c
          ∧ r.2.mem ((c.tc : Thread Cert.MixInIdeal.nD Cert.MixInIdeal.τ).loc Cert.MixInIdeal.main_v2_1) = v1 c
          ∧ r.2.mem ((c.tc : Thread Cert.MixInIdeal.nD Cert.MixInIdeal.τ).loc Cert.MixInIdeal.main_arg0) = m ((c.tc : Thread Cert.MixInIdeal.nD Cert.MixInIdeal.τ).loc Cert.MixInIdeal.main_arg0)
          ∧ r.2.mem ((c.tc : Thread Cert.MixInIdeal.nD Cert.MixInIdeal.τ).loc Cert.MixInIdeal.main_arg1) = m ((c.tc : Thread Cert.MixInIdeal.nD Cert.MixInIdeal.τ).loc Cert.MixInIdeal.main_arg1)
          ∧ r.2.mem ((c.tc : Thread Cert.MixInIdeal.nD Cert.MixInIdeal.τ).loc Cert.MixInIdeal.main_arg2) = m ((c.tc : Thread Cert.MixInIdeal.nD Cert.MixInIdeal.τ).loc Cert.MixInIdeal.main_arg2))
      ∧ θ_run (Cert.MixInRefIdeal.defs (F := Ideal)) (onTc (τ := Cert.MixInRefIdeal.τ) (Cert.MixInRefIdeal.main (F := Ideal))) ⟨m', fun _ => 0, g'⟩ (fun r => ∀ c : Dev Cert.MixInRefIdeal.nD,
          r.2.mem ((c.tc : Thread Cert.MixInRefIdeal.nD Cert.MixInRefIdeal.τ).loc Cert.MixInRefIdeal.main_v12) = v0 c
          ∧ r.2.mem ((c.tc : Thread Cert.MixInRefIdeal.nD Cert.MixInRefIdeal.τ).loc Cert.MixInRefIdeal.main_v13) = v1 c
          ∧ r.2.mem ((c.tc : Thread Cert.MixInRefIdeal.nD Cert.MixInRefIdeal.τ).loc Cert.MixInRefIdeal.main_arg0) = m' ((c.tc : Thread Cert.MixInRefIdeal.nD Cert.MixInRefIdeal.τ).loc Cert.MixInRefIdeal.main_arg0)
          ∧ r.2.mem ((c.tc : Thread Cert.MixInRefIdeal.nD Cert.MixInRefIdeal.τ).loc Cert.MixInRefIdeal.main_arg1) = m' ((c.tc : Thread Cert.MixInRefIdeal.nD Cert.MixInRefIdeal.τ).loc Cert.MixInRefIdeal.main_arg1)
          ∧ r.2.mem ((c.tc : Thread Cert.MixInRefIdeal.nD Cert.MixInRefIdeal.τ).loc Cert.MixInRefIdeal.main_arg2) = m' ((c.tc : Thread Cert.MixInRefIdeal.nD Cert.MixInRefIdeal.τ).loc Cert.MixInRefIdeal.main_arg2))

def preserves_MixOut_MixOutIdeal : Prop :=
  True

def algebraic_MixOutIdeal_MixOutRefIdeal [hMixOutIdeal : Cert.MixOutIdeal.Facts] [hMixOutRefIdeal : Cert.MixOutRefIdeal.Facts] : Prop :=
  ∀ (m : (ℓ : Loc Cert.MixOutIdeal.nD Cert.MixOutIdeal.τ Cert.MixOutIdeal.sig) → Buf (Elt Ideal) ℓ) (g : Dev Cert.MixOutIdeal.nD → PrngReg)
    (m' : (ℓ : Loc Cert.MixOutRefIdeal.nD Cert.MixOutRefIdeal.τ Cert.MixOutRefIdeal.sig) → Buf (Elt Ideal) ℓ) (g' : Dev Cert.MixOutRefIdeal.nD → PrngReg), Pre_MixOutIdeal m →
    (∀ c : Dev Cert.MixOutIdeal.nD,
      m' ((c.tc : Thread Cert.MixOutRefIdeal.nD Cert.MixOutRefIdeal.τ).loc Cert.MixOutRefIdeal.main_arg0) = m ((c.tc : Thread Cert.MixOutIdeal.nD Cert.MixOutIdeal.τ).loc Cert.MixOutIdeal.main_arg0)
      ∧ m' ((c.tc : Thread Cert.MixOutRefIdeal.nD Cert.MixOutRefIdeal.τ).loc Cert.MixOutRefIdeal.main_arg1) = m ((c.tc : Thread Cert.MixOutIdeal.nD Cert.MixOutIdeal.τ).loc Cert.MixOutIdeal.main_arg1)
      ∧ m' ((c.tc : Thread Cert.MixOutRefIdeal.nD Cert.MixOutRefIdeal.τ).loc Cert.MixOutRefIdeal.main_arg2) = m ((c.tc : Thread Cert.MixOutIdeal.nD Cert.MixOutIdeal.τ).loc Cert.MixOutIdeal.main_arg2)
      ∧ m' ((c.tc : Thread Cert.MixOutRefIdeal.nD Cert.MixOutRefIdeal.τ).loc Cert.MixOutRefIdeal.main_arg3) = m ((c.tc : Thread Cert.MixOutIdeal.nD Cert.MixOutIdeal.τ).loc Cert.MixOutIdeal.main_arg3)
      ∧ m' ((c.tc : Thread Cert.MixOutRefIdeal.nD Cert.MixOutRefIdeal.τ).loc Cert.MixOutRefIdeal.main_arg4) = m ((c.tc : Thread Cert.MixOutIdeal.nD Cert.MixOutIdeal.τ).loc Cert.MixOutIdeal.main_arg4)
      ∧ m' ((c.tc : Thread Cert.MixOutRefIdeal.nD Cert.MixOutRefIdeal.τ).loc Cert.MixOutRefIdeal.main_arg5) = m ((c.tc : Thread Cert.MixOutIdeal.nD Cert.MixOutIdeal.τ).loc Cert.MixOutIdeal.main_arg5)
      ∧ m' ((c.tc : Thread Cert.MixOutRefIdeal.nD Cert.MixOutRefIdeal.τ).loc Cert.MixOutRefIdeal.main_arg6) = m ((c.tc : Thread Cert.MixOutIdeal.nD Cert.MixOutIdeal.τ).loc Cert.MixOutIdeal.main_arg6)
      ∧ m' ((c.tc : Thread Cert.MixOutRefIdeal.nD Cert.MixOutRefIdeal.τ).loc Cert.MixOutRefIdeal.main_arg7) = m ((c.tc : Thread Cert.MixOutIdeal.nD Cert.MixOutIdeal.τ).loc Cert.MixOutIdeal.main_arg7)
      ∧ m' ((c.tc : Thread Cert.MixOutRefIdeal.nD Cert.MixOutRefIdeal.τ).loc Cert.MixOutRefIdeal.main_arg8) = m ((c.tc : Thread Cert.MixOutIdeal.nD Cert.MixOutIdeal.τ).loc Cert.MixOutIdeal.main_arg8)) →
    ∃ (v0 : (c : Dev Cert.MixOutIdeal.nD) → Buf (Elt Ideal) ((c.tc : Thread Cert.MixOutIdeal.nD Cert.MixOutIdeal.τ).loc Cert.MixOutIdeal.main_v2_0)) (v1 : (c : Dev Cert.MixOutIdeal.nD) → Buf (Elt Ideal) ((c.tc : Thread Cert.MixOutIdeal.nD Cert.MixOutIdeal.τ).loc Cert.MixOutIdeal.main_v2_1)) (v2 : (c : Dev Cert.MixOutIdeal.nD) → Buf (Elt Ideal) ((c.tc : Thread Cert.MixOutIdeal.nD Cert.MixOutIdeal.τ).loc Cert.MixOutIdeal.main_v2_2)),
      θ_run (Cert.MixOutIdeal.defs (F := Ideal)) (onTc (τ := Cert.MixOutIdeal.τ) (Cert.MixOutIdeal.main (F := Ideal))) ⟨m, fun _ => 0, g⟩ (fun r => ∀ c : Dev Cert.MixOutIdeal.nD,
          r.2.mem ((c.tc : Thread Cert.MixOutIdeal.nD Cert.MixOutIdeal.τ).loc Cert.MixOutIdeal.main_v2_0) = v0 c
          ∧ r.2.mem ((c.tc : Thread Cert.MixOutIdeal.nD Cert.MixOutIdeal.τ).loc Cert.MixOutIdeal.main_v2_1) = v1 c
          ∧ r.2.mem ((c.tc : Thread Cert.MixOutIdeal.nD Cert.MixOutIdeal.τ).loc Cert.MixOutIdeal.main_v2_2) = v2 c
          ∧ r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
          ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
          ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2)
          ∧ r.2.mem ((c.tc : Thread Cert.MixOutIdeal.nD Cert.MixOutIdeal.τ).loc Cert.MixOutIdeal.main_arg3) = m ((c.tc : Thread Cert.MixOutIdeal.nD Cert.MixOutIdeal.τ).loc Cert.MixOutIdeal.main_arg3)
          ∧ r.2.mem ((c.tc : Thread Cert.MixOutIdeal.nD Cert.MixOutIdeal.τ).loc Cert.MixOutIdeal.main_arg4) = m ((c.tc : Thread Cert.MixOutIdeal.nD Cert.MixOutIdeal.τ).loc Cert.MixOutIdeal.main_arg4)
          ∧ r.2.mem ((c.tc : Thread Cert.MixOutIdeal.nD Cert.MixOutIdeal.τ).loc Cert.MixOutIdeal.main_arg5) = m ((c.tc : Thread Cert.MixOutIdeal.nD Cert.MixOutIdeal.τ).loc Cert.MixOutIdeal.main_arg5)
          ∧ r.2.mem ((c.tc : Thread Cert.MixOutIdeal.nD Cert.MixOutIdeal.τ).loc Cert.MixOutIdeal.main_arg6) = m ((c.tc : Thread Cert.MixOutIdeal.nD Cert.MixOutIdeal.τ).loc Cert.MixOutIdeal.main_arg6)
          ∧ r.2.mem ((c.tc : Thread Cert.MixOutIdeal.nD Cert.MixOutIdeal.τ).loc Cert.MixOutIdeal.main_arg7) = m ((c.tc : Thread Cert.MixOutIdeal.nD Cert.MixOutIdeal.τ).loc Cert.MixOutIdeal.main_arg7)
          ∧ r.2.mem ((c.tc : Thread Cert.MixOutIdeal.nD Cert.MixOutIdeal.τ).loc Cert.MixOutIdeal.main_arg8) = m ((c.tc : Thread Cert.MixOutIdeal.nD Cert.MixOutIdeal.τ).loc Cert.MixOutIdeal.main_arg8))
      ∧ θ_run (Cert.MixOutRefIdeal.defs (F := Ideal)) (onTc (τ := Cert.MixOutRefIdeal.τ) (Cert.MixOutRefIdeal.main (F := Ideal))) ⟨m', fun _ => 0, g'⟩ (fun r => ∀ c : Dev Cert.MixOutRefIdeal.nD,
          r.2.mem ((c.tc : Thread Cert.MixOutRefIdeal.nD Cert.MixOutRefIdeal.τ).loc Cert.MixOutRefIdeal.main_v3) = v0 c
          ∧ r.2.mem ((c.tc : Thread Cert.MixOutRefIdeal.nD Cert.MixOutRefIdeal.τ).loc Cert.MixOutRefIdeal.main_v41) = v1 c
          ∧ r.2.mem ((c.tc : Thread Cert.MixOutRefIdeal.nD Cert.MixOutRefIdeal.τ).loc Cert.MixOutRefIdeal.main_v43) = v2 c
          ∧ r.2.mem ((c.tc : Thread Cert.MixOutRefIdeal.nD Cert.MixOutRefIdeal.τ).loc Cert.MixOutRefIdeal.main_arg0) = m' ((c.tc : Thread Cert.MixOutRefIdeal.nD Cert.MixOutRefIdeal.τ).loc Cert.MixOutRefIdeal.main_arg0)
          ∧ r.2.mem ((c.tc : Thread Cert.MixOutRefIdeal.nD Cert.MixOutRefIdeal.τ).loc Cert.MixOutRefIdeal.main_arg1) = m' ((c.tc : Thread Cert.MixOutRefIdeal.nD Cert.MixOutRefIdeal.τ).loc Cert.MixOutRefIdeal.main_arg1)
          ∧ r.2.mem ((c.tc : Thread Cert.MixOutRefIdeal.nD Cert.MixOutRefIdeal.τ).loc Cert.MixOutRefIdeal.main_arg2) = m' ((c.tc : Thread Cert.MixOutRefIdeal.nD Cert.MixOutRefIdeal.τ).loc Cert.MixOutRefIdeal.main_arg2)
          ∧ r.2.mem ((c.tc : Thread Cert.MixOutRefIdeal.nD Cert.MixOutRefIdeal.τ).loc Cert.MixOutRefIdeal.main_arg3) = m' ((c.tc : Thread Cert.MixOutRefIdeal.nD Cert.MixOutRefIdeal.τ).loc Cert.MixOutRefIdeal.main_arg3)
          ∧ r.2.mem ((c.tc : Thread Cert.MixOutRefIdeal.nD Cert.MixOutRefIdeal.τ).loc Cert.MixOutRefIdeal.main_arg4) = m' ((c.tc : Thread Cert.MixOutRefIdeal.nD Cert.MixOutRefIdeal.τ).loc Cert.MixOutRefIdeal.main_arg4)
          ∧ r.2.mem ((c.tc : Thread Cert.MixOutRefIdeal.nD Cert.MixOutRefIdeal.τ).loc Cert.MixOutRefIdeal.main_arg5) = m' ((c.tc : Thread Cert.MixOutRefIdeal.nD Cert.MixOutRefIdeal.τ).loc Cert.MixOutRefIdeal.main_arg5)
          ∧ r.2.mem ((c.tc : Thread Cert.MixOutRefIdeal.nD Cert.MixOutRefIdeal.τ).loc Cert.MixOutRefIdeal.main_arg6) = m' ((c.tc : Thread Cert.MixOutRefIdeal.nD Cert.MixOutRefIdeal.τ).loc Cert.MixOutRefIdeal.main_arg6)
          ∧ r.2.mem ((c.tc : Thread Cert.MixOutRefIdeal.nD Cert.MixOutRefIdeal.τ).loc Cert.MixOutRefIdeal.main_arg7) = m' ((c.tc : Thread Cert.MixOutRefIdeal.nD Cert.MixOutRefIdeal.τ).loc Cert.MixOutRefIdeal.main_arg7)
          ∧ r.2.mem ((c.tc : Thread Cert.MixOutRefIdeal.nD Cert.MixOutRefIdeal.τ).loc Cert.MixOutRefIdeal.main_arg8) = m' ((c.tc : Thread Cert.MixOutRefIdeal.nD Cert.MixOutRefIdeal.τ).loc Cert.MixOutRefIdeal.main_arg8))

def Claim : Prop :=
  ∃ (hKernel : Cert.Kernel.Facts) (hKernelIdeal : Cert.KernelIdeal.Facts) (hReferenceIdeal : Cert.ReferenceIdeal.Facts) (hWeight : Cert.Weight.Facts) (hWeightIdeal : Cert.WeightIdeal.Facts) (hWeightRefIdeal : Cert.WeightRefIdeal.Facts) (hInner : Cert.Inner.Facts) (hInnerIdeal : Cert.InnerIdeal.Facts) (hInnerRefIdeal : Cert.InnerRefIdeal.Facts) (hHidden : Cert.Hidden.Facts) (hHiddenIdeal : Cert.HiddenIdeal.Facts) (hHiddenRefIdeal : Cert.HiddenRefIdeal.Facts) (hForward : Cert.Forward.Facts) (hForwardIdeal : Cert.ForwardIdeal.Facts) (hForwardRefIdeal : Cert.ForwardRefIdeal.Facts) (hProjWeight : Cert.ProjWeight.Facts) (hProjWeightIdeal : Cert.ProjWeightIdeal.Facts) (hProjWeightRefIdeal : Cert.ProjWeightRefIdeal.Facts) (hOutWeight : Cert.OutWeight.Facts) (hOutWeightIdeal : Cert.OutWeightIdeal.Facts) (hOutWeightRefIdeal : Cert.OutWeightRefIdeal.Facts) (hMixIn : Cert.MixIn.Facts) (hMixInIdeal : Cert.MixInIdeal.Facts) (hMixInRefIdeal : Cert.MixInRefIdeal.Facts) (hMixOut : Cert.MixOut.Facts) (hMixOutIdeal : Cert.MixOutIdeal.Facts) (hMixOutRefIdeal : Cert.MixOutRefIdeal.Facts) (hPre_finite : Cert.Pre_finite.Facts) (hPre_finite3 : Cert.Pre_finite3.Facts) (hPre_finite4 : Cert.Pre_finite4.Facts) (hPre_finite5 : Cert.Pre_finite5.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Weight (hWeight := hWeight)
    ∧ quiescent_WeightIdeal (hWeightIdeal := hWeightIdeal)
    ∧ quiescent_WeightRefIdeal (hWeightRefIdeal := hWeightRefIdeal)
    ∧ quiescent_Inner (hInner := hInner)
    ∧ quiescent_InnerIdeal (hInnerIdeal := hInnerIdeal)
    ∧ quiescent_InnerIdeal_pre_finite3 (hInnerIdeal := hInnerIdeal) (hPre_finite3 := hPre_finite3)
    ∧ quiescent_InnerRefIdeal (hInnerRefIdeal := hInnerRefIdeal)
    ∧ quiescent_InnerRefIdeal_pre_finite3 (hInnerRefIdeal := hInnerRefIdeal) (hPre_finite3 := hPre_finite3)
    ∧ quiescent_Hidden (hHidden := hHidden)
    ∧ quiescent_HiddenIdeal (hHiddenIdeal := hHiddenIdeal)
    ∧ quiescent_HiddenIdeal_pre_finite4 (hHiddenIdeal := hHiddenIdeal) (hPre_finite4 := hPre_finite4)
    ∧ quiescent_HiddenRefIdeal (hHiddenRefIdeal := hHiddenRefIdeal)
    ∧ quiescent_HiddenRefIdeal_pre_finite4 (hHiddenRefIdeal := hHiddenRefIdeal) (hPre_finite4 := hPre_finite4)
    ∧ quiescent_Forward (hForward := hForward)
    ∧ quiescent_ForwardIdeal (hForwardIdeal := hForwardIdeal)
    ∧ quiescent_ForwardIdeal_pre_finite5 (hForwardIdeal := hForwardIdeal) (hPre_finite5 := hPre_finite5)
    ∧ quiescent_ForwardRefIdeal (hForwardRefIdeal := hForwardRefIdeal)
    ∧ quiescent_ForwardRefIdeal_pre_finite5 (hForwardRefIdeal := hForwardRefIdeal) (hPre_finite5 := hPre_finite5)
    ∧ quiescent_ProjWeight (hProjWeight := hProjWeight)
    ∧ quiescent_ProjWeightIdeal (hProjWeightIdeal := hProjWeightIdeal)
    ∧ quiescent_ProjWeightRefIdeal (hProjWeightRefIdeal := hProjWeightRefIdeal)
    ∧ quiescent_OutWeight (hOutWeight := hOutWeight)
    ∧ quiescent_OutWeightIdeal (hOutWeightIdeal := hOutWeightIdeal)
    ∧ quiescent_OutWeightRefIdeal (hOutWeightRefIdeal := hOutWeightRefIdeal)
    ∧ quiescent_MixIn (hMixIn := hMixIn)
    ∧ quiescent_MixInIdeal (hMixInIdeal := hMixInIdeal)
    ∧ quiescent_MixInRefIdeal (hMixInRefIdeal := hMixInRefIdeal)
    ∧ quiescent_MixOut (hMixOut := hMixOut)
    ∧ quiescent_MixOutIdeal (hMixOutIdeal := hMixOutIdeal)
    ∧ quiescent_MixOutRefIdeal (hMixOutRefIdeal := hMixOutRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Weight_WeightIdeal
    ∧ algebraic_WeightIdeal_WeightRefIdeal (hWeightIdeal := hWeightIdeal) (hWeightRefIdeal := hWeightRefIdeal)
    ∧ preserves_Inner_InnerIdeal
    ∧ algebraic_InnerIdeal_InnerRefIdeal_pre_finite3 (hInnerIdeal := hInnerIdeal) (hInnerRefIdeal := hInnerRefIdeal) (hPre_finite3 := hPre_finite3)
    ∧ preserves_Hidden_HiddenIdeal
    ∧ algebraic_HiddenIdeal_HiddenRefIdeal_pre_finite4 (hHiddenIdeal := hHiddenIdeal) (hHiddenRefIdeal := hHiddenRefIdeal) (hPre_finite4 := hPre_finite4)
    ∧ preserves_Forward_ForwardIdeal
    ∧ algebraic_ForwardIdeal_ForwardRefIdeal_pre_finite5 (hForwardIdeal := hForwardIdeal) (hForwardRefIdeal := hForwardRefIdeal) (hPre_finite5 := hPre_finite5)
    ∧ preserves_ProjWeight_ProjWeightIdeal
    ∧ algebraic_ProjWeightIdeal_ProjWeightRefIdeal (hProjWeightIdeal := hProjWeightIdeal) (hProjWeightRefIdeal := hProjWeightRefIdeal)
    ∧ preserves_OutWeight_OutWeightIdeal
    ∧ algebraic_OutWeightIdeal_OutWeightRefIdeal (hOutWeightIdeal := hOutWeightIdeal) (hOutWeightRefIdeal := hOutWeightRefIdeal)
    ∧ preserves_MixIn_MixInIdeal
    ∧ algebraic_MixInIdeal_MixInRefIdeal (hMixInIdeal := hMixInIdeal) (hMixInRefIdeal := hMixInRefIdeal)
    ∧ preserves_MixOut_MixOutIdeal
    ∧ algebraic_MixOutIdeal_MixOutRefIdeal (hMixOutIdeal := hMixOutIdeal) (hMixOutRefIdeal := hMixOutRefIdeal)
-- ==== Pre_finite.lean ====
abbrev S2x4096x1024 : Shape := ⟨3, ![2, 4096, 1024]⟩
abbrev S2x4096x1536 : Shape := ⟨3, ![2, 4096, 1536]⟩
abbrev S31x512 : Shape := ⟨2, ![31, 512]⟩
abbrev S1x512 : Shape := ⟨2, ![1, 512]⟩
abbrev S_ : Shape := ⟨0, ![]⟩

class Facts : Prop where
  bcast_S_S2x4096x1024 : S_.BroadcastsInDim S2x4096x1024 (![] : Fin 0 → Fin S2x4096x1024.rank)
  reducesTo_S2x4096x1024_S_d0_1_2 : S2x4096x1024.ReducesTo [0, 1, 2] S_
  h_S_ : 0 < S_.numel
  bcast_S_S2x4096x1536 : S_.BroadcastsInDim S2x4096x1536 (![] : Fin 0 → Fin S2x4096x1536.rank)
  reducesTo_S2x4096x1536_S_d0_1_2 : S2x4096x1536.ReducesTo [0, 1, 2] S_
  bcast_S_S31x512 : S_.BroadcastsInDim S31x512 (![] : Fin 0 → Fin S31x512.rank)
  reducesTo_S31x512_S_d0_1 : S31x512.ReducesTo [0, 1] S_
  bcast_S_S1x512 : S_.BroadcastsInDim S1x512 (![] : Fin 0 → Fin S1x512.rank)
  reducesTo_S1x512_S_d0_1 : S1x512.ReducesTo [0, 1] S_

variable [Facts]

def fn_part1 {F : FTy → Type} [FloatOps F] (main_arg4 : FVec F S1x512 .f32) (main_arg5 : FVec F S1x512 .f32) (main_arg6 : FVec F S1x512 .f32) (main_v3 : IVec S_ 1) (main_v7 : IVec S_ 1) (main_v11 : IVec S_ 1) (main_v15 : IVec S_ 1) : IVec S_ 1 :=
  let main_v16 : FVec F S1x512 .f32 := Host.absf main_arg4
  let main_cst_6 : FVec F S_ .f32 := constant S_ .f32 0x7F800000#32
  let main_v17 : FVec F S1x512 .f32 := broadcastInDim S1x512 ![] bcast_S_S1x512 main_cst_6
  let main_v18 : IVec S1x512 1 := cmpf .olt main_v16 main_v17
  let main_c_7 : IVec S_ 1 := constantI S_ 1 1#1
  let main_v19 : IVec S_ 1 := (fun x v => Host.reduce IntOp.andi x v reducesTo_S1x512_S_d0_1 h_S_) main_v18 main_c_7
  let main_v20 : FVec F S1x512 .f32 := Host.absf main_arg5
  let main_cst_8 : FVec F S_ .f32 := constant S_ .f32 0x7F800000#32
  let main_v21 : FVec F S1x512 .f32 := broadcastInDim S1x512 ![] bcast_S_S1x512 main_cst_8
  let main_v22 : IVec S1x512 1 := cmpf .olt main_v20 main_v21
  let main_c_9 : IVec S_ 1 := constantI S_ 1 1#1
  let main_v23 : IVec S_ 1 := (fun x v => Host.reduce IntOp.andi x v reducesTo_S1x512_S_d0_1 h_S_) main_v22 main_c_9
  let main_v24 : FVec F S1x512 .f32 := Host.absf main_arg6
  let main_cst_10 : FVec F S_ .f32 := constant S_ .f32 0x7F800000#32
  let main_v25 : FVec F S1x512 .f32 := broadcastInDim S1x512 ![] bcast_S_S1x512 main_cst_10
  let main_v26 : IVec S1x512 1 := cmpf .olt main_v24 main_v25
  let main_c_11 : IVec S_ 1 := constantI S_ 1 1#1
  let main_v27 : IVec S_ 1 := (fun x v => Host.reduce IntOp.andi x v reducesTo_S1x512_S_d0_1 h_S_) main_v26 main_c_11
  let main_v28 : IVec S_ 1 := andi main_v3 main_v7
  let main_v29 : IVec S_ 1 := andi main_v28 main_v11
  let main_v30 : IVec S_ 1 := andi main_v29 main_v15
  let main_v31 : IVec S_ 1 := andi main_v30 main_v19
  let main_v32 : IVec S_ 1 := andi main_v31 main_v23
  let main_v33 : IVec S_ 1 := andi main_v32 main_v27
  main_v33

def fn {F : FTy → Type} [FloatOps F] (main_arg0 : FVec F S2x4096x1024 .f32) (main_arg1 : FVec F S2x4096x1536 .f32) (main_arg2 : FVec F S31x512 .f32) (main_arg3 : FVec F S1x512 .f32) (main_arg4 : FVec F S1x512 .f32) (main_arg5 : FVec F S1x512 .f32) (main_arg6 : FVec F S1x512 .f32) : IVec S_ 1 :=
  let main_v0 : FVec F S2x4096x1024 .f32 := Host.absf main_arg0
  let main_cst : FVec F S_ .f32 := constant S_ .f32 0x7F800000#32
  let main_v1 : FVec F S2x4096x1024 .f32 := broadcastInDim S2x4096x1024 ![] bcast_S_S2x4096x1024 main_cst
  let main_v2 : IVec S2x4096x1024 1 := cmpf .olt main_v0 main_v1
  let main_c : IVec S_ 1 := constantI S_ 1 1#1
  let main_v3 : IVec S_ 1 := (fun x v => Host.reduce IntOp.andi x v reducesTo_S2x4096x1024_S_d0_1_2 h_S_) main_v2 main_c
  let main_v4 : FVec F S2x4096x1536 .f32 := Host.absf main_arg1
  let main_cst_0 : FVec F S_ .f32 := constant S_ .f32 0x7F800000#32
  let main_v5 : FVec F S2x4096x1536 .f32 := broadcastInDim S2x4096x1536 ![] bcast_S_S2x4096x1536 main_cst_0
  let main_v6 : IVec S2x4096x1536 1 := cmpf .olt main_v4 main_v5
  let main_c_1 : IVec S_ 1 := constantI S_ 1 1#1
  let main_v7 : IVec S_ 1 := (fun x v => Host.reduce IntOp.andi x v reducesTo_S2x4096x1536_S_d0_1_2 h_S_) main_v6 main_c_1
  let main_v8 : FVec F S31x512 .f32 := Host.absf main_arg2
  let main_cst_2 : FVec F S_ .f32 := constant S_ .f32 0x7F800000#32
  let main_v9 : FVec F S31x512 .f32 := broadcastInDim S31x512 ![] bcast_S_S31x512 main_cst_2
  let main_v10 : IVec S31x512 1 := cmpf .olt main_v8 main_v9
  let main_c_3 : IVec S_ 1 := constantI S_ 1 1#1
  let main_v11 : IVec S_ 1 := (fun x v => Host.reduce IntOp.andi x v reducesTo_S31x512_S_d0_1 h_S_) main_v10 main_c_3
  let main_v12 : FVec F S1x512 .f32 := Host.absf main_arg3
  let main_cst_4 : FVec F S_ .f32 := constant S_ .f32 0x7F800000#32
  let main_v13 : FVec F S1x512 .f32 := broadcastInDim S1x512 ![] bcast_S_S1x512 main_cst_4
  let main_v14 : IVec S1x512 1 := cmpf .olt main_v12 main_v13
  let main_c_5 : IVec S_ 1 := constantI S_ 1 1#1
  let main_v15 : IVec S_ 1 := (fun x v => Host.reduce IntOp.andi x v reducesTo_S1x512_S_d0_1 h_S_) main_v14 main_c_5
  fn_part1 (F := F) main_arg4 main_arg5 main_arg6 main_v3 main_v7 main_v11 main_v15
-- ==== Pre_finite3.lean ====
abbrev S8192x1024 : Shape := ⟨2, ![8192, 1024]⟩
abbrev S8192x2816 : Shape := ⟨2, ![8192, 2816]⟩
abbrev S1x1024 : Shape := ⟨2, ![1, 1024]⟩
abbrev S1024x2816 : Shape := ⟨2, ![1024, 2816]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bitsLt_bf16_f32 : FTy.bits .bf16 < FTy.bits .f32
  bcast_S_S8192x2816 : S_.BroadcastsInDim S8192x2816 (![] : Fin 0 → Fin S8192x2816.rank)
  reducesTo_S8192x2816_S_d0_1 : S8192x2816.ReducesTo [0, 1] S_
  bcast_S_S1x1024 : S_.BroadcastsInDim S1x1024 (![] : Fin 0 → Fin S1x1024.rank)
  reducesTo_S1x1024_S_d0_1 : S1x1024.ReducesTo [0, 1] S_
  bcast_S_S1024x2816 : S_.BroadcastsInDim S1024x2816 (![] : Fin 0 → Fin S1024x2816.rank)
  reducesTo_S1024x2816_S_d0_1 : S1024x2816.ReducesTo [0, 1] S_

variable [Facts]

def fn_part2 {F : FTy → Type} [FloatOps F] (main_v25 : IVec S_ 1) (main_v29 : IVec S_ 1) (main_v33 : IVec S_ 1) : IVec S_ 1 :=
  let main_v34 : IVec S_ 1 := andi main_v33 main_v25
  let main_v35 : IVec S_ 1 := andi main_v34 main_v29
  main_v35

def fn_part1 {F : FTy → Type} [FloatOps F] (main_arg4 : FVec F S1x1024 .f32) (main_arg5 : FVec F S1024x2816 .f32) (main_arg6 : FVec F S1024x2816 .f32) (main_v3 : IVec S_ 1) (main_v8 : IVec S_ 1) (main_v13 : IVec S_ 1) (main_v16 : IVec S8192x1024 1) : IVec S_ 1 :=
  let main_c_5 : IVec S_ 1 := constantI S_ 1 1#1
  let main_v17 : IVec S_ 1 := (fun x v => Host.reduce IntOp.andi x v reducesTo_S8192x1024_S_d0_1 h_S_) main_v16 main_c_5
  let main_v18 : FVec F S1x1024 .f32 := Host.absf main_arg4
  let main_cst_6 : FVec F S_ .f32 := constant S_ .f32 0x7F800000#32
  let main_v19 : FVec F S1x1024 .f32 := broadcastInDim S1x1024 ![] bcast_S_S1x1024 main_cst_6
  let main_v20 : IVec S1x1024 1 := cmpf .olt main_v18 main_v19
  let main_c_7 : IVec S_ 1 := constantI S_ 1 1#1
  let main_v21 : IVec S_ 1 := (fun x v => Host.reduce IntOp.andi x v reducesTo_S1x1024_S_d0_1 h_S_) main_v20 main_c_7
  let main_v22 : FVec F S1024x2816 .f32 := Host.absf main_arg5
  let main_cst_8 : FVec F S_ .f32 := constant S_ .f32 0x7F800000#32
  let main_v23 : FVec F S1024x2816 .f32 := broadcastInDim S1024x2816 ![] bcast_S_S1024x2816 main_cst_8
  let main_v24 : IVec S1024x2816 1 := cmpf .olt main_v22 main_v23
  let main_c_9 : IVec S_ 1 := constantI S_ 1 1#1
  let main_v25 : IVec S_ 1 := (fun x v => Host.reduce IntOp.andi x v reducesTo_S1024x2816_S_d0_1 h_S_) main_v24 main_c_9
  let main_v26 : FVec F S1024x2816 .f32 := Host.absf main_arg6
  let main_cst_10 : FVec F S_ .f32 := constant S_ .f32 0x7F800000#32
  let main_v27 : FVec F S1024x2816 .f32 := broadcastInDim S1024x2816 ![] bcast_S_S1024x2816 main_cst_10
  let main_v28 : IVec S1024x2816 1 := cmpf .olt main_v26 main_v27
  let main_c_11 : IVec S_ 1 := constantI S_ 1 1#1
  let main_v29 : IVec S_ 1 := (fun x v => Host.reduce IntOp.andi x v reducesTo_S1024x2816_S_d0_1 h_S_) main_v28 main_c_11
  let main_v30 : IVec S_ 1 := andi main_v3 main_v8
  let main_v31 : IVec S_ 1 := andi main_v30 main_v13
  let main_v32 : IVec S_ 1 := andi main_v31 main_v17
  let main_v33 : IVec S_ 1 := andi main_v32 main_v21
  fn_part2 (F := F) main_v25 main_v29 main_v33

def fn {F : FTy → Type} [FloatOps F] (main_arg0 : FVec F S8192x1024 .f32) (main_arg1 : FVec F S8192x2816 .bf16) (main_arg2 : FVec F S8192x2816 .bf16) (main_arg3 : FVec F S8192x1024 .f32) (main_arg4 : FVec F S1x1024 .f32) (main_arg5 : FVec F S1024x2816 .f32) (main_arg6 : FVec F S1024x2816 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x2816 .f32 := (extf .f32 · bitsLt_bf16_f32) main_arg1
  let main_v5 : FVec F S8192x2816 .f32 := Host.absf main_v4
  let main_cst_0 : FVec F S_ .f32 := constant S_ .f32 0x7F800000#32
  let main_v6 : FVec F S8192x2816 .f32 := broadcastInDim S8192x2816 ![] bcast_S_S8192x2816 main_cst_0
  let main_v7 : IVec S8192x2816 1 := cmpf .olt main_v5 main_v6
  let main_c_1 : IVec S_ 1 := constantI S_ 1 1#1
  let main_v8 : IVec S_ 1 := (fun x v => Host.reduce IntOp.andi x v reducesTo_S8192x2816_S_d0_1 h_S_) main_v7 main_c_1
  let main_v9 : FVec F S8192x2816 .f32 := (extf .f32 · bitsLt_bf16_f32) main_arg2
  let main_v10 : FVec F S8192x2816 .f32 := Host.absf main_v9
  let main_cst_2 : FVec F S_ .f32 := constant S_ .f32 0x7F800000#32
  let main_v11 : FVec F S8192x2816 .f32 := broadcastInDim S8192x2816 ![] bcast_S_S8192x2816 main_cst_2
  let main_v12 : IVec S8192x2816 1 := cmpf .olt main_v10 main_v11
  let main_c_3 : IVec S_ 1 := constantI S_ 1 1#1
  let main_v13 : IVec S_ 1 := (fun x v => Host.reduce IntOp.andi x v reducesTo_S8192x2816_S_d0_1 h_S_) main_v12 main_c_3
  let main_v14 : FVec F S8192x1024 .f32 := Host.absf main_arg3
  let main_cst_4 : FVec F S_ .f32 := constant S_ .f32 0x7F800000#32
  let main_v15 : FVec F S8192x1024 .f32 := broadcastInDim S8192x1024 ![] bcast_S_S8192x1024 main_cst_4
  let main_v16 : IVec S8192x1024 1 := cmpf .olt main_v14 main_v15
  fn_part1 (F := F) main_arg4 main_arg5 main_arg6 main_v3 main_v8 main_v13 main_v16
-- ==== Pre_finite4.lean ====
abbrev S8192x1024 : Shape := ⟨2, ![8192, 1024]⟩
abbrev S8192x2816 : Shape := ⟨2, ![8192, 2816]⟩
abbrev S2816x1024 : Shape := ⟨2, ![2816, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bitsLt_bf16_f32 : FTy.bits .bf16 < FTy.bits .f32
  bcast_S_S8192x2816 : S_.BroadcastsInDim S8192x2816 (![] : Fin 0 → Fin S8192x2816.rank)
  reducesTo_S8192x2816_S_d0_1 : S8192x2816.ReducesTo [0, 1] S_
  bcast_S_S2816x1024 : S_.BroadcastsInDim S2816x1024 (![] : Fin 0 → Fin S2816x1024.rank)
  reducesTo_S2816x1024_S_d0_1 : S2816x1024.ReducesTo [0, 1] S_

variable [Facts]

def fn_part1 {F : FTy → Type} [FloatOps F] (main_v3 : IVec S_ 1) (main_v8 : IVec S_ 1) (main_v13 : IVec S_ 1) (main_v16 : IVec S2816x1024 1) : IVec S_ 1 :=
  let main_c_5 : IVec S_ 1 := constantI S_ 1 1#1
  let main_v17 : IVec S_ 1 := (fun x v => Host.reduce IntOp.andi x v reducesTo_S2816x1024_S_d0_1 h_S_) main_v16 main_c_5
  let main_v18 : IVec S_ 1 := andi main_v3 main_v8
  let main_v19 : IVec S_ 1 := andi main_v18 main_v13
  let main_v20 : IVec S_ 1 := andi main_v19 main_v17
  main_v20

def fn {F : FTy → Type} [FloatOps F] (main_arg0 : FVec F S8192x1024 .f32) (main_arg1 : FVec F S8192x2816 .bf16) (main_arg2 : FVec F S8192x2816 .bf16) (main_arg3 : FVec F S2816x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x2816 .f32 := (extf .f32 · bitsLt_bf16_f32) main_arg1
  let main_v5 : FVec F S8192x2816 .f32 := Host.absf main_v4
  let main_cst_0 : FVec F S_ .f32 := constant S_ .f32 0x7F800000#32
  let main_v6 : FVec F S8192x2816 .f32 := broadcastInDim S8192x2816 ![] bcast_S_S8192x2816 main_cst_0
  let main_v7 : IVec S8192x2816 1 := cmpf .olt main_v5 main_v6
  let main_c_1 : IVec S_ 1 := constantI S_ 1 1#1
  let main_v8 : IVec S_ 1 := (fun x v => Host.reduce IntOp.andi x v reducesTo_S8192x2816_S_d0_1 h_S_) main_v7 main_c_1
  let main_v9 : FVec F S8192x2816 .f32 := (extf .f32 · bitsLt_bf16_f32) main_arg2
  let main_v10 : FVec F S8192x2816 .f32 := Host.absf main_v9
  let main_cst_2 : FVec F S_ .f32 := constant S_ .f32 0x7F800000#32
  let main_v11 : FVec F S8192x2816 .f32 := broadcastInDim S8192x2816 ![] bcast_S_S8192x2816 main_cst_2
  let main_v12 : IVec S8192x2816 1 := cmpf .olt main_v10 main_v11
  let main_c_3 : IVec S_ 1 := constantI S_ 1 1#1
  let main_v13 : IVec S_ 1 := (fun x v => Host.reduce IntOp.andi x v reducesTo_S8192x2816_S_d0_1 h_S_) main_v12 main_c_3
  let main_v14 : FVec F S2816x1024 .f32 := Host.absf main_arg3
  let main_cst_4 : FVec F S_ .f32 := constant S_ .f32 0x7F800000#32
  let main_v15 : FVec F S2816x1024 .f32 := broadcastInDim S2816x1024 ![] bcast_S_S2816x1024 main_cst_4
  let main_v16 : IVec S2816x1024 1 := cmpf .olt main_v14 main_v15
  fn_part1 (F := F) main_v3 main_v8 main_v13 main_v16
-- ==== Pre_finite5.lean ====
abbrev S8192x1024 : Shape := ⟨2, ![8192, 1024]⟩
abbrev S1x1024 : Shape := ⟨2, ![1, 1024]⟩
abbrev S1024x2816 : Shape := ⟨2, ![1024, 2816]⟩
abbrev S2816x1024 : Shape := ⟨2, ![2816, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1024x2816 : S_.BroadcastsInDim S1024x2816 (![] : Fin 0 → Fin S1024x2816.rank)
  reducesTo_S1024x2816_S_d0_1 : S1024x2816.ReducesTo [0, 1] S_
  bcast_S_S2816x1024 : S_.BroadcastsInDim S2816x1024 (![] : Fin 0 → Fin S2816x1024.rank)
  reducesTo_S2816x1024_S_d0_1 : S2816x1024.ReducesTo [0, 1] S_

variable [Facts]

def fn_part1 {F : FTy → Type} [FloatOps F] (main_arg4 : FVec F S2816x1024 .f32) (main_arg5 : FVec F S1x1024 .f32) (main_arg6 : FVec F S8192x1024 .f32) (main_v3 : IVec S_ 1) (main_v7 : IVec S_ 1) (main_v11 : IVec S_ 1) (main_v15 : IVec S_ 1) : IVec S_ 1 :=
  let main_v16 : FVec F S2816x1024 .f32 := Host.absf main_arg4
  let main_cst_6 : FVec F S_ .f32 := constant S_ .f32 0x7F800000#32
  let main_v17 : FVec F S2816x1024 .f32 := broadcastInDim S2816x1024 ![] bcast_S_S2816x1024 main_cst_6
  let main_v18 : IVec S2816x1024 1 := cmpf .olt main_v16 main_v17
  let main_c_7 : IVec S_ 1 := constantI S_ 1 1#1
  let main_v19 : IVec S_ 1 := (fun x v => Host.reduce IntOp.andi x v reducesTo_S2816x1024_S_d0_1 h_S_) main_v18 main_c_7
  let main_v20 : FVec F S1x1024 .f32 := Host.absf main_arg5
  let main_cst_8 : FVec F S_ .f32 := constant S_ .f32 0x7F800000#32
  let main_v21 : FVec F S1x1024 .f32 := broadcastInDim S1x1024 ![] bcast_S_S1x1024 main_cst_8
  let main_v22 : IVec S1x1024 1 := cmpf .olt main_v20 main_v21
  let main_c_9 : IVec S_ 1 := constantI S_ 1 1#1
  let main_v23 : IVec S_ 1 := (fun x v => Host.reduce IntOp.andi x v reducesTo_S1x1024_S_d0_1 h_S_) main_v22 main_c_9
  let main_v24 : FVec F S8192x1024 .f32 := Host.absf main_arg6
  let main_cst_10 : FVec F S_ .f32 := constant S_ .f32 0x7F800000#32
  let main_v25 : FVec F S8192x1024 .f32 := broadcastInDim S8192x1024 ![] bcast_S_S8192x1024 main_cst_10
  let main_v26 : IVec S8192x1024 1 := cmpf .olt main_v24 main_v25
  let main_c_11 : IVec S_ 1 := constantI S_ 1 1#1
  let main_v27 : IVec S_ 1 := (fun x v => Host.reduce IntOp.andi x v reducesTo_S8192x1024_S_d0_1 h_S_) main_v26 main_c_11
  let main_v28 : IVec S_ 1 := andi main_v3 main_v7
  let main_v29 : IVec S_ 1 := andi main_v28 main_v11
  let main_v30 : IVec S_ 1 := andi main_v29 main_v15
  let main_v31 : IVec S_ 1 := andi main_v30 main_v19
  let main_v32 : IVec S_ 1 := andi main_v31 main_v23
  let main_v33 : IVec S_ 1 := andi main_v32 main_v27
  main_v33

def fn {F : FTy → Type} [FloatOps F] (main_arg0 : FVec F S8192x1024 .f32) (main_arg1 : FVec F S1x1024 .f32) (main_arg2 : FVec F S1024x2816 .f32) (main_arg3 : FVec F S1024x2816 .f32) (main_arg4 : FVec F S2816x1024 .f32) (main_arg5 : FVec F S1x1024 .f32) (main_arg6 : FVec F S8192x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1x1024 .f32 := Host.absf main_arg1
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : FVec F S1024x2816 .f32 := Host.absf main_arg2
  let main_cst_2 : FVec F S_ .f32 := constant S_ .f32 0x7F800000#32
  let main_v9 : FVec F S1024x2816 .f32 := broadcastInDim S1024x2816 ![] bcast_S_S1024x2816 main_cst_2
  let main_v10 : IVec S1024x2816 1 := cmpf .olt main_v8 main_v9
  let main_c_3 : IVec S_ 1 := constantI S_ 1 1#1
  let main_v11 : IVec S_ 1 := (fun x v => Host.reduce IntOp.andi x v reducesTo_S1024x2816_S_d0_1 h_S_) main_v10 main_c_3
  let main_v12 : FVec F S1024x2816 .f32 := Host.absf main_arg3
  let main_cst_4 : FVec F S_ .f32 := constant S_ .f32 0x7F800000#32
  let main_v13 : FVec F S1024x2816 .f32 := broadcastInDim S1024x2816 ![] bcast_S_S1024x2816 main_cst_4
  let main_v14 : IVec S1024x2816 1 := cmpf .olt main_v12 main_v13
  let main_c_5 : IVec S_ 1 := constantI S_ 1 1#1
  let main_v15 : IVec S_ 1 := (fun x v => Host.reduce IntOp.andi x v reducesTo_S1024x2816_S_d0_1 h_S_) main_v14 main_c_5
  fn_part1 (F := F) main_arg4 main_arg5 main_arg6 main_v3 main_v7 main_v11 main_v15
-- ==== Kernel.lean ====
abbrev S2x4096x1024 : Shape := ⟨3, ![2, 4096, 1024]⟩
abbrev S2x4096x1536 : Shape := ⟨3, ![2, 4096, 1536]⟩
abbrev S31x512 : Shape := ⟨2, ![31, 512]⟩
abbrev S1x512 : Shape := ⟨2, ![1, 512]⟩
abbrev S2x4096x512 : Shape := ⟨3, ![2, 4096, 512]⟩
abbrev S_ : Shape := ⟨0, ![]⟩
abbrev S2x30x512 : Shape := ⟨3, ![2, 30, 512]⟩
abbrev S2x4126x512 : Shape := ⟨3, ![2, 4126, 512]⟩
abbrev S1x2x4096x512 : Shape := ⟨4, ![1, 2, 4096, 512]⟩
abbrev S16x2x4096x512 : Shape := ⟨4, ![16, 2, 4096, 512]⟩
abbrev S15x2x4096x512 : Shape := ⟨4, ![15, 2, 4096, 512]⟩
abbrev S31x2x4096x512 : Shape := ⟨4, ![31, 2, 4096, 512]⟩
abbrev S31x1x1x512 : Shape := ⟨4, ![31, 1, 1, 512]⟩
abbrev S1x1x512 : Shape := ⟨3, ![1, 1, 512]⟩
abbrev S32x512 : Shape := ⟨2, ![32, 512]⟩
abbrev S1x256x512 : Shape := ⟨3, ![1, 256, 512]⟩
abbrev S1x32x512 : Shape := ⟨3, ![1, 32, 512]⟩
abbrev S1x256x1024 : Shape := ⟨3, ![1, 256, 1024]⟩
abbrev S288x512 : Shape := ⟨2, ![288, 512]⟩
abbrev S264x512 : Shape := ⟨2, ![264, 512]⟩
abbrev S256x512 : Shape := ⟨2, ![256, 512]⟩
abbrev S256 : Shape := ⟨1, ![256]⟩
abbrev S256x1 : Shape := ⟨2, ![256, 1]⟩
abbrev S512 : Shape := ⟨1, ![512]⟩
abbrev S32 : Shape := ⟨1, ![32]⟩
abbrev S32x1 : Shape := ⟨2, ![32, 1]⟩
abbrev S8x512 : Shape := ⟨2, ![8, 512]⟩
abbrev S256x1024 : Shape := ⟨2, ![256, 1024]⟩

abbrev nBuf : Space → Nat
  | .hbm => 103
  | .vmem => 31
  | .smem => 0
  | _ => 0

abbrev bufTy : (tb : Table) → Fin (tcTables nBuf tb) → BufTy
  | .hbm, ⟨0, _⟩ => ⟨S2x4096x1024, .f32⟩
  | .hbm, ⟨1, _⟩ => ⟨S2x4096x1536, .f32⟩
  | .hbm, ⟨2, _⟩ => ⟨S31x512, .f32⟩
  | .hbm, ⟨3, _⟩ => ⟨S1x512, .f32⟩
  | .hbm, ⟨4, _⟩ => ⟨S1x512, .f32⟩
  | .hbm, ⟨5, _⟩ => ⟨S1x512, .f32⟩
  | .hbm, ⟨6, _⟩ => ⟨S1x512, .f32⟩
  | .hbm, ⟨7, _⟩ => ⟨S2x4096x512, .f32⟩
  | .hbm, ⟨8, _⟩ => ⟨S2x4096x512, .f32⟩
  | .hbm, ⟨9, _⟩ => ⟨S2x4096x512, .f32⟩
  | .hbm, ⟨10, _⟩ => ⟨S2x4096x512, .f32⟩
  | .hbm, ⟨11, _⟩ => ⟨S_, .f32⟩
  | .hbm, ⟨12, _⟩ => ⟨S2x4096x512, .f32⟩
  | .hbm, ⟨13, _⟩ => ⟨S2x4096x512, .f32⟩
  | .hbm, ⟨14, _⟩ => ⟨S_, .f32⟩
  | .hbm, ⟨15, _⟩ => ⟨S2x4096x512, .f32⟩
  | .hbm, ⟨16, _⟩ => ⟨S2x4096x512, .f32⟩
  | .hbm, ⟨17, _⟩ => ⟨S2x4096x512, .f32⟩
  | .hbm, ⟨18, _⟩ => ⟨S_, .f32⟩
  | .hbm, ⟨19, _⟩ => ⟨S2x30x512, .f32⟩
  | .hbm, ⟨20, _⟩ => ⟨S2x4126x512, .f32⟩
  | .hbm, ⟨21, _⟩ => ⟨S2x4096x512, .f32⟩
  | .hbm, ⟨22, _⟩ => ⟨S2x4096x512, .f32⟩
  | .hbm, ⟨23, _⟩ => ⟨S2x4096x512, .f32⟩
  | .hbm, ⟨24, _⟩ => ⟨S2x4096x512, .f32⟩
  | .hbm, ⟨25, _⟩ => ⟨S2x4096x512, .f32⟩
  | .hbm, ⟨26, _⟩ => ⟨S2x4096x512, .f32⟩
  | .hbm, ⟨27, _⟩ => ⟨S2x4096x512, .f32⟩
  | .hbm, ⟨28, _⟩ => ⟨S2x4096x512, .f32⟩
  | .hbm, ⟨29, _⟩ => ⟨S2x4096x512, .f32⟩
  | .hbm, ⟨30, _⟩ => ⟨S2x4096x512, .f32⟩
  | .hbm, ⟨31, _⟩ => ⟨S2x4096x512, .f32⟩
  | .hbm, ⟨32, _⟩ => ⟨S2x4096x512, .f32⟩
  | .hbm, ⟨33, _⟩ => ⟨S2x4096x512, .f32⟩
  | .hbm, ⟨34, _⟩ => ⟨S2x4096x512, .f32⟩
  | .hbm, ⟨35, _⟩ => ⟨S2x4096x512, .f32⟩
  | .hbm, ⟨36, _⟩ => ⟨S2x4096x512, .f32⟩
  | .hbm, ⟨37, _⟩ => ⟨S2x4096x512, .f32⟩
  | .hbm, ⟨38, _⟩ => ⟨S2x4096x512, .f32⟩
  | .hbm, ⟨39, _⟩ => ⟨S2x4096x512, .f32⟩
  | .hbm, ⟨40, _⟩ => ⟨S2x4096x512, .f32⟩
  | .hbm, ⟨41, _⟩ => ⟨S2x4096x512, .f32⟩
  | .hbm, ⟨42, _⟩ => ⟨S2x4096x512, .f32⟩
  | .hbm, ⟨43, _⟩ => ⟨S2x4096x512, .f32⟩
  | .hbm, ⟨44, _⟩ => ⟨S2x4096x512, .f32⟩
  | .hbm, ⟨45, _⟩ => ⟨S2x4096x512, .f32⟩
  | .hbm, ⟨46, _⟩ => ⟨S2x4096x512, .f32⟩
  | .hbm, ⟨47, _⟩ => ⟨S2x4096x512, .f32⟩
  | .hbm, ⟨48, _⟩ => ⟨S2x4096x512, .f32⟩
  | .hbm, ⟨49, _⟩ => ⟨S2x4096x512, .f32⟩
  | .hbm, ⟨50, _⟩ => ⟨S2x4096x512, .f32⟩
  | .hbm, ⟨51, _⟩ => ⟨S2x4096x512, .f32⟩
  | .hbm, ⟨52, _⟩ => ⟨S1x2x4096x512, .f32⟩
  | .hbm, ⟨53, _⟩ => ⟨S1x2x4096x512, .f32⟩
  | .hbm, ⟨54, _⟩ => ⟨S1x2x4096x512, .f32⟩
  | .hbm, ⟨55, _⟩ => ⟨S1x2x4096x512, .f32⟩
  | .hbm, ⟨56, _⟩ => ⟨S1x2x4096x512, .f32⟩
  | .hbm, ⟨57, _⟩ => ⟨S1x2x4096x512, .f32⟩
  | .hbm, ⟨58, _⟩ => ⟨S1x2x4096x512, .f32⟩
  | .hbm, ⟨59, _⟩ => ⟨S1x2x4096x512, .f32⟩
  | .hbm, ⟨60, _⟩ => ⟨S1x2x4096x512, .f32⟩
  | .hbm, ⟨61, _⟩ => ⟨S1x2x4096x512, .f32⟩
  | .hbm, ⟨62, _⟩ => ⟨S1x2x4096x512, .f32⟩
  | .hbm, ⟨63, _⟩ => ⟨S1x2x4096x512, .f32⟩
  | .hbm, ⟨64, _⟩ => ⟨S1x2x4096x512, .f32⟩
  | .hbm, ⟨65, _⟩ => ⟨S1x2x4096x512, .f32⟩
  | .hbm, ⟨66, _⟩ => ⟨S1x2x4096x512, .f32⟩
  | .hbm, ⟨67, _⟩ => ⟨S1x2x4096x512, .f32⟩
  | .hbm, ⟨68, _⟩ => ⟨S1x2x4096x512, .f32⟩
  | .hbm, ⟨69, _⟩ => ⟨S1x2x4096x512, .f32⟩
  | .hbm, ⟨70, _⟩ => ⟨S1x2x4096x512, .f32⟩
  | .hbm, ⟨71, _⟩ => ⟨S1x2x4096x512, .f32⟩
  | .hbm, ⟨72, _⟩ => ⟨S1x2x4096x512, .f32⟩
  | .hbm, ⟨73, _⟩ => ⟨S1x2x4096x512, .f32⟩
  | .hbm, ⟨74, _⟩ => ⟨S1x2x4096x512, .f32⟩
  | .hbm, ⟨75, _⟩ => ⟨S1x2x4096x512, .f32⟩
  | .hbm, ⟨76, _⟩ => ⟨S1x2x4096x512, .f32⟩
  | .hbm, ⟨77, _⟩ => ⟨S1x2x4096x512, .f32⟩
  | .hbm, ⟨78, _⟩ => ⟨S1x2x4096x512, .f32⟩
  | .hbm, ⟨79, _⟩ => ⟨S1x2x4096x512, .f32⟩
  | .hbm, ⟨80, _⟩ => ⟨S1x2x4096x512, .f32⟩
  | .hbm, ⟨81, _⟩ => ⟨S1x2x4096x512, .f32⟩
  | .hbm, ⟨82, _⟩ => ⟨S1x2x4096x512, .f32⟩
  | .hbm, ⟨83, _⟩ => ⟨S16x2x4096x512, .f32⟩
  | .hbm, ⟨84, _⟩ => ⟨S15x2x4096x512, .f32⟩
  | .hbm, ⟨85, _⟩ => ⟨S31x2x4096x512, .f32⟩
  | .hbm, ⟨86, _⟩ => ⟨S31x1x1x512, .f32⟩
  | .hbm, ⟨87, _⟩ => ⟨S31x2x4096x512, .f32⟩
  | .hbm, ⟨88, _⟩ => ⟨S31x2x4096x512, .f32⟩
  | .hbm, ⟨89, _⟩ => ⟨S_, .f32⟩
  | .hbm, ⟨90, _⟩ => ⟨S2x4096x512, .f32⟩
  | .hbm, ⟨91, _⟩ => ⟨S1x1x512, .f32⟩
  | .hbm, ⟨92, _⟩ => ⟨S2x4096x512, .f32⟩
  | .hbm, ⟨93, _⟩ => ⟨S2x4096x512, .f32⟩
  | .hbm, ⟨94, _⟩ => ⟨S_, .i32⟩
  | .hbm, ⟨95, _⟩ => ⟨S_, .f32⟩
  | .hbm, ⟨96, _⟩ => ⟨S32x512, .f32⟩
  | .hbm, ⟨97, _⟩ => ⟨S2x4096x1024, .bf16⟩
  | .hbm, ⟨98, _⟩ => ⟨S32x512, .f32⟩
  | .hbm, ⟨99, _⟩ => ⟨S1x512, .f32⟩
  | .hbm, ⟨100, _⟩ => ⟨S1x512, .f32⟩
  | .hbm, ⟨101, _⟩ => ⟨S1x512, .f32⟩
  | .hbm, ⟨102, _⟩ => ⟨S1x512, .f32⟩
  | .local _ .vmem, ⟨0, _⟩ => ⟨S1x256x512, .f32⟩
  | .local _ .vmem, ⟨1, _⟩ => ⟨S1x256x512, .f32⟩
  | .local _ .vmem, ⟨2, _⟩ => ⟨S1x256x512, .f32⟩
  | .local _ .vmem, ⟨3, _⟩ => ⟨S1x256x512, .f32⟩
  | .local _ .vmem, ⟨4, _⟩ => ⟨S1x32x512, .f32⟩
  | .local _ .vmem, ⟨5, _⟩ => ⟨S1x32x512, .f32⟩
  | .local _ .vmem, ⟨6, _⟩ => ⟨S1x32x512, .f32⟩
  | .local _ .vmem, ⟨7, _⟩ => ⟨S1x32x512, .f32⟩
  | .local _ .vmem, ⟨8, _⟩ => ⟨S1x256x512, .f32⟩
  | .local _ .vmem, ⟨9, _⟩ => ⟨S1x256x512, .f32⟩
  | .local _ .vmem, ⟨10, _⟩ => ⟨S1x32x512, .f32⟩
  | .local _ .vmem, ⟨11, _⟩ => ⟨S1x32x512, .f32⟩
  | .local _ .vmem, ⟨12, _⟩ => ⟨S1x256x512, .f32⟩
  | .local _ .vmem, ⟨13, _⟩ => ⟨S1x256x512, .f32⟩
  | .local _ .vmem, ⟨14, _⟩ => ⟨S1x32x512, .f32⟩
  | .local _ .vmem, ⟨15, _⟩ => ⟨S1x32x512, .f32⟩
  | .local _ .vmem, ⟨16, _⟩ => ⟨S32x512, .f32⟩
  | .local _ .vmem, ⟨17, _⟩ => ⟨S1x512, .f32⟩
  | .local _ .vmem, ⟨18, _⟩ => ⟨S1x512, .f32⟩
  | .local _ .vmem, ⟨19, _⟩ => ⟨S1x512, .f32⟩
  | .local _ .vmem, ⟨20, _⟩ => ⟨S1x256x1024, .bf16⟩
  | .local _ .vmem, ⟨21, _⟩ => ⟨S1x256x1024, .bf16⟩
  | .local _ .vmem, ⟨22, _⟩ => ⟨S32x512, .f32⟩
  | .local _ .vmem, ⟨23, _⟩ => ⟨S1x512, .f32⟩
  | .local _ .vmem, ⟨24, _⟩ => ⟨S1x512, .f32⟩
  | .local _ .vmem, ⟨25, _⟩ => ⟨S1x512, .f32⟩
  | .local _ .vmem, ⟨26, _⟩ => ⟨S1x512, .f32⟩
  | .local _ .vmem, ⟨27, _⟩ => ⟨S288x512, .f32⟩
  | .local _ .vmem, ⟨28, _⟩ => ⟨S288x512, .f32⟩
  | .local _ .vmem, ⟨29, _⟩ => ⟨S264x512, .f32⟩
  | .local _ .vmem, ⟨30, _⟩ => ⟨S264x512, .f32⟩
  | _, _ => ⟨S2x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_cst_2 : Ref sig .tc := ⟨.hbm, 89, rfl⟩
abbrev main_v79 : Ref sig .tc := ⟨.hbm, 90, rfl⟩
abbrev main_v80 : Ref sig .tc := ⟨.hbm, 91, rfl⟩
abbrev main_v81 : Ref sig .tc := ⟨.hbm, 92, rfl⟩
abbrev main_v82 : Ref sig .tc := ⟨.hbm, 93, rfl⟩
abbrev main_c : Ref sig .tc := ⟨.hbm, 94, rfl⟩
abbrev main_call0_v0 : Ref sig .tc := ⟨.hbm, 95, rfl⟩
abbrev main_v83 : Ref sig .tc := ⟨.hbm, 96, rfl⟩
abbrev main_v84_0 : Ref sig .tc := ⟨.hbm, 97, rfl⟩
abbrev main_v84_1 : Ref sig .tc := ⟨.hbm, 98, rfl⟩
abbrev main_v84_2 : Ref sig .tc := ⟨.hbm, 99, rfl⟩
abbrev main_v84_3 : Ref sig .tc := ⟨.hbm, 100, rfl⟩
abbrev main_v84_4 : Ref sig .tc := ⟨.hbm, 101, rfl⟩
abbrev main_v84_5 : Ref sig .tc := ⟨.hbm, 102, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg14_0 : Ref sig .tc := ⟨.vmem, 23, rfl⟩
abbrev cc0_stg15_0 : Ref sig .tc := ⟨.vmem, 24, rfl⟩
abbrev cc0_stg16_0 : Ref sig .tc := ⟨.vmem, 25, rfl⟩
abbrev cc0_stg17_0 : Ref sig .tc := ⟨.vmem, 26, rfl⟩
abbrev cc0_scratch0 : Ref sig .tc := ⟨.vmem, 27, rfl⟩
abbrev cc0_scratch1 : Ref sig .tc := ⟨.vmem, 28, rfl⟩
abbrev cc0_scratch2 : Ref sig .tc := ⟨.vmem, 29, rfl⟩
abbrev cc0_scratch3 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem12_1 : DmaSem sig := 21
abbrev cc0_sem13_0 : DmaSem sig := 22
abbrev cc0_sem14_0 : DmaSem sig := 23
abbrev cc0_sem15_0 : DmaSem sig := 24
abbrev cc0_sem16_0 : DmaSem sig := 25
abbrev cc0_sem17_0 : DmaSem sig := 26

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_2 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_3 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c1_i32 : BitVec 32 := 1#32
  let v1 : BitVec 32 := Scalar.subi v0 c1_i32
  let c0_i32 : BitVec 32 := 0#32
  let v2 : BitVec 32 := Scalar.maxsi v1 c0_i32
  let c1_i32_0 : BitVec 32 := 1#32
  let c0_i32_1 : BitVec 32 := 0#32
  ![arg0.toNat, v2.toNat, c1_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c8_i32 : BitVec 32 := 8#32
  let v1 : BitVec 32 := Scalar.muli v0 c8_i32
  let c127_i32 : BitVec 32 := 127#32
  let v2 : BitVec 32 := Scalar.minsi v1 c127_i32
  let c0_i32 : BitVec 32 := 0#32
  let c0_i32_0 : BitVec 32 := 0#32
  ![arg0.toNat, v2.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c8_i32 : BitVec 32 := 8#32
  let v1 : BitVec 32 := Scalar.muli v0 c8_i32
  let c127_i32 : BitVec 32 := 127#32
  let v2 : BitVec 32 := Scalar.minsi v1 c127_i32
  let c0_i32 : BitVec 32 := 0#32
  let c0_i32_0 : BitVec 32 := 0#32
  ![arg0.toNat, v2.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x32x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x32x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x32x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x32x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 1 → Memref sig .tc .vmem S32x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 1 → Memref sig .tc .vmem S32x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S1x512 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S1x512 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 1 → Memref sig .tc .vmem S1x512 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]
-- ==== ReferenceIdeal.lean ====
abbrev S2x4096x1024 : Shape := ⟨3, ![2, 4096, 1024]⟩
abbrev S2x4096x1536 : Shape := ⟨3, ![2, 4096, 1536]⟩
abbrev S31x512 : Shape := ⟨2, ![31, 512]⟩
abbrev S1x512 : Shape := ⟨2, ![1, 512]⟩
abbrev S2x4096x512 : Shape := ⟨3, ![2, 4096, 512]⟩
abbrev S_ : Shape := ⟨0, ![]⟩
abbrev S2x30x512 : Shape := ⟨3, ![2, 30, 512]⟩
abbrev S2x4126x512 : Shape := ⟨3, ![2, 4126, 512]⟩
abbrev S1x2x4096x512 : Shape := ⟨4, ![1, 2, 4096, 512]⟩
abbrev S16x2x4096x512 : Shape := ⟨4, ![16, 2, 4096, 512]⟩
abbrev S15x2x4096x512 : Shape := ⟨4, ![15, 2, 4096, 512]⟩
abbrev S31x2x4096x512 : Shape := ⟨4, ![31, 2, 4096, 512]⟩
abbrev S31x1x1x512 : Shape := ⟨4, ![31, 1, 1, 512]⟩
abbrev S1x1x512 : Shape := ⟨3, ![1, 1, 512]⟩
abbrev S2x4096 : Shape := ⟨2, ![2, 4096]⟩
abbrev S2x4096x1 : Shape := ⟨3, ![2, 4096, 1]⟩
abbrev S512 : Shape := ⟨1, ![512]⟩
abbrev S32x512 : Shape := ⟨2, ![32, 512]⟩

abbrev nBuf : Space → Nat
  | .hbm => 422
  | .vmem => 0
  | .smem => 0
  | _ => 0

abbrev hbmTy0_0 (i : Nat) : BufTy := match i % 128 with
  | 0 => ⟨S2x4096x1024, .f32⟩
  | 1 => ⟨S2x4096x1536, .f32⟩
  | 2 => ⟨S31x512, .f32⟩
  | 3 => ⟨S1x512, .f32⟩
  | 4 => ⟨S1x512, .f32⟩
  | 5 => ⟨S1x512, .f32⟩
  | 6 => ⟨S1x512, .f32⟩
  | 7 => ⟨S2x4096x512, .f32⟩
  | 8 => ⟨S2x4096x512, .f32⟩
  | 9 => ⟨S2x4096x512, .f32⟩
  | 10 => ⟨S2x4096x512, .f32⟩
  | 11 => ⟨S_, .f32⟩
  | 12 => ⟨S2x4096x512, .f32⟩
  | 13 => ⟨S2x4096x512, .f32⟩
  | 14 => ⟨S_, .f32⟩
  | 15 => ⟨S2x4096x512, .f32⟩
  | 16 => ⟨S2x4096x512, .f32⟩
  | 17 => ⟨S_, .f32⟩
  | 18 => ⟨S2x4096x512, .f32⟩
  | 19 => ⟨S2x4096x512, .f32⟩
  | 20 => ⟨S2x4096x512, .f32⟩
  | 21 => ⟨S2x4096x512, .f32⟩
  | 22 => ⟨S_, .f32⟩
  | 23 => ⟨S2x30x512, .f32⟩
  | 24 => ⟨S2x4126x512, .f32⟩
  | 25 => ⟨S_, .f32⟩
  | 26 => ⟨S2x30x512, .f32⟩
  | 27 => ⟨S2x4096x512, .f32⟩
  | 28 => ⟨S2x4096x512, .f32⟩
  | 29 => ⟨S2x4096x512, .f32⟩
  | 30 => ⟨S2x4096x512, .f32⟩
  | 31 => ⟨S2x4096x512, .f32⟩
  | 32 => ⟨S2x4096x512, .f32⟩
  | 33 => ⟨S2x4096x512, .f32⟩
  | 34 => ⟨S2x4096x512, .f32⟩
  | 35 => ⟨S2x4096x512, .f32⟩
  | 36 => ⟨S2x4096x512, .f32⟩
  | 37 => ⟨S2x4096x512, .f32⟩
  | 38 => ⟨S2x4096x512, .f32⟩
  | 39 => ⟨S2x4096x512, .f32⟩
  | 40 => ⟨S2x4096x512, .f32⟩
  | 41 => ⟨S2x4096x512, .f32⟩
  | 42 => ⟨S2x4096x512, .f32⟩
  | 43 => ⟨S2x4096x512, .f32⟩
  | 44 => ⟨S2x4096x512, .f32⟩
  | 45 => ⟨S2x4096x512, .f32⟩
  | 46 => ⟨S2x4096x512, .f32⟩
  | 47 => ⟨S2x4096x512, .f32⟩
  | 48 => ⟨S2x4096x512, .f32⟩
  | 49 => ⟨S2x4096x512, .f32⟩
  | 50 => ⟨S2x4096x512, .f32⟩
  | 51 => ⟨S2x4096x512, .f32⟩
  | 52 => ⟨S2x4096x512, .f32⟩
  | 53 => ⟨S2x4096x512, .f32⟩
  | 54 => ⟨S2x4096x512, .f32⟩
  | 55 => ⟨S2x4096x512, .f32⟩
  | 56 => ⟨S2x4096x512, .f32⟩
  | 57 => ⟨S2x4096x512, .f32⟩
  | 58 => ⟨S1x2x4096x512, .f32⟩
  | 59 => ⟨S1x2x4096x512, .f32⟩
  | 60 => ⟨S1x2x4096x512, .f32⟩
  | 61 => ⟨S1x2x4096x512, .f32⟩
  | 62 => ⟨S1x2x4096x512, .f32⟩
  | 63 => ⟨S1x2x4096x512, .f32⟩
  | 64 => ⟨S1x2x4096x512, .f32⟩
  | 65 => ⟨S1x2x4096x512, .f32⟩
  | 66 => ⟨S1x2x4096x512, .f32⟩
  | 67 => ⟨S1x2x4096x512, .f32⟩
  | 68 => ⟨S1x2x4096x512, .f32⟩
  | 69 => ⟨S1x2x4096x512, .f32⟩
  | 70 => ⟨S1x2x4096x512, .f32⟩
  | 71 => ⟨S1x2x4096x512, .f32⟩
  | 72 => ⟨S1x2x4096x512, .f32⟩
  | 73 => ⟨S1x2x4096x512, .f32⟩
  | 74 => ⟨S1x2x4096x512, .f32⟩
  | 75 => ⟨S1x2x4096x512, .f32⟩
  | 76 => ⟨S1x2x4096x512, .f32⟩
  | 77 => ⟨S1x2x4096x512, .f32⟩
  | 78 => ⟨S1x2x4096x512, .f32⟩
  | 79 => ⟨S1x2x4096x512, .f32⟩
  | 80 => ⟨S1x2x4096x512, .f32⟩
  | 81 => ⟨S1x2x4096x512, .f32⟩
  | 82 => ⟨S1x2x4096x512, .f32⟩
  | 83 => ⟨S1x2x4096x512, .f32⟩
  | 84 => ⟨S1x2x4096x512, .f32⟩
  | 85 => ⟨S1x2x4096x512, .f32⟩
  | 86 => ⟨S1x2x4096x512, .f32⟩
  | 87 => ⟨S1x2x4096x512, .f32⟩
  | 88 => ⟨S1x2x4096x512, .f32⟩
  | 89 => ⟨S16x2x4096x512, .f32⟩
  | 90 => ⟨S15x2x4096x512, .f32⟩
  | 91 => ⟨S31x2x4096x512, .f32⟩
  | 92 => ⟨S31x1x1x512, .f32⟩
  | 93 => ⟨S31x2x4096x512, .f32⟩
  | 94 => ⟨S31x2x4096x512, .f32⟩
  | 95 => ⟨S_, .f32⟩
  | 96 => ⟨S2x4096x512, .f32⟩
  | 97 => ⟨S1x1x512, .f32⟩
  | 98 => ⟨S2x4096x512, .f32⟩
  | 99 => ⟨S2x4096x512, .f32⟩
  | 100 => ⟨S_, .f32⟩
  | 101 => ⟨S2x4096, .f32⟩
  | 102 => ⟨S2x4096x1, .f32⟩
  | 103 => ⟨S_, .f32⟩
  | 104 => ⟨S2x4096x1, .f32⟩
  | 105 => ⟨S2x4096x1, .f32⟩
  | 106 => ⟨S2x4096x512, .f32⟩
  | 107 => ⟨S2x4096x512, .f32⟩
  | 108 => ⟨S2x4096x512, .f32⟩
  | 109 => ⟨S_, .f32⟩
  | 110 => ⟨S2x4096, .f32⟩
  | 111 => ⟨S2x4096x1, .f32⟩
  | 112 => ⟨S_, .f32⟩
  | 113 => ⟨S2x4096x1, .f32⟩
  | 114 => ⟨S2x4096x1, .f32⟩
  | 115 => ⟨S_, .f32⟩
  | 116 => ⟨S2x4096x1, .f32⟩
  | 117 => ⟨S2x4096x1, .f32⟩
  | 118 => ⟨S2x4096x1, .f32⟩
  | 119 => ⟨S2x4096x1, .f32⟩
  | 120 => ⟨S_, .f32⟩
  | 121 => ⟨S2x4096x1, .f32⟩
  | 122 => ⟨S2x4096x1, .f32⟩
  | 123 => ⟨S2x4096x512, .f32⟩
  | 124 => ⟨S2x4096x512, .f32⟩
  | 125 => ⟨S1x1x512, .f32⟩
  | 126 => ⟨S2x4096x512, .f32⟩
  | 127 => ⟨S2x4096x512, .f32⟩
  | _ => ⟨S2x4096x1024, .f32⟩

abbrev hbmTy0_1 (i : Nat) : BufTy := match i % 128 with
  | 0 => ⟨S1x1x512, .f32⟩
  | 1 => ⟨S2x4096x512, .f32⟩
  | 2 => ⟨S2x4096x512, .f32⟩
  | 3 => ⟨S2x4096x512, .f32⟩
  | 4 => ⟨S2x4096x512, .f32⟩
  | 5 => ⟨S_, .f32⟩
  | 6 => ⟨S2x4096x512, .f32⟩
  | 7 => ⟨S2x4096x512, .f32⟩
  | 8 => ⟨S_, .f32⟩
  | 9 => ⟨S2x4096x512, .f32⟩
  | 10 => ⟨S2x4096x512, .f32⟩
  | 11 => ⟨S_, .f32⟩
  | 12 => ⟨S2x4096x512, .f32⟩
  | 13 => ⟨S2x4096x512, .f32⟩
  | 14 => ⟨S2x4096x512, .f32⟩
  | 15 => ⟨S2x4096x512, .f32⟩
  | 16 => ⟨S2x4096x512, .f32⟩
  | 17 => ⟨S_, .f32⟩
  | 18 => ⟨S2x4096, .f32⟩
  | 19 => ⟨S2x4096x1, .f32⟩
  | 20 => ⟨S_, .f32⟩
  | 21 => ⟨S2x4096x1, .f32⟩
  | 22 => ⟨S2x4096x1, .f32⟩
  | 23 => ⟨S_, .f32⟩
  | 24 => ⟨S2x4096x1, .f32⟩
  | 25 => ⟨S2x4096x1, .f32⟩
  | 26 => ⟨S2x4096x1, .f32⟩
  | 27 => ⟨S2x4096x1, .f32⟩
  | 28 => ⟨S_, .f32⟩
  | 29 => ⟨S2x4096x1, .f32⟩
  | 30 => ⟨S2x4096x1, .f32⟩
  | 31 => ⟨S2x4096x512, .f32⟩
  | 32 => ⟨S2x4096x512, .f32⟩
  | 33 => ⟨S1x1x512, .f32⟩
  | 34 => ⟨S2x4096x512, .f32⟩
  | 35 => ⟨S2x4096x512, .f32⟩
  | 36 => ⟨S2x4096x512, .f32⟩
  | 37 => ⟨S2x4096x512, .f32⟩
  | 38 => ⟨S_, .f32⟩
  | 39 => ⟨S512, .f32⟩
  | 40 => ⟨S1x1x512, .f32⟩
  | 41 => ⟨S2x4096x512, .f32⟩
  | 42 => ⟨S2x4096x512, .f32⟩
  | 43 => ⟨S_, .f32⟩
  | 44 => ⟨S512, .f32⟩
  | 45 => ⟨S1x512, .f32⟩
  | 46 => ⟨S2x4096x512, .f32⟩
  | 47 => ⟨S_, .f32⟩
  | 48 => ⟨S2x4096, .f32⟩
  | 49 => ⟨S2x4096x1, .f32⟩
  | 50 => ⟨S2x4096x512, .f32⟩
  | 51 => ⟨S2x4096x512, .f32⟩
  | 52 => ⟨S2x4096x1, .f32⟩
  | 53 => ⟨S_, .f32⟩
  | 54 => ⟨S2x4096x1, .f32⟩
  | 55 => ⟨S2x4096x1, .f32⟩
  | 56 => ⟨S_, .f32⟩
  | 57 => ⟨S2x4096, .f32⟩
  | 58 => ⟨S2x4096x512, .f32⟩
  | 59 => ⟨S2x4096x512, .f32⟩
  | 60 => ⟨S2x4096x512, .f32⟩
  | 61 => ⟨S2x4096x512, .f32⟩
  | 62 => ⟨S2x4096x512, .f32⟩
  | 63 => ⟨S2x4096x512, .f32⟩
  | 64 => ⟨S2x4096x512, .f32⟩
  | 65 => ⟨S2x4096x512, .f32⟩
  | 66 => ⟨S2x4096x512, .f32⟩
  | 67 => ⟨S_, .f32⟩
  | 68 => ⟨S512, .f32⟩
  | 69 => ⟨S1x1x512, .f32⟩
  | 70 => ⟨S_, .f32⟩
  | 71 => ⟨S512, .f32⟩
  | 72 => ⟨S1x512, .f32⟩
  | 73 => ⟨S2x4096x512, .f32⟩
  | 74 => ⟨S_, .f32⟩
  | 75 => ⟨S512, .f32⟩
  | 76 => ⟨S1x1x512, .f32⟩
  | 77 => ⟨S2x4096x512, .f32⟩
  | 78 => ⟨S2x4096x512, .f32⟩
  | 79 => ⟨S_, .f32⟩
  | 80 => ⟨S512, .f32⟩
  | 81 => ⟨S1x512, .f32⟩
  | 82 => ⟨S2x4096x512, .f32⟩
  | 83 => ⟨S_, .f32⟩
  | 84 => ⟨S2x4096, .f32⟩
  | 85 => ⟨S2x4096x1, .f32⟩
  | 86 => ⟨S2x4096x512, .f32⟩
  | 87 => ⟨S2x4096x512, .f32⟩
  | 88 => ⟨S2x4096x1, .f32⟩
  | 89 => ⟨S_, .f32⟩
  | 90 => ⟨S2x4096x1, .f32⟩
  | 91 => ⟨S2x4096x1, .f32⟩
  | 92 => ⟨S_, .f32⟩
  | 93 => ⟨S2x4096, .f32⟩
  | 94 => ⟨S2x4096x512, .f32⟩
  | 95 => ⟨S2x4096x512, .f32⟩
  | 96 => ⟨S2x4096x512, .f32⟩
  | 97 => ⟨S2x4096x512, .f32⟩
  | 98 => ⟨S2x4096x512, .f32⟩
  | 99 => ⟨S2x4096x512, .f32⟩
  | 100 => ⟨S_, .f32⟩
  | 101 => ⟨S2x4096, .f32⟩
  | 102 => ⟨S2x4096x1, .f32⟩
  | 103 => ⟨S_, .f32⟩
  | 104 => ⟨S2x4096x1, .f32⟩
  | 105 => ⟨S2x4096x1, .f32⟩
  | 106 => ⟨S_, .f32⟩
  | 107 => ⟨S2x4096, .f32⟩
  | 108 => ⟨S2x4096x512, .f32⟩
  | 109 => ⟨S2x4096x512, .f32⟩
  | 110 => ⟨S_, .f32⟩
  | 111 => ⟨S512, .f32⟩
  | 112 => ⟨S1x1x512, .f32⟩
  | 113 => ⟨S_, .f32⟩
  | 114 => ⟨S512, .f32⟩
  | 115 => ⟨S1x512, .f32⟩
  | 116 => ⟨S31x2x4096x512, .f32⟩
  | 117 => ⟨S31x2x4096x512, .f32⟩
  | 118 => ⟨S_, .f32⟩
  | 119 => ⟨S31x512, .f32⟩
  | 120 => ⟨S31x1x1x512, .f32⟩
  | 121 => ⟨S31x2x4096x512, .f32⟩
  | 122 => ⟨S31x2x4096x512, .f32⟩
  | 123 => ⟨S_, .f32⟩
  | 124 => ⟨S31x512, .f32⟩
  | 125 => ⟨S1x2x4096x512, .f32⟩
  | 126 => ⟨S2x4096x512, .f32⟩
  | 127 => ⟨S1x2x4096x512, .f32⟩
  | _ => ⟨S2x4096x1024, .f32⟩

abbrev hbmTy0_2 (i : Nat) : BufTy := match i % 128 with
  | 0 => ⟨S2x4096x512, .f32⟩
  | 1 => ⟨S1x2x4096x512, .f32⟩
  | 2 => ⟨S2x4096x512, .f32⟩
  | 3 => ⟨S1x2x4096x512, .f32⟩
  | 4 => ⟨S2x4096x512, .f32⟩
  | 5 => ⟨S1x2x4096x512, .f32⟩
  | 6 => ⟨S2x4096x512, .f32⟩
  | 7 => ⟨S1x2x4096x512, .f32⟩
  | 8 => ⟨S2x4096x512, .f32⟩
  | 9 => ⟨S1x2x4096x512, .f32⟩
  | 10 => ⟨S2x4096x512, .f32⟩
  | 11 => ⟨S1x2x4096x512, .f32⟩
  | 12 => ⟨S2x4096x512, .f32⟩
  | 13 => ⟨S1x2x4096x512, .f32⟩
  | 14 => ⟨S2x4096x512, .f32⟩
  | 15 => ⟨S1x2x4096x512, .f32⟩
  | 16 => ⟨S2x4096x512, .f32⟩
  | 17 => ⟨S1x2x4096x512, .f32⟩
  | 18 => ⟨S2x4096x512, .f32⟩
  | 19 => ⟨S1x2x4096x512, .f32⟩
  | 20 => ⟨S2x4096x512, .f32⟩
  | 21 => ⟨S1x2x4096x512, .f32⟩
  | 22 => ⟨S2x4096x512, .f32⟩
  | 23 => ⟨S1x2x4096x512, .f32⟩
  | 24 => ⟨S2x4096x512, .f32⟩
  | 25 => ⟨S1x2x4096x512, .f32⟩
  | 26 => ⟨S2x4096x512, .f32⟩
  | 27 => ⟨S1x2x4096x512, .f32⟩
  | 28 => ⟨S2x4096x512, .f32⟩
  | 29 => ⟨S1x2x4096x512, .f32⟩
  | 30 => ⟨S2x4096x512, .f32⟩
  | 31 => ⟨S1x2x4096x512, .f32⟩
  | 32 => ⟨S2x4096x512, .f32⟩
  | 33 => ⟨S1x2x4096x512, .f32⟩
  | 34 => ⟨S2x4096x512, .f32⟩
  | 35 => ⟨S1x2x4096x512, .f32⟩
  | 36 => ⟨S2x4096x512, .f32⟩
  | 37 => ⟨S1x2x4096x512, .f32⟩
  | 38 => ⟨S2x4096x512, .f32⟩
  | 39 => ⟨S1x2x4096x512, .f32⟩
  | 40 => ⟨S2x4096x512, .f32⟩
  | 41 => ⟨S1x2x4096x512, .f32⟩
  | 42 => ⟨S2x4096x512, .f32⟩
  | 43 => ⟨S1x2x4096x512, .f32⟩
  | 44 => ⟨S2x4096x512, .f32⟩
  | 45 => ⟨S1x2x4096x512, .f32⟩
  | 46 => ⟨S2x4096x512, .f32⟩
  | 47 => ⟨S1x2x4096x512, .f32⟩
  | 48 => ⟨S2x4096x512, .f32⟩
  | 49 => ⟨S1x2x4096x512, .f32⟩
  | 50 => ⟨S2x4096x512, .f32⟩
  | 51 => ⟨S1x2x4096x512, .f32⟩
  | 52 => ⟨S2x4096x512, .f32⟩
  | 53 => ⟨S1x2x4096x512, .f32⟩
  | 54 => ⟨S2x4096x512, .f32⟩
  | 55 => ⟨S1x2x4096x512, .f32⟩
  | 56 => ⟨S2x4096x512, .f32⟩
  | 57 => ⟨S1x2x4096x512, .f32⟩
  | 58 => ⟨S2x4096x512, .f32⟩
  | 59 => ⟨S_, .f32⟩
  | 60 => ⟨S2x4126x512, .f32⟩
  | 61 => ⟨S_, .f32⟩
  | 62 => ⟨S2x4126x512, .f32⟩
  | 63 => ⟨S2x4126x512, .f32⟩
  | 64 => ⟨S_, .f32⟩
  | 65 => ⟨S2x4126x512, .f32⟩
  | 66 => ⟨S2x4126x512, .f32⟩
  | 67 => ⟨S_, .f32⟩
  | 68 => ⟨S2x4126x512, .f32⟩
  | 69 => ⟨S2x4126x512, .f32⟩
  | 70 => ⟨S_, .f32⟩
  | 71 => ⟨S2x4126x512, .f32⟩
  | 72 => ⟨S2x4126x512, .f32⟩
  | 73 => ⟨S_, .f32⟩
  | 74 => ⟨S2x4126x512, .f32⟩
  | 75 => ⟨S2x4126x512, .f32⟩
  | 76 => ⟨S_, .f32⟩
  | 77 => ⟨S2x4126x512, .f32⟩
  | 78 => ⟨S2x4126x512, .f32⟩
  | 79 => ⟨S_, .f32⟩
  | 80 => ⟨S2x4126x512, .f32⟩
  | 81 => ⟨S2x4126x512, .f32⟩
  | 82 => ⟨S_, .f32⟩
  | 83 => ⟨S2x4126x512, .f32⟩
  | 84 => ⟨S2x4126x512, .f32⟩
  | 85 => ⟨S_, .f32⟩
  | 86 => ⟨S2x4126x512, .f32⟩
  | 87 => ⟨S2x4126x512, .f32⟩
  | 88 => ⟨S_, .f32⟩
  | 89 => ⟨S2x4126x512, .f32⟩
  | 90 => ⟨S2x4126x512, .f32⟩
  | 91 => ⟨S_, .f32⟩
  | 92 => ⟨S2x4126x512, .f32⟩
  | 93 => ⟨S2x4126x512, .f32⟩
  | 94 => ⟨S_, .f32⟩
  | 95 => ⟨S2x4126x512, .f32⟩
  | 96 => ⟨S2x4126x512, .f32⟩
  | 97 => ⟨S_, .f32⟩
  | 98 => ⟨S2x4126x512, .f32⟩
  | 99 => ⟨S2x4126x512, .f32⟩
  | 100 => ⟨S_, .f32⟩
  | 101 => ⟨S2x4126x512, .f32⟩
  | 102 => ⟨S2x4126x512, .f32⟩
  | 103 => ⟨S_, .f32⟩
  | 104 => ⟨S2x4126x512, .f32⟩
  | 105 => ⟨S2x4126x512, .f32⟩
  | 106 => ⟨S_, .f32⟩
  | 107 => ⟨S2x4126x512, .f32⟩
  | 108 => ⟨S2x4126x512, .f32⟩
  | 109 => ⟨S_, .f32⟩
  | 110 => ⟨S2x4126x512, .f32⟩
  | 111 => ⟨S2x4126x512, .f32⟩
  | 112 => ⟨S_, .f32⟩
  | 113 => ⟨S2x4126x512, .f32⟩
  | 114 => ⟨S2x4126x512, .f32⟩
  | 115 => ⟨S_, .f32⟩
  | 116 => ⟨S2x4126x512, .f32⟩
  | 117 => ⟨S2x4126x512, .f32⟩
  | 118 => ⟨S_, .f32⟩
  | 119 => ⟨S2x4126x512, .f32⟩
  | 120 => ⟨S2x4126x512, .f32⟩
  | 121 => ⟨S_, .f32⟩
  | 122 => ⟨S2x4126x512, .f32⟩
  | 123 => ⟨S2x4126x512, .f32⟩
  | 124 => ⟨S_, .f32⟩
  | 125 => ⟨S2x4126x512, .f32⟩
  | 126 => ⟨S2x4126x512, .f32⟩
  | 127 => ⟨S_, .f32⟩
  | _ => ⟨S2x4096x1024, .f32⟩

abbrev hbmTy0_3 (i : Nat) : BufTy := match i % 128 with
  | 0 => ⟨S2x4126x512, .f32⟩
  | 1 => ⟨S2x4126x512, .f32⟩
  | 2 => ⟨S_, .f32⟩
  | 3 => ⟨S2x4126x512, .f32⟩
  | 4 => ⟨S2x4126x512, .f32⟩
  | 5 => ⟨S_, .f32⟩
  | 6 => ⟨S2x4126x512, .f32⟩
  | 7 => ⟨S2x4126x512, .f32⟩
  | 8 => ⟨S_, .f32⟩
  | 9 => ⟨S2x4126x512, .f32⟩
  | 10 => ⟨S2x4126x512, .f32⟩
  | 11 => ⟨S_, .f32⟩
  | 12 => ⟨S2x4126x512, .f32⟩
  | 13 => ⟨S2x4126x512, .f32⟩
  | 14 => ⟨S_, .f32⟩
  | 15 => ⟨S2x4126x512, .f32⟩
  | 16 => ⟨S2x4126x512, .f32⟩
  | 17 => ⟨S_, .f32⟩
  | 18 => ⟨S2x4126x512, .f32⟩
  | 19 => ⟨S2x4126x512, .f32⟩
  | 20 => ⟨S_, .f32⟩
  | 21 => ⟨S2x4126x512, .f32⟩
  | 22 => ⟨S2x4126x512, .f32⟩
  | 23 => ⟨S2x30x512, .f32⟩
  | 24 => ⟨S2x4096x512, .f32⟩
  | 25 => ⟨S2x4096x512, .f32⟩
  | 26 => ⟨S2x4096x512, .f32⟩
  | 27 => ⟨S2x4096x512, .f32⟩
  | 28 => ⟨S_, .f32⟩
  | 29 => ⟨S2x4096x1536, .f32⟩
  | 30 => ⟨S_, .f32⟩
  | 31 => ⟨S2x4096x1536, .f32⟩
  | 32 => ⟨S2x4096x1536, .f32⟩
  | 33 => ⟨S2x4096x1024, .f32⟩
  | 34 => ⟨S2x4096x1024, .bf16⟩
  | 35 => ⟨S_, .i32⟩
  | 36 => ⟨S_, .f32⟩
  | 37 => ⟨S32x512, .f32⟩
  | _ => ⟨S2x4096x1024, .f32⟩

abbrev hbmTy (i : Nat) : BufTy := match i / 128 with
  | 0 => hbmTy0_0 i
  | 1 => hbmTy0_1 i
  | 2 => hbmTy0_2 i
  | 3 => hbmTy0_3 i
  | _ => ⟨S2x4096x1024, .f32⟩

abbrev bufTy : (tb : Table) → Fin (tcTables nBuf tb) → BufTy
  | .hbm, ⟨i, _⟩ => hbmTy i
  | _, _ => ⟨S2x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_cst_3 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩
abbrev main_v79 : Ref sig .tc := ⟨.hbm, 91, rfl⟩
abbrev main_v80 : Ref sig .tc := ⟨.hbm, 92, rfl⟩
abbrev main_v81 : Ref sig .tc := ⟨.hbm, 93, rfl⟩
abbrev main_v82 : Ref sig .tc := ⟨.hbm, 94, rfl⟩
abbrev main_cst_4 : Ref sig .tc := ⟨.hbm, 95, rfl⟩
abbrev main_v83 : Ref sig .tc := ⟨.hbm, 96, rfl⟩
abbrev main_v84 : Ref sig .tc := ⟨.hbm, 97, rfl⟩
abbrev main_v85 : Ref sig .tc := ⟨.hbm, 98, rfl⟩
abbrev main_v86 : Ref sig .tc := ⟨.hbm, 99, rfl⟩
abbrev main_cst_5 : Ref sig .tc := ⟨.hbm, 100, rfl⟩
abbrev main_v87 : Ref sig .tc := ⟨.hbm, 101, rfl⟩
abbrev main_v88 : Ref sig .tc := ⟨.hbm, 102, rfl⟩
abbrev main_cst_6 : Ref sig .tc := ⟨.hbm, 103, rfl⟩
abbrev main_v89 : Ref sig .tc := ⟨.hbm, 104, rfl⟩
abbrev main_v90 : Ref sig .tc := ⟨.hbm, 105, rfl⟩
abbrev main_v91 : Ref sig .tc := ⟨.hbm, 106, rfl⟩
abbrev main_v92 : Ref sig .tc := ⟨.hbm, 107, rfl⟩
abbrev main_v93 : Ref sig .tc := ⟨.hbm, 108, rfl⟩
abbrev main_cst_7 : Ref sig .tc := ⟨.hbm, 109, rfl⟩
abbrev main_v94 : Ref sig .tc := ⟨.hbm, 110, rfl⟩
abbrev main_v95 : Ref sig .tc := ⟨.hbm, 111, rfl⟩
abbrev main_cst_8 : Ref sig .tc := ⟨.hbm, 112, rfl⟩
abbrev main_v96 : Ref sig .tc := ⟨.hbm, 113, rfl⟩
abbrev main_v97 : Ref sig .tc := ⟨.hbm, 114, rfl⟩
abbrev main_cst_9 : Ref sig .tc := ⟨.hbm, 115, rfl⟩
abbrev main_v98 : Ref sig .tc := ⟨.hbm, 116, rfl⟩
abbrev main_v99 : Ref sig .tc := ⟨.hbm, 117, rfl⟩
abbrev main_v100 : Ref sig .tc := ⟨.hbm, 118, rfl⟩
abbrev main_v101 : Ref sig .tc := ⟨.hbm, 119, rfl⟩
abbrev main_cst_10 : Ref sig .tc := ⟨.hbm, 120, rfl⟩
abbrev main_v102 : Ref sig .tc := ⟨.hbm, 121, rfl⟩
abbrev main_v103 : Ref sig .tc := ⟨.hbm, 122, rfl⟩
abbrev main_v104 : Ref sig .tc := ⟨.hbm, 123, rfl⟩
abbrev main_v105 : Ref sig .tc := ⟨.hbm, 124, rfl⟩
abbrev main_v106 : Ref sig .tc := ⟨.hbm, 125, rfl⟩
abbrev main_v107 : Ref sig .tc := ⟨.hbm, 126, rfl⟩
abbrev main_v108 : Ref sig .tc := ⟨.hbm, 127, rfl⟩
abbrev main_v109 : Ref sig .tc := ⟨.hbm, 128, rfl⟩
abbrev main_v110 : Ref sig .tc := ⟨.hbm, 129, rfl⟩
abbrev main_v111 : Ref sig .tc := ⟨.hbm, 130, rfl⟩
abbrev main_call0_v0 : Ref sig .tc := ⟨.hbm, 131, rfl⟩
abbrev main_call0_v1 : Ref sig .tc := ⟨.hbm, 132, rfl⟩
abbrev main_call0_cst : Ref sig .tc := ⟨.hbm, 133, rfl⟩
abbrev main_call0_v2 : Ref sig .tc := ⟨.hbm, 134, rfl⟩
abbrev main_call0_v3 : Ref sig .tc := ⟨.hbm, 135, rfl⟩
abbrev main_call0_cst_0 : Ref sig .tc := ⟨.hbm, 136, rfl⟩
abbrev main_call0_v4 : Ref sig .tc := ⟨.hbm, 137, rfl⟩
abbrev main_v112_2 : Ref sig .tc := ⟨.hbm, 138, rfl⟩
abbrev main_call0_cst_1 : Ref sig .tc := ⟨.hbm, 139, rfl⟩
abbrev main_call0_v6 : Ref sig .tc := ⟨.hbm, 140, rfl⟩
abbrev main_call0_v7 : Ref sig .tc := ⟨.hbm, 141, rfl⟩
abbrev main_v112_1 : Ref sig .tc := ⟨.hbm, 142, rfl⟩
abbrev main_v112_0 : Ref sig .tc := ⟨.hbm, 143, rfl⟩
abbrev main_v113 : Ref sig .tc := ⟨.hbm, 144, rfl⟩
abbrev main_cst_11 : Ref sig .tc := ⟨.hbm, 145, rfl⟩
abbrev main_v114 : Ref sig .tc := ⟨.hbm, 146, rfl⟩
abbrev main_v115 : Ref sig .tc := ⟨.hbm, 147, rfl⟩
abbrev main_cst_12 : Ref sig .tc := ⟨.hbm, 148, rfl⟩
abbrev main_v116 : Ref sig .tc := ⟨.hbm, 149, rfl⟩
abbrev main_v117 : Ref sig .tc := ⟨.hbm, 150, rfl⟩
abbrev main_cst_13 : Ref sig .tc := ⟨.hbm, 151, rfl⟩
abbrev main_v118 : Ref sig .tc := ⟨.hbm, 152, rfl⟩
abbrev main_v119 : Ref sig .tc := ⟨.hbm, 153, rfl⟩
abbrev main_v120 : Ref sig .tc := ⟨.hbm, 154, rfl⟩
abbrev main_v121 : Ref sig .tc := ⟨.hbm, 155, rfl⟩
abbrev main_cst_14 : Ref sig .tc := ⟨.hbm, 156, rfl⟩
abbrev main_v122 : Ref sig .tc := ⟨.hbm, 157, rfl⟩
abbrev main_v123 : Ref sig .tc := ⟨.hbm, 158, rfl⟩
abbrev main_v124 : Ref sig .tc := ⟨.hbm, 159, rfl⟩
abbrev main_v125 : Ref sig .tc := ⟨.hbm, 160, rfl⟩
abbrev main_v126 : Ref sig .tc := ⟨.hbm, 161, rfl⟩
abbrev main_v127 : Ref sig .tc := ⟨.hbm, 162, rfl⟩
abbrev main_v128 : Ref sig .tc := ⟨.hbm, 163, rfl⟩
abbrev main_v129 : Ref sig .tc := ⟨.hbm, 164, rfl⟩
abbrev main_v130 : Ref sig .tc := ⟨.hbm, 165, rfl⟩
abbrev main_cst_15 : Ref sig .tc := ⟨.hbm, 166, rfl⟩
abbrev main_v131 : Ref sig .tc := ⟨.hbm, 167, rfl⟩
abbrev main_v132 : Ref sig .tc := ⟨.hbm, 168, rfl⟩
abbrev main_v133 : Ref sig .tc := ⟨.hbm, 169, rfl⟩
abbrev main_v134 : Ref sig .tc := ⟨.hbm, 170, rfl⟩
abbrev main_cst_16 : Ref sig .tc := ⟨.hbm, 171, rfl⟩
abbrev main_v135 : Ref sig .tc := ⟨.hbm, 172, rfl⟩
abbrev main_v136 : Ref sig .tc := ⟨.hbm, 173, rfl⟩
abbrev main_v137 : Ref sig .tc := ⟨.hbm, 174, rfl⟩
abbrev main_cst_17 : Ref sig .tc := ⟨.hbm, 175, rfl⟩
abbrev main_v138 : Ref sig .tc := ⟨.hbm, 176, rfl⟩
abbrev main_v139 : Ref sig .tc := ⟨.hbm, 177, rfl⟩
abbrev main_v140 : Ref sig .tc := ⟨.hbm, 178, rfl⟩
abbrev main_v141 : Ref sig .tc := ⟨.hbm, 179, rfl⟩
abbrev main_v142 : Ref sig .tc := ⟨.hbm, 180, rfl⟩
abbrev main_cst_18 : Ref sig .tc := ⟨.hbm, 181, rfl⟩
abbrev main_v143 : Ref sig .tc := ⟨.hbm, 182, rfl⟩
abbrev main_v144 : Ref sig .tc := ⟨.hbm, 183, rfl⟩
abbrev main_cst_19 : Ref sig .tc := ⟨.hbm, 184, rfl⟩
abbrev main_v145 : Ref sig .tc := ⟨.hbm, 185, rfl⟩
abbrev main_v146 : Ref sig .tc := ⟨.hbm, 186, rfl⟩
abbrev main_v147 : Ref sig .tc := ⟨.hbm, 187, rfl⟩
abbrev main_v148 : Ref sig .tc := ⟨.hbm, 188, rfl⟩
abbrev main_v149 : Ref sig .tc := ⟨.hbm, 189, rfl⟩
abbrev main_v150 : Ref sig .tc := ⟨.hbm, 190, rfl⟩
abbrev main_call1_v0 : Ref sig .tc := ⟨.hbm, 191, rfl⟩
abbrev main_call1_v1 : Ref sig .tc := ⟨.hbm, 192, rfl⟩
abbrev main_call1_v2 : Ref sig .tc := ⟨.hbm, 193, rfl⟩
abbrev main_v151 : Ref sig .tc := ⟨.hbm, 194, rfl⟩
abbrev main_cst_20 : Ref sig .tc := ⟨.hbm, 195, rfl⟩
abbrev main_v152 : Ref sig .tc := ⟨.hbm, 196, rfl⟩
abbrev main_v153 : Ref sig .tc := ⟨.hbm, 197, rfl⟩
abbrev main_cst_21 : Ref sig .tc := ⟨.hbm, 198, rfl⟩
abbrev main_v154 : Ref sig .tc := ⟨.hbm, 199, rfl⟩
abbrev main_v155 : Ref sig .tc := ⟨.hbm, 200, rfl⟩
abbrev main_v156 : Ref sig .tc := ⟨.hbm, 201, rfl⟩
abbrev main_cst_22 : Ref sig .tc := ⟨.hbm, 202, rfl⟩
abbrev main_v157 : Ref sig .tc := ⟨.hbm, 203, rfl⟩
abbrev main_v158 : Ref sig .tc := ⟨.hbm, 204, rfl⟩
abbrev main_v159 : Ref sig .tc := ⟨.hbm, 205, rfl⟩
abbrev main_v160 : Ref sig .tc := ⟨.hbm, 206, rfl⟩
abbrev main_cst_23 : Ref sig .tc := ⟨.hbm, 207, rfl⟩
abbrev main_v161 : Ref sig .tc := ⟨.hbm, 208, rfl⟩
abbrev main_v162 : Ref sig .tc := ⟨.hbm, 209, rfl⟩
abbrev main_v163 : Ref sig .tc := ⟨.hbm, 210, rfl⟩
abbrev main_cst_24 : Ref sig .tc := ⟨.hbm, 211, rfl⟩
abbrev main_v164 : Ref sig .tc := ⟨.hbm, 212, rfl⟩
abbrev main_v165 : Ref sig .tc := ⟨.hbm, 213, rfl⟩
abbrev main_v166 : Ref sig .tc := ⟨.hbm, 214, rfl⟩
abbrev main_v167 : Ref sig .tc := ⟨.hbm, 215, rfl⟩
abbrev main_v168 : Ref sig .tc := ⟨.hbm, 216, rfl⟩
abbrev main_cst_25 : Ref sig .tc := ⟨.hbm, 217, rfl⟩
abbrev main_v169 : Ref sig .tc := ⟨.hbm, 218, rfl⟩
abbrev main_v170 : Ref sig .tc := ⟨.hbm, 219, rfl⟩
abbrev main_cst_26 : Ref sig .tc := ⟨.hbm, 220, rfl⟩
abbrev main_v171 : Ref sig .tc := ⟨.hbm, 221, rfl⟩
abbrev main_v172 : Ref sig .tc := ⟨.hbm, 222, rfl⟩
abbrev main_v173 : Ref sig .tc := ⟨.hbm, 223, rfl⟩
abbrev main_v174 : Ref sig .tc := ⟨.hbm, 224, rfl⟩
abbrev main_v175 : Ref sig .tc := ⟨.hbm, 225, rfl⟩
abbrev main_v176 : Ref sig .tc := ⟨.hbm, 226, rfl⟩
abbrev main_v177 : Ref sig .tc := ⟨.hbm, 227, rfl⟩
abbrev main_cst_27 : Ref sig .tc := ⟨.hbm, 228, rfl⟩
abbrev main_v178 : Ref sig .tc := ⟨.hbm, 229, rfl⟩
abbrev main_v179 : Ref sig .tc := ⟨.hbm, 230, rfl⟩
abbrev main_cst_28 : Ref sig .tc := ⟨.hbm, 231, rfl⟩
abbrev main_v180 : Ref sig .tc := ⟨.hbm, 232, rfl⟩
abbrev main_v181 : Ref sig .tc := ⟨.hbm, 233, rfl⟩
abbrev main_cst_29 : Ref sig .tc := ⟨.hbm, 234, rfl⟩
abbrev main_v182 : Ref sig .tc := ⟨.hbm, 235, rfl⟩
abbrev main_v183 : Ref sig .tc := ⟨.hbm, 236, rfl⟩
abbrev main_v184 : Ref sig .tc := ⟨.hbm, 237, rfl⟩
abbrev main_cst_30 : Ref sig .tc := ⟨.hbm, 238, rfl⟩
abbrev main_v185 : Ref sig .tc := ⟨.hbm, 239, rfl⟩
abbrev main_v186 : Ref sig .tc := ⟨.hbm, 240, rfl⟩
abbrev main_cst_31 : Ref sig .tc := ⟨.hbm, 241, rfl⟩
abbrev main_v187 : Ref sig .tc := ⟨.hbm, 242, rfl⟩
abbrev main_v188 : Ref sig .tc := ⟨.hbm, 243, rfl⟩
abbrev main_v189 : Ref sig .tc := ⟨.hbm, 244, rfl⟩
abbrev main_v190 : Ref sig .tc := ⟨.hbm, 245, rfl⟩
abbrev main_cst_32 : Ref sig .tc := ⟨.hbm, 246, rfl⟩
abbrev main_v191 : Ref sig .tc := ⟨.hbm, 247, rfl⟩
abbrev main_v192 : Ref sig .tc := ⟨.hbm, 248, rfl⟩
abbrev main_v193 : Ref sig .tc := ⟨.hbm, 249, rfl⟩
abbrev main_v194 : Ref sig .tc := ⟨.hbm, 250, rfl⟩
abbrev main_cst_33 : Ref sig .tc := ⟨.hbm, 251, rfl⟩
abbrev main_v195 : Ref sig .tc := ⟨.hbm, 252, rfl⟩
abbrev main_v196 : Ref sig .tc := ⟨.hbm, 253, rfl⟩
abbrev main_v197 : Ref sig .tc := ⟨.hbm, 254, rfl⟩
abbrev main_v198 : Ref sig .tc := ⟨.hbm, 255, rfl⟩
abbrev main_v199 : Ref sig .tc := ⟨.hbm, 256, rfl⟩
abbrev main_v200 : Ref sig .tc := ⟨.hbm, 257, rfl⟩
abbrev main_v201 : Ref sig .tc := ⟨.hbm, 258, rfl⟩
abbrev main_v202 : Ref sig .tc := ⟨.hbm, 259, rfl⟩
abbrev main_v203 : Ref sig .tc := ⟨.hbm, 260, rfl⟩
abbrev main_v204 : Ref sig .tc := ⟨.hbm, 261, rfl⟩
abbrev main_v205 : Ref sig .tc := ⟨.hbm, 262, rfl⟩
abbrev main_v206 : Ref sig .tc := ⟨.hbm, 263, rfl⟩
abbrev main_v207 : Ref sig .tc := ⟨.hbm, 264, rfl⟩
abbrev main_v208 : Ref sig .tc := ⟨.hbm, 265, rfl⟩
abbrev main_v209 : Ref sig .tc := ⟨.hbm, 266, rfl⟩
abbrev main_v210 : Ref sig .tc := ⟨.hbm, 267, rfl⟩
abbrev main_v211 : Ref sig .tc := ⟨.hbm, 268, rfl⟩
abbrev main_v212 : Ref sig .tc := ⟨.hbm, 269, rfl⟩
abbrev main_v213 : Ref sig .tc := ⟨.hbm, 270, rfl⟩
abbrev main_v214 : Ref sig .tc := ⟨.hbm, 271, rfl⟩
abbrev main_v215 : Ref sig .tc := ⟨.hbm, 272, rfl⟩
abbrev main_v216 : Ref sig .tc := ⟨.hbm, 273, rfl⟩
abbrev main_v217 : Ref sig .tc := ⟨.hbm, 274, rfl⟩
abbrev main_v218 : Ref sig .tc := ⟨.hbm, 275, rfl⟩
abbrev main_v219 : Ref sig .tc := ⟨.hbm, 276, rfl⟩
abbrev main_v220 : Ref sig .tc := ⟨.hbm, 277, rfl⟩
abbrev main_v221 : Ref sig .tc := ⟨.hbm, 278, rfl⟩
abbrev main_v222 : Ref sig .tc := ⟨.hbm, 279, rfl⟩
abbrev main_v223 : Ref sig .tc := ⟨.hbm, 280, rfl⟩
abbrev main_v224 : Ref sig .tc := ⟨.hbm, 281, rfl⟩
abbrev main_v225 : Ref sig .tc := ⟨.hbm, 282, rfl⟩
abbrev main_v226 : Ref sig .tc := ⟨.hbm, 283, rfl⟩
abbrev main_v227 : Ref sig .tc := ⟨.hbm, 284, rfl⟩
abbrev main_v228 : Ref sig .tc := ⟨.hbm, 285, rfl⟩
abbrev main_v229 : Ref sig .tc := ⟨.hbm, 286, rfl⟩
abbrev main_v230 : Ref sig .tc := ⟨.hbm, 287, rfl⟩
abbrev main_v231 : Ref sig .tc := ⟨.hbm, 288, rfl⟩
abbrev main_v232 : Ref sig .tc := ⟨.hbm, 289, rfl⟩
abbrev main_v233 : Ref sig .tc := ⟨.hbm, 290, rfl⟩
abbrev main_v234 : Ref sig .tc := ⟨.hbm, 291, rfl⟩
abbrev main_v235 : Ref sig .tc := ⟨.hbm, 292, rfl⟩
abbrev main_v236 : Ref sig .tc := ⟨.hbm, 293, rfl⟩
abbrev main_v237 : Ref sig .tc := ⟨.hbm, 294, rfl⟩
abbrev main_v238 : Ref sig .tc := ⟨.hbm, 295, rfl⟩
abbrev main_v239 : Ref sig .tc := ⟨.hbm, 296, rfl⟩
abbrev main_v240 : Ref sig .tc := ⟨.hbm, 297, rfl⟩
abbrev main_v241 : Ref sig .tc := ⟨.hbm, 298, rfl⟩
abbrev main_v242 : Ref sig .tc := ⟨.hbm, 299, rfl⟩
abbrev main_v243 : Ref sig .tc := ⟨.hbm, 300, rfl⟩
abbrev main_v244 : Ref sig .tc := ⟨.hbm, 301, rfl⟩
abbrev main_v245 : Ref sig .tc := ⟨.hbm, 302, rfl⟩
abbrev main_v246 : Ref sig .tc := ⟨.hbm, 303, rfl⟩
abbrev main_v247 : Ref sig .tc := ⟨.hbm, 304, rfl⟩
abbrev main_v248 : Ref sig .tc := ⟨.hbm, 305, rfl⟩
abbrev main_v249 : Ref sig .tc := ⟨.hbm, 306, rfl⟩
abbrev main_v250 : Ref sig .tc := ⟨.hbm, 307, rfl⟩
abbrev main_v251 : Ref sig .tc := ⟨.hbm, 308, rfl⟩
abbrev main_v252 : Ref sig .tc := ⟨.hbm, 309, rfl⟩
abbrev main_v253 : Ref sig .tc := ⟨.hbm, 310, rfl⟩
abbrev main_v254 : Ref sig .tc := ⟨.hbm, 311, rfl⟩
abbrev main_v255 : Ref sig .tc := ⟨.hbm, 312, rfl⟩
abbrev main_v256 : Ref sig .tc := ⟨.hbm, 313, rfl⟩
abbrev main_v257 : Ref sig .tc := ⟨.hbm, 314, rfl⟩
abbrev main_cst_34 : Ref sig .tc := ⟨.hbm, 315, rfl⟩
abbrev main_v258 : Ref sig .tc := ⟨.hbm, 316, rfl⟩
abbrev main_cst_35 : Ref sig .tc := ⟨.hbm, 317, rfl⟩
abbrev main_v259 : Ref sig .tc := ⟨.hbm, 318, rfl⟩
abbrev main_v260 : Ref sig .tc := ⟨.hbm, 319, rfl⟩
abbrev main_cst_36 : Ref sig .tc := ⟨.hbm, 320, rfl⟩
abbrev main_v261 : Ref sig .tc := ⟨.hbm, 321, rfl⟩
abbrev main_v262 : Ref sig .tc := ⟨.hbm, 322, rfl⟩
abbrev main_cst_37 : Ref sig .tc := ⟨.hbm, 323, rfl⟩
abbrev main_v263 : Ref sig .tc := ⟨.hbm, 324, rfl⟩
abbrev main_v264 : Ref sig .tc := ⟨.hbm, 325, rfl⟩
abbrev main_cst_38 : Ref sig .tc := ⟨.hbm, 326, rfl⟩
abbrev main_v265 : Ref sig .tc := ⟨.hbm, 327, rfl⟩
abbrev main_v266 : Ref sig .tc := ⟨.hbm, 328, rfl⟩
abbrev main_cst_39 : Ref sig .tc := ⟨.hbm, 329, rfl⟩
abbrev main_v267 : Ref sig .tc := ⟨.hbm, 330, rfl⟩
abbrev main_v268 : Ref sig .tc := ⟨.hbm, 331, rfl⟩
abbrev main_cst_40 : Ref sig .tc := ⟨.hbm, 332, rfl⟩
abbrev main_v269 : Ref sig .tc := ⟨.hbm, 333, rfl⟩
abbrev main_v270 : Ref sig .tc := ⟨.hbm, 334, rfl⟩
abbrev main_cst_41 : Ref sig .tc := ⟨.hbm, 335, rfl⟩
abbrev main_v271 : Ref sig .tc := ⟨.hbm, 336, rfl⟩
abbrev main_v272 : Ref sig .tc := ⟨.hbm, 337, rfl⟩
abbrev main_cst_42 : Ref sig .tc := ⟨.hbm, 338, rfl⟩
abbrev main_v273 : Ref sig .tc := ⟨.hbm, 339, rfl⟩
abbrev main_v274 : Ref sig .tc := ⟨.hbm, 340, rfl⟩
abbrev main_cst_43 : Ref sig .tc := ⟨.hbm, 341, rfl⟩
abbrev main_v275 : Ref sig .tc := ⟨.hbm, 342, rfl⟩
abbrev main_v276 : Ref sig .tc := ⟨.hbm, 343, rfl⟩
abbrev main_cst_44 : Ref sig .tc := ⟨.hbm, 344, rfl⟩
abbrev main_v277 : Ref sig .tc := ⟨.hbm, 345, rfl⟩
abbrev main_v278 : Ref sig .tc := ⟨.hbm, 346, rfl⟩
abbrev main_cst_45 : Ref sig .tc := ⟨.hbm, 347, rfl⟩
abbrev main_v279 : Ref sig .tc := ⟨.hbm, 348, rfl⟩
abbrev main_v280 : Ref sig .tc := ⟨.hbm, 349, rfl⟩
abbrev main_cst_46 : Ref sig .tc := ⟨.hbm, 350, rfl⟩
abbrev main_v281 : Ref sig .tc := ⟨.hbm, 351, rfl⟩
abbrev main_v282 : Ref sig .tc := ⟨.hbm, 352, rfl⟩
abbrev main_cst_47 : Ref sig .tc := ⟨.hbm, 353, rfl⟩
abbrev main_v283 : Ref sig .tc := ⟨.hbm, 354, rfl⟩
abbrev main_v284 : Ref sig .tc := ⟨.hbm, 355, rfl⟩
abbrev main_cst_48 : Ref sig .tc := ⟨.hbm, 356, rfl⟩
abbrev main_v285 : Ref sig .tc := ⟨.hbm, 357, rfl⟩
abbrev main_v286 : Ref sig .tc := ⟨.hbm, 358, rfl⟩
abbrev main_cst_49 : Ref sig .tc := ⟨.hbm, 359, rfl⟩
abbrev main_v287 : Ref sig .tc := ⟨.hbm, 360, rfl⟩
abbrev main_v288 : Ref sig .tc := ⟨.hbm, 361, rfl⟩
abbrev main_cst_50 : Ref sig .tc := ⟨.hbm, 362, rfl⟩
abbrev main_v289 : Ref sig .tc := ⟨.hbm, 363, rfl⟩
abbrev main_v290 : Ref sig .tc := ⟨.hbm, 364, rfl⟩
abbrev main_cst_51 : Ref sig .tc := ⟨.hbm, 365, rfl⟩
abbrev main_v291 : Ref sig .tc := ⟨.hbm, 366, rfl⟩
abbrev main_v292 : Ref sig .tc := ⟨.hbm, 367, rfl⟩
abbrev main_cst_52 : Ref sig .tc := ⟨.hbm, 368, rfl⟩
abbrev main_v293 : Ref sig .tc := ⟨.hbm, 369, rfl⟩
abbrev main_v294 : Ref sig .tc := ⟨.hbm, 370, rfl⟩
abbrev main_cst_53 : Ref sig .tc := ⟨.hbm, 371, rfl⟩
abbrev main_v295 : Ref sig .tc := ⟨.hbm, 372, rfl⟩
abbrev main_v296 : Ref sig .tc := ⟨.hbm, 373, rfl⟩
abbrev main_cst_54 : Ref sig .tc := ⟨.hbm, 374, rfl⟩
abbrev main_v297 : Ref sig .tc := ⟨.hbm, 375, rfl⟩
abbrev main_v298 : Ref sig .tc := ⟨.hbm, 376, rfl⟩
abbrev main_cst_55 : Ref sig .tc := ⟨.hbm, 377, rfl⟩
abbrev main_v299 : Ref sig .tc := ⟨.hbm, 378, rfl⟩
abbrev main_v300 : Ref sig .tc := ⟨.hbm, 379, rfl⟩
abbrev main_cst_56 : Ref sig .tc := ⟨.hbm, 380, rfl⟩
abbrev main_v301 : Ref sig .tc := ⟨.hbm, 381, rfl⟩
abbrev main_v302 : Ref sig .tc := ⟨.hbm, 382, rfl⟩
abbrev main_cst_57 : Ref sig .tc := ⟨.hbm, 383, rfl⟩
abbrev main_v303 : Ref sig .tc := ⟨.hbm, 384, rfl⟩
abbrev main_v304 : Ref sig .tc := ⟨.hbm, 385, rfl⟩
abbrev main_cst_58 : Ref sig .tc := ⟨.hbm, 386, rfl⟩
abbrev main_v305 : Ref sig .tc := ⟨.hbm, 387, rfl⟩
abbrev main_v306 : Ref sig .tc := ⟨.hbm, 388, rfl⟩
abbrev main_cst_59 : Ref sig .tc := ⟨.hbm, 389, rfl⟩
abbrev main_v307 : Ref sig .tc := ⟨.hbm, 390, rfl⟩
abbrev main_v308 : Ref sig .tc := ⟨.hbm, 391, rfl⟩
abbrev main_cst_60 : Ref sig .tc := ⟨.hbm, 392, rfl⟩
abbrev main_v309 : Ref sig .tc := ⟨.hbm, 393, rfl⟩
abbrev main_v310 : Ref sig .tc := ⟨.hbm, 394, rfl⟩
abbrev main_cst_61 : Ref sig .tc := ⟨.hbm, 395, rfl⟩
abbrev main_v311 : Ref sig .tc := ⟨.hbm, 396, rfl⟩
abbrev main_v312 : Ref sig .tc := ⟨.hbm, 397, rfl⟩
abbrev main_cst_62 : Ref sig .tc := ⟨.hbm, 398, rfl⟩
abbrev main_v313 : Ref sig .tc := ⟨.hbm, 399, rfl⟩
abbrev main_v314 : Ref sig .tc := ⟨.hbm, 400, rfl⟩
abbrev main_cst_63 : Ref sig .tc := ⟨.hbm, 401, rfl⟩
abbrev main_v315 : Ref sig .tc := ⟨.hbm, 402, rfl⟩
abbrev main_v316 : Ref sig .tc := ⟨.hbm, 403, rfl⟩
abbrev main_cst_64 : Ref sig .tc := ⟨.hbm, 404, rfl⟩
abbrev main_v317 : Ref sig .tc := ⟨.hbm, 405, rfl⟩
abbrev main_v318 : Ref sig .tc := ⟨.hbm, 406, rfl⟩
abbrev main_v319 : Ref sig .tc := ⟨.hbm, 407, rfl⟩
abbrev main_v320 : Ref sig .tc := ⟨.hbm, 408, rfl⟩
abbrev main_v321 : Ref sig .tc := ⟨.hbm, 409, rfl⟩
abbrev main_v322 : Ref sig .tc := ⟨.hbm, 410, rfl⟩
abbrev main_v323 : Ref sig .tc := ⟨.hbm, 411, rfl⟩
abbrev main_cst_65 : Ref sig .tc := ⟨.hbm, 412, rfl⟩
abbrev main_v324 : Ref sig .tc := ⟨.hbm, 413, rfl⟩
abbrev main_cst_66 : Ref sig .tc := ⟨.hbm, 414, rfl⟩
abbrev main_v325 : Ref sig .tc := ⟨.hbm, 415, rfl⟩
abbrev main_v326 : Ref sig .tc := ⟨.hbm, 416, rfl⟩
abbrev main_v327 : Ref sig .tc := ⟨.hbm, 417, rfl⟩
abbrev main_v328 : Ref sig .tc := ⟨.hbm, 418, rfl⟩
abbrev main_c : Ref sig .tc := ⟨.hbm, 419, rfl⟩
abbrev main_call2_v0 : Ref sig .tc := ⟨.hbm, 420, rfl⟩
abbrev main_v329 : Ref sig .tc := ⟨.hbm, 421, rfl⟩

abbrev nD : Nat := 1
abbrev τ : Topo := Topo.v7x

variable {F : FTy → Type} [FloatOps F]
-- ==== Weight.lean ====
abbrev S8192x2816 : Shape := ⟨2, ![8192, 2816]⟩
abbrev S8192x1024 : Shape := ⟨2, ![8192, 1024]⟩
abbrev S2816x1024 : Shape := ⟨2, ![2816, 1024]⟩
abbrev S1024x2816 : Shape := ⟨2, ![1024, 2816]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S2816x1024, .f32⟩
  | .local _ .vmem, ⟨0, _⟩ => ⟨S1024x2816, .bf16⟩
  | .local _ .vmem, ⟨1, _⟩ => ⟨S1024x2816, .bf16⟩
  | .local _ .vmem, ⟨2, _⟩ => ⟨S1024x1024, .bf16⟩
  | .local _ .vmem, ⟨3, _⟩ => ⟨S1024x1024, .bf16⟩
  | .local _ .vmem, ⟨4, _⟩ => ⟨S2816x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2816x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== WeightRefIdeal.lean ====
abbrev S8192x2816 : Shape := ⟨2, ![8192, 2816]⟩
abbrev S8192x1024 : Shape := ⟨2, ![8192, 1024]⟩
abbrev S_ : Shape := ⟨0, ![]⟩
abbrev S1024x2816 : Shape := ⟨2, ![1024, 2816]⟩
abbrev S2816x1024 : Shape := ⟨2, ![2816, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S8192x2816, .f32⟩
  | .hbm, ⟨3, _⟩ => ⟨S8192x1024, .f32⟩
  | .hbm, ⟨4, _⟩ => ⟨S_, .f32⟩
  | .hbm, ⟨5, _⟩ => ⟨S1024x2816, .f32⟩
  | .hbm, ⟨6, _⟩ => ⟨S8192x2816, .f32⟩
  | .hbm, ⟨7, _⟩ => ⟨S2816x1024, .f32⟩
  | .hbm, ⟨8, _⟩ => ⟨S1024x2816, .f32⟩
  | .hbm, ⟨9, _⟩ => ⟨S2816x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Inner.lean ====
abbrev S8192x1024 : Shape := ⟨2, ![8192, 1024]⟩
abbrev S8192x2816 : Shape := ⟨2, ![8192, 2816]⟩
abbrev S1x1024 : Shape := ⟨2, ![1, 1024]⟩
abbrev S1024x2816 : Shape := ⟨2, ![1024, 2816]⟩
abbrev S2816x1024 : Shape := ⟨2, ![2816, 1024]⟩
abbrev S512x2816 : Shape := ⟨2, ![512, 2816]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 13
  | .vmem => 14
  | .smem => 0
  | _ => 0

abbrev bufTy : (tb : Table) → Fin (tcTables nBuf tb) → BufTy
  | .hbm, ⟨0, _⟩ => ⟨S8192x1024, .f32⟩
  | .hbm, ⟨1, _⟩ => ⟨S8192x2816, .bf16⟩
  | .hbm, ⟨2, _⟩ => ⟨S8192x2816, .bf16⟩
  | .hbm, ⟨3, _⟩ => ⟨S8192x1024, .f32⟩
  | .hbm, ⟨4, _⟩ => ⟨S1x1024, .f32⟩
  | .hbm, ⟨5, _⟩ => ⟨S1024x2816, .f32⟩
  | .hbm, ⟨6, _⟩ => ⟨S1024x2816, .f32⟩
  | .hbm, ⟨7, _⟩ => ⟨S2816x1024, .f32⟩
  | .hbm, ⟨8, _⟩ => ⟨S2816x1024, .bf16⟩
  | .hbm, ⟨9, _⟩ => ⟨S2816x1024, .f32⟩
  | .hbm, ⟨10, _⟩ => ⟨S2816x1024, .bf16⟩
  | .hbm, ⟨11, _⟩ => ⟨S8192x1024, .f32⟩
  | .hbm, ⟨12, _⟩ => ⟨S1x1024, .f32⟩
  | .local _ .vmem, ⟨0, _⟩ => ⟨S512x2816, .bf16⟩
  | .local _ .vmem, ⟨1, _⟩ => ⟨S512x2816, .bf16⟩
  | .local _ .vmem, ⟨2, _⟩ => ⟨S512x2816, .bf16⟩
  | .local _ .vmem, ⟨3, _⟩ => ⟨S512x2816, .bf16⟩
  | .local _ .vmem, ⟨4, _⟩ => ⟨S2816x1024, .bf16⟩
  | .local _ .vmem, ⟨5, _⟩ => ⟨S2816x1024, .bf16⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | .local _ .vmem, ⟨11, _⟩ => ⟨S512x1024, .f32⟩
  | .local _ .vmem, ⟨12, _⟩ => ⟨S512x1024, .f32⟩
  | .local _ .vmem, ⟨13, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4_0 : Ref sig .tc := ⟨.hbm, 11, rfl⟩
abbrev main_v4_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12
abbrev cc0_sem8_0 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== InnerRefIdeal.lean ====
abbrev S8192x1024 : Shape := ⟨2, ![8192, 1024]⟩
abbrev S8192x2816 : Shape := ⟨2, ![8192, 2816]⟩
abbrev S1x1024 : Shape := ⟨2, ![1, 1024]⟩
abbrev S1024x2816 : Shape := ⟨2, ![1024, 2816]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 57
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x2816, .bf16⟩
  | .hbm, ⟨2, _⟩ => ⟨S8192x2816, .bf16⟩
  | .hbm, ⟨3, _⟩ => ⟨S8192x1024, .f32⟩
  | .hbm, ⟨4, _⟩ => ⟨S1x1024, .f32⟩
  | .hbm, ⟨5, _⟩ => ⟨S1024x2816, .f32⟩
  | .hbm, ⟨6, _⟩ => ⟨S1024x2816, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x2816, .f32⟩
  | .hbm, ⟨27, _⟩ => ⟨S8192x2816, .f32⟩
  | .hbm, ⟨28, _⟩ => ⟨S8192x2816, .f32⟩
  | .hbm, ⟨29, _⟩ => ⟨S8192x2816, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S_, .f32⟩
  | .hbm, ⟨35, _⟩ => ⟨S1024, .f32⟩
  | .hbm, ⟨36, _⟩ => ⟨S1x1024, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S_, .f32⟩
  | .hbm, ⟨41, _⟩ => ⟨S8192, .f32⟩
  | .hbm, ⟨42, _⟩ => ⟨S8192x1, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S8192x1, .f32⟩
  | .hbm, ⟨47, _⟩ => ⟨S_, .f32⟩
  | .hbm, ⟨48, _⟩ => ⟨S8192x1, .f32⟩
  | .hbm, ⟨49, _⟩ => ⟨S8192x1, .f32⟩
  | .hbm, ⟨50, _⟩ => ⟨S_, .f32⟩
  | .hbm, ⟨51, _⟩ => ⟨S8192, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_3 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_4 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_5 : Ref sig .tc := ⟨.hbm, 47, rfl⟩
abbrev main_v34 : Ref sig .tc := ⟨.hbm, 48, rfl⟩
abbrev main_v35 : Ref sig .tc := ⟨.hbm, 49, rfl⟩
abbrev main_cst_6 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩

abbrev nD : Nat := 1
abbrev τ : Topo := Topo.v7x

variable {F : FTy → Type} [FloatOps F]
-- ==== Hidden.lean ====
abbrev S8192x1024 : Shape := ⟨2, ![8192, 1024]⟩
abbrev S8192x2816 : Shape := ⟨2, ![8192, 2816]⟩
abbrev S2816x1024 : Shape := ⟨2, ![2816, 1024]⟩
abbrev S512x1024 : Shape := ⟨2, ![512, 1024]⟩
abbrev S512x2816 : Shape := ⟨2, ![512, 2816]⟩
abbrev S256x1024 : Shape := ⟨2, ![256, 1024]⟩
abbrev S512x256 : Shape := ⟨2, ![512, 256]⟩

abbrev nBuf : Space → Nat
  | .hbm => 9
  | .vmem => 15
  | .smem => 0
  | _ => 0

abbrev bufTy : (tb : Table) → Fin (tcTables nBuf tb) → BufTy
  | .hbm, ⟨0, _⟩ => ⟨S8192x1024, .f32⟩
  | .hbm, ⟨1, _⟩ => ⟨S8192x2816, .bf16⟩
  | .hbm, ⟨2, _⟩ => ⟨S8192x2816, .bf16⟩
  | .hbm, ⟨3, _⟩ => ⟨S2816x1024, .f32⟩
  | .hbm, ⟨4, _⟩ => ⟨S2816x1024, .bf16⟩
  | .hbm, ⟨5, _⟩ => ⟨S8192x2816, .bf16⟩
  | .hbm, ⟨6, _⟩ => ⟨S8192x2816, .bf16⟩
  | .hbm, ⟨7, _⟩ => ⟨S8192x2816, .bf16⟩
  | .hbm, ⟨8, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S512x2816, .bf16⟩
  | .local _ .vmem, ⟨3, _⟩ => ⟨S512x2816, .bf16⟩
  | .local _ .vmem, ⟨4, _⟩ => ⟨S512x2816, .bf16⟩
  | .local _ .vmem, ⟨5, _⟩ => ⟨S512x2816, .bf16⟩
  | .local _ .vmem, ⟨6, _⟩ => ⟨S2816x1024, .bf16⟩
  | .local _ .vmem, ⟨7, _⟩ => ⟨S512x2816, .bf16⟩
  | .local _ .vmem, ⟨8, _⟩ => ⟨S512x2816, .bf16⟩
  | .local _ .vmem, ⟨9, _⟩ => ⟨S512x2816, .bf16⟩
  | .local _ .vmem, ⟨10, _⟩ => ⟨S512x2816, .bf16⟩
  | .local _ .vmem, ⟨11, _⟩ => ⟨S512x2816, .bf16⟩
  | .local _ .vmem, ⟨12, _⟩ => ⟨S512x2816, .bf16⟩
  | .local _ .vmem, ⟨13, _⟩ => ⟨S512x1024, .bf16⟩
  | .local _ .vmem, ⟨14, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2816 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2816 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2816 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== HiddenRefIdeal.lean ====
abbrev S8192x1024 : Shape := ⟨2, ![8192, 1024]⟩
abbrev S8192x2816 : Shape := ⟨2, ![8192, 2816]⟩
abbrev S2816x1024 : Shape := ⟨2, ![2816, 1024]⟩
abbrev S_ : Shape := ⟨0, ![]⟩

abbrev nBuf : Space → Nat
  | .hbm => 51
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x2816, .bf16⟩
  | .hbm, ⟨2, _⟩ => ⟨S8192x2816, .bf16⟩
  | .hbm, ⟨3, _⟩ => ⟨S2816x1024, .f32⟩
  | .hbm, ⟨4, _⟩ => ⟨S8192x2816, .f32⟩
  | .hbm, ⟨5, _⟩ => ⟨S8192x2816, .f32⟩
  | .hbm, ⟨6, _⟩ => ⟨S8192x2816, .f32⟩
  | .hbm, ⟨7, _⟩ => ⟨S8192x2816, .f32⟩
  | .hbm, ⟨8, _⟩ => ⟨S_, .f32⟩
  | .hbm, ⟨9, _⟩ => ⟨S8192x2816, .f32⟩
  | .hbm, ⟨10, _⟩ => ⟨S8192x2816, .f32⟩
  | .hbm, ⟨11, _⟩ => ⟨S_, .f32⟩
  | .hbm, ⟨12, _⟩ => ⟨S8192x2816, .f32⟩
  | .hbm, ⟨13, _⟩ => ⟨S8192x2816, .f32⟩
  | .hbm, ⟨14, _⟩ => ⟨S_, .f32⟩
  | .hbm, ⟨15, _⟩ => ⟨S8192x2816, .f32⟩
  | .hbm, ⟨16, _⟩ => ⟨S8192x2816, .f32⟩
  | .hbm, ⟨17, _⟩ => ⟨S8192x2816, .f32⟩
  | .hbm, ⟨18, _⟩ => ⟨S8192x2816, .f32⟩
  | .hbm, ⟨19, _⟩ => ⟨S8192x2816, .f32⟩
  | .hbm, ⟨20, _⟩ => ⟨S8192x1024, .f32⟩
  | .hbm, ⟨21, _⟩ => ⟨S_, .f32⟩
  | .hbm, ⟨22, _⟩ => ⟨S8192x1024, .f32⟩
  | .hbm, ⟨23, _⟩ => ⟨S8192x1024, .f32⟩
  | .hbm, ⟨24, _⟩ => ⟨S_, .f32⟩
  | .hbm, ⟨25, _⟩ => ⟨S8192x1024, .f32⟩
  | .hbm, ⟨26, _⟩ => ⟨S8192x1024, .f32⟩
  | .hbm, ⟨27, _⟩ => ⟨S8192x2816, .f32⟩
  | .hbm, ⟨28, _⟩ => ⟨S8192x2816, .f32⟩
  | .hbm, ⟨29, _⟩ => ⟨S8192x2816, .f32⟩
  | .hbm, ⟨30, _⟩ => ⟨S8192x2816, .f32⟩
  | .hbm, ⟨31, _⟩ => ⟨S8192x2816, .f32⟩
  | .hbm, ⟨32, _⟩ => ⟨S8192x2816, .f32⟩
  | .hbm, ⟨33, _⟩ => ⟨S8192x2816, .f32⟩
  | .hbm, ⟨34, _⟩ => ⟨S8192x2816, .f32⟩
  | .hbm, ⟨35, _⟩ => ⟨S8192x2816, .f32⟩
  | .hbm, ⟨36, _⟩ => ⟨S_, .f32⟩
  | .hbm, ⟨37, _⟩ => ⟨S8192x2816, .f32⟩
  | .hbm, ⟨38, _⟩ => ⟨S8192x2816, .f32⟩
  | .hbm, ⟨39, _⟩ => ⟨S_, .f32⟩
  | .hbm, ⟨40, _⟩ => ⟨S8192x2816, .f32⟩
  | .hbm, ⟨41, _⟩ => ⟨S8192x2816, .f32⟩
  | .hbm, ⟨42, _⟩ => ⟨S8192x2816, .f32⟩
  | .hbm, ⟨43, _⟩ => ⟨S8192x2816, .f32⟩
  | .hbm, ⟨44, _⟩ => ⟨S8192x2816, .bf16⟩
  | .hbm, ⟨45, _⟩ => ⟨S8192x2816, .bf16⟩
  | .hbm, ⟨46, _⟩ => ⟨S8192x2816, .bf16⟩
  | .hbm, ⟨47, _⟩ => ⟨S_, .f32⟩
  | .hbm, ⟨48, _⟩ => ⟨S8192x1024, .f32⟩
  | .hbm, ⟨49, _⟩ => ⟨S8192x1024, .f32⟩
  | .hbm, ⟨50, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_v2_2 : Ref sig .tc := ⟨.hbm, 13, rfl⟩
abbrev main_call0_cst_1 : Ref sig .tc := ⟨.hbm, 14, rfl⟩
abbrev main_call0_v6 : Ref sig .tc := ⟨.hbm, 15, rfl⟩
abbrev main_call0_v7 : Ref sig .tc := ⟨.hbm, 16, rfl⟩
abbrev main_v2_1 : Ref sig .tc := ⟨.hbm, 17, rfl⟩
abbrev main_v2_0 : Ref sig .tc := ⟨.hbm, 18, rfl⟩
abbrev main_v3 : Ref sig .tc := ⟨.hbm, 19, rfl⟩
abbrev main_v4 : Ref sig .tc := ⟨.hbm, 20, rfl⟩
abbrev main_cst : Ref sig .tc := ⟨.hbm, 21, rfl⟩
abbrev main_v5 : Ref sig .tc := ⟨.hbm, 22, rfl⟩
abbrev main_v6 : Ref sig .tc := ⟨.hbm, 23, rfl⟩
abbrev main_cst_0 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_call1_v0 : Ref sig .tc := ⟨.hbm, 30, rfl⟩
abbrev main_call1_v1 : Ref sig .tc := ⟨.hbm, 31, rfl⟩
abbrev main_call1_v2 : Ref sig .tc := ⟨.hbm, 32, rfl⟩
abbrev main_v12 : Ref sig .tc := ⟨.hbm, 33, rfl⟩
abbrev main_call2_v0 : Ref sig .tc := ⟨.hbm, 34, rfl⟩
abbrev main_call2_v1 : Ref sig .tc := ⟨.hbm, 35, rfl⟩
abbrev main_call2_cst : Ref sig .tc := ⟨.hbm, 36, rfl⟩
abbrev main_call2_v2 : Ref sig .tc := ⟨.hbm, 37, rfl⟩
abbrev main_call2_v3 : Ref sig .tc := ⟨.hbm, 38, rfl⟩
abbrev main_call2_cst_0 : Ref sig .tc := ⟨.hbm, 39, rfl⟩
abbrev main_call2_v4 : Ref sig .tc := ⟨.hbm, 40, rfl⟩
abbrev main_call2_v5 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_cst_1 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩

abbrev nD : Nat := 1
abbrev τ : Topo := Topo.v7x

variable {F : FTy → Type} [FloatOps F]
-- ==== Forward.lean ====
abbrev S8192x1024 : Shape := ⟨2, ![8192, 1024]⟩
abbrev S1x1024 : Shape := ⟨2, ![1, 1024]⟩
abbrev S1024x2816 : Shape := ⟨2, ![1024, 2816]⟩
abbrev S2816x1024 : Shape := ⟨2, ![2816, 1024]⟩
abbrev S8192x2816 : Shape := ⟨2, ![8192, 2816]⟩
abbrev S8x128 : Shape := ⟨2, ![8, 128]⟩
abbrev S512x1024 : Shape := ⟨2, ![512, 1024]⟩
abbrev S512x2816 : Shape := ⟨2, ![512, 2816]⟩
abbrev S512 : Shape := ⟨1, ![512]⟩
abbrev S512x1 : Shape := ⟨2, ![512, 1]⟩
abbrev S256x1024 : Shape := ⟨2, ![256, 1024]⟩
abbrev S512x256 : Shape := ⟨2, ![512, 256]⟩
abbrev S1x512x1 : Shape := ⟨3, ![1, 512, 1]⟩
abbrev S1 : Shape := ⟨1, ![1]⟩
abbrev S1x1x1 : Shape := ⟨3, ![1, 1, 1]⟩
abbrev S1024 : Shape := ⟨1, ![1024]⟩

abbrev nBuf : Space → Nat
  | .hbm => 18
  | .vmem => 19
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1x1024, .f32⟩
  | .hbm, ⟨6, _⟩ => ⟨S8192x1024, .f32⟩
  | .hbm, ⟨7, _⟩ => ⟨S2816x1024, .f32⟩
  | .hbm, ⟨8, _⟩ => ⟨S2816x1024, .bf16⟩
  | .hbm, ⟨9, _⟩ => ⟨S2816x1024, .f32⟩
  | .hbm, ⟨10, _⟩ => ⟨S2816x1024, .bf16⟩
  | .hbm, ⟨11, _⟩ => ⟨S2816x1024, .bf16⟩
  | .hbm, ⟨12, _⟩ => ⟨S8192x1024, .f32⟩
  | .hbm, ⟨13, _⟩ => ⟨S8192x2816, .bf16⟩
  | .hbm, ⟨14, _⟩ => ⟨S8192x2816, .bf16⟩
  | .hbm, ⟨15, _⟩ => ⟨S8192x1024, .bf16⟩
  | .hbm, ⟨16, _⟩ => ⟨S8x128, .f32⟩
  | .hbm, ⟨17, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S2816x1024, .bf16⟩
  | .local _ .vmem, ⟨4, _⟩ => ⟨S2816x1024, .bf16⟩
  | .local _ .vmem, ⟨5, _⟩ => ⟨S2816x1024, .bf16⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x2816, .bf16⟩
  | .local _ .vmem, ⟨12, _⟩ => ⟨S512x2816, .bf16⟩
  | .local _ .vmem, ⟨13, _⟩ => ⟨S512x2816, .bf16⟩
  | .local _ .vmem, ⟨14, _⟩ => ⟨S512x2816, .bf16⟩
  | .local _ .vmem, ⟨15, _⟩ => ⟨S512x1024, .bf16⟩
  | .local _ .vmem, ⟨16, _⟩ => ⟨S512x1024, .bf16⟩
  | .local _ .vmem, ⟨17, _⟩ => ⟨S8x128, .f32⟩
  | .local _ .vmem, ⟨18, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev main_v5_2 : Ref sig .tc := ⟨.hbm, 14, rfl⟩
abbrev main_v5_3 : Ref sig .tc := ⟨.hbm, 15, rfl⟩
abbrev main_v5_4 : Ref sig .tc := ⟨.hbm, 16, rfl⟩
abbrev main_v5_5 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg12_0 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem12_0 : DmaSem sig := 18

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x2816 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x2816 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S8x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== ForwardRefIdeal.lean ====
abbrev S8192x1024 : Shape := ⟨2, ![8192, 1024]⟩
abbrev S1x1024 : Shape := ⟨2, ![1, 1024]⟩
abbrev S1024x2816 : Shape := ⟨2, ![1024, 2816]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S8192x2816 : Shape := ⟨2, ![8192, 2816]⟩
abbrev S1024 : Shape := ⟨1, ![1024]⟩
abbrev S8x128 : Shape := ⟨2, ![8, 128]⟩

abbrev nBuf : Space → Nat
  | .hbm => 108
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1x1024, .f32⟩
  | .hbm, ⟨6, _⟩ => ⟨S8192x1024, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x2816, .f32⟩
  | .hbm, ⟨23, _⟩ => ⟨S8192x2816, .f32⟩
  | .hbm, ⟨24, _⟩ => ⟨S8192x2816, .f32⟩
  | .hbm, ⟨25, _⟩ => ⟨S8192x2816, .f32⟩
  | .hbm, ⟨26, _⟩ => ⟨S_, .f32⟩
  | .hbm, ⟨27, _⟩ => ⟨S8192x2816, .f32⟩
  | .hbm, ⟨28, _⟩ => ⟨S8192x2816, .f32⟩
  | .hbm, ⟨29, _⟩ => ⟨S_, .f32⟩
  | .hbm, ⟨30, _⟩ => ⟨S8192x2816, .f32⟩
  | .hbm, ⟨31, _⟩ => ⟨S8192x2816, .f32⟩
  | .hbm, ⟨32, _⟩ => ⟨S8192x2816, .f32⟩
  | .hbm, ⟨33, _⟩ => ⟨S8192x2816, .f32⟩
  | .hbm, ⟨34, _⟩ => ⟨S8192x1024, .f32⟩
  | .hbm, ⟨35, _⟩ => ⟨S_, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S_, .f32⟩
  | .hbm, ⟨41, _⟩ => ⟨S8192, .f32⟩
  | .hbm, ⟨42, _⟩ => ⟨S8192x1, .f32⟩
  | .hbm, ⟨43, _⟩ => ⟨S_, .f32⟩
  | .hbm, ⟨44, _⟩ => ⟨S8192x1, .f32⟩
  | .hbm, ⟨45, _⟩ => ⟨S8192x1, .f32⟩
  | .hbm, ⟨46, _⟩ => ⟨S_, .f32⟩
  | .hbm, ⟨47, _⟩ => ⟨S8192x1, .f32⟩
  | .hbm, ⟨48, _⟩ => ⟨S8192x1, .f32⟩
  | .hbm, ⟨49, _⟩ => ⟨S8192x1, .f32⟩
  | .hbm, ⟨50, _⟩ => ⟨S8192x1, .f32⟩
  | .hbm, ⟨51, _⟩ => ⟨S_, .f32⟩
  | .hbm, ⟨52, _⟩ => ⟨S8192x1, .f32⟩
  | .hbm, ⟨53, _⟩ => ⟨S8192x1, .f32⟩
  | .hbm, ⟨54, _⟩ => ⟨S8192x1024, .f32⟩
  | .hbm, ⟨55, _⟩ => ⟨S8192x1024, .f32⟩
  | .hbm, ⟨56, _⟩ => ⟨S8192x1024, .f32⟩
  | .hbm, ⟨57, _⟩ => ⟨S8192x1024, .f32⟩
  | .hbm, ⟨58, _⟩ => ⟨S8192x1024, .f32⟩
  | .hbm, ⟨59, _⟩ => ⟨S8192x1024, .f32⟩
  | .hbm, ⟨60, _⟩ => ⟨S_, .f32⟩
  | .hbm, ⟨61, _⟩ => ⟨S8192x1024, .f32⟩
  | .hbm, ⟨62, _⟩ => ⟨S8192x1024, .f32⟩
  | .hbm, ⟨63, _⟩ => ⟨S_, .f32⟩
  | .hbm, ⟨64, _⟩ => ⟨S8192, .f32⟩
  | .hbm, ⟨65, _⟩ => ⟨S_, .f32⟩
  | .hbm, ⟨66, _⟩ => ⟨S8192, .f32⟩
  | .hbm, ⟨67, _⟩ => ⟨S8192, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S8192, .f32⟩
  | .hbm, ⟨76, _⟩ => ⟨S_, .f32⟩
  | .hbm, ⟨77, _⟩ => ⟨S8192, .f32⟩
  | .hbm, ⟨78, _⟩ => ⟨S8192, .f32⟩
  | .hbm, ⟨79, _⟩ => ⟨S8192x1024, .f32⟩
  | .hbm, ⟨80, _⟩ => ⟨S8192x1024, .f32⟩
  | .hbm, ⟨81, _⟩ => ⟨S8192x1024, .f32⟩
  | .hbm, ⟨82, _⟩ => ⟨S_, .f32⟩
  | .hbm, ⟨83, _⟩ => ⟨S1024, .f32⟩
  | .hbm, ⟨84, _⟩ => ⟨S1x1024, .f32⟩
  | .hbm, ⟨85, _⟩ => ⟨S8192x1024, .f32⟩
  | .hbm, ⟨86, _⟩ => ⟨S8192x1024, .f32⟩
  | .hbm, ⟨87, _⟩ => ⟨S8192x1024, .f32⟩
  | .hbm, ⟨88, _⟩ => ⟨S_, .f32⟩
  | .hbm, ⟨89, _⟩ => ⟨S8192, .f32⟩
  | .hbm, ⟨90, _⟩ => ⟨S8192x1, .f32⟩
  | .hbm, ⟨91, _⟩ => ⟨S8192x1024, .f32⟩
  | .hbm, ⟨92, _⟩ => ⟨S8192x1024, .f32⟩
  | .hbm, ⟨93, _⟩ => ⟨S8192x1, .f32⟩
  | .hbm, ⟨94, _⟩ => ⟨S_, .f32⟩
  | .hbm, ⟨95, _⟩ => ⟨S8192x1, .f32⟩
  | .hbm, ⟨96, _⟩ => ⟨S8192x1, .f32⟩
  | .hbm, ⟨97, _⟩ => ⟨S_, .f32⟩
  | .hbm, ⟨98, _⟩ => ⟨S8192, .f32⟩
  | .hbm, ⟨99, _⟩ => ⟨S8192x1024, .f32⟩
  | .hbm, ⟨100, _⟩ => ⟨S8192x1024, .f32⟩
  | .hbm, ⟨101, _⟩ => ⟨S8192x1024, .f32⟩
  | .hbm, ⟨102, _⟩ => ⟨S8192x1024, .f32⟩
  | .hbm, ⟨103, _⟩ => ⟨S8192x1024, .f32⟩
  | .hbm, ⟨104, _⟩ => ⟨S8192x2816, .bf16⟩
  | .hbm, ⟨105, _⟩ => ⟨S8192x2816, .bf16⟩
  | .hbm, ⟨106, _⟩ => ⟨S8192x1024, .bf16⟩
  | .hbm, ⟨107, _⟩ => ⟨S8x128, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_cst_2 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_cst_3 : Ref sig .tc := ⟨.hbm, 40, rfl⟩
abbrev main_v21 : Ref sig .tc := ⟨.hbm, 41, rfl⟩
abbrev main_v22 : Ref sig .tc := ⟨.hbm, 42, rfl⟩
abbrev main_cst_4 : Ref sig .tc := ⟨.hbm, 43, rfl⟩
abbrev main_v23 : Ref sig .tc := ⟨.hbm, 44, rfl⟩
abbrev main_v24 : Ref sig .tc := ⟨.hbm, 45, rfl⟩
abbrev main_cst_5 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_cst_6 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_cst_7 : Ref sig .tc := ⟨.hbm, 60, rfl⟩
abbrev main_v37 : Ref sig .tc := ⟨.hbm, 61, rfl⟩
abbrev main_v38 : Ref sig .tc := ⟨.hbm, 62, rfl⟩
abbrev main_cst_8 : Ref sig .tc := ⟨.hbm, 63, rfl⟩
abbrev main_v39 : Ref sig .tc := ⟨.hbm, 64, rfl⟩
abbrev main_cst_9 : Ref sig .tc := ⟨.hbm, 65, rfl⟩
abbrev main_v40 : Ref sig .tc := ⟨.hbm, 66, rfl⟩
abbrev main_v41 : Ref sig .tc := ⟨.hbm, 67, rfl⟩
abbrev main_cst_10 : Ref sig .tc := ⟨.hbm, 68, rfl⟩
abbrev main_v42 : Ref sig .tc := ⟨.hbm, 69, rfl⟩
abbrev main_cst_11 : Ref sig .tc := ⟨.hbm, 70, rfl⟩
abbrev main_v43 : Ref sig .tc := ⟨.hbm, 71, rfl⟩
abbrev main_cst_12 : Ref sig .tc := ⟨.hbm, 72, rfl⟩
abbrev main_cst_13 : Ref sig .tc := ⟨.hbm, 73, rfl⟩
abbrev main_v44 : Ref sig .tc := ⟨.hbm, 74, rfl⟩
abbrev main_v45 : Ref sig .tc := ⟨.hbm, 75, rfl⟩
abbrev main_cst_14 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_cst_15 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_cst_16 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_cst_17 : Ref sig .tc := ⟨.hbm, 94, rfl⟩
abbrev main_v61 : Ref sig .tc := ⟨.hbm, 95, rfl⟩
abbrev main_v62 : Ref sig .tc := ⟨.hbm, 96, rfl⟩
abbrev main_cst_18 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩

abbrev nD : Nat := 1
abbrev τ : Topo := Topo.v7x

variable {F : FTy → Type} [FloatOps F]
-- ==== ProjWeight.lean ====
abbrev S8192x1024 : Shape := ⟨2, ![8192, 1024]⟩
abbrev S8192x512 : Shape := ⟨2, ![8192, 512]⟩
abbrev S1536x1024 : Shape := ⟨2, ![1536, 1024]⟩
abbrev S1024x1024 : Shape := ⟨2, ![1024, 1024]⟩
abbrev S1024x512 : Shape := ⟨2, ![1024, 512]⟩
abbrev S512x1024 : Shape := ⟨2, ![512, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x512, .bf16⟩
  | .hbm, ⟨2, _⟩ => ⟨S8192x1024, .bf16⟩
  | .hbm, ⟨3, _⟩ => ⟨S1536x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x1024, .bf16⟩
  | .local _ .vmem, ⟨5, _⟩ => ⟨S1024x1024, .bf16⟩
  | .local _ .vmem, ⟨6, _⟩ => ⟨S1536x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1536x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== ProjWeightRefIdeal.lean ====
abbrev S8192x1024 : Shape := ⟨2, ![8192, 1024]⟩
abbrev S8192x512 : Shape := ⟨2, ![8192, 512]⟩
abbrev S8192x1536 : Shape := ⟨2, ![8192, 1536]⟩
abbrev S_ : Shape := ⟨0, ![]⟩
abbrev S1024x1536 : Shape := ⟨2, ![1024, 1536]⟩
abbrev S1536x1024 : Shape := ⟨2, ![1536, 1024]⟩

abbrev nBuf : Space → Nat
  | .hbm => 12
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x512, .bf16⟩
  | .hbm, ⟨2, _⟩ => ⟨S8192x1024, .bf16⟩
  | .hbm, ⟨3, _⟩ => ⟨S8192x1024, .f32⟩
  | .hbm, ⟨4, _⟩ => ⟨S8192x1536, .bf16⟩
  | .hbm, ⟨5, _⟩ => ⟨S8192x1536, .f32⟩
  | .hbm, ⟨6, _⟩ => ⟨S_, .f32⟩
  | .hbm, ⟨7, _⟩ => ⟨S1024x1536, .f32⟩
  | .hbm, ⟨8, _⟩ => ⟨S8192x1536, .f32⟩
  | .hbm, ⟨9, _⟩ => ⟨S1536x1024, .f32⟩
  | .hbm, ⟨10, _⟩ => ⟨S1024x1536, .f32⟩
  | .hbm, ⟨11, _⟩ => ⟨S1536x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== OutWeight.lean ====
abbrev S8192x512 : Shape := ⟨2, ![8192, 512]⟩
abbrev S8192x1024 : Shape := ⟨2, ![8192, 1024]⟩
abbrev S1024x1024 : Shape := ⟨2, ![1024, 1024]⟩
abbrev S1024x512 : Shape := ⟨2, ![1024, 512]⟩
abbrev S512x1024 : Shape := ⟨2, ![512, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x512, .bf16⟩
  | .hbm, ⟨1, _⟩ => ⟨S8192x512, .bf16⟩
  | .hbm, ⟨2, _⟩ => ⟨S8192x1024, .f32⟩
  | .hbm, ⟨3, _⟩ => ⟨S1024x1024, .f32⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== OutWeightRefIdeal.lean ====
abbrev S8192x512 : Shape := ⟨2, ![8192, 512]⟩
abbrev S8192x1024 : Shape := ⟨2, ![8192, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S8192x512, .bf16⟩
  | .hbm, ⟨2, _⟩ => ⟨S8192x1024, .f32⟩
  | .hbm, ⟨3, _⟩ => ⟨S8192x1024, .bf16⟩
  | .hbm, ⟨4, _⟩ => ⟨S8192x1024, .f32⟩
  | .hbm, ⟨5, _⟩ => ⟨S_, .f32⟩
  | .hbm, ⟨6, _⟩ => ⟨S1024x1024, .f32⟩
  | .hbm, ⟨7, _⟩ => ⟨S8192x1024, .f32⟩
  | .hbm, ⟨8, _⟩ => ⟨S1024x1024, .f32⟩
  | .hbm, ⟨9, _⟩ => ⟨S1024x1024, .f32⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== MixIn.lean ====
abbrev S8192x1024 : Shape := ⟨2, ![8192, 1024]⟩
abbrev S1x1024 : Shape := ⟨2, ![1, 1024]⟩
abbrev S1024x1536 : Shape := ⟨2, ![1024, 1536]⟩
abbrev S1536x1024 : Shape := ⟨2, ![1536, 1024]⟩
abbrev S8192x1536 : Shape := ⟨2, ![8192, 1536]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 7
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x1536, .f32⟩
  | .hbm, ⟨3, _⟩ => ⟨S1536x1024, .f32⟩
  | .hbm, ⟨4, _⟩ => ⟨S1536x1024, .bf16⟩
  | .hbm, ⟨5, _⟩ => ⟨S8192x1536, .f32⟩
  | .hbm, ⟨6, _⟩ => ⟨S8192x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1536x1024, .bf16⟩
  | .local _ .vmem, ⟨4, _⟩ => ⟨S1024x1536, .f32⟩
  | .local _ .vmem, ⟨5, _⟩ => ⟨S1024x1536, .f32⟩
  | .local _ .vmem, ⟨6, _⟩ => ⟨S1024x1024, .bf16⟩
  | .local _ .vmem, ⟨7, _⟩ => ⟨S1024x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![8, 1], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1536x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 2 → Memref sig .tc .vmem S1024x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== MixInRefIdeal.lean ====
abbrev S8192x1024 : Shape := ⟨2, ![8192, 1024]⟩
abbrev S1x1024 : Shape := ⟨2, ![1, 1024]⟩
abbrev S1024x1536 : Shape := ⟨2, ![1024, 1536]⟩
abbrev S_ : Shape := ⟨0, ![]⟩
abbrev S8192 : Shape := ⟨1, ![8192]⟩
abbrev S8192x1 : Shape := ⟨2, ![8192, 1]⟩
abbrev S8192x1536 : Shape := ⟨2, ![8192, 1536]⟩

abbrev nBuf : Space → Nat
  | .hbm => 20
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x1536, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x1536, .f32⟩
  | .hbm, ⟨19, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== MixOut.lean ====
abbrev S8192x512 : Shape := ⟨2, ![8192, 512]⟩
abbrev S8192x1536 : Shape := ⟨2, ![8192, 1536]⟩
abbrev S1x512 : Shape := ⟨2, ![1, 512]⟩
abbrev S512x512 : Shape := ⟨2, ![512, 512]⟩
abbrev S8192x1024 : Shape := ⟨2, ![8192, 1024]⟩
abbrev S1024x1024 : Shape := ⟨2, ![1024, 1024]⟩
abbrev S1024x512 : Shape := ⟨2, ![1024, 512]⟩
abbrev S1024 : Shape := ⟨1, ![1024]⟩
abbrev S1024x1 : Shape := ⟨2, ![1024, 1]⟩
abbrev S512x1024 : Shape := ⟨2, ![512, 1024]⟩

abbrev nBuf : Space → Nat
  | .hbm => 14
  | .vmem => 19
  | .smem => 0
  | _ => 0

abbrev bufTy : (tb : Table) → Fin (tcTables nBuf tb) → BufTy
  | .hbm, ⟨0, _⟩ => ⟨S8192x512, .f32⟩
  | .hbm, ⟨1, _⟩ => ⟨S8192x1536, .f32⟩
  | .hbm, ⟨2, _⟩ => ⟨S1x512, .f32⟩
  | .hbm, ⟨3, _⟩ => ⟨S512x512, .f32⟩
  | .hbm, ⟨4, _⟩ => ⟨S1x512, .f32⟩
  | .hbm, ⟨5, _⟩ => ⟨S1x512, .f32⟩
  | .hbm, ⟨6, _⟩ => ⟨S8192x1024, .f32⟩
  | .hbm, ⟨7, _⟩ => ⟨S8192x512, .bf16⟩
  | .hbm, ⟨8, _⟩ => ⟨S1024x1024, .f32⟩
  | .hbm, ⟨9, _⟩ => ⟨S512x512, .bf16⟩
  | .hbm, ⟨10, _⟩ => ⟨S1024x1024, .bf16⟩
  | .hbm, ⟨11, _⟩ => ⟨S8192x512, .f32⟩
  | .hbm, ⟨12, _⟩ => ⟨S8192x512, .bf16⟩
  | .hbm, ⟨13, _⟩ => ⟨S8192x1024, .f32⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S1x512, .f32⟩
  | .local _ .vmem, ⟨5, _⟩ => ⟨S512x512, .bf16⟩
  | .local _ .vmem, ⟨6, _⟩ => ⟨S1x512, .f32⟩
  | .local _ .vmem, ⟨7, _⟩ => ⟨S1x512, .f32⟩
  | .local _ .vmem, ⟨8, _⟩ => ⟨S1024x1024, .f32⟩
  | .local _ .vmem, ⟨9, _⟩ => ⟨S1024x1024, .f32⟩
  | .local _ .vmem, ⟨10, _⟩ => ⟨S1024x512, .bf16⟩
  | .local _ .vmem, ⟨11, _⟩ => ⟨S1024x512, .bf16⟩
  | .local _ .vmem, ⟨12, _⟩ => ⟨S1024x1024, .bf16⟩
  | .local _ .vmem, ⟨13, _⟩ => ⟨S1024x512, .f32⟩
  | .local _ .vmem, ⟨14, _⟩ => ⟨S1024x512, .f32⟩
  | .local _ .vmem, ⟨15, _⟩ => ⟨S1024x512, .bf16⟩
  | .local _ .vmem, ⟨16, _⟩ => ⟨S1024x512, .bf16⟩
  | .local _ .vmem, ⟨17, _⟩ => ⟨S1024x1024, .f32⟩
  | .local _ .vmem, ⟨18, _⟩ => ⟨S1024x1024, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2_0 : Ref sig .tc := ⟨.hbm, 11, rfl⟩
abbrev main_v2_1 : Ref sig .tc := ⟨.hbm, 12, rfl⟩
abbrev main_v2_2 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1024x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1024x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1024x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== MixOutRefIdeal.lean ====
abbrev S8192x512 : Shape := ⟨2, ![8192, 512]⟩
abbrev S8192x1536 : Shape := ⟨2, ![8192, 1536]⟩
abbrev S1x512 : Shape := ⟨2, ![1, 512]⟩
abbrev S512x512 : Shape := ⟨2, ![512, 512]⟩
abbrev S8192x1024 : Shape := ⟨2, ![8192, 1024]⟩
abbrev S1024x1024 : Shape := ⟨2, ![1024, 1024]⟩
abbrev S_ : Shape := ⟨0, ![]⟩
abbrev S8192 : Shape := ⟨1, ![8192]⟩
abbrev S8192x1 : Shape := ⟨2, ![8192, 1]⟩

abbrev nBuf : Space → Nat
  | .hbm => 62
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x1536, .f32⟩
  | .hbm, ⟨2, _⟩ => ⟨S1x512, .f32⟩
  | .hbm, ⟨3, _⟩ => ⟨S512x512, .f32⟩
  | .hbm, ⟨4, _⟩ => ⟨S1x512, .f32⟩
  | .hbm, ⟨5, _⟩ => ⟨S1x512, .f32⟩
  | .hbm, ⟨6, _⟩ => ⟨S8192x1024, .f32⟩
  | .hbm, ⟨7, _⟩ => ⟨S8192x512, .bf16⟩
  | .hbm, ⟨8, _⟩ => ⟨S1024x1024, .f32⟩
  | .hbm, ⟨9, _⟩ => ⟨S8192x512, .f32⟩
  | .hbm, ⟨10, _⟩ => ⟨S8192x512, .f32⟩
  | .hbm, ⟨11, _⟩ => ⟨S8192x512, .f32⟩
  | .hbm, ⟨12, _⟩ => ⟨S8192x512, .f32⟩
  | .hbm, ⟨13, _⟩ => ⟨S8192x512, .f32⟩
  | .hbm, ⟨14, _⟩ => ⟨S8192x512, .f32⟩
  | .hbm, ⟨15, _⟩ => ⟨S_, .f32⟩
  | .hbm, ⟨16, _⟩ => ⟨S8192x512, .f32⟩
  | .hbm, ⟨17, _⟩ => ⟨S8192x512, .f32⟩
  | .hbm, ⟨18, _⟩ => ⟨S8192x512, .f32⟩
  | .hbm, ⟨19, _⟩ => ⟨S_, .f32⟩
  | .hbm, ⟨20, _⟩ => ⟨S8192x512, .f32⟩
  | .hbm, ⟨21, _⟩ => ⟨S8192x512, .f32⟩
  | .hbm, ⟨22, _⟩ => ⟨S8192x512, .f32⟩
  | .hbm, ⟨23, _⟩ => ⟨S_, .f32⟩
  | .hbm, ⟨24, _⟩ => ⟨S8192x512, .f32⟩
  | .hbm, ⟨25, _⟩ => ⟨S8192x512, .f32⟩
  | .hbm, ⟨26, _⟩ => ⟨S_, .f32⟩
  | .hbm, ⟨27, _⟩ => ⟨S8192x512, .f32⟩
  | .hbm, ⟨28, _⟩ => ⟨S8192x512, .f32⟩
  | .hbm, ⟨29, _⟩ => ⟨S8192x512, .f32⟩
  | .hbm, ⟨30, _⟩ => ⟨S8192x512, .f32⟩
  | .hbm, ⟨31, _⟩ => ⟨S8192x512, .f32⟩
  | .hbm, ⟨32, _⟩ => ⟨S8192x512, .f32⟩
  | .hbm, ⟨33, _⟩ => ⟨S8192x512, .f32⟩
  | .hbm, ⟨34, _⟩ => ⟨S8192x512, .f32⟩
  | .hbm, ⟨35, _⟩ => ⟨S_, .f32⟩
  | .hbm, ⟨36, _⟩ => ⟨S8192x512, .f32⟩
  | .hbm, ⟨37, _⟩ => ⟨S8192x512, .f32⟩
  | .hbm, ⟨38, _⟩ => ⟨S_, .f32⟩
  | .hbm, ⟨39, _⟩ => ⟨S8192x512, .f32⟩
  | .hbm, ⟨40, _⟩ => ⟨S8192x512, .f32⟩
  | .hbm, ⟨41, _⟩ => ⟨S8192x512, .f32⟩
  | .hbm, ⟨42, _⟩ => ⟨S8192x512, .f32⟩
  | .hbm, ⟨43, _⟩ => ⟨S_, .f32⟩
  | .hbm, ⟨44, _⟩ => ⟨S8192, .f32⟩
  | .hbm, ⟨45, _⟩ => ⟨S8192x1, .f32⟩
  | .hbm, ⟨46, _⟩ => ⟨S_, .f32⟩
  | .hbm, ⟨47, _⟩ => ⟨S8192x1, .f32⟩
  | .hbm, ⟨48, _⟩ => ⟨S8192x1, .f32⟩
  | .hbm, ⟨49, _⟩ => ⟨S_, .f32⟩
  | .hbm, ⟨50, _⟩ => ⟨S8192x1, .f32⟩
  | .hbm, ⟨51, _⟩ => ⟨S8192x1, .f32⟩
  | .hbm, ⟨52, _⟩ => ⟨S8192x1, .f32⟩
  | .hbm, ⟨53, _⟩ => ⟨S8192x512, .f32⟩
  | .hbm, ⟨54, _⟩ => ⟨S8192x512, .f32⟩
  | .hbm, ⟨55, _⟩ => ⟨S8192x512, .f32⟩
  | .hbm, ⟨56, _⟩ => ⟨S8192x512, .f32⟩
  | .hbm, ⟨57, _⟩ => ⟨S8192x512, .f32⟩
  | .hbm, ⟨58, _⟩ => ⟨S8192x1024, .f32⟩
  | .hbm, ⟨59, _⟩ => ⟨S8192x512, .bf16⟩
  | .hbm, ⟨60, _⟩ => ⟨S8192x1024, .f32⟩
  | .hbm, ⟨61, _⟩ => ⟨S8192x1024, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_3 : Ref sig .tc := ⟨.hbm, 35, rfl⟩
abbrev main_v22 : Ref sig .tc := ⟨.hbm, 36, rfl⟩
abbrev main_v23 : Ref sig .tc := ⟨.hbm, 37, rfl⟩
abbrev main_cst_4 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_5 : Ref sig .tc := ⟨.hbm, 43, rfl⟩
abbrev main_v28 : Ref sig .tc := ⟨.hbm, 44, rfl⟩
abbrev main_v29 : Ref sig .tc := ⟨.hbm, 45, rfl⟩
abbrev main_cst_6 : Ref sig .tc := ⟨.hbm, 46, rfl⟩
abbrev main_v30 : Ref sig .tc := ⟨.hbm, 47, rfl⟩
abbrev main_v31 : Ref sig .tc := ⟨.hbm, 48, rfl⟩
abbrev main_cst_7 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩

abbrev nD : Nat := 1
abbrev τ : Topo := Topo.v7x

variable {F : FTy → Type} [FloatOps F]
-- ==== Proof.RowMath.lean ====
/-
  The real mathematics of one row (one position of the sequence, 512 channels) of the convolution layer's tail
  — layer norm, SiLU, RMS norm — and of its gradient: the form with the means taken out, and the form the
  transposed reference computes, and that the two agree.
-/
module

public import Idealize.ShloMosaic.Lib.Pipeline.ValueKit

@[expose] public section

noncomputable section

namespace Cert.Row

abbrev Row := Fin 512 → ℝ

/-- The small number added under both square roots. -/
def eps : ℝ := 8796093 / 8796093022208

theorem eps_pos : 0 < eps := by norm_num [eps]

def mean (f : Row) : ℝ := (∑ c, f c) * (1 / 512)

def sigm (x : ℝ) : ℝ := (1 + Real.exp (-x))⁻¹

theorem sigm_den_pos (x : ℝ) : 0 < 1 + Real.exp (-x) := by positivity

/-- The logistic function through the hyperbolic tangent. -/
theorem half_tanh (x : ℝ) : (1 / 2) * Real.tanh ((1 / 2) * x) + 1 / 2 = sigm x := by
  have h1 : 0 < Real.exp ((1 / 2) * x) := Real.exp_pos _
  have h2 : 0 < Real.exp (-((1 / 2) * x)) := Real.exp_pos _
  have h3 : Real.exp (-x) = Real.exp (-((1 / 2) * x)) * Real.exp (-((1 / 2) * x)) := by
    rw [← Real.exp_add]; ring_nf
  have h4 : Real.exp ((1 / 2) * x) * Real.exp (-((1 / 2) * x)) = 1 := by
    rw [← Real.exp_add]; simp
  rw [Real.tanh_eq_sinh_div_cosh, Real.sinh_eq, Real.cosh_eq, sigm, h3]
  generalize Real.exp ((1 / 2) * x) = p at *
  generalize Real.exp (-((1 / 2) * x)) = q at *
  have : 0 < p + q := by positivity
  have : 0 < 1 + q * q := by positivity
  field_simp
  nlinarith

/-! ## Forward -/

def cen (x : Row) : Row := fun c => x c - mean x
def vare (x : Row) : ℝ := mean (fun c => cen x c * cen x c) + eps
def rstd (x : Row) : ℝ := (√(vare x))⁻¹
def nrm (x : Row) : Row := fun c => cen x c * rstd x
def lay (x lg lb : Row) : Row := fun c => nrm x c * lg c + lb c
def sg (x lg lb : Row) : Row := fun c => sigm (lay x lg lb c)
def sil (x lg lb : Row) : Row := fun c => lay x lg lb c * sg x lg lb c
def mse (x lg lb : Row) : ℝ := mean (fun c => sil x lg lb c * sil x lg lb c) + eps
def rrms (x lg lb : Row) : ℝ := (√(mse x lg lb))⁻¹
def sh (x lg lb : Row) : Row := fun c => sil x lg lb c * rrms x lg lb

theorem mean_sq_nonneg (f : Row) : 0 ≤ mean fun c => f c * f c := by
  unfold mean
  have : 0 ≤ ∑ c, f c * f c := Finset.sum_nonneg fun c _ => mul_self_nonneg _
  positivity

theorem vare_pos (x : Row) : 0 < vare x := by
  have := mean_sq_nonneg (cen x); have := eps_pos; unfold vare; linarith

theorem mse_pos (x lg lb : Row) : 0 < mse x lg lb := by
  have := mean_sq_nonneg (sil x lg lb); have := eps_pos; unfold mse; linarith

theorem inv_sqrt_div {v : ℝ} (h : 0 < v) : (√v)⁻¹ * (1 / v) = (√v)⁻¹ * (√v)⁻¹ * (√v)⁻¹ := by
  obtain ⟨s, hs, rfl⟩ : ∃ s, 0 < s ∧ v = s * s :=
    ⟨√v, Real.sqrt_pos.mpr h, (Real.mul_self_sqrt h.le).symm⟩
  rw [Real.sqrt_mul_self hs.le]
  field_simp

theorem sum_cen (x : Row) : ∑ c, cen x c = 0 := by
  simp only [cen, Finset.sum_sub_distrib, Finset.sum_const, Finset.card_univ, Fintype.card_fin, nsmul_eq_mul, mean]
  push_cast; ring

/-! ## Gradient, the means taken out -/

def dsh (g og : Row) : Row := fun c => g c * og c
def dsil (x lg lb og g : Row) : Row := fun c =>
  rrms x lg lb * (dsh g og c - sh x lg lb c * mean fun k => dsh g og k * sh x lg lb k)
def dlay (x lg lb og g : Row) : Row := fun c =>
  dsil x lg lb og g c * (sg x lg lb c * (1 + lay x lg lb c * (1 - sg x lg lb c)))
def dnrm (x lg lb og g : Row) : Row := fun c => dlay x lg lb og g c * lg c
def dcv (x lg lb og g : Row) : Row := fun c =>
  rstd x * (dnrm x lg lb og g c - mean (dnrm x lg lb og g)
    - nrm x c * mean fun k => dnrm x lg lb og g k * nrm x k)

/-! ## Gradient, as transposition computes it -/

def dsilT (x lg lb og g : Row) : Row := fun c =>
  let h := (∑ k, sil x lg lb k * dsh g og k) * (-(1 / 2) * (rrms x lg lb * (1 / mse x lg lb))) * (1 / 512)
  dsh g og c * rrms x lg lb + sil x lg lb c * h + h * sil x lg lb c
def dlayT (x lg lb og g : Row) : Row := fun c =>
  dsilT x lg lb og g c * sg x lg lb c
    + lay x lg lb c * dsilT x lg lb og g c * (sg x lg lb c * (1 - sg x lg lb c))
def dcenT (x : Row) (dn : Row) : Row := fun c =>
  let h := (∑ k, cen x k * dn k) * (-(1 / 2) * (rstd x * (1 / vare x))) * (1 / 512)
  dn c * rstd x + cen x c * h + h * cen x c
def dcvT (x dn : Row) : Row := fun c =>
  dcenT x dn c + (∑ k, -dcenT x dn k) * (1 / 512)

theorem dsilT_eq (x lg lb og g : Row) : dsilT x lg lb og g = dsil x lg lb og g := by
  funext c
  have hr := inv_sqrt_div (mse_pos x lg lb)
  change rrms x lg lb * (1 / mse x lg lb) = rrms x lg lb * rrms x lg lb * rrms x lg lb at hr
  have hsum : ∑ k, dsh g og k * (sil x lg lb k * rrms x lg lb)
      = (∑ k, sil x lg lb k * dsh g og k) * rrms x lg lb := by
    rw [Finset.sum_mul]; exact Finset.sum_congr rfl fun k _ => by ring
  simp only [dsilT, dsil, mean, sh, hr, hsum]
  ring

theorem dlayT_eq (x lg lb og g : Row) : dlayT x lg lb og g = dlay x lg lb og g := by
  funext c
  simp only [dlayT, dlay, dsilT_eq]
  ring

theorem dcvT_eq (x lg lb og g : Row) : dcvT x (dnrm x lg lb og g) = dcv x lg lb og g := by
  funext c
  generalize hd : dnrm x lg lb og g = dn
  have hr := inv_sqrt_div (vare_pos x)
  change rstd x * (1 / vare x) = rstd x * rstd x * rstd x at hr
  have hsum : ∑ k, dn k * (cen x k * rstd x) = (∑ k, cen x k * dn k) * rstd x := by
    rw [Finset.sum_mul]; exact Finset.sum_congr rfl fun k _ => by ring
  have hc : ∑ k, -dcenT x dn k = -((∑ k, dn k) * rstd x) := by
    simp only [dcenT, Finset.sum_neg_distrib, Finset.sum_add_distrib, ← Finset.sum_mul, ← Finset.mul_sum, sum_cen]
    ring
  simp only [dcvT, hc, dcv, mean, nrm, hsum, hd]
  simp only [dcenT, hr]
  ring

end Cert.Row

end
-- ==== Proof.RowVec.lean ====
/-
  Arrays of rows of 512 channels that hold real numbers: what each vector operation of the tile does to them.
-/
module

public import proofs.«01_k».proof.Proof.RowMath
public import Idealize.ShloMosaic.Lib.Pipeline.ValueKit
public import Idealize.ShloMosaic.PureOps.Ideal.Laws

@[expose] public section

set_option maxRecDepth 16384

noncomputable section

namespace Cert.Row

open Idealize.ShloMosaic Idealize.ShloMosaic.TcCoe
open Idealize.ShloMosaic.ValueIdx hiding ix1 ix2 ix3 ix4

abbrev Mat (n : ℕ) : Shape := ⟨2, ![n, 512]⟩
abbrev Col (n : ℕ) : Shape := ⟨2, ![n, 1]⟩
abbrev Mat3 (n : ℕ) : Shape := ⟨3, ![1, n, 512]⟩

/-- An array of `n` rows holds the rows of `X`. -/
def H2 {n : ℕ} {φ : FTy} (x : FVec Ideal (Mat n) φ) (X : ℕ → Row) : Prop := ∀ i : (Mat n).Idx, x i = ((X (i 0).val (i 1) : ℝ) : EReal)
/-- … the same with a unit axis in front. -/
def H3 {n : ℕ} {φ : FTy} (x : FVec Ideal (Mat3 n) φ) (X : ℕ → Row) : Prop := ∀ i : (Mat3 n).Idx, x i = ((X (i 1).val (i 2) : ℝ) : EReal)
/-- A column of one number a row. -/
def HC {n : ℕ} {φ : FTy} (x : FVec Ideal (Col n) φ) (f : ℕ → ℝ) : Prop := ∀ i : (Col n).Idx, x i = ((f (i 0).val : ℝ) : EReal)

/-- One row, as a vector. -/
def HV {φ : FTy} (x : FVec Ideal ⟨1, ![512]⟩ φ) (V : Row) : Prop := ∀ i : (⟨1, ![512]⟩ : Shape).Idx, x i = ((V (i 0) : ℝ) : EReal)

theorem coe_sum {ι : Type*} (s : Finset ι) (f : ι → ℝ) : ∑ i ∈ s, ((f i : ℝ) : EReal) = ((∑ i ∈ s, f i : ℝ) : EReal) :=
  (map_sum (⟨⟨Real.toEReal, rfl⟩, EReal.coe_add⟩ : ℝ →+ EReal) f s).symm

variable {n : ℕ} {φ : FTy} {x y : FVec Ideal (Mat n) φ} {X Y : ℕ → Row} {u v : FVec Ideal (Col n) φ} {f g : ℕ → ℝ}

theorem H2.congr (h : H2 x X) (e : ∀ r, r < n → X r = Y r) : H2 x Y := fun i => by rw [h i, e _ (i 0).isLt]

theorem HC.congr (h : HC u f) (e : ∀ r, r < n → f r = g r) : HC u g := fun i => by rw [h i, e _ (i 0).isLt]

theorem H2.mul (hx : H2 x X) (hy : H2 y Y) : H2 (mulf x y) (fun r c => X r c * Y r c) := fun i => by
  rw [mulf_apply, hx i, hy i, ← EReal.coe_mul]
theorem H2.add (hx : H2 x X) (hy : H2 y Y) : H2 (addf x y) (fun r c => X r c + Y r c) := fun i => by
  rw [addf_apply, hx i, hy i, ← EReal.coe_add]
theorem H2.sub (hx : H2 x X) (hy : H2 y Y) : H2 (subf x y) (fun r c => X r c - Y r c) := fun i => by
  rw [subf_apply, hx i, hy i, ← EReal.coe_sub]
theorem HC.mul (hx : HC u f) (hy : HC v g) : HC (mulf u v) (fun r => f r * g r) := fun i => by
  rw [mulf_apply, hx i, hy i, ← EReal.coe_mul]
theorem HC.add (hx : HC u f) (hy : HC v g) : HC (addf u v) (fun r => f r + g r) := fun i => by
  rw [addf_apply, hx i, hy i, ← EReal.coe_add]
theorem H2.tanh {x : FVec Ideal (Mat n) .f32} (hx : H2 x X) : H2 (Idealize.ShloMosaic.tanh x) (fun r c => Real.tanh (X r c)) := fun i => by
  show Ideal.tanh (x i) = _
  rw [hx i, Ideal.tanh_coe]

theorem H2.const {c : Ideal φ} {r : ℝ} (h : c = ((r : ℝ) : EReal)) : H2 (n := n) (broadcast (Mat n) c) (fun _ _ => r) := fun _ => h
theorem HC.const {c : Ideal φ} {r : ℝ} (h : c = ((r : ℝ) : EReal)) : HC (n := n) (broadcast (Col n) c) (fun _ => r) := fun _ => h

theorem half_lit : (Scalar.ofBits .f32 0x3F000000#32 : Ideal .f32) = ((1 / 2 : ℝ) : EReal) := by
  simp [Ideal.ofBits, Ideal.ieee, -EReal.coe_mul]; norm_num
theorem lanes_lit : (Scalar.ofBits .f32 0x44000000#32 : Ideal .f32) = ((512 : ℝ) : EReal) := by
  simp [Ideal.ofBits, Ideal.ieee, -EReal.coe_mul]; norm_num
theorem eps_lit : (Scalar.ofBits .f32 0x358637BD#32 : Ideal .f32) = ((eps : ℝ) : EReal) := by
  simp [Ideal.ofBits, Ideal.ieee, -EReal.coe_mul, eps]; norm_num
theorem one_lit : (Scalar.ofBits .f32 0x3F800000#32 : Ideal .f32) = ((1 : ℝ) : EReal) := by
  simp [Ideal.ofBits, Ideal.ieee, -EReal.coe_mul]; norm_num
theorem zero_lit : (Scalar.ofBits .f32 0x00000000#32 : Ideal .f32) = ((0 : ℝ) : EReal) := by
  simp [Ideal.ofBits, Ideal.ieee, -EReal.coe_mul]

/-- A column divided by the number of channels. -/
theorem HC.lanes {u : FVec Ideal (Col n) .f32} (hx : HC u f) :
    HC (divf u (broadcast (Col n) (Scalar.ofBits .f32 0x44000000#32))) (fun r => f r * (1 / 512)) := fun i => by
  rw [divf_apply, hx i]
  show Ideal.div _ (Scalar.ofBits .f32 0x44000000#32 : Ideal .f32) = _
  rw [lanes_lit, Ideal.div_coe (by norm_num), ← EReal.coe_mul]

theorem HC.rsqrt {u : FVec Ideal (Col n) .f32} (hx : HC u f) (hp : ∀ r, 0 < f r) :
    HC (Idealize.ShloMosaic.rsqrt u) (fun r => (Real.sqrt (f r))⁻¹) := fun i => by
  show Ideal.rsqrt (u i) = _
  rw [hx i, Ideal.rsqrt_coe, if_neg (not_lt.mpr (hp _).le), if_neg (hp _).ne']

theorem H2.self {h} (hx : H2 x X) : H2 (shapeCast (Mat n) x h) X := by rw [shapeCast_self]; exact hx

theorem H3.drop {z : FVec Ideal (Mat3 n) φ} {h} (hx : H3 z X) : H2 (shapeCast (Mat n) z h) X := fun i => by
  rw [shapeCast_apply z h i (ix3 0 (i 0) (i 1)) ?_, hx]
  · rfl
  · rw [Shape.rowMajor_val_three, Shape.rowMajor_val_two]; simp

theorem H2.lift {h} (hx : H2 x X) : H3 (shapeCast (Mat3 n) x h) X := fun i => by
  rw [shapeCast_apply x h i (ix2 (i 1) (i 2)) ?_, hx]
  · rfl
  · have h0 : (i 0).val = 0 := by have := (i 0).isLt; simpa using this
    rw [Shape.rowMajor_val_three, Shape.rowMajor_val_two]; simp [h0]

/-- One row repeated down the tile. -/
theorem H2.lane {z : FVec Ideal (Mat 1) φ} {h} (hx : H2 z X) : H2 (broadcastTo (Mat n) z h) (fun _ => X 0) := fun i => by
  rw [broadcastTo_apply z h i (ix2 0 (i 1)) ?_, hx]
  · rfl
  · intro a; fin_cases a <;> simp

/-- A column repeated across the channels. -/
theorem HC.row {h} (hx : HC u f) : H2 (broadcastTo (Mat n) u h) (fun r _ => f r) := fun i => by
  by_cases h1 : n = 1
  · subst h1
    rw [broadcastTo_apply u h i (ix2 0 0) ?_, hx]
    · have : (i 0).val = 0 := by have := (i 0).isLt; simpa using this
      rw [this]; rfl
    · intro a; fin_cases a <;> simp
  · rw [broadcastTo_apply u h i (ix2 (i 0) 0) ?_, hx]
    · rfl
    · intro a; fin_cases a <;> simp [h1]

/-- The sum over the channels of each row. -/
theorem H2.rowsum {x : FVec Ideal (Mat n) .f32} {h h1 h2 h3} (hx : H2 x X) :
    HC (shapeCast (Col n) (multiReduction .add [1] ⟨1, ![n]⟩ x 0x00000000#32 h1 h2 h3) h) (fun r => ∑ c, X r c) := fun i => by
  rw [shapeCast_apply _ h i (ix1 (i 0)) ?_, Ideal.multiReduction_add_single, ← coe_sum]
  · refine Finset.sum_congr rfl fun k _ => ?_
    rw [hx]
    have e0 : (h1.lift (ix1 (i 0)) k 0).val = (i 0).val := by rw [Shape.Reduces.lift_val]; rfl
    have e1 : h1.lift (ix1 (i 0)) k 1 = k := Fin.ext (by rw [Shape.Reduces.lift_val]; rfl)
    rw [e0, e1]
  · have h0 : (i 1).val = 0 := by have := (i 1).isLt; simpa using this
    rw [Shape.rowMajor_val_one, Shape.rowMajor_val_two]; simp [h0]

/-- The sum down the rows of each channel. -/
theorem H2.colred {x : FVec Ideal (Mat n) .f32} {h1 h2 h3} (hx : H2 x X) :
    HV (multiReduction .add [0] ⟨1, ![512]⟩ x 0x00000000#32 h1 h2 h3) (fun c => ∑ r : Fin n, X r.val c) := fun i => by
  rw [Ideal.multiReduction_add_single, ← coe_sum]
  refine Finset.sum_congr rfl fun k _ => ?_
  rw [hx]
  have e0 : (h1.lift i k 0).val = k.val := by rw [Shape.Reduces.lift_val]; rfl
  have e1 : h1.lift i k 1 = i 0 := Fin.ext (by rw [Shape.Reduces.lift_val]; rfl)
  rw [e0, e1]

theorem HV.up {z : FVec Ideal ⟨1, ![512]⟩ φ} {V : Row} {h} (hz : HV z V) : H2 (n := 1) (shapeCast (Mat 1) z h) (fun _ => V) := fun i => by
  rw [shapeCast_apply _ h i (ix1 (i 1)) ?_, hz]
  · rfl
  · have h0 : (i 0).val = 0 := by have := (i 0).isLt; simpa using this
    rw [Shape.rowMajor_val_one, Shape.rowMajor_val_two]; simp [h0]

end Cert.Row

end
-- ==== Proof.ConvPay.lean ====
/-
  What each stored or carried expression of the tile is, on real rows.
-/
module

public import proofs.«01_k».proof.Proof.Gen.KernelIdeal.Skeleton
public import proofs.«01_k».proof.Proof.RowVec

@[expose] public section

set_option maxRecDepth 16384

noncomputable section

namespace Cert.ConvBwd

open Idealize.ShloMosaic Idealize.ShloMosaic.TcCoe Cert.KernelIdeal Cert.KernelIdeal.Gen Cert.Row

variable {C G V : ℕ → Row} {lg lb og : Row}

theorem pay8 {v11 : Vec Ideal S1x256x512 .f32} (hv11 : H3 (φ := .f32) v11 (G)) :
    H2 (φ := .f32) (k0_pay8 (F := Ideal) v11) (fun r c => sigm (G r c)) :=
  H2.congr (H2.add (H2.mul (H2.const half_lit) (H2.tanh (H2.mul (H2.const half_lit) (H3.drop hv11)))) (H2.const half_lit)) (fun r _ => funext fun c => half_tanh _)

theorem pay9 (i : grid0.Coords) {v20 : Vec Ideal S1x32x512 .f32} (hv20 : H3 (φ := .f32) v20 (V)) {v24 : Vec Ideal S1x32x512 .f32} (hv24 : H3 (φ := .f32) v24 (G)) {kp : ℝ} (hk : (Scalar.sitofp .f32 (Scalar.extui (Scalar.cmpi .sgt (BitVec.ofNat 32 (i 1).val) 0#32) : BitVec 32) : Ideal .f32) = ((kp : ℝ) : EReal)) :
    H2 (φ := .f32) (k0_pay9 (F := Ideal) i v20 v24) (fun r c => kp * V r c * sigm (G r c)) :=
  H2.congr (H2.mul (H2.mul (H2.const hk) (H3.drop hv20)) (H2.congr (Y := fun r c => sigm (G r c)) (H2.add (H2.mul (H2.const half_lit) (H2.tanh (H2.mul (H2.const half_lit) (H3.drop hv24)))) (H2.const half_lit)) (fun r _ => funext fun c => half_tanh _))) (fun r _ => rfl)

theorem pay10 {X33 : ℕ → Row} {v33 : FVec Ideal S32x512 .f32} (hv33 : H2 (φ := .f32) v33 (X33)) :
    H2 (φ := .f32) (k0_pay10 (F := Ideal) v33) (fun r c => X33 r c) :=
  H2.congr (H2.self hv33) (fun r _ => rfl)

theorem pay11 {X19 : ℕ → Row} {X37 : ℕ → Row} {v19 : FVec Ideal S256x512 .f32} (hv19 : H2 (φ := .f32) v19 (X19)) {v37 : Vec Ideal S1x256x512 .f32} (hv37 : H3 (φ := .f32) v37 (X37)) :
    H2 (φ := .f32) (k0_pay11 (F := Ideal) v19 v37) (fun r c => (X37 r c * X19 r c)) :=
  H2.congr (H2.self (H2.mul (H3.drop hv37) hv19)) (fun r _ => rfl)

theorem pay12 {X48 : ℕ → Row} {v48 : Vec Ideal S1x256x512 .f32} (hv48 : H3 (φ := .f32) v48 (X48)) :
    H2 (φ := .f32) (k0_pay12 (F := Ideal) v48) (fun r c => X48 r c) :=
  H2.congr (H3.drop hv48) (fun r _ => rfl)

theorem pay13 {v46 : Vec Ideal S1x256x512 .f32} (hv46 : H3 (φ := .f32) v46 (C)) :
    H2 (φ := .f32) (k0_pay13 (F := Ideal) v46) (fun r => cen (C r)) :=
  H2.congr (H2.sub (H3.drop hv46) (HC.row (HC.lanes (H2.rowsum (H3.drop hv46))))) (fun r _ => rfl)

theorem pay14 {v46 : Vec Ideal S1x256x512 .f32} (hv46 : H3 (φ := .f32) v46 (C)) :
    HC (φ := .f32) (k0_pay14 (F := Ideal) v46) (fun r => rstd (C r)) :=
  HC.congr (HC.rsqrt (HC.add (HC.lanes (H2.rowsum (H2.mul (pay13 hv46) (pay13 hv46)))) (HC.const eps_lit)) (fun r => vare_pos (C r))) (fun r _ => rfl)

theorem pay15 {v46 : Vec Ideal S1x256x512 .f32} (hv46 : H3 (φ := .f32) v46 (C)) :
    H2 (φ := .f32) (k0_pay15 (F := Ideal) v46) (fun r => nrm (C r)) :=
  H2.congr (H2.mul (pay13 hv46) (HC.row (pay14 hv46))) (fun r _ => rfl)

theorem pay16 {v43 : Vec Ideal S1x512 .f32} (hv43 : H2 (φ := .f32) v43 (fun _ => lg)) {v44 : Vec Ideal S1x512 .f32} (hv44 : H2 (φ := .f32) v44 (fun _ => lb)) {v46 : Vec Ideal S1x256x512 .f32} (hv46 : H3 (φ := .f32) v46 (C)) :
    H2 (φ := .f32) (k0_pay16 (F := Ideal) v43 v44 v46) (fun r => lay (C r) lg lb) :=
  H2.congr (H2.add (H2.mul (pay15 hv46) (H2.lane hv43)) (H2.lane hv44)) (fun r _ => rfl)

theorem pay17 {v69 : FVec Ideal S256x512 .f32} (hv69 : H2 (φ := .f32) v69 (fun r => lay (C r) lg lb)) {cst_39 : Ideal .f32} (hcst_39 : cst_39 = ((1 / 2 : ℝ) : EReal)) :
    H2 (φ := .f32) (k0_pay17 (F := Ideal) v69 cst_39) (fun r => sg (C r) lg lb) :=
  H2.congr (H2.add (H2.mul (H2.const half_lit) (H2.tanh (H2.mul (H2.const hcst_39) hv69))) (H2.const half_lit)) (fun r _ => funext fun c => half_tanh _)

theorem pay18 {v69 : FVec Ideal S256x512 .f32} (hv69 : H2 (φ := .f32) v69 (fun r => lay (C r) lg lb)) {cst_39 : Ideal .f32} (hcst_39 : cst_39 = ((1 / 2 : ℝ) : EReal)) :
    H2 (φ := .f32) (k0_pay18 (F := Ideal) v69 cst_39) (fun r => sil (C r) lg lb) :=
  H2.congr (H2.mul hv69 (pay17 hv69 hcst_39)) (fun r _ => rfl)

theorem pay19 {v69 : FVec Ideal S256x512 .f32} (hv69 : H2 (φ := .f32) v69 (fun r => lay (C r) lg lb)) {cst_39 : Ideal .f32} (hcst_39 : cst_39 = ((1 / 2 : ℝ) : EReal)) :
    HC (φ := .f32) (k0_pay19 (F := Ideal) v69 cst_39) (fun r => rrms (C r) lg lb) :=
  HC.congr (HC.rsqrt (HC.add (HC.lanes (H2.rowsum (H2.mul (pay18 hv69 hcst_39) (pay18 hv69 hcst_39)))) (HC.const eps_lit)) (fun r => mse_pos (C r) lg lb)) (fun r _ => rfl)

theorem pay20 {v69 : FVec Ideal S256x512 .f32} (hv69 : H2 (φ := .f32) v69 (fun r => lay (C r) lg lb)) {cst_39 : Ideal .f32} (hcst_39 : cst_39 = ((1 / 2 : ℝ) : EReal)) :
    H2 (φ := .f32) (k0_pay20 (F := Ideal) v69 cst_39) (fun r => sh (C r) lg lb) :=
  H2.congr (H2.mul (pay18 hv69 hcst_39) (HC.row (pay19 hv69 hcst_39))) (fun r _ => rfl)

theorem pay21 {v45 : Vec Ideal S1x512 .f32} (hv45 : H2 (φ := .f32) v45 (fun _ => og)) {v49 : FVec Ideal S256x512 .f32} (hv49 : H2 (φ := .f32) v49 (G)) {v69 : FVec Ideal S256x512 .f32} (hv69 : H2 (φ := .f32) v69 (fun r => lay (C r) lg lb)) {cst_39 : Ideal .f32} (hcst_39 : cst_39 = ((1 / 2 : ℝ) : EReal)) :
    H2 (φ := .f32) (k0_pay21 (F := Ideal) v45 v49 v69 cst_39) (fun r => dlay (C r) lg lb og (G r)) :=
  H2.congr (H2.mul (H2.mul (HC.row (pay19 hv69 hcst_39)) (H2.sub (H2.mul hv49 (H2.lane hv45)) (H2.mul (pay20 hv69 hcst_39) (HC.row (HC.lanes (H2.rowsum (H2.mul (H2.mul hv49 (H2.lane hv45)) (pay20 hv69 hcst_39)))))))) (H2.mul (pay17 hv69 hcst_39) (H2.add (H2.const one_lit) (H2.mul hv69 (H2.sub (H2.const one_lit) (pay17 hv69 hcst_39)))))) (fun r _ => rfl)

theorem pay22 {v43 : Vec Ideal S1x512 .f32} (hv43 : H2 (φ := .f32) v43 (fun _ => lg)) {v45 : Vec Ideal S1x512 .f32} (hv45 : H2 (φ := .f32) v45 (fun _ => og)) {v49 : FVec Ideal S256x512 .f32} (hv49 : H2 (φ := .f32) v49 (G)) {v69 : FVec Ideal S256x512 .f32} (hv69 : H2 (φ := .f32) v69 (fun r => lay (C r) lg lb)) {cst_39 : Ideal .f32} (hcst_39 : cst_39 = ((1 / 2 : ℝ) : EReal)) :
    H2 (φ := .f32) (k0_pay22 (F := Ideal) v43 v45 v49 v69 cst_39) (fun r => dnrm (C r) lg lb og (G r)) :=
  H2.congr (H2.mul (pay21 hv45 hv49 hv69 hcst_39) (H2.lane hv43)) (fun r _ => rfl)

theorem pay23 {v43 : Vec Ideal S1x512 .f32} (hv43 : H2 (φ := .f32) v43 (fun _ => lg)) {v45 : Vec Ideal S1x512 .f32} (hv45 : H2 (φ := .f32) v45 (fun _ => og)) {v49 : FVec Ideal S256x512 .f32} (hv49 : H2 (φ := .f32) v49 (G)) {v69 : FVec Ideal S256x512 .f32} (hv69 : H2 (φ := .f32) v69 (fun r => lay (C r) lg lb)) {cst_39 : Ideal .f32} (hcst_39 : cst_39 = ((1 / 2 : ℝ) : EReal)) :
    H2 (φ := .f32) (k0_pay23 (F := Ideal) v43 v45 v49 v69 cst_39) (fun r c => dnrm (C r) lg lb og (G r) c - mean (dnrm (C r) lg lb og (G r))) :=
  H2.congr (H2.sub (pay22 hv43 hv45 hv49 hv69 hcst_39) (HC.row (HC.lanes (H2.rowsum (pay22 hv43 hv45 hv49 hv69 hcst_39))))) (fun r _ => rfl)

theorem pay24 {v43 : Vec Ideal S1x512 .f32} (hv43 : H2 (φ := .f32) v43 (fun _ => lg)) {v45 : Vec Ideal S1x512 .f32} (hv45 : H2 (φ := .f32) v45 (fun _ => og)) {v49 : FVec Ideal S256x512 .f32} (hv49 : H2 (φ := .f32) v49 (G)) {v65 : FVec Ideal S256x512 .f32} (hv65 : H2 (φ := .f32) v65 (fun r => nrm (C r))) {v69 : FVec Ideal S256x512 .f32} (hv69 : H2 (φ := .f32) v69 (fun r => lay (C r) lg lb)) {cst_39 : Ideal .f32} (hcst_39 : cst_39 = ((1 / 2 : ℝ) : EReal)) :
    HC (φ := .f32) (k0_pay24 (F := Ideal) v43 v45 v49 v65 v69 cst_39) (fun r => ∑ k, dnrm (C r) lg lb og (G r) k * nrm (C r) k) :=
  HC.congr (H2.rowsum (H2.mul (pay22 hv43 hv45 hv49 hv69 hcst_39) hv65)) (fun r _ => rfl)

theorem pay25 {v63 : FVec Ideal S256x1 .f32} (hv63 : HC (φ := .f32) v63 (fun r => rstd (C r))) {v65 : FVec Ideal S256x512 .f32} (hv65 : H2 (φ := .f32) v65 (fun r => nrm (C r))) {v114 : FVec Ideal S256x512 .f32} (hv114 : H2 (φ := .f32) v114 (fun r c => dnrm (C r) lg lb og (G r) c - mean (dnrm (C r) lg lb og (G r)))) {v117 : FVec Ideal S256x1 .f32} (hv117 : HC (φ := .f32) v117 (fun r => ∑ k, dnrm (C r) lg lb og (G r) k * nrm (C r) k)) :
    H2 (φ := .f32) (k0_pay25 (F := Ideal) v63 v65 v114 v117) (fun r => dcv (C r) lg lb og (G r)) :=
  H2.congr (H2.mul (HC.row hv63) (H2.sub hv114 (H2.mul hv65 (HC.row (HC.lanes hv117))))) (fun r _ => rfl)

theorem pay26 {X49 : ℕ → Row} {X87 : ℕ → Row} {v49 : FVec Ideal S256x512 .f32} (hv49 : H2 (φ := .f32) v49 (X49)) {v87 : FVec Ideal S256x512 .f32} (hv87 : H2 (φ := .f32) v87 (X87)) :
    H2 (φ := .f32) (k0_pay26 (F := Ideal) v49 v87) (fun r c => (∑ k1 : Fin 256, (X49 k1.val c * X87 k1.val c))) :=
  H2.congr (HV.up (H2.colred (h2 := .inl rfl) (h3 := rfl) (H2.mul hv49 hv87))) (fun r _ => rfl)

theorem pay27 {X65 : ℕ → Row} {X106 : ℕ → Row} {v65 : FVec Ideal S256x512 .f32} (hv65 : H2 (φ := .f32) v65 (X65)) {v106 : FVec Ideal S256x512 .f32} (hv106 : H2 (φ := .f32) v106 (X106)) :
    H2 (φ := .f32) (k0_pay27 (F := Ideal) v65 v106) (fun r c => (∑ k2 : Fin 256, (X106 k2.val c * X65 k2.val c))) :=
  H2.congr (HV.up (H2.colred (h2 := .inl rfl) (h3 := rfl) (H2.mul hv106 hv65))) (fun r _ => rfl)

theorem pay28 {X106 : ℕ → Row} {v106 : FVec Ideal S256x512 .f32} (hv106 : H2 (φ := .f32) v106 (X106)) :
    H2 (φ := .f32) (k0_pay28 (F := Ideal) v106) (fun r c => (∑ k3 : Fin 256, X106 k3.val c)) :=
  H2.congr (HV.up (H2.colred (h2 := .inl rfl) (h3 := rfl) hv106)) (fun r _ => rfl)

theorem pay29 {X135 : ℕ → Row} {v10 : Ideal .f32} {s10 : ℝ} (hv10 : v10 = ((s10 : ℝ) : EReal)) {v135 : Vec Ideal S1x32x512 .f32} (hv135 : H3 (φ := .f32) v135 (X135)) :
    H2 (φ := .f32) (k0_pay29 (F := Ideal) v10 v135) (fun r c => (s10 * X135 r c)) :=
  H2.congr (H2.mul (H2.const hv10) (H3.drop hv135)) (fun r _ => rfl)

theorem pay30 {v133 : Vec Ideal S1x32x512 .f32} (hv133 : H3 (φ := .f32) v133 (C)) :
    H2 (φ := .f32) (k0_pay30 (F := Ideal) v133) (fun r => cen (C r)) :=
  H2.congr (H2.sub (H3.drop hv133) (HC.row (HC.lanes (H2.rowsum (H3.drop hv133))))) (fun r _ => rfl)

theorem pay31 {v133 : Vec Ideal S1x32x512 .f32} (hv133 : H3 (φ := .f32) v133 (C)) :
    HC (φ := .f32) (k0_pay31 (F := Ideal) v133) (fun r => rstd (C r)) :=
  HC.congr (HC.rsqrt (HC.add (HC.lanes (H2.rowsum (H2.mul (pay30 hv133) (pay30 hv133)))) (HC.const eps_lit)) (fun r => vare_pos (C r))) (fun r _ => rfl)

theorem pay32 {v133 : Vec Ideal S1x32x512 .f32} (hv133 : H3 (φ := .f32) v133 (C)) :
    H2 (φ := .f32) (k0_pay32 (F := Ideal) v133) (fun r => nrm (C r)) :=
  H2.congr (H2.mul (pay30 hv133) (HC.row (pay31 hv133))) (fun r _ => rfl)

theorem pay33 {v43 : Vec Ideal S1x512 .f32} (hv43 : H2 (φ := .f32) v43 (fun _ => lg)) {v44 : Vec Ideal S1x512 .f32} (hv44 : H2 (φ := .f32) v44 (fun _ => lb)) {v133 : Vec Ideal S1x32x512 .f32} (hv133 : H3 (φ := .f32) v133 (C)) :
    H2 (φ := .f32) (k0_pay33 (F := Ideal) v43 v44 v133) (fun r => lay (C r) lg lb) :=
  H2.congr (H2.add (H2.mul (pay32 hv133) (H2.lane hv43)) (H2.lane hv44)) (fun r _ => rfl)

theorem pay34 {v43 : Vec Ideal S1x512 .f32} (hv43 : H2 (φ := .f32) v43 (fun _ => lg)) {v44 : Vec Ideal S1x512 .f32} (hv44 : H2 (φ := .f32) v44 (fun _ => lb)) {v133 : Vec Ideal S1x32x512 .f32} (hv133 : H3 (φ := .f32) v133 (C)) :
    H2 (φ := .f32) (k0_pay34 (F := Ideal) v43 v44 v133) (fun r c => Real.tanh ((1 / 2) * lay (C r) lg lb c)) :=
  H2.congr (H2.tanh (H2.mul (H2.const half_lit) (pay33 hv43 hv44 hv133))) (fun r _ => rfl)

theorem pay35 {v43 : Vec Ideal S1x512 .f32} (hv43 : H2 (φ := .f32) v43 (fun _ => lg)) {v45 : Vec Ideal S1x512 .f32} (hv45 : H2 (φ := .f32) v45 (fun _ => og)) {v138 : FVec Ideal S32x512 .f32} (hv138 : H2 (φ := .f32) v138 (G)) {v158 : FVec Ideal S32x512 .f32} (hv158 : H2 (φ := .f32) v158 (fun r => lay (C r) lg lb)) {v161 : FVec Ideal S32x512 .f32} (hv161 : H2 (φ := .f32) v161 (fun r c => Real.tanh ((1 / 2) * lay (C r) lg lb c))) :
    H2 (φ := .f32) (k0_pay35 (F := Ideal) v43 v45 v138 v158 v161) (fun r => dnrm (C r) lg lb og (G r)) :=
  H2.congr (H2.mul (H2.mul (H2.mul (HC.row (HC.congr (g := fun r => rrms (C r) lg lb) (HC.rsqrt (HC.add (HC.lanes (H2.rowsum (H2.mul (H2.congr (Y := fun r => sil (C r) lg lb) (H2.mul hv158 (H2.congr (Y := fun r => sg (C r) lg lb) (H2.add (H2.mul (H2.const half_lit) hv161) (H2.const half_lit)) (fun r _ => funext fun c => half_tanh _))) (fun r _ => rfl)) (H2.congr (Y := fun r => sil (C r) lg lb) (H2.mul hv158 (H2.congr (Y := fun r => sg (C r) lg lb) (H2.add (H2.mul (H2.const half_lit) hv161) (H2.const half_lit)) (fun r _ => funext fun c => half_tanh _))) (fun r _ => rfl))))) (HC.const eps_lit)) (fun r => mse_pos (C r) lg lb)) (fun r _ => rfl))) (H2.sub (H2.mul hv138 (H2.lane hv45)) (H2.mul (H2.mul (H2.congr (Y := fun r => sil (C r) lg lb) (H2.mul hv158 (H2.congr (Y := fun r => sg (C r) lg lb) (H2.add (H2.mul (H2.const half_lit) hv161) (H2.const half_lit)) (fun r _ => funext fun c => half_tanh _))) (fun r _ => rfl)) (HC.row (HC.congr (g := fun r => rrms (C r) lg lb) (HC.rsqrt (HC.add (HC.lanes (H2.rowsum (H2.mul (H2.congr (Y := fun r => sil (C r) lg lb) (H2.mul hv158 (H2.congr (Y := fun r => sg (C r) lg lb) (H2.add (H2.mul (H2.const half_lit) hv161) (H2.const half_lit)) (fun r _ => funext fun c => half_tanh _))) (fun r _ => rfl)) (H2.congr (Y := fun r => sil (C r) lg lb) (H2.mul hv158 (H2.congr (Y := fun r => sg (C r) lg lb) (H2.add (H2.mul (H2.const half_lit) hv161) (H2.const half_lit)) (fun r _ => funext fun c => half_tanh _))) (fun r _ => rfl))))) (HC.const eps_lit)) (fun r => mse_pos (C r) lg lb)) (fun r _ => rfl)))) (HC.row (HC.lanes (H2.rowsum (H2.mul (H2.mul hv138 (H2.lane hv45)) (H2.mul (H2.congr (Y := fun r => sil (C r) lg lb) (H2.mul hv158 (H2.congr (Y := fun r => sg (C r) lg lb) (H2.add (H2.mul (H2.const half_lit) hv161) (H2.const half_lit)) (fun r _ => funext fun c => half_tanh _))) (fun r _ => rfl)) (HC.row (HC.congr (g := fun r => rrms (C r) lg lb) (HC.rsqrt (HC.add (HC.lanes (H2.rowsum (H2.mul (H2.congr (Y := fun r => sil (C r) lg lb) (H2.mul hv158 (H2.congr (Y := fun r => sg (C r) lg lb) (H2.add (H2.mul (H2.const half_lit) hv161) (H2.const half_lit)) (fun r _ => funext fun c => half_tanh _))) (fun r _ => rfl)) (H2.congr (Y := fun r => sil (C r) lg lb) (H2.mul hv158 (H2.congr (Y := fun r => sg (C r) lg lb) (H2.add (H2.mul (H2.const half_lit) hv161) (H2.const half_lit)) (fun r _ => funext fun c => half_tanh _))) (fun r _ => rfl))))) (HC.const eps_lit)) (fun r => mse_pos (C r) lg lb)) (fun r _ => rfl))))))))))) (H2.mul (H2.congr (Y := fun r => sg (C r) lg lb) (H2.add (H2.mul (H2.const half_lit) hv161) (H2.const half_lit)) (fun r _ => funext fun c => half_tanh _)) (H2.add (H2.const one_lit) (H2.mul hv158 (H2.sub (H2.const one_lit) (H2.congr (Y := fun r => sg (C r) lg lb) (H2.add (H2.mul (H2.const half_lit) hv161) (H2.const half_lit)) (fun r _ => funext fun c => half_tanh _))))))) (H2.lane hv43)) (fun r _ => rfl)

theorem pay36 {v43 : Vec Ideal S1x512 .f32} (hv43 : H2 (φ := .f32) v43 (fun _ => lg)) {v45 : Vec Ideal S1x512 .f32} (hv45 : H2 (φ := .f32) v45 (fun _ => og)) {v138 : FVec Ideal S32x512 .f32} (hv138 : H2 (φ := .f32) v138 (G)) {v158 : FVec Ideal S32x512 .f32} (hv158 : H2 (φ := .f32) v158 (fun r => lay (C r) lg lb)) {v161 : FVec Ideal S32x512 .f32} (hv161 : H2 (φ := .f32) v161 (fun r c => Real.tanh ((1 / 2) * lay (C r) lg lb c))) :
    H2 (φ := .f32) (k0_pay36 (F := Ideal) v43 v45 v138 v158 v161) (fun r c => dnrm (C r) lg lb og (G r) c - mean (dnrm (C r) lg lb og (G r))) :=
  H2.congr (H2.sub (pay35 hv43 hv45 hv138 hv158 hv161) (HC.row (HC.lanes (H2.rowsum (pay35 hv43 hv45 hv138 hv158 hv161))))) (fun r _ => rfl)

theorem pay37 {v43 : Vec Ideal S1x512 .f32} (hv43 : H2 (φ := .f32) v43 (fun _ => lg)) {v45 : Vec Ideal S1x512 .f32} (hv45 : H2 (φ := .f32) v45 (fun _ => og)) {v138 : FVec Ideal S32x512 .f32} (hv138 : H2 (φ := .f32) v138 (G)) {v154 : FVec Ideal S32x512 .f32} (hv154 : H2 (φ := .f32) v154 (fun r => nrm (C r))) {v158 : FVec Ideal S32x512 .f32} (hv158 : H2 (φ := .f32) v158 (fun r => lay (C r) lg lb)) {v161 : FVec Ideal S32x512 .f32} (hv161 : H2 (φ := .f32) v161 (fun r c => Real.tanh ((1 / 2) * lay (C r) lg lb c))) :
    HC (φ := .f32) (k0_pay37 (F := Ideal) v43 v45 v138 v154 v158 v161) (fun r => mean fun k => dnrm (C r) lg lb og (G r) k * nrm (C r) k) :=
  HC.congr (HC.lanes (H2.rowsum (H2.mul (pay35 hv43 hv45 hv138 hv158 hv161) hv154))) (fun r _ => rfl)

theorem pay38 {X127 : ℕ → Row} {X214 : ℕ → Row} {v127 : FVec Ideal S1x512 .f32} (hv127 : H2 (φ := .f32) v127 (X127)) {v214 : Vec Ideal S1x512 .f32} (hv214 : H2 (φ := .f32) v214 (X214)) :
    H2 (φ := .f32) (k0_pay38 (F := Ideal) v127 v214) (fun r c => (X214 r c + X127 r c)) :=
  H2.congr (H2.add (H2.self hv214) hv127) (fun r _ => rfl)

theorem pay39 {X130 : ℕ → Row} {X218 : ℕ → Row} {v130 : FVec Ideal S1x512 .f32} (hv130 : H2 (φ := .f32) v130 (X130)) {v218 : Vec Ideal S1x512 .f32} (hv218 : H2 (φ := .f32) v218 (X218)) :
    H2 (φ := .f32) (k0_pay39 (F := Ideal) v130 v218) (fun r c => (X218 r c + X130 r c)) :=
  H2.congr (H2.add (H2.self hv218) hv130) (fun r _ => rfl)

theorem pay40 {X132 : ℕ → Row} {X222 : ℕ → Row} {v132 : FVec Ideal S1x512 .f32} (hv132 : H2 (φ := .f32) v132 (X132)) {v222 : Vec Ideal S1x512 .f32} (hv222 : H2 (φ := .f32) v222 (X222)) :
    H2 (φ := .f32) (k0_pay40 (F := Ideal) v132 v222) (fun r c => (X222 r c + X132 r c)) :=
  H2.congr (H2.add (H2.self hv222) hv132) (fun r _ => rfl)

theorem pay41 {X124 : ℕ → Row} {X226 : ℕ → Row} {v124 : FVec Ideal S256x512 .f32} (hv124 : H2 (φ := .f32) v124 (X124)) {v226 : Vec Ideal S1x512 .f32} (hv226 : H2 (φ := .f32) v226 (X226)) :
    H2 (φ := .f32) (k0_pay41 (F := Ideal) v124 v226) (fun r c => (X226 r c + (∑ k4 : Fin 256, X124 k4.val c))) :=
  H2.congr (H2.add (H2.self hv226) (HV.up (H2.colred (h2 := .inl rfl) (h3 := rfl) hv124))) (fun r _ => rfl)

theorem pay42 {X124 : ℕ → Row} {v124 : FVec Ideal S256x512 .f32} (hv124 : H2 (φ := .f32) v124 (X124)) :
    H2 (φ := .f32) (k0_pay42 (F := Ideal) v124) (fun r c => X124 r c) :=
  H2.congr (H2.self hv124) (fun r _ => rfl)

theorem pay43 {v152 : FVec Ideal S32x1 .f32} (hv152 : HC (φ := .f32) v152 (fun r => rstd (C r))) {v154 : FVec Ideal S32x512 .f32} (hv154 : H2 (φ := .f32) v154 (fun r => nrm (C r))) {v203 : FVec Ideal S32x512 .f32} (hv203 : H2 (φ := .f32) v203 (fun r c => dnrm (C r) lg lb og (G r) c - mean (dnrm (C r) lg lb og (G r)))) {v208 : FVec Ideal S32x1 .f32} (hv208 : HC (φ := .f32) v208 (fun r => mean fun k => dnrm (C r) lg lb og (G r) k * nrm (C r) k)) :
    H2 (φ := .f32) (k0_pay43 (F := Ideal) v152 v154 v203 v208) (fun r => dcv (C r) lg lb og (G r)) :=
  H2.congr (H2.self (H2.mul (HC.row hv152) (H2.sub hv203 (H2.mul hv154 (HC.row hv208))))) (fun r _ => rfl)

theorem pay44 {X238 : ℕ → Row} {v238 : Vec Ideal S1x512 .f32} (hv238 : H2 (φ := .f32) v238 (X238)) :
    H2 (φ := .f32) (k0_pay44 (F := Ideal) v238) (fun r c => X238 r c) :=
  H2.congr (H2.self hv238) (fun r _ => rfl)

theorem pay45 {X239 : ℕ → Row} {X240 : ℕ → Row} {X243 : ℕ → Row} {X245 : ℕ → Row} {X249 : ℕ → Row} {X251 : ℕ → Row} {X255 : ℕ → Row} {X257 : ℕ → Row} {v239 : FVec Ideal S1x512 .f32} (hv239 : H2 (φ := .f32) v239 (X239)) {v240 : Vec Ideal S256x512 .f32} (hv240 : H2 (φ := .f32) v240 (X240)) {v243 : Vec Ideal S1x512 .f32} (hv243 : H2 (φ := .f32) v243 (X243)) {v245 : Vec Ideal S256x512 .f32} (hv245 : H2 (φ := .f32) v245 (X245)) {v249 : Vec Ideal S1x512 .f32} (hv249 : H2 (φ := .f32) v249 (X249)) {v251 : Vec Ideal S256x512 .f32} (hv251 : H2 (φ := .f32) v251 (X251)) {v255 : Vec Ideal S1x512 .f32} (hv255 : H2 (φ := .f32) v255 (X255)) {v257 : Vec Ideal S256x512 .f32} (hv257 : H2 (φ := .f32) v257 (X257)) :
    H2 (φ := .f32) (k0_pay45 (F := Ideal) v239 v240 v243 v245 v249 v251 v255 v257) (fun r c => ((((X239 0 c * X240 r c) + (X243 0 c * X245 r c)) + (X249 0 c * X251 r c)) + (X255 0 c * X257 r c))) :=
  H2.congr (H2.add (H2.add (H2.add (H2.mul (H2.lane hv239) hv240) (H2.mul (H2.lane (H2.self hv243)) hv245)) (H2.mul (H2.lane (H2.self hv249)) hv251)) (H2.mul (H2.lane (H2.self hv255)) hv257)) (fun r _ => rfl)

theorem pay46 {X261 : ℕ → Row} {X263 : ℕ → Row} {X266 : ℕ → Row} {X268 : ℕ → Row} {v261 : Vec Ideal S1x512 .f32} (hv261 : H2 (φ := .f32) v261 (X261)) {v263 : Vec Ideal S264x512 .f32} (hv263 : H2 (φ := .f32) v263 (X263)) {v266 : Vec Ideal S1x512 .f32} (hv266 : H2 (φ := .f32) v266 (X266)) {v268 : Vec Ideal S264x512 .f32} (hv268 : H2 (φ := .f32) v268 (X268)) :
    H2 (φ := .f32) (k0_pay46 (F := Ideal) v261 v263 v266 v268) (fun r c => ((X261 0 c * X263 r c) + (X266 0 c * X268 r c))) :=
  H2.congr (H2.add (H2.mul (H2.lane (H2.self hv261)) hv263) (H2.mul (H2.lane (H2.self hv266)) hv268)) (fun r _ => rfl)

theorem pay47 {X272 : ℕ → Row} {v272 : Vec Ideal S1x512 .f32} (hv272 : H2 (φ := .f32) v272 (X272)) :
    H2 (φ := .f32) (k0_pay47 (F := Ideal) v272) (fun r c => X272 r c) :=
  H2.congr (H2.self hv272) (fun r _ => rfl)

theorem pay48 {X271 : ℕ → Row} {X273 : ℕ → Row} {X274 : ℕ → Row} {X278 : ℕ → Row} {X280 : ℕ → Row} {v271 : FVec Ideal S264x512 .f32} (hv271 : H2 (φ := .f32) v271 (X271)) {v273 : FVec Ideal S1x512 .f32} (hv273 : H2 (φ := .f32) v273 (X273)) {v274 : Vec Ideal S264x512 .f32} (hv274 : H2 (φ := .f32) v274 (X274)) {v278 : Vec Ideal S1x512 .f32} (hv278 : H2 (φ := .f32) v278 (X278)) {v280 : Vec Ideal S264x512 .f32} (hv280 : H2 (φ := .f32) v280 (X280)) :
    H2 (φ := .f32) (k0_pay48 (F := Ideal) v271 v273 v274 v278 v280) (fun r c => ((X271 r c + (X273 0 c * X274 r c)) + (X278 0 c * X280 r c))) :=
  H2.congr (H2.self (H2.add (H2.add hv271 (H2.mul (H2.lane hv273) hv274)) (H2.mul (H2.lane (H2.self hv278)) hv280))) (fun r _ => rfl)

theorem pay49 {X260 : ℕ → Row} {X287 : ℕ → Row} {v260 : FVec Ideal S256x512 .f32} (hv260 : H2 (φ := .f32) v260 (X260)) {v287 : Vec Ideal S256x512 .f32} (hv287 : H2 (φ := .f32) v287 (X287)) :
    H2 (φ := .f32) (k0_pay49 (F := Ideal) v260 v287) (fun r c => (X260 r c + X287 r c)) :=
  H2.congr (H2.add hv260 hv287) (fun r _ => rfl)

theorem pay50 {X289 : ℕ → Row} {X291 : ℕ → Row} {X294 : ℕ → Row} {X296 : ℕ → Row} {X300 : ℕ → Row} {X302 : ℕ → Row} {v289 : Vec Ideal S1x512 .f32} (hv289 : H2 (φ := .f32) v289 (X289)) {v291 : Vec Ideal S264x512 .f32} (hv291 : H2 (φ := .f32) v291 (X291)) {v294 : Vec Ideal S1x512 .f32} (hv294 : H2 (φ := .f32) v294 (X294)) {v296 : Vec Ideal S264x512 .f32} (hv296 : H2 (φ := .f32) v296 (X296)) {v300 : Vec Ideal S1x512 .f32} (hv300 : H2 (φ := .f32) v300 (X300)) {v302 : Vec Ideal S264x512 .f32} (hv302 : H2 (φ := .f32) v302 (X302)) :
    H2 (φ := .f32) (k0_pay50 (F := Ideal) v289 v291 v294 v296 v300 v302) (fun r c => (((X289 0 c * X291 r c) + (X294 0 c * X296 r c)) + (X300 0 c * X302 r c))) :=
  H2.congr (H2.add (H2.add (H2.mul (H2.lane (H2.self hv289)) hv291) (H2.mul (H2.lane (H2.self hv294)) hv296)) (H2.mul (H2.lane (H2.self hv300)) hv302)) (fun r _ => rfl)

theorem pay51 {X306 : ℕ → Row} {v306 : Vec Ideal S1x512 .f32} (hv306 : H2 (φ := .f32) v306 (X306)) :
    H2 (φ := .f32) (k0_pay51 (F := Ideal) v306) (fun r c => X306 r c) :=
  H2.congr (H2.self hv306) (fun r _ => rfl)

theorem pay52 {X305 : ℕ → Row} {X307 : ℕ → Row} {X308 : ℕ → Row} {v305 : FVec Ideal S264x512 .f32} (hv305 : H2 (φ := .f32) v305 (X305)) {v307 : FVec Ideal S1x512 .f32} (hv307 : H2 (φ := .f32) v307 (X307)) {v308 : Vec Ideal S264x512 .f32} (hv308 : H2 (φ := .f32) v308 (X308)) :
    H2 (φ := .f32) (k0_pay52 (F := Ideal) v305 v307 v308) (fun r c => (X305 r c + (X307 0 c * X308 r c))) :=
  H2.congr (H2.self (H2.add hv305 (H2.mul (H2.lane hv307) hv308))) (fun r _ => rfl)

theorem pay53 {X288 : ℕ → Row} {X315 : ℕ → Row} {v288 : FVec Ideal S256x512 .f32} (hv288 : H2 (φ := .f32) v288 (X288)) {v315 : Vec Ideal S256x512 .f32} (hv315 : H2 (φ := .f32) v315 (X315)) :
    H2 (φ := .f32) (k0_pay53 (F := Ideal) v288 v315) (fun r c => (X288 r c + X315 r c)) :=
  H2.congr (H2.add hv288 hv315) (fun r _ => rfl)

theorem pay54 {X317 : ℕ → Row} {X319 : ℕ → Row} {X322 : ℕ → Row} {X324 : ℕ → Row} {X328 : ℕ → Row} {X330 : ℕ → Row} {X334 : ℕ → Row} {X336 : ℕ → Row} {v317 : Vec Ideal S1x512 .f32} (hv317 : H2 (φ := .f32) v317 (X317)) {v319 : Vec Ideal S264x512 .f32} (hv319 : H2 (φ := .f32) v319 (X319)) {v322 : Vec Ideal S1x512 .f32} (hv322 : H2 (φ := .f32) v322 (X322)) {v324 : Vec Ideal S264x512 .f32} (hv324 : H2 (φ := .f32) v324 (X324)) {v328 : Vec Ideal S1x512 .f32} (hv328 : H2 (φ := .f32) v328 (X328)) {v330 : Vec Ideal S264x512 .f32} (hv330 : H2 (φ := .f32) v330 (X330)) {v334 : Vec Ideal S1x512 .f32} (hv334 : H2 (φ := .f32) v334 (X334)) {v336 : Vec Ideal S264x512 .f32} (hv336 : H2 (φ := .f32) v336 (X336)) :
    H2 (φ := .f32) (k0_pay54 (F := Ideal) v317 v319 v322 v324 v328 v330 v334 v336) (fun r c => ((((X317 0 c * X319 r c) + (X322 0 c * X324 r c)) + (X328 0 c * X330 r c)) + (X334 0 c * X336 r c))) :=
  H2.congr (H2.self (H2.add (H2.add (H2.add (H2.mul (H2.lane (H2.self hv317)) hv319) (H2.mul (H2.lane (H2.self hv322)) hv324)) (H2.mul (H2.lane (H2.self hv328)) hv330)) (H2.mul (H2.lane (H2.self hv334)) hv336))) (fun r _ => rfl)

theorem pay55 {X345 : ℕ → Row} {X347 : ℕ → Row} {X350 : ℕ → Row} {X352 : ℕ → Row} {X356 : ℕ → Row} {X358 : ℕ → Row} {X362 : ℕ → Row} {X364 : ℕ → Row} {v345 : Vec Ideal S1x512 .f32} (hv345 : H2 (φ := .f32) v345 (X345)) {v347 : Vec Ideal S264x512 .f32} (hv347 : H2 (φ := .f32) v347 (X347)) {v350 : Vec Ideal S1x512 .f32} (hv350 : H2 (φ := .f32) v350 (X350)) {v352 : Vec Ideal S264x512 .f32} (hv352 : H2 (φ := .f32) v352 (X352)) {v356 : Vec Ideal S1x512 .f32} (hv356 : H2 (φ := .f32) v356 (X356)) {v358 : Vec Ideal S264x512 .f32} (hv358 : H2 (φ := .f32) v358 (X358)) {v362 : Vec Ideal S1x512 .f32} (hv362 : H2 (φ := .f32) v362 (X362)) {v364 : Vec Ideal S264x512 .f32} (hv364 : H2 (φ := .f32) v364 (X364)) :
    H2 (φ := .f32) (k0_pay55 (F := Ideal) v345 v347 v350 v352 v356 v358 v362 v364) (fun r c => ((((X345 0 c * X347 r c) + (X350 0 c * X352 r c)) + (X356 0 c * X358 r c)) + (X362 0 c * X364 r c))) :=
  H2.congr (H2.self (H2.add (H2.add (H2.add (H2.mul (H2.lane (H2.self hv345)) hv347) (H2.mul (H2.lane (H2.self hv350)) hv352)) (H2.mul (H2.lane (H2.self hv356)) hv358)) (H2.mul (H2.lane (H2.self hv362)) hv364))) (fun r _ => rfl)

theorem pay56 {X316 : ℕ → Row} {X343 : ℕ → Row} {X371 : ℕ → Row} {v316 : FVec Ideal S256x512 .f32} (hv316 : H2 (φ := .f32) v316 (X316)) {v343 : Vec Ideal S256x512 .f32} (hv343 : H2 (φ := .f32) v343 (X343)) {v371 : Vec Ideal S256x512 .f32} (hv371 : H2 (φ := .f32) v371 (X371)) :
    H2 (φ := .f32) (k0_pay56 (F := Ideal) v316 v343 v371) (fun r c => ((X316 r c + X343 r c) + X371 r c)) :=
  H2.congr (H2.add (H2.add hv316 hv343) hv371) (fun r _ => rfl)

theorem pay57 {X373 : ℕ → Row} {X375 : ℕ → Row} {v373 : Vec Ideal S1x512 .f32} (hv373 : H2 (φ := .f32) v373 (X373)) {v375 : Vec Ideal S264x512 .f32} (hv375 : H2 (φ := .f32) v375 (X375)) :
    H2 (φ := .f32) (k0_pay57 (F := Ideal) v373 v375) (fun r c => (X373 0 c * X375 r c)) :=
  H2.congr (H2.mul (H2.lane (H2.self hv373)) hv375) (fun r _ => rfl)

theorem pay58 {X377 : ℕ → Row} {X378 : ℕ → Row} {X380 : ℕ → Row} {X384 : ℕ → Row} {X386 : ℕ → Row} {X390 : ℕ → Row} {X392 : ℕ → Row} {v377 : FVec Ideal S264x512 .f32} (hv377 : H2 (φ := .f32) v377 (X377)) {v378 : Vec Ideal S1x512 .f32} (hv378 : H2 (φ := .f32) v378 (X378)) {v380 : Vec Ideal S264x512 .f32} (hv380 : H2 (φ := .f32) v380 (X380)) {v384 : Vec Ideal S1x512 .f32} (hv384 : H2 (φ := .f32) v384 (X384)) {v386 : Vec Ideal S264x512 .f32} (hv386 : H2 (φ := .f32) v386 (X386)) {v390 : Vec Ideal S1x512 .f32} (hv390 : H2 (φ := .f32) v390 (X390)) {v392 : Vec Ideal S264x512 .f32} (hv392 : H2 (φ := .f32) v392 (X392)) :
    H2 (φ := .f32) (k0_pay58 (F := Ideal) v377 v378 v380 v384 v386 v390 v392) (fun r c => (((X377 r c + (X378 0 c * X380 r c)) + (X384 0 c * X386 r c)) + (X390 0 c * X392 r c))) :=
  H2.congr (H2.self (H2.add (H2.add (H2.add hv377 (H2.mul (H2.lane (H2.self hv378)) hv380)) (H2.mul (H2.lane (H2.self hv384)) hv386)) (H2.mul (H2.lane (H2.self hv390)) hv392))) (fun r _ => rfl)

theorem pay59 {X372 : ℕ → Row} {X399 : ℕ → Row} {v372 : FVec Ideal S256x512 .f32} (hv372 : H2 (φ := .f32) v372 (X372)) {v399 : Vec Ideal S256x512 .f32} (hv399 : H2 (φ := .f32) v399 (X399)) :
    H2 (φ := .f32) (k0_pay59 (F := Ideal) v372 v399) (fun r c => (X372 r c + X399 r c)) :=
  H2.congr (H2.add hv372 hv399) (fun r _ => rfl)

theorem pay60 {X401 : ℕ → Row} {X403 : ℕ → Row} {X406 : ℕ → Row} {X408 : ℕ → Row} {v401 : Vec Ideal S1x512 .f32} (hv401 : H2 (φ := .f32) v401 (X401)) {v403 : Vec Ideal S264x512 .f32} (hv403 : H2 (φ := .f32) v403 (X403)) {v406 : Vec Ideal S1x512 .f32} (hv406 : H2 (φ := .f32) v406 (X406)) {v408 : Vec Ideal S264x512 .f32} (hv408 : H2 (φ := .f32) v408 (X408)) :
    H2 (φ := .f32) (k0_pay60 (F := Ideal) v401 v403 v406 v408) (fun r c => ((X401 0 c * X403 r c) + (X406 0 c * X408 r c))) :=
  H2.congr (H2.add (H2.mul (H2.lane (H2.self hv401)) hv403) (H2.mul (H2.lane (H2.self hv406)) hv408)) (fun r _ => rfl)

theorem pay61 {X411 : ℕ → Row} {X412 : ℕ → Row} {X414 : ℕ → Row} {X418 : ℕ → Row} {X420 : ℕ → Row} {v411 : FVec Ideal S264x512 .f32} (hv411 : H2 (φ := .f32) v411 (X411)) {v412 : Vec Ideal S1x512 .f32} (hv412 : H2 (φ := .f32) v412 (X412)) {v414 : Vec Ideal S264x512 .f32} (hv414 : H2 (φ := .f32) v414 (X414)) {v418 : Vec Ideal S1x512 .f32} (hv418 : H2 (φ := .f32) v418 (X418)) {v420 : Vec Ideal S264x512 .f32} (hv420 : H2 (φ := .f32) v420 (X420)) :
    H2 (φ := .f32) (k0_pay61 (F := Ideal) v411 v412 v414 v418 v420) (fun r c => ((X411 r c + (X412 0 c * X414 r c)) + (X418 0 c * X420 r c))) :=
  H2.congr (H2.self (H2.add (H2.add hv411 (H2.mul (H2.lane (H2.self hv412)) hv414)) (H2.mul (H2.lane (H2.self hv418)) hv420))) (fun r _ => rfl)

theorem pay62 {X400 : ℕ → Row} {X427 : ℕ → Row} {v400 : FVec Ideal S256x512 .f32} (hv400 : H2 (φ := .f32) v400 (X400)) {v427 : Vec Ideal S256x512 .f32} (hv427 : H2 (φ := .f32) v427 (X427)) :
    H2 (φ := .f32) (k0_pay62 (F := Ideal) v400 v427) (fun r c => (X400 r c + X427 r c)) :=
  H2.congr (H2.add hv400 hv427) (fun r _ => rfl)

theorem pay63 {X429 : ℕ → Row} {X431 : ℕ → Row} {X434 : ℕ → Row} {X436 : ℕ → Row} {X440 : ℕ → Row} {X442 : ℕ → Row} {v429 : Vec Ideal S1x512 .f32} (hv429 : H2 (φ := .f32) v429 (X429)) {v431 : Vec Ideal S264x512 .f32} (hv431 : H2 (φ := .f32) v431 (X431)) {v434 : Vec Ideal S1x512 .f32} (hv434 : H2 (φ := .f32) v434 (X434)) {v436 : Vec Ideal S264x512 .f32} (hv436 : H2 (φ := .f32) v436 (X436)) {v440 : Vec Ideal S1x512 .f32} (hv440 : H2 (φ := .f32) v440 (X440)) {v442 : Vec Ideal S264x512 .f32} (hv442 : H2 (φ := .f32) v442 (X442)) :
    H2 (φ := .f32) (k0_pay63 (F := Ideal) v429 v431 v434 v436 v440 v442) (fun r c => (((X429 0 c * X431 r c) + (X434 0 c * X436 r c)) + (X440 0 c * X442 r c))) :=
  H2.congr (H2.add (H2.add (H2.mul (H2.lane (H2.self hv429)) hv431) (H2.mul (H2.lane (H2.self hv434)) hv436)) (H2.mul (H2.lane (H2.self hv440)) hv442)) (fun r _ => rfl)

theorem pay64 {X445 : ℕ → Row} {v445 : FVec Ideal S264x512 .f32} (hv445 : H2 (φ := .f32) v445 (X445)) :
    H2 (φ := .f32) (k0_pay64 (F := Ideal) v445) (fun r c => X445 r c) :=
  H2.congr (H2.self hv445) (fun r _ => rfl)

theorem pay65 {X428 : ℕ → Row} {X449 : ℕ → Row} {v428 : FVec Ideal S256x512 .f32} (hv428 : H2 (φ := .f32) v428 (X428)) {v449 : Vec Ideal S256x512 .f32} (hv449 : H2 (φ := .f32) v449 (X449)) :
    H2 (φ := .f32) (k0_pay65 (F := Ideal) v428 v449) (fun r c => (X428 r c + X449 r c)) :=
  H2.congr (H2.add hv428 hv449) (fun r _ => rfl)

theorem pay66 {X124 : ℕ → Row} {X451 : ℕ → Row} {X453 : ℕ → Row} {v124 : FVec Ideal S256x512 .f32} (hv124 : H2 (φ := .f32) v124 (X124)) {v451 : Vec Ideal S256x512 .f32} (hv451 : H2 (φ := .f32) v451 (X451)) {v453 : Vec Ideal S1x512 .f32} (hv453 : H2 (φ := .f32) v453 (X453)) :
    H2 (φ := .f32) (k0_pay66 (F := Ideal) v124 v451 v453) (fun r c => (X453 r c + (∑ k5 : Fin 256, (X124 k5.val c * X451 k5.val c)))) :=
  H2.congr (H2.add (H2.self hv453) (HV.up (H2.colred (h2 := .inl rfl) (h3 := rfl) (H2.mul hv124 hv451)))) (fun r _ => rfl)

theorem pay67 {X124 : ℕ → Row} {X459 : ℕ → Row} {X461 : ℕ → Row} {v124 : FVec Ideal S256x512 .f32} (hv124 : H2 (φ := .f32) v124 (X124)) {v459 : Vec Ideal S256x512 .f32} (hv459 : H2 (φ := .f32) v459 (X459)) {v461 : Vec Ideal S1x512 .f32} (hv461 : H2 (φ := .f32) v461 (X461)) :
    H2 (φ := .f32) (k0_pay67 (F := Ideal) v124 v459 v461) (fun r c => (X461 r c + (∑ k6 : Fin 256, (X124 k6.val c * X459 k6.val c)))) :=
  H2.congr (H2.add (H2.self hv461) (HV.up (H2.colred (h2 := .inl rfl) (h3 := rfl) (H2.mul hv124 hv459)))) (fun r _ => rfl)

theorem pay68 {X124 : ℕ → Row} {X467 : ℕ → Row} {X469 : ℕ → Row} {v124 : FVec Ideal S256x512 .f32} (hv124 : H2 (φ := .f32) v124 (X124)) {v467 : Vec Ideal S256x512 .f32} (hv467 : H2 (φ := .f32) v467 (X467)) {v469 : Vec Ideal S1x512 .f32} (hv469 : H2 (φ := .f32) v469 (X469)) :
    H2 (φ := .f32) (k0_pay68 (F := Ideal) v124 v467 v469) (fun r c => (X469 r c + (∑ k7 : Fin 256, (X124 k7.val c * X467 k7.val c)))) :=
  H2.congr (H2.add (H2.self hv469) (HV.up (H2.colred (h2 := .inl rfl) (h3 := rfl) (H2.mul hv124 hv467)))) (fun r _ => rfl)

theorem pay69 {X124 : ℕ → Row} {X475 : ℕ → Row} {v124 : FVec Ideal S256x512 .f32} (hv124 : H2 (φ := .f32) v124 (X124)) {v475 : Vec Ideal S256x512 .f32} (hv475 : H2 (φ := .f32) v475 (X475)) :
    H2 (φ := .f32) (k0_pay69 (F := Ideal) v124 v475) (fun r c => (X124 r c * X475 r c)) :=
  H2.congr (H2.mul hv124 hv475) (fun r _ => rfl)

theorem pay70 {X476 : ℕ → Row} {X477 : ℕ → Row} {v476 : FVec Ideal S256x512 .f32} (hv476 : H2 (φ := .f32) v476 (X476)) {v477 : Vec Ideal S1x512 .f32} (hv477 : H2 (φ := .f32) v477 (X477)) :
    H2 (φ := .f32) (k0_pay70 (F := Ideal) v476 v477) (fun r c => (X477 r c + (∑ k8 : Fin 256, X476 k8.val c))) :=
  H2.congr (H2.add (H2.self hv477) (HV.up (H2.colred (h2 := .inl rfl) (h3 := rfl) hv476))) (fun r _ => rfl)

theorem pay71  :
    H2 (φ := .f32) (k0_pay71 (F := Ideal) ) (fun r c => 0) :=
  H2.congr (H2.self (H2.const zero_lit)) (fun r _ => rfl)

theorem pay72  :
    H2 (φ := .f32) (k0_pay72 (F := Ideal) ) (fun r c => 0) :=
  H2.congr (H2.self (H2.const zero_lit)) (fun r _ => rfl)

theorem pay73 {X124 : ℕ → Row} {v124 : FVec Ideal S256x512 .f32} (hv124 : H2 (φ := .f32) v124 (X124)) :
    H2 (φ := .f32) (k0_pay73 (F := Ideal) v124) (fun r c => X124 r c) :=
  H2.congr (H2.self hv124) (fun r _ => rfl)

theorem pay74 {X494 : ℕ → Row} {X495 : ℕ → Row} {X497 : ℕ → Row} {v494 : Vec Ideal S264x512 .f32} (hv494 : H2 (φ := .f32) v494 (X494)) {v495 : Vec Ideal S264x512 .f32} (hv495 : H2 (φ := .f32) v495 (X495)) {v497 : Vec Ideal S1x512 .f32} (hv497 : H2 (φ := .f32) v497 (X497)) :
    H2 (φ := .f32) (k0_pay74 (F := Ideal) v494 v495 v497) (fun r c => (X497 r c + (∑ k9 : Fin 264, (X494 k9.val c * X495 k9.val c)))) :=
  H2.congr (H2.add (H2.self hv497) (HV.up (H2.colred (h2 := .inl rfl) (h3 := rfl) (H2.mul hv494 hv495)))) (fun r _ => rfl)

theorem pay75 {X503 : ℕ → Row} {X504 : ℕ → Row} {v503 : Vec Ideal S264x512 .f32} (hv503 : H2 (φ := .f32) v503 (X503)) {v504 : Vec Ideal S264x512 .f32} (hv504 : H2 (φ := .f32) v504 (X504)) :
    H2 (φ := .f32) (k0_pay75 (F := Ideal) v503 v504) (fun r c => (X503 r c * X504 r c)) :=
  H2.congr (H2.mul hv503 hv504) (fun r _ => rfl)

theorem pay76 {X505 : ℕ → Row} {X506 : ℕ → Row} {v505 : FVec Ideal S264x512 .f32} (hv505 : H2 (φ := .f32) v505 (X505)) {v506 : Vec Ideal S1x512 .f32} (hv506 : H2 (φ := .f32) v506 (X506)) :
    H2 (φ := .f32) (k0_pay76 (F := Ideal) v505 v506) (fun r c => (X506 r c + (∑ k10 : Fin 264, X505 k10.val c))) :=
  H2.congr (H2.add (H2.self hv506) (HV.up (H2.colred (h2 := .inl rfl) (h3 := rfl) hv505))) (fun r _ => rfl)

theorem pay77 {X512 : ℕ → Row} {X513 : ℕ → Row} {X515 : ℕ → Row} {v512 : Vec Ideal S264x512 .f32} (hv512 : H2 (φ := .f32) v512 (X512)) {v513 : Vec Ideal S264x512 .f32} (hv513 : H2 (φ := .f32) v513 (X513)) {v515 : Vec Ideal S1x512 .f32} (hv515 : H2 (φ := .f32) v515 (X515)) :
    H2 (φ := .f32) (k0_pay77 (F := Ideal) v512 v513 v515) (fun r c => (X515 r c + (∑ k11 : Fin 264, (X512 k11.val c * X513 k11.val c)))) :=
  H2.congr (H2.add (H2.self hv515) (HV.up (H2.colred (h2 := .inl rfl) (h3 := rfl) (H2.mul hv512 hv513)))) (fun r _ => rfl)

theorem pay78  :
    H2 (φ := .f32) (k0_pay78 (F := Ideal) ) (fun r c => 0) :=
  H2.congr (H2.self (H2.const zero_lit)) (fun r _ => rfl)

theorem pay79  :
    H2 (φ := .f32) (k0_pay79 (F := Ideal) ) (fun r c => 0) :=
  H2.congr (H2.self (H2.const zero_lit)) (fun r _ => rfl)

theorem pay80 {X124 : ℕ → Row} {v124 : FVec Ideal S256x512 .f32} (hv124 : H2 (φ := .f32) v124 (X124)) :
    H2 (φ := .f32) (k0_pay80 (F := Ideal) v124) (fun r c => X124 r c) :=
  H2.congr (H2.self hv124) (fun r _ => rfl)

theorem pay81 {X532 : ℕ → Row} {X533 : ℕ → Row} {v532 : Vec Ideal S264x512 .f32} (hv532 : H2 (φ := .f32) v532 (X532)) {v533 : Vec Ideal S264x512 .f32} (hv533 : H2 (φ := .f32) v533 (X533)) :
    H2 (φ := .f32) (k0_pay81 (F := Ideal) v532 v533) (fun r c => (X532 r c * X533 r c)) :=
  H2.congr (H2.mul hv532 hv533) (fun r _ => rfl)

theorem pay82 {X534 : ℕ → Row} {X535 : ℕ → Row} {v534 : FVec Ideal S264x512 .f32} (hv534 : H2 (φ := .f32) v534 (X534)) {v535 : Vec Ideal S1x512 .f32} (hv535 : H2 (φ := .f32) v535 (X535)) :
    H2 (φ := .f32) (k0_pay82 (F := Ideal) v534 v535) (fun r c => (X535 r c + (∑ k12 : Fin 264, X534 k12.val c))) :=
  H2.congr (H2.add (H2.self hv535) (HV.up (H2.colred (h2 := .inl rfl) (h3 := rfl) hv534))) (fun r _ => rfl)

theorem pay83 {X541 : ℕ → Row} {X542 : ℕ → Row} {X544 : ℕ → Row} {v541 : Vec Ideal S264x512 .f32} (hv541 : H2 (φ := .f32) v541 (X541)) {v542 : Vec Ideal S264x512 .f32} (hv542 : H2 (φ := .f32) v542 (X542)) {v544 : Vec Ideal S1x512 .f32} (hv544 : H2 (φ := .f32) v544 (X544)) :
    H2 (φ := .f32) (k0_pay83 (F := Ideal) v541 v542 v544) (fun r c => (X544 r c + (∑ k13 : Fin 264, (X541 k13.val c * X542 k13.val c)))) :=
  H2.congr (H2.add (H2.self hv544) (HV.up (H2.colred (h2 := .inl rfl) (h3 := rfl) (H2.mul hv541 hv542)))) (fun r _ => rfl)

theorem pay84 {X550 : ℕ → Row} {X551 : ℕ → Row} {X553 : ℕ → Row} {v550 : Vec Ideal S264x512 .f32} (hv550 : H2 (φ := .f32) v550 (X550)) {v551 : Vec Ideal S264x512 .f32} (hv551 : H2 (φ := .f32) v551 (X551)) {v553 : Vec Ideal S1x512 .f32} (hv553 : H2 (φ := .f32) v553 (X553)) :
    H2 (φ := .f32) (k0_pay84 (F := Ideal) v550 v551 v553) (fun r c => (X553 r c + (∑ k14 : Fin 264, (X550 k14.val c * X551 k14.val c)))) :=
  H2.congr (H2.add (H2.self hv553) (HV.up (H2.colred (h2 := .inl rfl) (h3 := rfl) (H2.mul hv550 hv551)))) (fun r _ => rfl)

theorem pay85 {X559 : ℕ → Row} {X560 : ℕ → Row} {v559 : Vec Ideal S264x512 .f32} (hv559 : H2 (φ := .f32) v559 (X559)) {v560 : Vec Ideal S264x512 .f32} (hv560 : H2 (φ := .f32) v560 (X560)) :
    H2 (φ := .f32) (k0_pay85 (F := Ideal) v559 v560) (fun r c => (X559 r c * X560 r c)) :=
  H2.congr (H2.mul hv559 hv560) (fun r _ => rfl)

theorem pay86 {X561 : ℕ → Row} {X562 : ℕ → Row} {v561 : FVec Ideal S264x512 .f32} (hv561 : H2 (φ := .f32) v561 (X561)) {v562 : Vec Ideal S1x512 .f32} (hv562 : H2 (φ := .f32) v562 (X562)) :
    H2 (φ := .f32) (k0_pay86 (F := Ideal) v561 v562) (fun r c => (X562 r c + (∑ k15 : Fin 264, X561 k15.val c))) :=
  H2.congr (H2.add (H2.self hv562) (HV.up (H2.colred (h2 := .inl rfl) (h3 := rfl) hv561))) (fun r _ => rfl)

theorem pay87  :
    H2 (φ := .f32) (k0_pay87 (F := Ideal) ) (fun r c => 0) :=
  H2.congr (H2.self (H2.const zero_lit)) (fun r _ => rfl)

theorem pay88  :
    H2 (φ := .f32) (k0_pay88 (F := Ideal) ) (fun r c => 0) :=
  H2.congr (H2.self (H2.const zero_lit)) (fun r _ => rfl)

theorem pay89 {X124 : ℕ → Row} {v124 : FVec Ideal S256x512 .f32} (hv124 : H2 (φ := .f32) v124 (X124)) :
    H2 (φ := .f32) (k0_pay89 (F := Ideal) v124) (fun r c => X124 r c) :=
  H2.congr (H2.self hv124) (fun r _ => rfl)

theorem pay90 {X579 : ℕ → Row} {X580 : ℕ → Row} {X582 : ℕ → Row} {v579 : Vec Ideal S264x512 .f32} (hv579 : H2 (φ := .f32) v579 (X579)) {v580 : Vec Ideal S264x512 .f32} (hv580 : H2 (φ := .f32) v580 (X580)) {v582 : Vec Ideal S1x512 .f32} (hv582 : H2 (φ := .f32) v582 (X582)) :
    H2 (φ := .f32) (k0_pay90 (F := Ideal) v579 v580 v582) (fun r c => (X582 r c + (∑ k16 : Fin 264, (X579 k16.val c * X580 k16.val c)))) :=
  H2.congr (H2.add (H2.self hv582) (HV.up (H2.colred (h2 := .inl rfl) (h3 := rfl) (H2.mul hv579 hv580)))) (fun r _ => rfl)

theorem pay91 {X588 : ℕ → Row} {X589 : ℕ → Row} {v588 : Vec Ideal S264x512 .f32} (hv588 : H2 (φ := .f32) v588 (X588)) {v589 : Vec Ideal S264x512 .f32} (hv589 : H2 (φ := .f32) v589 (X589)) :
    H2 (φ := .f32) (k0_pay91 (F := Ideal) v588 v589) (fun r c => (X588 r c * X589 r c)) :=
  H2.congr (H2.mul hv588 hv589) (fun r _ => rfl)

theorem pay92 {X590 : ℕ → Row} {X591 : ℕ → Row} {v590 : FVec Ideal S264x512 .f32} (hv590 : H2 (φ := .f32) v590 (X590)) {v591 : Vec Ideal S1x512 .f32} (hv591 : H2 (φ := .f32) v591 (X591)) :
    H2 (φ := .f32) (k0_pay92 (F := Ideal) v590 v591) (fun r c => (X591 r c + (∑ k17 : Fin 264, X590 k17.val c))) :=
  H2.congr (H2.add (H2.self hv591) (HV.up (H2.colred (h2 := .inl rfl) (h3 := rfl) hv590))) (fun r _ => rfl)

theorem pay93 {X597 : ℕ → Row} {X598 : ℕ → Row} {X600 : ℕ → Row} {v597 : Vec Ideal S264x512 .f32} (hv597 : H2 (φ := .f32) v597 (X597)) {v598 : Vec Ideal S264x512 .f32} (hv598 : H2 (φ := .f32) v598 (X598)) {v600 : Vec Ideal S1x512 .f32} (hv600 : H2 (φ := .f32) v600 (X600)) :
    H2 (φ := .f32) (k0_pay93 (F := Ideal) v597 v598 v600) (fun r c => (X600 r c + (∑ k18 : Fin 264, (X597 k18.val c * X598 k18.val c)))) :=
  H2.congr (H2.add (H2.self hv600) (HV.up (H2.colred (h2 := .inl rfl) (h3 := rfl) (H2.mul hv597 hv598)))) (fun r _ => rfl)

theorem pay94 {X606 : ℕ → Row} {X607 : ℕ → Row} {X609 : ℕ → Row} {v606 : Vec Ideal S264x512 .f32} (hv606 : H2 (φ := .f32) v606 (X606)) {v607 : Vec Ideal S264x512 .f32} (hv607 : H2 (φ := .f32) v607 (X607)) {v609 : Vec Ideal S1x512 .f32} (hv609 : H2 (φ := .f32) v609 (X609)) :
    H2 (φ := .f32) (k0_pay94 (F := Ideal) v606 v607 v609) (fun r c => (X609 r c + (∑ k19 : Fin 264, (X606 k19.val c * X607 k19.val c)))) :=
  H2.congr (H2.add (H2.self hv609) (HV.up (H2.colred (h2 := .inl rfl) (h3 := rfl) (H2.mul hv606 hv607)))) (fun r _ => rfl)

theorem pay95  :
    H2 (φ := .f32) (k0_pay95 (F := Ideal) ) (fun r c => 0) :=
  H2.congr (H2.self (H2.const zero_lit)) (fun r _ => rfl)

theorem pay96  :
    H2 (φ := .f32) (k0_pay96 (F := Ideal) ) (fun r c => 0) :=
  H2.congr (H2.const zero_lit) (fun r _ => rfl)

theorem pay97 {X619 : ℕ → Row} {v619 : FVec Ideal S8x512 .f32} (hv619 : H2 (φ := .f32) v619 (X619)) :
    H2 (φ := .f32) (k0_pay97 (F := Ideal) v619) (fun r c => X619 r c) :=
  H2.congr (H2.self hv619) (fun r _ => rfl)

theorem pay98 {X124 : ℕ → Row} {v124 : FVec Ideal S256x512 .f32} (hv124 : H2 (φ := .f32) v124 (X124)) :
    H2 (φ := .f32) (k0_pay98 (F := Ideal) v124) (fun r c => X124 r c) :=
  H2.congr (H2.self hv124) (fun r _ => rfl)

theorem pay99 {X626 : ℕ → Row} {X627 : ℕ → Row} {X629 : ℕ → Row} {v626 : Vec Ideal S264x512 .f32} (hv626 : H2 (φ := .f32) v626 (X626)) {v627 : Vec Ideal S264x512 .f32} (hv627 : H2 (φ := .f32) v627 (X627)) {v629 : Vec Ideal S1x512 .f32} (hv629 : H2 (φ := .f32) v629 (X629)) :
    H2 (φ := .f32) (k0_pay99 (F := Ideal) v626 v627 v629) (fun r c => (X629 r c + (∑ k20 : Fin 264, (X626 k20.val c * X627 k20.val c)))) :=
  H2.congr (H2.add (H2.self hv629) (HV.up (H2.colred (h2 := .inl rfl) (h3 := rfl) (H2.mul hv626 hv627)))) (fun r _ => rfl)

theorem pay100 {X635 : ℕ → Row} {X636 : ℕ → Row} {X638 : ℕ → Row} {v635 : Vec Ideal S264x512 .f32} (hv635 : H2 (φ := .f32) v635 (X635)) {v636 : Vec Ideal S264x512 .f32} (hv636 : H2 (φ := .f32) v636 (X636)) {v638 : Vec Ideal S1x512 .f32} (hv638 : H2 (φ := .f32) v638 (X638)) :
    H2 (φ := .f32) (k0_pay100 (F := Ideal) v635 v636 v638) (fun r c => (X638 r c + (∑ k21 : Fin 264, (X635 k21.val c * X636 k21.val c)))) :=
  H2.congr (H2.add (H2.self hv638) (HV.up (H2.colred (h2 := .inl rfl) (h3 := rfl) (H2.mul hv635 hv636)))) (fun r _ => rfl)

theorem pay101 {X647 : ℕ → Row} {v647 : Vec Ideal S1x512 .f32} (hv647 : H2 (φ := .f32) v647 (X647)) :
    H2 (φ := .f32) (k0_pay101 (F := Ideal) v647) (fun r c => X647 r c) :=
  H2.congr (H2.self hv647) (fun r _ => rfl)

theorem pay102 {X644 : ℕ → Row} {X645 : ℕ → Row} {v644 : Vec Ideal S264x512 .f32} (hv644 : H2 (φ := .f32) v644 (X644)) {v645 : Vec Ideal S264x512 .f32} (hv645 : H2 (φ := .f32) v645 (X645)) :
    HV (φ := .f32) (k0_pay102 (F := Ideal) v644 v645) (fun c => (∑ k22 : Fin 264, (X644 k22.val c * X645 k22.val c))) :=
  (H2.colred (h2 := .inl rfl) (h3 := rfl) (H2.mul hv644 hv645))

theorem pay103 {X648 : ℕ → Row} {X649 : Row} {v648 : FVec Ideal S1x512 .f32} (hv648 : H2 (φ := .f32) v648 (X648)) {v649 : FVec Ideal S512 .f32} (hv649 : HV (φ := .f32) v649 (X649)) :
    H2 (φ := .f32) (k0_pay103 (F := Ideal) v648 v649) (fun r c => (X648 r c + X649 c)) :=
  H2.congr (H2.add hv648 (HV.up hv649)) (fun r _ => rfl)

theorem pay104 {X653 : ℕ → Row} {X654 : ℕ → Row} {X656 : ℕ → Row} {v653 : Vec Ideal S264x512 .f32} (hv653 : H2 (φ := .f32) v653 (X653)) {v654 : Vec Ideal S264x512 .f32} (hv654 : H2 (φ := .f32) v654 (X654)) {v656 : Vec Ideal S1x512 .f32} (hv656 : H2 (φ := .f32) v656 (X656)) :
    H2 (φ := .f32) (k0_pay104 (F := Ideal) v653 v654 v656) (fun r c => (X656 r c + (∑ k23 : Fin 264, (X653 k23.val c * X654 k23.val c)))) :=
  H2.congr (H2.add (H2.self hv656) (HV.up (H2.colred (h2 := .inl rfl) (h3 := rfl) (H2.mul hv653 hv654)))) (fun r _ => rfl)

theorem pay105  :
    H2 (φ := .f32) (k0_pay105 (F := Ideal) ) (fun r c => 0) :=
  H2.congr (H2.self (H2.const zero_lit)) (fun r _ => rfl)

theorem pay106  :
    H2 (φ := .f32) (k0_pay106 (F := Ideal) ) (fun r c => 0) :=
  H2.congr (H2.self (H2.const zero_lit)) (fun r _ => rfl)

theorem pay107 {X124 : ℕ → Row} {v124 : FVec Ideal S256x512 .f32} (hv124 : H2 (φ := .f32) v124 (X124)) :
    H2 (φ := .f32) (k0_pay107 (F := Ideal) v124) (fun r c => X124 r c) :=
  H2.congr (H2.self hv124) (fun r _ => rfl)

theorem pay108 {X676 : ℕ → Row} {v676 : Vec Ideal S1x512 .f32} (hv676 : H2 (φ := .f32) v676 (X676)) :
    H2 (φ := .f32) (k0_pay108 (F := Ideal) v676) (fun r c => X676 r c) :=
  H2.congr (H2.self hv676) (fun r _ => rfl)

theorem pay109 {X673 : ℕ → Row} {X674 : ℕ → Row} {v673 : Vec Ideal S264x512 .f32} (hv673 : H2 (φ := .f32) v673 (X673)) {v674 : Vec Ideal S264x512 .f32} (hv674 : H2 (φ := .f32) v674 (X674)) :
    HV (φ := .f32) (k0_pay109 (F := Ideal) v673 v674) (fun c => (∑ k24 : Fin 264, (X673 k24.val c * X674 k24.val c))) :=
  (H2.colred (h2 := .inl rfl) (h3 := rfl) (H2.mul hv673 hv674))

theorem pay110 {X677 : ℕ → Row} {X678 : Row} {v677 : FVec Ideal S1x512 .f32} (hv677 : H2 (φ := .f32) v677 (X677)) {v678 : FVec Ideal S512 .f32} (hv678 : HV (φ := .f32) v678 (X678)) :
    H2 (φ := .f32) (k0_pay110 (F := Ideal) v677 v678) (fun r c => (X677 r c + X678 c)) :=
  H2.congr (H2.add hv677 (HV.up hv678)) (fun r _ => rfl)

theorem pay111 {X682 : ℕ → Row} {X683 : ℕ → Row} {X685 : ℕ → Row} {v682 : Vec Ideal S264x512 .f32} (hv682 : H2 (φ := .f32) v682 (X682)) {v683 : Vec Ideal S264x512 .f32} (hv683 : H2 (φ := .f32) v683 (X683)) {v685 : Vec Ideal S1x512 .f32} (hv685 : H2 (φ := .f32) v685 (X685)) :
    H2 (φ := .f32) (k0_pay111 (F := Ideal) v682 v683 v685) (fun r c => (X685 r c + (∑ k25 : Fin 264, (X682 k25.val c * X683 k25.val c)))) :=
  H2.congr (H2.add (H2.self hv685) (HV.up (H2.colred (h2 := .inl rfl) (h3 := rfl) (H2.mul hv682 hv683)))) (fun r _ => rfl)

theorem pay112 {X691 : ℕ → Row} {X692 : ℕ → Row} {X694 : ℕ → Row} {v691 : Vec Ideal S264x512 .f32} (hv691 : H2 (φ := .f32) v691 (X691)) {v692 : Vec Ideal S264x512 .f32} (hv692 : H2 (φ := .f32) v692 (X692)) {v694 : Vec Ideal S1x512 .f32} (hv694 : H2 (φ := .f32) v694 (X694)) :
    H2 (φ := .f32) (k0_pay112 (F := Ideal) v691 v692 v694) (fun r c => (X694 r c + (∑ k26 : Fin 264, (X691 k26.val c * X692 k26.val c)))) :=
  H2.congr (H2.add (H2.self hv694) (HV.up (H2.colred (h2 := .inl rfl) (h3 := rfl) (H2.mul hv691 hv692)))) (fun r _ => rfl)

theorem pay113 {X700 : ℕ → Row} {X701 : ℕ → Row} {X703 : ℕ → Row} {v700 : Vec Ideal S264x512 .f32} (hv700 : H2 (φ := .f32) v700 (X700)) {v701 : Vec Ideal S264x512 .f32} (hv701 : H2 (φ := .f32) v701 (X701)) {v703 : Vec Ideal S1x512 .f32} (hv703 : H2 (φ := .f32) v703 (X703)) :
    H2 (φ := .f32) (k0_pay113 (F := Ideal) v700 v701 v703) (fun r c => (X703 r c + (∑ k27 : Fin 264, (X700 k27.val c * X701 k27.val c)))) :=
  H2.congr (H2.add (H2.self hv703) (HV.up (H2.colred (h2 := .inl rfl) (h3 := rfl) (H2.mul hv700 hv701)))) (fun r _ => rfl)

theorem pay114  :
    H2 (φ := .f32) (k0_pay114 (F := Ideal) ) (fun r c => 0) :=
  H2.congr (H2.self (H2.const zero_lit)) (fun r _ => rfl)

theorem pay115  :
    H2 (φ := .f32) (k0_pay115 (F := Ideal) ) (fun r c => 0) :=
  H2.congr (H2.self (H2.const zero_lit)) (fun r _ => rfl)

theorem pay116 {X124 : ℕ → Row} {v124 : FVec Ideal S256x512 .f32} (hv124 : H2 (φ := .f32) v124 (X124)) :
    H2 (φ := .f32) (k0_pay116 (F := Ideal) v124) (fun r c => X124 r c) :=
  H2.congr (H2.self hv124) (fun r _ => rfl)

theorem pay117 {X720 : ℕ → Row} {X721 : ℕ → Row} {X723 : ℕ → Row} {v720 : Vec Ideal S264x512 .f32} (hv720 : H2 (φ := .f32) v720 (X720)) {v721 : Vec Ideal S264x512 .f32} (hv721 : H2 (φ := .f32) v721 (X721)) {v723 : Vec Ideal S1x512 .f32} (hv723 : H2 (φ := .f32) v723 (X723)) :
    H2 (φ := .f32) (k0_pay117 (F := Ideal) v720 v721 v723) (fun r c => (X723 r c + (∑ k28 : Fin 264, (X720 k28.val c * X721 k28.val c)))) :=
  H2.congr (H2.add (H2.self hv723) (HV.up (H2.colred (h2 := .inl rfl) (h3 := rfl) (H2.mul hv720 hv721)))) (fun r _ => rfl)

theorem pay118 {X729 : ℕ → Row} {X730 : ℕ → Row} {X732 : ℕ → Row} {v729 : Vec Ideal S264x512 .f32} (hv729 : H2 (φ := .f32) v729 (X729)) {v730 : Vec Ideal S264x512 .f32} (hv730 : H2 (φ := .f32) v730 (X730)) {v732 : Vec Ideal S1x512 .f32} (hv732 : H2 (φ := .f32) v732 (X732)) :
    H2 (φ := .f32) (k0_pay118 (F := Ideal) v729 v730 v732) (fun r c => (X732 r c + (∑ k29 : Fin 264, (X729 k29.val c * X730 k29.val c)))) :=
  H2.congr (H2.add (H2.self hv732) (HV.up (H2.colred (h2 := .inl rfl) (h3 := rfl) (H2.mul hv729 hv730)))) (fun r _ => rfl)

theorem pay119 {X738 : ℕ → Row} {X739 : ℕ → Row} {X741 : ℕ → Row} {v738 : Vec Ideal S264x512 .f32} (hv738 : H2 (φ := .f32) v738 (X738)) {v739 : Vec Ideal S264x512 .f32} (hv739 : H2 (φ := .f32) v739 (X739)) {v741 : Vec Ideal S1x512 .f32} (hv741 : H2 (φ := .f32) v741 (X741)) :
    H2 (φ := .f32) (k0_pay119 (F := Ideal) v738 v739 v741) (fun r c => (X741 r c + (∑ k30 : Fin 264, (X738 k30.val c * X739 k30.val c)))) :=
  H2.congr (H2.add (H2.self hv741) (HV.up (H2.colred (h2 := .inl rfl) (h3 := rfl) (H2.mul hv738 hv739)))) (fun r _ => rfl)

theorem pay120 {X747 : ℕ → Row} {X748 : ℕ → Row} {X750 : ℕ → Row} {v747 : Vec Ideal S264x512 .f32} (hv747 : H2 (φ := .f32) v747 (X747)) {v748 : Vec Ideal S264x512 .f32} (hv748 : H2 (φ := .f32) v748 (X748)) {v750 : Vec Ideal S1x512 .f32} (hv750 : H2 (φ := .f32) v750 (X750)) :
    H2 (φ := .f32) (k0_pay120 (F := Ideal) v747 v748 v750) (fun r c => (X750 r c + (∑ k31 : Fin 264, (X747 k31.val c * X748 k31.val c)))) :=
  H2.congr (H2.add (H2.self hv750) (HV.up (H2.colred (h2 := .inl rfl) (h3 := rfl) (H2.mul hv747 hv748)))) (fun r _ => rfl)

theorem pay121  :
    H2 (φ := .f32) (k0_pay121 (F := Ideal) ) (fun r c => 0) :=
  H2.congr (H2.self (H2.const zero_lit)) (fun r _ => rfl)

theorem pay122  :
    H2 (φ := .f32) (k0_pay122 (F := Ideal) ) (fun r c => 0) :=
  H2.congr (H2.self (H2.const zero_lit)) (fun r _ => rfl)

theorem pay123 {X124 : ℕ → Row} {v124 : FVec Ideal S256x512 .f32} (hv124 : H2 (φ := .f32) v124 (X124)) :
    H2 (φ := .f32) (k0_pay123 (F := Ideal) v124) (fun r c => X124 r c) :=
  H2.congr (H2.self hv124) (fun r _ => rfl)

theorem pay124 {X767 : ℕ → Row} {X768 : ℕ → Row} {X770 : ℕ → Row} {v767 : Vec Ideal S264x512 .f32} (hv767 : H2 (φ := .f32) v767 (X767)) {v768 : Vec Ideal S264x512 .f32} (hv768 : H2 (φ := .f32) v768 (X768)) {v770 : Vec Ideal S1x512 .f32} (hv770 : H2 (φ := .f32) v770 (X770)) :
    H2 (φ := .f32) (k0_pay124 (F := Ideal) v767 v768 v770) (fun r c => (X770 r c + (∑ k32 : Fin 264, (X767 k32.val c * X768 k32.val c)))) :=
  H2.congr (H2.add (H2.self hv770) (HV.up (H2.colred (h2 := .inl rfl) (h3 := rfl) (H2.mul hv767 hv768)))) (fun r _ => rfl)

theorem pay125 {X776 : ℕ → Row} {X777 : ℕ → Row} {X779 : ℕ → Row} {v776 : Vec Ideal S264x512 .f32} (hv776 : H2 (φ := .f32) v776 (X776)) {v777 : Vec Ideal S264x512 .f32} (hv777 : H2 (φ := .f32) v777 (X777)) {v779 : Vec Ideal S1x512 .f32} (hv779 : H2 (φ := .f32) v779 (X779)) :
    H2 (φ := .f32) (k0_pay125 (F := Ideal) v776 v777 v779) (fun r c => (X779 r c + (∑ k33 : Fin 264, (X776 k33.val c * X777 k33.val c)))) :=
  H2.congr (H2.add (H2.self hv779) (HV.up (H2.colred (h2 := .inl rfl) (h3 := rfl) (H2.mul hv776 hv777)))) (fun r _ => rfl)

theorem pay126 {X785 : ℕ → Row} {X786 : ℕ → Row} {X788 : ℕ → Row} {v785 : Vec Ideal S264x512 .f32} (hv785 : H2 (φ := .f32) v785 (X785)) {v786 : Vec Ideal S264x512 .f32} (hv786 : H2 (φ := .f32) v786 (X786)) {v788 : Vec Ideal S1x512 .f32} (hv788 : H2 (φ := .f32) v788 (X788)) :
    H2 (φ := .f32) (k0_pay126 (F := Ideal) v785 v786 v788) (fun r c => (X788 r c + (∑ k34 : Fin 264, (X785 k34.val c * X786 k34.val c)))) :=
  H2.congr (H2.add (H2.self hv788) (HV.up (H2.colred (h2 := .inl rfl) (h3 := rfl) (H2.mul hv785 hv786)))) (fun r _ => rfl)

theorem pay127 {X794 : ℕ → Row} {X795 : ℕ → Row} {X797 : ℕ → Row} {v794 : Vec Ideal S264x512 .f32} (hv794 : H2 (φ := .f32) v794 (X794)) {v795 : Vec Ideal S264x512 .f32} (hv795 : H2 (φ := .f32) v795 (X795)) {v797 : Vec Ideal S1x512 .f32} (hv797 : H2 (φ := .f32) v797 (X797)) :
    H2 (φ := .f32) (k0_pay127 (F := Ideal) v794 v795 v797) (fun r c => (X797 r c + (∑ k35 : Fin 264, (X794 k35.val c * X795 k35.val c)))) :=
  H2.congr (H2.add (H2.self hv797) (HV.up (H2.colred (h2 := .inl rfl) (h3 := rfl) (H2.mul hv794 hv795)))) (fun r _ => rfl)

end Cert.ConvBwd

end
-- ==== Proof.RowRead.lean ====
/-
  Arrays of rows written row block by row block, and read back.
-/
module

public import proofs.«01_k».proof.Proof.RowVec

@[expose] public section

set_option maxRecDepth 16384

noncomputable section

namespace Cert.Row

open Idealize.ShloMosaic Idealize.ShloMosaic.TcCoe
open Idealize.ShloMosaic.ValueIdx hiding ix1 ix2 ix3 ix4

/-- An array of `N` rows agrees with `X` on the rows of which `P` holds. -/
def HR {N : ℕ} (g : (Mat N).Idx → Elt Ideal .f32) (X : ℕ → Row) (P : ℕ → Prop) : Prop :=
  ∀ y : (Mat N).Idx, P (y 0).val → g y = ((X (y 0).val (y 1) : ℝ) : EReal)

variable {N k : ℕ} {X : ℕ → Row} {P : ℕ → Prop} {L : List (View.Piece (Elt Ideal) (Mat N) .f32)}

theorem HR.none (g : (Mat N).Idx → Elt Ideal .f32) (X : ℕ → Row) : HR g X (fun _ => False) := fun _ h => h.elim

theorem HR.mono {g : (Mat N).Idx → Elt Ideal .f32} {Q : ℕ → Prop} (h : HR g X P) (hPQ : ∀ n, n < N → Q n → P n) : HR g X Q :=
  fun y hy => h y (hPQ _ (y 0).isLt hy)

theorem HR.change {g : (Mat N).Idx → Elt Ideal .f32} {Y : ℕ → Row} (h : HR g X P) (e : ∀ n, P n → X n = Y n) : HR g Y P :=
  fun y hy => by rw [← e _ hy]; exact h y hy

theorem row_eq {o : ℕ} {inb : ∀ a, (![o, 0] : Fin 2 → Nat) a + (Mat k).size a ≤ (Mat N).size a} (y : (Mat N).Idx)
    (h : o ≤ (y 0).val ∧ (y 0).val < o + k) :
    (Rect.unit (s := Mat N) ![o, 0] (Mat k).size inb).emb (ix2 (⟨(y 0).val - o, by omega⟩ : Fin k) (y 1)) = y := by
  funext a; apply Fin.ext
  fin_cases a
  · show o + 1 * ((y 0).val - o) = (y 0).val; omega
  · show 0 + 1 * (y 1).val = (y 1).val; omega

theorem not_mem_rows {o : ℕ} {inb : ∀ a, (![o, 0] : Fin 2 → Nat) a + (Mat k).size a ≤ (Mat N).size a} {y : (Mat N).Idx}
    (h : ¬(o ≤ (y 0).val ∧ (y 0).val < o + k)) : y ∉ (Rect.unit (s := Mat N) ![o, 0] (Mat k).size inb).set := by
  intro hm
  exact h (Rect.mem_set_unit.mp hm 0)

/-- After one more block of rows. -/
theorem HR.cons {o : ℕ} {inb : ∀ a, (![o, 0] : Fin 2 → Nat) a + (Mat k).size a ≤ (Mat N).size a} {w : FVec Ideal (Mat k) .f32}
    (hw : H2 w (fun r => X (o + r))) (hL : HR (View.canon L) X P) :
    HR (View.canon (⟨Rect.unit (s := Mat N) ![o, 0] (Mat k).size inb, w⟩ :: L)) X (fun n => (o ≤ n ∧ n < o + k) ∨ P n) := fun y hy => by
  by_cases h : o ≤ (y 0).val ∧ (y 0).val < o + k
  · rw [← row_eq (inb := inb) y h, View.canon_cons_emb, hw]
    have e : o + ((y 0).val - o) = (y 0).val := by omega
    rw [row_eq (inb := inb) y h]
    show ((X (o + ((y 0).val - o)) (y 1) : ℝ) : EReal) = _
    rw [e]
  · have hm : y ∉ (Rect.unit (s := Mat N) ![o, 0] (Mat k).size inb).set := not_mem_rows (inb := inb) h
    exact (View.canon_cons_of_not_mem (⟨Rect.unit (s := Mat N) ![o, 0] (Mat k).size inb, w⟩ : View.Piece (Elt Ideal) (Mat N) .f32) L hm).trans
      (hL y (hy.resolve_left h))

/-- After one more block of rows, whose new contents are not looked at. -/
theorem HR.skip {o : ℕ} {inb : ∀ a, (![o, 0] : Fin 2 → Nat) a + (Mat k).size a ≤ (Mat N).size a} {w : FVec Ideal (Mat k) .f32}
    (hL : HR (View.canon L) X P) :
    HR (View.canon (⟨Rect.unit (s := Mat N) ![o, 0] (Mat k).size inb, w⟩ :: L)) X (fun n => ¬(o ≤ n ∧ n < o + k) ∧ P n) := fun y hy => by
  have hm : y ∉ (Rect.unit (s := Mat N) ![o, 0] (Mat k).size inb).set := not_mem_rows (inb := inb) hy.1
  exact (View.canon_cons_of_not_mem (⟨Rect.unit (s := Mat N) ![o, 0] (Mat k).size inb, w⟩ : View.Piece (Elt Ideal) (Mat N) .f32) L hm).trans (hL y hy.2)

/-- A load of a block of rows written before. -/
theorem HR.read {o : ℕ} {inb : ∀ a, (![o, 0] : Fin 2 → Nat) a + (Mat k).size a ≤ (Mat N).size a} {sig : RefSig} {κ : Kind} {sp : Space}
    {v : View sig κ sp (Mat N) .f32} (hL : HR (View.canon L) X P) (hP : ∀ r, r < k → P (o + r)) :
    H2 (n := k) (φ := .f32) (v.readCov L (Rect.unit (s := Mat N) ![o, 0] (Mat k).size inb).toLoadRect) (fun r => X (o + r)) := fun i => by
  rw [View.readCov_eq_canon']
  have e0 : (((Rect.unit (s := Mat N) ![o, 0] (Mat k).size inb).toLoadRect.idx i) 0).val = o + (i 0).val := by
    show o + 1 * (i 0).val = _; omega
  have e1 : ((Rect.unit (s := Mat N) ![o, 0] (Mat k).size inb).toLoadRect.idx i) 1 = i 1 := Fin.ext (by
    show 0 + 1 * (i 1).val = _; omega)
  refine (hL _ ?_).trans ?_
  · rw [e0]; exact hP _ (i 0).isLt
  · rw [e0, e1]

/-- … of one row. -/
theorem HR.old {o : ℕ} {inb : ∀ a, (![o, 0] : Fin 2 → Nat) a + (Mat 1).size a ≤ (Mat N).size a} {sig : RefSig} {κ : Kind} {sp : Space}
    {v : View sig κ sp (Mat N) .f32} (hL : HR (View.canon L) X P) (hP : P o) :
    H2 (n := 1) (φ := .f32) (v.readCov L (Rect.unit (s := Mat N) ![o, 0] (Mat 1).size inb).toLoadRect) (fun r => X (o + r)) :=
  hL.read fun r hr => by
    obtain rfl : r = 0 := by omega
    exact hP

variable {sig : RefSig} {κ : Kind} {sp : Space}

/-- A load of a block of rows of an array given whole. -/
theorem H2.load {o : ℕ} {inb : ∀ a, (![o, 0] : Fin 2 → Nat) a + (Mat k).size a ≤ (Mat N).size a}
    {M : Memref sig κ sp (Mat N) .f32} {hM : M.IsWhole} {x : FVec Ideal (Mat N) .f32} (hx : H2 x X) :
    H2 (n := k) (φ := .f32) (View.readAt (Elt Ideal) M.view (Rect.unit (s := Mat N) ![o, 0] (Mat k).size inb).toLoadRect (hM.unread x)) (fun r => X (o + r)) := fun i => by
  rw [View.readAt_eq_ld, Memref.IsWhole.read_unread]
  have e0 : (((Rect.unit (s := Mat N) ![o, 0] (Mat k).size inb).toLoadRect.idx i) 0).val = o + (i 0).val := by
    show o + 1 * (i 0).val = _; omega
  have e1 : ((Rect.unit (s := Mat N) ![o, 0] (Mat k).size inb).toLoadRect.idx i) 1 = i 1 := Fin.ext (by
    show 0 + 1 * (i 1).val = _; omega)
  refine (hx _).trans ?_
  show ((X (((Rect.unit (s := Mat N) ![o, 0] (Mat k).size inb).toLoadRect.idx i) 0).val (((Rect.unit (s := Mat N) ![o, 0] (Mat k).size inb).toLoadRect.idx i) 1) : ℝ) : EReal) = _
  rw [e0, e1]

/-- A load of a whole block. -/
theorem H3.load {inb : ∀ a, (![0, 0, 0] : Fin 3 → Nat) a + (Mat3 N).size a ≤ (Mat3 N).size a}
    {M : Memref sig κ sp (Mat3 N) .f32} {hM : M.IsWhole} {x : FVec Ideal (Mat3 N) .f32} (hx : H3 x X) :
    H3 (n := N) (φ := .f32) (View.readAt (Elt Ideal) M.view (Rect.unit (s := Mat3 N) ![0, 0, 0] (Mat3 N).size inb).toLoadRect (hM.unread x)) X := by
  rw [View.readAt_eq_ld, Memref.IsWhole.read_unread]
  have e : ∀ i, (Rect.unit (s := Mat3 N) ![0, 0, 0] (Mat3 N).size inb).idx i = i := fun i => by
    funext a; apply Fin.ext
    fin_cases a
    · show 0 + 1 * (i 0).val = (i 0).val; omega
    · show 0 + 1 * (i 1).val = (i 1).val; omega
    · show 0 + 1 * (i 2).val = (i 2).val; omega
  intro i
  show x _ = _
  rw [e]; exact hx i

/-- An array given whole, before anything is written over it. -/
theorem HR.base {M : View sig κ sp (Mat N) .f32} {f : M.ty.Contents (Elt Ideal)} {x : FVec Ideal (Mat N) .f32} (hf : M.read (Elt Ideal) f = x) (hx : H2 x X) :
    HR (M.read (Elt Ideal) (M.writes (Elt Ideal) f [])) X (fun _ => True) := fun y _ => by
  show M.read (Elt Ideal) f y = _
  rw [hf]; exact hx y

/-- After one more block of rows written over it. -/
theorem HR.over {o : ℕ} {inb : ∀ a, (![o, 0] : Fin 2 → Nat) a + (Mat k).size a ≤ (Mat N).size a} {w : FVec Ideal (Mat k) .f32}
    {M : View sig κ sp (Mat N) .f32} {f : M.ty.Contents (Elt Ideal)} (hw : H2 w (fun r => X (o + r)))
    (hL : HR (M.read (Elt Ideal) (M.writes (Elt Ideal) f L)) X P) :
    HR (M.read (Elt Ideal) (M.writes (Elt Ideal) f (⟨Rect.unit (s := Mat N) ![o, 0] (Mat k).size inb, w⟩ :: L)))
      X (fun n => (o ≤ n ∧ n < o + k) ∨ P n) := fun y hP => by
  by_cases h : o ≤ (y 0).val ∧ (y 0).val < o + k
  · have e : o + ((y 0).val - o) = (y 0).val := by omega
    conv_lhs => rw [← row_eq (inb := inb) y h]
    rw [View.read_writes_cons_emb, hw]
    show ((X (o + ((y 0).val - o)) (y 1) : ℝ) : EReal) = _
    rw [e]
  · have hy : y ∉ Finset.univ.map (Rect.unit (s := Mat N) ![o, 0] (Mat k).size inb).emb := by
      rw [Rect.map_emb_univ]; exact not_mem_rows h
    rw [View.writes_cons, View.read_slice_write_of_not_mem _ _ _ _ hy]
    exact hL y (hP.resolve_left h)

end Cert.Row

end
-- ==== Proof.ConvTile.lean ====
/-
  The tile of one grid point on real rows: what is known of its arguments, and the rows that it keeps.
-/
module

public import proofs.«01_k».proof.Proof.ConvPay
public import proofs.«01_k».proof.Proof.RowRead

@[expose] public section

set_option maxRecDepth 16384

noncomputable section

namespace Cert.ConvBwd

open Idealize.ShloMosaic Idealize.ShloMosaic.TcCoe Cert.KernelIdeal Cert.KernelIdeal.Gen Cert.Row

/-- The real rows of one grid point: value and gate of the tile (`V`, `G`) and of the 32 rows before it (`HV`, `HG`), the
convolution's output (`C`) and the gradient that arrives (`D`) on the tile and on the 32 rows after it (`CX`, `DX`), the taps,
the three parameter rows, and the two factors that switch the neighbours off at a sequence's ends. -/
structure Tile where
  (V G HV HG C CX D DX w : ℕ → Row)
  (lg lb og : Row)
  (kp kn : ℝ)

variable (T : Tile)

namespace Tile

/-- The arriving gradient on the rows after the tile, switched off at the end. -/
def DN (n : ℕ) : Row := fun c => T.kn * T.DX n c
/-- Gated values: 32 rows before the tile, then the tile. -/
def aa (n : ℕ) : Row := fun c => if n < 32 then T.kp * T.HV n c * sigm (T.HG n c) else T.V (n - 32) c * sigm (T.G (n - 32) c)
/-- The gradient of the convolution's output: the tile, then the 32 rows after it. -/
def dd (n : ℕ) : Row := if n < 256 then dcv (T.C n) T.lg T.lb T.og (T.D n) else dcv (T.CX (n - 256)) T.lg T.lb T.og (T.DN (n - 256))
/-- … the tile's rows alone, moved down by `s` rows of zeros. -/
def sd (s n : ℕ) : Row := if s ≤ n ∧ n < s + 256 then T.dd (n - s) else fun _ => 0
/-- What the tile adds to tap `k`'s gradient. -/
def acc (k : ℕ) : Row := fun c => ∑ m : Fin 256, T.dd m.val c * T.aa (k + 2 + m.val) c
/-- The taps' gradient after the tile. -/
def upd (O : ℕ → Row) (n : ℕ) : Row := fun c => O n c + if n < 31 then T.acc n c else 0

variable {T}

theorem aa_low {r : ℕ} (h : r < 32) : (fun c => T.kp * T.HV r c * sigm (T.HG r c)) = T.aa (0 + r) :=
  funext fun c => by rw [Nat.zero_add]; exact (if_pos h).symm

theorem aa_high (r : ℕ) : (fun c => T.V r c * sigm (T.G r c)) = T.aa (32 + r) := funext fun c => by
  refine Eq.trans ?_ (if_neg (by omega : ¬ 32 + r < 32)).symm
  rw [Nat.add_sub_cancel_left]

theorem dd_low {r : ℕ} (h : r < 256) : T.dd r = dcv (T.C r) T.lg T.lb T.og (T.D r) := if_pos h

theorem dd_high (r : ℕ) : T.dd (256 + r) = dcv (T.CX r) T.lg T.lb T.og (T.DN r) := by
  refine Eq.trans (if_neg (by omega : ¬ 256 + r < 256)) ?_
  rw [Nat.add_sub_cancel_left]

theorem upd_last {O : ℕ → Row} : T.upd O 31 = O 31 := funext fun c => by
  show O 31 c + (if 31 < 31 then T.acc 31 c else 0) = O 31 c
  rw [if_neg (by omega), add_zero]

/-- A tap's sum over the tile's rows. -/
theorem sum_rows {O : ℕ → Row} {R b : ℕ} {c : Fin 512} (hR : R < 31) (hb : b = R + 2) (_ : True) :
    O (R + 0) c + ∑ m : Fin 256, T.dd m.val c * T.aa (b + m.val) c = T.upd O (R + 0) c := by
  subst hb
  show _ = O (R + 0) c + (if R < 31 then T.acc R c else 0)
  rw [if_pos hR]; rfl

/-- … the same over the rows moved down by `s`. -/
theorem sum_shift {O : ℕ → Row} {R b s : ℕ} {c : Fin 512} (hR : R < 31) (hb : b + s = R + 2) (hs : s ≤ 8) :
    O (R + 0) c + ∑ m : Fin 264, T.sd s (0 + m.val) c * T.aa (b + m.val) c = T.upd O (R + 0) c := by
  show _ = O (R + 0) c + (if R < 31 then T.acc R c else 0)
  rw [if_pos hR]
  congr 1
  rw [Fin.sum_univ_eq_sum_range (fun m => T.sd s (0 + m) c * T.aa (b + m) c) 264]
  show _ = ∑ m : Fin 256, T.dd m.val c * T.aa (R + 2 + m.val) c
  rw [Fin.sum_univ_eq_sum_range (fun m => T.dd m c * T.aa (R + 2 + m) c) 256]
  have e : (264 : ℕ) = s + (256 + (8 - s)) := by omega
  rw [e, Finset.sum_range_add, Finset.sum_range_add]
  rw [Finset.sum_eq_zero (s := Finset.range s), zero_add, Finset.sum_eq_zero (s := Finset.range (8 - s)), add_zero]
  · refine Finset.sum_congr rfl fun m hm => ?_
    have hm := Finset.mem_range.mp hm
    have e1 : T.sd s (0 + (s + m)) = T.dd m := by
      refine (if_pos (by omega)).trans ?_
      congr 1; omega
    have e2 : b + (s + m) = R + 2 + m := by omega
    rw [e1, e2]
  · intro m _
    have e1 : T.sd s (0 + (s + (256 + m))) = fun _ => 0 := if_neg (by omega)
    rw [e1]; exact zero_mul _
  · intro m hm
    have hm := Finset.mem_range.mp hm
    have e1 : T.sd s (0 + m) = fun _ => 0 := if_neg (by omega)
    rw [e1]; exact zero_mul _

/-- The tile's rows stored `s` rows down, over zeros at both ends. -/
theorem shifted {s : ℕ} (hs : s ≤ 8) {L : List (View.Piece (Elt Ideal) (Mat 264) .f32)} {w : FVec Ideal (Mat 256) .f32} {u v : FVec Ideal (Mat 8) .f32}
    {i1 : ∀ a, (![s, 0] : Fin 2 → Nat) a + (Mat 256).size a ≤ (Mat 264).size a}
    {i2 : ∀ a, (![256, 0] : Fin 2 → Nat) a + (Mat 8).size a ≤ (Mat 264).size a}
    {i3 : ∀ a, (![0, 0] : Fin 2 → Nat) a + (Mat 8).size a ≤ (Mat 264).size a}
    (hw : H2 w (fun r => T.dd r)) (hu : H2 u (fun _ _ => 0)) (hv : H2 v (fun _ _ => 0)) :
    HR (View.canon (⟨Rect.unit (s := Mat 264) ![s, 0] (Mat 256).size i1, w⟩ :: ⟨Rect.unit (s := Mat 264) ![256, 0] (Mat 8).size i2, u⟩ ::
      ⟨Rect.unit (s := Mat 264) ![0, 0] (Mat 8).size i3, v⟩ :: L)) (T.sd s) (fun n => n < 264) := fun y hy => by
  by_cases h : s ≤ (y 0).val ∧ (y 0).val < s + 256
  · exact HR.cons (X := T.sd s) (hw.congr fun r hr => by
      refine Eq.symm ((if_pos (by omega)).trans ?_)
      rw [Nat.add_sub_cancel_left]) (HR.none _ _) y (.inl h)
  · have e : T.sd s (y 0).val = fun _ => 0 := if_neg h
    rw [e]
    refine HR.skip (X := fun _ _ => 0) (HR.cons hu (HR.cons hv (HR.none _ _))) y ⟨h, ?_⟩
    have h' : (y 0).val < 264 := hy
    omega

end Tile

/-- What the grid point's arguments hold. -/
structure In (T : Tile) (i : grid0.Coords) (x0 x1 : FVec Ideal S1x256x512 .f32) (x2 x3 : FVec Ideal S1x32x512 .f32) (x4 : FVec Ideal S1x256x512 .f32) (x5 : FVec Ideal S1x32x512 .f32)
    (x6 : FVec Ideal S1x256x512 .f32) (x7 : FVec Ideal S1x32x512 .f32) (x8 : FVec Ideal S32x512 .f32) (x9 x10 x11 : FVec Ideal S1x512 .f32) : Prop where
  h0 : H3 (φ := .f32) x0 T.V
  h1 : H3 (φ := .f32) x1 T.G
  h2 : H3 (φ := .f32) x2 T.HV
  h3 : H3 (φ := .f32) x3 T.HG
  h4 : H3 (φ := .f32) x4 T.C
  h5 : H3 (φ := .f32) x5 T.CX
  h6 : H3 (φ := .f32) x6 T.D
  h7 : H3 (φ := .f32) x7 T.DX
  h8 : H2 (φ := .f32) x8 T.w
  h9 : H2 (φ := .f32) x9 (fun _ => T.lg)
  h10 : H2 (φ := .f32) x10 (fun _ => T.lb)
  h11 : H2 (φ := .f32) x11 (fun _ => T.og)
  hp : (Scalar.sitofp .f32 (Scalar.extui (Scalar.cmpi .sgt (BitVec.ofNat 32 (i 1).val) 0#32) : BitVec 32) : Ideal .f32) = ((T.kp : ℝ) : EReal)
  hn : k0_pay7 (F := Ideal) i = ((T.kn : ℝ) : EReal)

theorem row_out {n R : ℕ} {l : List ℕ} (h : n ∉ R :: l) : ¬(R ≤ n ∧ n < R + 1) ∧ n ∉ l := by
  rw [List.mem_cons, not_or] at h
  exact ⟨by omega, h.2⟩
theorem row_out1 {n R : ℕ} (h : n ∉ [R]) : ¬(R ≤ n ∧ n < R + 1) ∧ True := ⟨(row_out h).1, trivial⟩
theorem row_in {n R : ℕ} {l : List ℕ} (h : n ∈ R :: l ∨ n = 31) : (R ≤ n ∧ n < R + 1) ∨ (n ∈ l ∨ n = 31) := by
  rw [List.mem_cons] at h
  rcases h with (h | h) | h
  · exact .inl (by omega)
  · exact .inr (.inl h)
  · exact .inr (.inr h)
theorem row_in1 {n R : ℕ} (h : n ∈ [R] ∨ n = 31) : (R ≤ n ∧ n < R + 1) ∨ n = 31 := by
  rw [List.mem_singleton] at h; omega

end Cert.ConvBwd

end
-- ==== Proof.ConvTap.lean ====
/-
  The tile's expressions up to the gradient of the gated values, on real rows: first grid point of a batch row.
-/
module

public import proofs.«01_k».proof.Proof.ConvTile
public import proofs.«01_k».proof.Proof.Gen.KernelIdeal.Frame.RunA

@[expose] public section

set_option maxRecDepth 16384

noncomputable section

namespace Cert.ConvBwd

open Idealize.ShloMosaic Idealize.ShloMosaic.TcCoe Cert.KernelIdeal Cert.KernelIdeal.Gen Cert.Row

variable {T : Tile} {c : Dev nD} {i : grid0.Coords} {arg2 : Memref sig .tc .vmem S1x256x512 .f32} {harg2 : arg2.IsWhole} {arg3 : Memref sig .tc .vmem S1x256x512 .f32} {harg3 : arg3.IsWhole} {arg4 : Memref sig .tc .vmem S1x32x512 .f32} {harg4 : arg4.IsWhole} {arg5 : Memref sig .tc .vmem S1x32x512 .f32} {harg5 : arg5.IsWhole} {arg6 : Memref sig .tc .vmem S1x256x512 .f32} {harg6 : arg6.IsWhole} {arg7 : Memref sig .tc .vmem S1x32x512 .f32} {harg7 : arg7.IsWhole} {arg8 : Memref sig .tc .vmem S1x256x512 .f32} {harg8 : arg8.IsWhole} {arg9 : Memref sig .tc .vmem S1x32x512 .f32} {harg9 : arg9.IsWhole} {arg10 : Memref sig .tc .vmem S32x512 .f32} {harg10 : arg10.IsWhole} {arg11 : Memref sig .tc .vmem S1x512 .f32} {harg11 : arg11.IsWhole} {arg12 : Memref sig .tc .vmem S1x512 .f32} {harg12 : arg12.IsWhole} {arg13 : Memref sig .tc .vmem S1x512 .f32} {harg13 : arg13.IsWhole} {arg15 : Memref sig .tc .vmem S32x512 .f32} {harg15 : arg15.IsWhole} {arg20 : Memref sig .tc .vmem S288x512 .f32} {arg21 : Memref sig .tc .vmem S288x512 .f32} {arg22 : Memref sig .tc .vmem S264x512 .f32} {arg23 : Memref sig .tc .vmem S264x512 .f32}
  {x0 x1 : FVec Ideal S1x256x512 .f32} {x2 x3 : FVec Ideal S1x32x512 .f32} {x4 : FVec Ideal S1x256x512 .f32} {x5 : FVec Ideal S1x32x512 .f32}
  {x6 : FVec Ideal S1x256x512 .f32} {x7 : FVec Ideal S1x32x512 .f32} {x8 : FVec Ideal S32x512 .f32} {x9 x10 x11 : FVec Ideal S1x512 .f32} {O : ℕ → Row} {xo13 : FVec Ideal S32x512 .f32}

theorem cst_half : kernelRun0_A.sl.cst_39 (F := Ideal) = ((1 / 2 : ℝ) : EReal) := half_lit

theorem A_r_6 (h : In T i x0 x1 x2 x3 x4 x5 x6 x7 x8 x9 x10 x11) :
    H2 (φ := .f32) (kernelRun0_A.sl.r_6 (F := Ideal) c arg8 harg8 x6) (fun r => T.D r) :=
  pay12 h.h6.load

theorem A_r_9 (h : In T i x0 x1 x2 x3 x4 x5 x6 x7 x8 x9 x10 x11) :
    H2 (φ := .f32) (kernelRun0_A.sl.r_9 (F := Ideal) c arg6 harg6 arg11 harg11 arg12 harg12 x4 x9 x10) (fun r => lay (T.C r) T.lg T.lb) :=
  pay16 h.h9.load h.h10.load h.h4.load

theorem A_r_10 (h : In T i x0 x1 x2 x3 x4 x5 x6 x7 x8 x9 x10 x11) :
    H2 (φ := .f32) (kernelRun0_A.sl.r_10 (F := Ideal) c arg6 harg6 arg11 harg11 arg12 harg12 x4 x9 x10) (fun r => sh (T.C r) T.lg T.lb) :=
  pay20 (A_r_9 h) cst_half

theorem A_r_15 (h : In T i x0 x1 x2 x3 x4 x5 x6 x7 x8 x9 x10 x11) :
    H2 (φ := .f32) (kernelRun0_A.sl.r_15 (F := Ideal) c arg6 harg6 arg8 harg8 arg11 harg11 arg12 harg12 x4 x6 x9 x10) (fun _ c => ∑ k : Fin 256, T.D k.val c * sh (T.C k.val) T.lg T.lb c) :=
  pay26 (A_r_6 h) (A_r_10 h)

theorem A_r_8 (h : In T i x0 x1 x2 x3 x4 x5 x6 x7 x8 x9 x10 x11) :
    H2 (φ := .f32) (kernelRun0_A.sl.r_8 (F := Ideal) c arg6 harg6 x4) (fun r => nrm (T.C r)) :=
  pay15 h.h4.load

theorem A_r_5 (h : In T i x0 x1 x2 x3 x4 x5 x6 x7 x8 x9 x10 x11) :
    H2 (φ := .f32) (kernelRun0_A.sl.r_5 (F := Ideal) c arg13 harg13 x11) (fun r c => T.og c) :=
  h.h11.load

theorem A_r_11 (h : In T i x0 x1 x2 x3 x4 x5 x6 x7 x8 x9 x10 x11) :
    H2 (φ := .f32) (kernelRun0_A.sl.r_11 (F := Ideal) c arg6 harg6 arg8 harg8 arg11 harg11 arg12 harg12 arg13 harg13 x4 x6 x9 x10 x11) (fun r => dlay (T.C r) T.lg T.lb T.og (T.D r)) :=
  pay21 (A_r_5 h) (A_r_6 h) (A_r_9 h) cst_half

theorem A_r_16 (h : In T i x0 x1 x2 x3 x4 x5 x6 x7 x8 x9 x10 x11) :
    H2 (φ := .f32) (kernelRun0_A.sl.r_16 (F := Ideal) c arg6 harg6 arg8 harg8 arg11 harg11 arg12 harg12 arg13 harg13 x4 x6 x9 x10 x11) (fun _ c => ∑ k : Fin 256, dlay (T.C k.val) T.lg T.lb T.og (T.D k.val) c * nrm (T.C k.val) c) :=
  pay27 (A_r_8 h) (A_r_11 h)

theorem A_r_17 (h : In T i x0 x1 x2 x3 x4 x5 x6 x7 x8 x9 x10 x11) :
    H2 (φ := .f32) (kernelRun0_A.sl.r_17 (F := Ideal) c arg6 harg6 arg8 harg8 arg11 harg11 arg12 harg12 arg13 harg13 x4 x6 x9 x10 x11) (fun _ c => ∑ k : Fin 256, dlay (T.C k.val) T.lg T.lb T.og (T.D k.val) c) :=
  pay28 (A_r_11 h)

theorem A_r_25 (h : In T i x0 x1 x2 x3 x4 x5 x6 x7 x8 x9 x10 x11) :
    H2 (φ := .f32) (kernelRun0_A.sl.r_25 (F := Ideal) c arg10 harg10 x8) (fun r c => T.w (30 + r) c) :=
  pay44 h.h8.load

theorem A_r_19 (h : In T i x0 x1 x2 x3 x4 x5 x6 x7 x8 x9 x10 x11) :
    HC (φ := .f32) (kernelRun0_A.sl.r_19 (F := Ideal) c arg7 harg7 x5) (fun r => rstd (T.CX r)) :=
  pay31 h.h5.load

theorem A_r_20 (h : In T i x0 x1 x2 x3 x4 x5 x6 x7 x8 x9 x10 x11) :
    H2 (φ := .f32) (kernelRun0_A.sl.r_20 (F := Ideal) c arg7 harg7 x5) (fun r => nrm (T.CX r)) :=
  pay32 h.h5.load

theorem A_r_3 (h : In T i x0 x1 x2 x3 x4 x5 x6 x7 x8 x9 x10 x11) :
    H2 (φ := .f32) (kernelRun0_A.sl.r_3 (F := Ideal) c arg11 harg11 x9) (fun r c => T.lg c) :=
  h.h9.load

theorem A_r_18 (h : In T i x0 x1 x2 x3 x4 x5 x6 x7 x8 x9 x10 x11) :
    H2 (φ := .f32) (kernelRun0_A.sl.r_18 (F := Ideal) c i arg9 harg9 x7) (fun r => T.DN r) :=
  pay29 h.hn h.h7.load

theorem A_r_4 (h : In T i x0 x1 x2 x3 x4 x5 x6 x7 x8 x9 x10 x11) :
    H2 (φ := .f32) (kernelRun0_A.sl.r_4 (F := Ideal) c arg12 harg12 x10) (fun r c => T.lb c) :=
  h.h10.load

theorem A_r_21 (h : In T i x0 x1 x2 x3 x4 x5 x6 x7 x8 x9 x10 x11) :
    H2 (φ := .f32) (kernelRun0_A.sl.r_21 (F := Ideal) c arg7 harg7 arg11 harg11 arg12 harg12 x5 x9 x10) (fun r => lay (T.CX r) T.lg T.lb) :=
  pay33 (A_r_3 h) (A_r_4 h) h.h5.load

theorem A_r_22 (h : In T i x0 x1 x2 x3 x4 x5 x6 x7 x8 x9 x10 x11) :
    H2 (φ := .f32) (kernelRun0_A.sl.r_22 (F := Ideal) c arg7 harg7 arg11 harg11 arg12 harg12 x5 x9 x10) (fun r c => Real.tanh ((1 / 2) * lay (T.CX r) T.lg T.lb c)) :=
  pay34 (A_r_3 h) (A_r_4 h) h.h5.load

theorem A_r_23 (h : In T i x0 x1 x2 x3 x4 x5 x6 x7 x8 x9 x10 x11) :
    H2 (φ := .f32) (kernelRun0_A.sl.r_23 (F := Ideal) c i arg7 harg7 arg9 harg9 arg11 harg11 arg12 harg12 arg13 harg13 x5 x7 x9 x10 x11) (fun r c => dnrm (T.CX r) T.lg T.lb T.og (T.DN r) c - mean (dnrm (T.CX r) T.lg T.lb T.og (T.DN r))) :=
  pay36 (A_r_3 h) (A_r_5 h) (A_r_18 h) (A_r_21 h) (A_r_22 h)

theorem A_r_24 (h : In T i x0 x1 x2 x3 x4 x5 x6 x7 x8 x9 x10 x11) :
    HC (φ := .f32) (kernelRun0_A.sl.r_24 (F := Ideal) c i arg7 harg7 arg9 harg9 arg11 harg11 arg12 harg12 arg13 harg13 x5 x7 x9 x10 x11) (fun r => mean fun k => dnrm (T.CX r) T.lg T.lb T.og (T.DN r) k * nrm (T.CX r) k) :=
  pay37 (A_r_3 h) (A_r_5 h) (A_r_18 h) (A_r_20 h) (A_r_21 h) (A_r_22 h)

theorem A_r_7 (h : In T i x0 x1 x2 x3 x4 x5 x6 x7 x8 x9 x10 x11) :
    HC (φ := .f32) (kernelRun0_A.sl.r_7 (F := Ideal) c arg6 harg6 x4) (fun r => rstd (T.C r)) :=
  pay14 h.h4.load

theorem A_r_12 (h : In T i x0 x1 x2 x3 x4 x5 x6 x7 x8 x9 x10 x11) :
    H2 (φ := .f32) (kernelRun0_A.sl.r_12 (F := Ideal) c arg6 harg6 arg8 harg8 arg11 harg11 arg12 harg12 arg13 harg13 x4 x6 x9 x10 x11) (fun r c => dnrm (T.C r) T.lg T.lb T.og (T.D r) c - mean (dnrm (T.C r) T.lg T.lb T.og (T.D r))) :=
  pay23 (A_r_3 h) (A_r_5 h) (A_r_6 h) (A_r_9 h) cst_half

theorem A_r_13 (h : In T i x0 x1 x2 x3 x4 x5 x6 x7 x8 x9 x10 x11) :
    HC (φ := .f32) (kernelRun0_A.sl.r_13 (F := Ideal) c arg6 harg6 arg8 harg8 arg11 harg11 arg12 harg12 arg13 harg13 x4 x6 x9 x10 x11) (fun r => ∑ k, dnrm (T.C r) T.lg T.lb T.og (T.D r) k * nrm (T.C r) k) :=
  pay24 (A_r_3 h) (A_r_5 h) (A_r_6 h) (A_r_8 h) (A_r_9 h) cst_half

theorem A_r_14 (h : In T i x0 x1 x2 x3 x4 x5 x6 x7 x8 x9 x10 x11) :
    H2 (φ := .f32) (kernelRun0_A.sl.r_14 (F := Ideal) c arg6 harg6 arg8 harg8 arg11 harg11 arg12 harg12 arg13 harg13 x4 x6 x9 x10 x11) (fun r => T.dd r) :=
  (pay25 (A_r_7 h) (A_r_8 h) (A_r_12 h) (A_r_13 h)).congr (fun r hr => (Tile.dd_low hr).symm)

theorem A_HS1_2 (h : In T i x0 x1 x2 x3 x4 x5 x6 x7 x8 x9 x10 x11) : HR (N := 288) (View.canon (kernelRun0_A.sl.HS1_2 (F := Ideal) c i arg6 harg6 arg7 harg7 arg8 harg8 arg9 harg9 arg11 harg11 arg12 harg12 arg13 harg13 x4 x5 x6 x7 x9 x10 x11)) T.dd (fun n => n < 288) :=
  (((HR.none _ _).cons (o := 0) (k := 256) ((pay42 (A_r_14 h)).congr fun r hr => by rw [Nat.zero_add])).cons (o := 256) (k := 32) ((pay43 (A_r_19 h) (A_r_20 h) (A_r_23 h) (A_r_24 h)).congr fun r hr => (Tile.dd_high r).symm)).mono (fun n _ hn => by omega)

theorem A_v240 (h : In T i x0 x1 x2 x3 x4 x5 x6 x7 x8 x9 x10 x11) :
    H2 (φ := .f32) (kernelRun0_A.sl.v240 (F := Ideal) c i arg6 harg6 arg7 harg7 arg8 harg8 arg9 harg9 arg11 harg11 arg12 harg12 arg13 harg13 arg21 x4 x5 x6 x7 x9 x10 x11) (fun r c => T.dd (0 + r) c) :=
  (A_HS1_2 h).read (fun _ _ => by omega)

theorem A_v245 (h : In T i x0 x1 x2 x3 x4 x5 x6 x7 x8 x9 x10 x11) :
    H2 (φ := .f32) (kernelRun0_A.sl.v245 (F := Ideal) c i arg6 harg6 arg7 harg7 arg8 harg8 arg9 harg9 arg11 harg11 arg12 harg12 arg13 harg13 arg21 x4 x5 x6 x7 x9 x10 x11) (fun r c => T.dd (8 + r) c) :=
  (A_HS1_2 h).read (fun _ _ => by omega)

theorem A_v251 (h : In T i x0 x1 x2 x3 x4 x5 x6 x7 x8 x9 x10 x11) :
    H2 (φ := .f32) (kernelRun0_A.sl.v251 (F := Ideal) c i arg6 harg6 arg7 harg7 arg8 harg8 arg9 harg9 arg11 harg11 arg12 harg12 arg13 harg13 arg21 x4 x5 x6 x7 x9 x10 x11) (fun r c => T.dd (16 + r) c) :=
  (A_HS1_2 h).read (fun _ _ => by omega)

theorem A_v257 (h : In T i x0 x1 x2 x3 x4 x5 x6 x7 x8 x9 x10 x11) :
    H2 (φ := .f32) (kernelRun0_A.sl.v257 (F := Ideal) c i arg6 harg6 arg7 harg7 arg8 harg8 arg9 harg9 arg11 harg11 arg12 harg12 arg13 harg13 arg21 x4 x5 x6 x7 x9 x10 x11) (fun r c => T.dd (24 + r) c) :=
  (A_HS1_2 h).read (fun _ _ => by omega)

theorem A_r_26 (h : In T i x0 x1 x2 x3 x4 x5 x6 x7 x8 x9 x10 x11) :
    H2 (φ := .f32) (kernelRun0_A.sl.r_26 (F := Ideal) c i arg6 harg6 arg7 harg7 arg8 harg8 arg9 harg9 arg10 harg10 arg11 harg11 arg12 harg12 arg13 harg13 arg21 x4 x5 x6 x7 x8 x9 x10 x11) (fun r c => ((((T.w (30 + 0) c * T.dd (0 + r) c) + (T.w (22 + 0) c * T.dd (8 + r) c)) + (T.w (14 + 0) c * T.dd (16 + r) c)) + (T.w (6 + 0) c * T.dd (24 + r) c))) :=
  pay45 (A_r_25 h) (A_v240 h) h.h8.load (A_v245 h) h.h8.load (A_v251 h) h.h8.load (A_v257 h)

theorem A_v263 (h : In T i x0 x1 x2 x3 x4 x5 x6 x7 x8 x9 x10 x11) :
    H2 (φ := .f32) (kernelRun0_A.sl.v263 (F := Ideal) c i arg6 harg6 arg7 harg7 arg8 harg8 arg9 harg9 arg11 harg11 arg12 harg12 arg13 harg13 arg21 x4 x5 x6 x7 x9 x10 x11) (fun r c => T.dd (0 + r) c) :=
  (A_HS1_2 h).read (fun _ _ => by omega)

theorem A_v268 (h : In T i x0 x1 x2 x3 x4 x5 x6 x7 x8 x9 x10 x11) :
    H2 (φ := .f32) (kernelRun0_A.sl.v268 (F := Ideal) c i arg6 harg6 arg7 harg7 arg8 harg8 arg9 harg9 arg11 harg11 arg12 harg12 arg13 harg13 arg21 x4 x5 x6 x7 x9 x10 x11) (fun r c => T.dd (8 + r) c) :=
  (A_HS1_2 h).read (fun _ _ => by omega)

theorem A_r_27 (h : In T i x0 x1 x2 x3 x4 x5 x6 x7 x8 x9 x10 x11) :
    H2 (φ := .f32) (kernelRun0_A.sl.r_27 (F := Ideal) c i arg6 harg6 arg7 harg7 arg8 harg8 arg9 harg9 arg10 harg10 arg11 harg11 arg12 harg12 arg13 harg13 arg21 x4 x5 x6 x7 x8 x9 x10 x11) (fun r c => ((T.w (29 + 0) c * T.dd (0 + r) c) + (T.w (21 + 0) c * T.dd (8 + r) c))) :=
  pay46 h.h8.load (A_v263 h) h.h8.load (A_v268 h)

theorem A_r_28 (h : In T i x0 x1 x2 x3 x4 x5 x6 x7 x8 x9 x10 x11) :
    H2 (φ := .f32) (kernelRun0_A.sl.r_28 (F := Ideal) c arg10 harg10 x8) (fun r c => T.w (13 + r) c) :=
  pay47 h.h8.load

theorem A_v274 (h : In T i x0 x1 x2 x3 x4 x5 x6 x7 x8 x9 x10 x11) :
    H2 (φ := .f32) (kernelRun0_A.sl.v274 (F := Ideal) c i arg6 harg6 arg7 harg7 arg8 harg8 arg9 harg9 arg11 harg11 arg12 harg12 arg13 harg13 arg21 x4 x5 x6 x7 x9 x10 x11) (fun r c => T.dd (16 + r) c) :=
  (A_HS1_2 h).read (fun _ _ => by omega)

theorem A_v280 (h : In T i x0 x1 x2 x3 x4 x5 x6 x7 x8 x9 x10 x11) :
    H2 (φ := .f32) (kernelRun0_A.sl.v280 (F := Ideal) c i arg6 harg6 arg7 harg7 arg8 harg8 arg9 harg9 arg11 harg11 arg12 harg12 arg13 harg13 arg21 x4 x5 x6 x7 x9 x10 x11) (fun r c => T.dd (24 + r) c) :=
  (A_HS1_2 h).read (fun _ _ => by omega)

theorem A_HS2_1 (h : In T i x0 x1 x2 x3 x4 x5 x6 x7 x8 x9 x10 x11) : HR (N := 264) (View.canon (kernelRun0_A.sl.HS2_1 (F := Ideal) c i arg6 harg6 arg7 harg7 arg8 harg8 arg9 harg9 arg10 harg10 arg11 harg11 arg12 harg12 arg13 harg13 arg21 x4 x5 x6 x7 x8 x9 x10 x11)) (fun r c => (((((T.w (29 + 0) c * T.dd (0 + r) c) + (T.w (21 + 0) c * T.dd (8 + r) c))) + (T.w (13 + 0) c * T.dd (16 + r) c)) + (T.w (5 + 0) c * T.dd (24 + r) c))) (fun n => n < 264) :=
  ((HR.none _ _).cons (o := 0) (k := 264) ((pay48 (A_r_27 h) (A_r_28 h) (A_v274 h) h.h8.load (A_v280 h)).congr fun r _ => by simp only [Nat.zero_add])).mono (fun n _ hn => by omega)

theorem A_v287 (h : In T i x0 x1 x2 x3 x4 x5 x6 x7 x8 x9 x10 x11) :
    H2 (φ := .f32) (kernelRun0_A.sl.v287 (F := Ideal) c i arg6 harg6 arg7 harg7 arg8 harg8 arg9 harg9 arg10 harg10 arg11 harg11 arg12 harg12 arg13 harg13 arg21 arg22 x4 x5 x6 x7 x8 x9 x10 x11) (fun r c => (((((T.w (29 + 0) c * T.dd (0 + (1 + r)) c) + (T.w (21 + 0) c * T.dd (8 + (1 + r)) c))) + (T.w (13 + 0) c * T.dd (16 + (1 + r)) c)) + (T.w (5 + 0) c * T.dd (24 + (1 + r)) c))) :=
  (A_HS2_1 h).read (fun _ _ => by omega)

theorem A_r_29 (h : In T i x0 x1 x2 x3 x4 x5 x6 x7 x8 x9 x10 x11) :
    H2 (φ := .f32) (kernelRun0_A.sl.r_29 (F := Ideal) c i arg6 harg6 arg7 harg7 arg8 harg8 arg9 harg9 arg10 harg10 arg11 harg11 arg12 harg12 arg13 harg13 arg21 arg22 x4 x5 x6 x7 x8 x9 x10 x11) (fun r c => ((((((T.w (30 + 0) c * T.dd (0 + r) c) + (T.w (22 + 0) c * T.dd (8 + r) c)) + (T.w (14 + 0) c * T.dd (16 + r) c)) + (T.w (6 + 0) c * T.dd (24 + r) c))) + ((((((T.w (29 + 0) c * T.dd (0 + (1 + r)) c) + (T.w (21 + 0) c * T.dd (8 + (1 + r)) c))) + (T.w (13 + 0) c * T.dd (16 + (1 + r)) c)) + (T.w (5 + 0) c * T.dd (24 + (1 + r)) c))))) :=
  pay49 (A_r_26 h) (A_v287 h)

theorem A_r_30 (h : In T i x0 x1 x2 x3 x4 x5 x6 x7 x8 x9 x10 x11) :
    H2 (φ := .f32) (kernelRun0_A.sl.r_30 (F := Ideal) c i arg6 harg6 arg7 harg7 arg8 harg8 arg9 harg9 arg10 harg10 arg11 harg11 arg12 harg12 arg13 harg13 arg21 x4 x5 x6 x7 x8 x9 x10 x11) (fun r c => (((T.w (28 + 0) c * T.dd (0 + r) c) + (T.w (20 + 0) c * T.dd (8 + r) c)) + (T.w (12 + 0) c * T.dd (16 + r) c))) :=
  pay50 h.h8.load (A_v263 h) h.h8.load (A_v268 h) h.h8.load (A_v274 h)

theorem A_r_31 (h : In T i x0 x1 x2 x3 x4 x5 x6 x7 x8 x9 x10 x11) :
    H2 (φ := .f32) (kernelRun0_A.sl.r_31 (F := Ideal) c arg10 harg10 x8) (fun r c => T.w (4 + r) c) :=
  pay51 h.h8.load

theorem A_HS2_2 (h : In T i x0 x1 x2 x3 x4 x5 x6 x7 x8 x9 x10 x11) : HR (N := 264) (View.canon (kernelRun0_A.sl.HS2_2 (F := Ideal) c i arg6 harg6 arg7 harg7 arg8 harg8 arg9 harg9 arg10 harg10 arg11 harg11 arg12 harg12 arg13 harg13 arg21 x4 x5 x6 x7 x8 x9 x10 x11)) (fun r c => (((((T.w (28 + 0) c * T.dd (0 + r) c) + (T.w (20 + 0) c * T.dd (8 + r) c)) + (T.w (12 + 0) c * T.dd (16 + r) c))) + (T.w (4 + 0) c * T.dd (24 + r) c))) (fun n => n < 264) :=
  ((HR.none _ _).cons (o := 0) (k := 264) ((pay52 (A_r_30 h) (A_r_31 h) (A_v280 h)).congr fun r _ => by simp only [Nat.zero_add])).mono (fun n _ hn => by omega)

theorem A_v315 (h : In T i x0 x1 x2 x3 x4 x5 x6 x7 x8 x9 x10 x11) :
    H2 (φ := .f32) (kernelRun0_A.sl.v315 (F := Ideal) c i arg6 harg6 arg7 harg7 arg8 harg8 arg9 harg9 arg10 harg10 arg11 harg11 arg12 harg12 arg13 harg13 arg21 arg22 x4 x5 x6 x7 x8 x9 x10 x11) (fun r c => (((((T.w (28 + 0) c * T.dd (0 + (2 + r)) c) + (T.w (20 + 0) c * T.dd (8 + (2 + r)) c)) + (T.w (12 + 0) c * T.dd (16 + (2 + r)) c))) + (T.w (4 + 0) c * T.dd (24 + (2 + r)) c))) :=
  (A_HS2_2 h).read (fun _ _ => by omega)

theorem A_r_32 (h : In T i x0 x1 x2 x3 x4 x5 x6 x7 x8 x9 x10 x11) :
    H2 (φ := .f32) (kernelRun0_A.sl.r_32 (F := Ideal) c i arg6 harg6 arg7 harg7 arg8 harg8 arg9 harg9 arg10 harg10 arg11 harg11 arg12 harg12 arg13 harg13 arg21 arg22 x4 x5 x6 x7 x8 x9 x10 x11) (fun r c => ((((((((T.w (30 + 0) c * T.dd (0 + r) c) + (T.w (22 + 0) c * T.dd (8 + r) c)) + (T.w (14 + 0) c * T.dd (16 + r) c)) + (T.w (6 + 0) c * T.dd (24 + r) c))) + ((((((T.w (29 + 0) c * T.dd (0 + (1 + r)) c) + (T.w (21 + 0) c * T.dd (8 + (1 + r)) c))) + (T.w (13 + 0) c * T.dd (16 + (1 + r)) c)) + (T.w (5 + 0) c * T.dd (24 + (1 + r)) c))))) + ((((((T.w (28 + 0) c * T.dd (0 + (2 + r)) c) + (T.w (20 + 0) c * T.dd (8 + (2 + r)) c)) + (T.w (12 + 0) c * T.dd (16 + (2 + r)) c))) + (T.w (4 + 0) c * T.dd (24 + (2 + r)) c))))) :=
  pay53 (A_r_29 h) (A_v315 h)

theorem A_HS2_3 (h : In T i x0 x1 x2 x3 x4 x5 x6 x7 x8 x9 x10 x11) : HR (N := 264) (View.canon (kernelRun0_A.sl.HS2_3 (F := Ideal) c i arg6 harg6 arg7 harg7 arg8 harg8 arg9 harg9 arg10 harg10 arg11 harg11 arg12 harg12 arg13 harg13 arg21 x4 x5 x6 x7 x8 x9 x10 x11)) (fun r c => ((((T.w (27 + 0) c * T.dd (0 + r) c) + (T.w (19 + 0) c * T.dd (8 + r) c)) + (T.w (11 + 0) c * T.dd (16 + r) c)) + (T.w (3 + 0) c * T.dd (24 + r) c))) (fun n => n < 264) :=
  ((HR.none _ _).cons (o := 0) (k := 264) ((pay54 h.h8.load (A_v263 h) h.h8.load (A_v268 h) h.h8.load (A_v274 h) h.h8.load (A_v280 h)).congr fun r _ => by simp only [Nat.zero_add])).mono (fun n _ hn => by omega)

theorem A_v343 (h : In T i x0 x1 x2 x3 x4 x5 x6 x7 x8 x9 x10 x11) :
    H2 (φ := .f32) (kernelRun0_A.sl.v343 (F := Ideal) c i arg6 harg6 arg7 harg7 arg8 harg8 arg9 harg9 arg10 harg10 arg11 harg11 arg12 harg12 arg13 harg13 arg21 arg22 x4 x5 x6 x7 x8 x9 x10 x11) (fun r c => ((((T.w (27 + 0) c * T.dd (0 + (3 + r)) c) + (T.w (19 + 0) c * T.dd (8 + (3 + r)) c)) + (T.w (11 + 0) c * T.dd (16 + (3 + r)) c)) + (T.w (3 + 0) c * T.dd (24 + (3 + r)) c))) :=
  (A_HS2_3 h).read (fun _ _ => by omega)

theorem A_HS2_4 (h : In T i x0 x1 x2 x3 x4 x5 x6 x7 x8 x9 x10 x11) : HR (N := 264) (View.canon (kernelRun0_A.sl.HS2_4 (F := Ideal) c i arg6 harg6 arg7 harg7 arg8 harg8 arg9 harg9 arg10 harg10 arg11 harg11 arg12 harg12 arg13 harg13 arg21 x4 x5 x6 x7 x8 x9 x10 x11)) (fun r c => ((((T.w (26 + 0) c * T.dd (0 + r) c) + (T.w (18 + 0) c * T.dd (8 + r) c)) + (T.w (10 + 0) c * T.dd (16 + r) c)) + (T.w (2 + 0) c * T.dd (24 + r) c))) (fun n => n < 264) :=
  ((HR.none _ _).cons (o := 0) (k := 264) ((pay55 h.h8.load (A_v263 h) h.h8.load (A_v268 h) h.h8.load (A_v274 h) h.h8.load (A_v280 h)).congr fun r _ => by simp only [Nat.zero_add])).mono (fun n _ hn => by omega)

theorem A_v371 (h : In T i x0 x1 x2 x3 x4 x5 x6 x7 x8 x9 x10 x11) :
    H2 (φ := .f32) (kernelRun0_A.sl.v371 (F := Ideal) c i arg6 harg6 arg7 harg7 arg8 harg8 arg9 harg9 arg10 harg10 arg11 harg11 arg12 harg12 arg13 harg13 arg21 arg22 x4 x5 x6 x7 x8 x9 x10 x11) (fun r c => ((((T.w (26 + 0) c * T.dd (0 + (4 + r)) c) + (T.w (18 + 0) c * T.dd (8 + (4 + r)) c)) + (T.w (10 + 0) c * T.dd (16 + (4 + r)) c)) + (T.w (2 + 0) c * T.dd (24 + (4 + r)) c))) :=
  (A_HS2_4 h).read (fun _ _ => by omega)

theorem A_r_33 (h : In T i x0 x1 x2 x3 x4 x5 x6 x7 x8 x9 x10 x11) :
    H2 (φ := .f32) (kernelRun0_A.sl.r_33 (F := Ideal) c i arg6 harg6 arg7 harg7 arg8 harg8 arg9 harg9 arg10 harg10 arg11 harg11 arg12 harg12 arg13 harg13 arg21 arg22 x4 x5 x6 x7 x8 x9 x10 x11) (fun r c => (((((((((((T.w (30 + 0) c * T.dd (0 + r) c) + (T.w (22 + 0) c * T.dd (8 + r) c)) + (T.w (14 + 0) c * T.dd (16 + r) c)) + (T.w (6 + 0) c * T.dd (24 + r) c))) + ((((((T.w (29 + 0) c * T.dd (0 + (1 + r)) c) + (T.w (21 + 0) c * T.dd (8 + (1 + r)) c))) + (T.w (13 + 0) c * T.dd (16 + (1 + r)) c)) + (T.w (5 + 0) c * T.dd (24 + (1 + r)) c))))) + ((((((T.w (28 + 0) c * T.dd (0 + (2 + r)) c) + (T.w (20 + 0) c * T.dd (8 + (2 + r)) c)) + (T.w (12 + 0) c * T.dd (16 + (2 + r)) c))) + (T.w (4 + 0) c * T.dd (24 + (2 + r)) c))))) + (((((T.w (27 + 0) c * T.dd (0 + (3 + r)) c) + (T.w (19 + 0) c * T.dd (8 + (3 + r)) c)) + (T.w (11 + 0) c * T.dd (16 + (3 + r)) c)) + (T.w (3 + 0) c * T.dd (24 + (3 + r)) c)))) + (((((T.w (26 + 0) c * T.dd (0 + (4 + r)) c) + (T.w (18 + 0) c * T.dd (8 + (4 + r)) c)) + (T.w (10 + 0) c * T.dd (16 + (4 + r)) c)) + (T.w (2 + 0) c * T.dd (24 + (4 + r)) c))))) :=
  pay56 (A_r_32 h) (A_v343 h) (A_v371 h)

theorem A_r_34 (h : In T i x0 x1 x2 x3 x4 x5 x6 x7 x8 x9 x10 x11) :
    H2 (φ := .f32) (kernelRun0_A.sl.r_34 (F := Ideal) c i arg6 harg6 arg7 harg7 arg8 harg8 arg9 harg9 arg10 harg10 arg11 harg11 arg12 harg12 arg13 harg13 arg21 x4 x5 x6 x7 x8 x9 x10 x11) (fun r c => (T.w (25 + 0) c * T.dd (0 + r) c)) :=
  pay57 h.h8.load (A_v263 h)

theorem A_HS2_5 (h : In T i x0 x1 x2 x3 x4 x5 x6 x7 x8 x9 x10 x11) : HR (N := 264) (View.canon (kernelRun0_A.sl.HS2_5 (F := Ideal) c i arg6 harg6 arg7 harg7 arg8 harg8 arg9 harg9 arg10 harg10 arg11 harg11 arg12 harg12 arg13 harg13 arg21 x4 x5 x6 x7 x8 x9 x10 x11)) (fun r c => (((((T.w (25 + 0) c * T.dd (0 + r) c)) + (T.w (17 + 0) c * T.dd (8 + r) c)) + (T.w (9 + 0) c * T.dd (16 + r) c)) + (T.w (1 + 0) c * T.dd (24 + r) c))) (fun n => n < 264) :=
  ((HR.none _ _).cons (o := 0) (k := 264) ((pay58 (A_r_34 h) h.h8.load (A_v268 h) h.h8.load (A_v274 h) h.h8.load (A_v280 h)).congr fun r _ => by simp only [Nat.zero_add])).mono (fun n _ hn => by omega)

theorem A_v399 (h : In T i x0 x1 x2 x3 x4 x5 x6 x7 x8 x9 x10 x11) :
    H2 (φ := .f32) (kernelRun0_A.sl.v399 (F := Ideal) c i arg6 harg6 arg7 harg7 arg8 harg8 arg9 harg9 arg10 harg10 arg11 harg11 arg12 harg12 arg13 harg13 arg21 arg22 x4 x5 x6 x7 x8 x9 x10 x11) (fun r c => (((((T.w (25 + 0) c * T.dd (0 + (5 + r)) c)) + (T.w (17 + 0) c * T.dd (8 + (5 + r)) c)) + (T.w (9 + 0) c * T.dd (16 + (5 + r)) c)) + (T.w (1 + 0) c * T.dd (24 + (5 + r)) c))) :=
  (A_HS2_5 h).read (fun _ _ => by omega)

theorem A_r_35 (h : In T i x0 x1 x2 x3 x4 x5 x6 x7 x8 x9 x10 x11) :
    H2 (φ := .f32) (kernelRun0_A.sl.r_35 (F := Ideal) c i arg6 harg6 arg7 harg7 arg8 harg8 arg9 harg9 arg10 harg10 arg11 harg11 arg12 harg12 arg13 harg13 arg21 arg22 x4 x5 x6 x7 x8 x9 x10 x11) (fun r c => (((((((((((((T.w (30 + 0) c * T.dd (0 + r) c) + (T.w (22 + 0) c * T.dd (8 + r) c)) + (T.w (14 + 0) c * T.dd (16 + r) c)) + (T.w (6 + 0) c * T.dd (24 + r) c))) + ((((((T.w (29 + 0) c * T.dd (0 + (1 + r)) c) + (T.w (21 + 0) c * T.dd (8 + (1 + r)) c))) + (T.w (13 + 0) c * T.dd (16 + (1 + r)) c)) + (T.w (5 + 0) c * T.dd (24 + (1 + r)) c))))) + ((((((T.w (28 + 0) c * T.dd (0 + (2 + r)) c) + (T.w (20 + 0) c * T.dd (8 + (2 + r)) c)) + (T.w (12 + 0) c * T.dd (16 + (2 + r)) c))) + (T.w (4 + 0) c * T.dd (24 + (2 + r)) c))))) + (((((T.w (27 + 0) c * T.dd (0 + (3 + r)) c) + (T.w (19 + 0) c * T.dd (8 + (3 + r)) c)) + (T.w (11 + 0) c * T.dd (16 + (3 + r)) c)) + (T.w (3 + 0) c * T.dd (24 + (3 + r)) c)))) + (((((T.w (26 + 0) c * T.dd (0 + (4 + r)) c) + (T.w (18 + 0) c * T.dd (8 + (4 + r)) c)) + (T.w (10 + 0) c * T.dd (16 + (4 + r)) c)) + (T.w (2 + 0) c * T.dd (24 + (4 + r)) c))))) + ((((((T.w (25 + 0) c * T.dd (0 + (5 + r)) c)) + (T.w (17 + 0) c * T.dd (8 + (5 + r)) c)) + (T.w (9 + 0) c * T.dd (16 + (5 + r)) c)) + (T.w (1 + 0) c * T.dd (24 + (5 + r)) c))))) :=
  pay59 (A_r_33 h) (A_v399 h)

theorem A_r_36 (h : In T i x0 x1 x2 x3 x4 x5 x6 x7 x8 x9 x10 x11) :
    H2 (φ := .f32) (kernelRun0_A.sl.r_36 (F := Ideal) c i arg6 harg6 arg7 harg7 arg8 harg8 arg9 harg9 arg10 harg10 arg11 harg11 arg12 harg12 arg13 harg13 arg21 x4 x5 x6 x7 x8 x9 x10 x11) (fun r c => ((T.w (24 + 0) c * T.dd (0 + r) c) + (T.w (16 + 0) c * T.dd (8 + r) c))) :=
  pay60 h.h8.load (A_v263 h) h.h8.load (A_v268 h)

theorem A_HS2_6 (h : In T i x0 x1 x2 x3 x4 x5 x6 x7 x8 x9 x10 x11) : HR (N := 264) (View.canon (kernelRun0_A.sl.HS2_6 (F := Ideal) c i arg6 harg6 arg7 harg7 arg8 harg8 arg9 harg9 arg10 harg10 arg11 harg11 arg12 harg12 arg13 harg13 arg21 x4 x5 x6 x7 x8 x9 x10 x11)) (fun r c => (((((T.w (24 + 0) c * T.dd (0 + r) c) + (T.w (16 + 0) c * T.dd (8 + r) c))) + (T.w (8 + 0) c * T.dd (16 + r) c)) + (T.w (0 + 0) c * T.dd (24 + r) c))) (fun n => n < 264) :=
  ((HR.none _ _).cons (o := 0) (k := 264) ((pay61 (A_r_36 h) h.h8.load (A_v274 h) h.h8.load (A_v280 h)).congr fun r _ => by simp only [Nat.zero_add])).mono (fun n _ hn => by omega)

theorem A_v427 (h : In T i x0 x1 x2 x3 x4 x5 x6 x7 x8 x9 x10 x11) :
    H2 (φ := .f32) (kernelRun0_A.sl.v427 (F := Ideal) c i arg6 harg6 arg7 harg7 arg8 harg8 arg9 harg9 arg10 harg10 arg11 harg11 arg12 harg12 arg13 harg13 arg21 arg22 x4 x5 x6 x7 x8 x9 x10 x11) (fun r c => (((((T.w (24 + 0) c * T.dd (0 + (6 + r)) c) + (T.w (16 + 0) c * T.dd (8 + (6 + r)) c))) + (T.w (8 + 0) c * T.dd (16 + (6 + r)) c)) + (T.w (0 + 0) c * T.dd (24 + (6 + r)) c))) :=
  (A_HS2_6 h).read (fun _ _ => by omega)

theorem A_r_37 (h : In T i x0 x1 x2 x3 x4 x5 x6 x7 x8 x9 x10 x11) :
    H2 (φ := .f32) (kernelRun0_A.sl.r_37 (F := Ideal) c i arg6 harg6 arg7 harg7 arg8 harg8 arg9 harg9 arg10 harg10 arg11 harg11 arg12 harg12 arg13 harg13 arg21 arg22 x4 x5 x6 x7 x8 x9 x10 x11) (fun r c => (((((((((((((((T.w (30 + 0) c * T.dd (0 + r) c) + (T.w (22 + 0) c * T.dd (8 + r) c)) + (T.w (14 + 0) c * T.dd (16 + r) c)) + (T.w (6 + 0) c * T.dd (24 + r) c))) + ((((((T.w (29 + 0) c * T.dd (0 + (1 + r)) c) + (T.w (21 + 0) c * T.dd (8 + (1 + r)) c))) + (T.w (13 + 0) c * T.dd (16 + (1 + r)) c)) + (T.w (5 + 0) c * T.dd (24 + (1 + r)) c))))) + ((((((T.w (28 + 0) c * T.dd (0 + (2 + r)) c) + (T.w (20 + 0) c * T.dd (8 + (2 + r)) c)) + (T.w (12 + 0) c * T.dd (16 + (2 + r)) c))) + (T.w (4 + 0) c * T.dd (24 + (2 + r)) c))))) + (((((T.w (27 + 0) c * T.dd (0 + (3 + r)) c) + (T.w (19 + 0) c * T.dd (8 + (3 + r)) c)) + (T.w (11 + 0) c * T.dd (16 + (3 + r)) c)) + (T.w (3 + 0) c * T.dd (24 + (3 + r)) c)))) + (((((T.w (26 + 0) c * T.dd (0 + (4 + r)) c) + (T.w (18 + 0) c * T.dd (8 + (4 + r)) c)) + (T.w (10 + 0) c * T.dd (16 + (4 + r)) c)) + (T.w (2 + 0) c * T.dd (24 + (4 + r)) c))))) + ((((((T.w (25 + 0) c * T.dd (0 + (5 + r)) c)) + (T.w (17 + 0) c * T.dd (8 + (5 + r)) c)) + (T.w (9 + 0) c * T.dd (16 + (5 + r)) c)) + (T.w (1 + 0) c * T.dd (24 + (5 + r)) c))))) + ((((((T.w (24 + 0) c * T.dd (0 + (6 + r)) c) + (T.w (16 + 0) c * T.dd (8 + (6 + r)) c))) + (T.w (8 + 0) c * T.dd (16 + (6 + r)) c)) + (T.w (0 + 0) c * T.dd (24 + (6 + r)) c))))) :=
  pay62 (A_r_35 h) (A_v427 h)

theorem A_r_38 (h : In T i x0 x1 x2 x3 x4 x5 x6 x7 x8 x9 x10 x11) :
    H2 (φ := .f32) (kernelRun0_A.sl.r_38 (F := Ideal) c i arg6 harg6 arg7 harg7 arg8 harg8 arg9 harg9 arg10 harg10 arg11 harg11 arg12 harg12 arg13 harg13 arg21 x4 x5 x6 x7 x8 x9 x10 x11) (fun r c => (((T.w (23 + 0) c * T.dd (0 + r) c) + (T.w (15 + 0) c * T.dd (8 + r) c)) + (T.w (7 + 0) c * T.dd (16 + r) c))) :=
  pay63 h.h8.load (A_v263 h) h.h8.load (A_v268 h) h.h8.load (A_v274 h)

theorem A_HS2_7 (h : In T i x0 x1 x2 x3 x4 x5 x6 x7 x8 x9 x10 x11) : HR (N := 264) (View.canon (kernelRun0_A.sl.HS2_7 (F := Ideal) c i arg6 harg6 arg7 harg7 arg8 harg8 arg9 harg9 arg10 harg10 arg11 harg11 arg12 harg12 arg13 harg13 arg21 x4 x5 x6 x7 x8 x9 x10 x11)) (fun r c => ((((T.w (23 + 0) c * T.dd (0 + r) c) + (T.w (15 + 0) c * T.dd (8 + r) c)) + (T.w (7 + 0) c * T.dd (16 + r) c)))) (fun n => n < 264) :=
  ((HR.none _ _).cons (o := 0) (k := 264) ((pay64 (A_r_38 h)).congr fun r _ => by simp only [Nat.zero_add])).mono (fun n _ hn => by omega)

theorem A_v449 (h : In T i x0 x1 x2 x3 x4 x5 x6 x7 x8 x9 x10 x11) :
    H2 (φ := .f32) (kernelRun0_A.sl.v449 (F := Ideal) c i arg6 harg6 arg7 harg7 arg8 harg8 arg9 harg9 arg10 harg10 arg11 harg11 arg12 harg12 arg13 harg13 arg21 arg22 x4 x5 x6 x7 x8 x9 x10 x11) (fun r c => ((((T.w (23 + 0) c * T.dd (0 + (7 + r)) c) + (T.w (15 + 0) c * T.dd (8 + (7 + r)) c)) + (T.w (7 + 0) c * T.dd (16 + (7 + r)) c)))) :=
  (A_HS2_7 h).read (fun _ _ => by omega)

theorem A_r_39 (h : In T i x0 x1 x2 x3 x4 x5 x6 x7 x8 x9 x10 x11) :
    H2 (φ := .f32) (kernelRun0_A.sl.r_39 (F := Ideal) c i arg6 harg6 arg7 harg7 arg8 harg8 arg9 harg9 arg10 harg10 arg11 harg11 arg12 harg12 arg13 harg13 arg21 arg22 x4 x5 x6 x7 x8 x9 x10 x11) (fun r c => (((((((((((((((((T.w (30 + 0) c * T.dd (0 + r) c) + (T.w (22 + 0) c * T.dd (8 + r) c)) + (T.w (14 + 0) c * T.dd (16 + r) c)) + (T.w (6 + 0) c * T.dd (24 + r) c))) + ((((((T.w (29 + 0) c * T.dd (0 + (1 + r)) c) + (T.w (21 + 0) c * T.dd (8 + (1 + r)) c))) + (T.w (13 + 0) c * T.dd (16 + (1 + r)) c)) + (T.w (5 + 0) c * T.dd (24 + (1 + r)) c))))) + ((((((T.w (28 + 0) c * T.dd (0 + (2 + r)) c) + (T.w (20 + 0) c * T.dd (8 + (2 + r)) c)) + (T.w (12 + 0) c * T.dd (16 + (2 + r)) c))) + (T.w (4 + 0) c * T.dd (24 + (2 + r)) c))))) + (((((T.w (27 + 0) c * T.dd (0 + (3 + r)) c) + (T.w (19 + 0) c * T.dd (8 + (3 + r)) c)) + (T.w (11 + 0) c * T.dd (16 + (3 + r)) c)) + (T.w (3 + 0) c * T.dd (24 + (3 + r)) c)))) + (((((T.w (26 + 0) c * T.dd (0 + (4 + r)) c) + (T.w (18 + 0) c * T.dd (8 + (4 + r)) c)) + (T.w (10 + 0) c * T.dd (16 + (4 + r)) c)) + (T.w (2 + 0) c * T.dd (24 + (4 + r)) c))))) + ((((((T.w (25 + 0) c * T.dd (0 + (5 + r)) c)) + (T.w (17 + 0) c * T.dd (8 + (5 + r)) c)) + (T.w (9 + 0) c * T.dd (16 + (5 + r)) c)) + (T.w (1 + 0) c * T.dd (24 + (5 + r)) c))))) + ((((((T.w (24 + 0) c * T.dd (0 + (6 + r)) c) + (T.w (16 + 0) c * T.dd (8 + (6 + r)) c))) + (T.w (8 + 0) c * T.dd (16 + (6 + r)) c)) + (T.w (0 + 0) c * T.dd (24 + (6 + r)) c))))) + (((((T.w (23 + 0) c * T.dd (0 + (7 + r)) c) + (T.w (15 + 0) c * T.dd (8 + (7 + r)) c)) + (T.w (7 + 0) c * T.dd (16 + (7 + r)) c)))))) :=
  pay65 (A_r_37 h) (A_v449 h)

theorem A_r (h : In T i x0 x1 x2 x3 x4 x5 x6 x7 x8 x9 x10 x11) :
    H2 (φ := .f32) (kernelRun0_A.sl.r (F := Ideal) c arg3 harg3 x1) (fun r c => sigm (T.G r c)) :=
  pay8 h.h1.load

end Cert.ConvBwd

end
-- ==== Proof.ConvAcc.lean ====
/-
  The tile's contribution to the taps' gradient, on real rows: first grid point.
-/
module

public import proofs.«01_k».proof.Proof.ConvTap

@[expose] public section

set_option maxRecDepth 16384

noncomputable section

namespace Cert.ConvBwd

open Idealize.ShloMosaic Idealize.ShloMosaic.TcCoe Cert.KernelIdeal Cert.KernelIdeal.Gen Cert.Row

variable {T : Tile} {c : Dev nD} {i : grid0.Coords} {arg2 : Memref sig .tc .vmem S1x256x512 .f32} {harg2 : arg2.IsWhole} {arg3 : Memref sig .tc .vmem S1x256x512 .f32} {harg3 : arg3.IsWhole} {arg4 : Memref sig .tc .vmem S1x32x512 .f32} {harg4 : arg4.IsWhole} {arg5 : Memref sig .tc .vmem S1x32x512 .f32} {harg5 : arg5.IsWhole} {arg6 : Memref sig .tc .vmem S1x256x512 .f32} {harg6 : arg6.IsWhole} {arg7 : Memref sig .tc .vmem S1x32x512 .f32} {harg7 : arg7.IsWhole} {arg8 : Memref sig .tc .vmem S1x256x512 .f32} {harg8 : arg8.IsWhole} {arg9 : Memref sig .tc .vmem S1x32x512 .f32} {harg9 : arg9.IsWhole} {arg10 : Memref sig .tc .vmem S32x512 .f32} {harg10 : arg10.IsWhole} {arg11 : Memref sig .tc .vmem S1x512 .f32} {harg11 : arg11.IsWhole} {arg12 : Memref sig .tc .vmem S1x512 .f32} {harg12 : arg12.IsWhole} {arg13 : Memref sig .tc .vmem S1x512 .f32} {harg13 : arg13.IsWhole} {arg15 : Memref sig .tc .vmem S32x512 .f32} {harg15 : arg15.IsWhole} {arg20 : Memref sig .tc .vmem S288x512 .f32} {arg21 : Memref sig .tc .vmem S288x512 .f32} {arg22 : Memref sig .tc .vmem S264x512 .f32} {arg23 : Memref sig .tc .vmem S264x512 .f32}
  {x0 x1 : FVec Ideal S1x256x512 .f32} {x2 x3 : FVec Ideal S1x32x512 .f32} {x4 : FVec Ideal S1x256x512 .f32} {x5 : FVec Ideal S1x32x512 .f32}
  {x6 : FVec Ideal S1x256x512 .f32} {x7 : FVec Ideal S1x32x512 .f32} {x8 : FVec Ideal S32x512 .f32} {x9 x10 x11 : FVec Ideal S1x512 .f32} {O : ℕ → Row} {xo13 : FVec Ideal S32x512 .f32}

theorem zero32 : H2 (n := 32) (φ := .f32) (k0_pay2 (F := Ideal)) (fun _ _ => 0) := H2.const zero_lit

theorem A_r_1 (h : In T i x0 x1 x2 x3 x4 x5 x6 x7 x8 x9 x10 x11) :
    H2 (φ := .f32) (kernelRun0_A.sl.r_1 (F := Ideal) c i arg4 harg4 arg5 harg5 x2 x3) (fun r c => T.kp * T.HV r c * sigm (T.HG r c)) :=
  pay9 i h.h2.load h.h3.load h.hp

theorem A_HS0_2 (h : In T i x0 x1 x2 x3 x4 x5 x6 x7 x8 x9 x10 x11) : HR (N := 288) (View.canon (kernelRun0_A.sl.HS0_2 (F := Ideal) c i arg2 harg2 arg3 harg3 arg4 harg4 arg5 harg5 x0 x1 x2 x3)) T.aa (fun n => n < 288) :=
  (((HR.none _ _).cons (o := 0) (k := 32) ((pay10 (A_r_1 h)).congr fun r hr => Tile.aa_low hr)).cons (o := 32) (k := 256) ((pay11 (A_r h) h.h0.load).congr fun r hr => Tile.aa_high r)).mono (fun n _ hn => by omega)

theorem A_H13_1_z : HR (N := 32) (View.canon (kernelRun0_A.sl.H13_1 (F := Ideal))) (fun _ _ => 0) (fun _ => True) :=
  ((HR.none _ _).cons (k := 32) zero32).mono (fun n _ _ => by omega)

theorem A_H13_1_y : HR (N := 32) (View.canon (kernelRun0_A.sl.H13_1 (F := Ideal))) (T.upd fun _ _ => 0) (fun n => n = 31) :=
  (A_H13_1_z.mono (fun _ _ _ => trivial)).change (fun n hn => by subst hn; exact (Tile.upd_last (T := T) (O := fun _ _ => 0)).symm)

theorem A_v451 (h : In T i x0 x1 x2 x3 x4 x5 x6 x7 x8 x9 x10 x11) :
    H2 (φ := .f32) (kernelRun0_A.sl.v451 (F := Ideal) c i arg2 harg2 arg3 harg3 arg4 harg4 arg5 harg5 arg20 x0 x1 x2 x3) (fun r c => T.aa (8 + r) c) :=
  (A_HS0_2 h).read (fun _ _ => by omega)

theorem A_v453 (h : In T i x0 x1 x2 x3 x4 x5 x6 x7 x8 x9 x10 x11) :
    H2 (φ := .f32) (kernelRun0_A.sl.v453 (F := Ideal) c arg15) (fun _ _ => 0) :=
  (A_H13_1_z ).old (by simp)

theorem A_pc_6 (h : In T i x0 x1 x2 x3 x4 x5 x6 x7 x8 x9 x10 x11) :
    H2 (n := 1) (φ := .f32) (k0_pay66 (kernelRun0_A.sl.r_14 (F := Ideal) c arg6 harg6 arg8 harg8 arg11 harg11 arg12 harg12 arg13 harg13 x4 x6 x9 x10 x11) (kernelRun0_A.sl.v451 (F := Ideal) c i arg2 harg2 arg3 harg3 arg4 harg4 arg5 harg5 arg20 x0 x1 x2 x3) (kernelRun0_A.sl.v453 (F := Ideal) c arg15)) (fun r => T.upd (fun _ _ => 0) (6 + r)) :=
  (pay66 (A_r_14 h) (A_v451 h) (A_v453 h)).congr fun r hr => by
    obtain rfl : r = 0 := by omega
    exact funext fun c => Tile.sum_rows (O := fun _ _ => 0) (R := 6) (b := 8) (by omega) (by omega) trivial

theorem A_H13_2_z (h : In T i x0 x1 x2 x3 x4 x5 x6 x7 x8 x9 x10 x11) :
    HR (N := 32) (View.canon (kernelRun0_A.sl.H13_2 (F := Ideal) c i arg2 harg2 arg3 harg3 arg4 harg4 arg5 harg5 arg6 harg6 arg8 harg8 arg11 harg11 arg12 harg12 arg13 harg13 arg15 arg20 x0 x1 x2 x3 x4 x6 x9 x10 x11)) (fun _ _ => 0) (fun n => n ∉ ([6] : List ℕ)) :=
  (HR.skip (A_H13_1_z)).mono (fun n _ hn => row_out1 hn)

theorem A_H13_2_y (h : In T i x0 x1 x2 x3 x4 x5 x6 x7 x8 x9 x10 x11) :
    HR (N := 32) (View.canon (kernelRun0_A.sl.H13_2 (F := Ideal) c i arg2 harg2 arg3 harg3 arg4 harg4 arg5 harg5 arg6 harg6 arg8 harg8 arg11 harg11 arg12 harg12 arg13 harg13 arg15 arg20 x0 x1 x2 x3 x4 x6 x9 x10 x11)) (T.upd fun _ _ => 0) (fun n => n ∈ ([6] : List ℕ) ∨ n = 31) :=
  (HR.cons (A_pc_6 h) (A_H13_1_y)).mono (fun n _ hn => row_in1 hn)

theorem A_v459 (h : In T i x0 x1 x2 x3 x4 x5 x6 x7 x8 x9 x10 x11) :
    H2 (φ := .f32) (kernelRun0_A.sl.v459 (F := Ideal) c i arg2 harg2 arg3 harg3 arg4 harg4 arg5 harg5 arg20 x0 x1 x2 x3) (fun r c => T.aa (16 + r) c) :=
  (A_HS0_2 h).read (fun _ _ => by omega)

theorem A_v461 (h : In T i x0 x1 x2 x3 x4 x5 x6 x7 x8 x9 x10 x11) :
    H2 (φ := .f32) (kernelRun0_A.sl.v461 (F := Ideal) c i arg2 harg2 arg3 harg3 arg4 harg4 arg5 harg5 arg6 harg6 arg8 harg8 arg11 harg11 arg12 harg12 arg13 harg13 arg15 arg20 x0 x1 x2 x3 x4 x6 x9 x10 x11) (fun _ _ => 0) :=
  (A_H13_2_z h).old (by simp)

theorem A_pc_14 (h : In T i x0 x1 x2 x3 x4 x5 x6 x7 x8 x9 x10 x11) :
    H2 (n := 1) (φ := .f32) (k0_pay67 (kernelRun0_A.sl.r_14 (F := Ideal) c arg6 harg6 arg8 harg8 arg11 harg11 arg12 harg12 arg13 harg13 x4 x6 x9 x10 x11) (kernelRun0_A.sl.v459 (F := Ideal) c i arg2 harg2 arg3 harg3 arg4 harg4 arg5 harg5 arg20 x0 x1 x2 x3) (kernelRun0_A.sl.v461 (F := Ideal) c i arg2 harg2 arg3 harg3 arg4 harg4 arg5 harg5 arg6 harg6 arg8 harg8 arg11 harg11 arg12 harg12 arg13 harg13 arg15 arg20 x0 x1 x2 x3 x4 x6 x9 x10 x11)) (fun r => T.upd (fun _ _ => 0) (14 + r)) :=
  (pay67 (A_r_14 h) (A_v459 h) (A_v461 h)).congr fun r hr => by
    obtain rfl : r = 0 := by omega
    exact funext fun c => Tile.sum_rows (O := fun _ _ => 0) (R := 14) (b := 16) (by omega) (by omega) trivial

theorem A_H13_3_z (h : In T i x0 x1 x2 x3 x4 x5 x6 x7 x8 x9 x10 x11) :
    HR (N := 32) (View.canon (kernelRun0_A.sl.H13_3 (F := Ideal) c i arg2 harg2 arg3 harg3 arg4 harg4 arg5 harg5 arg6 harg6 arg8 harg8 arg11 harg11 arg12 harg12 arg13 harg13 arg15 arg20 x0 x1 x2 x3 x4 x6 x9 x10 x11)) (fun _ _ => 0) (fun n => n ∉ ([14, 6] : List ℕ)) :=
  (HR.skip (A_H13_2_z h)).mono (fun n _ hn => row_out hn)

theorem A_H13_3_y (h : In T i x0 x1 x2 x3 x4 x5 x6 x7 x8 x9 x10 x11) :
    HR (N := 32) (View.canon (kernelRun0_A.sl.H13_3 (F := Ideal) c i arg2 harg2 arg3 harg3 arg4 harg4 arg5 harg5 arg6 harg6 arg8 harg8 arg11 harg11 arg12 harg12 arg13 harg13 arg15 arg20 x0 x1 x2 x3 x4 x6 x9 x10 x11)) (T.upd fun _ _ => 0) (fun n => n ∈ ([14, 6] : List ℕ) ∨ n = 31) :=
  (HR.cons (A_pc_14 h) (A_H13_2_y h)).mono (fun n _ hn => row_in hn)

theorem A_v467 (h : In T i x0 x1 x2 x3 x4 x5 x6 x7 x8 x9 x10 x11) :
    H2 (φ := .f32) (kernelRun0_A.sl.v467 (F := Ideal) c i arg2 harg2 arg3 harg3 arg4 harg4 arg5 harg5 arg20 x0 x1 x2 x3) (fun r c => T.aa (24 + r) c) :=
  (A_HS0_2 h).read (fun _ _ => by omega)

theorem A_v469 (h : In T i x0 x1 x2 x3 x4 x5 x6 x7 x8 x9 x10 x11) :
    H2 (φ := .f32) (kernelRun0_A.sl.v469 (F := Ideal) c i arg2 harg2 arg3 harg3 arg4 harg4 arg5 harg5 arg6 harg6 arg8 harg8 arg11 harg11 arg12 harg12 arg13 harg13 arg15 arg20 x0 x1 x2 x3 x4 x6 x9 x10 x11) (fun _ _ => 0) :=
  (A_H13_3_z h).old (by simp)

theorem A_pc_22 (h : In T i x0 x1 x2 x3 x4 x5 x6 x7 x8 x9 x10 x11) :
    H2 (n := 1) (φ := .f32) (k0_pay68 (kernelRun0_A.sl.r_14 (F := Ideal) c arg6 harg6 arg8 harg8 arg11 harg11 arg12 harg12 arg13 harg13 x4 x6 x9 x10 x11) (kernelRun0_A.sl.v467 (F := Ideal) c i arg2 harg2 arg3 harg3 arg4 harg4 arg5 harg5 arg20 x0 x1 x2 x3) (kernelRun0_A.sl.v469 (F := Ideal) c i arg2 harg2 arg3 harg3 arg4 harg4 arg5 harg5 arg6 harg6 arg8 harg8 arg11 harg11 arg12 harg12 arg13 harg13 arg15 arg20 x0 x1 x2 x3 x4 x6 x9 x10 x11)) (fun r => T.upd (fun _ _ => 0) (22 + r)) :=
  (pay68 (A_r_14 h) (A_v467 h) (A_v469 h)).congr fun r hr => by
    obtain rfl : r = 0 := by omega
    exact funext fun c => Tile.sum_rows (O := fun _ _ => 0) (R := 22) (b := 24) (by omega) (by omega) trivial

theorem A_H13_4_z (h : In T i x0 x1 x2 x3 x4 x5 x6 x7 x8 x9 x10 x11) :
    HR (N := 32) (View.canon (kernelRun0_A.sl.H13_4 (F := Ideal) c i arg2 harg2 arg3 harg3 arg4 harg4 arg5 harg5 arg6 harg6 arg8 harg8 arg11 harg11 arg12 harg12 arg13 harg13 arg15 arg20 x0 x1 x2 x3 x4 x6 x9 x10 x11)) (fun _ _ => 0) (fun n => n ∉ ([22, 14, 6] : List ℕ)) :=
  (HR.skip (A_H13_3_z h)).mono (fun n _ hn => row_out hn)

theorem A_H13_4_y (h : In T i x0 x1 x2 x3 x4 x5 x6 x7 x8 x9 x10 x11) :
    HR (N := 32) (View.canon (kernelRun0_A.sl.H13_4 (F := Ideal) c i arg2 harg2 arg3 harg3 arg4 harg4 arg5 harg5 arg6 harg6 arg8 harg8 arg11 harg11 arg12 harg12 arg13 harg13 arg15 arg20 x0 x1 x2 x3 x4 x6 x9 x10 x11)) (T.upd fun _ _ => 0) (fun n => n ∈ ([22, 14, 6] : List ℕ) ∨ n = 31) :=
  (HR.cons (A_pc_22 h) (A_H13_3_y h)).mono (fun n _ hn => row_in hn)

theorem A_v475 (h : In T i x0 x1 x2 x3 x4 x5 x6 x7 x8 x9 x10 x11) :
    H2 (φ := .f32) (kernelRun0_A.sl.v475 (F := Ideal) c i arg2 harg2 arg3 harg3 arg4 harg4 arg5 harg5 arg20 x0 x1 x2 x3) (fun r c => T.aa (32 + r) c) :=
  (A_HS0_2 h).read (fun _ _ => by omega)

theorem A_r_40 (h : In T i x0 x1 x2 x3 x4 x5 x6 x7 x8 x9 x10 x11) :
    H2 (φ := .f32) (kernelRun0_A.sl.r_40 (F := Ideal) c i arg2 harg2 arg3 harg3 arg4 harg4 arg5 harg5 arg6 harg6 arg8 harg8 arg11 harg11 arg12 harg12 arg13 harg13 arg20 x0 x1 x2 x3 x4 x6 x9 x10 x11) (fun r c => (T.dd r c * T.aa (32 + r) c)) :=
  pay69 (A_r_14 h) (A_v475 h)

theorem A_v477 (h : In T i x0 x1 x2 x3 x4 x5 x6 x7 x8 x9 x10 x11) :
    H2 (φ := .f32) (kernelRun0_A.sl.v477 (F := Ideal) c i arg2 harg2 arg3 harg3 arg4 harg4 arg5 harg5 arg6 harg6 arg8 harg8 arg11 harg11 arg12 harg12 arg13 harg13 arg15 arg20 x0 x1 x2 x3 x4 x6 x9 x10 x11) (fun _ _ => 0) :=
  (A_H13_4_z h).old (by simp)

theorem A_pc_30 (h : In T i x0 x1 x2 x3 x4 x5 x6 x7 x8 x9 x10 x11) :
    H2 (n := 1) (φ := .f32) (k0_pay70 (kernelRun0_A.sl.r_40 (F := Ideal) c i arg2 harg2 arg3 harg3 arg4 harg4 arg5 harg5 arg6 harg6 arg8 harg8 arg11 harg11 arg12 harg12 arg13 harg13 arg20 x0 x1 x2 x3 x4 x6 x9 x10 x11) (kernelRun0_A.sl.v477 (F := Ideal) c i arg2 harg2 arg3 harg3 arg4 harg4 arg5 harg5 arg6 harg6 arg8 harg8 arg11 harg11 arg12 harg12 arg13 harg13 arg15 arg20 x0 x1 x2 x3 x4 x6 x9 x10 x11)) (fun r => T.upd (fun _ _ => 0) (30 + r)) :=
  (pay70 (A_r_40 h) (A_v477 h)).congr fun r hr => by
    obtain rfl : r = 0 := by omega
    exact funext fun c => Tile.sum_rows (O := fun _ _ => 0) (R := 30) (b := 32) (by omega) (by omega) trivial

theorem A_H13_5_z (h : In T i x0 x1 x2 x3 x4 x5 x6 x7 x8 x9 x10 x11) :
    HR (N := 32) (View.canon (kernelRun0_A.sl.H13_5 (F := Ideal) c i arg2 harg2 arg3 harg3 arg4 harg4 arg5 harg5 arg6 harg6 arg8 harg8 arg11 harg11 arg12 harg12 arg13 harg13 arg15 arg20 x0 x1 x2 x3 x4 x6 x9 x10 x11)) (fun _ _ => 0) (fun n => n ∉ ([30, 22, 14, 6] : List ℕ)) :=
  (HR.skip (A_H13_4_z h)).mono (fun n _ hn => row_out hn)

theorem A_H13_5_y (h : In T i x0 x1 x2 x3 x4 x5 x6 x7 x8 x9 x10 x11) :
    HR (N := 32) (View.canon (kernelRun0_A.sl.H13_5 (F := Ideal) c i arg2 harg2 arg3 harg3 arg4 harg4 arg5 harg5 arg6 harg6 arg8 harg8 arg11 harg11 arg12 harg12 arg13 harg13 arg15 arg20 x0 x1 x2 x3 x4 x6 x9 x10 x11)) (T.upd fun _ _ => 0) (fun n => n ∈ ([30, 22, 14, 6] : List ℕ) ∨ n = 31) :=
  (HR.cons (A_pc_30 h) (A_H13_4_y h)).mono (fun n _ hn => row_in hn)

theorem A_HS3_3 (h : In T i x0 x1 x2 x3 x4 x5 x6 x7 x8 x9 x10 x11) : HR (N := 264) (View.canon (kernelRun0_A.sl.HS3_3 (F := Ideal) c arg6 harg6 arg8 harg8 arg11 harg11 arg12 harg12 arg13 harg13 x4 x6 x9 x10 x11)) (T.sd 1) (fun n => n < 264) :=
  Tile.shifted (s := 1) (by omega) ((pay73 (A_r_14 h))) ((pay72 )) ((pay71 ))

theorem A_v494 (h : In T i x0 x1 x2 x3 x4 x5 x6 x7 x8 x9 x10 x11) :
    H2 (φ := .f32) (kernelRun0_A.sl.v494 (F := Ideal) c arg6 harg6 arg8 harg8 arg11 harg11 arg12 harg12 arg13 harg13 arg23 x4 x6 x9 x10 x11) (fun r c => T.sd 1 (0 + r) c) :=
  (A_HS3_3 h).read (fun _ _ => by omega)

theorem A_v495 (h : In T i x0 x1 x2 x3 x4 x5 x6 x7 x8 x9 x10 x11) :
    H2 (φ := .f32) (kernelRun0_A.sl.v495 (F := Ideal) c i arg2 harg2 arg3 harg3 arg4 harg4 arg5 harg5 arg20 x0 x1 x2 x3) (fun r c => T.aa (8 + r) c) :=
  (A_HS0_2 h).read (fun _ _ => by omega)

theorem A_v497 (h : In T i x0 x1 x2 x3 x4 x5 x6 x7 x8 x9 x10 x11) :
    H2 (φ := .f32) (kernelRun0_A.sl.v497 (F := Ideal) c i arg2 harg2 arg3 harg3 arg4 harg4 arg5 harg5 arg6 harg6 arg8 harg8 arg11 harg11 arg12 harg12 arg13 harg13 arg15 arg20 x0 x1 x2 x3 x4 x6 x9 x10 x11) (fun _ _ => 0) :=
  (A_H13_5_z h).old (by simp)

theorem A_pc_7 (h : In T i x0 x1 x2 x3 x4 x5 x6 x7 x8 x9 x10 x11) :
    H2 (n := 1) (φ := .f32) (k0_pay74 (kernelRun0_A.sl.v494 (F := Ideal) c arg6 harg6 arg8 harg8 arg11 harg11 arg12 harg12 arg13 harg13 arg23 x4 x6 x9 x10 x11) (kernelRun0_A.sl.v495 (F := Ideal) c i arg2 harg2 arg3 harg3 arg4 harg4 arg5 harg5 arg20 x0 x1 x2 x3) (kernelRun0_A.sl.v497 (F := Ideal) c i arg2 harg2 arg3 harg3 arg4 harg4 arg5 harg5 arg6 harg6 arg8 harg8 arg11 harg11 arg12 harg12 arg13 harg13 arg15 arg20 x0 x1 x2 x3 x4 x6 x9 x10 x11)) (fun r => T.upd (fun _ _ => 0) (7 + r)) :=
  (pay74 (A_v494 h) (A_v495 h) (A_v497 h)).congr fun r hr => by
    obtain rfl : r = 0 := by omega
    exact funext fun c => Tile.sum_shift (O := fun _ _ => 0) (R := 7) (b := 8) (s := 1) (by omega) (by omega) (by omega)

theorem A_H13_6_z (h : In T i x0 x1 x2 x3 x4 x5 x6 x7 x8 x9 x10 x11) :
    HR (N := 32) (View.canon (kernelRun0_A.sl.H13_6 (F := Ideal) c i arg2 harg2 arg3 harg3 arg4 harg4 arg5 harg5 arg6 harg6 arg8 harg8 arg11 harg11 arg12 harg12 arg13 harg13 arg15 arg20 arg23 x0 x1 x2 x3 x4 x6 x9 x10 x11)) (fun _ _ => 0) (fun n => n ∉ ([7, 30, 22, 14, 6] : List ℕ)) :=
  (HR.skip (A_H13_5_z h)).mono (fun n _ hn => row_out hn)

theorem A_H13_6_y (h : In T i x0 x1 x2 x3 x4 x5 x6 x7 x8 x9 x10 x11) :
    HR (N := 32) (View.canon (kernelRun0_A.sl.H13_6 (F := Ideal) c i arg2 harg2 arg3 harg3 arg4 harg4 arg5 harg5 arg6 harg6 arg8 harg8 arg11 harg11 arg12 harg12 arg13 harg13 arg15 arg20 arg23 x0 x1 x2 x3 x4 x6 x9 x10 x11)) (T.upd fun _ _ => 0) (fun n => n ∈ ([7, 30, 22, 14, 6] : List ℕ) ∨ n = 31) :=
  (HR.cons (A_pc_7 h) (A_H13_5_y h)).mono (fun n _ hn => row_in hn)

theorem A_v504 (h : In T i x0 x1 x2 x3 x4 x5 x6 x7 x8 x9 x10 x11) :
    H2 (φ := .f32) (kernelRun0_A.sl.v504 (F := Ideal) c i arg2 harg2 arg3 harg3 arg4 harg4 arg5 harg5 arg20 x0 x1 x2 x3) (fun r c => T.aa (16 + r) c) :=
  (A_HS0_2 h).read (fun _ _ => by omega)

theorem A_r_41 (h : In T i x0 x1 x2 x3 x4 x5 x6 x7 x8 x9 x10 x11) :
    H2 (φ := .f32) (kernelRun0_A.sl.r_41 (F := Ideal) c i arg2 harg2 arg3 harg3 arg4 harg4 arg5 harg5 arg6 harg6 arg8 harg8 arg11 harg11 arg12 harg12 arg13 harg13 arg20 arg23 x0 x1 x2 x3 x4 x6 x9 x10 x11) (fun r c => (T.sd 1 (0 + r) c * T.aa (16 + r) c)) :=
  pay75 (A_v494 h) (A_v504 h)

theorem A_v506 (h : In T i x0 x1 x2 x3 x4 x5 x6 x7 x8 x9 x10 x11) :
    H2 (φ := .f32) (kernelRun0_A.sl.v506 (F := Ideal) c i arg2 harg2 arg3 harg3 arg4 harg4 arg5 harg5 arg6 harg6 arg8 harg8 arg11 harg11 arg12 harg12 arg13 harg13 arg15 arg20 arg23 x0 x1 x2 x3 x4 x6 x9 x10 x11) (fun _ _ => 0) :=
  (A_H13_6_z h).old (by simp)

theorem A_pc_15 (h : In T i x0 x1 x2 x3 x4 x5 x6 x7 x8 x9 x10 x11) :
    H2 (n := 1) (φ := .f32) (k0_pay76 (kernelRun0_A.sl.r_41 (F := Ideal) c i arg2 harg2 arg3 harg3 arg4 harg4 arg5 harg5 arg6 harg6 arg8 harg8 arg11 harg11 arg12 harg12 arg13 harg13 arg20 arg23 x0 x1 x2 x3 x4 x6 x9 x10 x11) (kernelRun0_A.sl.v506 (F := Ideal) c i arg2 harg2 arg3 harg3 arg4 harg4 arg5 harg5 arg6 harg6 arg8 harg8 arg11 harg11 arg12 harg12 arg13 harg13 arg15 arg20 arg23 x0 x1 x2 x3 x4 x6 x9 x10 x11)) (fun r => T.upd (fun _ _ => 0) (15 + r)) :=
  (pay76 (A_r_41 h) (A_v506 h)).congr fun r hr => by
    obtain rfl : r = 0 := by omega
    exact funext fun c => Tile.sum_shift (O := fun _ _ => 0) (R := 15) (b := 16) (s := 1) (by omega) (by omega) (by omega)

theorem A_H13_7_z (h : In T i x0 x1 x2 x3 x4 x5 x6 x7 x8 x9 x10 x11) :
    HR (N := 32) (View.canon (kernelRun0_A.sl.H13_7 (F := Ideal) c i arg2 harg2 arg3 harg3 arg4 harg4 arg5 harg5 arg6 harg6 arg8 harg8 arg11 harg11 arg12 harg12 arg13 harg13 arg15 arg20 arg23 x0 x1 x2 x3 x4 x6 x9 x10 x11)) (fun _ _ => 0) (fun n => n ∉ ([15, 7, 30, 22, 14, 6] : List ℕ)) :=
  (HR.skip (A_H13_6_z h)).mono (fun n _ hn => row_out hn)

theorem A_H13_7_y (h : In T i x0 x1 x2 x3 x4 x5 x6 x7 x8 x9 x10 x11) :
    HR (N := 32) (View.canon (kernelRun0_A.sl.H13_7 (F := Ideal) c i arg2 harg2 arg3 harg3 arg4 harg4 arg5 harg5 arg6 harg6 arg8 harg8 arg11 harg11 arg12 harg12 arg13 harg13 arg15 arg20 arg23 x0 x1 x2 x3 x4 x6 x9 x10 x11)) (T.upd fun _ _ => 0) (fun n => n ∈ ([15, 7, 30, 22, 14, 6] : List ℕ) ∨ n = 31) :=
  (HR.cons (A_pc_15 h) (A_H13_6_y h)).mono (fun n _ hn => row_in hn)

theorem A_v513 (h : In T i x0 x1 x2 x3 x4 x5 x6 x7 x8 x9 x10 x11) :
    H2 (φ := .f32) (kernelRun0_A.sl.v513 (F := Ideal) c i arg2 harg2 arg3 harg3 arg4 harg4 arg5 harg5 arg20 x0 x1 x2 x3) (fun r c => T.aa (24 + r) c) :=
  (A_HS0_2 h).read (fun _ _ => by omega)

theorem A_v515 (h : In T i x0 x1 x2 x3 x4 x5 x6 x7 x8 x9 x10 x11) :
    H2 (φ := .f32) (kernelRun0_A.sl.v515 (F := Ideal) c i arg2 harg2 arg3 harg3 arg4 harg4 arg5 harg5 arg6 harg6 arg8 harg8 arg11 harg11 arg12 harg12 arg13 harg13 arg15 arg20 arg23 x0 x1 x2 x3 x4 x6 x9 x10 x11) (fun _ _ => 0) :=
  (A_H13_7_z h).old (by simp)

theorem A_pc_23 (h : In T i x0 x1 x2 x3 x4 x5 x6 x7 x8 x9 x10 x11) :
    H2 (n := 1) (φ := .f32) (k0_pay77 (kernelRun0_A.sl.v494 (F := Ideal) c arg6 harg6 arg8 harg8 arg11 harg11 arg12 harg12 arg13 harg13 arg23 x4 x6 x9 x10 x11) (kernelRun0_A.sl.v513 (F := Ideal) c i arg2 harg2 arg3 harg3 arg4 harg4 arg5 harg5 arg20 x0 x1 x2 x3) (kernelRun0_A.sl.v515 (F := Ideal) c i arg2 harg2 arg3 harg3 arg4 harg4 arg5 harg5 arg6 harg6 arg8 harg8 arg11 harg11 arg12 harg12 arg13 harg13 arg15 arg20 arg23 x0 x1 x2 x3 x4 x6 x9 x10 x11)) (fun r => T.upd (fun _ _ => 0) (23 + r)) :=
  (pay77 (A_v494 h) (A_v513 h) (A_v515 h)).congr fun r hr => by
    obtain rfl : r = 0 := by omega
    exact funext fun c => Tile.sum_shift (O := fun _ _ => 0) (R := 23) (b := 24) (s := 1) (by omega) (by omega) (by omega)

theorem A_H13_8_z (h : In T i x0 x1 x2 x3 x4 x5 x6 x7 x8 x9 x10 x11) :
    HR (N := 32) (View.canon (kernelRun0_A.sl.H13_8 (F := Ideal) c i arg2 harg2 arg3 harg3 arg4 harg4 arg5 harg5 arg6 harg6 arg8 harg8 arg11 harg11 arg12 harg12 arg13 harg13 arg15 arg20 arg23 x0 x1 x2 x3 x4 x6 x9 x10 x11)) (fun _ _ => 0) (fun n => n ∉ ([23, 15, 7, 30, 22, 14, 6] : List ℕ)) :=
  (HR.skip (A_H13_7_z h)).mono (fun n _ hn => row_out hn)

theorem A_H13_8_y (h : In T i x0 x1 x2 x3 x4 x5 x6 x7 x8 x9 x10 x11) :
    HR (N := 32) (View.canon (kernelRun0_A.sl.H13_8 (F := Ideal) c i arg2 harg2 arg3 harg3 arg4 harg4 arg5 harg5 arg6 harg6 arg8 harg8 arg11 harg11 arg12 harg12 arg13 harg13 arg15 arg20 arg23 x0 x1 x2 x3 x4 x6 x9 x10 x11)) (T.upd fun _ _ => 0) (fun n => n ∈ ([23, 15, 7, 30, 22, 14, 6] : List ℕ) ∨ n = 31) :=
  (HR.cons (A_pc_23 h) (A_H13_7_y h)).mono (fun n _ hn => row_in hn)

theorem A_HS3_6 (h : In T i x0 x1 x2 x3 x4 x5 x6 x7 x8 x9 x10 x11) : HR (N := 264) (View.canon (kernelRun0_A.sl.HS3_6 (F := Ideal) c arg6 harg6 arg8 harg8 arg11 harg11 arg12 harg12 arg13 harg13 x4 x6 x9 x10 x11)) (T.sd 2) (fun n => n < 264) :=
  Tile.shifted (s := 2) (by omega) ((pay80 (A_r_14 h))) ((pay79 )) ((pay78 ))

theorem A_v532 (h : In T i x0 x1 x2 x3 x4 x5 x6 x7 x8 x9 x10 x11) :
    H2 (φ := .f32) (kernelRun0_A.sl.v532 (F := Ideal) c arg6 harg6 arg8 harg8 arg11 harg11 arg12 harg12 arg13 harg13 arg23 x4 x6 x9 x10 x11) (fun r c => T.sd 2 (0 + r) c) :=
  (A_HS3_6 h).read (fun _ _ => by omega)

theorem A_v533 (h : In T i x0 x1 x2 x3 x4 x5 x6 x7 x8 x9 x10 x11) :
    H2 (φ := .f32) (kernelRun0_A.sl.v533 (F := Ideal) c i arg2 harg2 arg3 harg3 arg4 harg4 arg5 harg5 arg20 x0 x1 x2 x3) (fun r c => T.aa (0 + r) c) :=
  (A_HS0_2 h).read (fun _ _ => by omega)

theorem A_r_42 (h : In T i x0 x1 x2 x3 x4 x5 x6 x7 x8 x9 x10 x11) :
    H2 (φ := .f32) (kernelRun0_A.sl.r_42 (F := Ideal) c i arg2 harg2 arg3 harg3 arg4 harg4 arg5 harg5 arg6 harg6 arg8 harg8 arg11 harg11 arg12 harg12 arg13 harg13 arg20 arg23 x0 x1 x2 x3 x4 x6 x9 x10 x11) (fun r c => (T.sd 2 (0 + r) c * T.aa (0 + r) c)) :=
  pay81 (A_v532 h) (A_v533 h)

theorem A_v535 (h : In T i x0 x1 x2 x3 x4 x5 x6 x7 x8 x9 x10 x11) :
    H2 (φ := .f32) (kernelRun0_A.sl.v535 (F := Ideal) c i arg2 harg2 arg3 harg3 arg4 harg4 arg5 harg5 arg6 harg6 arg8 harg8 arg11 harg11 arg12 harg12 arg13 harg13 arg15 arg20 arg23 x0 x1 x2 x3 x4 x6 x9 x10 x11) (fun _ _ => 0) :=
  (A_H13_8_z h).old (by simp)

theorem A_pc_0 (h : In T i x0 x1 x2 x3 x4 x5 x6 x7 x8 x9 x10 x11) :
    H2 (n := 1) (φ := .f32) (k0_pay82 (kernelRun0_A.sl.r_42 (F := Ideal) c i arg2 harg2 arg3 harg3 arg4 harg4 arg5 harg5 arg6 harg6 arg8 harg8 arg11 harg11 arg12 harg12 arg13 harg13 arg20 arg23 x0 x1 x2 x3 x4 x6 x9 x10 x11) (kernelRun0_A.sl.v535 (F := Ideal) c i arg2 harg2 arg3 harg3 arg4 harg4 arg5 harg5 arg6 harg6 arg8 harg8 arg11 harg11 arg12 harg12 arg13 harg13 arg15 arg20 arg23 x0 x1 x2 x3 x4 x6 x9 x10 x11)) (fun r => T.upd (fun _ _ => 0) (0 + r)) :=
  (pay82 (A_r_42 h) (A_v535 h)).congr fun r hr => by
    obtain rfl : r = 0 := by omega
    exact funext fun c => Tile.sum_shift (O := fun _ _ => 0) (R := 0) (b := 0) (s := 2) (by omega) (by omega) (by omega)

theorem A_H13_9_z (h : In T i x0 x1 x2 x3 x4 x5 x6 x7 x8 x9 x10 x11) :
    HR (N := 32) (View.canon (kernelRun0_A.sl.H13_9 (F := Ideal) c i arg2 harg2 arg3 harg3 arg4 harg4 arg5 harg5 arg6 harg6 arg8 harg8 arg11 harg11 arg12 harg12 arg13 harg13 arg15 arg20 arg23 x0 x1 x2 x3 x4 x6 x9 x10 x11)) (fun _ _ => 0) (fun n => n ∉ ([0, 23, 15, 7, 30, 22, 14, 6] : List ℕ)) :=
  (HR.skip (A_H13_8_z h)).mono (fun n _ hn => row_out hn)

theorem A_H13_9_y (h : In T i x0 x1 x2 x3 x4 x5 x6 x7 x8 x9 x10 x11) :
    HR (N := 32) (View.canon (kernelRun0_A.sl.H13_9 (F := Ideal) c i arg2 harg2 arg3 harg3 arg4 harg4 arg5 harg5 arg6 harg6 arg8 harg8 arg11 harg11 arg12 harg12 arg13 harg13 arg15 arg20 arg23 x0 x1 x2 x3 x4 x6 x9 x10 x11)) (T.upd fun _ _ => 0) (fun n => n ∈ ([0, 23, 15, 7, 30, 22, 14, 6] : List ℕ) ∨ n = 31) :=
  (HR.cons (A_pc_0 h) (A_H13_8_y h)).mono (fun n _ hn => row_in hn)

theorem A_v544 (h : In T i x0 x1 x2 x3 x4 x5 x6 x7 x8 x9 x10 x11) :
    H2 (φ := .f32) (kernelRun0_A.sl.v544 (F := Ideal) c i arg2 harg2 arg3 harg3 arg4 harg4 arg5 harg5 arg6 harg6 arg8 harg8 arg11 harg11 arg12 harg12 arg13 harg13 arg15 arg20 arg23 x0 x1 x2 x3 x4 x6 x9 x10 x11) (fun _ _ => 0) :=
  (A_H13_9_z h).old (by simp)

theorem A_pc_8 (h : In T i x0 x1 x2 x3 x4 x5 x6 x7 x8 x9 x10 x11) :
    H2 (n := 1) (φ := .f32) (k0_pay83 (kernelRun0_A.sl.v532 (F := Ideal) c arg6 harg6 arg8 harg8 arg11 harg11 arg12 harg12 arg13 harg13 arg23 x4 x6 x9 x10 x11) (kernelRun0_A.sl.v495 (F := Ideal) c i arg2 harg2 arg3 harg3 arg4 harg4 arg5 harg5 arg20 x0 x1 x2 x3) (kernelRun0_A.sl.v544 (F := Ideal) c i arg2 harg2 arg3 harg3 arg4 harg4 arg5 harg5 arg6 harg6 arg8 harg8 arg11 harg11 arg12 harg12 arg13 harg13 arg15 arg20 arg23 x0 x1 x2 x3 x4 x6 x9 x10 x11)) (fun r => T.upd (fun _ _ => 0) (8 + r)) :=
  (pay83 (A_v532 h) (A_v495 h) (A_v544 h)).congr fun r hr => by
    obtain rfl : r = 0 := by omega
    exact funext fun c => Tile.sum_shift (O := fun _ _ => 0) (R := 8) (b := 8) (s := 2) (by omega) (by omega) (by omega)

theorem A_H13_10_z (h : In T i x0 x1 x2 x3 x4 x5 x6 x7 x8 x9 x10 x11) :
    HR (N := 32) (View.canon (kernelRun0_A.sl.H13_10 (F := Ideal) c i arg2 harg2 arg3 harg3 arg4 harg4 arg5 harg5 arg6 harg6 arg8 harg8 arg11 harg11 arg12 harg12 arg13 harg13 arg15 arg20 arg23 x0 x1 x2 x3 x4 x6 x9 x10 x11)) (fun _ _ => 0) (fun n => n ∉ ([8, 0, 23, 15, 7, 30, 22, 14, 6] : List ℕ)) :=
  (HR.skip (A_H13_9_z h)).mono (fun n _ hn => row_out hn)

theorem A_H13_10_y (h : In T i x0 x1 x2 x3 x4 x5 x6 x7 x8 x9 x10 x11) :
    HR (N := 32) (View.canon (kernelRun0_A.sl.H13_10 (F := Ideal) c i arg2 harg2 arg3 harg3 arg4 harg4 arg5 harg5 arg6 harg6 arg8 harg8 arg11 harg11 arg12 harg12 arg13 harg13 arg15 arg20 arg23 x0 x1 x2 x3 x4 x6 x9 x10 x11)) (T.upd fun _ _ => 0) (fun n => n ∈ ([8, 0, 23, 15, 7, 30, 22, 14, 6] : List ℕ) ∨ n = 31) :=
  (HR.cons (A_pc_8 h) (A_H13_9_y h)).mono (fun n _ hn => row_in hn)

theorem A_v553 (h : In T i x0 x1 x2 x3 x4 x5 x6 x7 x8 x9 x10 x11) :
    H2 (φ := .f32) (kernelRun0_A.sl.v553 (F := Ideal) c i arg2 harg2 arg3 harg3 arg4 harg4 arg5 harg5 arg6 harg6 arg8 harg8 arg11 harg11 arg12 harg12 arg13 harg13 arg15 arg20 arg23 x0 x1 x2 x3 x4 x6 x9 x10 x11) (fun _ _ => 0) :=
  (A_H13_10_z h).old (by simp)

theorem A_pc_16 (h : In T i x0 x1 x2 x3 x4 x5 x6 x7 x8 x9 x10 x11) :
    H2 (n := 1) (φ := .f32) (k0_pay84 (kernelRun0_A.sl.v532 (F := Ideal) c arg6 harg6 arg8 harg8 arg11 harg11 arg12 harg12 arg13 harg13 arg23 x4 x6 x9 x10 x11) (kernelRun0_A.sl.v504 (F := Ideal) c i arg2 harg2 arg3 harg3 arg4 harg4 arg5 harg5 arg20 x0 x1 x2 x3) (kernelRun0_A.sl.v553 (F := Ideal) c i arg2 harg2 arg3 harg3 arg4 harg4 arg5 harg5 arg6 harg6 arg8 harg8 arg11 harg11 arg12 harg12 arg13 harg13 arg15 arg20 arg23 x0 x1 x2 x3 x4 x6 x9 x10 x11)) (fun r => T.upd (fun _ _ => 0) (16 + r)) :=
  (pay84 (A_v532 h) (A_v504 h) (A_v553 h)).congr fun r hr => by
    obtain rfl : r = 0 := by omega
    exact funext fun c => Tile.sum_shift (O := fun _ _ => 0) (R := 16) (b := 16) (s := 2) (by omega) (by omega) (by omega)

theorem A_H13_11_z (h : In T i x0 x1 x2 x3 x4 x5 x6 x7 x8 x9 x10 x11) :
    HR (N := 32) (View.canon (kernelRun0_A.sl.H13_11 (F := Ideal) c i arg2 harg2 arg3 harg3 arg4 harg4 arg5 harg5 arg6 harg6 arg8 harg8 arg11 harg11 arg12 harg12 arg13 harg13 arg15 arg20 arg23 x0 x1 x2 x3 x4 x6 x9 x10 x11)) (fun _ _ => 0) (fun n => n ∉ ([16, 8, 0, 23, 15, 7, 30, 22, 14, 6] : List ℕ)) :=
  (HR.skip (A_H13_10_z h)).mono (fun n _ hn => row_out hn)

theorem A_H13_11_y (h : In T i x0 x1 x2 x3 x4 x5 x6 x7 x8 x9 x10 x11) :
    HR (N := 32) (View.canon (kernelRun0_A.sl.H13_11 (F := Ideal) c i arg2 harg2 arg3 harg3 arg4 harg4 arg5 harg5 arg6 harg6 arg8 harg8 arg11 harg11 arg12 harg12 arg13 harg13 arg15 arg20 arg23 x0 x1 x2 x3 x4 x6 x9 x10 x11)) (T.upd fun _ _ => 0) (fun n => n ∈ ([16, 8, 0, 23, 15, 7, 30, 22, 14, 6] : List ℕ) ∨ n = 31) :=
  (HR.cons (A_pc_16 h) (A_H13_10_y h)).mono (fun n _ hn => row_in hn)

theorem A_r_43 (h : In T i x0 x1 x2 x3 x4 x5 x6 x7 x8 x9 x10 x11) :
    H2 (φ := .f32) (kernelRun0_A.sl.r_43 (F := Ideal) c i arg2 harg2 arg3 harg3 arg4 harg4 arg5 harg5 arg6 harg6 arg8 harg8 arg11 harg11 arg12 harg12 arg13 harg13 arg20 arg23 x0 x1 x2 x3 x4 x6 x9 x10 x11) (fun r c => (T.sd 2 (0 + r) c * T.aa (24 + r) c)) :=
  pay85 (A_v532 h) (A_v513 h)

theorem A_v562 (h : In T i x0 x1 x2 x3 x4 x5 x6 x7 x8 x9 x10 x11) :
    H2 (φ := .f32) (kernelRun0_A.sl.v562 (F := Ideal) c i arg2 harg2 arg3 harg3 arg4 harg4 arg5 harg5 arg6 harg6 arg8 harg8 arg11 harg11 arg12 harg12 arg13 harg13 arg15 arg20 arg23 x0 x1 x2 x3 x4 x6 x9 x10 x11) (fun _ _ => 0) :=
  (A_H13_11_z h).old (by simp)

theorem A_pc_24 (h : In T i x0 x1 x2 x3 x4 x5 x6 x7 x8 x9 x10 x11) :
    H2 (n := 1) (φ := .f32) (k0_pay86 (kernelRun0_A.sl.r_43 (F := Ideal) c i arg2 harg2 arg3 harg3 arg4 harg4 arg5 harg5 arg6 harg6 arg8 harg8 arg11 harg11 arg12 harg12 arg13 harg13 arg20 arg23 x0 x1 x2 x3 x4 x6 x9 x10 x11) (kernelRun0_A.sl.v562 (F := Ideal) c i arg2 harg2 arg3 harg3 arg4 harg4 arg5 harg5 arg6 harg6 arg8 harg8 arg11 harg11 arg12 harg12 arg13 harg13 arg15 arg20 arg23 x0 x1 x2 x3 x4 x6 x9 x10 x11)) (fun r => T.upd (fun _ _ => 0) (24 + r)) :=
  (pay86 (A_r_43 h) (A_v562 h)).congr fun r hr => by
    obtain rfl : r = 0 := by omega
    exact funext fun c => Tile.sum_shift (O := fun _ _ => 0) (R := 24) (b := 24) (s := 2) (by omega) (by omega) (by omega)

theorem A_H13_12_z (h : In T i x0 x1 x2 x3 x4 x5 x6 x7 x8 x9 x10 x11) :
    HR (N := 32) (View.canon (kernelRun0_A.sl.H13_12 (F := Ideal) c i arg2 harg2 arg3 harg3 arg4 harg4 arg5 harg5 arg6 harg6 arg8 harg8 arg11 harg11 arg12 harg12 arg13 harg13 arg15 arg20 arg23 x0 x1 x2 x3 x4 x6 x9 x10 x11)) (fun _ _ => 0) (fun n => n ∉ ([24, 16, 8, 0, 23, 15, 7, 30, 22, 14, 6] : List ℕ)) :=
  (HR.skip (A_H13_11_z h)).mono (fun n _ hn => row_out hn)

theorem A_H13_12_y (h : In T i x0 x1 x2 x3 x4 x5 x6 x7 x8 x9 x10 x11) :
    HR (N := 32) (View.canon (kernelRun0_A.sl.H13_12 (F := Ideal) c i arg2 harg2 arg3 harg3 arg4 harg4 arg5 harg5 arg6 harg6 arg8 harg8 arg11 harg11 arg12 harg12 arg13 harg13 arg15 arg20 arg23 x0 x1 x2 x3 x4 x6 x9 x10 x11)) (T.upd fun _ _ => 0) (fun n => n ∈ ([24, 16, 8, 0, 23, 15, 7, 30, 22, 14, 6] : List ℕ) ∨ n = 31) :=
  (HR.cons (A_pc_24 h) (A_H13_11_y h)).mono (fun n _ hn => row_in hn)

theorem A_HS3_9 (h : In T i x0 x1 x2 x3 x4 x5 x6 x7 x8 x9 x10 x11) : HR (N := 264) (View.canon (kernelRun0_A.sl.HS3_9 (F := Ideal) c arg6 harg6 arg8 harg8 arg11 harg11 arg12 harg12 arg13 harg13 x4 x6 x9 x10 x11)) (T.sd 3) (fun n => n < 264) :=
  Tile.shifted (s := 3) (by omega) ((pay89 (A_r_14 h))) ((pay88 )) ((pay87 ))

theorem A_v579 (h : In T i x0 x1 x2 x3 x4 x5 x6 x7 x8 x9 x10 x11) :
    H2 (φ := .f32) (kernelRun0_A.sl.v579 (F := Ideal) c arg6 harg6 arg8 harg8 arg11 harg11 arg12 harg12 arg13 harg13 arg23 x4 x6 x9 x10 x11) (fun r c => T.sd 3 (0 + r) c) :=
  (A_HS3_9 h).read (fun _ _ => by omega)

theorem A_v582 (h : In T i x0 x1 x2 x3 x4 x5 x6 x7 x8 x9 x10 x11) :
    H2 (φ := .f32) (kernelRun0_A.sl.v582 (F := Ideal) c i arg2 harg2 arg3 harg3 arg4 harg4 arg5 harg5 arg6 harg6 arg8 harg8 arg11 harg11 arg12 harg12 arg13 harg13 arg15 arg20 arg23 x0 x1 x2 x3 x4 x6 x9 x10 x11) (fun _ _ => 0) :=
  (A_H13_12_z h).old (by simp)

theorem A_pc_1 (h : In T i x0 x1 x2 x3 x4 x5 x6 x7 x8 x9 x10 x11) :
    H2 (n := 1) (φ := .f32) (k0_pay90 (kernelRun0_A.sl.v579 (F := Ideal) c arg6 harg6 arg8 harg8 arg11 harg11 arg12 harg12 arg13 harg13 arg23 x4 x6 x9 x10 x11) (kernelRun0_A.sl.v533 (F := Ideal) c i arg2 harg2 arg3 harg3 arg4 harg4 arg5 harg5 arg20 x0 x1 x2 x3) (kernelRun0_A.sl.v582 (F := Ideal) c i arg2 harg2 arg3 harg3 arg4 harg4 arg5 harg5 arg6 harg6 arg8 harg8 arg11 harg11 arg12 harg12 arg13 harg13 arg15 arg20 arg23 x0 x1 x2 x3 x4 x6 x9 x10 x11)) (fun r => T.upd (fun _ _ => 0) (1 + r)) :=
  (pay90 (A_v579 h) (A_v533 h) (A_v582 h)).congr fun r hr => by
    obtain rfl : r = 0 := by omega
    exact funext fun c => Tile.sum_shift (O := fun _ _ => 0) (R := 1) (b := 0) (s := 3) (by omega) (by omega) (by omega)

theorem A_H13_13_z (h : In T i x0 x1 x2 x3 x4 x5 x6 x7 x8 x9 x10 x11) :
    HR (N := 32) (View.canon (kernelRun0_A.sl.H13_13 (F := Ideal) c i arg2 harg2 arg3 harg3 arg4 harg4 arg5 harg5 arg6 harg6 arg8 harg8 arg11 harg11 arg12 harg12 arg13 harg13 arg15 arg20 arg23 x0 x1 x2 x3 x4 x6 x9 x10 x11)) (fun _ _ => 0) (fun n => n ∉ ([1, 24, 16, 8, 0, 23, 15, 7, 30, 22, 14, 6] : List ℕ)) :=
  (HR.skip (A_H13_12_z h)).mono (fun n _ hn => row_out hn)

theorem A_H13_13_y (h : In T i x0 x1 x2 x3 x4 x5 x6 x7 x8 x9 x10 x11) :
    HR (N := 32) (View.canon (kernelRun0_A.sl.H13_13 (F := Ideal) c i arg2 harg2 arg3 harg3 arg4 harg4 arg5 harg5 arg6 harg6 arg8 harg8 arg11 harg11 arg12 harg12 arg13 harg13 arg15 arg20 arg23 x0 x1 x2 x3 x4 x6 x9 x10 x11)) (T.upd fun _ _ => 0) (fun n => n ∈ ([1, 24, 16, 8, 0, 23, 15, 7, 30, 22, 14, 6] : List ℕ) ∨ n = 31) :=
  (HR.cons (A_pc_1 h) (A_H13_12_y h)).mono (fun n _ hn => row_in hn)

theorem A_r_44 (h : In T i x0 x1 x2 x3 x4 x5 x6 x7 x8 x9 x10 x11) :
    H2 (φ := .f32) (kernelRun0_A.sl.r_44 (F := Ideal) c i arg2 harg2 arg3 harg3 arg4 harg4 arg5 harg5 arg6 harg6 arg8 harg8 arg11 harg11 arg12 harg12 arg13 harg13 arg20 arg23 x0 x1 x2 x3 x4 x6 x9 x10 x11) (fun r c => (T.sd 3 (0 + r) c * T.aa (8 + r) c)) :=
  pay91 (A_v579 h) (A_v495 h)

theorem A_v591 (h : In T i x0 x1 x2 x3 x4 x5 x6 x7 x8 x9 x10 x11) :
    H2 (φ := .f32) (kernelRun0_A.sl.v591 (F := Ideal) c i arg2 harg2 arg3 harg3 arg4 harg4 arg5 harg5 arg6 harg6 arg8 harg8 arg11 harg11 arg12 harg12 arg13 harg13 arg15 arg20 arg23 x0 x1 x2 x3 x4 x6 x9 x10 x11) (fun _ _ => 0) :=
  (A_H13_13_z h).old (by simp)

theorem A_pc_9 (h : In T i x0 x1 x2 x3 x4 x5 x6 x7 x8 x9 x10 x11) :
    H2 (n := 1) (φ := .f32) (k0_pay92 (kernelRun0_A.sl.r_44 (F := Ideal) c i arg2 harg2 arg3 harg3 arg4 harg4 arg5 harg5 arg6 harg6 arg8 harg8 arg11 harg11 arg12 harg12 arg13 harg13 arg20 arg23 x0 x1 x2 x3 x4 x6 x9 x10 x11) (kernelRun0_A.sl.v591 (F := Ideal) c i arg2 harg2 arg3 harg3 arg4 harg4 arg5 harg5 arg6 harg6 arg8 harg8 arg11 harg11 arg12 harg12 arg13 harg13 arg15 arg20 arg23 x0 x1 x2 x3 x4 x6 x9 x10 x11)) (fun r => T.upd (fun _ _ => 0) (9 + r)) :=
  (pay92 (A_r_44 h) (A_v591 h)).congr fun r hr => by
    obtain rfl : r = 0 := by omega
    exact funext fun c => Tile.sum_shift (O := fun _ _ => 0) (R := 9) (b := 8) (s := 3) (by omega) (by omega) (by omega)

theorem A_H13_14_z (h : In T i x0 x1 x2 x3 x4 x5 x6 x7 x8 x9 x10 x11) :
    HR (N := 32) (View.canon (kernelRun0_A.sl.H13_14 (F := Ideal) c i arg2 harg2 arg3 harg3 arg4 harg4 arg5 harg5 arg6 harg6 arg8 harg8 arg11 harg11 arg12 harg12 arg13 harg13 arg15 arg20 arg23 x0 x1 x2 x3 x4 x6 x9 x10 x11)) (fun _ _ => 0) (fun n => n ∉ ([9, 1, 24, 16, 8, 0, 23, 15, 7, 30, 22, 14, 6] : List ℕ)) :=
  (HR.skip (A_H13_13_z h)).mono (fun n _ hn => row_out hn)

theorem A_H13_14_y (h : In T i x0 x1 x2 x3 x4 x5 x6 x7 x8 x9 x10 x11) :
    HR (N := 32) (View.canon (kernelRun0_A.sl.H13_14 (F := Ideal) c i arg2 harg2 arg3 harg3 arg4 harg4 arg5 harg5 arg6 harg6 arg8 harg8 arg11 harg11 arg12 harg12 arg13 harg13 arg15 arg20 arg23 x0 x1 x2 x3 x4 x6 x9 x10 x11)) (T.upd fun _ _ => 0) (fun n => n ∈ ([9, 1, 24, 16, 8, 0, 23, 15, 7, 30, 22, 14, 6] : List ℕ) ∨ n = 31) :=
  (HR.cons (A_pc_9 h) (A_H13_13_y h)).mono (fun n _ hn => row_in hn)

theorem A_v600 (h : In T i x0 x1 x2 x3 x4 x5 x6 x7 x8 x9 x10 x11) :
    H2 (φ := .f32) (kernelRun0_A.sl.v600 (F := Ideal) c i arg2 harg2 arg3 harg3 arg4 harg4 arg5 harg5 arg6 harg6 arg8 harg8 arg11 harg11 arg12 harg12 arg13 harg13 arg15 arg20 arg23 x0 x1 x2 x3 x4 x6 x9 x10 x11) (fun _ _ => 0) :=
  (A_H13_14_z h).old (by simp)

theorem A_pc_17 (h : In T i x0 x1 x2 x3 x4 x5 x6 x7 x8 x9 x10 x11) :
    H2 (n := 1) (φ := .f32) (k0_pay93 (kernelRun0_A.sl.v579 (F := Ideal) c arg6 harg6 arg8 harg8 arg11 harg11 arg12 harg12 arg13 harg13 arg23 x4 x6 x9 x10 x11) (kernelRun0_A.sl.v504 (F := Ideal) c i arg2 harg2 arg3 harg3 arg4 harg4 arg5 harg5 arg20 x0 x1 x2 x3) (kernelRun0_A.sl.v600 (F := Ideal) c i arg2 harg2 arg3 harg3 arg4 harg4 arg5 harg5 arg6 harg6 arg8 harg8 arg11 harg11 arg12 harg12 arg13 harg13 arg15 arg20 arg23 x0 x1 x2 x3 x4 x6 x9 x10 x11)) (fun r => T.upd (fun _ _ => 0) (17 + r)) :=
  (pay93 (A_v579 h) (A_v504 h) (A_v600 h)).congr fun r hr => by
    obtain rfl : r = 0 := by omega
    exact funext fun c => Tile.sum_shift (O := fun _ _ => 0) (R := 17) (b := 16) (s := 3) (by omega) (by omega) (by omega)

theorem A_H13_15_z (h : In T i x0 x1 x2 x3 x4 x5 x6 x7 x8 x9 x10 x11) :
    HR (N := 32) (View.canon (kernelRun0_A.sl.H13_15 (F := Ideal) c i arg2 harg2 arg3 harg3 arg4 harg4 arg5 harg5 arg6 harg6 arg8 harg8 arg11 harg11 arg12 harg12 arg13 harg13 arg15 arg20 arg23 x0 x1 x2 x3 x4 x6 x9 x10 x11)) (fun _ _ => 0) (fun n => n ∉ ([17, 9, 1, 24, 16, 8, 0, 23, 15, 7, 30, 22, 14, 6] : List ℕ)) :=
  (HR.skip (A_H13_14_z h)).mono (fun n _ hn => row_out hn)

theorem A_H13_15_y (h : In T i x0 x1 x2 x3 x4 x5 x6 x7 x8 x9 x10 x11) :
    HR (N := 32) (View.canon (kernelRun0_A.sl.H13_15 (F := Ideal) c i arg2 harg2 arg3 harg3 arg4 harg4 arg5 harg5 arg6 harg6 arg8 harg8 arg11 harg11 arg12 harg12 arg13 harg13 arg15 arg20 arg23 x0 x1 x2 x3 x4 x6 x9 x10 x11)) (T.upd fun _ _ => 0) (fun n => n ∈ ([17, 9, 1, 24, 16, 8, 0, 23, 15, 7, 30, 22, 14, 6] : List ℕ) ∨ n = 31) :=
  (HR.cons (A_pc_17 h) (A_H13_14_y h)).mono (fun n _ hn => row_in hn)

theorem A_v609 (h : In T i x0 x1 x2 x3 x4 x5 x6 x7 x8 x9 x10 x11) :
    H2 (φ := .f32) (kernelRun0_A.sl.v609 (F := Ideal) c i arg2 harg2 arg3 harg3 arg4 harg4 arg5 harg5 arg6 harg6 arg8 harg8 arg11 harg11 arg12 harg12 arg13 harg13 arg15 arg20 arg23 x0 x1 x2 x3 x4 x6 x9 x10 x11) (fun _ _ => 0) :=
  (A_H13_15_z h).old (by simp)

theorem A_pc_25 (h : In T i x0 x1 x2 x3 x4 x5 x6 x7 x8 x9 x10 x11) :
    H2 (n := 1) (φ := .f32) (k0_pay94 (kernelRun0_A.sl.v579 (F := Ideal) c arg6 harg6 arg8 harg8 arg11 harg11 arg12 harg12 arg13 harg13 arg23 x4 x6 x9 x10 x11) (kernelRun0_A.sl.v513 (F := Ideal) c i arg2 harg2 arg3 harg3 arg4 harg4 arg5 harg5 arg20 x0 x1 x2 x3) (kernelRun0_A.sl.v609 (F := Ideal) c i arg2 harg2 arg3 harg3 arg4 harg4 arg5 harg5 arg6 harg6 arg8 harg8 arg11 harg11 arg12 harg12 arg13 harg13 arg15 arg20 arg23 x0 x1 x2 x3 x4 x6 x9 x10 x11)) (fun r => T.upd (fun _ _ => 0) (25 + r)) :=
  (pay94 (A_v579 h) (A_v513 h) (A_v609 h)).congr fun r hr => by
    obtain rfl : r = 0 := by omega
    exact funext fun c => Tile.sum_shift (O := fun _ _ => 0) (R := 25) (b := 24) (s := 3) (by omega) (by omega) (by omega)

theorem A_H13_16_z (h : In T i x0 x1 x2 x3 x4 x5 x6 x7 x8 x9 x10 x11) :
    HR (N := 32) (View.canon (kernelRun0_A.sl.H13_16 (F := Ideal) c i arg2 harg2 arg3 harg3 arg4 harg4 arg5 harg5 arg6 harg6 arg8 harg8 arg11 harg11 arg12 harg12 arg13 harg13 arg15 arg20 arg23 x0 x1 x2 x3 x4 x6 x9 x10 x11)) (fun _ _ => 0) (fun n => n ∉ ([25, 17, 9, 1, 24, 16, 8, 0, 23, 15, 7, 30, 22, 14, 6] : List ℕ)) :=
  (HR.skip (A_H13_15_z h)).mono (fun n _ hn => row_out hn)

theorem A_H13_16_y (h : In T i x0 x1 x2 x3 x4 x5 x6 x7 x8 x9 x10 x11) :
    HR (N := 32) (View.canon (kernelRun0_A.sl.H13_16 (F := Ideal) c i arg2 harg2 arg3 harg3 arg4 harg4 arg5 harg5 arg6 harg6 arg8 harg8 arg11 harg11 arg12 harg12 arg13 harg13 arg15 arg20 arg23 x0 x1 x2 x3 x4 x6 x9 x10 x11)) (T.upd fun _ _ => 0) (fun n => n ∈ ([25, 17, 9, 1, 24, 16, 8, 0, 23, 15, 7, 30, 22, 14, 6] : List ℕ) ∨ n = 31) :=
  (HR.cons (A_pc_25 h) (A_H13_15_y h)).mono (fun n _ hn => row_in hn)

theorem A_HS3_12 (h : In T i x0 x1 x2 x3 x4 x5 x6 x7 x8 x9 x10 x11) : HR (N := 264) (View.canon (kernelRun0_A.sl.HS3_12 (F := Ideal) c arg6 harg6 arg8 harg8 arg11 harg11 arg12 harg12 arg13 harg13 x4 x6 x9 x10 x11)) (T.sd 4) (fun n => n < 264) :=
  Tile.shifted (s := 4) (by omega) ((pay98 (A_r_14 h))) ((pay97 (pay96 ))) ((pay95 ))

theorem A_v626 (h : In T i x0 x1 x2 x3 x4 x5 x6 x7 x8 x9 x10 x11) :
    H2 (φ := .f32) (kernelRun0_A.sl.v626 (F := Ideal) c arg6 harg6 arg8 harg8 arg11 harg11 arg12 harg12 arg13 harg13 arg23 x4 x6 x9 x10 x11) (fun r c => T.sd 4 (0 + r) c) :=
  (A_HS3_12 h).read (fun _ _ => by omega)

theorem A_v629 (h : In T i x0 x1 x2 x3 x4 x5 x6 x7 x8 x9 x10 x11) :
    H2 (φ := .f32) (kernelRun0_A.sl.v629 (F := Ideal) c i arg2 harg2 arg3 harg3 arg4 harg4 arg5 harg5 arg6 harg6 arg8 harg8 arg11 harg11 arg12 harg12 arg13 harg13 arg15 arg20 arg23 x0 x1 x2 x3 x4 x6 x9 x10 x11) (fun _ _ => 0) :=
  (A_H13_16_z h).old (by simp)

theorem A_pc_2 (h : In T i x0 x1 x2 x3 x4 x5 x6 x7 x8 x9 x10 x11) :
    H2 (n := 1) (φ := .f32) (k0_pay99 (kernelRun0_A.sl.v626 (F := Ideal) c arg6 harg6 arg8 harg8 arg11 harg11 arg12 harg12 arg13 harg13 arg23 x4 x6 x9 x10 x11) (kernelRun0_A.sl.v533 (F := Ideal) c i arg2 harg2 arg3 harg3 arg4 harg4 arg5 harg5 arg20 x0 x1 x2 x3) (kernelRun0_A.sl.v629 (F := Ideal) c i arg2 harg2 arg3 harg3 arg4 harg4 arg5 harg5 arg6 harg6 arg8 harg8 arg11 harg11 arg12 harg12 arg13 harg13 arg15 arg20 arg23 x0 x1 x2 x3 x4 x6 x9 x10 x11)) (fun r => T.upd (fun _ _ => 0) (2 + r)) :=
  (pay99 (A_v626 h) (A_v533 h) (A_v629 h)).congr fun r hr => by
    obtain rfl : r = 0 := by omega
    exact funext fun c => Tile.sum_shift (O := fun _ _ => 0) (R := 2) (b := 0) (s := 4) (by omega) (by omega) (by omega)

theorem A_H13_17_z (h : In T i x0 x1 x2 x3 x4 x5 x6 x7 x8 x9 x10 x11) :
    HR (N := 32) (View.canon (kernelRun0_A.sl.H13_17 (F := Ideal) c i arg2 harg2 arg3 harg3 arg4 harg4 arg5 harg5 arg6 harg6 arg8 harg8 arg11 harg11 arg12 harg12 arg13 harg13 arg15 arg20 arg23 x0 x1 x2 x3 x4 x6 x9 x10 x11)) (fun _ _ => 0) (fun n => n ∉ ([2, 25, 17, 9, 1, 24, 16, 8, 0, 23, 15, 7, 30, 22, 14, 6] : List ℕ)) :=
  (HR.skip (A_H13_16_z h)).mono (fun n _ hn => row_out hn)

theorem A_H13_17_y (h : In T i x0 x1 x2 x3 x4 x5 x6 x7 x8 x9 x10 x11) :
    HR (N := 32) (View.canon (kernelRun0_A.sl.H13_17 (F := Ideal) c i arg2 harg2 arg3 harg3 arg4 harg4 arg5 harg5 arg6 harg6 arg8 harg8 arg11 harg11 arg12 harg12 arg13 harg13 arg15 arg20 arg23 x0 x1 x2 x3 x4 x6 x9 x10 x11)) (T.upd fun _ _ => 0) (fun n => n ∈ ([2, 25, 17, 9, 1, 24, 16, 8, 0, 23, 15, 7, 30, 22, 14, 6] : List ℕ) ∨ n = 31) :=
  (HR.cons (A_pc_2 h) (A_H13_16_y h)).mono (fun n _ hn => row_in hn)

theorem A_v638 (h : In T i x0 x1 x2 x3 x4 x5 x6 x7 x8 x9 x10 x11) :
    H2 (φ := .f32) (kernelRun0_A.sl.v638 (F := Ideal) c i arg2 harg2 arg3 harg3 arg4 harg4 arg5 harg5 arg6 harg6 arg8 harg8 arg11 harg11 arg12 harg12 arg13 harg13 arg15 arg20 arg23 x0 x1 x2 x3 x4 x6 x9 x10 x11) (fun _ _ => 0) :=
  (A_H13_17_z h).old (by simp)

theorem A_pc_10 (h : In T i x0 x1 x2 x3 x4 x5 x6 x7 x8 x9 x10 x11) :
    H2 (n := 1) (φ := .f32) (k0_pay100 (kernelRun0_A.sl.v626 (F := Ideal) c arg6 harg6 arg8 harg8 arg11 harg11 arg12 harg12 arg13 harg13 arg23 x4 x6 x9 x10 x11) (kernelRun0_A.sl.v495 (F := Ideal) c i arg2 harg2 arg3 harg3 arg4 harg4 arg5 harg5 arg20 x0 x1 x2 x3) (kernelRun0_A.sl.v638 (F := Ideal) c i arg2 harg2 arg3 harg3 arg4 harg4 arg5 harg5 arg6 harg6 arg8 harg8 arg11 harg11 arg12 harg12 arg13 harg13 arg15 arg20 arg23 x0 x1 x2 x3 x4 x6 x9 x10 x11)) (fun r => T.upd (fun _ _ => 0) (10 + r)) :=
  (pay100 (A_v626 h) (A_v495 h) (A_v638 h)).congr fun r hr => by
    obtain rfl : r = 0 := by omega
    exact funext fun c => Tile.sum_shift (O := fun _ _ => 0) (R := 10) (b := 8) (s := 4) (by omega) (by omega) (by omega)

theorem A_H13_18_z (h : In T i x0 x1 x2 x3 x4 x5 x6 x7 x8 x9 x10 x11) :
    HR (N := 32) (View.canon (kernelRun0_A.sl.H13_18 (F := Ideal) c i arg2 harg2 arg3 harg3 arg4 harg4 arg5 harg5 arg6 harg6 arg8 harg8 arg11 harg11 arg12 harg12 arg13 harg13 arg15 arg20 arg23 x0 x1 x2 x3 x4 x6 x9 x10 x11)) (fun _ _ => 0) (fun n => n ∉ ([10, 2, 25, 17, 9, 1, 24, 16, 8, 0, 23, 15, 7, 30, 22, 14, 6] : List ℕ)) :=
  (HR.skip (A_H13_17_z h)).mono (fun n _ hn => row_out hn)

theorem A_H13_18_y (h : In T i x0 x1 x2 x3 x4 x5 x6 x7 x8 x9 x10 x11) :
    HR (N := 32) (View.canon (kernelRun0_A.sl.H13_18 (F := Ideal) c i arg2 harg2 arg3 harg3 arg4 harg4 arg5 harg5 arg6 harg6 arg8 harg8 arg11 harg11 arg12 harg12 arg13 harg13 arg15 arg20 arg23 x0 x1 x2 x3 x4 x6 x9 x10 x11)) (T.upd fun _ _ => 0) (fun n => n ∈ ([10, 2, 25, 17, 9, 1, 24, 16, 8, 0, 23, 15, 7, 30, 22, 14, 6] : List ℕ) ∨ n = 31) :=
  (HR.cons (A_pc_10 h) (A_H13_17_y h)).mono (fun n _ hn => row_in hn)

theorem A_v647 (h : In T i x0 x1 x2 x3 x4 x5 x6 x7 x8 x9 x10 x11) :
    H2 (φ := .f32) (kernelRun0_A.sl.v647 (F := Ideal) c i arg2 harg2 arg3 harg3 arg4 harg4 arg5 harg5 arg6 harg6 arg8 harg8 arg11 harg11 arg12 harg12 arg13 harg13 arg15 arg20 arg23 x0 x1 x2 x3 x4 x6 x9 x10 x11) (fun _ _ => 0) :=
  (A_H13_18_z h).old (by simp)

theorem A_r_45 (h : In T i x0 x1 x2 x3 x4 x5 x6 x7 x8 x9 x10 x11) :
    H2 (φ := .f32) (kernelRun0_A.sl.r_45 (F := Ideal) c i arg2 harg2 arg3 harg3 arg4 harg4 arg5 harg5 arg6 harg6 arg8 harg8 arg11 harg11 arg12 harg12 arg13 harg13 arg15 arg20 arg23 x0 x1 x2 x3 x4 x6 x9 x10 x11) (fun r c => 0) :=
  pay101 (A_v647 h)

theorem A_r_46 (h : In T i x0 x1 x2 x3 x4 x5 x6 x7 x8 x9 x10 x11) :
    HV (φ := .f32) (kernelRun0_A.sl.r_46 (F := Ideal) c i arg2 harg2 arg3 harg3 arg4 harg4 arg5 harg5 arg6 harg6 arg8 harg8 arg11 harg11 arg12 harg12 arg13 harg13 arg20 arg23 x0 x1 x2 x3 x4 x6 x9 x10 x11) (fun c => (∑ k22 : Fin 264, (T.sd 4 (0 + k22.val) c * T.aa (16 + k22.val) c))) :=
  pay102 (X644 := fun r c => T.sd 4 (0 + r) c) (X645 := fun r c => T.aa (16 + r) c) (A_v626 h) (A_v504 h)

theorem A_pc_18 (h : In T i x0 x1 x2 x3 x4 x5 x6 x7 x8 x9 x10 x11) :
    H2 (n := 1) (φ := .f32) (k0_pay103 (kernelRun0_A.sl.r_45 (F := Ideal) c i arg2 harg2 arg3 harg3 arg4 harg4 arg5 harg5 arg6 harg6 arg8 harg8 arg11 harg11 arg12 harg12 arg13 harg13 arg15 arg20 arg23 x0 x1 x2 x3 x4 x6 x9 x10 x11) (kernelRun0_A.sl.r_46 (F := Ideal) c i arg2 harg2 arg3 harg3 arg4 harg4 arg5 harg5 arg6 harg6 arg8 harg8 arg11 harg11 arg12 harg12 arg13 harg13 arg20 arg23 x0 x1 x2 x3 x4 x6 x9 x10 x11)) (fun r => T.upd (fun _ _ => 0) (18 + r)) :=
  (pay103 (A_r_45 h) (A_r_46 h)).congr fun r hr => by
    obtain rfl : r = 0 := by omega
    exact funext fun c => Tile.sum_shift (O := fun _ _ => 0) (R := 18) (b := 16) (s := 4) (by omega) (by omega) (by omega)

theorem A_H13_19_z (h : In T i x0 x1 x2 x3 x4 x5 x6 x7 x8 x9 x10 x11) :
    HR (N := 32) (View.canon (kernelRun0_A.sl.H13_19 (F := Ideal) c i arg2 harg2 arg3 harg3 arg4 harg4 arg5 harg5 arg6 harg6 arg8 harg8 arg11 harg11 arg12 harg12 arg13 harg13 arg15 arg20 arg23 x0 x1 x2 x3 x4 x6 x9 x10 x11)) (fun _ _ => 0) (fun n => n ∉ ([18, 10, 2, 25, 17, 9, 1, 24, 16, 8, 0, 23, 15, 7, 30, 22, 14, 6] : List ℕ)) :=
  (HR.skip (A_H13_18_z h)).mono (fun n _ hn => row_out hn)

theorem A_H13_19_y (h : In T i x0 x1 x2 x3 x4 x5 x6 x7 x8 x9 x10 x11) :
    HR (N := 32) (View.canon (kernelRun0_A.sl.H13_19 (F := Ideal) c i arg2 harg2 arg3 harg3 arg4 harg4 arg5 harg5 arg6 harg6 arg8 harg8 arg11 harg11 arg12 harg12 arg13 harg13 arg15 arg20 arg23 x0 x1 x2 x3 x4 x6 x9 x10 x11)) (T.upd fun _ _ => 0) (fun n => n ∈ ([18, 10, 2, 25, 17, 9, 1, 24, 16, 8, 0, 23, 15, 7, 30, 22, 14, 6] : List ℕ) ∨ n = 31) :=
  (HR.cons (A_pc_18 h) (A_H13_18_y h)).mono (fun n _ hn => row_in hn)

theorem A_v656 (h : In T i x0 x1 x2 x3 x4 x5 x6 x7 x8 x9 x10 x11) :
    H2 (φ := .f32) (kernelRun0_A.sl.v656 (F := Ideal) c i arg2 harg2 arg3 harg3 arg4 harg4 arg5 harg5 arg6 harg6 arg8 harg8 arg11 harg11 arg12 harg12 arg13 harg13 arg15 arg20 arg23 x0 x1 x2 x3 x4 x6 x9 x10 x11) (fun _ _ => 0) :=
  (A_H13_19_z h).old (by simp)

theorem A_pc_26 (h : In T i x0 x1 x2 x3 x4 x5 x6 x7 x8 x9 x10 x11) :
    H2 (n := 1) (φ := .f32) (k0_pay104 (kernelRun0_A.sl.v626 (F := Ideal) c arg6 harg6 arg8 harg8 arg11 harg11 arg12 harg12 arg13 harg13 arg23 x4 x6 x9 x10 x11) (kernelRun0_A.sl.v513 (F := Ideal) c i arg2 harg2 arg3 harg3 arg4 harg4 arg5 harg5 arg20 x0 x1 x2 x3) (kernelRun0_A.sl.v656 (F := Ideal) c i arg2 harg2 arg3 harg3 arg4 harg4 arg5 harg5 arg6 harg6 arg8 harg8 arg11 harg11 arg12 harg12 arg13 harg13 arg15 arg20 arg23 x0 x1 x2 x3 x4 x6 x9 x10 x11)) (fun r => T.upd (fun _ _ => 0) (26 + r)) :=
  (pay104 (A_v626 h) (A_v513 h) (A_v656 h)).congr fun r hr => by
    obtain rfl : r = 0 := by omega
    exact funext fun c => Tile.sum_shift (O := fun _ _ => 0) (R := 26) (b := 24) (s := 4) (by omega) (by omega) (by omega)

theorem A_H13_20_z (h : In T i x0 x1 x2 x3 x4 x5 x6 x7 x8 x9 x10 x11) :
    HR (N := 32) (View.canon (kernelRun0_A.sl.H13_20 (F := Ideal) c i arg2 harg2 arg3 harg3 arg4 harg4 arg5 harg5 arg6 harg6 arg8 harg8 arg11 harg11 arg12 harg12 arg13 harg13 arg15 arg20 arg23 x0 x1 x2 x3 x4 x6 x9 x10 x11)) (fun _ _ => 0) (fun n => n ∉ ([26, 18, 10, 2, 25, 17, 9, 1, 24, 16, 8, 0, 23, 15, 7, 30, 22, 14, 6] : List ℕ)) :=
  (HR.skip (A_H13_19_z h)).mono (fun n _ hn => row_out hn)

theorem A_H13_20_y (h : In T i x0 x1 x2 x3 x4 x5 x6 x7 x8 x9 x10 x11) :
    HR (N := 32) (View.canon (kernelRun0_A.sl.H13_20 (F := Ideal) c i arg2 harg2 arg3 harg3 arg4 harg4 arg5 harg5 arg6 harg6 arg8 harg8 arg11 harg11 arg12 harg12 arg13 harg13 arg15 arg20 arg23 x0 x1 x2 x3 x4 x6 x9 x10 x11)) (T.upd fun _ _ => 0) (fun n => n ∈ ([26, 18, 10, 2, 25, 17, 9, 1, 24, 16, 8, 0, 23, 15, 7, 30, 22, 14, 6] : List ℕ) ∨ n = 31) :=
  (HR.cons (A_pc_26 h) (A_H13_19_y h)).mono (fun n _ hn => row_in hn)

theorem A_v676 (h : In T i x0 x1 x2 x3 x4 x5 x6 x7 x8 x9 x10 x11) :
    H2 (φ := .f32) (kernelRun0_A.sl.v676 (F := Ideal) c i arg2 harg2 arg3 harg3 arg4 harg4 arg5 harg5 arg6 harg6 arg8 harg8 arg11 harg11 arg12 harg12 arg13 harg13 arg15 arg20 arg23 x0 x1 x2 x3 x4 x6 x9 x10 x11) (fun _ _ => 0) :=
  (A_H13_20_z h).old (by simp)

theorem A_r_47 (h : In T i x0 x1 x2 x3 x4 x5 x6 x7 x8 x9 x10 x11) :
    H2 (φ := .f32) (kernelRun0_A.sl.r_47 (F := Ideal) c i arg2 harg2 arg3 harg3 arg4 harg4 arg5 harg5 arg6 harg6 arg8 harg8 arg11 harg11 arg12 harg12 arg13 harg13 arg15 arg20 arg23 x0 x1 x2 x3 x4 x6 x9 x10 x11) (fun r c => 0) :=
  pay108 (A_v676 h)

theorem A_HS3_15 (h : In T i x0 x1 x2 x3 x4 x5 x6 x7 x8 x9 x10 x11) : HR (N := 264) (View.canon (kernelRun0_A.sl.HS3_15 (F := Ideal) c arg6 harg6 arg8 harg8 arg11 harg11 arg12 harg12 arg13 harg13 x4 x6 x9 x10 x11)) (T.sd 5) (fun n => n < 264) :=
  Tile.shifted (s := 5) (by omega) ((pay107 (A_r_14 h))) ((pay106 )) ((pay105 ))

theorem A_v673 (h : In T i x0 x1 x2 x3 x4 x5 x6 x7 x8 x9 x10 x11) :
    H2 (φ := .f32) (kernelRun0_A.sl.v673 (F := Ideal) c arg6 harg6 arg8 harg8 arg11 harg11 arg12 harg12 arg13 harg13 arg23 x4 x6 x9 x10 x11) (fun r c => T.sd 5 (0 + r) c) :=
  (A_HS3_15 h).read (fun _ _ => by omega)

theorem A_r_48 (h : In T i x0 x1 x2 x3 x4 x5 x6 x7 x8 x9 x10 x11) :
    HV (φ := .f32) (kernelRun0_A.sl.r_48 (F := Ideal) c i arg2 harg2 arg3 harg3 arg4 harg4 arg5 harg5 arg6 harg6 arg8 harg8 arg11 harg11 arg12 harg12 arg13 harg13 arg20 arg23 x0 x1 x2 x3 x4 x6 x9 x10 x11) (fun c => (∑ k24 : Fin 264, (T.sd 5 (0 + k24.val) c * T.aa (0 + k24.val) c))) :=
  pay109 (X673 := fun r c => T.sd 5 (0 + r) c) (X674 := fun r c => T.aa (0 + r) c) (A_v673 h) (A_v533 h)

theorem A_pc_3 (h : In T i x0 x1 x2 x3 x4 x5 x6 x7 x8 x9 x10 x11) :
    H2 (n := 1) (φ := .f32) (k0_pay110 (kernelRun0_A.sl.r_47 (F := Ideal) c i arg2 harg2 arg3 harg3 arg4 harg4 arg5 harg5 arg6 harg6 arg8 harg8 arg11 harg11 arg12 harg12 arg13 harg13 arg15 arg20 arg23 x0 x1 x2 x3 x4 x6 x9 x10 x11) (kernelRun0_A.sl.r_48 (F := Ideal) c i arg2 harg2 arg3 harg3 arg4 harg4 arg5 harg5 arg6 harg6 arg8 harg8 arg11 harg11 arg12 harg12 arg13 harg13 arg20 arg23 x0 x1 x2 x3 x4 x6 x9 x10 x11)) (fun r => T.upd (fun _ _ => 0) (3 + r)) :=
  (pay110 (A_r_47 h) (A_r_48 h)).congr fun r hr => by
    obtain rfl : r = 0 := by omega
    exact funext fun c => Tile.sum_shift (O := fun _ _ => 0) (R := 3) (b := 0) (s := 5) (by omega) (by omega) (by omega)

theorem A_H13_21_z (h : In T i x0 x1 x2 x3 x4 x5 x6 x7 x8 x9 x10 x11) :
    HR (N := 32) (View.canon (kernelRun0_A.sl.H13_21 (F := Ideal) c i arg2 harg2 arg3 harg3 arg4 harg4 arg5 harg5 arg6 harg6 arg8 harg8 arg11 harg11 arg12 harg12 arg13 harg13 arg15 arg20 arg23 x0 x1 x2 x3 x4 x6 x9 x10 x11)) (fun _ _ => 0) (fun n => n ∉ ([3, 26, 18, 10, 2, 25, 17, 9, 1, 24, 16, 8, 0, 23, 15, 7, 30, 22, 14, 6] : List ℕ)) :=
  (HR.skip (A_H13_20_z h)).mono (fun n _ hn => row_out hn)

theorem A_H13_21_y (h : In T i x0 x1 x2 x3 x4 x5 x6 x7 x8 x9 x10 x11) :
    HR (N := 32) (View.canon (kernelRun0_A.sl.H13_21 (F := Ideal) c i arg2 harg2 arg3 harg3 arg4 harg4 arg5 harg5 arg6 harg6 arg8 harg8 arg11 harg11 arg12 harg12 arg13 harg13 arg15 arg20 arg23 x0 x1 x2 x3 x4 x6 x9 x10 x11)) (T.upd fun _ _ => 0) (fun n => n ∈ ([3, 26, 18, 10, 2, 25, 17, 9, 1, 24, 16, 8, 0, 23, 15, 7, 30, 22, 14, 6] : List ℕ) ∨ n = 31) :=
  (HR.cons (A_pc_3 h) (A_H13_20_y h)).mono (fun n _ hn => row_in hn)

theorem A_v685 (h : In T i x0 x1 x2 x3 x4 x5 x6 x7 x8 x9 x10 x11) :
    H2 (φ := .f32) (kernelRun0_A.sl.v685 (F := Ideal) c i arg2 harg2 arg3 harg3 arg4 harg4 arg5 harg5 arg6 harg6 arg8 harg8 arg11 harg11 arg12 harg12 arg13 harg13 arg15 arg20 arg23 x0 x1 x2 x3 x4 x6 x9 x10 x11) (fun _ _ => 0) :=
  (A_H13_21_z h).old (by simp)

theorem A_pc_11 (h : In T i x0 x1 x2 x3 x4 x5 x6 x7 x8 x9 x10 x11) :
    H2 (n := 1) (φ := .f32) (k0_pay111 (kernelRun0_A.sl.v673 (F := Ideal) c arg6 harg6 arg8 harg8 arg11 harg11 arg12 harg12 arg13 harg13 arg23 x4 x6 x9 x10 x11) (kernelRun0_A.sl.v495 (F := Ideal) c i arg2 harg2 arg3 harg3 arg4 harg4 arg5 harg5 arg20 x0 x1 x2 x3) (kernelRun0_A.sl.v685 (F := Ideal) c i arg2 harg2 arg3 harg3 arg4 harg4 arg5 harg5 arg6 harg6 arg8 harg8 arg11 harg11 arg12 harg12 arg13 harg13 arg15 arg20 arg23 x0 x1 x2 x3 x4 x6 x9 x10 x11)) (fun r => T.upd (fun _ _ => 0) (11 + r)) :=
  (pay111 (A_v673 h) (A_v495 h) (A_v685 h)).congr fun r hr => by
    obtain rfl : r = 0 := by omega
    exact funext fun c => Tile.sum_shift (O := fun _ _ => 0) (R := 11) (b := 8) (s := 5) (by omega) (by omega) (by omega)

theorem A_H13_22_z (h : In T i x0 x1 x2 x3 x4 x5 x6 x7 x8 x9 x10 x11) :
    HR (N := 32) (View.canon (kernelRun0_A.sl.H13_22 (F := Ideal) c i arg2 harg2 arg3 harg3 arg4 harg4 arg5 harg5 arg6 harg6 arg8 harg8 arg11 harg11 arg12 harg12 arg13 harg13 arg15 arg20 arg23 x0 x1 x2 x3 x4 x6 x9 x10 x11)) (fun _ _ => 0) (fun n => n ∉ ([11, 3, 26, 18, 10, 2, 25, 17, 9, 1, 24, 16, 8, 0, 23, 15, 7, 30, 22, 14, 6] : List ℕ)) :=
  (HR.skip (A_H13_21_z h)).mono (fun n _ hn => row_out hn)

theorem A_H13_22_y (h : In T i x0 x1 x2 x3 x4 x5 x6 x7 x8 x9 x10 x11) :
    HR (N := 32) (View.canon (kernelRun0_A.sl.H13_22 (F := Ideal) c i arg2 harg2 arg3 harg3 arg4 harg4 arg5 harg5 arg6 harg6 arg8 harg8 arg11 harg11 arg12 harg12 arg13 harg13 arg15 arg20 arg23 x0 x1 x2 x3 x4 x6 x9 x10 x11)) (T.upd fun _ _ => 0) (fun n => n ∈ ([11, 3, 26, 18, 10, 2, 25, 17, 9, 1, 24, 16, 8, 0, 23, 15, 7, 30, 22, 14, 6] : List ℕ) ∨ n = 31) :=
  (HR.cons (A_pc_11 h) (A_H13_21_y h)).mono (fun n _ hn => row_in hn)

theorem A_v694 (h : In T i x0 x1 x2 x3 x4 x5 x6 x7 x8 x9 x10 x11) :
    H2 (φ := .f32) (kernelRun0_A.sl.v694 (F := Ideal) c i arg2 harg2 arg3 harg3 arg4 harg4 arg5 harg5 arg6 harg6 arg8 harg8 arg11 harg11 arg12 harg12 arg13 harg13 arg15 arg20 arg23 x0 x1 x2 x3 x4 x6 x9 x10 x11) (fun _ _ => 0) :=
  (A_H13_22_z h).old (by simp)

theorem A_pc_19 (h : In T i x0 x1 x2 x3 x4 x5 x6 x7 x8 x9 x10 x11) :
    H2 (n := 1) (φ := .f32) (k0_pay112 (kernelRun0_A.sl.v673 (F := Ideal) c arg6 harg6 arg8 harg8 arg11 harg11 arg12 harg12 arg13 harg13 arg23 x4 x6 x9 x10 x11) (kernelRun0_A.sl.v504 (F := Ideal) c i arg2 harg2 arg3 harg3 arg4 harg4 arg5 harg5 arg20 x0 x1 x2 x3) (kernelRun0_A.sl.v694 (F := Ideal) c i arg2 harg2 arg3 harg3 arg4 harg4 arg5 harg5 arg6 harg6 arg8 harg8 arg11 harg11 arg12 harg12 arg13 harg13 arg15 arg20 arg23 x0 x1 x2 x3 x4 x6 x9 x10 x11)) (fun r => T.upd (fun _ _ => 0) (19 + r)) :=
  (pay112 (A_v673 h) (A_v504 h) (A_v694 h)).congr fun r hr => by
    obtain rfl : r = 0 := by omega
    exact funext fun c => Tile.sum_shift (O := fun _ _ => 0) (R := 19) (b := 16) (s := 5) (by omega) (by omega) (by omega)

theorem A_H13_23_z (h : In T i x0 x1 x2 x3 x4 x5 x6 x7 x8 x9 x10 x11) :
    HR (N := 32) (View.canon (kernelRun0_A.sl.H13_23 (F := Ideal) c i arg2 harg2 arg3 harg3 arg4 harg4 arg5 harg5 arg6 harg6 arg8 harg8 arg11 harg11 arg12 harg12 arg13 harg13 arg15 arg20 arg23 x0 x1 x2 x3 x4 x6 x9 x10 x11)) (fun _ _ => 0) (fun n => n ∉ ([19, 11, 3, 26, 18, 10, 2, 25, 17, 9, 1, 24, 16, 8, 0, 23, 15, 7, 30, 22, 14, 6] : List ℕ)) :=
  (HR.skip (A_H13_22_z h)).mono (fun n _ hn => row_out hn)

theorem A_H13_23_y (h : In T i x0 x1 x2 x3 x4 x5 x6 x7 x8 x9 x10 x11) :
    HR (N := 32) (View.canon (kernelRun0_A.sl.H13_23 (F := Ideal) c i arg2 harg2 arg3 harg3 arg4 harg4 arg5 harg5 arg6 harg6 arg8 harg8 arg11 harg11 arg12 harg12 arg13 harg13 arg15 arg20 arg23 x0 x1 x2 x3 x4 x6 x9 x10 x11)) (T.upd fun _ _ => 0) (fun n => n ∈ ([19, 11, 3, 26, 18, 10, 2, 25, 17, 9, 1, 24, 16, 8, 0, 23, 15, 7, 30, 22, 14, 6] : List ℕ) ∨ n = 31) :=
  (HR.cons (A_pc_19 h) (A_H13_22_y h)).mono (fun n _ hn => row_in hn)

theorem A_v703 (h : In T i x0 x1 x2 x3 x4 x5 x6 x7 x8 x9 x10 x11) :
    H2 (φ := .f32) (kernelRun0_A.sl.v703 (F := Ideal) c i arg2 harg2 arg3 harg3 arg4 harg4 arg5 harg5 arg6 harg6 arg8 harg8 arg11 harg11 arg12 harg12 arg13 harg13 arg15 arg20 arg23 x0 x1 x2 x3 x4 x6 x9 x10 x11) (fun _ _ => 0) :=
  (A_H13_23_z h).old (by simp)

theorem A_r_49 (h : In T i x0 x1 x2 x3 x4 x5 x6 x7 x8 x9 x10 x11) :
    H2 (φ := .f32) (kernelRun0_A.sl.r_49 (F := Ideal) c i arg2 harg2 arg3 harg3 arg4 harg4 arg5 harg5 arg6 harg6 arg8 harg8 arg11 harg11 arg12 harg12 arg13 harg13 arg15 arg20 arg23 x0 x1 x2 x3 x4 x6 x9 x10 x11) (fun r c => (0 + (∑ k27 : Fin 264, (T.sd 5 (0 + k27.val) c * T.aa (24 + k27.val) c)))) :=
  pay113 (A_v673 h) (A_v513 h) (A_v703 h)

theorem A_pc_27 (h : In T i x0 x1 x2 x3 x4 x5 x6 x7 x8 x9 x10 x11) :
    H2 (n := 1) (φ := .f32) (kernelRun0_A.sl.r_49 (F := Ideal) c i arg2 harg2 arg3 harg3 arg4 harg4 arg5 harg5 arg6 harg6 arg8 harg8 arg11 harg11 arg12 harg12 arg13 harg13 arg15 arg20 arg23 x0 x1 x2 x3 x4 x6 x9 x10 x11) (fun r => T.upd (fun _ _ => 0) (27 + r)) :=
  (A_r_49 h).congr fun r hr => by
    obtain rfl : r = 0 := by omega
    exact funext fun c => Tile.sum_shift (O := fun _ _ => 0) (R := 27) (b := 24) (s := 5) (by omega) (by omega) (by omega)

theorem A_H13_24_z (h : In T i x0 x1 x2 x3 x4 x5 x6 x7 x8 x9 x10 x11) :
    HR (N := 32) (View.canon (kernelRun0_A.sl.H13_24 (F := Ideal) c i arg2 harg2 arg3 harg3 arg4 harg4 arg5 harg5 arg6 harg6 arg8 harg8 arg11 harg11 arg12 harg12 arg13 harg13 arg15 arg20 arg23 x0 x1 x2 x3 x4 x6 x9 x10 x11)) (fun _ _ => 0) (fun n => n ∉ ([27, 19, 11, 3, 26, 18, 10, 2, 25, 17, 9, 1, 24, 16, 8, 0, 23, 15, 7, 30, 22, 14, 6] : List ℕ)) :=
  (HR.skip (A_H13_23_z h)).mono (fun n _ hn => row_out hn)

theorem A_H13_24_y (h : In T i x0 x1 x2 x3 x4 x5 x6 x7 x8 x9 x10 x11) :
    HR (N := 32) (View.canon (kernelRun0_A.sl.H13_24 (F := Ideal) c i arg2 harg2 arg3 harg3 arg4 harg4 arg5 harg5 arg6 harg6 arg8 harg8 arg11 harg11 arg12 harg12 arg13 harg13 arg15 arg20 arg23 x0 x1 x2 x3 x4 x6 x9 x10 x11)) (T.upd fun _ _ => 0) (fun n => n ∈ ([27, 19, 11, 3, 26, 18, 10, 2, 25, 17, 9, 1, 24, 16, 8, 0, 23, 15, 7, 30, 22, 14, 6] : List ℕ) ∨ n = 31) :=
  (HR.cons (A_pc_27 h) (A_H13_23_y h)).mono (fun n _ hn => row_in hn)

theorem A_HS3_18 (h : In T i x0 x1 x2 x3 x4 x5 x6 x7 x8 x9 x10 x11) : HR (N := 264) (View.canon (kernelRun0_A.sl.HS3_18 (F := Ideal) c arg6 harg6 arg8 harg8 arg11 harg11 arg12 harg12 arg13 harg13 x4 x6 x9 x10 x11)) (T.sd 6) (fun n => n < 264) :=
  Tile.shifted (s := 6) (by omega) ((pay116 (A_r_14 h))) ((pay115 )) ((pay114 ))

theorem A_v720 (h : In T i x0 x1 x2 x3 x4 x5 x6 x7 x8 x9 x10 x11) :
    H2 (φ := .f32) (kernelRun0_A.sl.v720 (F := Ideal) c arg6 harg6 arg8 harg8 arg11 harg11 arg12 harg12 arg13 harg13 arg23 x4 x6 x9 x10 x11) (fun r c => T.sd 6 (0 + r) c) :=
  (A_HS3_18 h).read (fun _ _ => by omega)

theorem A_v723 (h : In T i x0 x1 x2 x3 x4 x5 x6 x7 x8 x9 x10 x11) :
    H2 (φ := .f32) (kernelRun0_A.sl.v723 (F := Ideal) c i arg2 harg2 arg3 harg3 arg4 harg4 arg5 harg5 arg6 harg6 arg8 harg8 arg11 harg11 arg12 harg12 arg13 harg13 arg15 arg20 arg23 x0 x1 x2 x3 x4 x6 x9 x10 x11) (fun _ _ => 0) :=
  (A_H13_24_z h).old (by simp)

theorem A_pc_4 (h : In T i x0 x1 x2 x3 x4 x5 x6 x7 x8 x9 x10 x11) :
    H2 (n := 1) (φ := .f32) (k0_pay117 (kernelRun0_A.sl.v720 (F := Ideal) c arg6 harg6 arg8 harg8 arg11 harg11 arg12 harg12 arg13 harg13 arg23 x4 x6 x9 x10 x11) (kernelRun0_A.sl.v533 (F := Ideal) c i arg2 harg2 arg3 harg3 arg4 harg4 arg5 harg5 arg20 x0 x1 x2 x3) (kernelRun0_A.sl.v723 (F := Ideal) c i arg2 harg2 arg3 harg3 arg4 harg4 arg5 harg5 arg6 harg6 arg8 harg8 arg11 harg11 arg12 harg12 arg13 harg13 arg15 arg20 arg23 x0 x1 x2 x3 x4 x6 x9 x10 x11)) (fun r => T.upd (fun _ _ => 0) (4 + r)) :=
  (pay117 (A_v720 h) (A_v533 h) (A_v723 h)).congr fun r hr => by
    obtain rfl : r = 0 := by omega
    exact funext fun c => Tile.sum_shift (O := fun _ _ => 0) (R := 4) (b := 0) (s := 6) (by omega) (by omega) (by omega)

theorem A_H13_25_z (h : In T i x0 x1 x2 x3 x4 x5 x6 x7 x8 x9 x10 x11) :
    HR (N := 32) (View.canon (kernelRun0_A.sl.H13_25 (F := Ideal) c i arg2 harg2 arg3 harg3 arg4 harg4 arg5 harg5 arg6 harg6 arg8 harg8 arg11 harg11 arg12 harg12 arg13 harg13 arg15 arg20 arg23 x0 x1 x2 x3 x4 x6 x9 x10 x11)) (fun _ _ => 0) (fun n => n ∉ ([4, 27, 19, 11, 3, 26, 18, 10, 2, 25, 17, 9, 1, 24, 16, 8, 0, 23, 15, 7, 30, 22, 14, 6] : List ℕ)) :=
  (HR.skip (A_H13_24_z h)).mono (fun n _ hn => row_out hn)

theorem A_H13_25_y (h : In T i x0 x1 x2 x3 x4 x5 x6 x7 x8 x9 x10 x11) :
    HR (N := 32) (View.canon (kernelRun0_A.sl.H13_25 (F := Ideal) c i arg2 harg2 arg3 harg3 arg4 harg4 arg5 harg5 arg6 harg6 arg8 harg8 arg11 harg11 arg12 harg12 arg13 harg13 arg15 arg20 arg23 x0 x1 x2 x3 x4 x6 x9 x10 x11)) (T.upd fun _ _ => 0) (fun n => n ∈ ([4, 27, 19, 11, 3, 26, 18, 10, 2, 25, 17, 9, 1, 24, 16, 8, 0, 23, 15, 7, 30, 22, 14, 6] : List ℕ) ∨ n = 31) :=
  (HR.cons (A_pc_4 h) (A_H13_24_y h)).mono (fun n _ hn => row_in hn)

theorem A_v732 (h : In T i x0 x1 x2 x3 x4 x5 x6 x7 x8 x9 x10 x11) :
    H2 (φ := .f32) (kernelRun0_A.sl.v732 (F := Ideal) c i arg2 harg2 arg3 harg3 arg4 harg4 arg5 harg5 arg6 harg6 arg8 harg8 arg11 harg11 arg12 harg12 arg13 harg13 arg15 arg20 arg23 x0 x1 x2 x3 x4 x6 x9 x10 x11) (fun _ _ => 0) :=
  (A_H13_25_z h).old (by simp)

theorem A_r_50 (h : In T i x0 x1 x2 x3 x4 x5 x6 x7 x8 x9 x10 x11) :
    H2 (φ := .f32) (kernelRun0_A.sl.r_50 (F := Ideal) c i arg2 harg2 arg3 harg3 arg4 harg4 arg5 harg5 arg6 harg6 arg8 harg8 arg11 harg11 arg12 harg12 arg13 harg13 arg15 arg20 arg23 x0 x1 x2 x3 x4 x6 x9 x10 x11) (fun r c => (0 + (∑ k29 : Fin 264, (T.sd 6 (0 + k29.val) c * T.aa (8 + k29.val) c)))) :=
  pay118 (A_v720 h) (A_v495 h) (A_v732 h)

theorem A_pc_12 (h : In T i x0 x1 x2 x3 x4 x5 x6 x7 x8 x9 x10 x11) :
    H2 (n := 1) (φ := .f32) (kernelRun0_A.sl.r_50 (F := Ideal) c i arg2 harg2 arg3 harg3 arg4 harg4 arg5 harg5 arg6 harg6 arg8 harg8 arg11 harg11 arg12 harg12 arg13 harg13 arg15 arg20 arg23 x0 x1 x2 x3 x4 x6 x9 x10 x11) (fun r => T.upd (fun _ _ => 0) (12 + r)) :=
  (A_r_50 h).congr fun r hr => by
    obtain rfl : r = 0 := by omega
    exact funext fun c => Tile.sum_shift (O := fun _ _ => 0) (R := 12) (b := 8) (s := 6) (by omega) (by omega) (by omega)

theorem A_H13_26_z (h : In T i x0 x1 x2 x3 x4 x5 x6 x7 x8 x9 x10 x11) :
    HR (N := 32) (View.canon (kernelRun0_A.sl.H13_26 (F := Ideal) c i arg2 harg2 arg3 harg3 arg4 harg4 arg5 harg5 arg6 harg6 arg8 harg8 arg11 harg11 arg12 harg12 arg13 harg13 arg15 arg20 arg23 x0 x1 x2 x3 x4 x6 x9 x10 x11)) (fun _ _ => 0) (fun n => n ∉ ([12, 4, 27, 19, 11, 3, 26, 18, 10, 2, 25, 17, 9, 1, 24, 16, 8, 0, 23, 15, 7, 30, 22, 14, 6] : List ℕ)) :=
  (HR.skip (A_H13_25_z h)).mono (fun n _ hn => row_out hn)

theorem A_H13_26_y (h : In T i x0 x1 x2 x3 x4 x5 x6 x7 x8 x9 x10 x11) :
    HR (N := 32) (View.canon (kernelRun0_A.sl.H13_26 (F := Ideal) c i arg2 harg2 arg3 harg3 arg4 harg4 arg5 harg5 arg6 harg6 arg8 harg8 arg11 harg11 arg12 harg12 arg13 harg13 arg15 arg20 arg23 x0 x1 x2 x3 x4 x6 x9 x10 x11)) (T.upd fun _ _ => 0) (fun n => n ∈ ([12, 4, 27, 19, 11, 3, 26, 18, 10, 2, 25, 17, 9, 1, 24, 16, 8, 0, 23, 15, 7, 30, 22, 14, 6] : List ℕ) ∨ n = 31) :=
  (HR.cons (A_pc_12 h) (A_H13_25_y h)).mono (fun n _ hn => row_in hn)

theorem A_v741 (h : In T i x0 x1 x2 x3 x4 x5 x6 x7 x8 x9 x10 x11) :
    H2 (φ := .f32) (kernelRun0_A.sl.v741 (F := Ideal) c i arg2 harg2 arg3 harg3 arg4 harg4 arg5 harg5 arg6 harg6 arg8 harg8 arg11 harg11 arg12 harg12 arg13 harg13 arg15 arg20 arg23 x0 x1 x2 x3 x4 x6 x9 x10 x11) (fun _ _ => 0) :=
  (A_H13_26_z h).old (by simp)

theorem A_pc_20 (h : In T i x0 x1 x2 x3 x4 x5 x6 x7 x8 x9 x10 x11) :
    H2 (n := 1) (φ := .f32) (k0_pay119 (kernelRun0_A.sl.v720 (F := Ideal) c arg6 harg6 arg8 harg8 arg11 harg11 arg12 harg12 arg13 harg13 arg23 x4 x6 x9 x10 x11) (kernelRun0_A.sl.v504 (F := Ideal) c i arg2 harg2 arg3 harg3 arg4 harg4 arg5 harg5 arg20 x0 x1 x2 x3) (kernelRun0_A.sl.v741 (F := Ideal) c i arg2 harg2 arg3 harg3 arg4 harg4 arg5 harg5 arg6 harg6 arg8 harg8 arg11 harg11 arg12 harg12 arg13 harg13 arg15 arg20 arg23 x0 x1 x2 x3 x4 x6 x9 x10 x11)) (fun r => T.upd (fun _ _ => 0) (20 + r)) :=
  (pay119 (A_v720 h) (A_v504 h) (A_v741 h)).congr fun r hr => by
    obtain rfl : r = 0 := by omega
    exact funext fun c => Tile.sum_shift (O := fun _ _ => 0) (R := 20) (b := 16) (s := 6) (by omega) (by omega) (by omega)

theorem A_H13_27_z (h : In T i x0 x1 x2 x3 x4 x5 x6 x7 x8 x9 x10 x11) :
    HR (N := 32) (View.canon (kernelRun0_A.sl.H13_27 (F := Ideal) c i arg2 harg2 arg3 harg3 arg4 harg4 arg5 harg5 arg6 harg6 arg8 harg8 arg11 harg11 arg12 harg12 arg13 harg13 arg15 arg20 arg23 x0 x1 x2 x3 x4 x6 x9 x10 x11)) (fun _ _ => 0) (fun n => n ∉ ([20, 12, 4, 27, 19, 11, 3, 26, 18, 10, 2, 25, 17, 9, 1, 24, 16, 8, 0, 23, 15, 7, 30, 22, 14, 6] : List ℕ)) :=
  (HR.skip (A_H13_26_z h)).mono (fun n _ hn => row_out hn)

theorem A_H13_27_y (h : In T i x0 x1 x2 x3 x4 x5 x6 x7 x8 x9 x10 x11) :
    HR (N := 32) (View.canon (kernelRun0_A.sl.H13_27 (F := Ideal) c i arg2 harg2 arg3 harg3 arg4 harg4 arg5 harg5 arg6 harg6 arg8 harg8 arg11 harg11 arg12 harg12 arg13 harg13 arg15 arg20 arg23 x0 x1 x2 x3 x4 x6 x9 x10 x11)) (T.upd fun _ _ => 0) (fun n => n ∈ ([20, 12, 4, 27, 19, 11, 3, 26, 18, 10, 2, 25, 17, 9, 1, 24, 16, 8, 0, 23, 15, 7, 30, 22, 14, 6] : List ℕ) ∨ n = 31) :=
  (HR.cons (A_pc_20 h) (A_H13_26_y h)).mono (fun n _ hn => row_in hn)

theorem A_v750 (h : In T i x0 x1 x2 x3 x4 x5 x6 x7 x8 x9 x10 x11) :
    H2 (φ := .f32) (kernelRun0_A.sl.v750 (F := Ideal) c i arg2 harg2 arg3 harg3 arg4 harg4 arg5 harg5 arg6 harg6 arg8 harg8 arg11 harg11 arg12 harg12 arg13 harg13 arg15 arg20 arg23 x0 x1 x2 x3 x4 x6 x9 x10 x11) (fun _ _ => 0) :=
  (A_H13_27_z h).old (by simp)

theorem A_pc_28 (h : In T i x0 x1 x2 x3 x4 x5 x6 x7 x8 x9 x10 x11) :
    H2 (n := 1) (φ := .f32) (k0_pay120 (kernelRun0_A.sl.v720 (F := Ideal) c arg6 harg6 arg8 harg8 arg11 harg11 arg12 harg12 arg13 harg13 arg23 x4 x6 x9 x10 x11) (kernelRun0_A.sl.v513 (F := Ideal) c i arg2 harg2 arg3 harg3 arg4 harg4 arg5 harg5 arg20 x0 x1 x2 x3) (kernelRun0_A.sl.v750 (F := Ideal) c i arg2 harg2 arg3 harg3 arg4 harg4 arg5 harg5 arg6 harg6 arg8 harg8 arg11 harg11 arg12 harg12 arg13 harg13 arg15 arg20 arg23 x0 x1 x2 x3 x4 x6 x9 x10 x11)) (fun r => T.upd (fun _ _ => 0) (28 + r)) :=
  (pay120 (A_v720 h) (A_v513 h) (A_v750 h)).congr fun r hr => by
    obtain rfl : r = 0 := by omega
    exact funext fun c => Tile.sum_shift (O := fun _ _ => 0) (R := 28) (b := 24) (s := 6) (by omega) (by omega) (by omega)

theorem A_H13_28_z (h : In T i x0 x1 x2 x3 x4 x5 x6 x7 x8 x9 x10 x11) :
    HR (N := 32) (View.canon (kernelRun0_A.sl.H13_28 (F := Ideal) c i arg2 harg2 arg3 harg3 arg4 harg4 arg5 harg5 arg6 harg6 arg8 harg8 arg11 harg11 arg12 harg12 arg13 harg13 arg15 arg20 arg23 x0 x1 x2 x3 x4 x6 x9 x10 x11)) (fun _ _ => 0) (fun n => n ∉ ([28, 20, 12, 4, 27, 19, 11, 3, 26, 18, 10, 2, 25, 17, 9, 1, 24, 16, 8, 0, 23, 15, 7, 30, 22, 14, 6] : List ℕ)) :=
  (HR.skip (A_H13_27_z h)).mono (fun n _ hn => row_out hn)

theorem A_H13_28_y (h : In T i x0 x1 x2 x3 x4 x5 x6 x7 x8 x9 x10 x11) :
    HR (N := 32) (View.canon (kernelRun0_A.sl.H13_28 (F := Ideal) c i arg2 harg2 arg3 harg3 arg4 harg4 arg5 harg5 arg6 harg6 arg8 harg8 arg11 harg11 arg12 harg12 arg13 harg13 arg15 arg20 arg23 x0 x1 x2 x3 x4 x6 x9 x10 x11)) (T.upd fun _ _ => 0) (fun n => n ∈ ([28, 20, 12, 4, 27, 19, 11, 3, 26, 18, 10, 2, 25, 17, 9, 1, 24, 16, 8, 0, 23, 15, 7, 30, 22, 14, 6] : List ℕ) ∨ n = 31) :=
  (HR.cons (A_pc_28 h) (A_H13_27_y h)).mono (fun n _ hn => row_in hn)

theorem A_HS3_21 (h : In T i x0 x1 x2 x3 x4 x5 x6 x7 x8 x9 x10 x11) : HR (N := 264) (View.canon (kernelRun0_A.sl.HS3_21 (F := Ideal) c arg6 harg6 arg8 harg8 arg11 harg11 arg12 harg12 arg13 harg13 x4 x6 x9 x10 x11)) (T.sd 7) (fun n => n < 264) :=
  Tile.shifted (s := 7) (by omega) ((pay123 (A_r_14 h))) ((pay122 )) ((pay121 ))

theorem A_v767 (h : In T i x0 x1 x2 x3 x4 x5 x6 x7 x8 x9 x10 x11) :
    H2 (φ := .f32) (kernelRun0_A.sl.v767 (F := Ideal) c arg6 harg6 arg8 harg8 arg11 harg11 arg12 harg12 arg13 harg13 arg23 x4 x6 x9 x10 x11) (fun r c => T.sd 7 (0 + r) c) :=
  (A_HS3_21 h).read (fun _ _ => by omega)

theorem A_v770 (h : In T i x0 x1 x2 x3 x4 x5 x6 x7 x8 x9 x10 x11) :
    H2 (φ := .f32) (kernelRun0_A.sl.v770 (F := Ideal) c i arg2 harg2 arg3 harg3 arg4 harg4 arg5 harg5 arg6 harg6 arg8 harg8 arg11 harg11 arg12 harg12 arg13 harg13 arg15 arg20 arg23 x0 x1 x2 x3 x4 x6 x9 x10 x11) (fun _ _ => 0) :=
  (A_H13_28_z h).old (by simp)

theorem A_pc_5 (h : In T i x0 x1 x2 x3 x4 x5 x6 x7 x8 x9 x10 x11) :
    H2 (n := 1) (φ := .f32) (k0_pay124 (kernelRun0_A.sl.v767 (F := Ideal) c arg6 harg6 arg8 harg8 arg11 harg11 arg12 harg12 arg13 harg13 arg23 x4 x6 x9 x10 x11) (kernelRun0_A.sl.v533 (F := Ideal) c i arg2 harg2 arg3 harg3 arg4 harg4 arg5 harg5 arg20 x0 x1 x2 x3) (kernelRun0_A.sl.v770 (F := Ideal) c i arg2 harg2 arg3 harg3 arg4 harg4 arg5 harg5 arg6 harg6 arg8 harg8 arg11 harg11 arg12 harg12 arg13 harg13 arg15 arg20 arg23 x0 x1 x2 x3 x4 x6 x9 x10 x11)) (fun r => T.upd (fun _ _ => 0) (5 + r)) :=
  (pay124 (A_v767 h) (A_v533 h) (A_v770 h)).congr fun r hr => by
    obtain rfl : r = 0 := by omega
    exact funext fun c => Tile.sum_shift (O := fun _ _ => 0) (R := 5) (b := 0) (s := 7) (by omega) (by omega) (by omega)

theorem A_H13_29_z (h : In T i x0 x1 x2 x3 x4 x5 x6 x7 x8 x9 x10 x11) :
    HR (N := 32) (View.canon (kernelRun0_A.sl.H13_29 (F := Ideal) c i arg2 harg2 arg3 harg3 arg4 harg4 arg5 harg5 arg6 harg6 arg8 harg8 arg11 harg11 arg12 harg12 arg13 harg13 arg15 arg20 arg23 x0 x1 x2 x3 x4 x6 x9 x10 x11)) (fun _ _ => 0) (fun n => n ∉ ([5, 28, 20, 12, 4, 27, 19, 11, 3, 26, 18, 10, 2, 25, 17, 9, 1, 24, 16, 8, 0, 23, 15, 7, 30, 22, 14, 6] : List ℕ)) :=
  (HR.skip (A_H13_28_z h)).mono (fun n _ hn => row_out hn)

theorem A_H13_29_y (h : In T i x0 x1 x2 x3 x4 x5 x6 x7 x8 x9 x10 x11) :
    HR (N := 32) (View.canon (kernelRun0_A.sl.H13_29 (F := Ideal) c i arg2 harg2 arg3 harg3 arg4 harg4 arg5 harg5 arg6 harg6 arg8 harg8 arg11 harg11 arg12 harg12 arg13 harg13 arg15 arg20 arg23 x0 x1 x2 x3 x4 x6 x9 x10 x11)) (T.upd fun _ _ => 0) (fun n => n ∈ ([5, 28, 20, 12, 4, 27, 19, 11, 3, 26, 18, 10, 2, 25, 17, 9, 1, 24, 16, 8, 0, 23, 15, 7, 30, 22, 14, 6] : List ℕ) ∨ n = 31) :=
  (HR.cons (A_pc_5 h) (A_H13_28_y h)).mono (fun n _ hn => row_in hn)

theorem A_v779 (h : In T i x0 x1 x2 x3 x4 x5 x6 x7 x8 x9 x10 x11) :
    H2 (φ := .f32) (kernelRun0_A.sl.v779 (F := Ideal) c i arg2 harg2 arg3 harg3 arg4 harg4 arg5 harg5 arg6 harg6 arg8 harg8 arg11 harg11 arg12 harg12 arg13 harg13 arg15 arg20 arg23 x0 x1 x2 x3 x4 x6 x9 x10 x11) (fun _ _ => 0) :=
  (A_H13_29_z h).old (by simp)

theorem A_pc_13 (h : In T i x0 x1 x2 x3 x4 x5 x6 x7 x8 x9 x10 x11) :
    H2 (n := 1) (φ := .f32) (k0_pay125 (kernelRun0_A.sl.v767 (F := Ideal) c arg6 harg6 arg8 harg8 arg11 harg11 arg12 harg12 arg13 harg13 arg23 x4 x6 x9 x10 x11) (kernelRun0_A.sl.v495 (F := Ideal) c i arg2 harg2 arg3 harg3 arg4 harg4 arg5 harg5 arg20 x0 x1 x2 x3) (kernelRun0_A.sl.v779 (F := Ideal) c i arg2 harg2 arg3 harg3 arg4 harg4 arg5 harg5 arg6 harg6 arg8 harg8 arg11 harg11 arg12 harg12 arg13 harg13 arg15 arg20 arg23 x0 x1 x2 x3 x4 x6 x9 x10 x11)) (fun r => T.upd (fun _ _ => 0) (13 + r)) :=
  (pay125 (A_v767 h) (A_v495 h) (A_v779 h)).congr fun r hr => by
    obtain rfl : r = 0 := by omega
    exact funext fun c => Tile.sum_shift (O := fun _ _ => 0) (R := 13) (b := 8) (s := 7) (by omega) (by omega) (by omega)

theorem A_H13_30_z (h : In T i x0 x1 x2 x3 x4 x5 x6 x7 x8 x9 x10 x11) :
    HR (N := 32) (View.canon (kernelRun0_A.sl.H13_30 (F := Ideal) c i arg2 harg2 arg3 harg3 arg4 harg4 arg5 harg5 arg6 harg6 arg8 harg8 arg11 harg11 arg12 harg12 arg13 harg13 arg15 arg20 arg23 x0 x1 x2 x3 x4 x6 x9 x10 x11)) (fun _ _ => 0) (fun n => n ∉ ([13, 5, 28, 20, 12, 4, 27, 19, 11, 3, 26, 18, 10, 2, 25, 17, 9, 1, 24, 16, 8, 0, 23, 15, 7, 30, 22, 14, 6] : List ℕ)) :=
  (HR.skip (A_H13_29_z h)).mono (fun n _ hn => row_out hn)

theorem A_H13_30_y (h : In T i x0 x1 x2 x3 x4 x5 x6 x7 x8 x9 x10 x11) :
    HR (N := 32) (View.canon (kernelRun0_A.sl.H13_30 (F := Ideal) c i arg2 harg2 arg3 harg3 arg4 harg4 arg5 harg5 arg6 harg6 arg8 harg8 arg11 harg11 arg12 harg12 arg13 harg13 arg15 arg20 arg23 x0 x1 x2 x3 x4 x6 x9 x10 x11)) (T.upd fun _ _ => 0) (fun n => n ∈ ([13, 5, 28, 20, 12, 4, 27, 19, 11, 3, 26, 18, 10, 2, 25, 17, 9, 1, 24, 16, 8, 0, 23, 15, 7, 30, 22, 14, 6] : List ℕ) ∨ n = 31) :=
  (HR.cons (A_pc_13 h) (A_H13_29_y h)).mono (fun n _ hn => row_in hn)

theorem A_v788 (h : In T i x0 x1 x2 x3 x4 x5 x6 x7 x8 x9 x10 x11) :
    H2 (φ := .f32) (kernelRun0_A.sl.v788 (F := Ideal) c i arg2 harg2 arg3 harg3 arg4 harg4 arg5 harg5 arg6 harg6 arg8 harg8 arg11 harg11 arg12 harg12 arg13 harg13 arg15 arg20 arg23 x0 x1 x2 x3 x4 x6 x9 x10 x11) (fun _ _ => 0) :=
  (A_H13_30_z h).old (by simp)

theorem A_pc_21 (h : In T i x0 x1 x2 x3 x4 x5 x6 x7 x8 x9 x10 x11) :
    H2 (n := 1) (φ := .f32) (k0_pay126 (kernelRun0_A.sl.v767 (F := Ideal) c arg6 harg6 arg8 harg8 arg11 harg11 arg12 harg12 arg13 harg13 arg23 x4 x6 x9 x10 x11) (kernelRun0_A.sl.v504 (F := Ideal) c i arg2 harg2 arg3 harg3 arg4 harg4 arg5 harg5 arg20 x0 x1 x2 x3) (kernelRun0_A.sl.v788 (F := Ideal) c i arg2 harg2 arg3 harg3 arg4 harg4 arg5 harg5 arg6 harg6 arg8 harg8 arg11 harg11 arg12 harg12 arg13 harg13 arg15 arg20 arg23 x0 x1 x2 x3 x4 x6 x9 x10 x11)) (fun r => T.upd (fun _ _ => 0) (21 + r)) :=
  (pay126 (A_v767 h) (A_v504 h) (A_v788 h)).congr fun r hr => by
    obtain rfl : r = 0 := by omega
    exact funext fun c => Tile.sum_shift (O := fun _ _ => 0) (R := 21) (b := 16) (s := 7) (by omega) (by omega) (by omega)

theorem A_H13_31_z (h : In T i x0 x1 x2 x3 x4 x5 x6 x7 x8 x9 x10 x11) :
    HR (N := 32) (View.canon (kernelRun0_A.sl.H13_31 (F := Ideal) c i arg2 harg2 arg3 harg3 arg4 harg4 arg5 harg5 arg6 harg6 arg8 harg8 arg11 harg11 arg12 harg12 arg13 harg13 arg15 arg20 arg23 x0 x1 x2 x3 x4 x6 x9 x10 x11)) (fun _ _ => 0) (fun n => n ∉ ([21, 13, 5, 28, 20, 12, 4, 27, 19, 11, 3, 26, 18, 10, 2, 25, 17, 9, 1, 24, 16, 8, 0, 23, 15, 7, 30, 22, 14, 6] : List ℕ)) :=
  (HR.skip (A_H13_30_z h)).mono (fun n _ hn => row_out hn)

theorem A_H13_31_y (h : In T i x0 x1 x2 x3 x4 x5 x6 x7 x8 x9 x10 x11) :
    HR (N := 32) (View.canon (kernelRun0_A.sl.H13_31 (F := Ideal) c i arg2 harg2 arg3 harg3 arg4 harg4 arg5 harg5 arg6 harg6 arg8 harg8 arg11 harg11 arg12 harg12 arg13 harg13 arg15 arg20 arg23 x0 x1 x2 x3 x4 x6 x9 x10 x11)) (T.upd fun _ _ => 0) (fun n => n ∈ ([21, 13, 5, 28, 20, 12, 4, 27, 19, 11, 3, 26, 18, 10, 2, 25, 17, 9, 1, 24, 16, 8, 0, 23, 15, 7, 30, 22, 14, 6] : List ℕ) ∨ n = 31) :=
  (HR.cons (A_pc_21 h) (A_H13_30_y h)).mono (fun n _ hn => row_in hn)

end Cert.ConvBwd

end
-- ==== Proof.ConvAccB.lean ====
/-
  The same expressions at the later grid points of a batch row.
-/
module

public import proofs.«01_k».proof.Proof.ConvAcc
public import proofs.«01_k».proof.Proof.Gen.KernelIdeal.Frame.RunB

@[expose] public section

set_option maxRecDepth 16384

noncomputable section

namespace Cert.ConvBwd

open Idealize.ShloMosaic Idealize.ShloMosaic.TcCoe Cert.KernelIdeal Cert.KernelIdeal.Gen Cert.Row

variable {T : Tile} {c : Dev nD} {i : grid0.Coords} {arg2 : Memref sig .tc .vmem S1x256x512 .f32} {harg2 : arg2.IsWhole} {arg3 : Memref sig .tc .vmem S1x256x512 .f32} {harg3 : arg3.IsWhole} {arg4 : Memref sig .tc .vmem S1x32x512 .f32} {harg4 : arg4.IsWhole} {arg5 : Memref sig .tc .vmem S1x32x512 .f32} {harg5 : arg5.IsWhole} {arg6 : Memref sig .tc .vmem S1x256x512 .f32} {harg6 : arg6.IsWhole} {arg7 : Memref sig .tc .vmem S1x32x512 .f32} {harg7 : arg7.IsWhole} {arg8 : Memref sig .tc .vmem S1x256x512 .f32} {harg8 : arg8.IsWhole} {arg9 : Memref sig .tc .vmem S1x32x512 .f32} {harg9 : arg9.IsWhole} {arg10 : Memref sig .tc .vmem S32x512 .f32} {harg10 : arg10.IsWhole} {arg11 : Memref sig .tc .vmem S1x512 .f32} {harg11 : arg11.IsWhole} {arg12 : Memref sig .tc .vmem S1x512 .f32} {harg12 : arg12.IsWhole} {arg13 : Memref sig .tc .vmem S1x512 .f32} {harg13 : arg13.IsWhole} {arg15 : Memref sig .tc .vmem S32x512 .f32} {harg15 : arg15.IsWhole} {arg20 : Memref sig .tc .vmem S288x512 .f32} {arg21 : Memref sig .tc .vmem S288x512 .f32} {arg22 : Memref sig .tc .vmem S264x512 .f32} {arg23 : Memref sig .tc .vmem S264x512 .f32}
  {x0 x1 : FVec Ideal S1x256x512 .f32} {x2 x3 : FVec Ideal S1x32x512 .f32} {x4 : FVec Ideal S1x256x512 .f32} {x5 : FVec Ideal S1x32x512 .f32}
  {x6 : FVec Ideal S1x256x512 .f32} {x7 : FVec Ideal S1x32x512 .f32} {x8 : FVec Ideal S32x512 .f32} {x9 x10 x11 : FVec Ideal S1x512 .f32} {O : ℕ → Row} {xo13 : FVec Ideal S32x512 .f32}

theorem B_r_15 (h : In T i x0 x1 x2 x3 x4 x5 x6 x7 x8 x9 x10 x11) :
    H2 (φ := .f32) (kernelRun0_B.sl.r_15 (F := Ideal) c arg6 harg6 arg8 harg8 arg11 harg11 arg12 harg12 x4 x6 x9 x10) (fun _ c => ∑ k : Fin 256, T.D k.val c * sh (T.C k.val) T.lg T.lb c) :=
  A_r_15 h

theorem B_r_16 (h : In T i x0 x1 x2 x3 x4 x5 x6 x7 x8 x9 x10 x11) :
    H2 (φ := .f32) (kernelRun0_B.sl.r_16 (F := Ideal) c arg6 harg6 arg8 harg8 arg11 harg11 arg12 harg12 arg13 harg13 x4 x6 x9 x10 x11) (fun _ c => ∑ k : Fin 256, dlay (T.C k.val) T.lg T.lb T.og (T.D k.val) c * nrm (T.C k.val) c) :=
  A_r_16 h

theorem B_r_17 (h : In T i x0 x1 x2 x3 x4 x5 x6 x7 x8 x9 x10 x11) :
    H2 (φ := .f32) (kernelRun0_B.sl.r_17 (F := Ideal) c arg6 harg6 arg8 harg8 arg11 harg11 arg12 harg12 arg13 harg13 x4 x6 x9 x10 x11) (fun _ c => ∑ k : Fin 256, dlay (T.C k.val) T.lg T.lb T.og (T.D k.val) c) :=
  A_r_17 h

theorem B_r_39 (h : In T i x0 x1 x2 x3 x4 x5 x6 x7 x8 x9 x10 x11) :
    H2 (φ := .f32) (kernelRun0_B.sl.r_39 (F := Ideal) c i arg6 harg6 arg7 harg7 arg8 harg8 arg9 harg9 arg10 harg10 arg11 harg11 arg12 harg12 arg13 harg13 arg21 arg22 x4 x5 x6 x7 x8 x9 x10 x11) (fun r c => (((((((((((((((((T.w (30 + 0) c * T.dd (0 + r) c) + (T.w (22 + 0) c * T.dd (8 + r) c)) + (T.w (14 + 0) c * T.dd (16 + r) c)) + (T.w (6 + 0) c * T.dd (24 + r) c))) + ((((((T.w (29 + 0) c * T.dd (0 + (1 + r)) c) + (T.w (21 + 0) c * T.dd (8 + (1 + r)) c))) + (T.w (13 + 0) c * T.dd (16 + (1 + r)) c)) + (T.w (5 + 0) c * T.dd (24 + (1 + r)) c))))) + ((((((T.w (28 + 0) c * T.dd (0 + (2 + r)) c) + (T.w (20 + 0) c * T.dd (8 + (2 + r)) c)) + (T.w (12 + 0) c * T.dd (16 + (2 + r)) c))) + (T.w (4 + 0) c * T.dd (24 + (2 + r)) c))))) + (((((T.w (27 + 0) c * T.dd (0 + (3 + r)) c) + (T.w (19 + 0) c * T.dd (8 + (3 + r)) c)) + (T.w (11 + 0) c * T.dd (16 + (3 + r)) c)) + (T.w (3 + 0) c * T.dd (24 + (3 + r)) c)))) + (((((T.w (26 + 0) c * T.dd (0 + (4 + r)) c) + (T.w (18 + 0) c * T.dd (8 + (4 + r)) c)) + (T.w (10 + 0) c * T.dd (16 + (4 + r)) c)) + (T.w (2 + 0) c * T.dd (24 + (4 + r)) c))))) + ((((((T.w (25 + 0) c * T.dd (0 + (5 + r)) c)) + (T.w (17 + 0) c * T.dd (8 + (5 + r)) c)) + (T.w (9 + 0) c * T.dd (16 + (5 + r)) c)) + (T.w (1 + 0) c * T.dd (24 + (5 + r)) c))))) + ((((((T.w (24 + 0) c * T.dd (0 + (6 + r)) c) + (T.w (16 + 0) c * T.dd (8 + (6 + r)) c))) + (T.w (8 + 0) c * T.dd (16 + (6 + r)) c)) + (T.w (0 + 0) c * T.dd (24 + (6 + r)) c))))) + (((((T.w (23 + 0) c * T.dd (0 + (7 + r)) c) + (T.w (15 + 0) c * T.dd (8 + (7 + r)) c)) + (T.w (7 + 0) c * T.dd (16 + (7 + r)) c)))))) :=
  A_r_39 h

theorem B_r (h : In T i x0 x1 x2 x3 x4 x5 x6 x7 x8 x9 x10 x11) :
    H2 (φ := .f32) (kernelRun0_B.sl.r (F := Ideal) c arg3 harg3 x1) (fun r c => sigm (T.G r c)) :=
  A_r h

theorem B_r_14 (h : In T i x0 x1 x2 x3 x4 x5 x6 x7 x8 x9 x10 x11) :
    H2 (φ := .f32) (kernelRun0_B.sl.r_14 (F := Ideal) c arg6 harg6 arg8 harg8 arg11 harg11 arg12 harg12 arg13 harg13 x4 x6 x9 x10 x11) (fun r => T.dd r) :=
  A_r_14 h

theorem B_v451 (h : In T i x0 x1 x2 x3 x4 x5 x6 x7 x8 x9 x10 x11) :
    H2 (φ := .f32) (kernelRun0_B.sl.v451 (F := Ideal) c i arg2 harg2 arg3 harg3 arg4 harg4 arg5 harg5 arg20 x0 x1 x2 x3) (fun r c => T.aa (8 + r) c) :=
  A_v451 h

theorem B_pc_6 (h : In T i x0 x1 x2 x3 x4 x5 x6 x7 x8 x9 x10 x11) (hO : H2 (φ := .f32) xo13 O) :
    H2 (n := 1) (φ := .f32) (k0_pay66 (kernelRun0_B.sl.r_14 (F := Ideal) c arg6 harg6 arg8 harg8 arg11 harg11 arg12 harg12 arg13 harg13 x4 x6 x9 x10 x11) (kernelRun0_B.sl.v451 (F := Ideal) c i arg2 harg2 arg3 harg3 arg4 harg4 arg5 harg5 arg20 x0 x1 x2 x3) (View.readAt (Elt Ideal) arg15.view (Rect.unit (s := S32x512) ![6, 0] S1x512.size inb_S32x512_S1x512_6_0).toLoadRect (harg15.unread xo13))) (fun r => T.upd (O) (6 + r)) :=
  (pay66 (B_r_14 h) (B_v451 h) hO.load).congr fun r hr => by
    obtain rfl : r = 0 := by omega
    exact funext fun c => Tile.sum_rows (O := O) (R := 6) (b := 8) (by omega) (by omega) trivial

theorem B_v459 (h : In T i x0 x1 x2 x3 x4 x5 x6 x7 x8 x9 x10 x11) :
    H2 (φ := .f32) (kernelRun0_B.sl.v459 (F := Ideal) c i arg2 harg2 arg3 harg3 arg4 harg4 arg5 harg5 arg20 x0 x1 x2 x3) (fun r c => T.aa (16 + r) c) :=
  A_v459 h

theorem B_v461 (h : In T i x0 x1 x2 x3 x4 x5 x6 x7 x8 x9 x10 x11) (hO : H2 (φ := .f32) xo13 O) :
    H2 (φ := .f32) (kernelRun0_B.sl.v461 (F := Ideal) c arg15 harg15 xo13) (fun r c => O (14 + r) c) :=
  hO.load

theorem B_pc_14 (h : In T i x0 x1 x2 x3 x4 x5 x6 x7 x8 x9 x10 x11) (hO : H2 (φ := .f32) xo13 O) :
    H2 (n := 1) (φ := .f32) (k0_pay67 (kernelRun0_B.sl.r_14 (F := Ideal) c arg6 harg6 arg8 harg8 arg11 harg11 arg12 harg12 arg13 harg13 x4 x6 x9 x10 x11) (kernelRun0_B.sl.v459 (F := Ideal) c i arg2 harg2 arg3 harg3 arg4 harg4 arg5 harg5 arg20 x0 x1 x2 x3) (kernelRun0_B.sl.v461 (F := Ideal) c arg15 harg15 xo13)) (fun r => T.upd (O) (14 + r)) :=
  (pay67 (B_r_14 h) (B_v459 h) (B_v461 h hO)).congr fun r hr => by
    obtain rfl : r = 0 := by omega
    exact funext fun c => Tile.sum_rows (O := O) (R := 14) (b := 16) (by omega) (by omega) trivial

theorem B_v467 (h : In T i x0 x1 x2 x3 x4 x5 x6 x7 x8 x9 x10 x11) :
    H2 (φ := .f32) (kernelRun0_B.sl.v467 (F := Ideal) c i arg2 harg2 arg3 harg3 arg4 harg4 arg5 harg5 arg20 x0 x1 x2 x3) (fun r c => T.aa (24 + r) c) :=
  A_v467 h

theorem B_v469 (h : In T i x0 x1 x2 x3 x4 x5 x6 x7 x8 x9 x10 x11) (hO : H2 (φ := .f32) xo13 O) :
    H2 (φ := .f32) (kernelRun0_B.sl.v469 (F := Ideal) c arg15 harg15 xo13) (fun r c => O (22 + r) c) :=
  hO.load

theorem B_pc_22 (h : In T i x0 x1 x2 x3 x4 x5 x6 x7 x8 x9 x10 x11) (hO : H2 (φ := .f32) xo13 O) :
    H2 (n := 1) (φ := .f32) (k0_pay68 (kernelRun0_B.sl.r_14 (F := Ideal) c arg6 harg6 arg8 harg8 arg11 harg11 arg12 harg12 arg13 harg13 x4 x6 x9 x10 x11) (kernelRun0_B.sl.v467 (F := Ideal) c i arg2 harg2 arg3 harg3 arg4 harg4 arg5 harg5 arg20 x0 x1 x2 x3) (kernelRun0_B.sl.v469 (F := Ideal) c arg15 harg15 xo13)) (fun r => T.upd (O) (22 + r)) :=
  (pay68 (B_r_14 h) (B_v467 h) (B_v469 h hO)).congr fun r hr => by
    obtain rfl : r = 0 := by omega
    exact funext fun c => Tile.sum_rows (O := O) (R := 22) (b := 24) (by omega) (by omega) trivial

theorem B_r_40 (h : In T i x0 x1 x2 x3 x4 x5 x6 x7 x8 x9 x10 x11) :
    H2 (φ := .f32) (kernelRun0_B.sl.r_40 (F := Ideal) c i arg2 harg2 arg3 harg3 arg4 harg4 arg5 harg5 arg6 harg6 arg8 harg8 arg11 harg11 arg12 harg12 arg13 harg13 arg20 x0 x1 x2 x3 x4 x6 x9 x10 x11) (fun r c => (T.dd r c * T.aa (32 + r) c)) :=
  A_r_40 h

theorem B_v477 (h : In T i x0 x1 x2 x3 x4 x5 x6 x7 x8 x9 x10 x11) (hO : H2 (φ := .f32) xo13 O) :
    H2 (φ := .f32) (kernelRun0_B.sl.v477 (F := Ideal) c arg15 harg15 xo13) (fun r c => O (30 + r) c) :=
  hO.load

theorem B_pc_30 (h : In T i x0 x1 x2 x3 x4 x5 x6 x7 x8 x9 x10 x11) (hO : H2 (φ := .f32) xo13 O) :
    H2 (n := 1) (φ := .f32) (k0_pay70 (kernelRun0_B.sl.r_40 (F := Ideal) c i arg2 harg2 arg3 harg3 arg4 harg4 arg5 harg5 arg6 harg6 arg8 harg8 arg11 harg11 arg12 harg12 arg13 harg13 arg20 x0 x1 x2 x3 x4 x6 x9 x10 x11) (kernelRun0_B.sl.v477 (F := Ideal) c arg15 harg15 xo13)) (fun r => T.upd (O) (30 + r)) :=
  (pay70 (B_r_40 h) (B_v477 h hO)).congr fun r hr => by
    obtain rfl : r = 0 := by omega
    exact funext fun c => Tile.sum_rows (O := O) (R := 30) (b := 32) (by omega) (by omega) trivial

theorem B_v494 (h : In T i x0 x1 x2 x3 x4 x5 x6 x7 x8 x9 x10 x11) :
    H2 (φ := .f32) (kernelRun0_B.sl.v494 (F := Ideal) c arg6 harg6 arg8 harg8 arg11 harg11 arg12 harg12 arg13 harg13 arg23 x4 x6 x9 x10 x11) (fun r c => T.sd 1 (0 + r) c) :=
  A_v494 h

theorem B_v495 (h : In T i x0 x1 x2 x3 x4 x5 x6 x7 x8 x9 x10 x11) :
    H2 (φ := .f32) (kernelRun0_B.sl.v495 (F := Ideal) c i arg2 harg2 arg3 harg3 arg4 harg4 arg5 harg5 arg20 x0 x1 x2 x3) (fun r c => T.aa (8 + r) c) :=
  A_v495 h

theorem B_v497 (h : In T i x0 x1 x2 x3 x4 x5 x6 x7 x8 x9 x10 x11) (hO : H2 (φ := .f32) xo13 O) :
    H2 (φ := .f32) (kernelRun0_B.sl.v497 (F := Ideal) c arg15 harg15 xo13) (fun r c => O (7 + r) c) :=
  hO.load

theorem B_pc_7 (h : In T i x0 x1 x2 x3 x4 x5 x6 x7 x8 x9 x10 x11) (hO : H2 (φ := .f32) xo13 O) :
    H2 (n := 1) (φ := .f32) (k0_pay74 (kernelRun0_B.sl.v494 (F := Ideal) c arg6 harg6 arg8 harg8 arg11 harg11 arg12 harg12 arg13 harg13 arg23 x4 x6 x9 x10 x11) (kernelRun0_B.sl.v495 (F := Ideal) c i arg2 harg2 arg3 harg3 arg4 harg4 arg5 harg5 arg20 x0 x1 x2 x3) (kernelRun0_B.sl.v497 (F := Ideal) c arg15 harg15 xo13)) (fun r => T.upd (O) (7 + r)) :=
  (pay74 (B_v494 h) (B_v495 h) (B_v497 h hO)).congr fun r hr => by
    obtain rfl : r = 0 := by omega
    exact funext fun c => Tile.sum_shift (O := O) (R := 7) (b := 8) (s := 1) (by omega) (by omega) (by omega)

theorem B_r_41 (h : In T i x0 x1 x2 x3 x4 x5 x6 x7 x8 x9 x10 x11) :
    H2 (φ := .f32) (kernelRun0_B.sl.r_41 (F := Ideal) c i arg2 harg2 arg3 harg3 arg4 harg4 arg5 harg5 arg6 harg6 arg8 harg8 arg11 harg11 arg12 harg12 arg13 harg13 arg20 arg23 x0 x1 x2 x3 x4 x6 x9 x10 x11) (fun r c => (T.sd 1 (0 + r) c * T.aa (16 + r) c)) :=
  A_r_41 h

theorem B_v506 (h : In T i x0 x1 x2 x3 x4 x5 x6 x7 x8 x9 x10 x11) (hO : H2 (φ := .f32) xo13 O) :
    H2 (φ := .f32) (kernelRun0_B.sl.v506 (F := Ideal) c arg15 harg15 xo13) (fun r c => O (15 + r) c) :=
  hO.load

theorem B_pc_15 (h : In T i x0 x1 x2 x3 x4 x5 x6 x7 x8 x9 x10 x11) (hO : H2 (φ := .f32) xo13 O) :
    H2 (n := 1) (φ := .f32) (k0_pay76 (kernelRun0_B.sl.r_41 (F := Ideal) c i arg2 harg2 arg3 harg3 arg4 harg4 arg5 harg5 arg6 harg6 arg8 harg8 arg11 harg11 arg12 harg12 arg13 harg13 arg20 arg23 x0 x1 x2 x3 x4 x6 x9 x10 x11) (kernelRun0_B.sl.v506 (F := Ideal) c arg15 harg15 xo13)) (fun r => T.upd (O) (15 + r)) :=
  (pay76 (B_r_41 h) (B_v506 h hO)).congr fun r hr => by
    obtain rfl : r = 0 := by omega
    exact funext fun c => Tile.sum_shift (O := O) (R := 15) (b := 16) (s := 1) (by omega) (by omega) (by omega)

theorem B_v513 (h : In T i x0 x1 x2 x3 x4 x5 x6 x7 x8 x9 x10 x11) :
    H2 (φ := .f32) (kernelRun0_B.sl.v513 (F := Ideal) c i arg2 harg2 arg3 harg3 arg4 harg4 arg5 harg5 arg20 x0 x1 x2 x3) (fun r c => T.aa (24 + r) c) :=
  A_v513 h

theorem B_v515 (h : In T i x0 x1 x2 x3 x4 x5 x6 x7 x8 x9 x10 x11) (hO : H2 (φ := .f32) xo13 O) :
    H2 (φ := .f32) (kernelRun0_B.sl.v515 (F := Ideal) c arg15 harg15 xo13) (fun r c => O (23 + r) c) :=
  hO.load

theorem B_pc_23 (h : In T i x0 x1 x2 x3 x4 x5 x6 x7 x8 x9 x10 x11) (hO : H2 (φ := .f32) xo13 O) :
    H2 (n := 1) (φ := .f32) (k0_pay77 (kernelRun0_B.sl.v494 (F := Ideal) c arg6 harg6 arg8 harg8 arg11 harg11 arg12 harg12 arg13 harg13 arg23 x4 x6 x9 x10 x11) (kernelRun0_B.sl.v513 (F := Ideal) c i arg2 harg2 arg3 harg3 arg4 harg4 arg5 harg5 arg20 x0 x1 x2 x3) (kernelRun0_B.sl.v515 (F := Ideal) c arg15 harg15 xo13)) (fun r => T.upd (O) (23 + r)) :=
  (pay77 (B_v494 h) (B_v513 h) (B_v515 h hO)).congr fun r hr => by
    obtain rfl : r = 0 := by omega
    exact funext fun c => Tile.sum_shift (O := O) (R := 23) (b := 24) (s := 1) (by omega) (by omega) (by omega)

theorem B_r_42 (h : In T i x0 x1 x2 x3 x4 x5 x6 x7 x8 x9 x10 x11) :
    H2 (φ := .f32) (kernelRun0_B.sl.r_42 (F := Ideal) c i arg2 harg2 arg3 harg3 arg4 harg4 arg5 harg5 arg6 harg6 arg8 harg8 arg11 harg11 arg12 harg12 arg13 harg13 arg20 arg23 x0 x1 x2 x3 x4 x6 x9 x10 x11) (fun r c => (T.sd 2 (0 + r) c * T.aa (0 + r) c)) :=
  A_r_42 h

theorem B_v535 (h : In T i x0 x1 x2 x3 x4 x5 x6 x7 x8 x9 x10 x11) (hO : H2 (φ := .f32) xo13 O) :
    H2 (φ := .f32) (kernelRun0_B.sl.v535 (F := Ideal) c arg15 harg15 xo13) (fun r c => O (0 + r) c) :=
  hO.load

theorem B_pc_0 (h : In T i x0 x1 x2 x3 x4 x5 x6 x7 x8 x9 x10 x11) (hO : H2 (φ := .f32) xo13 O) :
    H2 (n := 1) (φ := .f32) (k0_pay82 (kernelRun0_B.sl.r_42 (F := Ideal) c i arg2 harg2 arg3 harg3 arg4 harg4 arg5 harg5 arg6 harg6 arg8 harg8 arg11 harg11 arg12 harg12 arg13 harg13 arg20 arg23 x0 x1 x2 x3 x4 x6 x9 x10 x11) (kernelRun0_B.sl.v535 (F := Ideal) c arg15 harg15 xo13)) (fun r => T.upd (O) (0 + r)) :=
  (pay82 (B_r_42 h) (B_v535 h hO)).congr fun r hr => by
    obtain rfl : r = 0 := by omega
    exact funext fun c => Tile.sum_shift (O := O) (R := 0) (b := 0) (s := 2) (by omega) (by omega) (by omega)

theorem B_v532 (h : In T i x0 x1 x2 x3 x4 x5 x6 x7 x8 x9 x10 x11) :
    H2 (φ := .f32) (kernelRun0_B.sl.v532 (F := Ideal) c arg6 harg6 arg8 harg8 arg11 harg11 arg12 harg12 arg13 harg13 arg23 x4 x6 x9 x10 x11) (fun r c => T.sd 2 (0 + r) c) :=
  A_v532 h

theorem B_v544 (h : In T i x0 x1 x2 x3 x4 x5 x6 x7 x8 x9 x10 x11) (hO : H2 (φ := .f32) xo13 O) :
    H2 (φ := .f32) (kernelRun0_B.sl.v544 (F := Ideal) c arg15 harg15 xo13) (fun r c => O (8 + r) c) :=
  hO.load

theorem B_pc_8 (h : In T i x0 x1 x2 x3 x4 x5 x6 x7 x8 x9 x10 x11) (hO : H2 (φ := .f32) xo13 O) :
    H2 (n := 1) (φ := .f32) (k0_pay83 (kernelRun0_B.sl.v532 (F := Ideal) c arg6 harg6 arg8 harg8 arg11 harg11 arg12 harg12 arg13 harg13 arg23 x4 x6 x9 x10 x11) (kernelRun0_B.sl.v495 (F := Ideal) c i arg2 harg2 arg3 harg3 arg4 harg4 arg5 harg5 arg20 x0 x1 x2 x3) (kernelRun0_B.sl.v544 (F := Ideal) c arg15 harg15 xo13)) (fun r => T.upd (O) (8 + r)) :=
  (pay83 (B_v532 h) (B_v495 h) (B_v544 h hO)).congr fun r hr => by
    obtain rfl : r = 0 := by omega
    exact funext fun c => Tile.sum_shift (O := O) (R := 8) (b := 8) (s := 2) (by omega) (by omega) (by omega)

theorem B_v504 (h : In T i x0 x1 x2 x3 x4 x5 x6 x7 x8 x9 x10 x11) :
    H2 (φ := .f32) (kernelRun0_B.sl.v504 (F := Ideal) c i arg2 harg2 arg3 harg3 arg4 harg4 arg5 harg5 arg20 x0 x1 x2 x3) (fun r c => T.aa (16 + r) c) :=
  A_v504 h

theorem B_v553 (h : In T i x0 x1 x2 x3 x4 x5 x6 x7 x8 x9 x10 x11) (hO : H2 (φ := .f32) xo13 O) :
    H2 (φ := .f32) (kernelRun0_B.sl.v553 (F := Ideal) c arg15 harg15 xo13) (fun r c => O (16 + r) c) :=
  hO.load

theorem B_pc_16 (h : In T i x0 x1 x2 x3 x4 x5 x6 x7 x8 x9 x10 x11) (hO : H2 (φ := .f32) xo13 O) :
    H2 (n := 1) (φ := .f32) (k0_pay84 (kernelRun0_B.sl.v532 (F := Ideal) c arg6 harg6 arg8 harg8 arg11 harg11 arg12 harg12 arg13 harg13 arg23 x4 x6 x9 x10 x11) (kernelRun0_B.sl.v504 (F := Ideal) c i arg2 harg2 arg3 harg3 arg4 harg4 arg5 harg5 arg20 x0 x1 x2 x3) (kernelRun0_B.sl.v553 (F := Ideal) c arg15 harg15 xo13)) (fun r => T.upd (O) (16 + r)) :=
  (pay84 (B_v532 h) (B_v504 h) (B_v553 h hO)).congr fun r hr => by
    obtain rfl : r = 0 := by omega
    exact funext fun c => Tile.sum_shift (O := O) (R := 16) (b := 16) (s := 2) (by omega) (by omega) (by omega)

theorem B_r_43 (h : In T i x0 x1 x2 x3 x4 x5 x6 x7 x8 x9 x10 x11) :
    H2 (φ := .f32) (kernelRun0_B.sl.r_43 (F := Ideal) c i arg2 harg2 arg3 harg3 arg4 harg4 arg5 harg5 arg6 harg6 arg8 harg8 arg11 harg11 arg12 harg12 arg13 harg13 arg20 arg23 x0 x1 x2 x3 x4 x6 x9 x10 x11) (fun r c => (T.sd 2 (0 + r) c * T.aa (24 + r) c)) :=
  A_r_43 h

theorem B_v562 (h : In T i x0 x1 x2 x3 x4 x5 x6 x7 x8 x9 x10 x11) (hO : H2 (φ := .f32) xo13 O) :
    H2 (φ := .f32) (kernelRun0_B.sl.v562 (F := Ideal) c arg15 harg15 xo13) (fun r c => O (24 + r) c) :=
  hO.load

theorem B_pc_24 (h : In T i x0 x1 x2 x3 x4 x5 x6 x7 x8 x9 x10 x11) (hO : H2 (φ := .f32) xo13 O) :
    H2 (n := 1) (φ := .f32) (k0_pay86 (kernelRun0_B.sl.r_43 (F := Ideal) c i arg2 harg2 arg3 harg3 arg4 harg4 arg5 harg5 arg6 harg6 arg8 harg8 arg11 harg11 arg12 harg12 arg13 harg13 arg20 arg23 x0 x1 x2 x3 x4 x6 x9 x10 x11) (kernelRun0_B.sl.v562 (F := Ideal) c arg15 harg15 xo13)) (fun r => T.upd (O) (24 + r)) :=
  (pay86 (B_r_43 h) (B_v562 h hO)).congr fun r hr => by
    obtain rfl : r = 0 := by omega
    exact funext fun c => Tile.sum_shift (O := O) (R := 24) (b := 24) (s := 2) (by omega) (by omega) (by omega)

theorem B_v579 (h : In T i x0 x1 x2 x3 x4 x5 x6 x7 x8 x9 x10 x11) :
    H2 (φ := .f32) (kernelRun0_B.sl.v579 (F := Ideal) c arg6 harg6 arg8 harg8 arg11 harg11 arg12 harg12 arg13 harg13 arg23 x4 x6 x9 x10 x11) (fun r c => T.sd 3 (0 + r) c) :=
  A_v579 h

theorem B_v533 (h : In T i x0 x1 x2 x3 x4 x5 x6 x7 x8 x9 x10 x11) :
    H2 (φ := .f32) (kernelRun0_B.sl.v533 (F := Ideal) c i arg2 harg2 arg3 harg3 arg4 harg4 arg5 harg5 arg20 x0 x1 x2 x3) (fun r c => T.aa (0 + r) c) :=
  A_v533 h

theorem B_v582 (h : In T i x0 x1 x2 x3 x4 x5 x6 x7 x8 x9 x10 x11) (hO : H2 (φ := .f32) xo13 O) :
    H2 (φ := .f32) (kernelRun0_B.sl.v582 (F := Ideal) c arg15 harg15 xo13) (fun r c => O (1 + r) c) :=
  hO.load

theorem B_pc_1 (h : In T i x0 x1 x2 x3 x4 x5 x6 x7 x8 x9 x10 x11) (hO : H2 (φ := .f32) xo13 O) :
    H2 (n := 1) (φ := .f32) (k0_pay90 (kernelRun0_B.sl.v579 (F := Ideal) c arg6 harg6 arg8 harg8 arg11 harg11 arg12 harg12 arg13 harg13 arg23 x4 x6 x9 x10 x11) (kernelRun0_B.sl.v533 (F := Ideal) c i arg2 harg2 arg3 harg3 arg4 harg4 arg5 harg5 arg20 x0 x1 x2 x3) (kernelRun0_B.sl.v582 (F := Ideal) c arg15 harg15 xo13)) (fun r => T.upd (O) (1 + r)) :=
  (pay90 (B_v579 h) (B_v533 h) (B_v582 h hO)).congr fun r hr => by
    obtain rfl : r = 0 := by omega
    exact funext fun c => Tile.sum_shift (O := O) (R := 1) (b := 0) (s := 3) (by omega) (by omega) (by omega)

theorem B_r_44 (h : In T i x0 x1 x2 x3 x4 x5 x6 x7 x8 x9 x10 x11) :
    H2 (φ := .f32) (kernelRun0_B.sl.r_44 (F := Ideal) c i arg2 harg2 arg3 harg3 arg4 harg4 arg5 harg5 arg6 harg6 arg8 harg8 arg11 harg11 arg12 harg12 arg13 harg13 arg20 arg23 x0 x1 x2 x3 x4 x6 x9 x10 x11) (fun r c => (T.sd 3 (0 + r) c * T.aa (8 + r) c)) :=
  A_r_44 h

theorem B_v591 (h : In T i x0 x1 x2 x3 x4 x5 x6 x7 x8 x9 x10 x11) (hO : H2 (φ := .f32) xo13 O) :
    H2 (φ := .f32) (kernelRun0_B.sl.v591 (F := Ideal) c arg15 harg15 xo13) (fun r c => O (9 + r) c) :=
  hO.load

theorem B_pc_9 (h : In T i x0 x1 x2 x3 x4 x5 x6 x7 x8 x9 x10 x11) (hO : H2 (φ := .f32) xo13 O) :
    H2 (n := 1) (φ := .f32) (k0_pay92 (kernelRun0_B.sl.r_44 (F := Ideal) c i arg2 harg2 arg3 harg3 arg4 harg4 arg5 harg5 arg6 harg6 arg8 harg8 arg11 harg11 arg12 harg12 arg13 harg13 arg20 arg23 x0 x1 x2 x3 x4 x6 x9 x10 x11) (kernelRun0_B.sl.v591 (F := Ideal) c arg15 harg15 xo13)) (fun r => T.upd (O) (9 + r)) :=
  (pay92 (B_r_44 h) (B_v591 h hO)).congr fun r hr => by
    obtain rfl : r = 0 := by omega
    exact funext fun c => Tile.sum_shift (O := O) (R := 9) (b := 8) (s := 3) (by omega) (by omega) (by omega)

theorem B_v600 (h : In T i x0 x1 x2 x3 x4 x5 x6 x7 x8 x9 x10 x11) (hO : H2 (φ := .f32) xo13 O) :
    H2 (φ := .f32) (kernelRun0_B.sl.v600 (F := Ideal) c arg15 harg15 xo13) (fun r c => O (17 + r) c) :=
  hO.load

theorem B_pc_17 (h : In T i x0 x1 x2 x3 x4 x5 x6 x7 x8 x9 x10 x11) (hO : H2 (φ := .f32) xo13 O) :
    H2 (n := 1) (φ := .f32) (k0_pay93 (kernelRun0_B.sl.v579 (F := Ideal) c arg6 harg6 arg8 harg8 arg11 harg11 arg12 harg12 arg13 harg13 arg23 x4 x6 x9 x10 x11) (kernelRun0_B.sl.v504 (F := Ideal) c i arg2 harg2 arg3 harg3 arg4 harg4 arg5 harg5 arg20 x0 x1 x2 x3) (kernelRun0_B.sl.v600 (F := Ideal) c arg15 harg15 xo13)) (fun r => T.upd (O) (17 + r)) :=
  (pay93 (B_v579 h) (B_v504 h) (B_v600 h hO)).congr fun r hr => by
    obtain rfl : r = 0 := by omega
    exact funext fun c => Tile.sum_shift (O := O) (R := 17) (b := 16) (s := 3) (by omega) (by omega) (by omega)

theorem B_v609 (h : In T i x0 x1 x2 x3 x4 x5 x6 x7 x8 x9 x10 x11) (hO : H2 (φ := .f32) xo13 O) :
    H2 (φ := .f32) (kernelRun0_B.sl.v609 (F := Ideal) c arg15 harg15 xo13) (fun r c => O (25 + r) c) :=
  hO.load

theorem B_pc_25 (h : In T i x0 x1 x2 x3 x4 x5 x6 x7 x8 x9 x10 x11) (hO : H2 (φ := .f32) xo13 O) :
    H2 (n := 1) (φ := .f32) (k0_pay94 (kernelRun0_B.sl.v579 (F := Ideal) c arg6 harg6 arg8 harg8 arg11 harg11 arg12 harg12 arg13 harg13 arg23 x4 x6 x9 x10 x11) (kernelRun0_B.sl.v513 (F := Ideal) c i arg2 harg2 arg3 harg3 arg4 harg4 arg5 harg5 arg20 x0 x1 x2 x3) (kernelRun0_B.sl.v609 (F := Ideal) c arg15 harg15 xo13)) (fun r => T.upd (O) (25 + r)) :=
  (pay94 (B_v579 h) (B_v513 h) (B_v609 h hO)).congr fun r hr => by
    obtain rfl : r = 0 := by omega
    exact funext fun c => Tile.sum_shift (O := O) (R := 25) (b := 24) (s := 3) (by omega) (by omega) (by omega)

theorem B_v626 (h : In T i x0 x1 x2 x3 x4 x5 x6 x7 x8 x9 x10 x11) :
    H2 (φ := .f32) (kernelRun0_B.sl.v626 (F := Ideal) c arg6 harg6 arg8 harg8 arg11 harg11 arg12 harg12 arg13 harg13 arg23 x4 x6 x9 x10 x11) (fun r c => T.sd 4 (0 + r) c) :=
  A_v626 h

theorem B_v629 (h : In T i x0 x1 x2 x3 x4 x5 x6 x7 x8 x9 x10 x11) (hO : H2 (φ := .f32) xo13 O) :
    H2 (φ := .f32) (kernelRun0_B.sl.v629 (F := Ideal) c arg15 harg15 xo13) (fun r c => O (2 + r) c) :=
  hO.load

theorem B_pc_2 (h : In T i x0 x1 x2 x3 x4 x5 x6 x7 x8 x9 x10 x11) (hO : H2 (φ := .f32) xo13 O) :
    H2 (n := 1) (φ := .f32) (k0_pay99 (kernelRun0_B.sl.v626 (F := Ideal) c arg6 harg6 arg8 harg8 arg11 harg11 arg12 harg12 arg13 harg13 arg23 x4 x6 x9 x10 x11) (kernelRun0_B.sl.v533 (F := Ideal) c i arg2 harg2 arg3 harg3 arg4 harg4 arg5 harg5 arg20 x0 x1 x2 x3) (kernelRun0_B.sl.v629 (F := Ideal) c arg15 harg15 xo13)) (fun r => T.upd (O) (2 + r)) :=
  (pay99 (B_v626 h) (B_v533 h) (B_v629 h hO)).congr fun r hr => by
    obtain rfl : r = 0 := by omega
    exact funext fun c => Tile.sum_shift (O := O) (R := 2) (b := 0) (s := 4) (by omega) (by omega) (by omega)

theorem B_v638 (h : In T i x0 x1 x2 x3 x4 x5 x6 x7 x8 x9 x10 x11) (hO : H2 (φ := .f32) xo13 O) :
    H2 (φ := .f32) (kernelRun0_B.sl.v638 (F := Ideal) c arg15 harg15 xo13) (fun r c => O (10 + r) c) :=
  hO.load

theorem B_pc_10 (h : In T i x0 x1 x2 x3 x4 x5 x6 x7 x8 x9 x10 x11) (hO : H2 (φ := .f32) xo13 O) :
    H2 (n := 1) (φ := .f32) (k0_pay100 (kernelRun0_B.sl.v626 (F := Ideal) c arg6 harg6 arg8 harg8 arg11 harg11 arg12 harg12 arg13 harg13 arg23 x4 x6 x9 x10 x11) (kernelRun0_B.sl.v495 (F := Ideal) c i arg2 harg2 arg3 harg3 arg4 harg4 arg5 harg5 arg20 x0 x1 x2 x3) (kernelRun0_B.sl.v638 (F := Ideal) c arg15 harg15 xo13)) (fun r => T.upd (O) (10 + r)) :=
  (pay100 (B_v626 h) (B_v495 h) (B_v638 h hO)).congr fun r hr => by
    obtain rfl : r = 0 := by omega
    exact funext fun c => Tile.sum_shift (O := O) (R := 10) (b := 8) (s := 4) (by omega) (by omega) (by omega)

theorem B_v647 (h : In T i x0 x1 x2 x3 x4 x5 x6 x7 x8 x9 x10 x11) (hO : H2 (φ := .f32) xo13 O) :
    H2 (φ := .f32) (kernelRun0_B.sl.v647 (F := Ideal) c arg15 harg15 xo13) (fun r c => O (18 + r) c) :=
  hO.load

theorem B_r_45 (h : In T i x0 x1 x2 x3 x4 x5 x6 x7 x8 x9 x10 x11) (hO : H2 (φ := .f32) xo13 O) :
    H2 (φ := .f32) (kernelRun0_B.sl.r_45 (F := Ideal) c arg15 harg15 xo13) (fun r c => O (18 + r) c) :=
  pay101 (B_v647 h hO)

theorem B_r_46 (h : In T i x0 x1 x2 x3 x4 x5 x6 x7 x8 x9 x10 x11) :
    HV (φ := .f32) (kernelRun0_B.sl.r_46 (F := Ideal) c i arg2 harg2 arg3 harg3 arg4 harg4 arg5 harg5 arg6 harg6 arg8 harg8 arg11 harg11 arg12 harg12 arg13 harg13 arg20 arg23 x0 x1 x2 x3 x4 x6 x9 x10 x11) (fun c => (∑ k22 : Fin 264, (T.sd 4 (0 + k22.val) c * T.aa (16 + k22.val) c))) :=
  A_r_46 h

theorem B_pc_18 (h : In T i x0 x1 x2 x3 x4 x5 x6 x7 x8 x9 x10 x11) (hO : H2 (φ := .f32) xo13 O) :
    H2 (n := 1) (φ := .f32) (k0_pay103 (kernelRun0_B.sl.r_45 (F := Ideal) c arg15 harg15 xo13) (kernelRun0_B.sl.r_46 (F := Ideal) c i arg2 harg2 arg3 harg3 arg4 harg4 arg5 harg5 arg6 harg6 arg8 harg8 arg11 harg11 arg12 harg12 arg13 harg13 arg20 arg23 x0 x1 x2 x3 x4 x6 x9 x10 x11)) (fun r => T.upd (O) (18 + r)) :=
  (pay103 (B_r_45 h hO) (B_r_46 h)).congr fun r hr => by
    obtain rfl : r = 0 := by omega
    exact funext fun c => Tile.sum_shift (O := O) (R := 18) (b := 16) (s := 4) (by omega) (by omega) (by omega)

theorem B_v656 (h : In T i x0 x1 x2 x3 x4 x5 x6 x7 x8 x9 x10 x11) (hO : H2 (φ := .f32) xo13 O) :
    H2 (φ := .f32) (kernelRun0_B.sl.v656 (F := Ideal) c arg15 harg15 xo13) (fun r c => O (26 + r) c) :=
  hO.load

theorem B_pc_26 (h : In T i x0 x1 x2 x3 x4 x5 x6 x7 x8 x9 x10 x11) (hO : H2 (φ := .f32) xo13 O) :
    H2 (n := 1) (φ := .f32) (k0_pay104 (kernelRun0_B.sl.v626 (F := Ideal) c arg6 harg6 arg8 harg8 arg11 harg11 arg12 harg12 arg13 harg13 arg23 x4 x6 x9 x10 x11) (kernelRun0_B.sl.v513 (F := Ideal) c i arg2 harg2 arg3 harg3 arg4 harg4 arg5 harg5 arg20 x0 x1 x2 x3) (kernelRun0_B.sl.v656 (F := Ideal) c arg15 harg15 xo13)) (fun r => T.upd (O) (26 + r)) :=
  (pay104 (B_v626 h) (B_v513 h) (B_v656 h hO)).congr fun r hr => by
    obtain rfl : r = 0 := by omega
    exact funext fun c => Tile.sum_shift (O := O) (R := 26) (b := 24) (s := 4) (by omega) (by omega) (by omega)

theorem B_v676 (h : In T i x0 x1 x2 x3 x4 x5 x6 x7 x8 x9 x10 x11) (hO : H2 (φ := .f32) xo13 O) :
    H2 (φ := .f32) (kernelRun0_B.sl.v676 (F := Ideal) c arg15 harg15 xo13) (fun r c => O (3 + r) c) :=
  hO.load

theorem B_r_47 (h : In T i x0 x1 x2 x3 x4 x5 x6 x7 x8 x9 x10 x11) (hO : H2 (φ := .f32) xo13 O) :
    H2 (φ := .f32) (kernelRun0_B.sl.r_47 (F := Ideal) c arg15 harg15 xo13) (fun r c => O (3 + r) c) :=
  pay108 (B_v676 h hO)

theorem B_r_48 (h : In T i x0 x1 x2 x3 x4 x5 x6 x7 x8 x9 x10 x11) :
    HV (φ := .f32) (kernelRun0_B.sl.r_48 (F := Ideal) c i arg2 harg2 arg3 harg3 arg4 harg4 arg5 harg5 arg6 harg6 arg8 harg8 arg11 harg11 arg12 harg12 arg13 harg13 arg20 arg23 x0 x1 x2 x3 x4 x6 x9 x10 x11) (fun c => (∑ k24 : Fin 264, (T.sd 5 (0 + k24.val) c * T.aa (0 + k24.val) c))) :=
  A_r_48 h

theorem B_pc_3 (h : In T i x0 x1 x2 x3 x4 x5 x6 x7 x8 x9 x10 x11) (hO : H2 (φ := .f32) xo13 O) :
    H2 (n := 1) (φ := .f32) (k0_pay110 (kernelRun0_B.sl.r_47 (F := Ideal) c arg15 harg15 xo13) (kernelRun0_B.sl.r_48 (F := Ideal) c i arg2 harg2 arg3 harg3 arg4 harg4 arg5 harg5 arg6 harg6 arg8 harg8 arg11 harg11 arg12 harg12 arg13 harg13 arg20 arg23 x0 x1 x2 x3 x4 x6 x9 x10 x11)) (fun r => T.upd (O) (3 + r)) :=
  (pay110 (B_r_47 h hO) (B_r_48 h)).congr fun r hr => by
    obtain rfl : r = 0 := by omega
    exact funext fun c => Tile.sum_shift (O := O) (R := 3) (b := 0) (s := 5) (by omega) (by omega) (by omega)

theorem B_v673 (h : In T i x0 x1 x2 x3 x4 x5 x6 x7 x8 x9 x10 x11) :
    H2 (φ := .f32) (kernelRun0_B.sl.v673 (F := Ideal) c arg6 harg6 arg8 harg8 arg11 harg11 arg12 harg12 arg13 harg13 arg23 x4 x6 x9 x10 x11) (fun r c => T.sd 5 (0 + r) c) :=
  A_v673 h

theorem B_v685 (h : In T i x0 x1 x2 x3 x4 x5 x6 x7 x8 x9 x10 x11) (hO : H2 (φ := .f32) xo13 O) :
    H2 (φ := .f32) (kernelRun0_B.sl.v685 (F := Ideal) c arg15 harg15 xo13) (fun r c => O (11 + r) c) :=
  hO.load

theorem B_pc_11 (h : In T i x0 x1 x2 x3 x4 x5 x6 x7 x8 x9 x10 x11) (hO : H2 (φ := .f32) xo13 O) :
    H2 (n := 1) (φ := .f32) (k0_pay111 (kernelRun0_B.sl.v673 (F := Ideal) c arg6 harg6 arg8 harg8 arg11 harg11 arg12 harg12 arg13 harg13 arg23 x4 x6 x9 x10 x11) (kernelRun0_B.sl.v495 (F := Ideal) c i arg2 harg2 arg3 harg3 arg4 harg4 arg5 harg5 arg20 x0 x1 x2 x3) (kernelRun0_B.sl.v685 (F := Ideal) c arg15 harg15 xo13)) (fun r => T.upd (O) (11 + r)) :=
  (pay111 (B_v673 h) (B_v495 h) (B_v685 h hO)).congr fun r hr => by
    obtain rfl : r = 0 := by omega
    exact funext fun c => Tile.sum_shift (O := O) (R := 11) (b := 8) (s := 5) (by omega) (by omega) (by omega)

theorem B_v694 (h : In T i x0 x1 x2 x3 x4 x5 x6 x7 x8 x9 x10 x11) (hO : H2 (φ := .f32) xo13 O) :
    H2 (φ := .f32) (kernelRun0_B.sl.v694 (F := Ideal) c arg15 harg15 xo13) (fun r c => O (19 + r) c) :=
  hO.load

theorem B_pc_19 (h : In T i x0 x1 x2 x3 x4 x5 x6 x7 x8 x9 x10 x11) (hO : H2 (φ := .f32) xo13 O) :
    H2 (n := 1) (φ := .f32) (k0_pay112 (kernelRun0_B.sl.v673 (F := Ideal) c arg6 harg6 arg8 harg8 arg11 harg11 arg12 harg12 arg13 harg13 arg23 x4 x6 x9 x10 x11) (kernelRun0_B.sl.v504 (F := Ideal) c i arg2 harg2 arg3 harg3 arg4 harg4 arg5 harg5 arg20 x0 x1 x2 x3) (kernelRun0_B.sl.v694 (F := Ideal) c arg15 harg15 xo13)) (fun r => T.upd (O) (19 + r)) :=
  (pay112 (B_v673 h) (B_v504 h) (B_v694 h hO)).congr fun r hr => by
    obtain rfl : r = 0 := by omega
    exact funext fun c => Tile.sum_shift (O := O) (R := 19) (b := 16) (s := 5) (by omega) (by omega) (by omega)

theorem B_v703 (h : In T i x0 x1 x2 x3 x4 x5 x6 x7 x8 x9 x10 x11) (hO : H2 (φ := .f32) xo13 O) :
    H2 (φ := .f32) (kernelRun0_B.sl.v703 (F := Ideal) c arg15 harg15 xo13) (fun r c => O (27 + r) c) :=
  hO.load

theorem B_r_49 (h : In T i x0 x1 x2 x3 x4 x5 x6 x7 x8 x9 x10 x11) (hO : H2 (φ := .f32) xo13 O) :
    H2 (φ := .f32) (kernelRun0_B.sl.r_49 (F := Ideal) c i arg2 harg2 arg3 harg3 arg4 harg4 arg5 harg5 arg6 harg6 arg8 harg8 arg11 harg11 arg12 harg12 arg13 harg13 arg15 harg15 arg20 arg23 x0 x1 x2 x3 x4 x6 x9 x10 x11 xo13) (fun r c => (O (27 + r) c + (∑ k27 : Fin 264, (T.sd 5 (0 + k27.val) c * T.aa (24 + k27.val) c)))) :=
  pay113 (B_v673 h) (B_v513 h) (B_v703 h hO)

theorem B_pc_27 (h : In T i x0 x1 x2 x3 x4 x5 x6 x7 x8 x9 x10 x11) (hO : H2 (φ := .f32) xo13 O) :
    H2 (n := 1) (φ := .f32) (kernelRun0_B.sl.r_49 (F := Ideal) c i arg2 harg2 arg3 harg3 arg4 harg4 arg5 harg5 arg6 harg6 arg8 harg8 arg11 harg11 arg12 harg12 arg13 harg13 arg15 harg15 arg20 arg23 x0 x1 x2 x3 x4 x6 x9 x10 x11 xo13) (fun r => T.upd (O) (27 + r)) :=
  (B_r_49 h hO).congr fun r hr => by
    obtain rfl : r = 0 := by omega
    exact funext fun c => Tile.sum_shift (O := O) (R := 27) (b := 24) (s := 5) (by omega) (by omega) (by omega)

theorem B_v720 (h : In T i x0 x1 x2 x3 x4 x5 x6 x7 x8 x9 x10 x11) :
    H2 (φ := .f32) (kernelRun0_B.sl.v720 (F := Ideal) c arg6 harg6 arg8 harg8 arg11 harg11 arg12 harg12 arg13 harg13 arg23 x4 x6 x9 x10 x11) (fun r c => T.sd 6 (0 + r) c) :=
  A_v720 h

theorem B_v723 (h : In T i x0 x1 x2 x3 x4 x5 x6 x7 x8 x9 x10 x11) (hO : H2 (φ := .f32) xo13 O) :
    H2 (φ := .f32) (kernelRun0_B.sl.v723 (F := Ideal) c arg15 harg15 xo13) (fun r c => O (4 + r) c) :=
  hO.load

theorem B_pc_4 (h : In T i x0 x1 x2 x3 x4 x5 x6 x7 x8 x9 x10 x11) (hO : H2 (φ := .f32) xo13 O) :
    H2 (n := 1) (φ := .f32) (k0_pay117 (kernelRun0_B.sl.v720 (F := Ideal) c arg6 harg6 arg8 harg8 arg11 harg11 arg12 harg12 arg13 harg13 arg23 x4 x6 x9 x10 x11) (kernelRun0_B.sl.v533 (F := Ideal) c i arg2 harg2 arg3 harg3 arg4 harg4 arg5 harg5 arg20 x0 x1 x2 x3) (kernelRun0_B.sl.v723 (F := Ideal) c arg15 harg15 xo13)) (fun r => T.upd (O) (4 + r)) :=
  (pay117 (B_v720 h) (B_v533 h) (B_v723 h hO)).congr fun r hr => by
    obtain rfl : r = 0 := by omega
    exact funext fun c => Tile.sum_shift (O := O) (R := 4) (b := 0) (s := 6) (by omega) (by omega) (by omega)

theorem B_v732 (h : In T i x0 x1 x2 x3 x4 x5 x6 x7 x8 x9 x10 x11) (hO : H2 (φ := .f32) xo13 O) :
    H2 (φ := .f32) (kernelRun0_B.sl.v732 (F := Ideal) c arg15 harg15 xo13) (fun r c => O (12 + r) c) :=
  hO.load

theorem B_r_50 (h : In T i x0 x1 x2 x3 x4 x5 x6 x7 x8 x9 x10 x11) (hO : H2 (φ := .f32) xo13 O) :
    H2 (φ := .f32) (kernelRun0_B.sl.r_50 (F := Ideal) c i arg2 harg2 arg3 harg3 arg4 harg4 arg5 harg5 arg6 harg6 arg8 harg8 arg11 harg11 arg12 harg12 arg13 harg13 arg15 harg15 arg20 arg23 x0 x1 x2 x3 x4 x6 x9 x10 x11 xo13) (fun r c => (O (12 + r) c + (∑ k29 : Fin 264, (T.sd 6 (0 + k29.val) c * T.aa (8 + k29.val) c)))) :=
  pay118 (B_v720 h) (B_v495 h) (B_v732 h hO)

theorem B_pc_12 (h : In T i x0 x1 x2 x3 x4 x5 x6 x7 x8 x9 x10 x11) (hO : H2 (φ := .f32) xo13 O) :
    H2 (n := 1) (φ := .f32) (kernelRun0_B.sl.r_50 (F := Ideal) c i arg2 harg2 arg3 harg3 arg4 harg4 arg5 harg5 arg6 harg6 arg8 harg8 arg11 harg11 arg12 harg12 arg13 harg13 arg15 harg15 arg20 arg23 x0 x1 x2 x3 x4 x6 x9 x10 x11 xo13) (fun r => T.upd (O) (12 + r)) :=
  (B_r_50 h hO).congr fun r hr => by
    obtain rfl : r = 0 := by omega
    exact funext fun c => Tile.sum_shift (O := O) (R := 12) (b := 8) (s := 6) (by omega) (by omega) (by omega)

theorem B_v741 (h : In T i x0 x1 x2 x3 x4 x5 x6 x7 x8 x9 x10 x11) (hO : H2 (φ := .f32) xo13 O) :
    H2 (φ := .f32) (kernelRun0_B.sl.v741 (F := Ideal) c arg15 harg15 xo13) (fun r c => O (20 + r) c) :=
  hO.load

theorem B_pc_20 (h : In T i x0 x1 x2 x3 x4 x5 x6 x7 x8 x9 x10 x11) (hO : H2 (φ := .f32) xo13 O) :
    H2 (n := 1) (φ := .f32) (k0_pay119 (kernelRun0_B.sl.v720 (F := Ideal) c arg6 harg6 arg8 harg8 arg11 harg11 arg12 harg12 arg13 harg13 arg23 x4 x6 x9 x10 x11) (kernelRun0_B.sl.v504 (F := Ideal) c i arg2 harg2 arg3 harg3 arg4 harg4 arg5 harg5 arg20 x0 x1 x2 x3) (kernelRun0_B.sl.v741 (F := Ideal) c arg15 harg15 xo13)) (fun r => T.upd (O) (20 + r)) :=
  (pay119 (B_v720 h) (B_v504 h) (B_v741 h hO)).congr fun r hr => by
    obtain rfl : r = 0 := by omega
    exact funext fun c => Tile.sum_shift (O := O) (R := 20) (b := 16) (s := 6) (by omega) (by omega) (by omega)

theorem B_v750 (h : In T i x0 x1 x2 x3 x4 x5 x6 x7 x8 x9 x10 x11) (hO : H2 (φ := .f32) xo13 O) :
    H2 (φ := .f32) (kernelRun0_B.sl.v750 (F := Ideal) c arg15 harg15 xo13) (fun r c => O (28 + r) c) :=
  hO.load

theorem B_pc_28 (h : In T i x0 x1 x2 x3 x4 x5 x6 x7 x8 x9 x10 x11) (hO : H2 (φ := .f32) xo13 O) :
    H2 (n := 1) (φ := .f32) (k0_pay120 (kernelRun0_B.sl.v720 (F := Ideal) c arg6 harg6 arg8 harg8 arg11 harg11 arg12 harg12 arg13 harg13 arg23 x4 x6 x9 x10 x11) (kernelRun0_B.sl.v513 (F := Ideal) c i arg2 harg2 arg3 harg3 arg4 harg4 arg5 harg5 arg20 x0 x1 x2 x3) (kernelRun0_B.sl.v750 (F := Ideal) c arg15 harg15 xo13)) (fun r => T.upd (O) (28 + r)) :=
  (pay120 (B_v720 h) (B_v513 h) (B_v750 h hO)).congr fun r hr => by
    obtain rfl : r = 0 := by omega
    exact funext fun c => Tile.sum_shift (O := O) (R := 28) (b := 24) (s := 6) (by omega) (by omega) (by omega)

theorem B_v767 (h : In T i x0 x1 x2 x3 x4 x5 x6 x7 x8 x9 x10 x11) :
    H2 (φ := .f32) (kernelRun0_B.sl.v767 (F := Ideal) c arg6 harg6 arg8 harg8 arg11 harg11 arg12 harg12 arg13 harg13 arg23 x4 x6 x9 x10 x11) (fun r c => T.sd 7 (0 + r) c) :=
  A_v767 h

theorem B_v770 (h : In T i x0 x1 x2 x3 x4 x5 x6 x7 x8 x9 x10 x11) (hO : H2 (φ := .f32) xo13 O) :
    H2 (φ := .f32) (kernelRun0_B.sl.v770 (F := Ideal) c arg15 harg15 xo13) (fun r c => O (5 + r) c) :=
  hO.load

theorem B_pc_5 (h : In T i x0 x1 x2 x3 x4 x5 x6 x7 x8 x9 x10 x11) (hO : H2 (φ := .f32) xo13 O) :
    H2 (n := 1) (φ := .f32) (k0_pay124 (kernelRun0_B.sl.v767 (F := Ideal) c arg6 harg6 arg8 harg8 arg11 harg11 arg12 harg12 arg13 harg13 arg23 x4 x6 x9 x10 x11) (kernelRun0_B.sl.v533 (F := Ideal) c i arg2 harg2 arg3 harg3 arg4 harg4 arg5 harg5 arg20 x0 x1 x2 x3) (kernelRun0_B.sl.v770 (F := Ideal) c arg15 harg15 xo13)) (fun r => T.upd (O) (5 + r)) :=
  (pay124 (B_v767 h) (B_v533 h) (B_v770 h hO)).congr fun r hr => by
    obtain rfl : r = 0 := by omega
    exact funext fun c => Tile.sum_shift (O := O) (R := 5) (b := 0) (s := 7) (by omega) (by omega) (by omega)

theorem B_v779 (h : In T i x0 x1 x2 x3 x4 x5 x6 x7 x8 x9 x10 x11) (hO : H2 (φ := .f32) xo13 O) :
    H2 (φ := .f32) (kernelRun0_B.sl.v779 (F := Ideal) c arg15 harg15 xo13) (fun r c => O (13 + r) c) :=
  hO.load

theorem B_pc_13 (h : In T i x0 x1 x2 x3 x4 x5 x6 x7 x8 x9 x10 x11) (hO : H2 (φ := .f32) xo13 O) :
    H2 (n := 1) (φ := .f32) (k0_pay125 (kernelRun0_B.sl.v767 (F := Ideal) c arg6 harg6 arg8 harg8 arg11 harg11 arg12 harg12 arg13 harg13 arg23 x4 x6 x9 x10 x11) (kernelRun0_B.sl.v495 (F := Ideal) c i arg2 harg2 arg3 harg3 arg4 harg4 arg5 harg5 arg20 x0 x1 x2 x3) (kernelRun0_B.sl.v779 (F := Ideal) c arg15 harg15 xo13)) (fun r => T.upd (O) (13 + r)) :=
  (pay125 (B_v767 h) (B_v495 h) (B_v779 h hO)).congr fun r hr => by
    obtain rfl : r = 0 := by omega
    exact funext fun c => Tile.sum_shift (O := O) (R := 13) (b := 8) (s := 7) (by omega) (by omega) (by omega)

theorem B_v788 (h : In T i x0 x1 x2 x3 x4 x5 x6 x7 x8 x9 x10 x11) (hO : H2 (φ := .f32) xo13 O) :
    H2 (φ := .f32) (kernelRun0_B.sl.v788 (F := Ideal) c arg15 harg15 xo13) (fun r c => O (21 + r) c) :=
  hO.load

theorem B_pc_21 (h : In T i x0 x1 x2 x3 x4 x5 x6 x7 x8 x9 x10 x11) (hO : H2 (φ := .f32) xo13 O) :
    H2 (n := 1) (φ := .f32) (k0_pay126 (kernelRun0_B.sl.v767 (F := Ideal) c arg6 harg6 arg8 harg8 arg11 harg11 arg12 harg12 arg13 harg13 arg23 x4 x6 x9 x10 x11) (kernelRun0_B.sl.v504 (F := Ideal) c i arg2 harg2 arg3 harg3 arg4 harg4 arg5 harg5 arg20 x0 x1 x2 x3) (kernelRun0_B.sl.v788 (F := Ideal) c arg15 harg15 xo13)) (fun r => T.upd (O) (21 + r)) :=
  (pay126 (B_v767 h) (B_v504 h) (B_v788 h hO)).congr fun r hr => by
    obtain rfl : r = 0 := by omega
    exact funext fun c => Tile.sum_shift (O := O) (R := 21) (b := 16) (s := 7) (by omega) (by omega) (by omega)

end Cert.ConvBwd

end
-- ==== Proof.ConvOut.lean ====
/-
  The rows that one grid point leaves in its outputs.
-/
module

public import proofs.«01_k».proof.Proof.ConvAccB

@[expose] public section

set_option maxRecDepth 16384

noncomputable section

namespace Cert.ConvBwd

open Idealize.ShloMosaic Idealize.ShloMosaic.TcCoe Cert.KernelIdeal Cert.KernelIdeal.Gen Cert.Row
open Idealize.ShloMosaic.ValueIdx hiding ix1 ix2 ix3 ix4

namespace Tile

variable (T : Tile)

/-- The gradient of the gated values on the tile's rows. -/
def da (n : ℕ) : Row := fun c => ∑ k : Fin 31, T.w k.val c * T.dd (n + 30 - k.val) c
/-- The gradients of value and gate, side by side. -/
def o12 (n : ℕ) (q : Fin 1024) : ℝ :=
  if h : q.val < 512 then T.da n ⟨q.val, h⟩ * sigm (T.G n ⟨q.val, h⟩)
  else T.da n ⟨q.val - 512, by omega⟩ * T.V n ⟨q.val - 512, by omega⟩ * sigm (T.G n ⟨q.val - 512, by omega⟩) *
    (1 - sigm (T.G n ⟨q.val - 512, by omega⟩))

variable {T}

theorem da_eq (r : ℕ) (c : Fin 512) : (((((((((((((((((T.w (30 + 0) c * T.dd (0 + r) c) + (T.w (22 + 0) c * T.dd (8 + r) c)) + (T.w (14 + 0) c * T.dd (16 + r) c)) + (T.w (6 + 0) c * T.dd (24 + r) c))) + ((((((T.w (29 + 0) c * T.dd (0 + (1 + r)) c) + (T.w (21 + 0) c * T.dd (8 + (1 + r)) c))) + (T.w (13 + 0) c * T.dd (16 + (1 + r)) c)) + (T.w (5 + 0) c * T.dd (24 + (1 + r)) c))))) + ((((((T.w (28 + 0) c * T.dd (0 + (2 + r)) c) + (T.w (20 + 0) c * T.dd (8 + (2 + r)) c)) + (T.w (12 + 0) c * T.dd (16 + (2 + r)) c))) + (T.w (4 + 0) c * T.dd (24 + (2 + r)) c))))) + (((((T.w (27 + 0) c * T.dd (0 + (3 + r)) c) + (T.w (19 + 0) c * T.dd (8 + (3 + r)) c)) + (T.w (11 + 0) c * T.dd (16 + (3 + r)) c)) + (T.w (3 + 0) c * T.dd (24 + (3 + r)) c)))) + (((((T.w (26 + 0) c * T.dd (0 + (4 + r)) c) + (T.w (18 + 0) c * T.dd (8 + (4 + r)) c)) + (T.w (10 + 0) c * T.dd (16 + (4 + r)) c)) + (T.w (2 + 0) c * T.dd (24 + (4 + r)) c))))) + ((((((T.w (25 + 0) c * T.dd (0 + (5 + r)) c)) + (T.w (17 + 0) c * T.dd (8 + (5 + r)) c)) + (T.w (9 + 0) c * T.dd (16 + (5 + r)) c)) + (T.w (1 + 0) c * T.dd (24 + (5 + r)) c))))) + ((((((T.w (24 + 0) c * T.dd (0 + (6 + r)) c) + (T.w (16 + 0) c * T.dd (8 + (6 + r)) c))) + (T.w (8 + 0) c * T.dd (16 + (6 + r)) c)) + (T.w (0 + 0) c * T.dd (24 + (6 + r)) c))))) + (((((T.w (23 + 0) c * T.dd (0 + (7 + r)) c) + (T.w (15 + 0) c * T.dd (8 + (7 + r)) c)) + (T.w (7 + 0) c * T.dd (16 + (7 + r)) c))))) = T.da r c := by
  have e : T.da r c = ∑ m ∈ Finset.range 31, T.w (30 - m) c * T.dd (m + r) c := by
    show (∑ k : Fin 31, T.w k.val c * T.dd (r + 30 - k.val) c) = _
    rw [Fin.sum_univ_eq_sum_range (fun k => T.w k c * T.dd (r + 30 - k) c) 31, ← Finset.sum_range_reflect]
    refine Finset.sum_congr rfl fun m hm => ?_
    have hm := Finset.mem_range.mp hm
    rw [show r + 30 - (31 - 1 - m) = m + r by omega]
  rw [e]
  simp only [Finset.sum_range_succ, Finset.sum_range_zero, Nat.reduceSub, Nat.reduceAdd, zero_add, add_zero, ← Nat.add_assoc]
  ring

theorem tile_out {v19 v450 : FVec Ideal S256x512 .f32} {v803 : FVec Ideal S1x256x512 .f32} (h19 : H2 (φ := .f32) v19 fun r c => sigm (T.G r c))
    (h450 : H2 (φ := .f32) v450 T.da) (h803 : H3 (φ := .f32) v803 T.V) (y : S1x256x1024.Idx) :
    (k0_pay1 (F := Ideal) (k0_pay128 v19 v450 v803) y : EReal) = ((T.o12 (y 1).val ⟨(y 2).val, (y 2).isLt⟩ : ℝ) : EReal) := by
  refine (shapeCast_apply (s := S256x1024) (k0_pay128 (F := Ideal) v19 v450 v803) _ y (ix2 (n0 := 256) (n1 := 1024) ⟨(y 1).val, (y 1).isLt⟩ ⟨(y 2).val, (y 2).isLt⟩) (by
    have h0 : (y 0).val = 0 := by have := (y 0).isLt; simpa using this
    rw [Shape.rowMajor_val_three, Shape.rowMajor_val_two]; simp [h0])).trans ?_
  have hA := H2.mul h450 h19
  have hB := H2.mul (H2.mul (H2.mul h450 (h803.drop (h := shapeCasts_S1x256x512_S256x512))) h19) (H2.sub (H2.const one_lit) h19)
  let j : S256x1024.Idx := ix2 (n0 := 256) (n1 := 1024) ⟨(y 1).val, (y 1).isLt⟩ ⟨(y 2).val, (y 2).isLt⟩
  by_cases h : (y 2).val < 512
  · refine Eq.trans ?_ (congrArg _ (dif_pos h).symm)
    exact (concatenate_pair_apply_left (t := S256x1024) (s₁ := S256x512) (s₂ := S256x512) (1 : Fin 2) _ _
      concatenates_S256x512_S256x512_S256x1024_d1 j rfl (ix2 (n0 := 256) (n1 := 512) ⟨(y 1).val, (y 1).isLt⟩ ⟨(y 2).val, h⟩)
      (fun b => match b with | 0 => rfl | 1 => rfl)).trans (hA _)
  · refine Eq.trans ?_ (congrArg _ (dif_neg h).symm)
    have h2 : (y 2).val < 1024 := (y 2).isLt
    exact (concatenate_pair_apply_right (t := S256x1024) (s₁ := S256x512) (s₂ := S256x512) (1 : Fin 2) _ _
      concatenates_S256x512_S256x512_S256x1024_d1 j rfl rfl (ix2 (n0 := 256) (n1 := 512) ⟨(y 1).val, (y 1).isLt⟩ ⟨(y 2).val - 512, by omega⟩)
      (fun b hb => match b, hb with | 0, _ => rfl | 1, hb => absurd rfl hb)
      (by show (y 2).val - 512 + 512 = (y 2).val; omega)).trans (hB _)

end Tile

/-- A whole block written once. -/
theorem canon_tile {w : FVec Ideal S1x256x1024 .bf16} {inb : ∀ a, (![0, 0, 0] : Fin 3 → Nat) a + S1x256x1024.size a ≤ S1x256x1024.size a}
    {L : List (View.Piece (Elt Ideal) S1x256x1024 .bf16)} (y : S1x256x1024.Idx) :
    View.canon (⟨Rect.unit ![0, 0, 0] S1x256x1024.size inb, w⟩ :: L) y = w y := by
  rw [View.canon_cons_unit_zero (by funext a; fin_cases a <;> rfl)]

theorem Row.whole {n : ℕ} {g : FVec Ideal (Mat n) .f32} {X : ℕ → Row} {P : ℕ → Prop} (h : HR g X P) (hP : ∀ k, k < n → P k) : H2 (φ := .f32) g X :=
  fun y => h y (hP _ (y 0).isLt)

end Cert.ConvBwd

end
-- ==== Proof.ConvModel.lean ====
/-
  The mathematics of the whole call over the real numbers, and what the tile of one grid point is in it.
-/
module

public import proofs.«01_k».proof.Proof.ConvOut

@[expose] public section

set_option maxRecDepth 16384

noncomputable section

namespace Cert.ConvBwd

open Idealize.ShloMosaic Cert.Row

/-- The real arguments, by batch row and position: value, gate, arriving gradient (all zero past the end), the taps (zero past
the last), the bias and the three parameter rows. -/
structure Model where
  (V G D : ℕ → ℕ → Row) (w : ℕ → Row) (bias lg lb og : Row)
  (V_end : ∀ b n, 4096 ≤ n → V b n = fun _ => 0)

namespace Model

variable (M : Model)

/-- Gated values, zero past the end. -/
def A (b n : ℕ) : Row := fun c => M.V b n c * sigm (M.G b n c)
/-- … moved down by thirty rows of zeros. -/
def Ap (b n : ℕ) : Row := fun c => if n < 30 then 0 else M.A b (n - 30) c
/-- The convolution. -/
def CV (b t : ℕ) : Row := fun c => (∑ k : Fin 31, M.w k.val c * M.Ap b (t + k.val) c) + M.bias c
/-- The gradient of the convolution's output, zero past the end. -/
def DC (b t : ℕ) : Row := if t < 4096 then dcv (M.CV b t) M.lg M.lb M.og (M.D b t) else fun _ => 0
/-- The gradient of the gated values. -/
def DA (b t : ℕ) : Row := fun c => ∑ k : Fin 31, M.w k.val c * M.DC b (t + 30 - k.val) c
/-- The gradients of value and gate, side by side. -/
def O12 (b t : ℕ) (q : Fin 1024) : ℝ :=
  if h : q.val < 512 then M.DA b t ⟨q.val, h⟩ * sigm (M.G b t ⟨q.val, h⟩)
  else M.DA b t ⟨q.val - 512, by omega⟩ * M.V b t ⟨q.val - 512, by omega⟩ * sigm (M.G b t ⟨q.val - 512, by omega⟩) *
    (1 - sigm (M.G b t ⟨q.val - 512, by omega⟩))
/-- A row summed over every position of both batch rows. -/
def total (f : ℕ → ℕ → Row) : Row := fun c => ∑ b : Fin 2, ∑ t : Fin 4096, f b.val t.val c
/-- The taps' gradient; the row past the last tap is zero. -/
def DW (k : ℕ) : Row := if k < 31 then total fun b t c => M.DC b t c * M.Ap b (t + k) c else fun _ => 0
/-- The summands of the parameter rows' gradients. -/
def dlgAt (b t : ℕ) : Row := fun c => dlay (M.CV b t) M.lg M.lb M.og (M.D b t) c * nrm (M.CV b t) c
def dlbAt (b t : ℕ) : Row := fun c => dlay (M.CV b t) M.lg M.lb M.og (M.D b t) c
def dogAt (b t : ℕ) : Row := fun c => M.D b t c * sh (M.CV b t) M.lg M.lb c

/-- The tile of grid point `(b, j)`. -/
def tile (b j : ℕ) : Tile where
  V := fun n => M.V b (256 * j + n)
  G := fun n => M.G b (256 * j + n)
  HV := fun n => M.V b (32 * (8 * j - 1) + n)
  HG := fun n => M.G b (32 * (8 * j - 1) + n)
  C := fun n => M.CV b (256 * j + n)
  D := fun n => M.D b (256 * j + n)
  CX := fun n => M.CV b (32 * min (8 * (j + 1)) 127 + n)
  DX := fun n => M.D b (32 * min (8 * (j + 1)) 127 + n)
  w := M.w
  lg := M.lg
  lb := M.lb
  og := M.og
  kp := if j = 0 then 0 else 1
  kn := if j < 15 then 1 else 0

end Model

theorem dcv_zero (x lg lb og : Row) : (dcv x lg lb og fun _ => 0) = fun _ => 0 := by
  funext c
  simp [dcv, dnrm, dlay, dsil, dsh, mean]

namespace Model

variable {M : Model}

theorem tile_aa {b j n : ℕ} (hn : n < 288) (h2 : 2 ≤ n) (c : Fin 512) : (M.tile b j).aa n c = M.Ap b (256 * j + (n - 2)) c := by
  show (if n < 32 then (if j = 0 then (0 : ℝ) else 1) * M.V b (32 * (8 * j - 1) + n) c * sigm (M.G b (32 * (8 * j - 1) + n) c)
    else M.V b (256 * j + (n - 32)) c * sigm (M.G b (256 * j + (n - 32)) c)) = if 256 * j + (n - 2) < 30 then 0 else
      M.V b (256 * j + (n - 2) - 30) c * sigm (M.G b (256 * j + (n - 2) - 30) c)
  by_cases h : n < 32
  · rw [if_pos h]
    by_cases hj : j = 0
    · rw [if_pos hj, if_pos (by omega)]; ring
    · rw [if_neg hj, if_neg (by omega), one_mul, show 256 * j + (n - 2) - 30 = 32 * (8 * j - 1) + n by omega]
  · rw [if_neg h, if_neg (by omega), show 256 * j + (n - 2) - 30 = 256 * j + (n - 32) by omega]

theorem tile_dd {b j n : ℕ} (hj : j < 16) (hn : n < 288) : (M.tile b j).dd n = M.DC b (256 * j + n) := by
  show (if n < 256 then dcv (M.CV b (256 * j + n)) M.lg M.lb M.og (M.D b (256 * j + n)) else
    dcv (M.CV b (32 * min (8 * (j + 1)) 127 + (n - 256))) M.lg M.lb M.og
      (fun c => (if j < 15 then (1 : ℝ) else 0) * M.D b (32 * min (8 * (j + 1)) 127 + (n - 256)) c)) = if 256 * j + n < 4096 then _ else _
  by_cases h : n < 256
  · rw [if_pos h, if_pos (by omega)]
  · rw [if_neg h]
    by_cases hj' : j < 15
    · rw [if_pos (by omega : 256 * j + n < 4096), if_pos hj']
      rw [show 32 * min (8 * (j + 1)) 127 + (n - 256) = 256 * j + n by omega]
      simp only [one_mul]
    · rw [if_neg (by omega : ¬ 256 * j + n < 4096), if_neg hj']
      simp only [zero_mul]
      exact dcv_zero _ _ _ _

theorem tile_da {b j n : ℕ} (hj : j < 16) (hn : n < 256) (c : Fin 512) : (M.tile b j).da n c = M.DA b (256 * j + n) c := by
  unfold Tile.da DA
  refine Finset.sum_congr rfl fun k _ => ?_
  have hk := k.isLt
  rw [tile_dd hj (by omega), show 256 * j + (n + 30 - k.val) = 256 * j + n + 30 - k.val by omega]
  rfl

theorem tile_o12 {b j n : ℕ} (hj : j < 16) (hn : n < 256) (q : Fin 1024) : (M.tile b j).o12 n q = M.O12 b (256 * j + n) q := by
  unfold Tile.o12 O12
  simp only [tile_da hj hn]
  rfl

theorem tile_acc {b j k : ℕ} (hj : j < 16) (hk : k < 31) (c : Fin 512) :
    (M.tile b j).acc k c = ∑ m : Fin 256, M.DC b (256 * j + m.val) c * M.Ap b (256 * j + m.val + k) c := by
  unfold Tile.acc
  refine Finset.sum_congr rfl fun m _ => ?_
  have hm := m.isLt
  rw [tile_dd hj (by omega), tile_aa (by omega) (by omega), show 256 * j + (k + 2 + m.val - 2) = 256 * j + m.val + k by omega]

/-- A sum over the thirty-two grid points of sums over a tile's rows, as a sum over the positions of both batch rows. -/
theorem sum_points (f : ℕ → ℕ → ℝ) :
    ∑ t : Fin 32, ∑ m : Fin 256, f (t.val / 16) (256 * (t.val % 16) + m.val) = ∑ b : Fin 2, ∑ t : Fin 4096, f b.val t.val := by
  have inner (b : ℕ) : ∑ t : Fin 4096, f b t.val = ∑ j : Fin 16, ∑ m : Fin 256, f b (256 * j.val + m.val) := by
    rw [← Fintype.sum_prod_type' (f := fun (j : Fin 16) (m : Fin 256) => f b (256 * j.val + m.val)),
      ← (finProdFinEquiv (m := 16) (n := 256)).sum_comp (fun t : Fin (16 * 256) => f b t.val)]
    refine Finset.sum_congr rfl fun x _ => ?_
    show f b (x.2.val + 256 * x.1.val) = _
    rw [Nat.add_comm]
  simp only [inner]
  rw [← Fintype.sum_prod_type' (f := fun (b : Fin 2) (j : Fin 16) => ∑ m : Fin 256, f b.val (256 * j.val + m.val)),
    ← (finProdFinEquiv (m := 2) (n := 16)).sum_comp (fun t : Fin (2 * 16) => ∑ m : Fin 256, f (t.val / 16) (256 * (t.val % 16) + m.val))]
  refine Finset.sum_congr rfl fun x _ => ?_
  have h2 := x.2.isLt
  show ∑ m : Fin 256, f ((x.2.val + 16 * x.1.val) / 16) (256 * ((x.2.val + 16 * x.1.val) % 16) + m.val) = _
  rw [show (x.2.val + 16 * x.1.val) / 16 = x.1.val by omega, show (x.2.val + 16 * x.1.val) % 16 = x.2.val by omega]

end Model

end Cert.ConvBwd

end
-- ==== Proof.ConvEntry.lean ====
module

public import proofs.«01_k».proof.Proof.Gen.KernelIdeal.Value
public import proofs.«01_k».proof.Proof.Gen.ReferenceIdeal.Read
public import proofs.«01_k».proof.Proof.ConvModel
public import Idealize.ShloMosaic.Lib.Pipeline.ValueKit
public import Idealize.ShloMosaic.Lib.StableHlo.RunRead

/-! What the host lines before the region leave in the two buffers the region reads beside the arguments: the value of the
    convolution, which is the reference's own stage, and the kernel weights padded to 32 rows. -/

@[expose] public section
set_option maxRecDepth 16384
noncomputable section
namespace Cert.KernelIdeal.Value
open Idealize.ShloMosaic Idealize.ShloMosaic.TcCoe Idealize.SL.Sem
open Cert.KernelIdeal Cert.KernelIdeal.Gen
open Cert.ReferenceIdeal.Read (val_main_v11 val_main_v12 val_main_v13 val_main_v77 val_main_v78 val_main_v86)
variable (m : (ℓ : Loc nD τ sig) → Buf (Elt Ideal) ℓ)

/-- The contents of device `c` after the first `n` host lines. -/
abbrev U (c : Dev nD) (n : ℕ) := StableHlo.upto [hostOps0 (F := Ideal), hostOps0_1].flatten (fun b => m (c, b)) n

/-- The argument that holds the value and gate channels. -/
abbrev X1 (c : Dev nD) := m ((c : Thread nD τ).loc main_arg1)

theorem u_pad (c : Dev nD) : (U m c 13 (Proc.tc.devRef main_v9) : FVec Ideal S2x30x512 .f32) = val_main_v12 := by
  after_reads_simp
  rfl

theorem u_act (c : Dev nD) : (U m c 13 (Proc.tc.devRef main_v8) : FVec Ideal S2x4096x512 .f32) = val_main_v11 (X1 m c) := by
  after_reads_simp
  rfl

/-- Two arrays joined along an axis: equal parts give equal wholes. -/
theorem cat_pair {s t r : Shape} {d : ℕ} {a a' : FVec Ideal s .f32} {b b' : FVec Ideal t .f32} (hd : d < r.rank) (h)
    (ha : a = a') (hb : b = b') : concatenate (α := Ideal .f32) r ⟨d, hd⟩ [⟨s, a⟩, ⟨t, b⟩] h = concatenate r ⟨d, hd⟩ [⟨s, a'⟩, ⟨t, b'⟩] h := by
  subst ha hb; rfl

/-- The activations with 30 rows of zeros before them, in the kernel's lines and in the reference. -/
theorem u_glue (c : Dev nD) : concatenate (α := Ideal .f32) S2x4126x512 1
    [⟨S2x30x512, U m c 13 (Proc.tc.devRef main_v9)⟩, ⟨S2x4096x512, U m c 13 (Proc.tc.devRef main_v8)⟩]
    concatenates_S2x30x512_S2x4096x512_S2x4126x512_d1 = val_main_v13 (X1 m c) :=
  cat_pair (a := U m c 13 (Proc.tc.devRef main_v9)) (b := U m c 13 (Proc.tc.devRef main_v8)) (by decide) _ (u_pad m c) (u_act m c)

/-- The first sixteen shifted copies of the glued rows. -/
theorem u_taps_lo (c : Dev nD) : (U m c 76 (Proc.tc.devRef main_v42) : FVec Ideal S1x2x4096x512 .f32) = Cert.ReferenceIdeal.Read.val_main_v46 (F := Ideal) (X1 m c)
    ∧ (U m c 76 (Proc.tc.devRef main_v43) : FVec Ideal S1x2x4096x512 .f32) = Cert.ReferenceIdeal.Read.val_main_v47 (F := Ideal) (X1 m c)
    ∧ (U m c 76 (Proc.tc.devRef main_v44) : FVec Ideal S1x2x4096x512 .f32) = Cert.ReferenceIdeal.Read.val_main_v48 (F := Ideal) (X1 m c)
    ∧ (U m c 76 (Proc.tc.devRef main_v45) : FVec Ideal S1x2x4096x512 .f32) = Cert.ReferenceIdeal.Read.val_main_v49 (F := Ideal) (X1 m c)
    ∧ (U m c 76 (Proc.tc.devRef main_v46) : FVec Ideal S1x2x4096x512 .f32) = Cert.ReferenceIdeal.Read.val_main_v50 (F := Ideal) (X1 m c)
    ∧ (U m c 76 (Proc.tc.devRef main_v47) : FVec Ideal S1x2x4096x512 .f32) = Cert.ReferenceIdeal.Read.val_main_v51 (F := Ideal) (X1 m c)
    ∧ (U m c 76 (Proc.tc.devRef main_v48) : FVec Ideal S1x2x4096x512 .f32) = Cert.ReferenceIdeal.Read.val_main_v52 (F := Ideal) (X1 m c)
    ∧ (U m c 76 (Proc.tc.devRef main_v49) : FVec Ideal S1x2x4096x512 .f32) = Cert.ReferenceIdeal.Read.val_main_v53 (F := Ideal) (X1 m c)
    ∧ (U m c 76 (Proc.tc.devRef main_v50) : FVec Ideal S1x2x4096x512 .f32) = Cert.ReferenceIdeal.Read.val_main_v54 (F := Ideal) (X1 m c)
    ∧ (U m c 76 (Proc.tc.devRef main_v51) : FVec Ideal S1x2x4096x512 .f32) = Cert.ReferenceIdeal.Read.val_main_v55 (F := Ideal) (X1 m c)
    ∧ (U m c 76 (Proc.tc.devRef main_v52) : FVec Ideal S1x2x4096x512 .f32) = Cert.ReferenceIdeal.Read.val_main_v56 (F := Ideal) (X1 m c)
    ∧ (U m c 76 (Proc.tc.devRef main_v53) : FVec Ideal S1x2x4096x512 .f32) = Cert.ReferenceIdeal.Read.val_main_v57 (F := Ideal) (X1 m c)
    ∧ (U m c 76 (Proc.tc.devRef main_v54) : FVec Ideal S1x2x4096x512 .f32) = Cert.ReferenceIdeal.Read.val_main_v58 (F := Ideal) (X1 m c)
    ∧ (U m c 76 (Proc.tc.devRef main_v55) : FVec Ideal S1x2x4096x512 .f32) = Cert.ReferenceIdeal.Read.val_main_v59 (F := Ideal) (X1 m c)
    ∧ (U m c 76 (Proc.tc.devRef main_v56) : FVec Ideal S1x2x4096x512 .f32) = Cert.ReferenceIdeal.Read.val_main_v60 (F := Ideal) (X1 m c)
    ∧ (U m c 76 (Proc.tc.devRef main_v57) : FVec Ideal S1x2x4096x512 .f32) = Cert.ReferenceIdeal.Read.val_main_v61 (F := Ideal) (X1 m c) := by
  refine ⟨?_, ?_, ?_, ?_, ?_, ?_, ?_, ?_, ?_, ?_, ?_, ?_, ?_, ?_, ?_, ?_⟩ <;>
  · after_reads_simp
    rw [u_glue]
    rfl

/-- The other fifteen. -/
theorem u_taps_hi (c : Dev nD) : (U m c 77 (Proc.tc.devRef main_v58) : FVec Ideal S1x2x4096x512 .f32) = Cert.ReferenceIdeal.Read.val_main_v62 (F := Ideal) (X1 m c)
    ∧ (U m c 77 (Proc.tc.devRef main_v59) : FVec Ideal S1x2x4096x512 .f32) = Cert.ReferenceIdeal.Read.val_main_v63 (F := Ideal) (X1 m c)
    ∧ (U m c 77 (Proc.tc.devRef main_v60) : FVec Ideal S1x2x4096x512 .f32) = Cert.ReferenceIdeal.Read.val_main_v64 (F := Ideal) (X1 m c)
    ∧ (U m c 77 (Proc.tc.devRef main_v61) : FVec Ideal S1x2x4096x512 .f32) = Cert.ReferenceIdeal.Read.val_main_v65 (F := Ideal) (X1 m c)
    ∧ (U m c 77 (Proc.tc.devRef main_v62) : FVec Ideal S1x2x4096x512 .f32) = Cert.ReferenceIdeal.Read.val_main_v66 (F := Ideal) (X1 m c)
    ∧ (U m c 77 (Proc.tc.devRef main_v63) : FVec Ideal S1x2x4096x512 .f32) = Cert.ReferenceIdeal.Read.val_main_v67 (F := Ideal) (X1 m c)
    ∧ (U m c 77 (Proc.tc.devRef main_v64) : FVec Ideal S1x2x4096x512 .f32) = Cert.ReferenceIdeal.Read.val_main_v68 (F := Ideal) (X1 m c)
    ∧ (U m c 77 (Proc.tc.devRef main_v65) : FVec Ideal S1x2x4096x512 .f32) = Cert.ReferenceIdeal.Read.val_main_v69 (F := Ideal) (X1 m c)
    ∧ (U m c 77 (Proc.tc.devRef main_v66) : FVec Ideal S1x2x4096x512 .f32) = Cert.ReferenceIdeal.Read.val_main_v70 (F := Ideal) (X1 m c)
    ∧ (U m c 77 (Proc.tc.devRef main_v67) : FVec Ideal S1x2x4096x512 .f32) = Cert.ReferenceIdeal.Read.val_main_v71 (F := Ideal) (X1 m c)
    ∧ (U m c 77 (Proc.tc.devRef main_v68) : FVec Ideal S1x2x4096x512 .f32) = Cert.ReferenceIdeal.Read.val_main_v72 (F := Ideal) (X1 m c)
    ∧ (U m c 77 (Proc.tc.devRef main_v69) : FVec Ideal S1x2x4096x512 .f32) = Cert.ReferenceIdeal.Read.val_main_v73 (F := Ideal) (X1 m c)
    ∧ (U m c 77 (Proc.tc.devRef main_v70) : FVec Ideal S1x2x4096x512 .f32) = Cert.ReferenceIdeal.Read.val_main_v74 (F := Ideal) (X1 m c)
    ∧ (U m c 77 (Proc.tc.devRef main_v71) : FVec Ideal S1x2x4096x512 .f32) = Cert.ReferenceIdeal.Read.val_main_v75 (F := Ideal) (X1 m c)
    ∧ (U m c 77 (Proc.tc.devRef main_v72) : FVec Ideal S1x2x4096x512 .f32) = Cert.ReferenceIdeal.Read.val_main_v76 (F := Ideal) (X1 m c) := by
  refine ⟨?_, ?_, ?_, ?_, ?_, ?_, ?_, ?_, ?_, ?_, ?_, ?_, ?_, ?_, ?_⟩ <;>
  · after_reads_simp
    rw [u_glue]
    rfl

/-- The same for 16 arrays. -/
theorem cat_16 {s r : Shape} {d : ℕ} {a0 a1 a2 a3 a4 a5 a6 a7 a8 a9 a10 a11 a12 a13 a14 a15 b0 b1 b2 b3 b4 b5 b6 b7 b8 b9 b10 b11 b12 b13 b14 b15 : FVec Ideal s .f32} (hd : d < r.rank) (h)
    (e : a0 = b0 ∧ a1 = b1 ∧ a2 = b2 ∧ a3 = b3 ∧ a4 = b4 ∧ a5 = b5 ∧ a6 = b6 ∧ a7 = b7 ∧ a8 = b8 ∧ a9 = b9 ∧ a10 = b10 ∧ a11 = b11 ∧ a12 = b12 ∧ a13 = b13 ∧ a14 = b14 ∧ a15 = b15) :
    concatenate (α := Ideal .f32) r ⟨d, hd⟩ [⟨s, a0⟩, ⟨s, a1⟩, ⟨s, a2⟩, ⟨s, a3⟩, ⟨s, a4⟩, ⟨s, a5⟩, ⟨s, a6⟩, ⟨s, a7⟩, ⟨s, a8⟩, ⟨s, a9⟩, ⟨s, a10⟩, ⟨s, a11⟩, ⟨s, a12⟩, ⟨s, a13⟩, ⟨s, a14⟩, ⟨s, a15⟩] h
      = concatenate r ⟨d, hd⟩ [⟨s, b0⟩, ⟨s, b1⟩, ⟨s, b2⟩, ⟨s, b3⟩, ⟨s, b4⟩, ⟨s, b5⟩, ⟨s, b6⟩, ⟨s, b7⟩, ⟨s, b8⟩, ⟨s, b9⟩, ⟨s, b10⟩, ⟨s, b11⟩, ⟨s, b12⟩, ⟨s, b13⟩, ⟨s, b14⟩, ⟨s, b15⟩] h := by
  obtain ⟨rfl, rfl, rfl, rfl, rfl, rfl, rfl, rfl, rfl, rfl, rfl, rfl, rfl, rfl, rfl, rfl⟩ := e; rfl

/-- The same for 15 arrays. -/
theorem cat_15 {s r : Shape} {d : ℕ} {a0 a1 a2 a3 a4 a5 a6 a7 a8 a9 a10 a11 a12 a13 a14 b0 b1 b2 b3 b4 b5 b6 b7 b8 b9 b10 b11 b12 b13 b14 : FVec Ideal s .f32} (hd : d < r.rank) (h)
    (e : a0 = b0 ∧ a1 = b1 ∧ a2 = b2 ∧ a3 = b3 ∧ a4 = b4 ∧ a5 = b5 ∧ a6 = b6 ∧ a7 = b7 ∧ a8 = b8 ∧ a9 = b9 ∧ a10 = b10 ∧ a11 = b11 ∧ a12 = b12 ∧ a13 = b13 ∧ a14 = b14) :
    concatenate (α := Ideal .f32) r ⟨d, hd⟩ [⟨s, a0⟩, ⟨s, a1⟩, ⟨s, a2⟩, ⟨s, a3⟩, ⟨s, a4⟩, ⟨s, a5⟩, ⟨s, a6⟩, ⟨s, a7⟩, ⟨s, a8⟩, ⟨s, a9⟩, ⟨s, a10⟩, ⟨s, a11⟩, ⟨s, a12⟩, ⟨s, a13⟩, ⟨s, a14⟩] h
      = concatenate r ⟨d, hd⟩ [⟨s, b0⟩, ⟨s, b1⟩, ⟨s, b2⟩, ⟨s, b3⟩, ⟨s, b4⟩, ⟨s, b5⟩, ⟨s, b6⟩, ⟨s, b7⟩, ⟨s, b8⟩, ⟨s, b9⟩, ⟨s, b10⟩, ⟨s, b11⟩, ⟨s, b12⟩, ⟨s, b13⟩, ⟨s, b14⟩] h := by
  obtain ⟨rfl, rfl, rfl, rfl, rfl, rfl, rfl, rfl, rfl, rfl, rfl, rfl, rfl, rfl, rfl⟩ := e; rfl

theorem u_stack_lo (c : Dev nD) : (U m c 78 (Proc.tc.devRef main_v73) : FVec Ideal S16x2x4096x512 .f32) = val_main_v77 (X1 m c) := by
  after_reads_simp
  exact cat_16 (by decide) _ (u_taps_lo m c)

theorem u_stack_hi (c : Dev nD) : (U m c 78 (Proc.tc.devRef main_v74) : FVec Ideal S15x2x4096x512 .f32) = val_main_v78 (X1 m c) := by
  after_reads_simp
  exact cat_15 (by decide) _ (u_taps_hi m c)

/-- The convolution the region reads is the reference's stage. -/
theorem cv_entry (c : Dev nD) : (V m c main_v82 : FVec Ideal S2x4096x512 .f32)
    = val_main_v86 (X1 m c) (m ((c : Thread nD τ).loc main_arg2)) (m ((c : Thread nD τ).loc main_arg3)) := by
  unfold V
  after_reads_simp
  have e := cat_pair (r := S31x2x4096x512) (d := 0) (by decide) concatenates_S16x2x4096x512_S15x2x4096x512_S31x2x4096x512_d0 (u_stack_lo m c) (u_stack_hi m c)
  refine (congrArg (fun x => addf (F := Ideal) (φ := .f32) (Host.reduceAdd
        (mulf x _) _ reducesTo_S31x2x4096x512_S2x4096x512_d0 h_S_) _) e).trans ?_
  rfl

/-- The weights the region reads are the argument's 31 rows over one row of zeros. -/
theorem w_entry (c : Dev nD) : (V m c main_v83 : FVec Ideal S32x512 .f32)
    = pad (α := Ideal .f32) S32x512 ![0, 0] ![1, 0] ![0, 0] (show FVec Ideal S31x512 .f32 from m ((c : Thread nD τ).loc main_arg2))
        (show FVec Ideal S_ .f32 from sitofp .f32 (constantI S_ 32 0#32)) pads_S31x512_S32x512_010_000 h_S_ := by
  unfold V
  after_reads_simp
  rfl

end Cert.KernelIdeal.Value
end
end
-- ==== Proof.ConvArgs.lean ====
/-
  The call's seven arguments as arrays of real numbers.
-/
module

public import proofs.«01_k».proof.Proof.ConvModel
public import Idealize.ShloMosaic.Lib.KernelVsHost

@[expose] public section

noncomputable section

namespace Cert.ConvBwd

open Idealize.ShloMosaic Cert.Row

/-- The seven arguments hold the model's numbers. Each entry is named by its coordinates' values. -/
structure Args (M : Model) (x0 : FVec Ideal ⟨3, ![2, 4096, 1024]⟩ .f32) (x1 : FVec Ideal ⟨3, ![2, 4096, 1536]⟩ .f32) (x2 : FVec Ideal ⟨2, ![31, 512]⟩ .f32)
    (x3 x4 x5 x6 : FVec Ideal ⟨2, ![1, 512]⟩ .f32) : Prop where
  d (i) (b n : ℕ) (q : Fin 512) : (i 0).val = b → (i 1).val = n → (i 2).val = q.val → x0 i = ((M.D b n q : ℝ) : EReal)
  v (i) (b n : ℕ) (q : Fin 512) : (i 0).val = b → (i 1).val = n → (i 2).val = q.val → x1 i = ((M.V b n q : ℝ) : EReal)
  g (i) (b n : ℕ) (q : Fin 512) : (i 0).val = b → (i 1).val = n → (i 2).val = 512 + q.val → x1 i = ((M.G b n q : ℝ) : EReal)
  w (i) : x2 i = ((M.w (i 0).val (i 1) : ℝ) : EReal)
  w_end (k) : 31 ≤ k → M.w k = fun _ => 0
  bias (i) : x3 i = ((M.bias (i 1) : ℝ) : EReal)
  lg (i) : x4 i = ((M.lg (i 1) : ℝ) : EReal)
  lb (i) : x5 i = ((M.lb (i 1) : ℝ) : EReal)
  og (i) : x6 i = ((M.og (i 1) : ℝ) : EReal)

/-- An array over batch row, position and channel that holds the rows `X`. -/
def F3 {φ : FTy} (x : FVec Ideal ⟨3, ![2, 4096, 512]⟩ φ) (X : ℕ → ℕ → Row) : Prop :=
  ∀ i : (⟨3, ![2, 4096, 512]⟩ : Shape).Idx, x i = ((X (i 0).val (i 1).val (i 2) : ℝ) : EReal)

theorem F3.at {φ : FTy} {x : FVec Ideal ⟨3, ![2, 4096, 512]⟩ φ} {X : ℕ → ℕ → Row} (h : F3 x X) (i : (⟨3, ![2, 4096, 512]⟩ : Shape).Idx) (b n : ℕ) (q : Fin 512)
    (h0 : (i 0).val = b) (h1 : (i 1).val = n) (h2 : (i 2).val = q.val) : x i = ((X b n q : ℝ) : EReal) := by
  subst h0 h1
  rw [show q = i 2 from Fin.ext h2.symm]
  exact h i

/-- Thirty-one rows over one row of zeros. -/
theorem pad_rows {φ : FTy} {x : FVec Ideal ⟨2, ![31, 512]⟩ φ} {u : Shape} {v : FVec Ideal u φ} {X : ℕ → Row}
    (hx : ∀ i : (⟨2, ![31, 512]⟩ : Shape).Idx, x i = ((X (i 0).val (i 1) : ℝ) : EReal)) (h31 : X 31 = fun _ => 0) {hu : 0 < u.numel} (hv : ∀ i, v i = ((0 : ℝ) : EReal))
    {h : (⟨2, ![31, 512]⟩ : Shape).Pads ![0, 0] ![1, 0] ![0, 0] ⟨2, ![32, 512]⟩} :
    H2 (n := 32) (φ := φ) (pad ⟨2, ![32, 512]⟩ ![0, 0] ![1, 0] ![0, 0] x v h hu) X := fun i => by
  have h0 : (i 0).val < 32 := (i 0).isLt
  by_cases hi : (i 0).val < 31
  · refine (pad_apply_of_inside _ _ _ x v h hu i (ix2 (n0 := 31) (n1 := 512) ⟨(i 0).val, hi⟩ (i 1)) fun a => ?_).trans (hx _)
    match a with
    | 0 => show (i 0).val = 0 + (i 0).val * (0 + 1); omega
    | 1 => show (i 1).val = 0 + (i 1).val * (0 + 1); omega
  · refine ((pad_apply_of_not_inside _ _ _ x v h hu i (0 : Fin 2) fun hn => ?_).trans (hv _)).trans ?_
    · have h2 : ((i 0).val - 0) / (0 + 1) < 31 := hn.2.2
      omega
    · rw [show (i 0).val = 31 by omega, h31]

end Cert.ConvBwd

end
-- ==== Proof.ConvBlk.lean ====
/-
  What the windows' blocks hold at a grid point: the rows of the point's tile.
-/
module

public import proofs.«01_k».proof.Proof.ConvEntry
public import proofs.«01_k».proof.Proof.ConvArgs

@[expose] public section

set_option maxRecDepth 16384

noncomputable section

namespace Cert.KernelIdeal.Value

open Idealize.ShloMosaic Idealize.ShloMosaic.TcCoe Idealize.SL.Sem
open Cert.KernelIdeal Cert.KernelIdeal.Gen Cert.ConvBwd

variable (m : (ℓ : Loc nD τ sig) → Buf (Elt Ideal) ℓ)

theorem idx : ∀ t : Fin cfg0.N, win0_0.index t = ![t.val / 16, t.val % 16, 0] ∧ win0_1.index t = ![t.val / 16, t.val % 16, 1]
    ∧ win0_2.index t = ![t.val / 16, 8 * (t.val % 16) - 1, 0] ∧ win0_3.index t = ![t.val / 16, 8 * (t.val % 16) - 1, 1]
    ∧ win0_4.index t = ![t.val / 16, t.val % 16, 0] ∧ win0_5.index t = ![t.val / 16, min (8 * (t.val % 16 + 1)) 127, 0]
    ∧ win0_6.index t = ![t.val / 16, t.val % 16, 0] ∧ win0_7.index t = ![t.val / 16, min (8 * (t.val % 16 + 1)) 127, 0]
    ∧ win0_8.index t = ![0, 0] ∧ win0_9.index t = ![0, 0] ∧ win0_10.index t = ![0, 0] ∧ win0_11.index t = ![0, 0]
    ∧ win0_12.index t = ![t.val / 16, t.val % 16, 0] ∧ win0_13.index t = ![0, 0] ∧ win0_14.index t = ![0, 0]
    ∧ win0_15.index t = ![0, 0] ∧ win0_16.index t = ![0, 0] ∧ win0_17.index t = ![0, 0]
    ∧ (grid0.coords t 0).val = t.val / 16 ∧ (grid0.coords t 1).val = t.val % 16 ∧ t.val / 16 < 2 :=
  (by decide +kernel : ∀ t : Fin grid0.N, _)

variable {m} {M : Model} {c : Dev nD}

/-- The device's arguments hold the model's numbers, and the host lines' convolution the model's convolution. -/
structure Given (m : (ℓ : Loc nD τ sig) → Buf (Elt Ideal) ℓ) (M : Model) (c : Dev nD) : Prop where
  args : Args M (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (m ((c : Thread nD τ).loc main_arg6))
  cv : F3 (φ := .f32) (V m c main_v82) M.CV

theorem i0 (h : Given m M c) (t : Fin cfg0.N) : Row.H3 (n := 256) (φ := .f32) (iblk m c 0 t) (M.tile (t.val / 16) (t.val % 16)).V := fun y => by
  have e := (idx t).1
  blk_simp [iblk, e]
  refine (congrFun (V_main_arg1 m c) _).trans ?_
  refine h.args.v _ _ _ _ ?_ ?_ ?_ <;> blk_simp [e] <;> omega

theorem i1 (h : Given m M c) (t : Fin cfg0.N) : Row.H3 (n := 256) (φ := .f32) (iblk m c 1 t) (M.tile (t.val / 16) (t.val % 16)).G := fun y => by
  have e := (idx t).2.1
  blk_simp [iblk, e]
  refine (congrFun (V_main_arg1 m c) _).trans ?_
  refine h.args.g _ _ _ _ ?_ ?_ ?_ <;> blk_simp [e] <;> omega

theorem i2 (h : Given m M c) (t : Fin cfg0.N) : Row.H3 (n := 32) (φ := .f32) (iblk m c 2 t) (M.tile (t.val / 16) (t.val % 16)).HV := fun y => by
  have e := (idx t).2.2.1
  blk_simp [iblk, e]
  refine (congrFun (V_main_arg1 m c) _).trans ?_
  refine h.args.v _ _ _ _ ?_ ?_ ?_ <;> blk_simp [e] <;> omega

theorem i3 (h : Given m M c) (t : Fin cfg0.N) : Row.H3 (n := 32) (φ := .f32) (iblk m c 3 t) (M.tile (t.val / 16) (t.val % 16)).HG := fun y => by
  have e := (idx t).2.2.2.1
  blk_simp [iblk, e]
  refine (congrFun (V_main_arg1 m c) _).trans ?_
  refine h.args.g _ _ _ _ ?_ ?_ ?_ <;> blk_simp [e] <;> omega

theorem i4 (h : Given m M c) (t : Fin cfg0.N) : Row.H3 (n := 256) (φ := .f32) (iblk m c 4 t) (M.tile (t.val / 16) (t.val % 16)).C := fun y => by
  have e := (idx t).2.2.2.2.1
  blk_simp [iblk, e]
  refine h.cv.at _ _ _ _ ?_ ?_ ?_ <;> blk_simp [e] <;> omega

theorem i5 (h : Given m M c) (t : Fin cfg0.N) : Row.H3 (n := 32) (φ := .f32) (iblk m c 5 t) (M.tile (t.val / 16) (t.val % 16)).CX := fun y => by
  have e := (idx t).2.2.2.2.2.1
  blk_simp [iblk, e]
  refine h.cv.at _ _ _ _ ?_ ?_ ?_ <;> blk_simp [e] <;> omega

theorem i6 (h : Given m M c) (t : Fin cfg0.N) : Row.H3 (n := 256) (φ := .f32) (iblk m c 6 t) (M.tile (t.val / 16) (t.val % 16)).D := fun y => by
  have e := (idx t).2.2.2.2.2.2.1
  blk_simp [iblk, e]
  refine (congrFun (V_main_arg0 m c) _).trans ?_
  refine h.args.d _ _ _ _ ?_ ?_ ?_ <;> blk_simp [e] <;> omega

theorem i7 (h : Given m M c) (t : Fin cfg0.N) : Row.H3 (n := 32) (φ := .f32) (iblk m c 7 t) (M.tile (t.val / 16) (t.val % 16)).DX := fun y => by
  have e := (idx t).2.2.2.2.2.2.2.1
  blk_simp [iblk, e]
  refine (congrFun (V_main_arg0 m c) _).trans ?_
  refine h.args.d _ _ _ _ ?_ ?_ ?_ <;> blk_simp [e] <;> omega

theorem sitofp_zero : (Scalar.sitofp .f32 (0#32 : BitVec 32) : Ideal .f32) = ((0 : ℝ) : EReal) := by
  show (((0#32 : BitVec 32).toInt : ℝ) : EReal) = _
  simp

theorem sitofp_one : (Scalar.sitofp .f32 (1#32 : BitVec 32) : Ideal .f32) = ((1 : ℝ) : EReal) := by
  show (((1#32 : BitVec 32).toInt : ℝ) : EReal) = _
  simp

/-- The factor of the rows before the tile, and of the rows after it. -/
theorem mask_words : ∀ j : Fin 16, (Scalar.extui (Scalar.cmpi .sgt (BitVec.ofNat 32 j.val) 0#32) : BitVec 32) = (if j.val = 0 then 0#32 else 1#32)
    ∧ (Scalar.extui (Scalar.cmpi .slt (BitVec.ofNat 32 j.val) 15#32) : BitVec 32) = (if j.val < 15 then 1#32 else 0#32) := by
  decide +kernel

theorem i8 (h : Given m M c) (t : Fin cfg0.N) : Row.H2 (n := 32) (φ := .f32) (iblk m c 8 t) M.w := fun y => by
  have e := (idx t).2.2.2.2.2.2.2.2.1
  blk_simp [iblk, e]
  refine (congrFun (w_entry m c) _).trans ((pad_rows h.args.w (h.args.w_end 31 le_rfl) (fun _ => sitofp_zero) _).trans ?_)
  have e0 : ((((cfg0.win 8).blk t).view.emb y) 0).val = (y 0).val := by blk_simp [e]
  have e1 : (((cfg0.win 8).blk t).view.emb y) 1 = y 1 := Fin.ext (by blk_simp [e] )
  exact congrArg Real.toEReal ((congrFun (congrArg M.w e0) _).trans (congrArg (M.w (y 0).val) e1))

theorem i9 (h : Given m M c) (t : Fin cfg0.N) : Row.H2 (n := 1) (φ := .f32) (iblk m c 9 t) (fun _ => M.lg) := fun y => by
  have e := (idx t).2.2.2.2.2.2.2.2.2.1
  blk_simp [iblk, e]
  refine (congrFun (V_main_arg4 m c) _).trans ((h.args.lg _).trans (congrArg (fun q => ((M.lg q : ℝ) : EReal)) (Fin.ext ?_)))
  blk_simp [e]

theorem i10 (h : Given m M c) (t : Fin cfg0.N) : Row.H2 (n := 1) (φ := .f32) (iblk m c 10 t) (fun _ => M.lb) := fun y => by
  have e := (idx t).2.2.2.2.2.2.2.2.2.2.1
  blk_simp [iblk, e]
  refine (congrFun (V_main_arg5 m c) _).trans ((h.args.lb _).trans (congrArg (fun q => ((M.lb q : ℝ) : EReal)) (Fin.ext ?_)))
  blk_simp [e]

theorem i11 (h : Given m M c) (t : Fin cfg0.N) : Row.H2 (n := 1) (φ := .f32) (iblk m c 11 t) (fun _ => M.og) := fun y => by
  have e := (idx t).2.2.2.2.2.2.2.2.2.2.2.1
  blk_simp [iblk, e]
  refine (congrFun (V_main_arg6 m c) _).trans ((h.args.og _).trans (congrArg (fun q => ((M.og q : ℝ) : EReal)) (Fin.ext ?_)))
  blk_simp [e]

/-- The blocks of a grid point are its tile's rows. -/
theorem point_in (h : Given m M c) (t : Fin cfg0.N) :
    In (M.tile (t.val / 16) (t.val % 16)) (grid0.coords t) (iblk m c 0 t) (iblk m c 1 t) (iblk m c 2 t) (iblk m c 3 t) (iblk m c 4 t) (iblk m c 5 t)
      (iblk m c 6 t) (iblk m c 7 t) (iblk m c 8 t) (iblk m c 9 t) (iblk m c 10 t) (iblk m c 11 t) where
  h0 := i0 h t
  h1 := i1 h t
  h2 := i2 h t
  h3 := i3 h t
  h4 := i4 h t
  h5 := i5 h t
  h6 := i6 h t
  h7 := i7 h t
  h8 := i8 h t
  h9 := i9 h t
  h10 := i10 h t
  h11 := i11 h t
  hp := by
    have e := (idx t).2.2.2.2.2.2.2.2.2.2.2.2.2.2.2.2.2.2.2.1
    rw [e, (mask_words ⟨t.val % 16, Nat.mod_lt _ (by omega)⟩).1]
    show _ = (((if t.val % 16 = 0 then 0 else 1 : ℝ)) : EReal)
    split
    · exact sitofp_zero
    · exact sitofp_one
  hn := by
    have e := (idx t).2.2.2.2.2.2.2.2.2.2.2.2.2.2.2.2.2.2.2.1
    unfold k0_pay7
    dsimp only
    rw [e, (mask_words ⟨t.val % 16, Nat.mod_lt _ (by omega)⟩).2]
    show _ = (((if t.val % 16 < 15 then 1 else 0 : ℝ)) : EReal)
    split
    · exact sitofp_one
    · exact sitofp_zero

end Cert.KernelIdeal.Value

end
-- ==== Proof.ConvOutA.lean ====
/-
  The rows left in each output: first grid point of a batch row.
-/
module

public import proofs.«01_k».proof.Proof.ConvOut
public import proofs.«01_k».proof.Proof.Gen.KernelIdeal.Frame

@[expose] public section

set_option maxRecDepth 16384

noncomputable section

namespace Cert.ConvBwd

open Idealize.ShloMosaic Idealize.ShloMosaic.TcCoe Cert.KernelIdeal Cert.KernelIdeal.Gen Cert.Row

variable {T : Tile} {c : Dev nD} {i : grid0.Coords} {arg2 : Memref sig .tc .vmem S1x256x512 .f32} {harg2 : arg2.IsWhole} {arg3 : Memref sig .tc .vmem S1x256x512 .f32} {harg3 : arg3.IsWhole} {arg4 : Memref sig .tc .vmem S1x32x512 .f32} {harg4 : arg4.IsWhole} {arg5 : Memref sig .tc .vmem S1x32x512 .f32} {harg5 : arg5.IsWhole} {arg6 : Memref sig .tc .vmem S1x256x512 .f32} {harg6 : arg6.IsWhole} {arg7 : Memref sig .tc .vmem S1x32x512 .f32} {harg7 : arg7.IsWhole} {arg8 : Memref sig .tc .vmem S1x256x512 .f32} {harg8 : arg8.IsWhole} {arg9 : Memref sig .tc .vmem S1x32x512 .f32} {harg9 : arg9.IsWhole} {arg10 : Memref sig .tc .vmem S32x512 .f32} {harg10 : arg10.IsWhole} {arg11 : Memref sig .tc .vmem S1x512 .f32} {harg11 : arg11.IsWhole} {arg12 : Memref sig .tc .vmem S1x512 .f32} {harg12 : arg12.IsWhole} {arg13 : Memref sig .tc .vmem S1x512 .f32} {harg13 : arg13.IsWhole} {arg14 : Memref sig .tc .vmem S1x256x1024 .bf16} {harg14 : arg14.IsWhole} {arg15 : Memref sig .tc .vmem S32x512 .f32} {harg15 : arg15.IsWhole} {arg16 : Memref sig .tc .vmem S1x512 .f32} {harg16 : arg16.IsWhole} {arg17 : Memref sig .tc .vmem S1x512 .f32} {harg17 : arg17.IsWhole} {arg18 : Memref sig .tc .vmem S1x512 .f32} {harg18 : arg18.IsWhole} {arg19 : Memref sig .tc .vmem S1x512 .f32} {harg19 : arg19.IsWhole} {arg20 : Memref sig .tc .vmem S288x512 .f32} {harg20 : arg20.IsWhole} {arg21 : Memref sig .tc .vmem S288x512 .f32} {harg21 : arg21.IsWhole} {arg22 : Memref sig .tc .vmem S264x512 .f32} {harg22 : arg22.IsWhole} {arg23 : Memref sig .tc .vmem S264x512 .f32} {harg23 : arg23.IsWhole} {hc0 : cond0_0 i}
  {x0 x1 : FVec Ideal S1x256x512 .f32} {x2 x3 : FVec Ideal S1x32x512 .f32} {x4 : FVec Ideal S1x256x512 .f32} {x5 : FVec Ideal S1x32x512 .f32}
  {x6 : FVec Ideal S1x256x512 .f32} {x7 : FVec Ideal S1x32x512 .f32} {x8 : FVec Ideal S32x512 .f32} {x9 x10 x11 : FVec Ideal S1x512 .f32}
  {xo13 : FVec Ideal S32x512 .f32} {xo14 xo15 xo16 xo17 : FVec Ideal S1x512 .f32} {O : ℕ → Row}

theorem outA_12 (h : In T i x0 x1 x2 x3 x4 x5 x6 x7 x8 x9 x10 x11) (y : S1x256x1024.Idx) :
    (out0_A_12 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 y : EReal) = ((T.o12 (y 1).val ⟨(y 2).val, (y 2).isLt⟩ : ℝ) : EReal) := by
  unfold out0_A_12; dsimp only; rw [View.read_writes_junk_eq_canon]; unfold kernelRun0_A; dsimp only
  refine (canon_tile y).trans ?_
  exact Tile.tile_out (A_r h) ((A_r_39 h).congr fun r _ => funext fun c => Tile.da_eq r c) h.h0.load y

theorem outA_14 (h : In T i x0 x1 x2 x3 x4 x5 x6 x7 x8 x9 x10 x11) :
    H2 (n := 1) (φ := .f32) (out0_A_14 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11) (fun _ c => 0 + ∑ k : Fin 256, T.dd k.val c) := by
  unfold out0_A_14; dsimp only; rw [View.read_writes_junk_eq_canon]; unfold kernelRun0_A; dsimp only
  exact Row.whole (HR.cons (X := fun _ c => 0 + ∑ k : Fin 256, T.dd k.val c) ((pay41 (A_r_14 h) (HR.old (HR.cons (X := fun _ _ => 0) (H2.const zero_lit) (HR.none _ _)) (.inl (by omega)))).congr fun r hr => by
    obtain rfl : r = 0 := by omega
    rfl) (HR.none _ _)) (fun k hk => .inl (by omega))

theorem outA_15 (h : In T i x0 x1 x2 x3 x4 x5 x6 x7 x8 x9 x10 x11) :
    H2 (n := 1) (φ := .f32) (out0_A_15 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11) (fun _ c => 0 + ∑ k : Fin 256, dlay (T.C k.val) T.lg T.lb T.og (T.D k.val) c * nrm (T.C k.val) c) := by
  unfold out0_A_15; dsimp only; rw [View.read_writes_junk_eq_canon]; unfold kernelRun0_A; dsimp only
  exact Row.whole (HR.cons (X := fun _ c => 0 + ∑ k : Fin 256, dlay (T.C k.val) T.lg T.lb T.og (T.D k.val) c * nrm (T.C k.val) c) ((pay39 (A_r_16 h) (HR.old (HR.cons (X := fun _ _ => 0) (H2.const zero_lit) (HR.none _ _)) (.inl (by omega)))).congr fun r hr => by
    obtain rfl : r = 0 := by omega
    rfl) (HR.none _ _)) (fun k hk => .inl (by omega))

theorem outA_16 (h : In T i x0 x1 x2 x3 x4 x5 x6 x7 x8 x9 x10 x11) :
    H2 (n := 1) (φ := .f32) (out0_A_16 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11) (fun _ c => 0 + ∑ k : Fin 256, dlay (T.C k.val) T.lg T.lb T.og (T.D k.val) c) := by
  unfold out0_A_16; dsimp only; rw [View.read_writes_junk_eq_canon]; unfold kernelRun0_A; dsimp only
  exact Row.whole (HR.cons (X := fun _ c => 0 + ∑ k : Fin 256, dlay (T.C k.val) T.lg T.lb T.og (T.D k.val) c) ((pay40 (A_r_17 h) (HR.old (HR.cons (X := fun _ _ => 0) (H2.const zero_lit) (HR.none _ _)) (.inl (by omega)))).congr fun r hr => by
    obtain rfl : r = 0 := by omega
    rfl) (HR.none _ _)) (fun k hk => .inl (by omega))

theorem outA_17 (h : In T i x0 x1 x2 x3 x4 x5 x6 x7 x8 x9 x10 x11) :
    H2 (n := 1) (φ := .f32) (out0_A_17 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11) (fun _ c => 0 + ∑ k : Fin 256, T.D k.val c * sh (T.C k.val) T.lg T.lb c) := by
  unfold out0_A_17; dsimp only; rw [View.read_writes_junk_eq_canon]; unfold kernelRun0_A; dsimp only
  exact Row.whole (HR.cons (X := fun _ c => 0 + ∑ k : Fin 256, T.D k.val c * sh (T.C k.val) T.lg T.lb c) ((pay38 (A_r_15 h) (HR.old (HR.cons (X := fun _ _ => 0) (H2.const zero_lit) (HR.none _ _)) (.inl (by omega)))).congr fun r hr => by
    obtain rfl : r = 0 := by omega
    rfl) (HR.none _ _)) (fun k hk => .inl (by omega))

theorem outA_13 (h : In T i x0 x1 x2 x3 x4 x5 x6 x7 x8 x9 x10 x11) : H2 (n := 32) (φ := .f32) (out0_A_13 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11) (T.upd fun _ _ => 0) := by
  unfold out0_A_13; dsimp only; rw [View.read_writes_junk_eq_canon]; unfold kernelRun0_A; dsimp only
  exact Row.whole (HR.cons (X := T.upd fun _ _ => 0) ((pay127 (X797 := fun _ _ => 0) (A_v767 h) (A_v513 h) ((A_H13_31_z h).old (by simp))).congr fun r hr => by
    obtain rfl : r = 0 := by omega
    exact funext fun c => Tile.sum_shift (O := fun _ _ => 0) (R := 29) (b := 24) (s := 7) (by omega) (by omega) (by omega)) (A_H13_31_y h)) (fun k hk => by
    simp only [List.mem_cons, List.not_mem_nil, or_false]; omega)

end Cert.ConvBwd

end
-- ==== Proof.ConvOutB.lean ====
/-
  The rows left in each output: later grid points of a batch row.
-/
module

public import proofs.«01_k».proof.Proof.ConvOut
public import proofs.«01_k».proof.Proof.Gen.KernelIdeal.Frame

@[expose] public section

set_option maxRecDepth 16384

noncomputable section

namespace Cert.ConvBwd

open Idealize.ShloMosaic Idealize.ShloMosaic.TcCoe Cert.KernelIdeal Cert.KernelIdeal.Gen Cert.Row

variable {T : Tile} {c : Dev nD} {i : grid0.Coords} {arg2 : Memref sig .tc .vmem S1x256x512 .f32} {harg2 : arg2.IsWhole} {arg3 : Memref sig .tc .vmem S1x256x512 .f32} {harg3 : arg3.IsWhole} {arg4 : Memref sig .tc .vmem S1x32x512 .f32} {harg4 : arg4.IsWhole} {arg5 : Memref sig .tc .vmem S1x32x512 .f32} {harg5 : arg5.IsWhole} {arg6 : Memref sig .tc .vmem S1x256x512 .f32} {harg6 : arg6.IsWhole} {arg7 : Memref sig .tc .vmem S1x32x512 .f32} {harg7 : arg7.IsWhole} {arg8 : Memref sig .tc .vmem S1x256x512 .f32} {harg8 : arg8.IsWhole} {arg9 : Memref sig .tc .vmem S1x32x512 .f32} {harg9 : arg9.IsWhole} {arg10 : Memref sig .tc .vmem S32x512 .f32} {harg10 : arg10.IsWhole} {arg11 : Memref sig .tc .vmem S1x512 .f32} {harg11 : arg11.IsWhole} {arg12 : Memref sig .tc .vmem S1x512 .f32} {harg12 : arg12.IsWhole} {arg13 : Memref sig .tc .vmem S1x512 .f32} {harg13 : arg13.IsWhole} {arg14 : Memref sig .tc .vmem S1x256x1024 .bf16} {harg14 : arg14.IsWhole} {arg15 : Memref sig .tc .vmem S32x512 .f32} {harg15 : arg15.IsWhole} {arg16 : Memref sig .tc .vmem S1x512 .f32} {harg16 : arg16.IsWhole} {arg17 : Memref sig .tc .vmem S1x512 .f32} {harg17 : arg17.IsWhole} {arg18 : Memref sig .tc .vmem S1x512 .f32} {harg18 : arg18.IsWhole} {arg19 : Memref sig .tc .vmem S1x512 .f32} {harg19 : arg19.IsWhole} {arg20 : Memref sig .tc .vmem S288x512 .f32} {harg20 : arg20.IsWhole} {arg21 : Memref sig .tc .vmem S288x512 .f32} {harg21 : arg21.IsWhole} {arg22 : Memref sig .tc .vmem S264x512 .f32} {harg22 : arg22.IsWhole} {arg23 : Memref sig .tc .vmem S264x512 .f32} {harg23 : arg23.IsWhole} {hc0 : ¬cond0_0 i}
  {x0 x1 : FVec Ideal S1x256x512 .f32} {x2 x3 : FVec Ideal S1x32x512 .f32} {x4 : FVec Ideal S1x256x512 .f32} {x5 : FVec Ideal S1x32x512 .f32}
  {x6 : FVec Ideal S1x256x512 .f32} {x7 : FVec Ideal S1x32x512 .f32} {x8 : FVec Ideal S32x512 .f32} {x9 x10 x11 : FVec Ideal S1x512 .f32}
  {xo13 : FVec Ideal S32x512 .f32} {xo14 xo15 xo16 xo17 : FVec Ideal S1x512 .f32} {O : ℕ → Row}

theorem outB_12 (h : In T i x0 x1 x2 x3 x4 x5 x6 x7 x8 x9 x10 x11) (y : S1x256x1024.Idx) :
    (out0_B_12 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 xo13 xo14 xo15 xo16 xo17 y : EReal) = ((T.o12 (y 1).val ⟨(y 2).val, (y 2).isLt⟩ : ℝ) : EReal) := by
  unfold out0_B_12; dsimp only; rw [View.read_writes_junk_eq_canon]; unfold kernelRun0_B; dsimp only
  refine (canon_tile y).trans ?_
  exact Tile.tile_out (B_r h) ((B_r_39 h).congr fun r _ => funext fun c => Tile.da_eq r c) h.h0.load y

theorem outB_14 (h : In T i x0 x1 x2 x3 x4 x5 x6 x7 x8 x9 x10 x11) (hO : H2 (φ := .f32) xo14 O) :
    H2 (n := 1) (φ := .f32) (out0_B_14 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 xo13 xo14 xo15 xo16 xo17) (fun _ c => O 0 c + ∑ k : Fin 256, T.dd k.val c) := by
  unfold out0_B_14; dsimp only; rw [View.read_writes_junk_eq_canon]; unfold kernelRun0_B; dsimp only
  exact Row.whole (HR.cons (X := fun _ c => O 0 c + ∑ k : Fin 256, T.dd k.val c) ((pay41 (B_r_14 h) (H2.load hO)).congr fun r hr => by
    obtain rfl : r = 0 := by omega
    rfl) (HR.none _ _)) (fun k hk => .inl (by omega))

theorem outB_15 (h : In T i x0 x1 x2 x3 x4 x5 x6 x7 x8 x9 x10 x11) (hO : H2 (φ := .f32) xo15 O) :
    H2 (n := 1) (φ := .f32) (out0_B_15 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 xo13 xo14 xo15 xo16 xo17) (fun _ c => O 0 c + ∑ k : Fin 256, dlay (T.C k.val) T.lg T.lb T.og (T.D k.val) c * nrm (T.C k.val) c) := by
  unfold out0_B_15; dsimp only; rw [View.read_writes_junk_eq_canon]; unfold kernelRun0_B; dsimp only
  exact Row.whole (HR.cons (X := fun _ c => O 0 c + ∑ k : Fin 256, dlay (T.C k.val) T.lg T.lb T.og (T.D k.val) c * nrm (T.C k.val) c) ((pay39 (B_r_16 h) (H2.load hO)).congr fun r hr => by
    obtain rfl : r = 0 := by omega
    rfl) (HR.none _ _)) (fun k hk => .inl (by omega))

theorem outB_16 (h : In T i x0 x1 x2 x3 x4 x5 x6 x7 x8 x9 x10 x11) (hO : H2 (φ := .f32) xo16 O) :
    H2 (n := 1) (φ := .f32) (out0_B_16 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 xo13 xo14 xo15 xo16 xo17) (fun _ c => O 0 c + ∑ k : Fin 256, dlay (T.C k.val) T.lg T.lb T.og (T.D k.val) c) := by
  unfold out0_B_16; dsimp only; rw [View.read_writes_junk_eq_canon]; unfold kernelRun0_B; dsimp only
  exact Row.whole (HR.cons (X := fun _ c => O 0 c + ∑ k : Fin 256, dlay (T.C k.val) T.lg T.lb T.og (T.D k.val) c) ((pay40 (B_r_17 h) (H2.load hO)).congr fun r hr => by
    obtain rfl : r = 0 := by omega
    rfl) (HR.none _ _)) (fun k hk => .inl (by omega))

theorem outB_17 (h : In T i x0 x1 x2 x3 x4 x5 x6 x7 x8 x9 x10 x11) (hO : H2 (φ := .f32) xo17 O) :
    H2 (n := 1) (φ := .f32) (out0_B_17 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 xo13 xo14 xo15 xo16 xo17) (fun _ c => O 0 c + ∑ k : Fin 256, T.D k.val c * sh (T.C k.val) T.lg T.lb c) := by
  unfold out0_B_17; dsimp only; rw [View.read_writes_junk_eq_canon]; unfold kernelRun0_B; dsimp only
  exact Row.whole (HR.cons (X := fun _ c => O 0 c + ∑ k : Fin 256, T.D k.val c * sh (T.C k.val) T.lg T.lb c) ((pay38 (B_r_15 h) (H2.load hO)).congr fun r hr => by
    obtain rfl : r = 0 := by omega
    rfl) (HR.none _ _)) (fun k hk => .inl (by omega))

theorem outB_13 (h : In T i x0 x1 x2 x3 x4 x5 x6 x7 x8 x9 x10 x11) (hO : H2 (φ := .f32) xo13 O) : H2 (n := 32) (φ := .f32) (out0_B_13 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 xo13 xo14 xo15 xo16 xo17) (T.upd O) := by
  unfold out0_B_13; dsimp only; unfold kernelRun0_B; dsimp only
  exact Row.whole (HR.over (X := T.upd O) ((pay127 (X797 := fun r => O (29 + r)) (B_v767 h) (B_v513 h) (H2.load hO)).congr fun r hr => by
    obtain rfl : r = 0 := by omega
    exact funext fun c => Tile.sum_shift (O := O) (R := 29) (b := 24) (s := 7) (by omega) (by omega) (by omega)) (HR.over (B_pc_21 h hO) (HR.over (B_pc_13 h hO) (HR.over (B_pc_5 h hO) (HR.over (B_pc_28 h hO) (HR.over (B_pc_20 h hO) (HR.over (B_pc_12 h hO) (HR.over (B_pc_4 h hO) (HR.over (B_pc_27 h hO) (HR.over (B_pc_19 h hO) (HR.over (B_pc_11 h hO) (HR.over (B_pc_3 h hO) (HR.over (B_pc_26 h hO) (HR.over (B_pc_18 h hO) (HR.over (B_pc_10 h hO) (HR.over (B_pc_2 h hO) (HR.over (B_pc_25 h hO) (HR.over (B_pc_17 h hO) (HR.over (B_pc_9 h hO) (HR.over (B_pc_1 h hO) (HR.over (B_pc_24 h hO) (HR.over (B_pc_16 h hO) (HR.over (B_pc_8 h hO) (HR.over (B_pc_0 h hO) (HR.over (B_pc_23 h hO) (HR.over (B_pc_15 h hO) (HR.over (B_pc_7 h hO) (HR.over (B_pc_30 h hO) (HR.over (B_pc_22 h hO) (HR.over (B_pc_14 h hO) (HR.over (B_pc_6 h hO) (((HR.base (harg15.read_unread xo13) hO).mono (Q := fun n => n = 31) fun _ _ _ => trivial).change
    (fun n hn => by subst hn; exact Tile.upd_last.symm))))))))))))))))))))))))))))))))) (fun k hk => by omega)

end Cert.ConvBwd

end
-- ==== Proof.ConvSum.lean ====
/-
  What the region leaves in the call's six outputs: the tiles of the sequence gradient, and the five sums over all grid points.
-/
module

public import proofs.«01_k».proof.Proof.ConvBlk
public import proofs.«01_k».proof.Proof.ConvOutA
public import proofs.«01_k».proof.Proof.ConvOutB

@[expose] public section

set_option maxRecDepth 16384

noncomputable section

namespace Cert.KernelIdeal.Value

open Idealize.ShloMosaic Idealize.ShloMosaic.TcCoe Idealize.SL.Sem
open Cert.KernelIdeal Cert.KernelIdeal.Gen Cert.ConvBwd Cert.Row

variable {m : (ℓ : Loc nD τ sig) → Buf (Elt Ideal) ℓ} {M : Model} {c : Dev nD}

/-- The tile of the `s`-th grid point. -/
abbrev tileAt (M : Model) (s : ℕ) : Tile := M.tile (s / 16) (s % 16)

/-- The sum over the first `n` grid points. -/
def upTo (f : ℕ → ℕ → Row) (n r : ℕ) : Row := fun q => ∑ s ∈ Finset.range n, f s r q

theorem upTo_one (f : ℕ → ℕ → Row) (r : ℕ) : upTo f 1 r = fun q => f 0 r q := funext fun q => by simp [upTo]

theorem upTo_succ (f : ℕ → ℕ → Row) (n r : ℕ) : upTo f (n + 1) r = fun q => upTo f n r q + f n r q := funext fun q => Finset.sum_range_succ _ _

/-- What grid point `s` adds to each of the five accumulated outputs. -/
def add13 (M : Model) (s r : ℕ) : Row := fun q => if r < 31 then (tileAt M s).acc r q else 0
def add14 (M : Model) (s _r : ℕ) : Row := fun q => ∑ k : Fin 256, (tileAt M s).dd k.val q
def add15 (M : Model) (s _r : ℕ) : Row := fun q =>
  ∑ k : Fin 256, dlay ((tileAt M s).C k.val) (tileAt M s).lg (tileAt M s).lb (tileAt M s).og ((tileAt M s).D k.val) q * nrm ((tileAt M s).C k.val) q
def add16 (M : Model) (s _r : ℕ) : Row := fun q => ∑ k : Fin 256, dlay ((tileAt M s).C k.val) (tileAt M s).lg (tileAt M s).lb (tileAt M s).og ((tileAt M s).D k.val) q
def add17 (M : Model) (s _r : ℕ) : Row := fun q => ∑ k : Fin 256, (tileAt M s).D k.val q * sh ((tileAt M s).C k.val) (tileAt M s).lg (tileAt M s).lb q

theorem H2.of_eq {n : ℕ} {x y : FVec Ideal (Mat n) .f32} {X : ℕ → Row} (e : x = y) (h : H2 y X) : H2 x X := e ▸ h

theorem first13 (h : Given m M c) (t : Fin cfg0.N) (h0 : t.val % 32 = 0) :
    H2 (n := 32) (φ := .f32) (outsAt0 m c t.val t.isLt).2.1 (fun r q => 0 + add13 M t.val r q) := by
  refine H2.of_eq (congrArg (fun o => o.2.1) (outsAt0_A m c t h0)) ?_
  dsimp only
  exact outA_13 (point_in h t)

theorem later13 (h : Given m M c) (t : Fin cfg0.N) (h0 : ¬t.val % 32 = 0) {O : ℕ → Row}
    (hO : H2 (n := 32) (φ := .f32) (outsAt0 m c (t.val - 1) (lt_of_le_of_lt (Nat.sub_le _ _) t.isLt)).2.1 O) :
    H2 (n := 32) (φ := .f32) (outsAt0 m c t.val t.isLt).2.1 (fun r q => O r q + add13 M t.val r q) := by
  refine H2.of_eq (congrArg (fun o => o.2.1) (outsAt0_B m c t h0)) ?_
  dsimp only
  exact outB_13 (point_in h t) hO

theorem first14 (h : Given m M c) (t : Fin cfg0.N) (h0 : t.val % 32 = 0) :
    H2 (n := 1) (φ := .f32) (outsAt0 m c t.val t.isLt).2.2.1 (fun r q => 0 + add14 M t.val r q) := by
  refine H2.of_eq (congrArg (fun o => o.2.2.1) (outsAt0_A m c t h0)) ?_
  dsimp only
  exact outA_14 (point_in h t)

theorem later14 (h : Given m M c) (t : Fin cfg0.N) (h0 : ¬t.val % 32 = 0) {O : ℕ → Row}
    (hO : H2 (n := 1) (φ := .f32) (outsAt0 m c (t.val - 1) (lt_of_le_of_lt (Nat.sub_le _ _) t.isLt)).2.2.1 O) :
    H2 (n := 1) (φ := .f32) (outsAt0 m c t.val t.isLt).2.2.1 (fun r q => O r q + add14 M t.val r q) := by
  refine H2.of_eq (congrArg (fun o => o.2.2.1) (outsAt0_B m c t h0)) ?_
  dsimp only
  exact (outB_14 (point_in h t) hO).congr fun r hr => by obtain rfl : r = 0 := (by omega); rfl

theorem first15 (h : Given m M c) (t : Fin cfg0.N) (h0 : t.val % 32 = 0) :
    H2 (n := 1) (φ := .f32) (outsAt0 m c t.val t.isLt).2.2.2.1 (fun r q => 0 + add15 M t.val r q) := by
  refine H2.of_eq (congrArg (fun o => o.2.2.2.1) (outsAt0_A m c t h0)) ?_
  dsimp only
  exact outA_15 (point_in h t)

theorem later15 (h : Given m M c) (t : Fin cfg0.N) (h0 : ¬t.val % 32 = 0) {O : ℕ → Row}
    (hO : H2 (n := 1) (φ := .f32) (outsAt0 m c (t.val - 1) (lt_of_le_of_lt (Nat.sub_le _ _) t.isLt)).2.2.2.1 O) :
    H2 (n := 1) (φ := .f32) (outsAt0 m c t.val t.isLt).2.2.2.1 (fun r q => O r q + add15 M t.val r q) := by
  refine H2.of_eq (congrArg (fun o => o.2.2.2.1) (outsAt0_B m c t h0)) ?_
  dsimp only
  exact (outB_15 (point_in h t) hO).congr fun r hr => by obtain rfl : r = 0 := (by omega); rfl

theorem first16 (h : Given m M c) (t : Fin cfg0.N) (h0 : t.val % 32 = 0) :
    H2 (n := 1) (φ := .f32) (outsAt0 m c t.val t.isLt).2.2.2.2.1 (fun r q => 0 + add16 M t.val r q) := by
  refine H2.of_eq (congrArg (fun o => o.2.2.2.2.1) (outsAt0_A m c t h0)) ?_
  dsimp only
  exact outA_16 (point_in h t)

theorem later16 (h : Given m M c) (t : Fin cfg0.N) (h0 : ¬t.val % 32 = 0) {O : ℕ → Row}
    (hO : H2 (n := 1) (φ := .f32) (outsAt0 m c (t.val - 1) (lt_of_le_of_lt (Nat.sub_le _ _) t.isLt)).2.2.2.2.1 O) :
    H2 (n := 1) (φ := .f32) (outsAt0 m c t.val t.isLt).2.2.2.2.1 (fun r q => O r q + add16 M t.val r q) := by
  refine H2.of_eq (congrArg (fun o => o.2.2.2.2.1) (outsAt0_B m c t h0)) ?_
  dsimp only
  exact (outB_16 (point_in h t) hO).congr fun r hr => by obtain rfl : r = 0 := (by omega); rfl

theorem first17 (h : Given m M c) (t : Fin cfg0.N) (h0 : t.val % 32 = 0) :
    H2 (n := 1) (φ := .f32) (outsAt0 m c t.val t.isLt).2.2.2.2.2 (fun r q => 0 + add17 M t.val r q) := by
  refine H2.of_eq (congrArg (fun o => o.2.2.2.2.2) (outsAt0_A m c t h0)) ?_
  dsimp only
  exact outA_17 (point_in h t)

theorem later17 (h : Given m M c) (t : Fin cfg0.N) (h0 : ¬t.val % 32 = 0) {O : ℕ → Row}
    (hO : H2 (n := 1) (φ := .f32) (outsAt0 m c (t.val - 1) (lt_of_le_of_lt (Nat.sub_le _ _) t.isLt)).2.2.2.2.2 O) :
    H2 (n := 1) (φ := .f32) (outsAt0 m c t.val t.isLt).2.2.2.2.2 (fun r q => O r q + add17 M t.val r q) := by
  refine H2.of_eq (congrArg (fun o => o.2.2.2.2.2) (outsAt0_B m c t h0)) ?_
  dsimp only
  exact (outB_17 (point_in h t) hO).congr fun r hr => by obtain rfl : r = 0 := (by omega); rfl

/-- An output that starts from zero at the first grid point and is added to at every later one holds, after each point, the sum so far. -/
theorem running {n : ℕ} (x : (t : Fin cfg0.N) → FVec Ideal (Mat n) .f32) (f : ℕ → ℕ → Row)
    (first : ∀ t : Fin cfg0.N, t.val % 32 = 0 → H2 (x t) (fun r q => 0 + f t.val r q))
    (later : ∀ t : Fin cfg0.N, ¬t.val % 32 = 0 → ∀ O : ℕ → Row, H2 (x ⟨t.val - 1, lt_of_le_of_lt (Nat.sub_le _ _) t.isLt⟩) O → H2 (x t) (fun r q => O r q + f t.val r q)) :
    ∀ (k : ℕ) (t : Fin cfg0.N), t.val = k → H2 (x t) (upTo f (k + 1))
  | 0, t, ht => (first t (by omega)).congr fun r _ => funext fun q => by
      rw [ht, upTo_one]; exact zero_add _
  | k + 1, t, ht => by
    have hN : t.val < 32 := t.isLt
    refine (later t (by omega) _ (running x f first later k _ (by show t.val - 1 = k; omega))).congr fun r _ => ?_
    rw [ht, upTo_succ f (k + 1) r]

/-- The sum of a tile's rows over all grid points is the sum over every position. -/
theorem upTo_total {f : ℕ → ℕ → Row} {g : ℕ → ℕ → Row} {r : ℕ} (q : Fin 512)
    (e : ∀ s, s < 32 → f s r q = ∑ k : Fin 256, g (s / 16) (256 * (s % 16) + k.val) q) : upTo f 32 r q = Model.total g q := by
  unfold upTo Model.total
  rw [← Model.sum_points fun b n => g b n q, Fin.sum_univ_eq_sum_range (fun t => ∑ k : Fin 256, g (t / 16) (256 * (t % 16) + k.val) q) 32]
  exact Finset.sum_congr rfl fun s hs => e s (Finset.mem_range.mp hs)

/-- The six results, as arrays of the model's numbers. -/
def R12 (M : Model) : FVec Ideal S2x4096x1024 .bf16 := fun i => ((M.O12 (i 0).val (i 1).val ⟨(i 2).val, (i 2).isLt⟩ : ℝ) : EReal)
def R13 (M : Model) : FVec Ideal S32x512 .f32 := fun i => ((M.DW (i 0).val (i 1) : ℝ) : EReal)
def R14 (M : Model) : FVec Ideal S1x512 .f32 := fun i => ((Model.total M.DC (i 1) : ℝ) : EReal)
def R15 (M : Model) : FVec Ideal S1x512 .f32 := fun i => ((Model.total M.dlgAt (i 1) : ℝ) : EReal)
def R16 (M : Model) : FVec Ideal S1x512 .f32 := fun i => ((Model.total M.dlbAt (i 1) : ℝ) : EReal)
def R17 (M : Model) : FVec Ideal S1x512 .f32 := fun i => ((Model.total M.dogAt (i 1) : ℝ) : EReal)

theorem point12 (h : Given m M c) (t : Fin cfg0.N) (y : S1x256x1024.Idx) :
    ((outsAt0 m c t.val t.isLt).1 y : EReal) = ((M.O12 (t.val / 16) (256 * (t.val % 16) + (y 1).val) ⟨(y 2).val, (y 2).isLt⟩ : ℝ) : EReal) := by
  rw [← Model.tile_o12 (M := M) (b := t.val / 16) (j := t.val % 16) (n := (y 1).val) (Nat.mod_lt _ (by omega)) (y 1).isLt]
  by_cases h0 : t.val % 32 = 0
  · refine (congrFun (congrArg (fun o => o.1) (outsAt0_A m c t h0)) y).trans ?_
    dsimp only
    exact outA_12 (point_in h t) y
  · refine (congrFun (congrArg (fun o => o.1) (outsAt0_B m c t h0)) y).trans ?_
    dsimp only
    exact outB_12 (point_in h t) y

theorem final12 (h : Given m M c) : (dats m 0 c).arrAt 12 cfg0.N = R12 M := by
  refine (dats m 0 c).arrAt_eq_of_covers 12 _ (by decide +kernel) fun t _ y => ?_
  have e := (idx t).2.2.2.2.2.2.2.2.2.2.2.2.1
  have e0 : ((((cfg0.win 12).blk t).view.emb y) 0).val = t.val / 16 := by blk_simp [e]
  have e1 : ((((cfg0.win 12).blk t).view.emb y) 1).val = 256 * (t.val % 16) + (y 1).val := by blk_simp [e]; omega
  have e2 : ((((cfg0.win 12).blk t).view.emb y) 2).val = (y 2).val := by blk_simp [e]
  have key : R12 M (((cfg0.win 12).blk t).view.emb y) = ((M.O12 (t.val / 16) (256 * (t.val % 16) + (y 1).val) ⟨(y 2).val, (y 2).isLt⟩ : ℝ) : EReal) := by
    unfold R12
    simp only [e0, e1, e2]
  blk_simp
  rw [after0_12]
  exact (point12 h t y).trans key.symm

theorem point13 (h : Given m M c) (t : Fin cfg0.N) (ht : t.val % 32 = 31) (y : S32x512.Idx) :
    ((outsAt0 m c t.val t.isLt).2.1 y : EReal) = ((M.DW (y 0).val (y 1) : ℝ) : EReal) := by
  have hN : t.val < 32 := t.isLt
  refine (running (fun t => (outsAt0 m c t.val t.isLt).2.1) (add13 M) (first13 h) (fun t h0 O hO => later13 h t h0 hO) 31 t (by omega) y).trans (congrArg Real.toEReal ?_)
  show upTo (add13 M) 32 (y 0).val (y 1) = M.DW (y 0).val (y 1)
  unfold Model.DW
  by_cases hr : (y 0).val < 31
  · rw [if_pos hr]
    refine upTo_total (y 1) fun s hs => (if_pos hr).trans ?_
    exact Model.tile_acc (by omega) hr (y 1)
  · rw [if_neg hr]
    exact Finset.sum_eq_zero fun s _ => if_neg hr

theorem final13 (h : Given m M c) : (dats m 0 c).arrAt 13 cfg0.N = R13 M := by
  refine (dats m 0 c).arrAt_eq_of_covers 13 _ (by decide +kernel) fun t hf y => ?_
  have ht := (flush0_13 t).mp hf
  have e := (idx t).2.2.2.2.2.2.2.2.2.2.2.2.2.1
  have e0 : ((((cfg0.win 13).blk t).view.emb y) 0).val = (y 0).val := by blk_simp [e]
  have e1 : (((cfg0.win 13).blk t).view.emb y) 1 = y 1 := Fin.ext (by blk_simp [e])
  have key : R13 M (((cfg0.win 13).blk t).view.emb y) = ((M.DW (y 0).val (y 1) : ℝ) : EReal) := by
    unfold R13
    simp only [e0, e1]
  blk_simp
  rw [after0_13]
  exact (point13 h t ht y).trans key.symm

theorem point14 (h : Given m M c) (t : Fin cfg0.N) (ht : t.val % 32 = 31) (y : S1x512.Idx) :
    ((outsAt0 m c t.val t.isLt).2.2.1 y : EReal) = ((Model.total M.DC (y 1) : ℝ) : EReal) := by
  have hN : t.val < 32 := t.isLt
  refine (running (fun t => (outsAt0 m c t.val t.isLt).2.2.1) (add14 M) (first14 h) (fun t h0 O hO => later14 h t h0 hO) 31 t (by omega) y).trans (congrArg Real.toEReal ?_)
  exact upTo_total (y 1) fun s hs => Finset.sum_congr rfl fun k _ => congrFun (Model.tile_dd (by omega) (by omega)) (y 1)

theorem final14 (h : Given m M c) : (dats m 0 c).arrAt 14 cfg0.N = R14 M := by
  refine (dats m 0 c).arrAt_eq_of_covers 14 _ (by decide +kernel) fun t hf y => ?_
  have ht := (flush0_14 t).mp hf
  have e := (idx t).2.2.2.2.2.2.2.2.2.2.2.2.2.2.1
  have e1 : (((cfg0.win 14).blk t).view.emb y) 1 = y 1 := Fin.ext (by blk_simp [e])
  have key : R14 M (((cfg0.win 14).blk t).view.emb y) = ((Model.total M.DC (y 1) : ℝ) : EReal) := by
    unfold R14
    simp only [e1]
  blk_simp
  rw [after0_14]
  exact (point14 h t ht y).trans key.symm

theorem point15 (h : Given m M c) (t : Fin cfg0.N) (ht : t.val % 32 = 31) (y : S1x512.Idx) :
    ((outsAt0 m c t.val t.isLt).2.2.2.1 y : EReal) = ((Model.total M.dlgAt (y 1) : ℝ) : EReal) := by
  have hN : t.val < 32 := t.isLt
  refine (running (fun t => (outsAt0 m c t.val t.isLt).2.2.2.1) (add15 M) (first15 h) (fun t h0 O hO => later15 h t h0 hO) 31 t (by omega) y).trans (congrArg Real.toEReal ?_)
  exact upTo_total (y 1) fun s hs => rfl

theorem final15 (h : Given m M c) : (dats m 0 c).arrAt 15 cfg0.N = R15 M := by
  refine (dats m 0 c).arrAt_eq_of_covers 15 _ (by decide +kernel) fun t hf y => ?_
  have ht := (flush0_15 t).mp hf
  have e := (idx t).2.2.2.2.2.2.2.2.2.2.2.2.2.2.2.1
  have e1 : (((cfg0.win 15).blk t).view.emb y) 1 = y 1 := Fin.ext (by blk_simp [e])
  have key : R15 M (((cfg0.win 15).blk t).view.emb y) = ((Model.total M.dlgAt (y 1) : ℝ) : EReal) := by
    unfold R15
    simp only [e1]
  blk_simp
  rw [after0_15]
  exact (point15 h t ht y).trans key.symm

theorem point16 (h : Given m M c) (t : Fin cfg0.N) (ht : t.val % 32 = 31) (y : S1x512.Idx) :
    ((outsAt0 m c t.val t.isLt).2.2.2.2.1 y : EReal) = ((Model.total M.dlbAt (y 1) : ℝ) : EReal) := by
  have hN : t.val < 32 := t.isLt
  refine (running (fun t => (outsAt0 m c t.val t.isLt).2.2.2.2.1) (add16 M) (first16 h) (fun t h0 O hO => later16 h t h0 hO) 31 t (by omega) y).trans (congrArg Real.toEReal ?_)
  exact upTo_total (y 1) fun s hs => rfl

theorem final16 (h : Given m M c) : (dats m 0 c).arrAt 16 cfg0.N = R16 M := by
  refine (dats m 0 c).arrAt_eq_of_covers 16 _ (by decide +kernel) fun t hf y => ?_
  have ht := (flush0_16 t).mp hf
  have e := (idx t).2.2.2.2.2.2.2.2.2.2.2.2.2.2.2.2.1
  have e1 : (((cfg0.win 16).blk t).view.emb y) 1 = y 1 := Fin.ext (by blk_simp [e])
  have key : R16 M (((cfg0.win 16).blk t).view.emb y) = ((Model.total M.dlbAt (y 1) : ℝ) : EReal) := by
    unfold R16
    simp only [e1]
  blk_simp
  rw [after0_16]
  exact (point16 h t ht y).trans key.symm

theorem point17 (h : Given m M c) (t : Fin cfg0.N) (ht : t.val % 32 = 31) (y : S1x512.Idx) :
    ((outsAt0 m c t.val t.isLt).2.2.2.2.2 y : EReal) = ((Model.total M.dogAt (y 1) : ℝ) : EReal) := by
  have hN : t.val < 32 := t.isLt
  refine (running (fun t => (outsAt0 m c t.val t.isLt).2.2.2.2.2) (add17 M) (first17 h) (fun t h0 O hO => later17 h t h0 hO) 31 t (by omega) y).trans (congrArg Real.toEReal ?_)
  exact upTo_total (y 1) fun s hs => rfl

theorem final17 (h : Given m M c) : (dats m 0 c).arrAt 17 cfg0.N = R17 M := by
  refine (dats m 0 c).arrAt_eq_of_covers 17 _ (by decide +kernel) fun t hf y => ?_
  have ht := (flush0_17 t).mp hf
  have e := (idx t).2.2.2.2.2.2.2.2.2.2.2.2.2.2.2.2.2.1
  have e1 : (((cfg0.win 17).blk t).view.emb y) 1 = y 1 := Fin.ext (by blk_simp [e])
  have key : R17 M (((cfg0.win 17).blk t).view.emb y) = ((Model.total M.dogAt (y 1) : ℝ) : EReal) := by
    unfold R17
    simp only [e1]
  blk_simp
  rw [after0_17]
  exact (point17 h t ht y).trans key.symm

end Cert.KernelIdeal.Value

end
-- ==== Proof.HostRow.lean ====
/-
  What each host operation of the reference does to arrays of real numbers: elementwise operations, sums, repetitions,
  reshapes, and the stacking and shifting of rows.
-/
module

public import proofs.«01_k».proof.Proof.ConvArgs
public import Idealize.ShloMosaic.Lib.IdealHost

@[expose] public section

set_option maxRecDepth 16384

noncomputable section

namespace Cert.ConvBwd

open Idealize.ShloMosaic Idealize.ShloMosaic.TcCoe Cert.Row
open Idealize.ShloMosaic.ValueIdx hiding ix1 ix2 ix3 ix4

abbrev Seq : Shape := ⟨3, ![2, 4096, 512]⟩
abbrev Long : Shape := ⟨3, ![2, 4126, 512]⟩
abbrev Flat : Shape := ⟨2, ![2, 4096]⟩
abbrev Stat : Shape := ⟨3, ![2, 4096, 1]⟩
abbrev Chan : Shape := ⟨1, ![512]⟩
abbrev Stack : Shape := ⟨4, ![31, 2, 4096, 512]⟩
abbrev Unit4 : Shape := ⟨4, ![1, 2, 4096, 512]⟩
abbrev Taps : Shape := ⟨2, ![31, 512]⟩
abbrev Taps4 : Shape := ⟨4, ![31, 1, 1, 512]⟩

/-- One number a position. -/
def FM (x : FVec Ideal Flat .f32) (f : ℕ → ℕ → ℝ) : Prop := ∀ i : Flat.Idx, x i = ((f (i 0).val (i 1).val : ℝ) : EReal)
def FC (x : FVec Ideal Stat .f32) (f : ℕ → ℕ → ℝ) : Prop := ∀ i : Stat.Idx, x i = ((f (i 0).val (i 1).val : ℝ) : EReal)
/-- Rows at the positions of a sequence that is thirty longer. -/
def G3 (x : FVec Ideal Long .f32) (X : ℕ → ℕ → Row) : Prop := ∀ i : Long.Idx, x i = ((X (i 0).val (i 1).val (i 2) : ℝ) : EReal)
/-- Thirty-one arrays stacked, and one. -/
def F4 (x : FVec Ideal Stack .f32) (X : ℕ → ℕ → ℕ → Row) : Prop := ∀ i : Stack.Idx, x i = ((X (i 0).val (i 1).val (i 2).val (i 3) : ℝ) : EReal)
def U4 (x : FVec Ideal Unit4 .f32) (X : ℕ → ℕ → Row) : Prop := ∀ i : Unit4.Idx, x i = ((X (i 1).val (i 2).val (i 3) : ℝ) : EReal)
/-- One row a tap. -/
def K2 (x : FVec Ideal Taps .f32) (X : ℕ → Row) : Prop := ∀ i : Taps.Idx, x i = ((X (i 0).val (i 1) : ℝ) : EReal)
def K4 (x : FVec Ideal Taps4 .f32) (X : ℕ → Row) : Prop := ∀ i : Taps4.Idx, x i = ((X (i 0).val (i 3) : ℝ) : EReal)
/-- One row behind unit axes. -/
def H11 (x : FVec Ideal ⟨3, ![1, 1, 512]⟩ .f32) (V : Row) : Prop := ∀ i : (⟨3, ![1, 1, 512]⟩ : Shape).Idx, x i = ((V (i 2) : ℝ) : EReal)
def H1 (x : FVec Ideal ⟨2, ![1, 512]⟩ .f32) (V : Row) : Prop := ∀ i : (⟨2, ![1, 512]⟩ : Shape).Idx, x i = ((V (i 1) : ℝ) : EReal)

section Elementwise
variable {x y : FVec Ideal Seq .f32} {X Y : ℕ → ℕ → Row} {u v : FVec Ideal Stat .f32} {f g : ℕ → ℕ → ℝ}

theorem F3.congr (h : F3 x X) (e : ∀ b n, X b n = Y b n) : F3 x Y := fun i => by rw [h i, e]
/-- … at the positions that exist. -/
theorem F3.congr' (h : F3 x X) (e : ∀ b n, n < 4096 → X b n = Y b n) : F3 x Y := fun i => by rw [h i, e _ _ (i 1).isLt]
theorem FC.congr (h : FC u f) (e : ∀ b n, f b n = g b n) : FC u g := fun i => by rw [h i, e]

theorem F3.mul (hx : F3 x X) (hy : F3 y Y) : F3 (mulf x y) (fun b n c => X b n c * Y b n c) := fun i => by
  rw [mulf_apply, hx i, hy i, ← EReal.coe_mul]
theorem F3.add (hx : F3 x X) (hy : F3 y Y) : F3 (addf x y) (fun b n c => X b n c + Y b n c) := fun i => by
  rw [addf_apply, hx i, hy i, ← EReal.coe_add]
theorem F3.sub (hx : F3 x X) (hy : F3 y Y) : F3 (subf x y) (fun b n c => X b n c - Y b n c) := fun i => by
  rw [subf_apply, hx i, hy i, ← EReal.coe_sub]
theorem F3.neg (hx : F3 x X) : F3 (Host.negf x) (fun b n c => -X b n c) := fun i => by
  show -(x i) = _
  rw [hx i, ← EReal.coe_neg]
theorem F3.exp (hx : F3 x X) : F3 (Host.exp x) (fun b n c => Real.exp (X b n c)) := fun i => by
  show Ideal.exp (x i) = _
  rw [hx i, Ideal.exp_coe]
theorem F3.div (hx : F3 x X) (hy : F3 y Y) (h : ∀ b n c, Y b n c ≠ 0) : F3 (Host.divf x y) (fun b n c => X b n c * (1 / Y b n c)) := fun i => by
  show Ideal.div (x i) (y i) = _
  rw [hx i, hy i]
  exact (Ideal.div_coe (h _ _ _) _).trans (EReal.coe_mul _ _).symm
theorem FC.mul (hx : FC u f) (hy : FC v g) : FC (mulf u v) (fun b n => f b n * g b n) := fun i => by
  rw [mulf_apply, hx i, hy i, ← EReal.coe_mul]
theorem FC.add (hx : FC u f) (hy : FC v g) : FC (addf u v) (fun b n => f b n + g b n) := fun i => by
  rw [addf_apply, hx i, hy i, ← EReal.coe_add]
theorem FC.div (hx : FC u f) (hy : FC v g) (h : ∀ b n, g b n ≠ 0) : FC (Host.divf u v) (fun b n => f b n * (1 / g b n)) := fun i => by
  show Ideal.div (u i) (v i) = _
  rw [hx i, hy i, Ideal.div_coe (h _ _), ← EReal.coe_mul]
theorem FC.rsqrt (hx : FC u f) (hp : ∀ b n, 0 < f b n) : FC (Host.rsqrt u) (fun b n => (Real.sqrt (f b n))⁻¹) := fun i => by
  show Ideal.rsqrt (u i) = _
  rw [hx i, Ideal.rsqrt_coe, if_neg (not_lt.mpr (hp _ _).le), if_neg (hp _ _).ne']

variable {b : BitVec 32} {r : ℝ}
theorem F3.const {h} (hl : (Scalar.ofBits .f32 b : Ideal .f32) = ((r : ℝ) : EReal)) :
    F3 (broadcastInDim Seq ![] h (constant (F := Ideal) ⟨0, ![]⟩ .f32 b)) (fun _ _ _ => r) := fun _ => hl
theorem FC.const {h} (hl : (Scalar.ofBits .f32 b : Ideal .f32) = ((r : ℝ) : EReal)) :
    FC (broadcastInDim Stat ![] h (constant (F := Ideal) ⟨0, ![]⟩ .f32 b)) (fun _ _ => r) := fun _ => hl
theorem neg_half_lit : (Scalar.ofBits .f32 0xBF000000#32 : Ideal .f32) = ((-(1 / 2) : ℝ) : EReal) := by
  simp [Ideal.ofBits, Ideal.ieee, -EReal.coe_mul]; norm_num

/-- The logistic function as the reference spells it. -/
theorem F3.sigm {w : FVec Ideal Seq .f32} {h h'} (hw : F3 w X) :
    F3 (Host.divf (broadcastInDim Seq ![] h (constant (F := Ideal) ⟨0, ![]⟩ .f32 0x3F800000#32))
      (addf (broadcastInDim Seq ![] h' (constant (F := Ideal) ⟨0, ![]⟩ .f32 0x3F800000#32)) (Host.exp (Host.negf w)))) (fun b n c => sigm (X b n c)) :=
  ((F3.const one_lit).div ((F3.const one_lit).add hw.neg.exp) fun _ _ _ => (sigm_den_pos _).ne').congr fun b n => funext fun c => by
    show 1 * (1 / (1 + Real.exp (-X b n c))) = (1 + Real.exp (-X b n c))⁻¹
    rw [one_mul, one_div]

/-- A column divided by the number of channels. -/
theorem FC.lanes {h} (hx : FC u f) : FC (Host.divf u (broadcastInDim Stat ![] h (constant (F := Ideal) ⟨0, ![]⟩ .f32 0x44000000#32))) (fun b n => f b n * (1 / 512)) :=
  hx.div (FC.const lanes_lit) fun _ _ => by norm_num
end Elementwise

section Repeat
/-- One row behind unit axes, from a row. -/
theorem H1.up {x : FVec Ideal ⟨2, ![1, 512]⟩ .f32} {V : Row} {h} (hx : H1 x V) : H11 (broadcastInDim ⟨3, ![1, 1, 512]⟩ ![1, 2] h x) V := fun i => by
  refine (broadcastInDim_apply _ h x i (ix2 (n0 := 1) (n1 := 512) 0 (i 2)) fun a => ?_).trans (hx _)
  match a with
  | 0 => rfl
  | 1 => rfl
/-- One row at every position. -/
theorem H11.seq {x : FVec Ideal ⟨3, ![1, 1, 512]⟩ .f32} {V : Row} {h} (hx : H11 x V) : F3 (φ := .f32) (broadcastInDim Seq ![0, 1, 2] h x) (fun _ _ => V) := fun i => by
  refine (broadcastInDim_apply _ h x i (ix3 (n0 := 1) (n1 := 1) (n2 := 512) 0 0 (i 2)) fun a => ?_).trans (hx _)
  match a with
  | 0 => rfl
  | 1 => rfl
  | 2 => rfl
theorem FM.stat {x : FVec Ideal Flat .f32} {f : ℕ → ℕ → ℝ} {h} (hx : FM x f) : FC (broadcastInDim Stat ![0, 1] h x) f := fun i => by
  refine (broadcastInDim_apply _ h x i (ix2 (n0 := 2) (n1 := 4096) (i 0) (i 1)) fun a => ?_).trans (hx _)
  match a with
  | 0 => rfl
  | 1 => rfl
theorem FM.cast {x : FVec Ideal Flat .f32} {f : ℕ → ℕ → ℝ} {h} (hx : FM x f) : FC (shapeCast Stat x h) f := fun i => by
  refine (shapeCast_apply x h i (ix2 (n0 := 2) (n1 := 4096) (i 0) (i 1)) ?_).trans (hx _)
  have h2 : (i 2).val = 0 := by have := (i 2).isLt; simpa using this
  rw [Shape.rowMajor_val_three, Shape.rowMajor_val_two]; simp [h2]
theorem FC.seq {x : FVec Ideal Stat .f32} {f : ℕ → ℕ → ℝ} {h} (hx : FC x f) : F3 (φ := .f32) (broadcastInDim Seq ![0, 1, 2] h x) (fun b n _ => f b n) := fun i => by
  refine (broadcastInDim_apply _ h x i (ix3 (n0 := 2) (n1 := 4096) (n2 := 1) (i 0) (i 1) 0) fun a => ?_).trans (hx _)
  match a with
  | 0 => rfl
  | 1 => rfl
  | 2 => rfl
theorem FM.seq {x : FVec Ideal Flat .f32} {f : ℕ → ℕ → ℝ} {h} (hx : FM x f) : F3 (φ := .f32) (broadcastInDim Seq ![0, 1] h x) (fun b n _ => f b n) := fun i => by
  refine (broadcastInDim_apply _ h x i (ix2 (n0 := 2) (n1 := 4096) (i 0) (i 1)) fun a => ?_).trans (hx _)
  match a with
  | 0 => rfl
  | 1 => rfl
theorem HV.cast {x : FVec Ideal Chan .f32} {V : Row} {h} (hx : HV x V) : H11 (shapeCast ⟨3, ![1, 1, 512]⟩ x h) V := fun i => by
  refine (shapeCast_apply x h i (ix1 (n0 := 512) (i 2)) ?_).trans (hx _)
  have h0 : (i 0).val = 0 := by have := (i 0).isLt; simpa using this
  have h1 : (i 1).val = 0 := by have := (i 1).isLt; simpa using this
  rw [Shape.rowMajor_val_three, Shape.rowMajor_val_one]; simp [h0, h1]
theorem HV.row {x : FVec Ideal Chan .f32} {V : Row} {h} (hx : HV x V) : H1 (broadcastInDim ⟨2, ![1, 512]⟩ ![1] h x) V := fun i => by
  refine (broadcastInDim_apply _ h x i (ix1 (n0 := 512) (i 1)) fun a => ?_).trans (hx _)
  match a with
  | 0 => rfl
theorem K2.up {x : FVec Ideal Taps .f32} {X : ℕ → Row} {h} (hx : K2 x X) : K4 (broadcastInDim Taps4 ![0, 3] h x) X := fun i => by
  refine (broadcastInDim_apply _ h x i (ix2 (n0 := 31) (n1 := 512) (i 0) (i 3)) fun a => ?_).trans (hx _)
  match a with
  | 0 => rfl
  | 1 => rfl
theorem K2.cast {x : FVec Ideal Taps .f32} {X : ℕ → Row} {h} (hx : K2 x X) : K4 (shapeCast Taps4 x h) X := fun i => by
  refine (shapeCast_apply x h i (ix2 (n0 := 31) (n1 := 512) (i 0) (i 3)) ?_).trans (hx _)
  have h1 : (i 1).val = 0 := by have := (i 1).isLt; simpa using this
  have h2 : (i 2).val = 0 := by have := (i 2).isLt; simpa using this
  rw [Shape.rowMajor_val_four, Shape.rowMajor_val_two]; simp [h1, h2]
theorem K4.stack {x : FVec Ideal Taps4 .f32} {X : ℕ → Row} {h} (hx : K4 x X) : F4 (broadcastInDim Stack ![0, 1, 2, 3] h x) (fun k _ _ => X k) := fun i => by
  refine (broadcastInDim_apply _ h x i (ix4 (n0 := 31) (n1 := 1) (n2 := 1) (n3 := 512) (i 0) 0 0 (i 3)) fun a => ?_).trans (hx _)
  match a with
  | 0 => rfl
  | 1 => rfl
  | 2 => rfl
  | 3 => rfl
theorem F3.stack {x : FVec Ideal Seq .f32} {X : ℕ → ℕ → Row} {h} (hx : F3 x X) : F4 (broadcastInDim Stack ![1, 2, 3] h x) (fun _ => X) := fun i => by
  refine (broadcastInDim_apply _ h x i (ix3 (n0 := 2) (n1 := 4096) (n2 := 512) (i 1) (i 2) (i 3)) fun a => ?_).trans (hx _)
  match a with
  | 0 => rfl
  | 1 => rfl
  | 2 => rfl
theorem F3.unit {x : FVec Ideal Seq .f32} {X : ℕ → ℕ → Row} {h} (hx : F3 x X) : U4 (broadcastInDim Unit4 ![1, 2, 3] h x) X := fun i => by
  refine (broadcastInDim_apply _ h x i (ix3 (n0 := 2) (n1 := 4096) (n2 := 512) (i 1) (i 2) (i 3)) fun a => ?_).trans (hx _)
  match a with
  | 0 => rfl
  | 1 => rfl
  | 2 => rfl
theorem F4.mul {x y : FVec Ideal Stack .f32} {X Y : ℕ → ℕ → ℕ → Row} (hx : F4 x X) (hy : F4 y Y) : F4 (mulf x y) (fun k b n c => X k b n c * Y k b n c) := fun i => by
  rw [mulf_apply, hx i, hy i, ← EReal.coe_mul]
end Repeat

section Sums
/-- A host sum at `j`: the sum over the entries that drop to `j`, named by `e`. -/
theorem sum_fibre {s t : Shape} {axes : List (Fin s.rank)} {κ : Type} [Fintype κ] {h : s.ReducesTo axes t} {u : Shape} {hu : 0 < u.numel} {b : BitVec 32} {r : ℝ}
    {x : FVec Ideal s .f32} (hb : (Scalar.ofBits .f32 b : Ideal .f32) = ((0 : ℝ) : EReal)) (j : t.Idx) (e : κ → s.Idx) (inv : s.Idx → κ)
    (f : κ → ℝ) (hf : ∀ k, x (e k) = ((f k : ℝ) : EReal)) (he : ∀ k, h.drop (e k) = j) (hi : ∀ k, inv (e k) = k) (hl : ∀ i, h.drop i = j → e (inv i) = i)
    (hr : r = ∑ k, f k) :
    Host.reduceAdd x (constant (F := Ideal) u .f32 b) h hu j = ((r : ℝ) : EReal) := by
  show Ideal.hostReduceAdd h x (Scalar.ofBits .f32 b : Ideal .f32) j = _
  rw [hb, hr]
  unfold Ideal.hostReduceAdd
  rw [EReal.coe_zero, zero_add, ← coe_sum]
  refine Finset.sum_nbij' inv e (fun _ _ => Finset.mem_univ _) (fun k _ => Finset.mem_filter.2 ⟨Finset.mem_univ _, he k⟩)
    (fun i hi' => hl i (Finset.mem_filter.1 hi').2) (fun k _ => hi k) fun i hi' => ?_
  rw [← hf, hl i (Finset.mem_filter.1 hi').2]

/-- The sum over the channels of each row. -/
theorem F3.rowsum {x : FVec Ideal Seq .f32} {X : ℕ → ℕ → Row} {h} {hu} (hx : F3 x X) :
    FM (Host.reduceAdd (axes := [2]) x (constant (F := Ideal) ⟨0, ![]⟩ .f32 0x00000000#32) h hu) (fun b n => ∑ c, X b n c) := fun j => by
  refine sum_fibre (κ := Fin 512) zero_lit j (fun k => ix3 (n0 := 2) (n1 := 4096) (n2 := 512) (j 0) (j 1) k) (fun i => i 2) _ (fun k => hx _) (fun k => ?_) (fun k => rfl) (fun i hi => ?_) rfl
  · funext a
    match a with
    | 0 => rfl
    | 1 => rfl
  · subst hi
    funext a
    match a with
    | 0 => rfl
    | 1 => rfl
    | 2 => rfl
/-- … of a column. -/
theorem FC.sum {x : FVec Ideal Stat .f32} {f : ℕ → ℕ → ℝ} {h} {hu} (hx : FC x f) :
    FM (Host.reduceAdd (axes := [2]) x (constant (F := Ideal) ⟨0, ![]⟩ .f32 0x00000000#32) h hu) f := fun j => by
  refine sum_fibre (κ := Fin 1) zero_lit j (fun k => ix3 (n0 := 2) (n1 := 4096) (n2 := 1) (j 0) (j 1) k) (fun i => i 2) (fun _ => f (j 0).val (j 1).val) (fun k => hx _) (fun k => ?_) (fun k => rfl) (fun i hi => ?_) (by simp)
  · funext a
    match a with
    | 0 => rfl
    | 1 => rfl
  · subst hi
    funext a
    match a with
    | 0 => rfl
    | 1 => rfl
    | 2 => rfl
/-- The sum over every position of each channel. -/
theorem F3.total {x : FVec Ideal Seq .f32} {X : ℕ → ℕ → Row} {h} {hu} (hx : F3 x X) :
    HV (Host.reduceAdd (axes := [0, 1]) x (constant (F := Ideal) ⟨0, ![]⟩ .f32 0x00000000#32) h hu) (Model.total X) := fun j => by
  refine sum_fibre (κ := Fin 2 × Fin 4096) zero_lit j (fun k => ix3 (n0 := 2) (n1 := 4096) (n2 := 512) k.1 k.2 (j 0)) (fun i => (i 0, i 1)) _ (fun k => hx _) (fun k => ?_) (fun k => rfl) (fun i hi => ?_)
    (Fintype.sum_prod_type' (f := fun (b : Fin 2) (t : Fin 4096) => X b.val t.val (j 0))).symm
  · funext a
    match a with
    | 0 => rfl
  · subst hi
    funext a
    match a with
    | 0 => rfl
    | 1 => rfl
    | 2 => rfl
theorem H11.sum {x : FVec Ideal ⟨3, ![1, 1, 512]⟩ .f32} {V : Row} {h} {hu} (hx : H11 x V) :
    HV (Host.reduceAdd (axes := [0, 1]) x (constant (F := Ideal) ⟨0, ![]⟩ .f32 0x00000000#32) h hu) V := fun j => by
  refine sum_fibre (κ := Fin 1 × Fin 1) zero_lit j (fun k => ix3 (n0 := 1) (n1 := 1) (n2 := 512) k.1 k.2 (j 0)) (fun i => (i 0, i 1)) (fun _ => V (j 0)) (fun k => hx _) (fun k => ?_) (fun k => rfl) (fun i hi => ?_)
    (by simp)
  · funext a
    match a with
    | 0 => rfl
  · subst hi
    funext a
    match a with
    | 0 => rfl
    | 1 => rfl
    | 2 => rfl
/-- The sum over the stack. -/
theorem F4.sum {x : FVec Ideal Stack .f32} {X : ℕ → ℕ → ℕ → Row} {h} {hu} (hx : F4 x X) :
    F3 (φ := .f32) (Host.reduceAdd (axes := [0]) x (constant (F := Ideal) ⟨0, ![]⟩ .f32 0x00000000#32) h hu) (fun b n c => ∑ k : Fin 31, X k.val b n c) := fun j => by
  refine sum_fibre (κ := Fin 31) zero_lit j (fun k => ix4 (n0 := 31) (n1 := 2) (n2 := 4096) (n3 := 512) k (j 0) (j 1) (j 2)) (fun i => i 0) _ (fun k => hx _) (fun k => ?_) (fun k => rfl) (fun i hi => ?_) rfl
  · funext a
    match a with
    | 0 => rfl
    | 1 => rfl
    | 2 => rfl
  · subst hi
    funext a
    match a with
    | 0 => rfl
    | 1 => rfl
    | 2 => rfl
    | 3 => rfl
/-- The sum over every position of each channel of each array of the stack. -/
theorem F4.total {x : FVec Ideal Stack .f32} {X : ℕ → ℕ → ℕ → Row} {h} {hu} (hx : F4 x X) :
    K2 (Host.reduceAdd (axes := [1, 2]) x (constant (F := Ideal) ⟨0, ![]⟩ .f32 0x00000000#32) h hu) (fun k => Model.total (X k)) := fun j => by
  refine sum_fibre (κ := Fin 2 × Fin 4096) zero_lit j (fun k => ix4 (n0 := 31) (n1 := 2) (n2 := 4096) (n3 := 512) (j 0) k.1 k.2 (j 1)) (fun i => (i 1, i 2)) _ (fun k => hx _) (fun k => ?_) (fun k => rfl) (fun i hi => ?_)
    (Fintype.sum_prod_type' (f := fun (b : Fin 2) (t : Fin 4096) => X (j 0).val b.val t.val (j 1))).symm
  · funext a
    match a with
    | 0 => rfl
    | 1 => rfl
  · subst hi
    funext a
    match a with
    | 0 => rfl
    | 1 => rfl
    | 2 => rfl
    | 3 => rfl
theorem K4.sum {x : FVec Ideal Taps4 .f32} {X : ℕ → Row} {h} {hu} (hx : K4 x X) :
    K2 (Host.reduceAdd (axes := [1, 2]) x (constant (F := Ideal) ⟨0, ![]⟩ .f32 0x00000000#32) h hu) X := fun j => by
  refine sum_fibre (κ := Fin 1 × Fin 1) zero_lit j (fun k => ix4 (n0 := 31) (n1 := 1) (n2 := 1) (n3 := 512) (j 0) k.1 k.2 (j 1)) (fun i => (i 1, i 2)) (fun _ => X (j 0).val (j 1)) (fun k => hx _) (fun k => ?_) (fun k => rfl) (fun i hi => ?_)
    (by simp)
  · funext a
    match a with
    | 0 => rfl
    | 1 => rfl
  · subst hi
    funext a
    match a with
    | 0 => rfl
    | 1 => rfl
    | 2 => rfl
    | 3 => rfl
end Sums

end Cert.ConvBwd

end
-- ==== Proof.HostShift.lean ====
/-
  Stacking and shifting rows on the host: thirty-one windows of a longer sequence stacked, the sum of thirty-one shifted
  sequences, and two arrays laid side by side.
-/
module

public import proofs.«01_k».proof.Proof.HostRow

@[expose] public section

set_option maxRecDepth 16384

noncomputable section

namespace Cert.ConvBwd

open Idealize.ShloMosaic Idealize.ShloMosaic.TcCoe Cert.Row
open Idealize.ShloMosaic.ValueIdx hiding ix1 ix2 ix3 ix4

theorem G3.congr {x : FVec Ideal Long .f32} {X Y : ℕ → ℕ → Row} (h : G3 x X) (e : ∀ b n, X b n = Y b n) : G3 x Y := fun i => by rw [h i, e]
theorem F4.congr {x : FVec Ideal Stack .f32} {X Y : ℕ → ℕ → ℕ → Row} (h : F4 x X) (e : ∀ k b n, X k b n = Y k b n) : F4 x Y := fun i => by rw [h i, e]

/-- Thirty rows of zeros above a sequence. -/
theorem F3.below {x : FVec Ideal Seq .f32} {z : FVec Ideal ⟨3, ![2, 30, 512]⟩ .f32} {X : ℕ → ℕ → Row} (hz : ∀ i, z i = ((0 : ℝ) : EReal)) (hx : F3 x X) {h} :
    G3 (concatenate Long 1 [⟨⟨3, ![2, 30, 512]⟩, z⟩, ⟨Seq, x⟩] h) (fun b n c => if n < 30 then 0 else X b (n - 30) c) := fun i => by
  have h1 : (i 1).val < 4126 := (i 1).isLt
  by_cases hi : (i 1).val < 30
  · refine ((concatenate_pair_apply_left (t := Long) (s₁ := ⟨3, ![2, 30, 512]⟩) (s₂ := Seq) (1 : Fin 3) z x h i rfl
      (ix3 (n0 := 2) (n1 := 30) (n2 := 512) (i 0) ⟨(i 1).val, hi⟩ (i 2)) fun a => ?_).trans (hz _)).trans ?_
    · match a with
      | 0 => rfl
      | 1 => rfl
      | 2 => rfl
    · exact congrArg Real.toEReal (if_pos hi).symm
  · refine ((concatenate_pair_apply_right (t := Long) (s₁ := ⟨3, ![2, 30, 512]⟩) (s₂ := Seq) (1 : Fin 3) z x h i rfl rfl
      (ix3 (n0 := 2) (n1 := 4096) (n2 := 512) (i 0) ⟨(i 1).val - 30, by omega⟩ (i 2)) (fun a ha => ?_) ?_).trans (hx _)).trans ?_
    · match a with
      | 0 => rfl
      | 1 => exact absurd rfl ha
      | 2 => rfl
    · show (i 1).val - 30 + 30 = (i 1).val
      omega
    · exact congrArg Real.toEReal (if_neg hi).symm

/-- A window of a longer sequence. -/
theorem G3.window {x : FVec Ideal Long .f32} {X : ℕ → ℕ → Row} (k : ℕ) (hk : k ≤ 30) {h} (hx : G3 x X) :
    F3 (φ := .f32) (extractStridedSlice Seq ![0, k, 0] x h) (fun b t => X b (t + k)) := fun i => by
  have h1 : (i 1).val < 4096 := (i 1).isLt
  refine (extractStridedSlice_apply _ x h i (ix3 (n0 := 2) (n1 := 4126) (n2 := 512) (i 0) ⟨(i 1).val + k, by omega⟩ (i 2)) fun a => ?_).trans (hx _)
  match a with
  | 0 => exact (Nat.zero_add _).symm
  | 1 => exact Nat.add_comm _ _
  | 2 => exact (Nat.zero_add _).symm

/-- The list holds, from number `k` on, the arrays `W k`, `W (k + 1)`, … -/
def Pieces (W : ℕ → ℕ → ℕ → Row) : ℕ → List ((s : Shape) × (s.Idx → Ideal .f32)) → Prop
  | _, [] => True
  | k, p :: ps => (∃ x : FVec Ideal Unit4 .f32, p = ⟨Unit4, x⟩ ∧ U4 x (W k)) ∧ Pieces W (k + 1) ps

variable {W : ℕ → ℕ → ℕ → Row}

theorem Pieces.get : ∀ {ps : List ((s : Shape) × (s.Idx → Ideal .f32))} {k : ℕ}, Pieces W k ps → ∀ (n : ℕ) (hn : n < ps.length),
    ∃ x : FVec Ideal Unit4 .f32, ps[n] = ⟨Unit4, x⟩ ∧ U4 x (W (k + n))
  | _ :: _, _, h, 0, _ => h.1
  | _ :: ps, k, h, n + 1, hn => by
    obtain ⟨x, e, hx⟩ := h.2.get n (Nat.lt_of_succ_lt_succ hn)
    exact ⟨x, e, by rwa [show k + (n + 1) = k + 1 + n by omega]⟩

theorem Pieces.before (f : Shape → ℕ) (hf : f Unit4 = 1) : ∀ {ps : List ((s : Shape) × (s.Idx → Ideal .f32))} {k : ℕ}, Pieces W k ps → ∀ n, n ≤ ps.length →
    (((ps.take n).map (·.1)).map f).sum = n
  | _, _, _, 0, _ => by simp
  | [], _, _, n + 1, hn => absurd hn (by simp)
  | p :: ps, k, h, n + 1, hn => by
    obtain ⟨x, e, _⟩ := h.1
    have := h.2.before f hf n (Nat.le_of_succ_le_succ hn)
    simp only [List.take_succ_cons, List.map_cons, List.sum_cons, this, e, hf]
    omega

/-- `m` arrays stacked. -/
theorem Pieces.stack {m k : ℕ} {ps : List ((s : Shape) × (s.Idx → Ideal .f32))} (hp : Pieces W k ps) (hm : ps.length = m) {h}
    (i : (⟨4, ![m, 2, 4096, 512]⟩ : Shape).Idx) :
    concatenate ⟨4, ![m, 2, 4096, 512]⟩ 0 ps h i = ((W (k + (i 0).val) (i 1).val (i 2).val (i 3) : ℝ) : EReal) := by
  have h0 : (i 0).val < ps.length := by rw [hm]; exact (i 0).isLt
  obtain ⟨x, e, hx⟩ := hp.get (i 0).val h0
  refine (concatenate_apply_piece (t := ⟨4, ![m, 2, 4096, 512]⟩) (0 : Fin 4) ps h i (i 0).val h0 Unit4 x e rfl (i 0).val (hp.before _ rfl _ h0.le)
    (ix4 (n0 := 1) (n1 := 2) (n2 := 4096) (n3 := 512) 0 (i 1) (i 2) (i 3)) (fun a ha => ?_) rfl).trans (hx _)
  match a with
  | 0 => exact absurd rfl ha
  | 1 => rfl
  | 2 => rfl
  | 3 => rfl

/-- A stack of sixteen over a stack of fifteen. -/
theorem F4.over {x : FVec Ideal ⟨4, ![16, 2, 4096, 512]⟩ .f32} {y : FVec Ideal ⟨4, ![15, 2, 4096, 512]⟩ .f32}
    (hx : ∀ i, x i = ((W (0 + (i 0).val) (i 1).val (i 2).val (i 3) : ℝ) : EReal)) (hy : ∀ i, y i = ((W (16 + (i 0).val) (i 1).val (i 2).val (i 3) : ℝ) : EReal)) {h} :
    F4 (concatenate Stack 0 [⟨⟨4, ![16, 2, 4096, 512]⟩, x⟩, ⟨⟨4, ![15, 2, 4096, 512]⟩, y⟩] h) W := fun i => by
  have h0 : (i 0).val < 31 := (i 0).isLt
  by_cases hi : (i 0).val < 16
  · refine ((concatenate_pair_apply_left (t := Stack) (s₁ := ⟨4, ![16, 2, 4096, 512]⟩) (s₂ := ⟨4, ![15, 2, 4096, 512]⟩) (0 : Fin 4) x y h i rfl
      (ix4 (n0 := 16) (n1 := 2) (n2 := 4096) (n3 := 512) ⟨(i 0).val, hi⟩ (i 1) (i 2) (i 3)) fun a => ?_).trans (hx _)).trans ?_
    · match a with
      | 0 => rfl
      | 1 => rfl
      | 2 => rfl
      | 3 => rfl
    · show ((W (0 + (i 0).val) _ _ _ : ℝ) : EReal) = _
      rw [Nat.zero_add]
      rfl
  · refine ((concatenate_pair_apply_right (t := Stack) (s₁ := ⟨4, ![16, 2, 4096, 512]⟩) (s₂ := ⟨4, ![15, 2, 4096, 512]⟩) (0 : Fin 4) x y h i rfl rfl
      (ix4 (n0 := 15) (n1 := 2) (n2 := 4096) (n3 := 512) ⟨(i 0).val - 16, by omega⟩ (i 1) (i 2) (i 3)) (fun a ha => ?_) ?_).trans (hy _)).trans ?_
    · match a with
      | 0 => exact absurd rfl ha
      | 1 => rfl
      | 2 => rfl
      | 3 => rfl
    · show (i 0).val - 16 + 16 = (i 0).val
      omega
    · show ((W (16 + ((i 0).val - 16)) _ _ _ : ℝ) : EReal) = _
      rw [show 16 + ((i 0).val - 16) = (i 0).val by omega]
      rfl

variable {X : ℕ → ℕ → ℕ → Row}

/-- One array of a stack. -/
theorem F4.nth {x : FVec Ideal Stack .f32} (hx : F4 x X) (k : ℕ) (hk : k < 31) {h h'} :
    F3 (φ := .f32) (shapeCast Seq (extractStridedSlice Unit4 ![k, 0, 0, 0] x h) h') (X k) := fun i => by
  refine (shapeCast_apply _ h' i (ix4 (n0 := 1) (n1 := 2) (n2 := 4096) (n3 := 512) 0 (i 0) (i 1) (i 2)) ?_).trans
    ((extractStridedSlice_apply _ x h _ (ix4 (n0 := 31) (n1 := 2) (n2 := 4096) (n3 := 512) ⟨k, hk⟩ (i 0) (i 1) (i 2)) fun a => ?_).trans (hx _))
  · rw [Shape.rowMajor_val_four, Shape.rowMajor_val_three]; simp
  · match a with
    | 0 => rfl
    | 1 => exact (Nat.zero_add _).symm
    | 2 => exact (Nat.zero_add _).symm
    | 3 => exact (Nat.zero_add _).symm

/-- The array moved down by `k` rows. -/
def moved (Y : ℕ → ℕ → Row) (k b n : ℕ) : Row := fun c => if k ≤ n ∧ n < k + 4096 then Y b (n - k) c else 0

theorem F3.move {x : FVec Ideal Seq .f32} {Y : ℕ → ℕ → Row} (hx : F3 x Y) (k : ℕ) {e : ℕ} {u : Shape} {h} {hu} :
    G3 (pad Long ![0, k, 0] ![0, e, 0] ![0, 0, 0] x (constant (F := Ideal) u .f32 0x00000000#32) h hu) (moved Y k) := fun i => by
  by_cases hi : k ≤ (i 1).val ∧ (i 1).val < k + 4096
  · refine ((pad_apply_of_inside _ _ _ x _ h hu i (ix3 (n0 := 2) (n1 := 4096) (n2 := 512) (i 0) ⟨(i 1).val - k, by omega⟩ (i 2)) fun a => ?_).trans (hx _)).trans ?_
    · match a with
      | 0 => show (i 0).val = 0 + (i 0).val * (0 + 1); omega
      | 1 => show (i 1).val = k + ((i 1).val - k) * (0 + 1); omega
      | 2 => show (i 2).val = 0 + (i 2).val * (0 + 1); omega
    · exact congrArg Real.toEReal (if_pos hi).symm
  · refine ((pad_apply_of_not_inside _ _ _ x _ h hu i (1 : Fin 3) fun hn => ?_).trans zero_lit).trans ?_
    · have h1 : k ≤ (i 1).val := hn.1
      have h2 : ((i 1).val - k) / (0 + 1) < 4096 := hn.2.2
      omega
    · exact congrArg Real.toEReal (if_neg hi).symm

/-- The sum of the arrays from number `k` on, each moved down by its number. -/
def tail (X : ℕ → ℕ → ℕ → Row) (k b n : ℕ) : Row := fun c => ∑ j ∈ Finset.Ico k 31, moved (X j) j b n c

/-- The last array. -/
theorem F4.last {x : FVec Ideal Stack .f32} (hx : F4 x X) {e : ℕ} {u : Shape} {h h' h''} {hu} :
    G3 (pad Long ![0, 30, 0] ![0, e, 0] ![0, 0, 0] (shapeCast Seq (extractStridedSlice Unit4 ![30, 0, 0, 0] x h) h') (constant (F := Ideal) u .f32 0x00000000#32) h'' hu) (tail X 30) :=
  ((hx.nth 30 (by omega)).move 30).congr fun b n => funext fun c => by simp [tail]

/-- One more array. -/
theorem F4.more {x : FVec Ideal Stack .f32} (hx : F4 x X) {z : FVec Ideal Long .f32} (k : ℕ) {e : ℕ} {u : Shape} {h h' h''} {hu} (hz : G3 z (tail X (k + 1))) (hk : k < 31) :
    G3 (addf z (pad Long ![0, k, 0] ![0, e, 0] ![0, 0, 0] (shapeCast Seq (extractStridedSlice Unit4 ![k, 0, 0, 0] x h) h') (constant (F := Ideal) u .f32 0x00000000#32) h'' hu)) (tail X k) := fun i => by
  rw [addf_apply, hz i, (hx.nth k hk).move k i, ← EReal.coe_add]
  refine congrArg Real.toEReal ?_
  show _ = ∑ j ∈ Finset.Ico k 31, moved (X j) j _ _ _
  rw [Finset.sum_eq_sum_Ico_succ_bot hk, add_comm]
  rfl

/-- One array beside another, in the narrower format. -/
theorem sides {x y : FVec Ideal Seq .f32} {P Q : ℕ → ℕ → Row} (hx : F3 x P) (hy : F3 y Q) {u : Shape} {h1 h2 h3 h4} {hu hu'} (i : (⟨3, ![2, 4096, 1024]⟩ : Shape).Idx) :
    truncf .bf16 (extractStridedSlice ⟨3, ![2, 4096, 1024]⟩ ![0, 0, 0]
      (addf (pad ⟨3, ![2, 4096, 1536]⟩ ![0, 0, 512] ![0, 0, 512] ![0, 0, 0] x (constant (F := Ideal) u .f32 0x00000000#32) h1 hu)
        (pad ⟨3, ![2, 4096, 1536]⟩ ![0, 0, 0] ![0, 0, 1024] ![0, 0, 0] y (constant (F := Ideal) u .f32 0x00000000#32) h2 hu')) h3) h4 i
      = ((if h : (i 2).val < 512 then Q (i 0).val (i 1).val ⟨(i 2).val, h⟩ else P (i 0).val (i 1).val ⟨(i 2).val - 512, by have : (i 2).val < 1024 := (i 2).isLt; omega⟩ : ℝ) : EReal) := by
  have hc : (i 2).val < 1024 := (i 2).isLt
  have narrow (z : FVec Ideal ⟨3, ![2, 4096, 1024]⟩ .f32) : truncf .bf16 z h4 i = z i := rfl
  refine (narrow _).trans ?_
  refine (extractStridedSlice_apply (s := ⟨3, ![2, 4096, 1536]⟩) (t := ⟨3, ![2, 4096, 1024]⟩) ![0, 0, 0] _ h3 i
    (ix3 (n0 := 2) (n1 := 4096) (n2 := 1536) (i 0) (i 1) ⟨(i 2).val, by omega⟩) fun a => ?_).trans ?_
  · match a with
    | 0 => exact (Nat.zero_add _).symm
    | 1 => exact (Nat.zero_add _).symm
    | 2 => exact (Nat.zero_add _).symm
  rw [addf_apply]
  by_cases h : (i 2).val < 512
  · have e1 := (pad_apply_of_not_inside (s := Seq) (t := ⟨3, ![2, 4096, 1536]⟩) ![0, 0, 512] ![0, 0, 512] ![0, 0, 0] x (constant (F := Ideal) u .f32 0x00000000#32) h1 hu
      (ix3 (n0 := 2) (n1 := 4096) (n2 := 1536) (i 0) (i 1) ⟨(i 2).val, by omega⟩) (2 : Fin 3) fun hn => by
        have : 512 ≤ (i 2).val := hn.1
        omega).trans zero_lit
    have e2 := (pad_apply_of_inside (s := Seq) (t := ⟨3, ![2, 4096, 1536]⟩) ![0, 0, 0] ![0, 0, 1024] ![0, 0, 0] y (constant (F := Ideal) u .f32 0x00000000#32) h2 hu'
      (ix3 (n0 := 2) (n1 := 4096) (n2 := 1536) (i 0) (i 1) ⟨(i 2).val, by omega⟩)
      (ix3 (n0 := 2) (n1 := 4096) (n2 := 512) (i 0) (i 1) ⟨(i 2).val, h⟩) fun a => match a with
        | 0 => by show (i 0).val = 0 + (i 0).val * (0 + 1); omega
        | 1 => by show (i 1).val = 0 + (i 1).val * (0 + 1); omega
        | 2 => by show (i 2).val = 0 + (i 2).val * (0 + 1); omega).trans (hy _)
    rw [e1, e2, dif_pos h, ← EReal.coe_add, zero_add]
    rfl
  · have e1 := (pad_apply_of_inside (s := Seq) (t := ⟨3, ![2, 4096, 1536]⟩) ![0, 0, 512] ![0, 0, 512] ![0, 0, 0] x (constant (F := Ideal) u .f32 0x00000000#32) h1 hu
      (ix3 (n0 := 2) (n1 := 4096) (n2 := 1536) (i 0) (i 1) ⟨(i 2).val, by omega⟩)
      (ix3 (n0 := 2) (n1 := 4096) (n2 := 512) (i 0) (i 1) ⟨(i 2).val - 512, by omega⟩) fun a => match a with
        | 0 => by show (i 0).val = 0 + (i 0).val * (0 + 1); omega
        | 1 => by show (i 1).val = 0 + (i 1).val * (0 + 1); omega
        | 2 => by show (i 2).val = 512 + ((i 2).val - 512) * (0 + 1); omega).trans (hx _)
    have e2 := (pad_apply_of_not_inside (s := Seq) (t := ⟨3, ![2, 4096, 1536]⟩) ![0, 0, 0] ![0, 0, 1024] ![0, 0, 0] y (constant (F := Ideal) u .f32 0x00000000#32) h2 hu'
      (ix3 (n0 := 2) (n1 := 4096) (n2 := 1536) (i 0) (i 1) ⟨(i 2).val, by omega⟩) (2 : Fin 3) fun hn => by
        have : ((i 2).val - 0) / (0 + 1) < 512 := hn.2.2
        omega).trans zero_lit
    rw [e1, e2, dif_neg h, ← EReal.coe_add, add_zero]
    rfl

end Cert.ConvBwd

end
-- ==== Proof.ConvRef.lean ====
/-
  The reference's stages over real arguments: its convolution, the tail and the tail's gradient row by row, and its six results,
  all in the model's terms.
-/
module

public import proofs.«01_k».proof.Proof.HostShift
public import proofs.«01_k».proof.Proof.Gen.ReferenceIdeal.Read

@[expose] public section

set_option maxRecDepth 16384

noncomputable section

namespace Cert.ConvBwd

open Idealize.ShloMosaic Idealize.ShloMosaic.TcCoe Cert.Row
open Idealize.ShloMosaic.ValueIdx hiding ix1 ix2 ix3 ix4
open Cert.ReferenceIdeal.Read

variable {M : Model} {x0 : FVec Ideal ⟨3, ![2, 4096, 1024]⟩ .f32} {x1 : FVec Ideal ⟨3, ![2, 4096, 1536]⟩ .f32} {x2 : FVec Ideal ⟨2, ![31, 512]⟩ .f32}
  {x3 x4 x5 x6 : FVec Ideal ⟨2, ![1, 512]⟩ .f32}

theorem zero_word : (Scalar.sitofp .f32 (0#32) : Ideal .f32) = ((0 : ℝ) : EReal) := by
  show ((((0#32).toInt : ℤ) : ℝ) : EReal) = _
  simp

namespace Args

variable (h : Args M x0 x1 x2 x3 x4 x5 x6)
include h

/-! ## The gated values and the convolution -/

theorem r0 : F3 (φ := .f32) (val_main_v0 (F := Ideal) x1) M.V := fun i =>
  (extractStridedSlice_apply _ x1 _ i (ix3 (n0 := 2) (n1 := 4096) (n2 := 1536) (i 0) (i 1) ⟨(i 2).val, by have : (i 2).val < 512 := (i 2).isLt; omega⟩) fun a => match a with
    | 0 => (Nat.zero_add _).symm
    | 1 => (Nat.zero_add _).symm
    | 2 => (Nat.zero_add _).symm).trans (h.v _ _ _ (i 2) rfl rfl rfl)
theorem r1 : F3 (φ := .f32) (val_main_v1 (F := Ideal) x1) M.G := fun i =>
  (extractStridedSlice_apply _ x1 _ i (ix3 (n0 := 2) (n1 := 4096) (n2 := 1536) (i 0) (i 1) ⟨512 + (i 2).val, by have : (i 2).val < 512 := (i 2).isLt; omega⟩) fun a => match a with
    | 0 => (Nat.zero_add _).symm
    | 1 => (Nat.zero_add _).symm
    | 2 => rfl).trans (h.g _ _ _ (i 2) rfl rfl rfl)
theorem r129 : F3 (φ := .f32) (val_main_v129 (F := Ideal) x0) M.D := fun i =>
  (extractStridedSlice_apply _ x0 _ i (ix3 (n0 := 2) (n1 := 4096) (n2 := 1024) (i 0) (i 1) ⟨(i 2).val, by have : (i 2).val < 512 := (i 2).isLt; omega⟩) fun a => match a with
    | 0 => (Nat.zero_add _).symm
    | 1 => (Nat.zero_add _).symm
    | 2 => (Nat.zero_add _).symm).trans (h.d _ _ _ (i 2) rfl rfl rfl)
theorem r7 : F3 (φ := .f32) (val_main_v7 (F := Ideal) x1) (fun b n c => sigm (M.G b n c)) := h.r1.sigm
theorem r10 : F3 (φ := .f32) (val_main_v10 (F := Ideal) x1) (fun b n c => sigm (M.G b n c) * (1 - sigm (M.G b n c))) :=
  h.r7.mul ((F3.const one_lit).sub h.r7)
theorem r11 : F3 (φ := .f32) (val_main_v11 (F := Ideal) x1) M.A := h.r0.mul h.r7
theorem r13 : G3 (val_main_v13 (F := Ideal) x1) M.Ap := F3.below (fun _ => zero_lit) h.r11
theorem r79 : F4 (val_main_v79 (F := Ideal) x1) (fun k b t => M.Ap b (t + k)) := by
  have p {k : ℕ} (hk : k ≤ 30) {s s'} : ∃ x : FVec Ideal Unit4 .f32,
      (⟨Unit4, broadcastInDim Unit4 ![1, 2, 3] s' (extractStridedSlice Seq ![0, k, 0] (val_main_v13 (F := Ideal) x1) s)⟩ : (s : Shape) × (s.Idx → Ideal .f32)) = ⟨Unit4, x⟩
        ∧ U4 x ((fun k b t => M.Ap b (t + k)) k) := ⟨_, rfl, (h.r13.window k hk).unit⟩
  refine F4.over (W := fun k b t => M.Ap b (t + k)) (fun i => Pieces.stack (W := fun k b t => M.Ap b (t + k)) (m := 16) (k := 0) ?_ rfl i)
    (fun i => Pieces.stack (W := fun k b t => M.Ap b (t + k)) (m := 15) (k := 16) ?_ rfl i)
  all_goals
    repeat first
      | exact trivial
      | refine ⟨p (by omega), ?_⟩
theorem r83 : F3 (φ := .f32) (val_main_v83 (F := Ideal) x1 x2) (fun b t c => ∑ k : Fin 31, M.w k.val c * M.Ap b (t + k.val) c) :=
  (F4.sum (F4.congr (h.r79.mul (K4.stack (K2.up (X := M.w) h.w))) fun k b n => funext fun c => mul_comm _ _))
theorem r86 : F3 (φ := .f32) (val_main_v86 (F := Ideal) x1 x2 x3) M.CV := h.r83.add (H11.seq (H1.up (V := M.bias) h.bias))

/-! ## The layer norm, its activation and the scale -/

theorem r90 : FC (val_main_v90 (F := Ideal) x1 x2 x3) (fun b n => mean (M.CV b n)) := h.r86.rowsum.stat.lanes
theorem r92 : F3 (φ := .f32) (val_main_v92 (F := Ideal) x1 x2 x3) (fun b n => cen (M.CV b n)) := h.r86.sub h.r90.seq
theorem r99 : FC (val_main_v99 (F := Ideal) x1 x2 x3) (fun b n => vare (M.CV b n)) := (h.r92.mul h.r92).rowsum.stat.lanes.add (FC.const eps_lit)
theorem r100 : FC (val_main_v100 (F := Ideal) x1 x2 x3) (fun b n => rstd (M.CV b n)) := h.r99.rsqrt fun _ _ => vare_pos _
theorem r103 : FC (val_main_v103 (F := Ideal) x1 x2 x3) (fun b n => -(1 / 2) * (rstd (M.CV b n) * (1 / vare (M.CV b n)))) :=
  (FC.const neg_half_lit).mul (h.r100.div h.r99 fun _ _ => (vare_pos _).ne')
theorem r105 : F3 (φ := .f32) (val_main_v105 (F := Ideal) x1 x2 x3) (fun b n => nrm (M.CV b n)) := h.r92.mul h.r100.seq
theorem r106 : H11 (val_main_v106 (F := Ideal) x4) M.lg := H1.up h.lg
theorem r111 : F3 (φ := .f32) (val_main_v111 (F := Ideal) x1 x2 x3 x4 x5) (fun b n => lay (M.CV b n) M.lg M.lb) :=
  (h.r105.mul h.r106.seq).add (H11.seq (H1.up (V := M.lb) h.lb))
theorem r112_2 : F3 (φ := .f32) (val_main_v112_2 (F := Ideal) x1 x2 x3 x4 x5) (fun b n => sg (M.CV b n) M.lg M.lb) := h.r111.sigm
theorem r112_1 : F3 (φ := .f32) (val_main_v112_1 (F := Ideal) x1 x2 x3 x4 x5) (fun b n c => sg (M.CV b n) M.lg M.lb c * (1 - sg (M.CV b n) M.lg M.lb c)) :=
  h.r112_2.mul ((F3.const one_lit).sub h.r112_2)
theorem r112_0 : F3 (φ := .f32) (val_main_v112_0 (F := Ideal) x1 x2 x3 x4 x5) (fun b n => sil (M.CV b n) M.lg M.lb) := h.r111.mul h.r112_2
theorem r119 : FC (val_main_v119 (F := Ideal) x1 x2 x3 x4 x5) (fun b n => mse (M.CV b n) M.lg M.lb) :=
  (h.r112_0.mul h.r112_0).rowsum.stat.lanes.add (FC.const eps_lit)
theorem r120 : FC (val_main_v120 (F := Ideal) x1 x2 x3 x4 x5) (fun b n => rrms (M.CV b n) M.lg M.lb) := h.r119.rsqrt fun _ _ => mse_pos _ _ _
theorem r123 : FC (val_main_v123 (F := Ideal) x1 x2 x3 x4 x5) (fun b n => -(1 / 2) * (rrms (M.CV b n) M.lg M.lb * (1 / mse (M.CV b n) M.lg M.lb))) :=
  (FC.const neg_half_lit).mul (h.r120.div h.r119 fun _ _ => (mse_pos _ _ _).ne')
theorem r125 : F3 (φ := .f32) (val_main_v125 (F := Ideal) x1 x2 x3 x4 x5) (fun b n => sh (M.CV b n) M.lg M.lb) := h.r112_0.mul h.r120.seq

/-! ## The gradient of the tail -/

theorem r134 : F3 (φ := .f32) (val_main_v134 (F := Ideal) x0 x6) (fun b n => dsh (M.D b n) M.og) := h.r129.mul (H11.seq (H1.up (V := M.og) h.og))
theorem r146 : F3 (φ := .f32) (val_main_v146 (F := Ideal) x0 x1 x2 x3 x4 x5 x6) (fun b n _ =>
    (∑ k, sil (M.CV b n) M.lg M.lb k * dsh (M.D b n) M.og k) * (-(1 / 2) * (rrms (M.CV b n) M.lg M.lb * (1 / mse (M.CV b n) M.lg M.lb))) * (1 / 512)) :=
  ((h.r112_0.mul h.r134).rowsum.cast.mul h.r123).lanes.sum.seq
theorem r150 : F3 (φ := .f32) (val_main_v150 (F := Ideal) x0 x1 x2 x3 x4 x5 x6) (fun b n => dsilT (M.CV b n) M.lg M.lb M.og (M.D b n)) :=
  ((h.r134.mul h.r120.seq).add (h.r112_0.mul h.r146)).add (h.r146.mul h.r112_0)
theorem r151 : F3 (φ := .f32) (val_main_v151 (F := Ideal) x0 x1 x2 x3 x4 x5 x6) (fun b n => dlay (M.CV b n) M.lg M.lb M.og (M.D b n)) :=
  F3.congr (X := fun b n => dlayT (M.CV b n) M.lg M.lb M.og (M.D b n)) ((h.r150.mul h.r112_2).add ((h.r111.mul h.r150).mul h.r112_1)) fun _ _ => dlayT_eq _ _ _ _ _
theorem r160 : F3 (φ := .f32) (val_main_v160 (F := Ideal) x0 x1 x2 x3 x4 x5 x6) (fun b n => dnrm (M.CV b n) M.lg M.lb M.og (M.D b n)) := h.r151.mul h.r106.seq
theorem r172 : F3 (φ := .f32) (val_main_v172 (F := Ideal) x0 x1 x2 x3 x4 x5 x6) (fun b n _ =>
    (∑ k, cen (M.CV b n) k * dnrm (M.CV b n) M.lg M.lb M.og (M.D b n) k) * (-(1 / 2) * (rstd (M.CV b n) * (1 / vare (M.CV b n)))) * (1 / 512)) :=
  ((h.r92.mul h.r160).rowsum.cast.mul h.r103).lanes.sum.seq
theorem r176 : F3 (φ := .f32) (val_main_v176 (F := Ideal) x0 x1 x2 x3 x4 x5 x6) (fun b n => dcenT (M.CV b n) (dnrm (M.CV b n) M.lg M.lb M.og (M.D b n))) :=
  ((h.r160.mul h.r100.seq).add (h.r92.mul h.r172)).add (h.r172.mul h.r92)
theorem r184 : F3 (φ := .f32) (val_main_v184 (F := Ideal) x0 x1 x2 x3 x4 x5 x6) M.DC :=
  F3.congr' (X := fun b n => dcvT (M.CV b n) (dnrm (M.CV b n) M.lg M.lb M.og (M.D b n))) (h.r176.add h.r176.neg.rowsum.cast.lanes.sum.seq)
    fun b n hn => (dcvT_eq _ _ _ _ _).trans (if_pos hn).symm

/-! ## The results -/

theorem r136 : H1 (val_main_v136 (F := Ideal) x0 x1 x2 x3 x4 x5) (Model.total M.dogAt) :=
  HV.row (H11.sum (HV.cast (F3.total (F3.congr (Y := M.dogAt) (h.r125.mul h.r129) fun _ _ => funext fun _ => mul_comm _ _))))
theorem r155 : H1 (val_main_v155 (F := Ideal) x0 x1 x2 x3 x4 x5 x6) (Model.total M.dlbAt) := HV.row (H11.sum (HV.cast h.r151.total))
theorem r162 : H1 (val_main_v162 (F := Ideal) x0 x1 x2 x3 x4 x5 x6) (Model.total M.dlgAt) :=
  HV.row (H11.sum (HV.cast (F3.total (F3.congr (Y := M.dlgAt) (h.r105.mul h.r151) fun _ _ => funext fun _ => mul_comm _ _))))
theorem r188 : H1 (val_main_v188 (F := Ideal) x0 x1 x2 x3 x4 x5 x6) (Model.total M.DC) := HV.row (H11.sum (HV.cast h.r184.total))
theorem r189 : F4 (val_main_v189 (F := Ideal) x0 x1 x2 x3 x4 x5 x6) (fun _ => M.DC) := h.r184.stack
theorem r195 : K2 (val_main_v195 (F := Ideal) x0 x1 x2 x3 x4 x5 x6) (fun k => Model.total fun b t c => M.DC b t c * M.Ap b (t + k) c) :=
  (K2.cast (F4.total (F4.congr (Y := fun k b t c => M.DC b t c * M.Ap b (t + k) c) (h.r79.mul h.r189) fun _ _ _ => funext fun _ => mul_comm _ _))).sum
theorem r329 : H2 (n := 32) (φ := .f32) (val_main_v329 (F := Ideal) x0 x1 x2 x3 x4 x5 x6) M.DW :=
  pad_rows (fun i => (h.r195 i).trans (congrArg Real.toEReal (congrFun (if_pos (i 0).isLt).symm (i 1)))) (if_neg (by omega))
    fun i => zero_word
theorem r194 : F4 (val_main_v194 (F := Ideal) x0 x1 x2 x3 x4 x5 x6) (fun k b t c => M.DC b t c * M.w k c) :=
  h.r189.mul (K4.stack (K2.up (X := M.w) h.w))
theorem r318 : G3 (val_main_v318 (F := Ideal) x0 x1 x2 x3 x4 x5 x6) (tail (fun k b t c => M.DC b t c * M.w k c) 0) := by
  repeat first
    | exact h.r194.last
    | refine h.r194.more _ ?_ (by omega)
theorem r320 : F3 (φ := .f32) (val_main_v320 (F := Ideal) x0 x1 x2 x3 x4 x5 x6) M.DA :=
  (h.r318.window 30 le_rfl).congr fun b t => funext fun c => by
    show ∑ j ∈ Finset.Ico 0 31, moved _ j b (t + 30) c = ∑ k : Fin 31, M.w k.val c * M.DC b (t + 30 - k.val) c
    rw [Nat.Ico_zero_eq_range, Finset.sum_range]
    refine Finset.sum_congr rfl fun k _ => ?_
    have hk := k.isLt
    unfold moved
    split_ifs with hm
    · exact mul_comm _ _
    · have e : M.DC b (t + 30 - k.val) = fun _ => 0 := if_neg (by omega)
      rw [e, mul_zero]
theorem r328 (i) : (val_main_v328 (F := Ideal) x0 x1 x2 x3 x4 x5 x6 : FVec Ideal ⟨3, ![2, 4096, 1024]⟩ .bf16) i
    = ((M.O12 (i 0).val (i 1).val ⟨(i 2).val, (i 2).isLt⟩ : ℝ) : EReal) := by
  refine (sides ((h.r0.mul h.r320).mul h.r10) (h.r320.mul h.r7) i).trans (congrArg Real.toEReal ?_)
  unfold Model.O12
  split_ifs with hi
  · rfl
  · ring

end Args

end Cert.ConvBwd

end
-- ==== Proof.ConvReal.lean ====
/-
  Arguments whose entries are all finite hold real numbers: the model read off them.
-/
module

public import proofs.«01_k».proof.Proof.ConvArgs
public import proofs.«01_k».proof.Pre_finite
public import Idealize.ShloMosaic.Lib.ReduceAll

@[expose] public section

set_option maxRecDepth 16384

noncomputable section

namespace Cert.ConvBwd

open Idealize.ShloMosaic Idealize.ShloMosaic.TcCoe Cert.Row

/-- Every entry is a real number. -/
def AllReal {s : Shape} (x : FVec Ideal s .f32) : Prop := ∀ i, x i = (((x i : EReal).toReal : ℝ) : EReal)

theorem real_of_lt {x : Ideal .f32} (h : FloatOps.cmpf .olt (FloatOps.hostAbsf x) (FloatOps.ofBits (F := Ideal) .f32 0x7F800000#32) = 1#1) :
    x = (((x : EReal).toReal : ℝ) : EReal) := by
  have htop : Ideal.ofBits .f32 0x7F800000#32 = ⊤ := by simp [Ideal.ofBits, Ideal.ieee]
  change Ideal.cmp .olt (max (x : EReal) (-(x : EReal))) (Ideal.ofBits .f32 0x7F800000#32) = 1#1 at h
  rw [htop] at h
  refine (EReal.coe_toReal (fun e => ?_) fun e => ?_).symm <;>
  · rw [e] at h
    simp [Ideal.cmp] at h

instance : Subsingleton (⟨0, ![]⟩ : Shape).Idx := ⟨fun _ _ => funext fun a => a.elim0⟩

/-- What the precondition's conjunct for one argument says of it. -/
theorem real_of_all {s : Shape} {axes : List (Fin s.rank)} {x : FVec Ideal s .f32} {hb} {c : (⟨0, ![]⟩ : Shape).Idx → BitVec 1} {h : s.ReducesTo axes ⟨0, ![]⟩} {hu}
    {j : (⟨0, ![]⟩ : Shape).Idx}
    (e : Host.reduce IntOp.andi (cmpf .olt (Host.absf x) (broadcastInDim s ![] hb (constant (F := Ideal) ⟨0, ![]⟩ .f32 0x7F800000#32))) c h hu j = 1#1) : AllReal x := fun i =>
  real_of_lt (Host.reduce_andi_all _ c h hu j e i)

theorem pre_facts : Cert.Pre_finite.Facts where
  bcast_S_S2x4096x1024 := by decide
  reducesTo_S2x4096x1024_S_d0_1_2 := by decide
  h_S_ := by decide
  bcast_S_S2x4096x1536 := by decide
  reducesTo_S2x4096x1536_S_d0_1_2 := by decide
  bcast_S_S31x512 := by decide
  reducesTo_S31x512_S_d0_1 := by decide
  bcast_S_S1x512 := by decide
  reducesTo_S1x512_S_d0_1 := by decide

variable {x0 : FVec Ideal ⟨3, ![2, 4096, 1024]⟩ .f32} {x1 : FVec Ideal ⟨3, ![2, 4096, 1536]⟩ .f32} {x2 : FVec Ideal ⟨2, ![31, 512]⟩ .f32}
  {x3 x4 x5 x6 : FVec Ideal ⟨2, ![1, 512]⟩ .f32}

theorem real_args [Cert.Pre_finite.Facts] (h : Cert.Pre_finite.fn (F := Ideal) x0 x1 x2 x3 x4 x5 x6 = fun _ => 1#1) :
    AllReal x0 ∧ AllReal x1 ∧ AllReal x2 ∧ AllReal x3 ∧ AllReal x4 ∧ AllReal x5 ∧ AllReal x6 := by
  have e := congrFun h (fun a => a.elim0)
  obtain ⟨e, h6⟩ := IntOp.andi_eq_one.mp e
  obtain ⟨e, h5⟩ := IntOp.andi_eq_one.mp e
  obtain ⟨e, h4⟩ := IntOp.andi_eq_one.mp e
  obtain ⟨e, h3⟩ := IntOp.andi_eq_one.mp e
  obtain ⟨e, h2⟩ := IntOp.andi_eq_one.mp e
  obtain ⟨h0, h1⟩ := IntOp.andi_eq_one.mp e
  exact ⟨real_of_all h0, real_of_all h1, real_of_all h2, real_of_all h3, real_of_all h4, real_of_all h5, real_of_all h6⟩

/-- The rows at channels `o`, `o + 1`, … of an array, zero past the end. -/
def rowsOf {w : ℕ} (x : FVec Ideal ⟨3, ![2, 4096, w]⟩ .f32) (o : ℕ) (ho : o + 512 ≤ w) (b n : ℕ) : Row := fun c =>
  if h : b < 2 ∧ n < 4096 then (x (ix3 (n0 := 2) (n1 := 4096) (n2 := w) ⟨b, h.1⟩ ⟨n, h.2⟩ ⟨o + c.val, by omega⟩) : EReal).toReal else 0

theorem rowsOf_eq {w : ℕ} {x : FVec Ideal ⟨3, ![2, 4096, w]⟩ .f32} {o : ℕ} {ho : o + 512 ≤ w} (hx : AllReal x) (i : (⟨3, ![2, 4096, w]⟩ : Shape).Idx) (b n : ℕ) (q : Fin 512)
    (h0 : (i 0).val = b) (h1 : (i 1).val = n) (h2 : (i 2).val = o + q.val) : x i = ((rowsOf x o ho b n q : ℝ) : EReal) := by
  have hb : b < 2 := h0 ▸ (i 0).isLt
  have hn : n < 4096 := h1 ▸ (i 1).isLt
  have ei : i = ix3 (n0 := 2) (n1 := 4096) (n2 := w) ⟨b, hb⟩ ⟨n, hn⟩ ⟨o + q.val, by omega⟩ := funext fun a => match a with
    | 0 => Fin.ext h0
    | 1 => Fin.ext h1
    | 2 => Fin.ext h2
  unfold rowsOf
  rw [dif_pos ⟨hb, hn⟩, ← ei]
  exact hx i

/-- The rows of the taps, zero past the last. -/
def tapOf (x : FVec Ideal ⟨2, ![31, 512]⟩ .f32) (k : ℕ) : Row := fun c => if h : k < 31 then (x (ix2 (n0 := 31) (n1 := 512) ⟨k, h⟩ c) : EReal).toReal else 0

theorem tapOf_eq {x : FVec Ideal ⟨2, ![31, 512]⟩ .f32} (hx : AllReal x) (i : (⟨2, ![31, 512]⟩ : Shape).Idx) : x i = ((tapOf x (i 0).val (i 1) : ℝ) : EReal) := by
  have h : (i 0).val < 31 := (i 0).isLt
  have ei : i = ix2 (n0 := 31) (n1 := 512) ⟨(i 0).val, h⟩ (i 1) := funext fun a => match a with
    | 0 => rfl
    | 1 => rfl
  refine (hx i).trans ?_
  unfold tapOf
  rw [dif_pos h, ← ei]

/-- The row of a one-row array. -/
def rowOf (x : FVec Ideal ⟨2, ![1, 512]⟩ .f32) : Row := fun c => (x (ix2 (n0 := 1) (n1 := 512) 0 c) : EReal).toReal

theorem rowOf_eq {x : FVec Ideal ⟨2, ![1, 512]⟩ .f32} (hx : AllReal x) (i : (⟨2, ![1, 512]⟩ : Shape).Idx) : x i = ((rowOf x (i 1) : ℝ) : EReal) := by
  have ei : i = ix2 (n0 := 1) (n1 := 512) 0 (i 1) := funext fun a => match a with
    | 0 => Fin.ext (by have : (i 0).val < 1 := (i 0).isLt; show (i 0).val = 0; omega)
    | 1 => rfl
  refine (hx i).trans ?_
  unfold rowOf
  rw [← ei]

variable (x0 x1 x2 x3 x4 x5 x6) in
/-- The model of seven arguments. -/
def modelOf : Model where
  V := rowsOf x1 0 (by omega)
  G := rowsOf x1 512 (by omega)
  D := rowsOf x0 0 (by omega)
  w := tapOf x2
  bias := rowOf x3
  lg := rowOf x4
  lb := rowOf x5
  og := rowOf x6
  V_end := fun b n hn => funext fun c => dif_neg (by omega)

theorem args_of (h : AllReal x0 ∧ AllReal x1 ∧ AllReal x2 ∧ AllReal x3 ∧ AllReal x4 ∧ AllReal x5 ∧ AllReal x6) :
    Args (modelOf x0 x1 x2 x3 x4 x5 x6) x0 x1 x2 x3 x4 x5 x6 where
  d i b n q h0 h1 h2 := rowsOf_eq (ho := by omega) h.1 i b n q h0 h1 (by omega)
  v i b n q h0 h1 h2 := rowsOf_eq (ho := by omega) h.2.1 i b n q h0 h1 (by omega)
  g i b n q h0 h1 h2 := rowsOf_eq (ho := by omega) h.2.1 i b n q h0 h1 h2
  w i := tapOf_eq h.2.2.1 i
  w_end k hk := funext fun c => dif_neg (by omega)
  bias i := rowOf_eq h.2.2.2.1 i
  lg i := rowOf_eq h.2.2.2.2.1 i
  lb i := rowOf_eq h.2.2.2.2.2.1 i
  og i := rowOf_eq h.2.2.2.2.2.2 i

end Cert.ConvBwd

end
-- ==== Proof.WeightSum.lean ====
/-
  The weight gradient's call: each of eight grid points adds the product of its 1024 rows to the block it keeps, so the
  block ends with the sum over all 8192 rows, which is the reference's product.
-/
module

public import proofs.«01_k».proof.Proof.Gen.WeightIdeal.Value
public import proofs.«01_k».proof.Proof.Gen.WeightRefIdeal.Read
public import Idealize.ShloMosaic.Lib.KernelVsHost
public import Idealize.ShloMosaic.Lib.Pipeline.ValueKit
public import Idealize.ShloMosaic.Lib.Pointwise

@[expose] public section

noncomputable section

namespace Cert.WeightIdeal.Value

open Idealize.ShloMosaic Idealize.ShloMosaic.TcCoe Cert.WeightIdeal Cert.WeightIdeal.Gen

variable (m : (ℓ : Loc nD τ sig) → Buf (Elt Ideal) ℓ)

/-- A point's payload adds the product of its two blocks, contracted over their rows. -/
theorem pay_apply (x : Vec Ideal S1024x1024 .bf16) (acc : Vec Ideal S2816x1024 .f32) (d : Vec Ideal S1024x2816 .bf16) (j : S2816x1024.Idx) :
    k0_pay2 (F := Ideal) x acc d j = acc j + ∑ k : Fin 1024, d (ix2 k (j 0)) * x (ix2 k (j 1)) := by
  unfold k0_pay2
  pointwise

theorem zero_apply (j : S2816x1024.Idx) : k0_pay1 (F := Ideal) j = 0 := by
  unfold k0_pay1
  pointwise

theorem idx : ∀ t : Fin cfg0.N, win0_0.index t = ![t.val, 0] ∧ win0_1.index t = ![t.val, 0] :=
  (by decide +kernel : ∀ t : Fin grid0.N, _)

/-- The blocks at a point are its 1024 rows of the arguments. -/
theorem rows0 (c : Dev nD) (t : Fin cfg0.N) (k : Fin 1024) (q : Fin 2816) (h : t.val * 1024 + k.val < 8192) :
    iblk m c 0 t (ix2 k q) = m ((c : Thread nD τ).loc main_arg0) (ix2 ⟨t.val * 1024 + k.val, h⟩ q) := by
  have e := (idx t).1
  blk_ext [iblk, V, e]

theorem rows1 (c : Dev nD) (t : Fin cfg0.N) (k : Fin 1024) (q : Fin 1024) (h : t.val * 1024 + k.val < 8192) :
    iblk m c 1 t (ix2 k q) = m ((c : Thread nD τ).loc main_arg1) (ix2 ⟨t.val * 1024 + k.val, h⟩ q) := by
  have e := (idx t).2
  blk_ext [iblk, V, e]

/-- The arguments a device holds, and a point's blocks of them. -/
abbrev da (c : Dev nD) : FVec Ideal S8192x2816 .bf16 := m ((c : Thread nD τ).loc main_arg0)
abbrev hh (c : Dev nD) : FVec Ideal S8192x1024 .bf16 := m ((c : Thread nD τ).loc main_arg1)
abbrev daTile (c : Dev nD) (t : Fin cfg0.N) : FVec Ideal S1024x2816 .bf16 := iblk m c 0 t
abbrev hTile (c : Dev nD) (t : Fin cfg0.N) : FVec Ideal S1024x1024 .bf16 := iblk m c 1 t

/-- What a point adds to an entry. -/
def part (c : Dev nD) (n : ℕ) (j : S2816x1024.Idx) : EReal :=
  if h : n < cfg0.N then ∑ k : Fin 1024, daTile m c ⟨n, h⟩ (ix2 k (j 0)) * hTile m c ⟨n, h⟩ (ix2 k (j 1)) else 0

/-- The eight points' parts are the product over all rows. -/
theorem parts (c : Dev nD) (j : S2816x1024.Idx) :
    ∑ s ∈ Finset.range (7 + 1), part m c (8 * 0 + s) j = ∑ l : Fin 8192, da m c (ix2 l (j 0)) * hh m c (ix2 l (j 1)) := by
  rw [Finset.sum_range]
  refine Eq.trans (Finset.sum_congr rfl fun s _ => ?_) (Fin.sum_mul_add_congr (S := 8) (n := 1024)
    (F := fun s k => daTile m c ⟨s.val, s.isLt⟩ (ix2 k (j 0)) * hTile m c ⟨s.val, s.isLt⟩ (ix2 k (j 1))) fun s k hl => ?_)
  · unfold part
    rw [Nat.mul_zero, Nat.zero_add, dif_pos (show s.val < cfg0.N from s.isLt)]
  · exact congrArg₂ (fun x y : EReal => x * y) (rows0 m c ⟨s.val, s.isLt⟩ k (j 0) hl) (rows1 m c ⟨s.val, s.isLt⟩ k (j 1) hl)

theorem reset_apply (c : Dev nD) (n : ℕ) (h : n < cfg0.N) (j : S2816x1024.Idx) : reset2 m c n h j = 0 + part m c n j := by
  unfold reset2 part
  rw [pay_apply, zero_apply, dif_pos h]

theorem step_apply (c : Dev nD) (n : ℕ) (h : n < cfg0.N) (acc : Vec Ideal S2816x1024 .f32) (j : S2816x1024.Idx) :
    step2 m c n h acc j = acc j + part m c n j := by
  unfold step2 part
  rw [pay_apply, dif_pos h]

theorem fold_apply (c : Dev nD) (hN : 8 * 0 + 7 < cfg0.N) (j : S2816x1024.Idx) :
    Pipeline.accAt (reset2 m c) (step2 m c) (8 * 0) 7 hN j = ∑ l : Fin 8192, da m c (ix2 l (j 0)) * hh m c (ix2 l (j 1)) :=
  (Pipeline.accAt_add_apply (ι := S2816x1024.Idx) (β := EReal) (reset2 m c) (step2 m c) (fun _ => 0) (part m c) (8 * 0) 7
    (fun h j => reset_apply m c _ h j) (fun n h acc j _ _ => step_apply m c n h acc j) 7 le_rfl hN j).trans ((zero_add _).trans (parts m c j))

/-- The reference's array at an entry. -/
theorem ref_apply (x : FVec Ideal S8192x2816 .bf16) (y : FVec Ideal S8192x1024 .bf16) (i : S2816x1024.Idx) :
    Cert.WeightRefIdeal.Read.val_main_v6 (F := Ideal) x y i = ∑ l : Fin 8192, x (ix2 l (i 0)) * y (ix2 l (i 1)) := by
  rw [Cert.WeightRefIdeal.Read.val_main_v6_apply, Cert.WeightRefIdeal.Read.val_main_v5_apply, Cert.WeightRefIdeal.Read.val_main_v4_apply]
  refine Finset.sum_congr rfl fun l _ => congrArg₂ (fun x y : EReal => x * y) (congrArg x (funext fun a => ?_)) (congrArg y (funext fun a => ?_)) <;>
    (match a with | ⟨0, _⟩ => rfl | ⟨1, _⟩ => rfl)

/-- A run's block read at the run and the place that are named. -/
theorem read_run {N : ℕ} {ι : Type} (f : (b : ℕ) → b + 7 < N → ι → EReal) (z : EReal) {r : ℕ} {q i : ι} (hN : 8 * 0 + 7 < N) (hr : r = 0) (hq : q = i) :
    (if h : 8 * r + 7 < N then f (8 * r) h q else z) = f (8 * 0) hN i := by
  subst hr hq
  exact dif_pos hN

/-- The kernel's array is the reference's. -/
theorem G2_eq (c : Dev nD) : G2 m c = Cert.WeightRefIdeal.Read.val_main_v6 (F := Ideal) (da m c) (hh m c) := by
  funext i
  have h0 : (i 0).val < 2816 := (i 0).isLt
  have h1 : (i 1).val < 1024 := (i 1).isLt
  have hr : run2Of i = 0 := by
    unfold run2Of
    omega
  have hl : loc2Of i = i := funext fun a => Fin.ext (by
    match a with
    | ⟨0, _⟩ => exact Nat.mod_eq_of_lt h0
    | ⟨1, _⟩ => exact Nat.mod_eq_of_lt h1)
  have hN : 8 * 0 + 7 < cfg0.N := lt_of_lt_of_eq (by decide) N_0.symm
  have e : G2 m c i = Pipeline.accAt (reset2 m c) (step2 m c) (8 * 0) 7 hN i := by
    unfold G2
    exact read_run (fun b h j => Pipeline.accAt (reset2 m c) (step2 m c) b 7 h j) _ hN hr hl
  exact e.trans ((fold_apply m c hN i).trans (ref_apply _ _ i).symm)

end Cert.WeightIdeal.Value

end
-- ==== Proof.Stacked.lean ====
/-
  A block of rows written as two pieces, one above the other, and read back.
-/
module

public import Idealize.ShloMosaic.Lib.KernelVsHost
public import Idealize.ShloMosaic.Lib.Pipeline.ValueKit
public import Idealize.ShloMosaic.Lib.Pointwise

@[expose] public section

noncomputable section

namespace Cert.Stacked

open Idealize.ShloMosaic

variable {N k n : ℕ} {e : EltTy}

/-- The rows `o` to `o + k` of a block. -/
abbrev rect (N k n o : ℕ) (inb : ∀ a, (![o, 0] : Fin 2 → ℕ) a + (⟨2, ![k, n]⟩ : Shape).size a ≤ (⟨2, ![N, n]⟩ : Shape).size a) : Rect (⟨2, ![N, n]⟩ : Shape) :=
  Rect.unit (s := ⟨2, ![N, n]⟩) ![o, 0] (⟨2, ![k, n]⟩ : Shape).size inb

theorem inside {o : ℕ} {inb} (i : (⟨2, ![k, n]⟩ : Shape).Idx) (h : o + (i 0).val < N) : (rect N k n o inb).emb i = ix2 (⟨o + (i 0).val, h⟩ : Fin N) (i 1 : Fin n) :=
  funext fun a => Fin.ext (by
    match a with
    | ⟨0, _⟩ => exact congrArg (o + ·) (Nat.one_mul _)
    | ⟨1, _⟩ => exact (Nat.zero_add _).trans (Nat.one_mul _))

/-- A load of rows of a block given whole, and of one written in pieces. -/
theorem ld_rows {o : ℕ} {inb} (x : (⟨2, ![N, n]⟩ : Shape).Idx → Elt Ideal e) (i : (⟨2, ![k, n]⟩ : Shape).Idx) (h : o + (i 0).val < N) :
    View.ld x (rect N k n o inb) i = x (ix2 (⟨o + (i 0).val, h⟩ : Fin N) (i 1 : Fin n)) :=
  congrArg x (inside i h)

theorem cov_rows {o : ℕ} {inb} {sig : RefSig} {κ : Kind} {sp : Space} (v : View sig κ sp ⟨2, ![N, n]⟩ e) (L : List (View.Piece (Elt Ideal) ⟨2, ![N, n]⟩ e))
    (i : (⟨2, ![k, n]⟩ : Shape).Idx) (h : o + (i 0).val < N) :
    v.readCov L (rect N k n o inb).toLoadRect i = View.canon L (ix2 (⟨o + (i 0).val, h⟩ : Fin N) (i 1 : Fin n)) := by
  rw [View.readCov_eq_canon']
  exact congrArg (View.canon L) (inside i h)

/-- Under the last rows written, and off them. -/
theorem canon_on {o : ℕ} {inb} (w : (⟨2, ![k, n]⟩ : Shape).Idx → Elt Ideal e) (L : List (View.Piece (Elt Ideal) ⟨2, ![N, n]⟩ e)) (y : (⟨2, ![N, n]⟩ : Shape).Idx)
    (r : Fin k) (h : (y 0).val = o + r.val) : View.canon (⟨rect N k n o inb, w⟩ :: L) y = w (ix2 r (y 1 : Fin n)) := by
  have hb : o + r.val < N := h ▸ (y 0).isLt
  have e : y = (rect N k n o inb).emb (ix2 r (y 1 : Fin n)) := (funext fun a => Fin.ext (by
    match a with
    | ⟨0, _⟩ => exact h
    | ⟨1, _⟩ => rfl)).trans (inside (ix2 r (y 1 : Fin n)) hb).symm
  exact (congrArg (View.canon (⟨rect N k n o inb, w⟩ :: L)) e).trans (View.canon_cons_emb (rect N k n o inb) w L (ix2 r (y 1 : Fin n)))

theorem canon_off {o : ℕ} {inb} (w : (⟨2, ![k, n]⟩ : Shape).Idx → Elt Ideal e) (L : List (View.Piece (Elt Ideal) ⟨2, ![N, n]⟩ e)) (y : (⟨2, ![N, n]⟩ : Shape).Idx)
    (h : ¬(o ≤ (y 0).val ∧ (y 0).val < o + k)) : View.canon (⟨rect N k n o inb, w⟩ :: L) y = View.canon L y :=
  View.canon_cons_of_not_mem _ L fun hm => h ((Rect.mem_set_unit (inb := inb)).mp hm 0)

/-- Two pieces, the lower written last. -/
theorem canon_two {k₁ k₂ : ℕ} {inb₁ inb₂} (hN : N = k₁ + k₂) (w₁ : (⟨2, ![k₁, n]⟩ : Shape).Idx → Elt Ideal e) (w₂ : (⟨2, ![k₂, n]⟩ : Shape).Idx → Elt Ideal e)
    (L : List (View.Piece (Elt Ideal) ⟨2, ![N, n]⟩ e)) (y : (⟨2, ![N, n]⟩ : Shape).Idx) {v : Elt Ideal e}
    (h₁ : ∀ r : Fin k₁, (y 0).val = r.val → w₁ (ix2 r (y 1 : Fin n)) = v) (h₂ : ∀ r : Fin k₂, (y 0).val = k₁ + r.val → w₂ (ix2 r (y 1 : Fin n)) = v) :
    View.canon (⟨rect N k₂ n k₁ inb₂, w₂⟩ :: ⟨rect N k₁ n 0 inb₁, w₁⟩ :: L) y = v := by
  have hy : (y 0).val < N := (y 0).isLt
  by_cases h : (y 0).val < k₁
  · exact (canon_off w₂ _ y (by omega)).trans ((canon_on w₁ L y ⟨(y 0).val, h⟩ (Nat.zero_add _).symm).trans (h₁ _ rfl))
  · exact (canon_on w₂ _ y ⟨(y 0).val - k₁, by omega⟩ (by show _ = k₁ + ((y 0).val - k₁); omega)).trans (h₂ _ (by show _ = k₁ + ((y 0).val - k₁); omega))

end Cert.Stacked

end
-- ==== Proof.ProjWeightSum.lean ====
/-
  The mixing projection's weight gradient: each of eight grid points adds the products of its 1024 rows to the block it
  keeps, in two pieces, one for each array of the gradient that arrives.
-/
module

public import proofs.«01_k».proof.Proof.Gen.ProjWeightIdeal.Value
public import proofs.«01_k».proof.Proof.Gen.ProjWeightRefIdeal.Read
public import proofs.«01_k».proof.Proof.Stacked
public import Idealize.ShloMosaic.Lib.KernelVsHost
public import Idealize.ShloMosaic.Lib.Pipeline.ValueKit
public import Idealize.ShloMosaic.Lib.Pointwise

@[expose] public section

noncomputable section

namespace Cert.ProjWeightIdeal.Value

open Idealize.ShloMosaic Idealize.ShloMosaic.TcCoe Cert.ProjWeightIdeal Cert.ProjWeightIdeal.Gen

/-! ### A point's payloads at an entry -/

theorem pay1_apply (j : S1536x1024.Idx) : k0_pay1 (F := Ideal) j = 0 := by
  unfold k0_pay1
  pointwise

theorem pay2_apply (h : Vec Ideal S1024x1024 .bf16) (acc : Vec Ideal S1024x1024 .f32) (d : Vec Ideal S1024x1024 .bf16) (j : S1024x1024.Idx) :
    k0_pay2 (F := Ideal) h acc d j = acc j + ∑ k : Fin 1024, d (ix2 k (j 0)) * h (ix2 k (j 1)) := by
  unfold k0_pay2
  pointwise

theorem pay3_apply (h : Vec Ideal S1024x1024 .bf16) (acc : Vec Ideal S512x1024 .f32) (d : Vec Ideal S1024x512 .bf16) (j : S512x1024.Idx) :
    k0_pay3 (F := Ideal) h acc d j = acc j + ∑ k : Fin 1024, d (ix2 k (j 0)) * h (ix2 k (j 1)) := by
  unfold k0_pay3
  pointwise

/-! ### The arguments and a point's blocks of them -/

variable (m : (ℓ : Loc nD τ sig) → Buf (Elt Ideal) ℓ)

abbrev dc (c : Dev nD) : FVec Ideal S8192x1024 .bf16 := m ((c : Thread nD τ).loc main_arg0)
abbrev du (c : Dev nD) : FVec Ideal S8192x512 .bf16 := m ((c : Thread nD τ).loc main_arg1)
abbrev hh (c : Dev nD) : FVec Ideal S8192x1024 .bf16 := m ((c : Thread nD τ).loc main_arg2)
abbrev dcTile (c : Dev nD) (t : Fin cfg0.N) : FVec Ideal S1024x1024 .bf16 := iblk m c 0 t
abbrev duTile (c : Dev nD) (t : Fin cfg0.N) : FVec Ideal S1024x512 .bf16 := iblk m c 1 t
abbrev hTile (c : Dev nD) (t : Fin cfg0.N) : FVec Ideal S1024x1024 .bf16 := iblk m c 2 t

theorem idx : ∀ t : Fin cfg0.N, win0_0.index t = ![t.val, 0] ∧ win0_1.index t = ![t.val, 0] ∧ win0_2.index t = ![t.val, 0] ∧ win0_3.index t = ![0, 0] :=
  (by decide +kernel : ∀ t : Fin grid0.N, _)

/-- The array's row that a point's tile has at `r`. -/
abbrev rowOf (t : Fin cfg0.N) (r : Fin 1024) : Fin 8192 := ⟨t.val * 1024 + r.val, by have := t.isLt; have e : cfg0.N = 8 := N_0; omega⟩

theorem rows0 (c : Dev nD) (t : Fin cfg0.N) (r : Fin 1024) (q : Fin 1024) : dcTile m c t (ix2 r q) = dc m c (ix2 (rowOf t r) q) := by
  have e := (idx t).1
  blk_ext [iblk, V, e]

theorem rows1 (c : Dev nD) (t : Fin cfg0.N) (r : Fin 1024) (q : Fin 512) : duTile m c t (ix2 r q) = du m c (ix2 (rowOf t r) q) := by
  have e := (idx t).2.1
  blk_ext [iblk, V, e]

theorem rows2 (c : Dev nD) (t : Fin cfg0.N) (r : Fin 1024) (q : Fin 1024) : hTile m c t (ix2 r q) = hh m c (ix2 (rowOf t r) q) := by
  have e := (idx t).2.2.1
  blk_ext [iblk, V, e]

/-! ### The result -/

/-- A row of the two arrays side by side. -/
def wide (c : Dev nD) (l : Fin 8192) (a : Fin 1536) : EReal :=
  if h : a.val < 1024 then dc m c (ix2 l ⟨a.val, h⟩) else du m c (ix2 l ⟨a.val - 1024, by omega⟩)

theorem wide_top (c : Dev nD) (l : Fin 8192) (a : Fin 1536) (r : Fin 1024) (h : a.val = r.val) : wide m c l a = dc m c (ix2 l r) := by
  unfold wide
  rw [dif_pos (h ▸ r.isLt)]
  exact congrArg (fun q => dc m c (ix2 l q)) (Fin.ext h)

theorem wide_bot (c : Dev nD) (l : Fin 8192) (a : Fin 1536) (r : Fin 512) (h : a.val = 1024 + r.val) : wide m c l a = du m c (ix2 l r) := by
  unfold wide
  rw [dif_neg (by omega)]
  exact congrArg (fun q => du m c (ix2 l q)) (Fin.ext (by show a.val - 1024 = r.val; omega))

/-- The array the call leaves. -/
def R3 (c : Dev nD) : FVec Ideal S1536x1024 .f32 := fun i => ∑ l, wide m c l (i 0) * hh m c (ix2 l (i 1))

/-- What a point adds to it. -/
def part (c : Dev nD) (n : ℕ) (i : S1536x1024.Idx) : EReal :=
  if h : n < cfg0.N then ∑ k : Fin 1024, wide m c (rowOf ⟨n, h⟩ k) (i 0) * hh m c (ix2 (rowOf ⟨n, h⟩ k) (i 1)) else 0

theorem top_tile (c : Dev nD) (t : Fin cfg0.N) (acc : Vec Ideal S1024x1024 .f32) (y : S1536x1024.Idx) (r : Fin 1024) (h : (y 0).val = r.val) :
    k0_pay2 (F := Ideal) (hTile m c t) acc (dcTile m c t) (ix2 r (y 1)) = acc (ix2 r (y 1)) + part m c t.val y := by
  refine (pay2_apply _ _ _ _).trans ?_
  unfold part
  rw [dif_pos t.isLt]
  exact congrArg (fun s : EReal => acc (ix2 r (y 1)) + s) (Finset.sum_congr rfl fun k _ => congrArg₂ (fun u v : EReal => u * v)
    ((rows0 m c t k r).trans (wide_top m c (rowOf t k) (y 0) r h).symm) (rows2 m c t k (y 1)))

theorem bot_tile (c : Dev nD) (t : Fin cfg0.N) (acc : Vec Ideal S512x1024 .f32) (y : S1536x1024.Idx) (r : Fin 512) (h : (y 0).val = 1024 + r.val) :
    k0_pay3 (F := Ideal) (hTile m c t) acc (duTile m c t) (ix2 r (y 1)) = acc (ix2 r (y 1)) + part m c t.val y := by
  refine (pay3_apply _ _ _ _).trans ?_
  unfold part
  rw [dif_pos t.isLt]
  exact congrArg (fun s : EReal => acc (ix2 r (y 1)) + s) (Finset.sum_congr rfl fun k _ => congrArg₂ (fun u v : EReal => u * v)
    ((rows1 m c t k r).trans (wide_bot m c (rowOf t k) (y 0) r h).symm) (rows2 m c t k (y 1)))

/-- The block as the first point clears it. -/
theorem zeroed (inb) (p : S1536x1024.Idx) :
    View.canon (Val := Elt Ideal) (s := S1536x1024) (e := .f32) [⟨Stacked.rect 1536 1536 1024 0 inb, k0_pay1 (F := Ideal)⟩] p = (0 : EReal) :=
  (Stacked.canon_on (N := 1536) (k := 1536) (n := 1024) (e := .f32) (k0_pay1 (F := Ideal)) [] p (p 0) (Nat.zero_add _).symm).trans (pay1_apply _)

theorem first3 (c : Dev nD) (t : Fin cfg0.N) (h : t.val % 8 = 0) (y : S1536x1024.Idx) : (outsAt0 m c t.val t.isLt y : EReal) = part m c t.val y := by
  rw [outsAt0_A m c t h]
  frame_out
  refine Stacked.canon_two (N := 1536) (n := 1024) (k₁ := 1024) (k₂ := 512) rfl _ _ _ y (fun r hr => ?_) (fun r hr => ?_)
  · refine (top_tile m c t _ y r hr).trans ?_
    refine Eq.trans (congrArg (fun s : EReal => s + part m c t.val y) ?_) (zero_add _)
    exact (Stacked.cov_rows (N := 1536) (k := 1024) (n := 1024) _ _ (ix2 r (y 1)) (by show 0 + r.val < 1536; omega)).trans (zeroed _ _)
  · refine (bot_tile m c t _ y r hr).trans ?_
    refine Eq.trans (congrArg (fun s : EReal => s + part m c t.val y) ?_) (zero_add _)
    refine (Stacked.cov_rows (N := 1536) (k := 512) (n := 1024) _ _ (ix2 r (y 1)) (by show 1024 + r.val < 1536; omega)).trans ?_
    exact (Stacked.canon_off (N := 1536) (k := 1024) (n := 1024) _ _ _ (by show ¬(0 ≤ 1024 + r.val ∧ 1024 + r.val < 0 + 1024); omega)).trans (zeroed _ _)

theorem later3 (c : Dev nD) (t : Fin cfg0.N) (h : ¬t.val % 8 = 0) (y : S1536x1024.Idx) :
    (outsAt0 m c t.val t.isLt y : EReal) = outsAt0 m c (t.val - 1) (lt_of_le_of_lt (Nat.sub_le _ _) t.isLt) y + part m c t.val y := by
  rw [outsAt0_B m c t h]
  frame_out
  refine Stacked.canon_two (N := 1536) (n := 1024) (k₁ := 1024) (k₂ := 512) rfl _ _ _ y (fun r hr => ?_) (fun r hr => ?_)
  · refine (top_tile m c t _ y r hr).trans (congrArg (fun s : EReal => s + part m c t.val y) ?_)
    refine (Stacked.ld_rows (N := 1536) (k := 1024) (n := 1024) _ (ix2 r (y 1)) (by show 0 + r.val < 1536; omega)).trans (congrArg _ (funext fun a => Fin.ext ?_))
    match a with
    | ⟨0, _⟩ => exact (Nat.zero_add _).trans hr.symm
    | ⟨1, _⟩ => rfl
  · refine (bot_tile m c t _ y r hr).trans (congrArg (fun s : EReal => s + part m c t.val y) ?_)
    refine (Stacked.ld_rows (N := 1536) (k := 512) (n := 1024) _ (ix2 r (y 1)) (by show 1024 + r.val < 1536; omega)).trans (congrArg _ (funext fun a => Fin.ext ?_))
    match a with
    | ⟨0, _⟩ => exact hr.symm
    | ⟨1, _⟩ => rfl

/-- The block after a point: the parts so far. -/
theorem sofar3 (c : Dev nD) (y : S1536x1024.Idx) : ∀ (n : ℕ) (h : n < cfg0.N),
    (outsAt0 m c n h y : EReal) = ∑ s ∈ Finset.range (n + 1), part m c s y
  | 0, h => (first3 m c ⟨0, h⟩ rfl y).trans (by rw [Finset.sum_range_one])
  | n + 1, h => by
    have e : cfg0.N = 8 := N_0
    rw [Finset.sum_range_succ, ← sofar3 c y n (Nat.lt_of_succ_lt h)]
    exact later3 m c ⟨n + 1, h⟩ (by show ¬(n + 1) % 8 = 0; omega) y

theorem parts (c : Dev nD) (y : S1536x1024.Idx) : ∑ s ∈ Finset.range (7 + 1), part m c s y = R3 m c y := by
  unfold R3
  rw [Finset.sum_range]
  refine Eq.trans (Finset.sum_congr rfl fun s _ => ?_) (Fin.sum_mul_add_congr (S := 8) (n := 1024)
    (F := fun s k => wide m c (rowOf ⟨s.val, s.isLt⟩ k) (y 0) * hh m c (ix2 (rowOf ⟨s.val, s.isLt⟩ k) (y 1))) fun s r hl => rfl)
  exact dif_pos (show s.val < cfg0.N from s.isLt)

/-! ### The array after the call -/

theorem final3 (c : Dev nD) : (dats m 0 c).arrAt 3 cfg0.N = R3 m c := by
  refine (dats m 0 c).arrAt_eq_of_covers 3 _ (by decide +kernel) fun t hf y => ?_
  have ht := (flush0_3 t).mp hf
  have e := (idx t).2.2.2
  have key : ((cfg0.win 3).blk t).view.emb y = y := funext fun a => Fin.ext (by
    match a with
    | ⟨0, _⟩ => blk_simp [e]
    | ⟨1, _⟩ => blk_simp [e])
  rw [key]
  blk_simp
  rw [after0_3]
  refine (sofar3 m c y t.val t.isLt).trans ?_
  have hN : cfg0.N = 8 := N_0
  rw [show t.val = 7 by omega]
  exact parts m c y

/-! ### The reference's array -/

open Cert.ProjWeightRefIdeal.Read in
theorem ref7 (c : Dev nD) : val_main_v7 (F := Ideal) (dc m c) (du m c) (hh m c) = R3 m c := by
  funext i
  rw [val_main_v7_apply, val_main_v6_apply, val_main_v5_apply]
  unfold val_main_v2 val_main_v1 val_main_v0
  pointwise
  unfold R3 wide
  refine Finset.sum_congr rfl fun l _ => congrArg₂ (fun u v : EReal => u * v) rfl (congrArg (hh m c) (funext fun a => Fin.ext ?_))
  match a with
  | ⟨0, _⟩ => rfl
  | ⟨1, _⟩ => rfl

end Cert.ProjWeightIdeal.Value

end
-- ==== Proof.OutWeightSum.lean ====
/-
  The output projection's weight gradient: each of eight grid points adds the products of its 1024 rows to the block it
  keeps, in two pieces, one for each array of the mixed rows.
-/
module

public import proofs.«01_k».proof.Proof.Gen.OutWeightIdeal.Value
public import proofs.«01_k».proof.Proof.Gen.OutWeightRefIdeal.Read
public import proofs.«01_k».proof.Proof.Stacked
public import Idealize.ShloMosaic.Lib.KernelVsHost
public import Idealize.ShloMosaic.Lib.Pipeline.ValueKit
public import Idealize.ShloMosaic.Lib.Pointwise

@[expose] public section

noncomputable section

namespace Cert.OutWeightIdeal.Value

open Idealize.ShloMosaic Idealize.ShloMosaic.TcCoe Cert.OutWeightIdeal Cert.OutWeightIdeal.Gen

/-! ### A point's payloads at an entry -/

theorem pay1_apply (j : S1024x1024.Idx) : k0_pay1 (F := Ideal) j = 0 := by
  unfold k0_pay1
  pointwise

theorem pay3_apply (x : Vec Ideal S1024x1024 .f32) (acc : Vec Ideal S512x1024 .f32) (d : Vec Ideal S1024x512 .bf16) (j : S512x1024.Idx) :
    k0_pay3 (F := Ideal) x acc d j = acc j + ∑ k : Fin 1024, d (ix2 k (j 0)) * x (ix2 k (j 1)) := by
  unfold k0_pay3 k0_pay2
  pointwise

theorem pay4_apply (x : Vec Ideal S1024x1024 .f32) (acc : Vec Ideal S512x1024 .f32) (d : Vec Ideal S1024x512 .bf16) (j : S512x1024.Idx) :
    k0_pay4 (F := Ideal) x acc d j = acc j + ∑ k : Fin 1024, d (ix2 k (j 0)) * x (ix2 k (j 1)) := by
  unfold k0_pay4 k0_pay2
  pointwise

/-! ### The arguments and a point's blocks of them -/

variable (m : (ℓ : Loc nD τ sig) → Buf (Elt Ideal) ℓ)

abbrev an (c : Dev nD) : FVec Ideal S8192x512 .bf16 := m ((c : Thread nD τ).loc main_arg0)
abbrev sn (c : Dev nD) : FVec Ideal S8192x512 .bf16 := m ((c : Thread nD τ).loc main_arg1)
abbrev xx (c : Dev nD) : FVec Ideal S8192x1024 .f32 := m ((c : Thread nD τ).loc main_arg2)
abbrev anTile (c : Dev nD) (t : Fin cfg0.N) : FVec Ideal S1024x512 .bf16 := iblk m c 0 t
abbrev snTile (c : Dev nD) (t : Fin cfg0.N) : FVec Ideal S1024x512 .bf16 := iblk m c 1 t
abbrev xTile (c : Dev nD) (t : Fin cfg0.N) : FVec Ideal S1024x1024 .f32 := iblk m c 2 t

theorem idx : ∀ t : Fin cfg0.N, win0_0.index t = ![t.val, 0] ∧ win0_1.index t = ![t.val, 0] ∧ win0_2.index t = ![t.val, 0] ∧ win0_3.index t = ![0, 0] :=
  (by decide +kernel : ∀ t : Fin grid0.N, _)

/-- The array's row that a point's tile has at `r`. -/
abbrev rowOf (t : Fin cfg0.N) (r : Fin 1024) : Fin 8192 := ⟨t.val * 1024 + r.val, by have := t.isLt; have e : cfg0.N = 8 := N_0; omega⟩

theorem rows0 (c : Dev nD) (t : Fin cfg0.N) (r : Fin 1024) (q : Fin 512) : anTile m c t (ix2 r q) = an m c (ix2 (rowOf t r) q) := by
  have e := (idx t).1
  blk_ext [iblk, V, e]

theorem rows1 (c : Dev nD) (t : Fin cfg0.N) (r : Fin 1024) (q : Fin 512) : snTile m c t (ix2 r q) = sn m c (ix2 (rowOf t r) q) := by
  have e := (idx t).2.1
  blk_ext [iblk, V, e]

theorem rows2 (c : Dev nD) (t : Fin cfg0.N) (r : Fin 1024) (q : Fin 1024) : xTile m c t (ix2 r q) = xx m c (ix2 (rowOf t r) q) := by
  have e := (idx t).2.2.1
  blk_ext [iblk, V, e]

/-! ### The result -/

/-- A row of the two arrays side by side. -/
def wide (c : Dev nD) (l : Fin 8192) (a : Fin 1024) : EReal :=
  if h : a.val < 512 then an m c (ix2 l ⟨a.val, h⟩) else sn m c (ix2 l ⟨a.val - 512, by omega⟩)

theorem wide_top (c : Dev nD) (l : Fin 8192) (a : Fin 1024) (r : Fin 512) (h : a.val = r.val) : wide m c l a = an m c (ix2 l r) := by
  unfold wide
  rw [dif_pos (h ▸ r.isLt)]
  exact congrArg (fun q => an m c (ix2 l q)) (Fin.ext h)

theorem wide_bot (c : Dev nD) (l : Fin 8192) (a : Fin 1024) (r : Fin 512) (h : a.val = 512 + r.val) : wide m c l a = sn m c (ix2 l r) := by
  unfold wide
  rw [dif_neg (by omega)]
  exact congrArg (fun q => sn m c (ix2 l q)) (Fin.ext (by show a.val - 512 = r.val; omega))

/-- The array the call leaves. -/
def R3 (c : Dev nD) : FVec Ideal S1024x1024 .f32 := fun i => ∑ l, wide m c l (i 0) * xx m c (ix2 l (i 1))

/-- What a point adds to it. -/
def part (c : Dev nD) (n : ℕ) (i : S1024x1024.Idx) : EReal :=
  if h : n < cfg0.N then ∑ k : Fin 1024, wide m c (rowOf ⟨n, h⟩ k) (i 0) * xx m c (ix2 (rowOf ⟨n, h⟩ k) (i 1)) else 0

theorem top_tile (c : Dev nD) (t : Fin cfg0.N) (acc : Vec Ideal S512x1024 .f32) (y : S1024x1024.Idx) (r : Fin 512) (h : (y 0).val = r.val) :
    k0_pay3 (F := Ideal) (xTile m c t) acc (anTile m c t) (ix2 r (y 1)) = acc (ix2 r (y 1)) + part m c t.val y := by
  refine (pay3_apply _ _ _ _).trans ?_
  unfold part
  rw [dif_pos t.isLt]
  exact congrArg (fun s : EReal => acc (ix2 r (y 1)) + s) (Finset.sum_congr rfl fun k _ => congrArg₂ (fun u v : EReal => u * v)
    ((rows0 m c t k r).trans (wide_top m c (rowOf t k) (y 0) r h).symm) (rows2 m c t k (y 1)))

theorem bot_tile (c : Dev nD) (t : Fin cfg0.N) (acc : Vec Ideal S512x1024 .f32) (y : S1024x1024.Idx) (r : Fin 512) (h : (y 0).val = 512 + r.val) :
    k0_pay4 (F := Ideal) (xTile m c t) acc (snTile m c t) (ix2 r (y 1)) = acc (ix2 r (y 1)) + part m c t.val y := by
  refine (pay4_apply _ _ _ _).trans ?_
  unfold part
  rw [dif_pos t.isLt]
  exact congrArg (fun s : EReal => acc (ix2 r (y 1)) + s) (Finset.sum_congr rfl fun k _ => congrArg₂ (fun u v : EReal => u * v)
    ((rows1 m c t k r).trans (wide_bot m c (rowOf t k) (y 0) r h).symm) (rows2 m c t k (y 1)))

/-- The block as the first point clears it. -/
theorem zeroed (inb) (p : S1024x1024.Idx) :
    View.canon (Val := Elt Ideal) (s := S1024x1024) (e := .f32) [⟨Stacked.rect 1024 1024 1024 0 inb, k0_pay1 (F := Ideal)⟩] p = (0 : EReal) :=
  (Stacked.canon_on (N := 1024) (k := 1024) (n := 1024) (e := .f32) (k0_pay1 (F := Ideal)) [] p (p 0) (Nat.zero_add _).symm).trans (pay1_apply _)

theorem first3 (c : Dev nD) (t : Fin cfg0.N) (h : t.val % 8 = 0) (y : S1024x1024.Idx) : (outsAt0 m c t.val t.isLt y : EReal) = part m c t.val y := by
  rw [outsAt0_A m c t h]
  frame_out
  refine Stacked.canon_two (N := 1024) (n := 1024) (k₁ := 512) (k₂ := 512) rfl _ _ _ y (fun r hr => ?_) (fun r hr => ?_)
  · refine (top_tile m c t _ y r hr).trans ?_
    refine Eq.trans (congrArg (fun s : EReal => s + part m c t.val y) ?_) (zero_add _)
    exact (Stacked.cov_rows (N := 1024) (k := 512) (n := 1024) _ _ (ix2 r (y 1)) (by show 0 + r.val < 1024; omega)).trans (zeroed _ _)
  · refine (bot_tile m c t _ y r hr).trans ?_
    refine Eq.trans (congrArg (fun s : EReal => s + part m c t.val y) ?_) (zero_add _)
    refine (Stacked.cov_rows (N := 1024) (k := 512) (n := 1024) _ _ (ix2 r (y 1)) (by show 512 + r.val < 1024; omega)).trans ?_
    exact (Stacked.canon_off (N := 1024) (k := 512) (n := 1024) _ _ _ (by show ¬(0 ≤ 512 + r.val ∧ 512 + r.val < 0 + 512); omega)).trans (zeroed _ _)

theorem later3 (c : Dev nD) (t : Fin cfg0.N) (h : ¬t.val % 8 = 0) (y : S1024x1024.Idx) :
    (outsAt0 m c t.val t.isLt y : EReal) = outsAt0 m c (t.val - 1) (lt_of_le_of_lt (Nat.sub_le _ _) t.isLt) y + part m c t.val y := by
  rw [outsAt0_B m c t h]
  frame_out
  refine Stacked.canon_two (N := 1024) (n := 1024) (k₁ := 512) (k₂ := 512) rfl _ _ _ y (fun r hr => ?_) (fun r hr => ?_)
  · refine (top_tile m c t _ y r hr).trans (congrArg (fun s : EReal => s + part m c t.val y) ?_)
    refine (Stacked.ld_rows (N := 1024) (k := 512) (n := 1024) _ (ix2 r (y 1)) (by show 0 + r.val < 1024; omega)).trans (congrArg _ (funext fun a => Fin.ext ?_))
    match a with
    | ⟨0, _⟩ => exact (Nat.zero_add _).trans hr.symm
    | ⟨1, _⟩ => rfl
  · refine (bot_tile m c t _ y r hr).trans (congrArg (fun s : EReal => s + part m c t.val y) ?_)
    refine (Stacked.ld_rows (N := 1024) (k := 512) (n := 1024) _ (ix2 r (y 1)) (by show 512 + r.val < 1024; omega)).trans (congrArg _ (funext fun a => Fin.ext ?_))
    match a with
    | ⟨0, _⟩ => exact hr.symm
    | ⟨1, _⟩ => rfl

/-- The block after a point: the parts so far. -/
theorem sofar3 (c : Dev nD) (y : S1024x1024.Idx) : ∀ (n : ℕ) (h : n < cfg0.N),
    (outsAt0 m c n h y : EReal) = ∑ s ∈ Finset.range (n + 1), part m c s y
  | 0, h => (first3 m c ⟨0, h⟩ rfl y).trans (by rw [Finset.sum_range_one])
  | n + 1, h => by
    have e : cfg0.N = 8 := N_0
    rw [Finset.sum_range_succ, ← sofar3 c y n (Nat.lt_of_succ_lt h)]
    exact later3 m c ⟨n + 1, h⟩ (by show ¬(n + 1) % 8 = 0; omega) y

theorem parts (c : Dev nD) (y : S1024x1024.Idx) : ∑ s ∈ Finset.range (7 + 1), part m c s y = R3 m c y := by
  unfold R3
  rw [Finset.sum_range]
  refine Eq.trans (Finset.sum_congr rfl fun s _ => ?_) (Fin.sum_mul_add_congr (S := 8) (n := 1024)
    (F := fun s k => wide m c (rowOf ⟨s.val, s.isLt⟩ k) (y 0) * xx m c (ix2 (rowOf ⟨s.val, s.isLt⟩ k) (y 1))) fun s r hl => rfl)
  exact dif_pos (show s.val < cfg0.N from s.isLt)

/-! ### The array after the call -/

theorem final3 (c : Dev nD) : (dats m 0 c).arrAt 3 cfg0.N = R3 m c := by
  refine (dats m 0 c).arrAt_eq_of_covers 3 _ (by decide +kernel) fun t hf y => ?_
  have ht := (flush0_3 t).mp hf
  have e := (idx t).2.2.2
  have key : ((cfg0.win 3).blk t).view.emb y = y := funext fun a => Fin.ext (by
    match a with
    | ⟨0, _⟩ => blk_simp [e]
    | ⟨1, _⟩ => blk_simp [e])
  rw [key]
  blk_simp
  rw [after0_3]
  refine (sofar3 m c y t.val t.isLt).trans ?_
  have hN : cfg0.N = 8 := N_0
  rw [show t.val = 7 by omega]
  exact parts m c y

/-! ### The reference's array -/

open Cert.OutWeightRefIdeal.Read in
theorem ref5 (c : Dev nD) : val_main_v5 (F := Ideal) (an m c) (sn m c) (xx m c) = R3 m c := by
  funext i
  rw [val_main_v5_apply, val_main_v4_apply]
  unfold val_main_v1 val_main_v0
  pointwise
  unfold R3 wide
  refine Finset.sum_congr rfl fun l _ => (mul_comm _ _).trans (congrArg₂ (fun u v : EReal => u * v) rfl (congrArg (xx m c) (funext fun a => Fin.ext ?_)))
  match a with
  | ⟨0, _⟩ => rfl
  | ⟨1, _⟩ => rfl

end Cert.OutWeightIdeal.Value

end
-- ==== Proof.RowGrad.lean ====
/-
  The gradient of a row through the scaling by its root mean square, as a function of the row, of the gradient that
  arrives and of the gain: the kernel's factored form, the transposed reference's form, and that they agree on real rows.
-/
module

public import proofs.«01_k».proof.Proof.RowVec
public import Idealize.ShloMosaic.Lib.KernelVsHost

@[expose] public section

noncomputable section

namespace Cert.RowGrad

open Idealize.ShloMosaic

/-- The row's width and the small number under the root, as the programs spell them. -/
abbrev width : EReal := Ideal.ofBits .f32 1149239296#32
abbrev small : EReal := Ideal.ofBits .f32 897988541#32

/-- The number under the root. -/
def under (x : Fin 1024 → EReal) : EReal := Ideal.div (∑ p, x p * x p) width + small

/-- The factor that scales the row. -/
def scale (x : Fin 1024 → EReal) : EReal := Ideal.rsqrt (under x)

/-- The gradient of the row `x` when `y` arrives and the gain is `g`. -/
def back (y x g : Fin 1024 → EReal) (q : Fin 1024) : EReal :=
  scale x * (y q * g q - x q * scale x * Ideal.div (∑ p, y p * g p * (x p * scale x)) width)

/-- What the row adds to the gain's gradient. -/
def gain (y x : Fin 1024 → EReal) (q : Fin 1024) : EReal := y q * (x q * scale x)

/-- What the reference adds for a row: through the product, and through the root twice, once for each factor of the square. -/
def rootPart (y x g : Fin 1024 → EReal) : EReal :=
  ∑ _ : Fin 1, Ideal.div ((∑ p, x p * (y p * g p)) * (Ideal.ofBits .f32 3204448256#32 * Ideal.div (scale x) (under x))) width

def forth (d : EReal) (y x g : Fin 1024 → EReal) (q : Fin 1024) : EReal :=
  d + y q * g q * scale x + x q * rootPart y x g + rootPart y x g * x q

theorem width_eq : width = ((1024 : ℝ) : EReal) := by
  simp [Ideal.ofBits, Ideal.ieee, -EReal.coe_mul]; norm_num
theorem small_eq : small = ((Row.eps : ℝ) : EReal) := Row.eps_lit
theorem half_eq : Ideal.ofBits .f32 3204448256#32 = ((-(1 / 2) : ℝ) : EReal) := by
  simp [Ideal.ofBits, Ideal.ieee, -EReal.coe_mul]; norm_num

variable (X Y G : Fin 1024 → ℝ)

/-- The number under the root, in the reals. -/
def underR : ℝ := (∑ p, X p * X p) * (1 / 1024) + Row.eps

theorem underR_pos : 0 < underR X :=
  add_pos_of_nonneg_of_pos (mul_nonneg (Finset.sum_nonneg fun p _ => mul_self_nonneg (X p)) (by norm_num)) Row.eps_pos

theorem under_coe : under (fun p => ((X p : ℝ) : EReal)) = ((underR X : ℝ) : EReal) := by
  unfold under underR
  rw [width_eq, small_eq, Ideal.div_coe (by norm_num)]
  simp only [← EReal.coe_mul, Row.coe_sum, ← EReal.coe_add]

theorem scale_coe : scale (fun p => ((X p : ℝ) : EReal)) = (((√(underR X))⁻¹ : ℝ) : EReal) := by
  unfold scale
  rw [under_coe, Ideal.rsqrt_coe, if_neg (not_lt.mpr (underR_pos X).le), if_neg (underR_pos X).ne']

theorem rootPart_coe : rootPart (fun p => ((Y p : ℝ) : EReal)) (fun p => ((X p : ℝ) : EReal)) (fun p => ((G p : ℝ) : EReal))
    = (((∑ p, X p * (Y p * G p)) * (-(1 / 2) * ((√(underR X))⁻¹ * (1 / underR X))) * (1 / 1024) : ℝ) : EReal) := by
  unfold rootPart
  rw [scale_coe, under_coe, width_eq, half_eq, Ideal.div_coe (underR_pos X).ne', Ideal.div_coe (by norm_num)]
  simp only [← EReal.coe_mul, Row.coe_sum, Fin.sum_univ_one, Finset.univ_unique, Finset.sum_singleton]

/-- The two forms agree on real rows. -/
theorem forth_eq_real (D : ℝ) (q : Fin 1024) :
    forth (D : EReal) (fun p => ((Y p : ℝ) : EReal)) (fun p => ((X p : ℝ) : EReal)) (fun p => ((G p : ℝ) : EReal)) q
      = (D : EReal) + back (fun p => ((Y p : ℝ) : EReal)) (fun p => ((X p : ℝ) : EReal)) (fun p => ((G p : ℝ) : EReal)) q := by
  unfold forth back
  rw [rootPart_coe, scale_coe, width_eq, Ideal.div_coe (by norm_num)]
  simp only [← EReal.coe_mul, Row.coe_sum, ← EReal.coe_add, ← EReal.coe_sub]
  refine congrArg Real.toEReal ?_
  rw [Row.inv_sqrt_div (underR_pos X)]
  have e : ∑ p, Y p * G p * (X p * (√(underR X))⁻¹) = (∑ p, X p * (Y p * G p)) * (√(underR X))⁻¹ := by
    rw [Finset.sum_mul]
    exact Finset.sum_congr rfl fun p _ => by ring
  rw [e]
  ring

/-- A number that is neither infinity. -/
def IsReal (z : EReal) : Prop := ∃ r : ℝ, z = r

theorem IsReal.mul {z w : EReal} : IsReal z → IsReal w → IsReal (z * w)
  | ⟨a, ha⟩, ⟨b, hb⟩ => ⟨a * b, by rw [ha, hb, EReal.coe_mul]⟩

theorem IsReal.add {z w : EReal} : IsReal z → IsReal w → IsReal (z + w)
  | ⟨a, ha⟩, ⟨b, hb⟩ => ⟨a + b, by rw [ha, hb, EReal.coe_add]⟩

theorem IsReal.sum {n : ℕ} {f : Fin n → EReal} (h : ∀ k, IsReal (f k)) : IsReal (∑ k, f k) := by
  choose F hF using h
  exact ⟨∑ k, F k, (Finset.sum_congr rfl fun k _ => hF k).trans (Row.coe_sum _ F)⟩

theorem forth_eq {d : EReal} {y x g : Fin 1024 → EReal} (hd : IsReal d) (hy : ∀ p, IsReal (y p)) (hx : ∀ p, IsReal (x p)) (hg : ∀ p, IsReal (g p)) (q : Fin 1024) :
    forth d y x g q = d + back y x g q := by
  obtain ⟨D, rfl⟩ := hd
  choose Y hY using hy
  choose X hX using hx
  choose G hG using hg
  obtain rfl : y = fun p => ((Y p : ℝ) : EReal) := funext hY
  obtain rfl : x = fun p => ((X p : ℝ) : EReal) := funext hX
  obtain rfl : g = fun p => ((G p : ℝ) : EReal) := funext hG
  exact forth_eq_real X Y G D q

end Cert.RowGrad

end
-- ==== Proof.Gate.lean ====
/-
  The gated unit's elementwise gradient: the kernel's form, with the logistic function through the hyperbolic tangent,
  and the transposed reference's form, and that they agree on real numbers.
-/
module

public import proofs.«01_k».proof.Proof.RowGrad

@[expose] public section

noncomputable section

namespace Cert.Gate

open Idealize.ShloMosaic Cert.RowGrad

/-- One half, as the programs spell it. -/
abbrev half : EReal := Ideal.ofBits .f32 1056964608#32

/-- The logistic function as the kernel computes it, and as the reference does. -/
def act (a : EReal) : EReal := half * Ideal.tanh (half * a) + half
def sig (a : EReal) : EReal := Ideal.div 1 (1 + Ideal.exp (-a))

/-- The gradients of the two factors and their product, in the kernel's form. -/
def dgate (g a b : EReal) : EReal := g * b * (act a * (1 + a - a * act a))
def dfac (g a : EReal) : EReal := g * (a * act a)
def prod (a b : EReal) : EReal := a * act a * b

theorem half_eq : half = ((1 / 2 : ℝ) : EReal) := Row.half_lit

theorem act_coe (a : ℝ) : act (a : EReal) = ((Row.sigm a : ℝ) : EReal) := by
  unfold act
  rw [half_eq, ← EReal.coe_mul, Ideal.tanh_coe, ← EReal.coe_mul, ← EReal.coe_add, Row.half_tanh]

theorem sig_coe (a : ℝ) : sig (a : EReal) = ((Row.sigm a : ℝ) : EReal) := by
  unfold sig
  rw [← EReal.coe_neg, Ideal.exp_coe, ← EReal.coe_one, ← EReal.coe_add, Ideal.div_coe (Row.sigm_den_pos a).ne', ← EReal.coe_mul]
  refine congrArg Real.toEReal ?_
  unfold Row.sigm
  rw [one_mul, one_div]

theorem sig_eq {a : EReal} (ha : IsReal a) : sig a = act a := by
  obtain ⟨r, rfl⟩ := ha
  rw [sig_coe, act_coe]

theorem dgate_eq {g a b : EReal} (hg : IsReal g) (ha : IsReal a) (hb : IsReal b) :
    g * b * sig a + a * (g * b) * (sig a * (1 - sig a)) = dgate g a b := by
  obtain ⟨g, rfl⟩ := hg
  obtain ⟨a, rfl⟩ := ha
  obtain ⟨b, rfl⟩ := hb
  unfold dgate
  rw [sig_coe, act_coe, ← EReal.coe_one]
  simp only [← EReal.coe_mul, ← EReal.coe_sub, ← EReal.coe_add]
  exact congrArg Real.toEReal (by ring)

end Cert.Gate

end
-- ==== Proof.Head.lean ====
/-
  The gated unit followed by the last scaling and the mean square loss, over whole arrays: the kernel's forms, and their
  agreement with the transposed reference's on real numbers.
-/
module

public import proofs.«01_k».proof.Proof.Gate

@[expose] public section

noncomputable section

namespace Cert.Head

open Idealize.ShloMosaic Cert.RowGrad Cert.Gate

/-- The constants as the programs spell them. -/
abbrev two : EReal := Ideal.ofBits .f32 1073741824#32
abbrev perWidth : EReal := Ideal.ofBits .f32 981467136#32

section Rows
variable (o gf t : Fin 1024 → EReal)

/-- A row's difference from its target, its mean square, and the gradient of half the mean square. -/
def err (q : Fin 1024) : EReal := o q * scale o * gf q - t q
def dy (q : Fin 1024) : EReal := err o gf t q * perWidth
def msq : EReal := Ideal.div (∑ p, err o gf t p * err o gf t p) width

end Rows

section Arrays
variable (x : FVec Ideal ⟨2, ![8192, 1024]⟩ .f32) (g : FVec Ideal ⟨2, ![1, 1024]⟩ .f32) (w1 w3 : FVec Ideal ⟨2, ![1024, 2816]⟩ .f32)
  (w2 : FVec Ideal ⟨2, ![2816, 1024]⟩ .f32) (gf : FVec Ideal ⟨2, ![1, 1024]⟩ .f32) (tg : FVec Ideal ⟨2, ![8192, 1024]⟩ .f32)

/-- The scaled row, a hidden value before the gate, and the unit's result with the row added. -/
def scaled (l : Fin 8192) (k : Fin 1024) : EReal := x (ix2 l k) * (scale fun p => x (ix2 l p)) * g (ix2 0 k)
def hidden (w : FVec Ideal ⟨2, ![1024, 2816]⟩ .f32) (l : Fin 8192) (p : Fin 2816) : EReal := ∑ k, scaled x g l k * w (ix2 k p)
def out (l : Fin 8192) (q : Fin 1024) : EReal := x (ix2 l q) + half * ∑ p, prod (hidden x g w1 l p) (hidden x g w3 l p) * w2 (ix2 p q)

/-- The gain and the target as rows; a row's gradient, its part of the gain's gradient, and its mean square. -/
abbrev gfRow : Fin 1024 → EReal := fun p => gf (ix2 0 p)
abbrev tgRow (l : Fin 8192) : Fin 1024 → EReal := fun p => tg (ix2 l p)
def dOut (l : Fin 8192) (q : Fin 1024) : EReal := back (dy (out x g w1 w3 w2 l) (gfRow gf) (tgRow tg l)) (out x g w1 w3 w2 l) (gfRow gf) q
def dGain (l : Fin 8192) (q : Fin 1024) : EReal := gain (dy (out x g w1 w3 w2 l) (gfRow gf) (tgRow tg l)) (out x g w1 w3 w2 l) q
def square (l : Fin 8192) : EReal := msq (out x g w1 w3 w2 l) (gfRow gf) (tgRow tg l)

/-- The loss, added up over sixteen tiles of 512 rows. -/
def loss : EReal := ∑ s : Fin 16, half * ∑ r : Fin 512, square x g w1 w3 w2 gf tg ⟨s.val * 512 + r.val, by omega⟩

end Arrays

/-! ### Real numbers -/

theorem two_eq : two = ((2 : ℝ) : EReal) := by
  simp [Ideal.ofBits, Ideal.ieee, -EReal.coe_mul]; norm_num
theorem perWidth_eq : perWidth = ((1 / 1024 : ℝ) : EReal) := by
  simp [Ideal.ofBits, Ideal.ieee, -EReal.coe_mul]; norm_num

theorem _root_.Cert.RowGrad.IsReal.sub {z w : EReal} : IsReal z → IsReal w → IsReal (z - w)
  | ⟨a, ha⟩, ⟨b, hb⟩ => ⟨a - b, by rw [ha, hb, EReal.coe_sub]⟩

theorem scale_real {x : Fin 1024 → EReal} (hx : ∀ p, IsReal (x p)) : IsReal (scale x) := by
  choose X hX using hx
  obtain rfl : x = fun p => ((X p : ℝ) : EReal) := funext hX
  exact ⟨_, scale_coe X⟩

theorem prod_real {a b : EReal} : IsReal a → IsReal b → IsReal (prod a b)
  | ⟨r, hr⟩, hb => by
    unfold prod
    rw [hr, act_coe]
    exact (IsReal.mul ⟨_, rfl⟩ ⟨_, rfl⟩).mul hb

theorem mean_real {z : EReal} : IsReal z → IsReal (Ideal.div z width)
  | ⟨r, hr⟩ => ⟨r * (1 / 1024), by rw [hr, width_eq, Ideal.div_coe (by norm_num), EReal.coe_mul]⟩

/-- The reference's gradient of the mean square. -/
theorem dy_eq {e : EReal} : IsReal e → Ideal.div (half * 1) width * (two * e) = e * perWidth
  | ⟨r, hr⟩ => by
    rw [hr, Cert.Gate.half_eq, width_eq, two_eq, perWidth_eq, ← EReal.coe_one, ← EReal.coe_mul, Ideal.div_coe (by norm_num)]
    simp only [← EReal.coe_mul]
    exact congrArg Real.toEReal (by ring)

/-- A real factor moves out of a sum of real numbers. -/
theorem sum_mul_left {n : ℕ} {f : Fin n → EReal} (hf : ∀ s, IsReal (f s)) (c : ℝ) : ∑ s, (c : EReal) * f s = (c : EReal) * ∑ s, f s := by
  choose F hF using hf
  obtain rfl : f = fun s => ((F s : ℝ) : EReal) := funext hF
  simp only [← EReal.coe_mul, Row.coe_sum, Finset.mul_sum]

section Arrays
variable {x : FVec Ideal ⟨2, ![8192, 1024]⟩ .f32} {g : FVec Ideal ⟨2, ![1, 1024]⟩ .f32} {w1 w3 w : FVec Ideal ⟨2, ![1024, 2816]⟩ .f32}
  {w2 : FVec Ideal ⟨2, ![2816, 1024]⟩ .f32} {gf : FVec Ideal ⟨2, ![1, 1024]⟩ .f32} {tg : FVec Ideal ⟨2, ![8192, 1024]⟩ .f32}

theorem hidden_real (hx : ∀ i, IsReal (x i)) (hg : ∀ i, IsReal (g i)) (hw : ∀ i, IsReal (w i)) (l : Fin 8192) (p : Fin 2816) : IsReal (hidden x g w l p) :=
  IsReal.sum fun k => (((hx _).mul (scale_real fun p => hx _)).mul (hg _)).mul (hw _)

theorem out_real (hx : ∀ i, IsReal (x i)) (hg : ∀ i, IsReal (g i)) (h1 : ∀ i, IsReal (w1 i)) (h3 : ∀ i, IsReal (w3 i)) (h2 : ∀ i, IsReal (w2 i))
    (l : Fin 8192) (q : Fin 1024) : IsReal (out x g w1 w3 w2 l q) :=
  (hx _).add (IsReal.mul ⟨_, Cert.Gate.half_eq⟩ (IsReal.sum fun p => (prod_real (hidden_real hx hg h1 l p) (hidden_real hx hg h3 l p)).mul (h2 _)))

end Arrays

theorem err_real {o gf t : Fin 1024 → EReal} (ho : ∀ p, IsReal (o p)) (hg : ∀ p, IsReal (gf p)) (ht : ∀ p, IsReal (t p)) (q : Fin 1024) : IsReal (err o gf t q) :=
  (((ho q).mul (scale_real ho)).mul (hg q)).sub (ht q)

section Arrays
variable {x : FVec Ideal ⟨2, ![8192, 1024]⟩ .f32} {g : FVec Ideal ⟨2, ![1, 1024]⟩ .f32} {w1 w3 : FVec Ideal ⟨2, ![1024, 2816]⟩ .f32}
  {w2 : FVec Ideal ⟨2, ![2816, 1024]⟩ .f32} {gf : FVec Ideal ⟨2, ![1, 1024]⟩ .f32} {tg : FVec Ideal ⟨2, ![8192, 1024]⟩ .f32}

/-- The loss is half the sum of the rows' mean squares. -/
theorem loss_eq (h : ∀ l, IsReal (square x g w1 w3 w2 gf tg l)) : half * ∑ l, square x g w1 w3 w2 gf tg l = loss x g w1 w3 w2 gf tg := by
  unfold loss
  rw [Cert.Gate.half_eq, sum_mul_left (fun s => IsReal.sum fun r => h _)]
  refine congrArg (fun z : EReal => ((1 / 2 : ℝ) : EReal) * z) ?_
  exact (Fin.sum_mul_add_congr (S := 16) (n := 512) (F := fun s r => square x g w1 w3 w2 gf tg ⟨s.val * 512 + r.val, by omega⟩) fun s r hl => rfl).symm

end Arrays

end Cert.Head

end
-- ==== Proof.MixInSum.lean ====
/-
  The mixing projection's call: each of eight grid points scales its 1024 rows and multiplies them by the weight.
-/
module

public import proofs.«01_k».proof.Proof.Gen.MixInIdeal.Value
public import proofs.«01_k».proof.Proof.Gen.MixInRefIdeal.Read
public import proofs.«01_k».proof.Proof.Head
public import Idealize.ShloMosaic.Lib.KernelVsHost
public import Idealize.ShloMosaic.Lib.Pipeline.ValueKit
public import Idealize.ShloMosaic.Lib.Pointwise

@[expose] public section

noncomputable section

namespace Cert.MixInIdeal.Value

open Idealize.ShloMosaic Idealize.ShloMosaic.TcCoe Cert.MixInIdeal Cert.MixInIdeal.Gen Cert.RowGrad Cert.Head

/-! ### A point's payloads at an entry -/

theorem pay1_apply (x : Vec Ideal S1024x1024 .f32) (g : Vec Ideal S1x1024 .f32) (r : Fin 1024) (k : Fin 1024) :
    k0_pay1 (F := Ideal) x g (ix2 r k) = x (ix2 r k) * (scale fun p => x (ix2 r p)) * g (ix2 0 k) := by
  unfold k0_pay1 scale under
  pointwise

theorem pay2_apply (h : Vec Ideal S1024x1024 .bf16) (w : Vec Ideal S1536x1024 .bf16) (j : S1024x1536.Idx) :
    k0_pay2 (F := Ideal) h w j = ∑ k, h (ix2 (j 0) k) * w (ix2 (j 1) k) := by
  unfold k0_pay2
  pointwise

/-! ### The arguments and a point's blocks of them -/

variable (m : (ℓ : Loc nD τ sig) → Buf (Elt Ideal) ℓ)

abbrev xx (c : Dev nD) : FVec Ideal S8192x1024 .f32 := m ((c : Thread nD τ).loc main_arg0)
abbrev gg (c : Dev nD) : FVec Ideal S1x1024 .f32 := m ((c : Thread nD τ).loc main_arg1)
abbrev ww (c : Dev nD) : FVec Ideal S1024x1536 .f32 := m ((c : Thread nD τ).loc main_arg2)

abbrev xTile (c : Dev nD) (t : Fin cfg0.N) : FVec Ideal S1024x1024 .f32 := iblk m c 0 t
abbrev gTile (c : Dev nD) (t : Fin cfg0.N) : FVec Ideal S1x1024 .f32 := iblk m c 1 t
abbrev wTile (c : Dev nD) (t : Fin cfg0.N) : FVec Ideal S1536x1024 .bf16 := iblk m c 2 t

theorem idx : ∀ t : Fin cfg0.N, win0_0.index t = ![t.val, 0] ∧ win0_1.index t = ![0, 0] ∧ win0_2.index t = ![0, 0]
    ∧ win0_3.index t = ![t.val, 0] ∧ win0_4.index t = ![t.val, 0] :=
  (by decide +kernel : ∀ t : Fin grid0.N, _)

/-- The array's row that a point's tile has at `r`. -/
abbrev rowOf (t : Fin cfg0.N) (r : Fin 1024) : Fin 8192 := ⟨t.val * 1024 + r.val, by have := t.isLt; have e : cfg0.N = 8 := N_0; omega⟩

theorem rows0 (c : Dev nD) (t : Fin cfg0.N) (r : Fin 1024) (q : Fin 1024) : xTile m c t (ix2 r q) = xx m c (ix2 (rowOf t r) q) := by
  have e := (idx t).1
  refine Eq.trans ?_ (congrFun (V_main_arg0 m c) _)
  blk_ext [iblk, e]

theorem rows1 (c : Dev nD) (t : Fin cfg0.N) (q : Fin 1024) : gTile m c t (ix2 0 q) = gg m c (ix2 0 q) := by
  have e := (idx t).2.1
  refine Eq.trans ?_ (congrFun (V_main_arg1 m c) _)
  blk_ext [iblk, e]

/-- The weight, transposed and rounded by the host before the call. -/
theorem host1 (c : Dev nD) : (V m c main_v1 : FVec Ideal S1536x1024 .bf16) = fun i => ww m c (ix2 (i 1) (i 0)) := by
  unfold V
  after_results
  funext i
  pointwise

theorem rows2 (c : Dev nD) (t : Fin cfg0.N) (k : Fin 1536) (q : Fin 1024) : wTile m c t (ix2 k q) = ww m c (ix2 q k) := by
  have e := (idx t).2.2.1
  refine Eq.trans ?_ (congrFun (host1 m c) (ix2 k q))
  blk_ext [iblk, e]

/-! ### The results -/

/-- The two arrays the call leaves. -/
def R3 (c : Dev nD) : FVec Ideal S8192x1536 .f32 := fun i => ∑ k, scaled (xx m c) (gg m c) (i 0) k * ww m c (ix2 k (i 1))
def R4 (c : Dev nD) : FVec Ideal S8192x1024 .bf16 := fun i => scaled (xx m c) (gg m c) (i 0) (i 1)

theorem scaled_tile (c : Dev nD) (t : Fin cfg0.N) (r : Fin 1024) (k : Fin 1024) :
    k0_pay1 (F := Ideal) (xTile m c t) (gTile m c t) (ix2 r k) = scaled (xx m c) (gg m c) (rowOf t r) k := by
  rw [pay1_apply]
  unfold scaled
  rw [show (fun p => xTile m c t (ix2 r p)) = fun p => xx m c (ix2 (rowOf t r) p) from funext fun p => rows0 m c t r p, rows0, rows1]

theorem point3 (c : Dev nD) (t : Fin cfg0.N) : (outsAt0 m c t).1 = k0_pay2 (F := Ideal) (k0_pay1 (F := Ideal) (xTile m c t) (gTile m c t)) (wTile m c t) := by
  unfold outsAt0
  frame_out

theorem point4 (c : Dev nD) (t : Fin cfg0.N) : (outsAt0 m c t).2 = k0_pay1 (F := Ideal) (xTile m c t) (gTile m c t) := by
  unfold outsAt0
  frame_out

theorem final3 (c : Dev nD) : (dats m 0 c).arrAt 3 cfg0.N = R3 m c := by
  refine (dats m 0 c).arrAt_eq_of_covers 3 _ (by decide +kernel) fun t _ y => ?_
  have e := (idx t).2.2.2.1
  have key : ((cfg0.win 3).blk t).view.emb y = ix2 (rowOf t (y 0)) (y 1) := funext fun a => Fin.ext (by
    match a with
    | ⟨0, _⟩ => blk_simp [e]; rfl
    | ⟨1, _⟩ => blk_simp [e]; rfl)
  rw [key]
  blk_simp
  rw [after0_3]
  refine (congrFun (point3 m c t) y).trans ((pay2_apply _ _ y).trans ?_)
  exact Finset.sum_congr rfl fun k _ => congrArg₂ (fun u v : EReal => u * v) (scaled_tile m c t (y 0) k) (rows2 m c t (y 1) k)

theorem final4 (c : Dev nD) : (dats m 0 c).arrAt 4 cfg0.N = R4 m c := by
  refine (dats m 0 c).arrAt_eq_of_covers 4 _ (by decide +kernel) fun t _ y => ?_
  have e := (idx t).2.2.2.2
  have key : ((cfg0.win 4).blk t).view.emb y = ix2 (rowOf t (y 0)) (y 1) := funext fun a => Fin.ext (by
    match a with
    | ⟨0, _⟩ => blk_simp [e]; rfl
    | ⟨1, _⟩ => blk_simp [e]; rfl)
  rw [key]
  blk_simp
  rw [after0_4]
  obtain ⟨r, q, rfl⟩ : ∃ (r : Fin 1024) (q : Fin 1024), y = ix2 r q := ⟨y 0, y 1, funext fun a => by match a with | ⟨0, _⟩ => rfl | ⟨1, _⟩ => rfl⟩
  exact (congrFun (point4 m c t) _).trans (scaled_tile m c t r q)

/-! ### The reference's arrays -/

open Cert.MixInRefIdeal.Read in
theorem ref_scaled (x : FVec Ideal S8192x1024 .f32) (g : FVec Ideal S1x1024 .f32) (l : Fin 8192) (k : Fin 1024) : val_main_v11 (F := Ideal) x g (ix2 l k) = scaled x g l k := by
  unfold val_main_v11 val_main_v10 val_main_v9 val_main_v8 val_main_v7 val_main_v6 val_main_v5 val_main_v4 val_main_v3 val_main_v2 val_main_v1 val_main_v0
    val_main_cst val_main_cst_0 val_main_cst_1 scaled scale under
  pointwise

open Cert.MixInRefIdeal.Read in
theorem ref3 (c : Dev nD) : val_main_v12 (F := Ideal) (xx m c) (gg m c) (ww m c) = R3 m c := by
  funext i
  unfold val_main_v12 R3
  pointwise
  exact Finset.sum_congr rfl fun k _ => congrArg (fun y : EReal => y * ww m c (ix2 k (i 1))) (ref_scaled _ _ (i 0) k)

open Cert.MixInRefIdeal.Read in
theorem ref4 (c : Dev nD) : val_main_v13 (F := Ideal) (xx m c) (gg m c) = R4 m c := by
  funext i
  unfold val_main_v13 R4
  pointwise
  obtain ⟨l, k, rfl⟩ : ∃ (l : Fin 8192) (k : Fin 1024), i = ix2 l k := ⟨i 0, i 1, funext fun a => by match a with | ⟨0, _⟩ => rfl | ⟨1, _⟩ => rfl⟩
  exact ref_scaled _ _ l k

end Cert.MixInIdeal.Value

end
-- ==== Proof.MixOutSum.lean ====
/-
  The call that leaves the mixer: each of eight grid points makes the scan's gated rows of its 1024 tokens, scales them, and
  adds the products of both mixers' rows with the weight to the input's rows.
-/
module

public import proofs.«01_k».proof.Proof.Gen.MixOutIdeal.Value
public import proofs.«01_k».proof.Proof.Gen.MixOutRefIdeal.Read
public import proofs.«01_k».proof.Proof.Gate
public import proofs.«01_k».proof.Proof.Stacked
public import Idealize.ShloMosaic.Lib.KernelVsHost
public import Idealize.ShloMosaic.Lib.Pipeline.ValueKit
public import Idealize.ShloMosaic.Lib.Pointwise

@[expose] public section

noncomputable section

namespace Cert.MixOutIdeal.Value

open Idealize.ShloMosaic Idealize.ShloMosaic.TcCoe Cert.MixOutIdeal Cert.MixOutIdeal.Gen Cert.Gate Cert.RowGrad

/-! ### One token's row -/

/-- The activation, in the hyperbolic tangent's form. -/
def gelu (y : EReal) : EReal :=
  half * y * (1 + Ideal.tanh (Ideal.ofBits .f32 1061962282#32 * (y + Ideal.ofBits .f32 1027024659#32 * y * y * y)))

/-- The row through the gate; the factor that scales a row; and the row scaled. -/
def gated (y : Fin 512 → EReal) (w : Fin 512 → Fin 512 → EReal) (b : Fin 512 → EReal) (q : Fin 512) : EReal :=
  gelu (y q) * act (∑ k, gelu (y k) * w k q + b q)
def factor (s : Fin 512 → EReal) : EReal := Ideal.rsqrt (Ideal.div (∑ p, s p * s p) (Ideal.ofBits .f32 1140850688#32) + small)
def normed (y : Fin 512 → EReal) (w : Fin 512 → Fin 512 → EReal) (b g : Fin 512 → EReal) (q : Fin 512) : EReal :=
  gated y w b q * factor (gated y w b) * g q

/-- The logistic function in its two forms, at infinity too. -/
theorem sig_act (z : EReal) : Gate.sig z = act z := by
  induction z with
  | coe z => rw [sig_coe, act_coe]
  | top =>
    have h : act ⊤ = 1 := by
      unfold act
      rw [Gate.half_eq, EReal.coe_mul_top_of_pos (by norm_num), Ideal.tanh_top, mul_one, ← EReal.coe_add]
      norm_num
    rw [h]
    exact Ideal.logistic_top
  | bot =>
    have h : act ⊥ = 0 := by
      unfold act
      rw [Gate.half_eq, EReal.coe_mul_bot_of_pos (by norm_num), Ideal.tanh_bot, mul_neg, mul_one, ← EReal.coe_neg, ← EReal.coe_add]
      norm_num
    rw [h]
    exact Ideal.logistic_bot

/-! ### A point's payloads at an entry -/

theorem pay3_apply (x : Vec Ideal S1024x512 .f32) (d : Vec Ideal S1x512 .f32) (u : Vec Ideal S1024x512 .f32) (r : Fin 1024) (k : Fin 512) :
    k0_pay3 (F := Ideal) x d u (ix2 r k) = x (ix2 r k) + d (ix2 0 k) * u (ix2 r k) := by
  unfold k0_pay3
  pointwise

theorem pay4_apply (x : Vec Ideal S1024x512 .f32) (d : Vec Ideal S1x512 .f32) (u : Vec Ideal S1024x512 .f32) (w : Vec Ideal S512x512 .bf16) (b : Vec Ideal S1x512 .f32)
    (r : Fin 1024) (k : Fin 512) :
    k0_pay4 (F := Ideal) x d u w b (ix2 r k) = gated (fun p => k0_pay3 (F := Ideal) x d u (ix2 r p)) (fun p q => w (ix2 p q)) (fun q => b (ix2 0 q)) k := by
  unfold k0_pay4 gated act gelu
  generalize k0_pay3 (F := Ideal) x d u = y
  pointwise

theorem pay5_apply (x : Vec Ideal S1024x512 .f32) (d : Vec Ideal S1x512 .f32) (u : Vec Ideal S1024x512 .f32) (w : Vec Ideal S512x512 .bf16) (b : Vec Ideal S1x512 .f32)
    (r : Fin 1024) :
    k0_pay5 (F := Ideal) x d u w b (ix1 r) = ∑ p, k0_pay4 (F := Ideal) x d u w b (ix2 r p) * k0_pay4 (F := Ideal) x d u w b (ix2 r p) := by
  unfold k0_pay5
  generalize k0_pay4 (F := Ideal) x d u w b = y
  pointwise

theorem pay1_apply (s : FVec Ideal S1024x512 .f32) (t : FVec Ideal S1024 .f32) (g : Vec Ideal S1x512 .f32) (r : Fin 1024) (k : Fin 512) :
    k0_pay1 (F := Ideal) s t g (ix2 r k) = s (ix2 r k) * Ideal.rsqrt (Ideal.div (t (ix1 r)) (Ideal.ofBits .f32 1140850688#32) + small) * g (ix2 0 k) := by
  unfold k0_pay1
  pointwise

theorem pay2_apply (s : FVec Ideal S1024x512 .f32) (t : FVec Ideal S1024 .f32) (g : Vec Ideal S1x512 .f32) (x : Vec Ideal S1024x1024 .f32) (a : Vec Ideal S1024x512 .bf16)
    (w v : Vec Ideal S512x1024 .bf16) (j : S1024x1024.Idx) :
    k0_pay2 (F := Ideal) s t g x a w v j
      = x j + ∑ k, a (ix2 (j 0) k) * w (ix2 k (j 1)) + ∑ k, k0_pay1 (F := Ideal) s t g (ix2 (j 0) k) * v (ix2 k (j 1)) := by
  unfold k0_pay2
  generalize k0_pay1 (F := Ideal) s t g = y
  pointwise

/-! ### The arguments and a point's blocks of them -/

variable (m : (ℓ : Loc nD τ sig) → Buf (Elt Ideal) ℓ)

abbrev cx (c : Dev nD) : FVec Ideal S8192x512 .f32 := m ((c : Thread nD τ).loc main_arg0)
abbrev pr (c : Dev nD) : FVec Ideal S8192x1536 .f32 := m ((c : Thread nD τ).loc main_arg1)
abbrev dd (c : Dev nD) : FVec Ideal S1x512 .f32 := m ((c : Thread nD τ).loc main_arg2)
abbrev gw (c : Dev nD) : FVec Ideal S512x512 .f32 := m ((c : Thread nD τ).loc main_arg3)
abbrev gb (c : Dev nD) : FVec Ideal S1x512 .f32 := m ((c : Thread nD τ).loc main_arg4)
abbrev og (c : Dev nD) : FVec Ideal S1x512 .f32 := m ((c : Thread nD τ).loc main_arg5)
abbrev xx (c : Dev nD) : FVec Ideal S8192x1024 .f32 := m ((c : Thread nD τ).loc main_arg6)
abbrev an (c : Dev nD) : FVec Ideal S8192x512 .bf16 := m ((c : Thread nD τ).loc main_arg7)
abbrev wo (c : Dev nD) : FVec Ideal S1024x1024 .f32 := m ((c : Thread nD τ).loc main_arg8)

abbrev cxTile (c : Dev nD) (t : Fin cfg0.N) : FVec Ideal S1024x512 .f32 := iblk m c 0 t
abbrev uTile (c : Dev nD) (t : Fin cfg0.N) : FVec Ideal S1024x512 .f32 := iblk m c 1 t
abbrev ddTile (c : Dev nD) (t : Fin cfg0.N) : FVec Ideal S1x512 .f32 := iblk m c 2 t
abbrev gwTile (c : Dev nD) (t : Fin cfg0.N) : FVec Ideal S512x512 .bf16 := iblk m c 3 t
abbrev gbTile (c : Dev nD) (t : Fin cfg0.N) : FVec Ideal S1x512 .f32 := iblk m c 4 t
abbrev ogTile (c : Dev nD) (t : Fin cfg0.N) : FVec Ideal S1x512 .f32 := iblk m c 5 t
abbrev xTile (c : Dev nD) (t : Fin cfg0.N) : FVec Ideal S1024x1024 .f32 := iblk m c 6 t
abbrev anTile (c : Dev nD) (t : Fin cfg0.N) : FVec Ideal S1024x512 .bf16 := iblk m c 7 t
abbrev woTile (c : Dev nD) (t : Fin cfg0.N) : FVec Ideal S1024x1024 .bf16 := iblk m c 8 t

theorem idx : ∀ t : Fin cfg0.N, win0_0.index t = ![t.val, 0] ∧ win0_1.index t = ![t.val, 2] ∧ win0_2.index t = ![0, 0] ∧ win0_3.index t = ![0, 0]
    ∧ win0_4.index t = ![0, 0] ∧ win0_5.index t = ![0, 0] ∧ win0_6.index t = ![t.val, 0] ∧ win0_7.index t = ![t.val, 0] ∧ win0_8.index t = ![0, 0]
    ∧ win0_9.index t = ![t.val, 0] ∧ win0_10.index t = ![t.val, 0] ∧ win0_11.index t = ![t.val, 0] :=
  (by decide +kernel : ∀ t : Fin grid0.N, _)

/-- The array's row that a point's tile has at `r`, and the column of `proj` that the tile has at `q`. -/
abbrev rowOf (t : Fin cfg0.N) (r : Fin 1024) : Fin 8192 := ⟨t.val * 1024 + r.val, by have := t.isLt; have e : cfg0.N = 8 := N_0; omega⟩
abbrev third (q : Fin 512) : Fin 1536 := ⟨1024 + q.val, by omega⟩

theorem rows0 (c : Dev nD) (t : Fin cfg0.N) (r : Fin 1024) (q : Fin 512) : cxTile m c t (ix2 r q) = cx m c (ix2 (rowOf t r) q) := by
  have e := (idx t).1
  refine Eq.trans ?_ (congrFun (V_main_arg0 m c) _)
  blk_ext [iblk, e]

theorem rows1 (c : Dev nD) (t : Fin cfg0.N) (r : Fin 1024) (q : Fin 512) : uTile m c t (ix2 r q) = pr m c (ix2 (rowOf t r) (third q)) := by
  have e := (idx t).2.1
  refine Eq.trans ?_ (congrFun (V_main_arg1 m c) _)
  blk_ext [iblk, e]

theorem rows2 (c : Dev nD) (t : Fin cfg0.N) (q : Fin 512) : ddTile m c t (ix2 0 q) = dd m c (ix2 0 q) := by
  have e := (idx t).2.2.1
  refine Eq.trans ?_ (congrFun (V_main_arg2 m c) _)
  blk_ext [iblk, e]

theorem rows4 (c : Dev nD) (t : Fin cfg0.N) (q : Fin 512) : gbTile m c t (ix2 0 q) = gb m c (ix2 0 q) := by
  have e := (idx t).2.2.2.2.1
  refine Eq.trans ?_ (congrFun (V_main_arg4 m c) _)
  blk_ext [iblk, e]

theorem rows5 (c : Dev nD) (t : Fin cfg0.N) (q : Fin 512) : ogTile m c t (ix2 0 q) = og m c (ix2 0 q) := by
  have e := (idx t).2.2.2.2.2.1
  refine Eq.trans ?_ (congrFun (V_main_arg5 m c) _)
  blk_ext [iblk, e]

theorem rows6 (c : Dev nD) (t : Fin cfg0.N) (r : Fin 1024) (q : Fin 1024) : xTile m c t (ix2 r q) = xx m c (ix2 (rowOf t r) q) := by
  have e := (idx t).2.2.2.2.2.2.1
  refine Eq.trans ?_ (congrFun (V_main_arg6 m c) _)
  blk_ext [iblk, e]

theorem rows7 (c : Dev nD) (t : Fin cfg0.N) (r : Fin 1024) (q : Fin 512) : anTile m c t (ix2 r q) = an m c (ix2 (rowOf t r) q) := by
  have e := (idx t).2.2.2.2.2.2.2.1
  refine Eq.trans ?_ (congrFun (V_main_arg7 m c) _)
  blk_ext [iblk, e]

/-- The two weights, rounded by the host before the call. -/
theorem host0 (c : Dev nD) : (V m c main_v0 : FVec Ideal S512x512 .bf16) = fun i => gw m c i := by
  unfold V
  after_results
  funext i
  pointwise

theorem host1 (c : Dev nD) : (V m c main_v1 : FVec Ideal S1024x1024 .bf16) = fun i => wo m c i := by
  unfold V
  after_results
  funext i
  pointwise

theorem rows3 (c : Dev nD) (t : Fin cfg0.N) (k : Fin 512) (q : Fin 512) : gwTile m c t (ix2 k q) = gw m c (ix2 k q) := by
  have e := (idx t).2.2.2.1
  refine Eq.trans ?_ (congrFun (host0 m c) (ix2 k q))
  blk_ext [iblk, e]

theorem rows8 (c : Dev nD) (t : Fin cfg0.N) (k : Fin 1024) (q : Fin 1024) : woTile m c t (ix2 k q) = wo m c (ix2 k q) := by
  have e := (idx t).2.2.2.2.2.2.2.2.1
  refine Eq.trans ?_ (congrFun (host1 m c) (ix2 k q))
  blk_ext [iblk, e]

/-! ### The results -/

/-- A token's row before the gate, and after the scaling. -/
def row (c : Dev nD) (l : Fin 8192) (q : Fin 512) : EReal := cx m c (ix2 l q) + dd m c (ix2 0 q) * pr m c (ix2 l (third q))
def scan (c : Dev nD) (l : Fin 8192) (q : Fin 512) : EReal :=
  normed (row m c l) (fun p q => gw m c (ix2 p q)) (fun q => gb m c (ix2 0 q)) (fun q => og m c (ix2 0 q)) q

/-- The rows of the weight that meet the first and the second mixer's columns. -/
abbrev upper (k : Fin 512) : Fin 1024 := ⟨k.val, by omega⟩
abbrev lower (k : Fin 512) : Fin 1024 := ⟨512 + k.val, by omega⟩

/-- The three arrays the call leaves. -/
def R9 (c : Dev nD) : FVec Ideal S8192x512 .f32 := fun i => row m c (i 0) (i 1)
def R10 (c : Dev nD) : FVec Ideal S8192x512 .bf16 := fun i => scan m c (i 0) (i 1)
def R11 (c : Dev nD) : FVec Ideal S8192x1024 .f32 := fun i =>
  xx m c i + ∑ k, an m c (ix2 (i 0) k) * wo m c (ix2 (upper k) (i 1)) + ∑ k, scan m c (i 0) k * wo m c (ix2 (lower k) (i 1))

theorem row_tile (c : Dev nD) (t : Fin cfg0.N) (r : Fin 1024) (q : Fin 512) :
    k0_pay3 (F := Ideal) (cxTile m c t) (ddTile m c t) (uTile m c t) (ix2 r q) = row m c (rowOf t r) q := by
  rw [pay3_apply, rows0, rows1, rows2]
  rfl

abbrev gatedTile (c : Dev nD) (t : Fin cfg0.N) : FVec Ideal S1024x512 .f32 :=
  k0_pay4 (F := Ideal) (cxTile m c t) (ddTile m c t) (uTile m c t) (gwTile m c t) (gbTile m c t)
abbrev squareTile (c : Dev nD) (t : Fin cfg0.N) : FVec Ideal S1024 .f32 :=
  k0_pay5 (F := Ideal) (cxTile m c t) (ddTile m c t) (uTile m c t) (gwTile m c t) (gbTile m c t)

theorem gated_tile (c : Dev nD) (t : Fin cfg0.N) (r : Fin 1024) (q : Fin 512) :
    gatedTile m c t (ix2 r q) = gated (row m c (rowOf t r)) (fun p q => gw m c (ix2 p q)) (fun q => gb m c (ix2 0 q)) q := by
  refine (pay4_apply _ _ _ _ _ r q).trans ?_
  rw [show (fun p => k0_pay3 (F := Ideal) (cxTile m c t) (ddTile m c t) (uTile m c t) (ix2 r p)) = row m c (rowOf t r) from funext fun p => row_tile m c t r p,
    show (fun p q => gwTile m c t (ix2 p q)) = fun p q => gw m c (ix2 p q) from funext fun p => funext fun q => rows3 m c t p q,
    show (fun q => gbTile m c t (ix2 0 q)) = fun q => gb m c (ix2 0 q) from funext fun q => rows4 m c t q]

theorem square_tile (c : Dev nD) (t : Fin cfg0.N) (r : Fin 1024) : squareTile m c t (ix1 r) = ∑ p, gatedTile m c t (ix2 r p) * gatedTile m c t (ix2 r p) :=
  pay5_apply _ _ _ _ _ r

theorem scan_tile (c : Dev nD) (t : Fin cfg0.N) (r : Fin 1024) (q : Fin 512) :
    k0_pay1 (F := Ideal) (gatedTile m c t) (squareTile m c t) (ogTile m c t) (ix2 r q) = scan m c (rowOf t r) q := by
  rw [pay1_apply, square_tile, rows5, gated_tile,
    Finset.sum_congr rfl fun p _ => congrArg₂ (fun u v : EReal => u * v) (gated_tile m c t r p) (gated_tile m c t r p)]
  rfl

/-- The two halves of the weight's tile, by rows. -/
abbrev upperTile (w : FVec Ideal S1024x1024 .bf16) : FVec Ideal S512x1024 .bf16 := View.ld (Val := Elt Ideal) (e' := .bf16) w r0_4
abbrev lowerTile (w : FVec Ideal S1024x1024 .bf16) : FVec Ideal S512x1024 .bf16 := View.ld (Val := Elt Ideal) (e' := .bf16) w r0_5

section Body

variable (x0 x1 : Vec Ideal S1024x512 .f32) (x2 : Vec Ideal S1x512 .f32) (x3 : Vec Ideal S512x512 .bf16) (x4 x5 : Vec Ideal S1x512 .f32)
  (x6 : Vec Ideal S1024x1024 .f32) (x7 : Vec Ideal S1024x512 .bf16) (x8 : Vec Ideal S1024x1024 .bf16)

theorem out9 : out0_9 (F := Ideal) x0 x1 x2 x3 x4 x5 x6 x7 x8 = k0_pay3 (F := Ideal) x0 x2 x1 := by
  unfold_out out0_9
  frame_out

theorem out10 : out0_10 (F := Ideal) x0 x1 x2 x3 x4 x5 x6 x7 x8
    = k0_pay1 (F := Ideal) (k0_pay4 (F := Ideal) x0 x2 x1 x3 x4) (k0_pay5 (F := Ideal) x0 x2 x1 x3 x4) x5 := by
  unfold_out out0_10
  frame_out

theorem out11 : out0_11 (F := Ideal) x0 x1 x2 x3 x4 x5 x6 x7 x8
    = k0_pay2 (F := Ideal) (k0_pay4 (F := Ideal) x0 x2 x1 x3 x4) (k0_pay5 (F := Ideal) x0 x2 x1 x3 x4) x5 x6 x7 (upperTile x8) (lowerTile x8) := by
  unfold_out out0_11
  frame_out

end Body

theorem ix_eq {a b : ℕ} (y : (⟨2, ![a, b]⟩ : Shape).Idx) : ∃ (r : Fin a) (q : Fin b), y = ix2 r q :=
  ⟨y 0, y 1, funext fun a => by match a with | ⟨0, _⟩ => rfl | ⟨1, _⟩ => rfl⟩

theorem upper_tile (c : Dev nD) (t : Fin cfg0.N) (k : Fin 512) (q : Fin 1024) :
    upperTile (woTile m c t) (ix2 k q) = wo m c (ix2 (upper k) q) := by
  refine (Stacked.ld_rows (N := 1024) (k := 512) (n := 1024) (e := .bf16) (woTile m c t) (ix2 k q) (by show 0 + k.val < 1024; omega)).trans ?_
  refine (rows8 m c t _ q).trans (congrArg (fun a => wo m c (ix2 a q)) (Fin.ext (Nat.zero_add _)))

theorem lower_tile (c : Dev nD) (t : Fin cfg0.N) (k : Fin 512) (q : Fin 1024) :
    lowerTile (woTile m c t) (ix2 k q) = wo m c (ix2 (lower k) q) := by
  refine (Stacked.ld_rows (N := 1024) (k := 512) (n := 1024) (e := .bf16) (woTile m c t) (ix2 k q) (by show 512 + k.val < 1024; omega)).trans ?_
  exact rows8 m c t _ q

theorem out_tile (c : Dev nD) (t : Fin cfg0.N) (r : Fin 1024) (q : Fin 1024) :
    k0_pay2 (F := Ideal) (gatedTile m c t) (squareTile m c t) (ogTile m c t) (xTile m c t) (anTile m c t) (upperTile (woTile m c t)) (lowerTile (woTile m c t)) (ix2 r q)
      = R11 m c (ix2 (rowOf t r) q) := by
  refine (pay2_apply _ _ _ _ _ _ _ _).trans ?_
  exact congrArg₂ (fun u v : EReal => u + v) (congrArg₂ (fun u v : EReal => u + v) (rows6 m c t r q)
      (Finset.sum_congr rfl fun k _ => congrArg₂ (fun u v : EReal => u * v) (rows7 m c t r k) (upper_tile m c t k q)))
    (Finset.sum_congr rfl fun k _ => congrArg₂ (fun u v : EReal => u * v) (scan_tile m c t r k) (lower_tile m c t k q))

/-! ### The arrays after the call -/

theorem final9 (c : Dev nD) : (dats m 0 c).arrAt 9 cfg0.N = R9 m c := by
  refine (dats m 0 c).arrAt_eq_of_covers 9 _ (by decide +kernel) fun t _ y => ?_
  have e := (idx t).2.2.2.2.2.2.2.2.2.1
  have key : ((cfg0.win 9).blk t).view.emb y = ix2 (rowOf t (y 0)) (y 1) := funext fun a => Fin.ext (by
    match a with
    | ⟨0, _⟩ => blk_simp [e]; rfl
    | ⟨1, _⟩ => blk_simp [e]; rfl)
  rw [key]
  blk_simp
  rw [after0_9]
  obtain ⟨r, q, rfl⟩ := ix_eq y
  exact (congrFun (out9 _ _ _ _ _ _ _ _ _) _).trans (row_tile m c t r q)

theorem final10 (c : Dev nD) : (dats m 0 c).arrAt 10 cfg0.N = R10 m c := by
  refine (dats m 0 c).arrAt_eq_of_covers 10 _ (by decide +kernel) fun t _ y => ?_
  have e := (idx t).2.2.2.2.2.2.2.2.2.2.1
  have key : ((cfg0.win 10).blk t).view.emb y = ix2 (rowOf t (y 0)) (y 1) := funext fun a => Fin.ext (by
    match a with
    | ⟨0, _⟩ => blk_simp [e]; rfl
    | ⟨1, _⟩ => blk_simp [e]; rfl)
  rw [key]
  blk_simp
  rw [after0_10]
  obtain ⟨r, q, rfl⟩ := ix_eq y
  exact (congrFun (out10 _ _ _ _ _ _ _ _ _) _).trans (scan_tile m c t r q)

theorem final11 (c : Dev nD) : (dats m 0 c).arrAt 11 cfg0.N = R11 m c := by
  refine (dats m 0 c).arrAt_eq_of_covers 11 _ (by decide +kernel) fun t _ y => ?_
  have e := (idx t).2.2.2.2.2.2.2.2.2.2.2
  have key : ((cfg0.win 11).blk t).view.emb y = ix2 (rowOf t (y 0)) (y 1) := funext fun a => Fin.ext (by
    match a with
    | ⟨0, _⟩ => blk_simp [e]; rfl
    | ⟨1, _⟩ => blk_simp [e]; rfl)
  rw [key]
  blk_simp
  rw [after0_11]
  obtain ⟨r, q, rfl⟩ := ix_eq y
  exact (congrFun (out11 _ _ _ _ _ _ _ _ _) _).trans (out_tile m c t r q)

/-! ### The reference's arrays -/

section Reference
open Cert.MixOutRefIdeal.Read

variable (x0 : FVec Ideal S8192x512 .f32) (x1 : FVec Ideal S8192x1536 .f32) (x2 : FVec Ideal S1x512 .f32) (x3 : FVec Ideal S512x512 .f32) (x4 x5 : FVec Ideal S1x512 .f32)

theorem ref_row (l : Fin 8192) (q : Fin 512) : val_main_v3 (F := Ideal) x0 x1 x2 (ix2 l q) = x0 (ix2 l q) + x2 (ix2 0 q) * x1 (ix2 l (third q)) := by
  unfold val_main_v3 val_main_v2 val_main_v1 val_main_v0
  pointwise

theorem ref_gelu (i : S8192x512.Idx) : val_main_v16 (F := Ideal) x0 x1 x2 i = gelu (val_main_v3 (F := Ideal) x0 x1 x2 i) := by
  unfold val_main_v16 val_main_v15 val_main_v14 val_main_v13 val_main_v12 val_main_v11 val_main_v10 val_main_v9 val_main_v8 val_main_v7 val_main_v6
    val_main_v5 val_main_v4 val_main_cst val_main_cst_0 val_main_cst_1 val_main_cst_2 gelu
  generalize val_main_v3 (F := Ideal) x0 x1 x2 = y
  pointwise
  generalize y i = z
  rw [mul_left_comm, mul_assoc, mul_assoc, mul_assoc, mul_assoc]

theorem ref_gated (l : Fin 8192) (q : Fin 512) : val_main_v26 (F := Ideal) x0 x1 x2 x3 x4 (ix2 l q)
    = gated (fun p => val_main_v3 (F := Ideal) x0 x1 x2 (ix2 l p)) (fun p q => x3 (ix2 p q)) (fun q => x4 (ix2 0 q)) q := by
  have h : (fun i => val_main_v16 (F := Ideal) x0 x1 x2 i) = fun i => gelu (val_main_v3 (F := Ideal) x0 x1 x2 i) := funext fun i => ref_gelu x0 x1 x2 i
  unfold val_main_v26 val_main_v25 val_main_v24 val_main_v23 val_main_v22 val_main_v21 val_main_v20 val_main_v19 val_main_v18 val_main_v17
    val_main_cst_3 val_main_cst_4 gated
  rw [show val_main_v16 (F := Ideal) x0 x1 x2 = _ from h]
  pointwise
  rw [← sig_act]
  rfl

theorem ref_scan (l : Fin 8192) (q : Fin 512) : val_main_v38 (F := Ideal) x0 x1 x2 x3 x4 x5 (ix2 l q)
    = normed (fun p => val_main_v3 (F := Ideal) x0 x1 x2 (ix2 l p)) (fun p q => x3 (ix2 p q)) (fun q => x4 (ix2 0 q)) (fun q => x5 (ix2 0 q)) q := by
  have h := fun q => ref_gated x0 x1 x2 x3 x4 l q
  unfold val_main_v38 val_main_v37 val_main_v36 val_main_v35 val_main_v34 val_main_v33 val_main_v32 val_main_v31 val_main_v30 val_main_v29 val_main_v28
    val_main_v27 val_main_cst_5 val_main_cst_6 val_main_cst_7 normed factor
  simp only [← h]
  generalize val_main_v26 (F := Ideal) x0 x1 x2 x3 x4 = y
  pointwise

end Reference

open Cert.MixOutRefIdeal.Read in
theorem ref3 (c : Dev nD) : val_main_v3 (F := Ideal) (cx m c) (pr m c) (dd m c) = R9 m c := by
  funext i
  obtain ⟨l, q, rfl⟩ := ix_eq i
  exact ref_row _ _ _ l q

open Cert.MixOutRefIdeal.Read in
theorem ref38 (c : Dev nD) (l : Fin 8192) (q : Fin 512) :
    val_main_v38 (F := Ideal) (cx m c) (pr m c) (dd m c) (gw m c) (gb m c) (og m c) (ix2 l q) = scan m c l q := by
  rw [ref_scan, show (fun p => val_main_v3 (F := Ideal) (cx m c) (pr m c) (dd m c) (ix2 l p)) = row m c l from funext fun p => ref_row _ _ _ l p]
  rfl

open Cert.MixOutRefIdeal.Read in
theorem ref41 (c : Dev nD) : val_main_v41 (F := Ideal) (cx m c) (pr m c) (dd m c) (gw m c) (gb m c) (og m c) = R10 m c := by
  funext i
  obtain ⟨l, q, rfl⟩ := ix_eq i
  exact ref38 m c l q

open Cert.MixOutRefIdeal.Read in
theorem ref43 (c : Dev nD) :
    val_main_v43 (F := Ideal) (cx m c) (pr m c) (dd m c) (gw m c) (gb m c) (og m c) (xx m c) (an m c) (wo m c) = R11 m c := by
  funext i
  obtain ⟨l, q, rfl⟩ := ix_eq i
  have h := fun k => ref38 m c l k
  unfold val_main_v43 val_main_v42 val_main_v40 val_main_v39 R11
  generalize val_main_v38 (F := Ideal) (cx m c) (pr m c) (dd m c) (gw m c) (gb m c) (og m c) = s at h ⊢
  pointwise
  rw [add_assoc]
  simp only [h]

end Cert.MixOutIdeal.Value

end
-- ==== Proof.InnerSum.lean ====
/-
  The kernel's inner gradient: sixteen grid points write the gradient of their 512 rows, and add up what the rows say of
  the gain.
-/
module

public import proofs.«01_k».proof.Proof.Gen.InnerIdeal.Value
public import proofs.«01_k».proof.Proof.RowGrad
public import Idealize.ShloMosaic.Lib.KernelVsHost
public import Idealize.ShloMosaic.Lib.Pipeline.ValueKit
public import Idealize.ShloMosaic.Lib.Pointwise

@[expose] public section

noncomputable section

namespace Cert.InnerIdeal.Value

open Idealize.ShloMosaic Idealize.ShloMosaic.TcCoe Cert.InnerIdeal Cert.InnerIdeal.Gen Cert.RowGrad

/-! ### A point's payloads at an entry -/

theorem pay3_apply (j : S1x1024.Idx) : k0_pay3 (F := Ideal) j = 0 := by
  unfold k0_pay3
  pointwise

theorem pay4_apply (a : Vec Ideal S512x2816 .bf16) (w : Vec Ideal S2816x1024 .bf16) (b : Vec Ideal S512x2816 .bf16) (v : Vec Ideal S2816x1024 .bf16) (j : S512x1024.Idx) :
    k0_pay4 (F := Ideal) a w b v j = ∑ k, a (ix2 (j 0) k) * w (ix2 k (j 1)) + ∑ k, b (ix2 (j 0) k) * v (ix2 k (j 1)) := by
  unfold k0_pay4
  pointwise

theorem pay5_apply (x : Vec Ideal S512x1024 .f32) (r : Fin 512) (z : Fin 1) : k0_pay5 (F := Ideal) x (ix2 r z) = scale fun p => x (ix2 r p) := by
  unfold k0_pay5 scale under
  pointwise

theorem pay6_apply (x : Vec Ideal S512x1024 .f32) (r : Fin 512) (q : Fin 1024) :
    k0_pay6 (F := Ideal) x (ix2 r q) = x (ix2 r q) * scale fun p => x (ix2 r p) := by
  unfold k0_pay6
  pointwise
  rw [pay5_apply]

theorem pay7_apply (a : Vec Ideal S512x2816 .bf16) (w : Vec Ideal S2816x1024 .bf16) (b : Vec Ideal S512x2816 .bf16) (v : Vec Ideal S2816x1024 .bf16)
    (x : Vec Ideal S512x1024 .f32) (g : Vec Ideal S1x1024 .f32) (r : Fin 512) (q : Fin 1024) :
    k0_pay7 (F := Ideal) a w b v x g (ix2 r q)
      = back (fun p => k0_pay4 (F := Ideal) a w b v (ix2 r p)) (fun p => x (ix2 r p)) (fun p => g (ix2 0 p)) q := by
  unfold k0_pay7 back
  pointwise
  simp only [pay5_apply, pay6_apply]

theorem pay8_apply (a : Vec Ideal S512x2816 .bf16) (w : Vec Ideal S2816x1024 .bf16) (b : Vec Ideal S512x2816 .bf16) (v : Vec Ideal S2816x1024 .bf16)
    (x : Vec Ideal S512x1024 .f32) (r : Fin 512) (q : Fin 1024) :
    k0_pay8 (F := Ideal) a w b v x (ix2 r q) = gain (fun p => k0_pay4 (F := Ideal) a w b v (ix2 r p)) (fun p => x (ix2 r p)) q := by
  unfold k0_pay8 gain
  pointwise
  rw [pay6_apply]

theorem pay1_apply (d y : Vec Ideal S512x1024 .f32) (j : S512x1024.Idx) : k0_pay1 (F := Ideal) d y j = (y j : EReal) + d j := by
  unfold k0_pay1
  pointwise

theorem pay2_apply (x : Vec Ideal S512x1024 .f32) (acc : Vec Ideal S1x1024 .f32) (j : S1x1024.Idx) :
    k0_pay2 (F := Ideal) x acc j = acc j + ∑ k, x (ix2 k (j 1)) := by
  unfold k0_pay2
  pointwise

/-! ### The arguments and a point's blocks of them -/

variable (m : (ℓ : Loc nD τ sig) → Buf (Elt Ideal) ℓ)

abbrev dxo (c : Dev nD) : FVec Ideal S8192x1024 .f32 := m ((c : Thread nD τ).loc main_arg0)
abbrev da (c : Dev nD) : FVec Ideal S8192x2816 .bf16 := m ((c : Thread nD τ).loc main_arg1)
abbrev db (c : Dev nD) : FVec Ideal S8192x2816 .bf16 := m ((c : Thread nD τ).loc main_arg2)
abbrev xx (c : Dev nD) : FVec Ideal S8192x1024 .f32 := m ((c : Thread nD τ).loc main_arg3)
abbrev gg (c : Dev nD) : FVec Ideal S1x1024 .f32 := m ((c : Thread nD τ).loc main_arg4)
abbrev w1 (c : Dev nD) : FVec Ideal S1024x2816 .f32 := m ((c : Thread nD τ).loc main_arg5)
abbrev w3 (c : Dev nD) : FVec Ideal S1024x2816 .f32 := m ((c : Thread nD τ).loc main_arg6)

abbrev daTile (c : Dev nD) (t : Fin cfg0.N) : FVec Ideal S512x2816 .bf16 := iblk m c 0 t
abbrev dbTile (c : Dev nD) (t : Fin cfg0.N) : FVec Ideal S512x2816 .bf16 := iblk m c 1 t
abbrev w1Tile (c : Dev nD) (t : Fin cfg0.N) : FVec Ideal S2816x1024 .bf16 := iblk m c 2 t
abbrev w3Tile (c : Dev nD) (t : Fin cfg0.N) : FVec Ideal S2816x1024 .bf16 := iblk m c 3 t
abbrev dxoTile (c : Dev nD) (t : Fin cfg0.N) : FVec Ideal S512x1024 .f32 := iblk m c 4 t
abbrev xTile (c : Dev nD) (t : Fin cfg0.N) : FVec Ideal S512x1024 .f32 := iblk m c 5 t
abbrev gTile (c : Dev nD) (t : Fin cfg0.N) : FVec Ideal S1x1024 .f32 := iblk m c 6 t

theorem idx : ∀ t : Fin cfg0.N, win0_0.index t = ![t.val, 0] ∧ win0_1.index t = ![t.val, 0] ∧ win0_2.index t = ![0, 0] ∧ win0_3.index t = ![0, 0]
    ∧ win0_4.index t = ![t.val, 0] ∧ win0_5.index t = ![t.val, 0] ∧ win0_6.index t = ![0, 0] ∧ win0_7.index t = ![t.val, 0] ∧ win0_8.index t = ![0, 0] :=
  (by decide +kernel : ∀ t : Fin grid0.N, _)

/-- The array's row that a point's tile has at `r`. -/
abbrev rowOf (t : Fin cfg0.N) (r : Fin 512) : Fin 8192 := ⟨t.val * 512 + r.val, by have := t.isLt; have e : cfg0.N = 16 := N_0; omega⟩

theorem rows0 (c : Dev nD) (t : Fin cfg0.N) (r : Fin 512) (q : Fin 2816) : daTile m c t (ix2 r q) = da m c (ix2 (rowOf t r) q) := by
  have e := (idx t).1
  refine Eq.trans ?_ (congrFun (V_main_arg1 m c) _)
  blk_ext [iblk, e]

theorem rows1 (c : Dev nD) (t : Fin cfg0.N) (r : Fin 512) (q : Fin 2816) : dbTile m c t (ix2 r q) = db m c (ix2 (rowOf t r) q) := by
  have e := (idx t).2.1
  refine Eq.trans ?_ (congrFun (V_main_arg2 m c) _)
  blk_ext [iblk, e]

theorem rows4 (c : Dev nD) (t : Fin cfg0.N) (r : Fin 512) (q : Fin 1024) : dxoTile m c t (ix2 r q) = dxo m c (ix2 (rowOf t r) q) := by
  have e := (idx t).2.2.2.2.1
  refine Eq.trans ?_ (congrFun (V_main_arg0 m c) _)
  blk_ext [iblk, e]

theorem rows5 (c : Dev nD) (t : Fin cfg0.N) (r : Fin 512) (q : Fin 1024) : xTile m c t (ix2 r q) = xx m c (ix2 (rowOf t r) q) := by
  have e := (idx t).2.2.2.2.2.1
  refine Eq.trans ?_ (congrFun (V_main_arg3 m c) _)
  blk_ext [iblk, e]

theorem rows6 (c : Dev nD) (t : Fin cfg0.N) (q : Fin 1024) : gTile m c t (ix2 0 q) = gg m c (ix2 0 q) := by
  have e := (idx t).2.2.2.2.2.2.1
  refine Eq.trans ?_ (congrFun (V_main_arg4 m c) _)
  blk_ext [iblk, e]

/-- The weights, transposed and rounded by the host before the call. -/
theorem host1 (c : Dev nD) : (V m c main_v1 : FVec Ideal S2816x1024 .bf16) = fun i => w1 m c (ix2 (i 1) (i 0)) := by
  unfold V
  after_results
  funext i
  pointwise

theorem host3 (c : Dev nD) : (V m c main_v3 : FVec Ideal S2816x1024 .bf16) = fun i => w3 m c (ix2 (i 1) (i 0)) := by
  unfold V
  after_results
  funext i
  pointwise

theorem rows2 (c : Dev nD) (t : Fin cfg0.N) (k : Fin 2816) (q : Fin 1024) : w1Tile m c t (ix2 k q) = w1 m c (ix2 q k) := by
  have e := (idx t).2.2.1
  refine Eq.trans ?_ (congrFun (host1 m c) (ix2 k q))
  blk_ext [iblk, e]

theorem rows3 (c : Dev nD) (t : Fin cfg0.N) (k : Fin 2816) (q : Fin 1024) : w3Tile m c t (ix2 k q) = w3 m c (ix2 q k) := by
  have e := (idx t).2.2.2.1
  refine Eq.trans ?_ (congrFun (host3 m c) (ix2 k q))
  blk_ext [iblk, e]

/-! ### The results -/

/-- The gradient that reaches the scaled row, and the row. -/
def dh (c : Dev nD) (l : Fin 8192) (q : Fin 1024) : EReal :=
  ∑ k, da m c (ix2 l k) * w1 m c (ix2 q k) + ∑ k, db m c (ix2 l k) * w3 m c (ix2 q k)

def row (c : Dev nD) (l : Fin 8192) (q : Fin 1024) : EReal := xx m c (ix2 l q)

/-- The two arrays the call leaves. -/
def R7 (c : Dev nD) : FVec Ideal S8192x1024 .f32 := fun i =>
  dxo m c i + back (dh m c (i 0)) (row m c (i 0)) (fun p => gg m c (ix2 0 p)) (i 1)

def R8 (c : Dev nD) : FVec Ideal S1x1024 .f32 := fun i => ∑ l : Fin 8192, gain (dh m c l) (row m c l) (i 1)

theorem dh_tile (c : Dev nD) (t : Fin cfg0.N) (r : Fin 512) :
    (fun p => k0_pay4 (F := Ideal) (daTile m c t) (w1Tile m c t) (dbTile m c t) (w3Tile m c t) (ix2 r p)) = dh m c (rowOf t r) := by
  funext p
  rw [pay4_apply]
  exact congrArg₂ (fun x y : EReal => x + y)
    (Finset.sum_congr rfl fun k _ => congrArg₂ (fun x y : EReal => x * y) (rows0 m c t r k) (rows2 m c t k p))
    (Finset.sum_congr rfl fun k _ => congrArg₂ (fun x y : EReal => x * y) (rows1 m c t r k) (rows3 m c t k p))

theorem row_tile (c : Dev nD) (t : Fin cfg0.N) (r : Fin 512) : (fun p => xTile m c t (ix2 r p)) = row m c (rowOf t r) :=
  funext fun p => rows5 m c t r p

theorem back_tile (c : Dev nD) (t : Fin cfg0.N) (y : S512x1024.Idx) :
    k0_pay1 (F := Ideal) (k0_pay7 (F := Ideal) (daTile m c t) (w1Tile m c t) (dbTile m c t) (w3Tile m c t) (xTile m c t) (gTile m c t)) (dxoTile m c t) y
      = R7 m c (ix2 (rowOf t (y 0)) (y 1)) := by
  obtain ⟨r, q, rfl⟩ : ∃ (r : Fin 512) (q : Fin 1024), y = ix2 r q := ⟨y 0, y 1, funext fun a => by match a with | ⟨0, _⟩ => rfl | ⟨1, _⟩ => rfl⟩
  rw [pay1_apply, pay7_apply, dh_tile, row_tile, rows4, show (fun p => gTile m c t (ix2 0 p)) = fun p => gg m c (ix2 0 p) from funext fun p => rows6 m c t p]
  rfl

/-- What a point adds to the gain's gradient. -/
def part (c : Dev nD) (n : ℕ) (q : Fin 1024) : EReal :=
  if h : n < cfg0.N then ∑ r : Fin 512, gain (dh m c (rowOf ⟨n, h⟩ r)) (row m c (rowOf ⟨n, h⟩ r)) q else 0

theorem gain_tile (c : Dev nD) (t : Fin cfg0.N) (acc : Vec Ideal S1x1024 .f32) (j : S1x1024.Idx) :
    k0_pay2 (F := Ideal) (k0_pay8 (F := Ideal) (daTile m c t) (w1Tile m c t) (dbTile m c t) (w3Tile m c t) (xTile m c t)) acc j
      = acc j + part m c t.val (j 1) := by
  rw [pay2_apply]
  unfold part
  rw [dif_pos t.isLt]
  refine congrArg (fun s : EReal => acc j + s) (Finset.sum_congr rfl fun r _ => ?_)
  refine (pay8_apply _ _ _ _ _ r (j 1)).trans ?_
  rw [dh_tile, row_tile]

/-- What a point leaves in its block of the first array. -/
theorem point7 (c : Dev nD) (t : Fin cfg0.N) (y : S512x1024.Idx) :
    ((outsAt0 m c t.val t.isLt).1 y : EReal) = R7 m c (ix2 (rowOf t (y 0)) (y 1)) := by
  refine Eq.trans ?_ (back_tile m c t y)
  by_cases h : t.val % 16 = 0
  · rw [outsAt0_A m c t h]
    frame_out
  · rw [outsAt0_B m c t h]
    frame_out

theorem first8 (c : Dev nD) (t : Fin cfg0.N) (h : t.val % 16 = 0) (j : S1x1024.Idx) :
    ((outsAt0 m c t.val t.isLt).2 j : EReal) = part m c t.val (j 1) := by
  refine Eq.trans ?_ ((gain_tile m c t (k0_pay3 (F := Ideal)) j).trans ?_)
  · rw [outsAt0_A m c t h]
    frame_out
  · rw [pay3_apply]
    exact zero_add _

theorem later8 (c : Dev nD) (t : Fin cfg0.N) (h : ¬t.val % 16 = 0) (j : S1x1024.Idx) :
    ((outsAt0 m c t.val t.isLt).2 j : EReal) = (outsAt0 m c (t.val - 1) (lt_of_le_of_lt (Nat.sub_le _ _) t.isLt)).2 j + part m c t.val (j 1) := by
  refine Eq.trans ?_ (gain_tile m c t _ j)
  rw [outsAt0_B m c t h]
  frame_out

/-- The second array's block after a point: the parts so far. -/
theorem sofar8 (c : Dev nD) (j : S1x1024.Idx) : ∀ (n : ℕ) (h : n < cfg0.N),
    ((outsAt0 m c n h).2 j : EReal) = ∑ s ∈ Finset.range (n + 1), part m c s (j 1)
  | 0, h => (first8 m c ⟨0, h⟩ rfl j).trans (by rw [Finset.sum_range_one])
  | n + 1, h => by
    have e : cfg0.N = 16 := N_0
    rw [Finset.sum_range_succ, ← sofar8 c j n (Nat.lt_of_succ_lt h)]
    exact later8 m c ⟨n + 1, h⟩ (by show ¬(n + 1) % 16 = 0; omega) j

theorem parts (c : Dev nD) (q : Fin 1024) : ∑ s ∈ Finset.range (15 + 1), part m c s q = ∑ l : Fin 8192, gain (dh m c l) (row m c l) q := by
  rw [Finset.sum_range]
  refine Eq.trans (Finset.sum_congr rfl fun s _ => ?_) (Fin.sum_mul_add_congr (S := 16) (n := 512)
    (F := fun s r => gain (dh m c (rowOf ⟨s.val, s.isLt⟩ r)) (row m c (rowOf ⟨s.val, s.isLt⟩ r)) q) fun s r hl => rfl)
  exact dif_pos (show s.val < cfg0.N from s.isLt)

/-! ### The arrays after the call -/

theorem final7 (c : Dev nD) : (dats m 0 c).arrAt 7 cfg0.N = R7 m c := by
  refine (dats m 0 c).arrAt_eq_of_covers 7 _ (by decide +kernel) fun t _ y => ?_
  have e := (idx t).2.2.2.2.2.2.2.1
  have key : ((cfg0.win 7).blk t).view.emb y = ix2 (rowOf t (y 0)) (y 1) := funext fun a => Fin.ext (by
    match a with
    | ⟨0, _⟩ => blk_simp [e]; rfl
    | ⟨1, _⟩ => blk_simp [e]; rfl)
  rw [key]
  blk_simp
  rw [after0_7]
  exact point7 m c t y

theorem final8 (c : Dev nD) : (dats m 0 c).arrAt 8 cfg0.N = R8 m c := by
  refine (dats m 0 c).arrAt_eq_of_covers 8 _ (by decide +kernel) fun t hf y => ?_
  have ht := (flush0_8 t).mp hf
  have e := (idx t).2.2.2.2.2.2.2.2
  have e1 : (((cfg0.win 8).blk t).view.emb y) 1 = y 1 := Fin.ext (by blk_simp [e])
  have key : R8 m c (((cfg0.win 8).blk t).view.emb y) = ∑ l : Fin 8192, gain (dh m c l) (row m c l) (y 1) := by
    unfold R8
    rw [e1]
  refine Eq.trans ?_ key.symm
  blk_simp
  rw [after0_8]
  refine (sofar8 m c y t.val t.isLt).trans ?_
  have hN : cfg0.N = 16 := N_0
  rw [show t.val = 15 by omega]
  exact parts m c (y 1)

end Cert.InnerIdeal.Value

end
-- ==== Proof.InnerRef.lean ====
/-
  The reference's inner gradient at an entry, and its agreement with the kernel's where the arguments are finite.
-/
module

public import proofs.«01_k».proof.Proof.Gen.InnerRefIdeal.Read
public import proofs.«01_k».proof.Proof.RowGrad
public import Idealize.ShloMosaic.Lib.KernelVsHost
public import Idealize.ShloMosaic.Lib.Pointwise

@[expose] public section

noncomputable section

namespace Cert.InnerRefIdeal.Read

open Idealize.ShloMosaic Idealize.ShloMosaic.TcCoe Cert.InnerRefIdeal Cert.InnerRefIdeal.Gen Cert.RowGrad

theorem v6_at (x : FVec Ideal S8192x1024 .f32) (l : Fin 8192) (z : Fin 1) :
    val_main_v6 (F := Ideal) x (ix2 l z) = under fun p => x (ix2 l p) := by
  unfold val_main_v6 val_main_v5 val_main_v4 val_main_v3 val_main_v2 val_main_v1 val_main_v0 val_main_cst val_main_cst_0 val_main_cst_1 under
  pointwise

theorem v21_at (a b : FVec Ideal S8192x2816 .bf16) (w v : FVec Ideal S1024x2816 .f32) (l : Fin 8192) (q : Fin 1024) :
    val_main_v21 (F := Ideal) a b w v (ix2 l q) = ∑ k, a (ix2 l k) * w (ix2 q k) + ∑ k, b (ix2 l k) * v (ix2 q k) := by
  unfold val_main_v21 val_main_v20 val_main_v19 val_main_v18 val_main_v17
  pointwise
  exact add_comm _ _

theorem v24_at (a b : FVec Ideal S8192x2816 .bf16) (x : FVec Ideal S8192x1024 .f32) (w v : FVec Ideal S1024x2816 .f32) (i : S1x1024.Idx) :
    val_main_v24 (F := Ideal) a b x w v i
      = ∑ l : Fin 8192, gain (fun q => ∑ k, a (ix2 l k) * w (ix2 q k) + ∑ k, b (ix2 l k) * v (ix2 q k)) (fun q => x (ix2 l q)) (i 1) := by
  unfold val_main_v24 val_main_v23 val_main_v22 val_main_v12 val_main_v11 val_main_v7 val_main_cst_3
  pointwise
  refine Finset.sum_congr rfl fun l _ => ?_
  rw [v6_at]
  refine (congrArg (fun z : EReal => x (ix2 l (i 1)) * Ideal.rsqrt (under fun p => x (ix2 l p)) * z) (v21_at a b w v l (i 1))).trans ?_
  exact mul_comm _ _

theorem v41_at (d : FVec Ideal S8192x1024 .f32) (a b : FVec Ideal S8192x2816 .bf16) (x : FVec Ideal S8192x1024 .f32) (g : FVec Ideal S1x1024 .f32)
    (w v : FVec Ideal S1024x2816 .f32) (l : Fin 8192) (q : Fin 1024) :
    val_main_v41 (F := Ideal) d a b x g w v (ix2 l q)
      = forth (d (ix2 l q)) (fun q => ∑ k, a (ix2 l k) * w (ix2 q k) + ∑ k, b (ix2 l k) * v (ix2 q k)) (fun q => x (ix2 l q)) (fun q => g (ix2 0 q)) q := by
  unfold val_main_v41 val_main_v40 val_main_v39 val_main_v38 val_main_v37 val_main_v36 val_main_v35 val_main_v34 val_main_v33 val_main_v32 val_main_v31 val_main_v30
    val_main_v29 val_main_v28 val_main_v27 val_main_v26 val_main_v25 val_main_v10 val_main_v9 val_main_v8 val_main_v7 val_main_cst_6 val_main_cst_5 val_main_cst_4 val_main_cst_2
  pointwise
  simp only [v6_at, v21_at]
  rfl

/-- Where every argument is finite, the reference's rows are the factored form's. -/
theorem v41_eq {d : FVec Ideal S8192x1024 .f32} {a b : FVec Ideal S8192x2816 .bf16} {x : FVec Ideal S8192x1024 .f32} {g : FVec Ideal S1x1024 .f32}
    {w v : FVec Ideal S1024x2816 .f32} (hd : ∀ i, IsReal (d i)) (ha : ∀ i, IsReal (a i)) (hb : ∀ i, IsReal (b i)) (hx : ∀ i, IsReal (x i))
    (hg : ∀ i, IsReal (g i)) (hw : ∀ i, IsReal (w i)) (hv : ∀ i, IsReal (v i)) (l : Fin 8192) (q : Fin 1024) :
    val_main_v41 (F := Ideal) d a b x g w v (ix2 l q) = (d (ix2 l q) : EReal)
      + back (fun q => ∑ k, a (ix2 l k) * w (ix2 q k) + ∑ k, b (ix2 l k) * v (ix2 q k)) (fun q => x (ix2 l q)) (fun q => g (ix2 0 q)) q :=
  (v41_at d a b x g w v l q).trans (forth_eq (hd _)
    (fun p => (IsReal.sum fun k => (ha _).mul (hw _)).add (IsReal.sum fun k => (hb _).mul (hv _))) (fun p => hx _) (fun p => hg _) q)

end Cert.InnerRefIdeal.Read

end
-- ==== Proof.InnerArgs.lean ====
/-
  The inner gradient's precondition read back: every entry of every argument is a real number; and with it the two
  arrays are the reference's.
-/
module

public import proofs.«01_k».proof.Proof.InnerSum
public import proofs.«01_k».proof.Proof.InnerRef
public import proofs.«01_k».proof.Proof.ConvReal
public import proofs.«01_k».proof.Pre_finite3

@[expose] public section

noncomputable section

namespace Cert.Inner3

open Idealize.ShloMosaic Cert.RowGrad Cert.ConvBwd

theorem pre_facts : Cert.Pre_finite3.Facts where
  bcast_S_S8192x1024 := by decide
  reducesTo_S8192x1024_S_d0_1 := by decide
  h_S_ := by decide
  bitsLt_bf16_f32 := by decide
  bcast_S_S8192x2816 := by decide
  reducesTo_S8192x2816_S_d0_1 := by decide
  bcast_S_S1x1024 := by decide
  reducesTo_S1x1024_S_d0_1 := by decide
  bcast_S_S1024x2816 := by decide
  reducesTo_S1024x2816_S_d0_1 := by decide

variable {d : FVec Ideal ⟨2, ![8192, 1024]⟩ .f32} {a b : FVec Ideal ⟨2, ![8192, 2816]⟩ .bf16} {x : FVec Ideal ⟨2, ![8192, 1024]⟩ .f32}
  {g : FVec Ideal ⟨2, ![1, 1024]⟩ .f32} {w v : FVec Ideal ⟨2, ![1024, 2816]⟩ .f32}

theorem real_args [Cert.Pre_finite3.Facts] (h : Cert.Pre_finite3.fn (F := Ideal) d a b x g w v = fun _ => 1#1) :
    (∀ i, IsReal (d i)) ∧ (∀ i, IsReal (a i)) ∧ (∀ i, IsReal (b i)) ∧ (∀ i, IsReal (x i)) ∧ (∀ i, IsReal (g i)) ∧ (∀ i, IsReal (w i)) ∧ ∀ i, IsReal (v i) := by
  have e := congrFun h (fun a => a.elim0)
  obtain ⟨e, h6⟩ := IntOp.andi_eq_one.mp e
  obtain ⟨e, h5⟩ := IntOp.andi_eq_one.mp e
  obtain ⟨e, h4⟩ := IntOp.andi_eq_one.mp e
  obtain ⟨e, h3⟩ := IntOp.andi_eq_one.mp e
  obtain ⟨e, h2⟩ := IntOp.andi_eq_one.mp e
  obtain ⟨h0, h1⟩ := IntOp.andi_eq_one.mp e
  exact ⟨fun i => ⟨_, real_of_all h0 i⟩, fun i => ⟨_, real_of_all h1 i⟩, fun i => ⟨_, real_of_all h2 i⟩, fun i => ⟨_, real_of_all h3 i⟩,
    fun i => ⟨_, real_of_all h4 i⟩, fun i => ⟨_, real_of_all h5 i⟩, fun i => ⟨_, real_of_all h6 i⟩⟩

open Cert.InnerIdeal Cert.InnerIdeal.Value in
theorem R7_eq [Cert.Pre_finite3.Facts] (m : (ℓ : Loc nD τ sig) → Buf (Elt Ideal) ℓ) (c : Dev nD)
    (h : Cert.Pre_finite3.fn (F := Ideal) (dxo m c) (da m c) (db m c) (xx m c) (gg m c) (w1 m c) (w3 m c) = fun _ => 1#1) :
    Cert.InnerRefIdeal.Read.val_main_v41 (F := Ideal) (dxo m c) (da m c) (db m c) (xx m c) (gg m c) (w1 m c) (w3 m c) = R7 m c := by
  obtain ⟨h0, h1, h2, h3, h4, h5, h6⟩ := real_args h
  funext i
  obtain ⟨l, q, rfl⟩ : ∃ (l : Fin 8192) (q : Fin 1024), i = ix2 l q := ⟨i 0, i 1, funext fun a => by match a with | ⟨0, _⟩ => rfl | ⟨1, _⟩ => rfl⟩
  exact Cert.InnerRefIdeal.Read.v41_eq h0 h1 h2 h3 h4 h5 h6 l q

open Cert.InnerIdeal Cert.InnerIdeal.Value in
theorem R8_eq (m : (ℓ : Loc nD τ sig) → Buf (Elt Ideal) ℓ) (c : Dev nD) :
    Cert.InnerRefIdeal.Read.val_main_v24 (F := Ideal) (da m c) (db m c) (xx m c) (w1 m c) (w3 m c) = R8 m c :=
  funext fun i => Cert.InnerRefIdeal.Read.v24_at _ _ _ _ _ i

end Cert.Inner3

end
-- ==== Proof.HiddenSum.lean ====
/-
  The gated unit's gradient call: each of sixteen grid points writes its 512 rows of four arrays, the wide ones in eleven
  pieces of 256 columns.
-/
module

public import proofs.«01_k».proof.Proof.Gen.HiddenIdeal.Value
public import proofs.«01_k».proof.Proof.Gate
public import Idealize.ShloMosaic.Lib.KernelVsHost
public import Idealize.ShloMosaic.Lib.Pipeline.ValueKit
public import Idealize.ShloMosaic.Lib.Pointwise

@[expose] public section

noncomputable section

namespace Cert.HiddenIdeal.Value

open Idealize.ShloMosaic Idealize.ShloMosaic.TcCoe Cert.HiddenIdeal Cert.HiddenIdeal.Gen Cert.Gate

/-! ### A point's stores at an entry -/

section Stores
variable (d : Vec Ideal S512x1024 .f32) (a b : Vec Ideal S512x2816 .bf16) (w : Vec Ideal S2816x1024 .bf16)

/-- The gradient that reaches the unit's product. -/
def reach (r : Fin 512) (q : Fin 2816) : EReal := ∑ k : Fin 1024, half * d (ix2 r k) * w (ix2 q k)

theorem at2 (y : S512x2816.Idx) {p : Fin 512} {q : Fin 2816} (h0 : (y 0).val = p.val) (h1 : (y 1).val = q.val) : y = ix2 p q :=
  funext fun a => Fin.ext (by match a with | ⟨0, _⟩ => exact h0 | ⟨1, _⟩ => exact h1)

theorem out7 (y : S512x1024.Idx) : out0_7 d a b w y = half * d (ix2 (y 0) (y 1)) := by
  canon_tiles x h
  all_goals open_payloads
  all_goals pointwise
  all_goals exact congrArg (fun i => half * d i) (funext fun a => Fin.ext (by match a with | ⟨0, _⟩ => exact h0.symm | ⟨1, _⟩ => exact h1.symm))

theorem out6 (y : S512x2816.Idx) : out0_6 d a b w y = prod (a (ix2 (y 0) (y 1))) (b (ix2 (y 0) (y 1))) := by
  canon_tiles x h
  all_goals open_payloads
  all_goals pointwise
  all_goals first | rw [at2 y (p := x 0) (q := ⟨_, by omega⟩) h0 h1] | rw [at2 y (p := x 0) (q := ⟨_, Nat.lt_trans x1_lt (by decide)⟩) h0 h1]
  all_goals rfl

theorem out5 (y : S512x2816.Idx) : out0_5 d a b w y = dfac (reach d w (y 0) (y 1)) (a (ix2 (y 0) (y 1))) := by
  canon_tiles x h
  all_goals open_payloads
  all_goals try unfold k0_pay104
  all_goals pointwise
  all_goals first | rw [at2 y (p := x 0) (q := ⟨_, by omega⟩) h0 h1] | rw [at2 y (p := x 0) (q := ⟨_, Nat.lt_trans x1_lt (by decide)⟩) h0 h1]
  all_goals rfl

theorem out4 (y : S512x2816.Idx) : out0_4 d a b w y = dgate (reach d w (y 0) (y 1)) (a (ix2 (y 0) (y 1))) (b (ix2 (y 0) (y 1))) := by
  canon_tiles x h
  all_goals open_payloads
  all_goals try unfold k0_pay104
  all_goals pointwise
  all_goals first | rw [at2 y (p := x 0) (q := ⟨_, by omega⟩) h0 h1] | rw [at2 y (p := x 0) (q := ⟨_, Nat.lt_trans x1_lt (by decide)⟩) h0 h1]
  all_goals rfl

end Stores

/-! ### The arguments and a point's blocks of them -/

variable (m : (ℓ : Loc nD τ sig) → Buf (Elt Ideal) ℓ)

abbrev dxo (c : Dev nD) : FVec Ideal S8192x1024 .f32 := m ((c : Thread nD τ).loc main_arg0)
abbrev aa (c : Dev nD) : FVec Ideal S8192x2816 .bf16 := m ((c : Thread nD τ).loc main_arg1)
abbrev bb (c : Dev nD) : FVec Ideal S8192x2816 .bf16 := m ((c : Thread nD τ).loc main_arg2)
abbrev w2 (c : Dev nD) : FVec Ideal S2816x1024 .f32 := m ((c : Thread nD τ).loc main_arg3)

abbrev dTile (c : Dev nD) (t : Fin cfg0.N) : FVec Ideal S512x1024 .f32 := iblk m c 0 t
abbrev aTile (c : Dev nD) (t : Fin cfg0.N) : FVec Ideal S512x2816 .bf16 := iblk m c 1 t
abbrev bTile (c : Dev nD) (t : Fin cfg0.N) : FVec Ideal S512x2816 .bf16 := iblk m c 2 t
abbrev wTile (c : Dev nD) (t : Fin cfg0.N) : FVec Ideal S2816x1024 .bf16 := iblk m c 3 t

theorem idx : ∀ t : Fin cfg0.N, win0_0.index t = ![t.val, 0] ∧ win0_1.index t = ![t.val, 0] ∧ win0_2.index t = ![t.val, 0] ∧ win0_3.index t = ![0, 0]
    ∧ win0_4.index t = ![t.val, 0] ∧ win0_5.index t = ![t.val, 0] ∧ win0_6.index t = ![t.val, 0] ∧ win0_7.index t = ![t.val, 0] :=
  (by decide +kernel : ∀ t : Fin grid0.N, _)

/-- The array's row that a point's tile has at `r`. -/
abbrev rowOf (t : Fin cfg0.N) (r : Fin 512) : Fin 8192 := ⟨t.val * 512 + r.val, by have := t.isLt; have e : cfg0.N = 16 := N_0; omega⟩

theorem rows0 (c : Dev nD) (t : Fin cfg0.N) (r : Fin 512) (q : Fin 1024) : dTile m c t (ix2 r q) = dxo m c (ix2 (rowOf t r) q) := by
  have e := (idx t).1
  refine Eq.trans ?_ (congrFun (V_main_arg0 m c) _)
  blk_ext [iblk, e]

theorem rows1 (c : Dev nD) (t : Fin cfg0.N) (r : Fin 512) (q : Fin 2816) : aTile m c t (ix2 r q) = aa m c (ix2 (rowOf t r) q) := by
  have e := (idx t).2.1
  refine Eq.trans ?_ (congrFun (V_main_arg1 m c) _)
  blk_ext [iblk, e]

theorem rows2 (c : Dev nD) (t : Fin cfg0.N) (r : Fin 512) (q : Fin 2816) : bTile m c t (ix2 r q) = bb m c (ix2 (rowOf t r) q) := by
  have e := (idx t).2.2.1
  refine Eq.trans ?_ (congrFun (V_main_arg2 m c) _)
  blk_ext [iblk, e]

/-- The weight, rounded by the host before the call. -/
theorem host0 (c : Dev nD) : (V m c main_v0 : FVec Ideal S2816x1024 .bf16) = fun i => w2 m c i := by
  unfold V
  after_results
  funext i
  pointwise

theorem rows3 (c : Dev nD) (t : Fin cfg0.N) (r : Fin 2816) (q : Fin 1024) : wTile m c t (ix2 r q) = w2 m c (ix2 r q) := by
  have e := (idx t).2.2.2.1
  refine Eq.trans ?_ (congrFun (host0 m c) (ix2 r q))
  blk_ext [iblk, e]

/-! ### The results -/

/-- The gradient that reaches the unit's product, over the arrays. -/
def dh (c : Dev nD) (i : S8192x2816.Idx) : EReal := ∑ k : Fin 1024, half * dxo m c (ix2 (i 0) k) * w2 m c (ix2 (i 1) k)

def R4 (c : Dev nD) : FVec Ideal S8192x2816 .bf16 := fun i => dgate (dh m c i) (aa m c i) (bb m c i)
def R5 (c : Dev nD) : FVec Ideal S8192x2816 .bf16 := fun i => dfac (dh m c i) (aa m c i)
def R6 (c : Dev nD) : FVec Ideal S8192x2816 .bf16 := fun i => prod (aa m c i) (bb m c i)
def R7 (c : Dev nD) : FVec Ideal S8192x1024 .bf16 := fun i => half * dxo m c i

theorem reach_tile (c : Dev nD) (t : Fin cfg0.N) (r : Fin 512) (q : Fin 2816) : reach (dTile m c t) (wTile m c t) r q = dh m c (ix2 (rowOf t r) q) :=
  Finset.sum_congr rfl fun k _ => congrArg₂ (fun x y : EReal => half * x * y) (rows0 m c t r k) (rows3 m c t q k)

theorem final4 (c : Dev nD) : (dats m 0 c).arrAt 4 cfg0.N = R4 m c := by
  refine (dats m 0 c).arrAt_eq_of_covers 4 _ (by decide +kernel) fun t _ y => ?_
  have e := (idx t).2.2.2.2.1
  have key : ((cfg0.win 4).blk t).view.emb y = ix2 (rowOf t (y 0)) (y 1) := funext fun a => Fin.ext (by
    match a with
    | ⟨0, _⟩ => blk_simp [e]; rfl
    | ⟨1, _⟩ => blk_simp [e]; rfl)
  rw [key]
  blk_simp
  rw [after0_4]
  exact (out4 _ _ _ _ y).trans (congr (congrArg₂ dgate (reach_tile m c t _ _) (rows1 m c t _ _)) (rows2 m c t _ _))

theorem final5 (c : Dev nD) : (dats m 0 c).arrAt 5 cfg0.N = R5 m c := by
  refine (dats m 0 c).arrAt_eq_of_covers 5 _ (by decide +kernel) fun t _ y => ?_
  have e := (idx t).2.2.2.2.2.1
  have key : ((cfg0.win 5).blk t).view.emb y = ix2 (rowOf t (y 0)) (y 1) := funext fun a => Fin.ext (by
    match a with
    | ⟨0, _⟩ => blk_simp [e]; rfl
    | ⟨1, _⟩ => blk_simp [e]; rfl)
  rw [key]
  blk_simp
  rw [after0_5]
  exact (out5 _ _ _ _ y).trans (congrArg₂ dfac (reach_tile m c t _ _) (rows1 m c t _ _))

theorem final6 (c : Dev nD) : (dats m 0 c).arrAt 6 cfg0.N = R6 m c := by
  refine (dats m 0 c).arrAt_eq_of_covers 6 _ (by decide +kernel) fun t _ y => ?_
  have e := (idx t).2.2.2.2.2.2.1
  have key : ((cfg0.win 6).blk t).view.emb y = ix2 (rowOf t (y 0)) (y 1) := funext fun a => Fin.ext (by
    match a with
    | ⟨0, _⟩ => blk_simp [e]; rfl
    | ⟨1, _⟩ => blk_simp [e]; rfl)
  rw [key]
  blk_simp
  rw [after0_6]
  exact (out6 _ _ _ _ y).trans (congrArg₂ prod (rows1 m c t _ _) (rows2 m c t _ _))

theorem final7 (c : Dev nD) : (dats m 0 c).arrAt 7 cfg0.N = R7 m c := by
  refine (dats m 0 c).arrAt_eq_of_covers 7 _ (by decide +kernel) fun t _ y => ?_
  have e := (idx t).2.2.2.2.2.2.2
  have key : ((cfg0.win 7).blk t).view.emb y = ix2 (rowOf t (y 0)) (y 1) := funext fun a => Fin.ext (by
    match a with
    | ⟨0, _⟩ => blk_simp [e]; rfl
    | ⟨1, _⟩ => blk_simp [e]; rfl)
  rw [key]
  blk_simp
  rw [after0_7]
  exact (out7 _ _ _ _ y).trans (congrArg (fun x : EReal => half * x) (rows0 m c t _ _))

end Cert.HiddenIdeal.Value

end
-- ==== Proof.HiddenRef.lean ====
/-
  The reference's gradient of the gated unit at an entry, and its agreement with the kernel's form on real numbers.
-/
module

public import proofs.«01_k».proof.Proof.Gen.HiddenRefIdeal.Read
public import proofs.«01_k».proof.Proof.Gate
public import Idealize.ShloMosaic.Lib.KernelVsHost
public import Idealize.ShloMosaic.Lib.Pointwise

@[expose] public section

noncomputable section

namespace Cert.HiddenRefIdeal.Read

open Idealize.ShloMosaic Idealize.ShloMosaic.TcCoe Cert.HiddenRefIdeal Cert.HiddenRefIdeal.Gen Cert.Gate Cert.RowGrad

variable {d : FVec Ideal S8192x1024 .f32} {a b : FVec Ideal S8192x2816 .bf16} {w : FVec Ideal S2816x1024 .f32}

/-- The gradient that reaches the unit's product. -/
abbrev reach (d : FVec Ideal S8192x1024 .f32) (w : FVec Ideal S2816x1024 .f32) (i : S8192x2816.Idx) : EReal := ∑ k : Fin 1024, half * d (ix2 (i 0) k) * w (ix2 (i 1) k)

theorem reach_real (hd : ∀ i, IsReal (d i)) (hw : ∀ i, IsReal (w i)) (i : S8192x2816.Idx) : IsReal (reach d w i) :=
  IsReal.sum fun k => (IsReal.mul ⟨_, Cert.Gate.half_eq⟩ (hd _)).mul (hw _)

theorem v15 (hd : ∀ i, IsReal (d i)) (ha : ∀ i, IsReal (a i)) (hb : ∀ i, IsReal (b i)) (hw : ∀ i, IsReal (w i)) (i : S8192x2816.Idx) : val_main_v15 (F := Ideal) d a b w i = dgate (reach d w i) (a i) (b i) := by
  unfold val_main_v15 val_main_v12 val_main_call1_v2 val_main_call1_v1 val_main_call1_v0 val_main_v11 val_main_v9 val_main_v8 val_main_v7
    val_main_cst_0 val_main_v2_1 val_main_call0_v7 val_main_call0_v6 val_main_call0_cst_1 val_main_v2_2 val_main_call0_v4 val_main_call0_cst_0
    val_main_call0_v3 val_main_call0_v2 val_main_call0_cst val_main_call0_v1 val_main_call0_v0 val_main_v1 val_main_v0
  pointwise
  exact dgate_eq (reach_real hd hw i) (ha i) (hb i)

theorem v16 (ha : ∀ i, IsReal (a i)) (i : S8192x2816.Idx) : val_main_v16 (F := Ideal) d a w i = dfac (reach d w i) (a i) := by
  unfold val_main_v16 val_main_v10 val_main_v9 val_main_v8 val_main_v7 val_main_cst_0 val_main_v2_0 val_main_v2_2 val_main_call0_v4
    val_main_call0_cst_0 val_main_call0_v3 val_main_call0_v2 val_main_call0_cst val_main_call0_v1 val_main_call0_v0 val_main_v0
  pointwise
  refine (mul_comm _ _).trans ?_
  exact congrArg (fun s : EReal => reach d w i * (a i * s)) (sig_eq (ha i))

theorem v17 (ha : ∀ i, IsReal (a i)) (i : S8192x2816.Idx) : val_main_v17 (F := Ideal) a b i = prod (a i) (b i) := by
  unfold val_main_v17 val_main_v14 val_main_v13 val_main_call2_v5 val_main_call2_v4 val_main_call2_cst_0 val_main_call2_v3 val_main_call2_v2
    val_main_call2_cst val_main_call2_v1 val_main_call2_v0 val_main_v1 val_main_v0
  pointwise
  exact congrArg (fun s : EReal => a i * s * b i) (sig_eq (ha i))

theorem v20 (i : S8192x1024.Idx) : val_main_v20 (F := Ideal) d i = half * d i := by
  unfold val_main_v20 val_main_v19 val_main_v18 val_main_cst_1
  pointwise

end Cert.HiddenRefIdeal.Read

end
-- ==== Proof.HiddenArgs.lean ====
/-
  The gated unit's precondition read back: every entry of every argument is a real number; and with it the four arrays
  are the reference's.
-/
module

public import proofs.«01_k».proof.Proof.HiddenSum
public import proofs.«01_k».proof.Proof.HiddenRef
public import proofs.«01_k».proof.Proof.ConvReal
public import proofs.«01_k».proof.Pre_finite4

@[expose] public section

noncomputable section

namespace Cert.Hidden4

open Idealize.ShloMosaic Cert.RowGrad Cert.ConvBwd

theorem pre_facts : Cert.Pre_finite4.Facts where
  bcast_S_S8192x1024 := by decide
  reducesTo_S8192x1024_S_d0_1 := by decide
  h_S_ := by decide
  bitsLt_bf16_f32 := by decide
  bcast_S_S8192x2816 := by decide
  reducesTo_S8192x2816_S_d0_1 := by decide
  bcast_S_S2816x1024 := by decide
  reducesTo_S2816x1024_S_d0_1 := by decide

theorem real_args [Cert.Pre_finite4.Facts] {d : FVec Ideal ⟨2, ![8192, 1024]⟩ .f32} {a b : FVec Ideal ⟨2, ![8192, 2816]⟩ .bf16} {w : FVec Ideal ⟨2, ![2816, 1024]⟩ .f32}
    (h : Cert.Pre_finite4.fn (F := Ideal) d a b w = fun _ => 1#1) :
    (∀ i, IsReal (d i)) ∧ (∀ i, IsReal (a i)) ∧ (∀ i, IsReal (b i)) ∧ ∀ i, IsReal (w i) := by
  have e := congrFun h (fun a => a.elim0)
  obtain ⟨e, h3⟩ := IntOp.andi_eq_one.mp e
  obtain ⟨e, h2⟩ := IntOp.andi_eq_one.mp e
  obtain ⟨h0, h1⟩ := IntOp.andi_eq_one.mp e
  exact ⟨fun i => ⟨_, real_of_all h0 i⟩, fun i => ⟨_, real_of_all h1 i⟩, fun i => ⟨_, real_of_all h2 i⟩, fun i => ⟨_, real_of_all h3 i⟩⟩

open Cert.HiddenIdeal Cert.HiddenIdeal.Value Cert.HiddenRefIdeal.Read in
theorem results_eq [Cert.Pre_finite4.Facts] (m : (ℓ : Loc nD τ sig) → Buf (Elt Ideal) ℓ) (c : Dev nD)
    (h : Cert.Pre_finite4.fn (F := Ideal) (dxo m c) (aa m c) (bb m c) (w2 m c) = fun _ => 1#1) :
    val_main_v15 (F := Ideal) (dxo m c) (aa m c) (bb m c) (w2 m c) = R4 m c ∧ val_main_v16 (F := Ideal) (dxo m c) (aa m c) (w2 m c) = R5 m c
      ∧ val_main_v17 (F := Ideal) (aa m c) (bb m c) = R6 m c ∧ val_main_v20 (F := Ideal) (dxo m c) = R7 m c := by
  obtain ⟨h0, h1, h2, h3⟩ := real_args h
  exact ⟨funext fun i => v15 h0 h1 h2 h3 i, funext fun i => v16 h1 i, funext fun i => v17 h1 i, funext fun i => v20 i⟩

end Cert.Hidden4

end
-- ==== Proof.ForwardPay.lean ====
/-
  One grid point of the gated unit's forward call with the loss head: its payloads at an entry.
-/
module

public import proofs.«01_k».proof.Proof.Gen.ForwardIdeal.Skeleton
public import proofs.«01_k».proof.Proof.Head
public import Idealize.ShloMosaic.Lib.KernelVsHost
public import Idealize.ShloMosaic.Lib.Pipeline.ValueKit
public import Idealize.ShloMosaic.Lib.Pointwise

@[expose] public section

noncomputable section

namespace Cert.ForwardIdeal.Value

open Idealize.ShloMosaic Idealize.ShloMosaic.TcCoe Cert.ForwardIdeal Cert.ForwardIdeal.Gen Cert.RowGrad Cert.Gate Cert.Head

/-- The product of a scaled row with one row of a transposed weight. -/
def dot (h : Vec Ideal S512x1024 .bf16) (w : Vec Ideal S256x1024 .bf16) (r : Fin 512) (p : Fin 256) : EReal := ∑ k : Fin 1024, h (ix2 r k) * w (ix2 p k)

/-- What 256 of the hidden values add to an entry of the unit's result. -/
def chunk (h : Vec Ideal S512x1024 .bf16) (u v w : Vec Ideal S256x1024 .bf16) (r : Fin 512) (q : Fin 1024) : EReal :=
  ∑ p : Fin 256, prod (dot h u r p) (dot h v r p) * w (ix2 p q)

variable (x : Vec Ideal S512x1024 .f32) (g : Vec Ideal S1x1024 .f32) (h acc : Vec Ideal S512x1024 .f32) (hb : Vec Ideal S512x1024 .bf16)
  (a b : Vec Ideal S512x256 .f32) (u v w u' v' w' : Vec Ideal S256x1024 .bf16)

theorem pay3_apply (r : Fin 512) (q : Fin 1024) : k0_pay3 (F := Ideal) x g (ix2 r q) = x (ix2 r q) * (scale fun p => x (ix2 r p)) * g (ix2 0 q) := by
  unfold k0_pay3 scale under
  pointwise

theorem pay4_apply (r : Fin 512) (p : Fin 256) : k0_pay4 (F := Ideal) x g u (ix2 r p) = dot (k0_pay3 x g) u r p := by
  unfold k0_pay4 dot
  pointwise

theorem pay5_apply (r : Fin 512) (p : Fin 256) : k0_pay5 (F := Ideal) x g u (ix2 r p) = dot (k0_pay3 x g) u r p := by
  unfold k0_pay5 dot
  pointwise

theorem pay13_apply (r : Fin 512) (q : Fin 1024) : k0_pay13 (F := Ideal) (k0_pay3 x g) (k0_pay5 x g v) (k0_pay8 x g u) w u' v' w' (ix2 r q)
    = chunk (k0_pay3 x g) u v w r q + chunk (k0_pay3 x g) u' v' w' r q := by
  unfold k0_pay13 k0_pay8 k0_pay9 k0_pay10
  pointwise
  simp only [pay4_apply, pay5_apply]
  rfl

theorem pay19_apply (r : Fin 512) (q : Fin 1024) : k0_pay19 (F := Ideal) hb acc (k0_pay14 hb u) (k0_pay15 v) w (ix2 r q)
    = (acc (ix2 r q) : EReal) + chunk hb u v w r q := by
  unfold k0_pay19 k0_pay14 k0_pay15 k0_pay16
  pointwise
  rfl

theorem pay30_apply (r : Fin 512) (q : Fin 1024) :
    k0_pay30 (F := Ideal) hb acc (k0_pay20 hb u) (k0_pay21 hb v) (k0_pay24 hb u) k0_pay25 w u' v' w' (ix2 r q)
      = (acc (ix2 r q) : EReal) + chunk hb u v w r q + chunk hb u' v' w' r q := by
  unfold k0_pay30 k0_pay20 k0_pay21 k0_pay24 k0_pay20 k0_pay25 k0_pay26 k0_pay27
  pointwise
  rfl

theorem pay36_apply (r : Fin 512) (q : Fin 1024) : k0_pay36 (F := Ideal) hb acc (k0_pay31 u) v w (ix2 r q) = (acc (ix2 r q) : EReal) + chunk hb u v w r q := by
  unfold k0_pay36 k0_pay31 k0_pay32 k0_pay33
  pointwise
  rfl

theorem pay41_apply (r : Fin 512) (q : Fin 1024) : k0_pay41 (F := Ideal) acc (k0_pay37 hb u) (k0_pay38 hb v) w (ix2 r q)
    = (acc (ix2 r q) : EReal) + chunk hb u v w r q := by
  unfold k0_pay41 k0_pay37 k0_pay38
  pointwise
  rfl

theorem pay52_apply (r : Fin 512) (q : Fin 1024) : k0_pay52 (F := Ideal) hb acc (k0_pay46 hb u v) (k0_pay47 w) (constant S512x1024 .f32 0x00000000#32) u' v' w' (ix2 r q)
    = (acc (ix2 r q) : EReal) + chunk hb u v w r q + chunk hb u' v' w' r q := by
  unfold k0_pay52 k0_pay46 k0_pay47 k0_pay42 k0_pay43 k0_pay48 k0_pay49
  pointwise
  rfl

theorem pay57_apply (r : Fin 512) (q : Fin 1024) : k0_pay57 (F := Ideal) acc (k0_pay53 hb u) (k0_pay54 hb v) w (ix2 r q)
    = (acc (ix2 r q) : EReal) + chunk hb u v w r q := by
  unfold k0_pay57 k0_pay53 k0_pay54
  pointwise
  rfl

theorem pay63_apply (r : Fin 512) (q : Fin 1024) : k0_pay63 (F := Ideal) x acc (k0_pay62 hb u v) w (ix2 r q)
    = x (ix2 r q) + half * (acc (ix2 r q) + chunk hb u v w r q) := by
  unfold k0_pay63 k0_pay62 k0_pay58 k0_pay59
  pointwise
  rfl

/-- Every chunk's two stored blocks are products of the scaled row. -/
theorem stored_a (j : S512x256.Idx) : k0_pay11 (F := Ideal) hb u j = dot hb u (j 0) (j 1)
    ∧ k0_pay17 (F := Ideal) (k0_pay14 hb u) j = dot hb u (j 0) (j 1)
    ∧ k0_pay22 (F := Ideal) hb u j = dot hb u (j 0) (j 1)
    ∧ k0_pay28 (F := Ideal) hb u j = dot hb u (j 0) (j 1)
    ∧ k0_pay34 (F := Ideal) hb (k0_pay31 u) j = dot hb u (j 0) (j 1)
    ∧ k0_pay39 (F := Ideal) hb u j = dot hb u (j 0) (j 1)
    ∧ k0_pay44 (F := Ideal) hb u j = dot hb u (j 0) (j 1)
    ∧ k0_pay50 (F := Ideal) hb u j = dot hb u (j 0) (j 1)
    ∧ k0_pay55 (F := Ideal) hb u j = dot hb u (j 0) (j 1)
    ∧ k0_pay60 (F := Ideal) hb u j = dot hb u (j 0) (j 1)
    ∧ k0_pay6 (F := Ideal) x g u j = dot (k0_pay3 x g) u (j 0) (j 1) := by
  unfold dot k0_pay6 k0_pay4 k0_pay11 k0_pay9 k0_pay17 k0_pay14 k0_pay22 k0_pay20 k0_pay28 k0_pay26 k0_pay34 k0_pay32 k0_pay31 k0_pay39 k0_pay37 k0_pay44 k0_pay42 k0_pay50 k0_pay48
    k0_pay55 k0_pay53 k0_pay60 k0_pay58
  refine ⟨?_, ?_, ?_, ?_, ?_, ?_, ?_, ?_, ?_, ?_, ?_⟩
  all_goals pointwise

theorem stored_b (j : S512x256.Idx) : k0_pay12 (F := Ideal) hb u j = dot hb u (j 0) (j 1)
    ∧ k0_pay18 (F := Ideal) hb (k0_pay15 u) j = dot hb u (j 0) (j 1)
    ∧ k0_pay23 (F := Ideal) hb u j = dot hb u (j 0) (j 1)
    ∧ k0_pay29 (F := Ideal) hb u j = dot hb u (j 0) (j 1)
    ∧ k0_pay35 (F := Ideal) hb u j = dot hb u (j 0) (j 1)
    ∧ k0_pay40 (F := Ideal) hb u j = dot hb u (j 0) (j 1)
    ∧ k0_pay45 (F := Ideal) hb u j = dot hb u (j 0) (j 1)
    ∧ k0_pay51 (F := Ideal) hb u j = dot hb u (j 0) (j 1)
    ∧ k0_pay56 (F := Ideal) (k0_pay54 hb u) j = dot hb u (j 0) (j 1)
    ∧ k0_pay61 (F := Ideal) hb u j = dot hb u (j 0) (j 1)
    ∧ k0_pay7 (F := Ideal) x g u j = dot (k0_pay3 x g) u (j 0) (j 1) := by
  unfold dot k0_pay7 k0_pay5 k0_pay12 k0_pay10 k0_pay18 k0_pay16 k0_pay15 k0_pay23 k0_pay21 k0_pay29 k0_pay27 k0_pay35 k0_pay33 k0_pay40 k0_pay38 k0_pay45 k0_pay43 k0_pay51 k0_pay49
    k0_pay56 k0_pay54 k0_pay61 k0_pay59
  refine ⟨?_, ?_, ?_, ?_, ?_, ?_, ?_, ?_, ?_, ?_, ?_⟩
  all_goals pointwise

/-! ### The head -/

variable (su : Vec Ideal S512x256 .f32) (gf : Vec Ideal S1x1024 .f32) (tg : Vec Ideal S512x1024 .f32)

/-- A row of the unit's result. -/
abbrev orow (r : Fin 512) : Fin 1024 → EReal := fun p => k0_pay63 (F := Ideal) x acc su w (ix2 r p)

theorem pay66_apply (r : Fin 512) (z : Fin 1) : k0_pay66 (F := Ideal) x acc su w (ix2 r z) = scale (orow x acc w su r) := by
  unfold k0_pay66 scale under
  pointwise

theorem pay67_apply (r : Fin 512) (q : Fin 1024) : k0_pay67 (F := Ideal) x acc su w (ix2 r q) = orow x acc w su r q * scale (orow x acc w su r) := by
  unfold k0_pay67
  pointwise
  rw [pay66_apply]

theorem pay68_apply (r : Fin 512) (q : Fin 1024) : k0_pay68 (F := Ideal) x acc su w gf tg (ix2 r q)
    = err (orow x acc w su r) (fun p => gf (ix2 0 p)) (fun p => tg (ix2 r p)) q := by
  unfold k0_pay68 err
  pointwise
  rw [pay67_apply]

theorem pay69_apply (r : Fin 512) (q : Fin 1024) : k0_pay69 (F := Ideal) x acc su w gf tg (ix2 r q)
    = dy (orow x acc w su r) (fun p => gf (ix2 0 p)) (fun p => tg (ix2 r p)) q := by
  unfold k0_pay69 dy
  pointwise
  rw [pay68_apply]

theorem pay70_apply (r : Fin 512) (q : Fin 1024) : k0_pay70 (F := Ideal) x acc su w gf tg (ix2 r q)
    = back (dy (orow x acc w su r) (fun p => gf (ix2 0 p)) fun p => tg (ix2 r p)) (orow x acc w su r) (fun p => gf (ix2 0 p)) q := by
  unfold k0_pay70 back
  pointwise
  simp only [pay66_apply, pay67_apply, pay69_apply]

theorem pay2_apply (old : Vec Ideal S1x1024 .f32) (j : S1x1024.Idx) :
    k0_pay2 (F := Ideal) (k0_pay67 x acc su w) (k0_pay69 x acc su w gf tg) old j
      = (old j : EReal) + ∑ r : Fin 512, gain (dy (orow x acc w su r) (fun p => gf (ix2 0 p)) fun p => tg (ix2 r p)) (orow x acc w su r) (j 1) := by
  unfold k0_pay2 gain
  pointwise
  exact congrArg (fun s : EReal => old j + s) (Finset.sum_congr rfl fun r _ =>
    congrArg₂ (fun y z : EReal => y * z) (pay69_apply x acc w su gf tg r (j 1)) (pay67_apply x acc w su r (j 1)))

theorem pay1_apply (old : Vec Ideal S8x128 .f32) (j : S8x128.Idx) :
    k0_pay1 (F := Ideal) (k0_pay71 x acc su w gf tg) old j
      = (old j : EReal) + half * ∑ r : Fin 512, Ideal.div (∑ p, err (orow x acc w su r) (fun p => gf (ix2 0 p)) (fun p => tg (ix2 r p)) p
          * err (orow x acc w su r) (fun p => gf (ix2 0 p)) (fun p => tg (ix2 r p)) p) width := by
  unfold k0_pay1 k0_pay71
  pointwise
  simp only [pay68_apply]
  exact congrArg (fun s : EReal => old j + half * s) (Finset.sum_congr rfl fun r _ => Fin.sum_univ_one _)

theorem pay64_apply (j : S8x128.Idx) : k0_pay64 (F := Ideal) j = 0 := by
  unfold k0_pay64
  pointwise

theorem pay65_apply (j : S1x1024.Idx) : k0_pay65 (F := Ideal) j = 0 := by
  unfold k0_pay65
  pointwise

end Cert.ForwardIdeal.Value

end
-- ==== Proof.ForwardTile.lean ====
/-
  One grid point of the gated unit's forward call: the eleven chunks of its hidden values, and what it leaves in each output.
-/
module

public import proofs.«01_k».proof.Proof.Gen.ForwardIdeal.Value
public import proofs.«01_k».proof.Proof.ForwardPay

@[expose] public section

set_option maxRecDepth 16384

noncomputable section

namespace Cert.ForwardIdeal.Value

open Idealize.ShloMosaic Idealize.ShloMosaic.TcCoe Cert.ForwardIdeal Cert.ForwardIdeal.Gen Cert.RowGrad Cert.Gate Cert.Head

/-! ### The chunks -/

section Tile
variable (x : Vec Ideal S512x1024 .f32) (g : Vec Ideal S1x1024 .f32) (u v w : Vec Ideal S2816x1024 .bf16)

/-- Rows `n` to `n + 256` of a weight. -/
abbrev sl (n : ℕ) (inb : ∀ a, (![n, 0] : Fin 2 → ℕ) a + S256x1024.size a ≤ S2816x1024.size a) (w : Vec Ideal S2816x1024 .bf16) : Vec Ideal S256x1024 .bf16 :=
  View.ld w (Rect.unit ![n, 0] S256x1024.size inb)

abbrev acc0 : Vec Ideal S512x1024 .f32 := k0_pay13 (k0_pay3 x g) (k0_pay5 x g (sl 0 (by decide) v)) (k0_pay8 x g (sl 0 (by decide) u)) (sl 0 (by decide) w)
  (sl 256 (by decide) u) (sl 256 (by decide) v) (sl 256 (by decide) w)
abbrev acc1 : Vec Ideal S512x1024 .f32 := k0_pay19 (k0_pay3 x g) (acc0 x g u v w) (k0_pay14 (k0_pay3 x g) (sl 512 (by decide) u)) (k0_pay15 (sl 512 (by decide) v)) (sl 512 (by decide) w)
abbrev acc2 : Vec Ideal S512x1024 .f32 := k0_pay30 (k0_pay3 x g) (acc1 x g u v w) (k0_pay20 (k0_pay3 x g) (sl 768 (by decide) u)) (k0_pay21 (k0_pay3 x g) (sl 768 (by decide) v))
  (k0_pay24 (k0_pay3 x g) (sl 768 (by decide) u)) k0_pay25 (sl 768 (by decide) w) (sl 1024 (by decide) u) (sl 1024 (by decide) v) (sl 1024 (by decide) w)
abbrev acc3 : Vec Ideal S512x1024 .f32 := k0_pay36 (k0_pay3 x g) (acc2 x g u v w) (k0_pay31 (sl 1280 (by decide) u)) (sl 1280 (by decide) v) (sl 1280 (by decide) w)
abbrev acc4 : Vec Ideal S512x1024 .f32 := k0_pay41 (acc3 x g u v w) (k0_pay37 (k0_pay3 x g) (sl 1536 (by decide) u)) (k0_pay38 (k0_pay3 x g) (sl 1536 (by decide) v)) (sl 1536 (by decide) w)
abbrev acc5 : Vec Ideal S512x1024 .f32 := k0_pay52 (k0_pay3 x g) (acc4 x g u v w) (k0_pay46 (k0_pay3 x g) (sl 1792 (by decide) u) (sl 1792 (by decide) v)) (k0_pay47 (sl 1792 (by decide) w))
  (constant S512x1024 .f32 0x00000000#32) (sl 2048 (by decide) u) (sl 2048 (by decide) v) (sl 2048 (by decide) w)
abbrev acc6 : Vec Ideal S512x1024 .f32 := k0_pay57 (acc5 x g u v w) (k0_pay53 (k0_pay3 x g) (sl 2304 (by decide) u)) (k0_pay54 (k0_pay3 x g) (sl 2304 (by decide) v)) (sl 2304 (by decide) w)
abbrev last : Vec Ideal S512x256 .f32 := k0_pay62 (k0_pay3 x g) (sl 2560 (by decide) u) (sl 2560 (by decide) v)

/-- The scaled row, a hidden value before the gate, and the unit's result, over a point's blocks. -/
def hv (r : Fin 512) (k : Fin 1024) : EReal := x (ix2 r k) * (scale fun p => x (ix2 r p)) * g (ix2 0 k)
def hid (r : Fin 512) (p : Fin 2816) : EReal := ∑ k, hv x g r k * u (ix2 p k)
def term (r : Fin 512) (q : Fin 1024) (p : Fin 2816) : EReal := prod (hid x g u r p) (hid x g v r p) * w (ix2 p q)
def outv (r : Fin 512) (q : Fin 1024) : EReal := x (ix2 r q) + half * ∑ p, term x g u v w r q p

/-- What the `s`-th 256 hidden values add. -/
def part (r : Fin 512) (q : Fin 1024) (s : ℕ) : EReal := if h : s < 11 then ∑ p : Fin 256, term x g u v w r q ⟨s * 256 + p.val, by omega⟩ else 0

theorem parts (r : Fin 512) (q : Fin 1024) : ∑ s ∈ Finset.range 11, part x g u v w r q s = ∑ p, term x g u v w r q p := by
  rw [Finset.sum_range]
  refine Eq.trans (Finset.sum_congr rfl fun s _ => ?_) (Fin.sum_mul_add_congr (S := 11) (n := 256)
    (F := fun s p => term x g u v w r q ⟨s.val * 256 + p.val, by have := s.isLt; omega⟩) fun s p hl => rfl)
  exact dif_pos s.isLt

theorem sl_apply (n : ℕ) (inb) (p : Fin 256) (k : Fin 1024) (h : n + p.val < 2816) : sl n inb w (ix2 p k) = w (ix2 ⟨n + p.val, h⟩ k) :=
  congrArg w (funext fun a => Fin.ext (by
    match a with
    | ⟨0, _⟩ => exact congrArg (n + ·) (Nat.one_mul _)
    | ⟨1, _⟩ => exact (Nat.zero_add _).trans (Nat.one_mul _)))

theorem dot_sl (n : ℕ) (inb) (r : Fin 512) (p : Fin 256) (h : n + p.val < 2816) : dot (k0_pay3 x g) (sl n inb u) r p = hid x g u r ⟨n + p.val, h⟩ :=
  Finset.sum_congr rfl fun k _ => congrArg₂ (fun y z : EReal => y * z) (pay3_apply x g r k) (sl_apply u n inb p k h)

theorem chunk_sl (s n : ℕ) (hs : s < 11) (hn : n = s * 256) (inb) (r : Fin 512) (q : Fin 1024) :
    chunk (k0_pay3 x g) (sl n inb u) (sl n inb v) (sl n inb w) r q = part x g u v w r q s := by
  subst hn
  unfold part
  rw [dif_pos hs]
  exact Finset.sum_congr rfl fun p _ => congrArg₂ (fun y z : EReal => y * z)
    (congrArg₂ prod (dot_sl x g u _ inb r p _) (dot_sl x g v _ inb r p _)) (sl_apply w _ inb p q (by omega))

theorem out_apply (r : Fin 512) (q : Fin 1024) :
    k0_pay63 (F := Ideal) x (acc6 x g u v w) (last x g u v) (sl 2560 (by decide) w) (ix2 r q) = outv x g u v w r q := by
  unfold last acc6 acc5 acc4 acc3 acc2 acc1 acc0
  rw [pay63_apply, pay57_apply, pay52_apply, pay41_apply, pay36_apply, pay30_apply, pay19_apply, pay13_apply]
  unfold outv
  rw [← parts]
  simp only [Finset.sum_range_succ, Finset.sum_range_zero, zero_add]
  rw [chunk_sl x g u v w 0 0 (by decide) rfl, chunk_sl x g u v w 1 256 (by decide) rfl, chunk_sl x g u v w 2 512 (by decide) rfl,
    chunk_sl x g u v w 3 768 (by decide) rfl, chunk_sl x g u v w 4 1024 (by decide) rfl, chunk_sl x g u v w 5 1280 (by decide) rfl,
    chunk_sl x g u v w 6 1536 (by decide) rfl, chunk_sl x g u v w 7 1792 (by decide) rfl, chunk_sl x g u v w 8 2048 (by decide) rfl,
    chunk_sl x g u v w 9 2304 (by decide) rfl, chunk_sl x g u v w 10 2560 (by decide) rfl]

end Tile

/-! ### What a point leaves -/

variable (m : (ℓ : Loc nD τ sig) → Buf (Elt Ideal) ℓ)

abbrev xTile (c : Dev nD) (t : Fin cfg0.N) : FVec Ideal S512x1024 .f32 := iblk m c 0 t
abbrev gTile (c : Dev nD) (t : Fin cfg0.N) : FVec Ideal S1x1024 .f32 := iblk m c 1 t
abbrev uTile (c : Dev nD) (t : Fin cfg0.N) : FVec Ideal S2816x1024 .bf16 := iblk m c 2 t
abbrev vTile (c : Dev nD) (t : Fin cfg0.N) : FVec Ideal S2816x1024 .bf16 := iblk m c 3 t
abbrev wTile (c : Dev nD) (t : Fin cfg0.N) : FVec Ideal S2816x1024 .bf16 := iblk m c 4 t
abbrev gfTile (c : Dev nD) (t : Fin cfg0.N) : FVec Ideal S1x1024 .f32 := iblk m c 5 t
abbrev tgTile (c : Dev nD) (t : Fin cfg0.N) : FVec Ideal S512x1024 .f32 := iblk m c 6 t

/-- The sum over the first ten chunks, the last chunk's products and weight. -/
abbrev accT (c : Dev nD) (t : Fin cfg0.N) := acc6 (xTile m c t) (gTile m c t) (uTile m c t) (vTile m c t) (wTile m c t)
abbrev lastT (c : Dev nD) (t : Fin cfg0.N) := last (xTile m c t) (gTile m c t) (uTile m c t) (vTile m c t)
abbrev endT (c : Dev nD) (t : Fin cfg0.N) := sl 2560 (by decide) (wTile m c t)

theorem point7 (c : Dev nD) (t : Fin cfg0.N) :
    (outsAt0 m c t.val t.isLt).1 = k0_pay70 (xTile m c t) (accT m c t) (lastT m c t) (endT m c t) (gfTile m c t) (tgTile m c t) := by
  by_cases h : t.val % 16 = 0
  · rw [outsAt0_A m c t h]
    frame_out
    rfl
  · rw [outsAt0_B m c t h]
    frame_out
    rfl

theorem point10 (c : Dev nD) (t : Fin cfg0.N) : (outsAt0 m c t.val t.isLt).2.2.2.1 = k0_pay3 (F := Ideal) (xTile m c t) (gTile m c t) := by
  by_cases h : t.val % 16 = 0
  · rw [outsAt0_A m c t h]
    frame_out
  · rw [outsAt0_B m c t h]
    frame_out

theorem first11 (c : Dev nD) (t : Fin cfg0.N) (h : t.val % 16 = 0) : (outsAt0 m c t.val t.isLt).2.2.2.2.1
    = k0_pay1 (k0_pay71 (xTile m c t) (accT m c t) (lastT m c t) (endT m c t) (gfTile m c t) (tgTile m c t)) (k0_pay64 (F := Ideal)) := by
  rw [outsAt0_A m c t h]
  frame_out
  rfl

theorem later11 (c : Dev nD) (t : Fin cfg0.N) (h : ¬t.val % 16 = 0) : (outsAt0 m c t.val t.isLt).2.2.2.2.1
    = k0_pay1 (k0_pay71 (xTile m c t) (accT m c t) (lastT m c t) (endT m c t) (gfTile m c t) (tgTile m c t))
        (outsAt0 m c (t.val - 1) (lt_of_le_of_lt (Nat.sub_le _ _) t.isLt)).2.2.2.2.1 := by
  rw [outsAt0_B m c t h]
  frame_out
  rfl

theorem first12 (c : Dev nD) (t : Fin cfg0.N) (h : t.val % 16 = 0) : (outsAt0 m c t.val t.isLt).2.2.2.2.2
    = k0_pay2 (k0_pay67 (xTile m c t) (accT m c t) (lastT m c t) (endT m c t)) (k0_pay69 (xTile m c t) (accT m c t) (lastT m c t) (endT m c t) (gfTile m c t) (tgTile m c t)) (k0_pay65 (F := Ideal)) := by
  rw [outsAt0_A m c t h]
  frame_out
  rfl

theorem later12 (c : Dev nD) (t : Fin cfg0.N) (h : ¬t.val % 16 = 0) : (outsAt0 m c t.val t.isLt).2.2.2.2.2
    = k0_pay2 (k0_pay67 (xTile m c t) (accT m c t) (lastT m c t) (endT m c t)) (k0_pay69 (xTile m c t) (accT m c t) (lastT m c t) (endT m c t) (gfTile m c t) (tgTile m c t))
        (outsAt0 m c (t.val - 1) (lt_of_le_of_lt (Nat.sub_le _ _) t.isLt)).2.2.2.2.2 := by
  rw [outsAt0_B m c t h]
  frame_out
  rfl

/-- A stored chunk's entry is its hidden value. -/
theorem close {X : Vec Ideal S512x1024 .f32} {g : Vec Ideal S1x1024 .f32} {u : Vec Ideal S2816x1024 .bf16} {n : ℕ} {inb} (y : S512x2816.Idx) (x : S512x256.Idx) {z : EReal}
    (hz : z = dot (k0_pay3 X g) (sl n inb u) (x 0) (x 1)) (h0 : (y 0).val = (x 0).val) (h1 : (y 1).val = n + (x 1).val) : z = hid X g u (y 0) (y 1) := by
  have hb : n + (x 1).val < 2816 := h1 ▸ (y 1).isLt
  rw [hz, show y 0 = x 0 from Fin.ext h0, show y 1 = ⟨n + (x 1).val, hb⟩ from Fin.ext h1]
  exact dot_sl X g u n inb (x 0) (x 1) hb

theorem point8 (c : Dev nD) (t : Fin cfg0.N) (y : S512x2816.Idx) : ((outsAt0 m c t.val t.isLt).2.1 y : EReal) = hid (xTile m c t) (gTile m c t) (uTile m c t) (y 0) (y 1) := by
  by_cases h : t.val % 16 = 0
  on_goal 1 => rw [outsAt0_A m c t h]
  on_goal 2 => rw [outsAt0_B m c t h]
  all_goals frame_out
  all_goals canon_tiles x h
  iterate 2
    · exact close y x ((stored_a (x := xTile m c t) (g := gTile m c t) (k0_pay3 (F := Ideal) (xTile m c t) (gTile m c t)) _ x).2.2.2.2.2.2.2.2.2.1) h0 h1
    · exact close y x ((stored_a (x := xTile m c t) (g := gTile m c t) (k0_pay3 (F := Ideal) (xTile m c t) (gTile m c t)) _ x).2.2.2.2.2.2.2.2.1) h0 h1
    · exact close y x ((stored_a (x := xTile m c t) (g := gTile m c t) (k0_pay3 (F := Ideal) (xTile m c t) (gTile m c t)) _ x).2.2.2.2.2.2.2.1) h0 h1
    · exact close y x ((stored_a (x := xTile m c t) (g := gTile m c t) (k0_pay3 (F := Ideal) (xTile m c t) (gTile m c t)) _ x).2.2.2.2.2.2.1) h0 h1
    · exact close y x ((stored_a (x := xTile m c t) (g := gTile m c t) (k0_pay3 (F := Ideal) (xTile m c t) (gTile m c t)) _ x).2.2.2.2.2.1) h0 h1
    · exact close y x ((stored_a (x := xTile m c t) (g := gTile m c t) (k0_pay3 (F := Ideal) (xTile m c t) (gTile m c t)) _ x).2.2.2.2.1) h0 h1
    · exact close y x ((stored_a (x := xTile m c t) (g := gTile m c t) (k0_pay3 (F := Ideal) (xTile m c t) (gTile m c t)) _ x).2.2.2.1) h0 h1
    · exact close y x ((stored_a (x := xTile m c t) (g := gTile m c t) (k0_pay3 (F := Ideal) (xTile m c t) (gTile m c t)) _ x).2.2.1) h0 h1
    · exact close y x ((stored_a (x := xTile m c t) (g := gTile m c t) (k0_pay3 (F := Ideal) (xTile m c t) (gTile m c t)) _ x).2.1) h0 h1
    · exact close y x ((stored_a (x := xTile m c t) (g := gTile m c t) (k0_pay3 (F := Ideal) (xTile m c t) (gTile m c t)) _ x).1) h0 h1
    · exact close y x ((stored_a (x := xTile m c t) (g := gTile m c t) (k0_pay3 (F := Ideal) (xTile m c t) (gTile m c t)) _ x).2.2.2.2.2.2.2.2.2.2) h0 (h1.trans (Nat.zero_add _).symm)

theorem point9 (c : Dev nD) (t : Fin cfg0.N) (y : S512x2816.Idx) : ((outsAt0 m c t.val t.isLt).2.2.1 y : EReal) = hid (xTile m c t) (gTile m c t) (vTile m c t) (y 0) (y 1) := by
  by_cases h : t.val % 16 = 0
  on_goal 1 => rw [outsAt0_A m c t h]
  on_goal 2 => rw [outsAt0_B m c t h]
  all_goals frame_out
  all_goals canon_tiles x h
  iterate 2
    · exact close y x ((stored_b (x := xTile m c t) (g := gTile m c t) (k0_pay3 (F := Ideal) (xTile m c t) (gTile m c t)) _ x).2.2.2.2.2.2.2.2.2.1) h0 h1
    · exact close y x ((stored_b (x := xTile m c t) (g := gTile m c t) (k0_pay3 (F := Ideal) (xTile m c t) (gTile m c t)) _ x).2.2.2.2.2.2.2.2.1) h0 h1
    · exact close y x ((stored_b (x := xTile m c t) (g := gTile m c t) (k0_pay3 (F := Ideal) (xTile m c t) (gTile m c t)) _ x).2.2.2.2.2.2.2.1) h0 h1
    · exact close y x ((stored_b (x := xTile m c t) (g := gTile m c t) (k0_pay3 (F := Ideal) (xTile m c t) (gTile m c t)) _ x).2.2.2.2.2.2.1) h0 h1
    · exact close y x ((stored_b (x := xTile m c t) (g := gTile m c t) (k0_pay3 (F := Ideal) (xTile m c t) (gTile m c t)) _ x).2.2.2.2.2.1) h0 h1
    · exact close y x ((stored_b (x := xTile m c t) (g := gTile m c t) (k0_pay3 (F := Ideal) (xTile m c t) (gTile m c t)) _ x).2.2.2.2.1) h0 h1
    · exact close y x ((stored_b (x := xTile m c t) (g := gTile m c t) (k0_pay3 (F := Ideal) (xTile m c t) (gTile m c t)) _ x).2.2.2.1) h0 h1
    · exact close y x ((stored_b (x := xTile m c t) (g := gTile m c t) (k0_pay3 (F := Ideal) (xTile m c t) (gTile m c t)) _ x).2.2.1) h0 h1
    · exact close y x ((stored_b (x := xTile m c t) (g := gTile m c t) (k0_pay3 (F := Ideal) (xTile m c t) (gTile m c t)) _ x).2.1) h0 h1
    · exact close y x ((stored_b (x := xTile m c t) (g := gTile m c t) (k0_pay3 (F := Ideal) (xTile m c t) (gTile m c t)) _ x).1) h0 h1
    · exact close y x ((stored_b (x := xTile m c t) (g := gTile m c t) (k0_pay3 (F := Ideal) (xTile m c t) (gTile m c t)) _ x).2.2.2.2.2.2.2.2.2.2) h0 (h1.trans (Nat.zero_add _).symm)

end Cert.ForwardIdeal.Value

end
-- ==== Proof.ForwardSum.lean ====
/-
  The gated unit's forward call: sixteen grid points write their 512 rows of four arrays, and add up the loss and what the
  rows say of the last gain.
-/
module

public import proofs.«01_k».proof.Proof.ForwardTile

@[expose] public section

set_option maxRecDepth 16384

noncomputable section

namespace Cert.ForwardIdeal.Value

open Idealize.ShloMosaic Idealize.ShloMosaic.TcCoe Cert.ForwardIdeal Cert.ForwardIdeal.Gen Cert.RowGrad Cert.Gate Cert.Head

/-! ### The arguments and a point's blocks of them -/

variable (m : (ℓ : Loc nD τ sig) → Buf (Elt Ideal) ℓ)

abbrev xx (c : Dev nD) : FVec Ideal S8192x1024 .f32 := m ((c : Thread nD τ).loc main_arg0)
abbrev gg (c : Dev nD) : FVec Ideal S1x1024 .f32 := m ((c : Thread nD τ).loc main_arg1)
abbrev w1 (c : Dev nD) : FVec Ideal S1024x2816 .f32 := m ((c : Thread nD τ).loc main_arg2)
abbrev w3 (c : Dev nD) : FVec Ideal S1024x2816 .f32 := m ((c : Thread nD τ).loc main_arg3)
abbrev w2 (c : Dev nD) : FVec Ideal S2816x1024 .f32 := m ((c : Thread nD τ).loc main_arg4)
abbrev gl (c : Dev nD) : FVec Ideal S1x1024 .f32 := m ((c : Thread nD τ).loc main_arg5)
abbrev tt (c : Dev nD) : FVec Ideal S8192x1024 .f32 := m ((c : Thread nD τ).loc main_arg6)

theorem idx : ∀ t : Fin cfg0.N, win0_0.index t = ![t.val, 0] ∧ win0_1.index t = ![0, 0] ∧ win0_2.index t = ![0, 0] ∧ win0_3.index t = ![0, 0]
    ∧ win0_4.index t = ![0, 0] ∧ win0_5.index t = ![0, 0] ∧ win0_6.index t = ![t.val, 0] ∧ win0_7.index t = ![t.val, 0] ∧ win0_8.index t = ![t.val, 0]
    ∧ win0_9.index t = ![t.val, 0] ∧ win0_10.index t = ![t.val, 0] ∧ win0_11.index t = ![0, 0] ∧ win0_12.index t = ![0, 0] :=
  (by decide +kernel : ∀ t : Fin grid0.N, _)

/-- The array's row that a point's tile has at `r`. -/
abbrev rowOf (t : Fin cfg0.N) (r : Fin 512) : Fin 8192 := ⟨t.val * 512 + r.val, by have := t.isLt; have e : cfg0.N = 16 := N_0; omega⟩

theorem rows0 (c : Dev nD) (t : Fin cfg0.N) (r : Fin 512) (q : Fin 1024) : xTile m c t (ix2 r q) = xx m c (ix2 (rowOf t r) q) := by
  have e := (idx t).1
  refine Eq.trans ?_ (congrFun (V_main_arg0 m c) _)
  blk_ext [iblk, e]

theorem rows1 (c : Dev nD) (t : Fin cfg0.N) (q : Fin 1024) : gTile m c t (ix2 0 q) = gg m c (ix2 0 q) := by
  have e := (idx t).2.1
  refine Eq.trans ?_ (congrFun (V_main_arg1 m c) _)
  blk_ext [iblk, e]

/-- The weights, transposed or only rounded by the host before the call. -/
theorem host1 (c : Dev nD) : (V m c main_v1 : FVec Ideal S2816x1024 .bf16) = fun i => w1 m c (ix2 (i 1) (i 0)) := by
  unfold V
  after_results
  funext i
  pointwise

theorem host3 (c : Dev nD) : (V m c main_v3 : FVec Ideal S2816x1024 .bf16) = fun i => w3 m c (ix2 (i 1) (i 0)) := by
  unfold V
  after_results
  funext i
  pointwise

theorem host4 (c : Dev nD) : (V m c main_v4 : FVec Ideal S2816x1024 .bf16) = fun i => w2 m c i := by
  unfold V
  after_results
  funext i
  pointwise

theorem rows2 (c : Dev nD) (t : Fin cfg0.N) (k : Fin 2816) (q : Fin 1024) : uTile m c t (ix2 k q) = w1 m c (ix2 q k) := by
  have e := (idx t).2.2.1
  refine Eq.trans ?_ (congrFun (host1 m c) (ix2 k q))
  blk_ext [iblk, e]

theorem rows3 (c : Dev nD) (t : Fin cfg0.N) (k : Fin 2816) (q : Fin 1024) : vTile m c t (ix2 k q) = w3 m c (ix2 q k) := by
  have e := (idx t).2.2.2.1
  refine Eq.trans ?_ (congrFun (host3 m c) (ix2 k q))
  blk_ext [iblk, e]

theorem rows4 (c : Dev nD) (t : Fin cfg0.N) (k : Fin 2816) (q : Fin 1024) : wTile m c t (ix2 k q) = w2 m c (ix2 k q) := by
  have e := (idx t).2.2.2.2.1
  refine Eq.trans ?_ (congrFun (host4 m c) (ix2 k q))
  blk_ext [iblk, e]

theorem rows5 (c : Dev nD) (t : Fin cfg0.N) (q : Fin 1024) : gfTile m c t (ix2 0 q) = gl m c (ix2 0 q) := by
  have e := (idx t).2.2.2.2.2.1
  refine Eq.trans ?_ (congrFun (V_main_arg5 m c) _)
  blk_ext [iblk, e]

theorem rows6 (c : Dev nD) (t : Fin cfg0.N) (r : Fin 512) (q : Fin 1024) : tgTile m c t (ix2 r q) = tt m c (ix2 (rowOf t r) q) := by
  have e := (idx t).2.2.2.2.2.2.1
  refine Eq.trans ?_ (congrFun (V_main_arg6 m c) _)
  blk_ext [iblk, e]

/-! ### The results -/

/-- The six arrays the call leaves. -/
def R7 (c : Dev nD) : FVec Ideal S8192x1024 .f32 := fun i => dOut (xx m c) (gg m c) (w1 m c) (w3 m c) (w2 m c) (gl m c) (tt m c) (i 0) (i 1)
def R8 (c : Dev nD) : FVec Ideal S8192x2816 .bf16 := fun i => hidden (xx m c) (gg m c) (w1 m c) (i 0) (i 1)
def R9 (c : Dev nD) : FVec Ideal S8192x2816 .bf16 := fun i => hidden (xx m c) (gg m c) (w3 m c) (i 0) (i 1)
def R10 (c : Dev nD) : FVec Ideal S8192x1024 .bf16 := fun i => scaled (xx m c) (gg m c) (i 0) (i 1)
def R11 (c : Dev nD) : FVec Ideal S8x128 .f32 := fun _ => loss (xx m c) (gg m c) (w1 m c) (w3 m c) (w2 m c) (gl m c) (tt m c)
def R12 (c : Dev nD) : FVec Ideal S1x1024 .f32 := fun i => ∑ l : Fin 8192, dGain (xx m c) (gg m c) (w1 m c) (w3 m c) (w2 m c) (gl m c) (tt m c) l (i 1)

theorem scaled_tile (c : Dev nD) (t : Fin cfg0.N) (r : Fin 512) (k : Fin 1024) : hv (xTile m c t) (gTile m c t) r k = scaled (xx m c) (gg m c) (rowOf t r) k := by
  unfold hv scaled
  rw [show (fun p => xTile m c t (ix2 r p)) = fun p => xx m c (ix2 (rowOf t r) p) from funext fun p => rows0 m c t r p, rows0, rows1]

theorem hid_u (c : Dev nD) (t : Fin cfg0.N) (r : Fin 512) (p : Fin 2816) : hid (xTile m c t) (gTile m c t) (uTile m c t) r p = hidden (xx m c) (gg m c) (w1 m c) (rowOf t r) p :=
  Finset.sum_congr rfl fun k _ => congrArg₂ (fun y z : EReal => y * z) (scaled_tile m c t r k) (rows2 m c t p k)

theorem hid_v (c : Dev nD) (t : Fin cfg0.N) (r : Fin 512) (p : Fin 2816) : hid (xTile m c t) (gTile m c t) (vTile m c t) r p = hidden (xx m c) (gg m c) (w3 m c) (rowOf t r) p :=
  Finset.sum_congr rfl fun k _ => congrArg₂ (fun y z : EReal => y * z) (scaled_tile m c t r k) (rows3 m c t p k)

/-- A row of the unit's result in a tile is the array's. -/
theorem orow_tile (c : Dev nD) (t : Fin cfg0.N) (r : Fin 512) :
    orow (xTile m c t) (accT m c t) (endT m c t) (lastT m c t) r = out (xx m c) (gg m c) (w1 m c) (w3 m c) (w2 m c) (rowOf t r) := by
  funext q
  refine (out_apply (xTile m c t) (gTile m c t) (uTile m c t) (vTile m c t) (wTile m c t) r q).trans ?_
  exact congrArg₂ (fun y z : EReal => y + half * z) (rows0 m c t r q)
    (Finset.sum_congr rfl fun p _ => congrArg₂ (fun y z : EReal => y * z) (congrArg₂ prod (hid_u m c t r p) (hid_v m c t r p)) (rows4 m c t p q))

theorem gf_tile (c : Dev nD) (t : Fin cfg0.N) : (fun p => gfTile m c t (ix2 0 p)) = gfRow (gl m c) := funext fun p => rows5 m c t p
theorem tg_tile (c : Dev nD) (t : Fin cfg0.N) (r : Fin 512) : (fun p => tgTile m c t (ix2 r p)) = tgRow (tt m c) (rowOf t r) := funext fun p => rows6 m c t r p

theorem back_tile (c : Dev nD) (t : Fin cfg0.N) (r : Fin 512) (q : Fin 1024) :
    (k0_pay70 (F := Ideal) (xTile m c t) (accT m c t) (lastT m c t) (endT m c t) (gfTile m c t) (tgTile m c t) (ix2 r q) : EReal)
      = R7 m c (ix2 (rowOf t r) q) := by
  rw [pay70_apply, orow_tile, gf_tile, tg_tile]
  rfl

/-- What a point adds to the loss and to the gain's gradient. -/
def lossPart (c : Dev nD) (n : ℕ) : EReal :=
  if h : n < cfg0.N then half * ∑ r : Fin 512, square (xx m c) (gg m c) (w1 m c) (w3 m c) (w2 m c) (gl m c) (tt m c) (rowOf ⟨n, h⟩ r) else 0
def gainPart (c : Dev nD) (n : ℕ) (q : Fin 1024) : EReal :=
  if h : n < cfg0.N then ∑ r : Fin 512, dGain (xx m c) (gg m c) (w1 m c) (w3 m c) (w2 m c) (gl m c) (tt m c) (rowOf ⟨n, h⟩ r) q else 0

theorem loss_tile (c : Dev nD) (t : Fin cfg0.N) (old : Vec Ideal S8x128 .f32) (j : S8x128.Idx) :
    k0_pay1 (F := Ideal) (k0_pay71 (xTile m c t) (accT m c t) (lastT m c t) (endT m c t) (gfTile m c t) (tgTile m c t)) old j = (old j : EReal) + lossPart m c t.val := by
  rw [pay1_apply]
  unfold lossPart
  rw [dif_pos t.isLt]
  refine congrArg (fun s : EReal => (old j : EReal) + half * s) (Finset.sum_congr rfl fun r _ => ?_)
  rw [orow_tile, gf_tile, tg_tile]
  rfl

theorem gain_tile (c : Dev nD) (t : Fin cfg0.N) (old : Vec Ideal S1x1024 .f32) (j : S1x1024.Idx) :
    k0_pay2 (F := Ideal) (k0_pay67 (xTile m c t) (accT m c t) (lastT m c t) (endT m c t))
        (k0_pay69 (xTile m c t) (accT m c t) (lastT m c t) (endT m c t) (gfTile m c t) (tgTile m c t)) old j
      = (old j : EReal) + gainPart m c t.val (j 1) := by
  rw [pay2_apply]
  unfold gainPart
  rw [dif_pos t.isLt]
  refine congrArg (fun s : EReal => (old j : EReal) + s) (Finset.sum_congr rfl fun r _ => ?_)
  rw [orow_tile, gf_tile, tg_tile]
  rfl

/-- The loss tile and the gain's gradient after a point: the parts so far. -/
theorem sofar11 (c : Dev nD) (j : S8x128.Idx) : ∀ (n : ℕ) (h : n < cfg0.N),
    ((outsAt0 m c n h).2.2.2.2.1 j : EReal) = ∑ s ∈ Finset.range (n + 1), lossPart m c s
  | 0, h => by
    refine (congrFun (first11 m c ⟨0, h⟩ rfl) j).trans ((loss_tile m c ⟨0, h⟩ _ j).trans ?_)
    rw [pay64_apply, Finset.sum_range_one]
    exact zero_add _
  | n + 1, h => by
    have e : cfg0.N = 16 := N_0
    rw [Finset.sum_range_succ, ← sofar11 c j n (Nat.lt_of_succ_lt h)]
    exact (congrFun (later11 m c ⟨n + 1, h⟩ (by show ¬(n + 1) % 16 = 0; omega)) j).trans (loss_tile m c ⟨n + 1, h⟩ _ j)

theorem sofar12 (c : Dev nD) (j : S1x1024.Idx) : ∀ (n : ℕ) (h : n < cfg0.N),
    ((outsAt0 m c n h).2.2.2.2.2 j : EReal) = ∑ s ∈ Finset.range (n + 1), gainPart m c s (j 1)
  | 0, h => by
    refine (congrFun (first12 m c ⟨0, h⟩ rfl) j).trans ((gain_tile m c ⟨0, h⟩ _ j).trans ?_)
    rw [pay65_apply, Finset.sum_range_one]
    exact zero_add _
  | n + 1, h => by
    have e : cfg0.N = 16 := N_0
    rw [Finset.sum_range_succ, ← sofar12 c j n (Nat.lt_of_succ_lt h)]
    exact (congrFun (later12 m c ⟨n + 1, h⟩ (by show ¬(n + 1) % 16 = 0; omega)) j).trans (gain_tile m c ⟨n + 1, h⟩ _ j)

theorem lossParts (c : Dev nD) : ∑ s ∈ Finset.range (15 + 1), lossPart m c s = loss (xx m c) (gg m c) (w1 m c) (w3 m c) (w2 m c) (gl m c) (tt m c) := by
  rw [Finset.sum_range]
  exact Finset.sum_congr rfl fun s _ => dif_pos (show s.val < cfg0.N from s.isLt)

theorem gainParts (c : Dev nD) (q : Fin 1024) : ∑ s ∈ Finset.range (15 + 1), gainPart m c s q
    = ∑ l : Fin 8192, dGain (xx m c) (gg m c) (w1 m c) (w3 m c) (w2 m c) (gl m c) (tt m c) l q := by
  rw [Finset.sum_range]
  refine Eq.trans (Finset.sum_congr rfl fun s _ => ?_) (Fin.sum_mul_add_congr (S := 16) (n := 512)
    (F := fun s r => dGain (xx m c) (gg m c) (w1 m c) (w3 m c) (w2 m c) (gl m c) (tt m c) (rowOf ⟨s.val, s.isLt⟩ r) q) fun s r hl => rfl)
  exact dif_pos (show s.val < cfg0.N from s.isLt)

/-! ### The arrays after the call -/

theorem final7 (c : Dev nD) : (dats m 0 c).arrAt 7 cfg0.N = R7 m c := by
  refine (dats m 0 c).arrAt_eq_of_covers 7 _ (by decide +kernel) fun t _ y => ?_
  have e := (idx t).2.2.2.2.2.2.2.1
  have key : ((cfg0.win 7).blk t).view.emb y = ix2 (rowOf t (y 0)) (y 1) := funext fun a => Fin.ext (by
    match a with
    | ⟨0, _⟩ => blk_simp [e]; rfl
    | ⟨1, _⟩ => blk_simp [e]; rfl)
  rw [key]
  blk_simp
  rw [after0_7]
  obtain ⟨r, q, rfl⟩ : ∃ (r : Fin 512) (q : Fin 1024), y = ix2 r q := ⟨y 0, y 1, funext fun a => by match a with | ⟨0, _⟩ => rfl | ⟨1, _⟩ => rfl⟩
  exact (congrFun (point7 m c t) _).trans (back_tile m c t r q)

theorem final8 (c : Dev nD) : (dats m 0 c).arrAt 8 cfg0.N = R8 m c := by
  refine (dats m 0 c).arrAt_eq_of_covers 8 _ (by decide +kernel) fun t _ y => ?_
  have e := (idx t).2.2.2.2.2.2.2.2.1
  have key : ((cfg0.win 8).blk t).view.emb y = ix2 (rowOf t (y 0)) (y 1) := funext fun a => Fin.ext (by
    match a with
    | ⟨0, _⟩ => blk_simp [e]; rfl
    | ⟨1, _⟩ => blk_simp [e]; rfl)
  rw [key]
  blk_simp
  rw [after0_8]
  exact (point8 m c t y).trans (hid_u m c t (y 0) (y 1))

theorem final9 (c : Dev nD) : (dats m 0 c).arrAt 9 cfg0.N = R9 m c := by
  refine (dats m 0 c).arrAt_eq_of_covers 9 _ (by decide +kernel) fun t _ y => ?_
  have e := (idx t).2.2.2.2.2.2.2.2.2.1
  have key : ((cfg0.win 9).blk t).view.emb y = ix2 (rowOf t (y 0)) (y 1) := funext fun a => Fin.ext (by
    match a with
    | ⟨0, _⟩ => blk_simp [e]; rfl
    | ⟨1, _⟩ => blk_simp [e]; rfl)
  rw [key]
  blk_simp
  rw [after0_9]
  exact (point9 m c t y).trans (hid_v m c t (y 0) (y 1))

theorem final10 (c : Dev nD) : (dats m 0 c).arrAt 10 cfg0.N = R10 m c := by
  refine (dats m 0 c).arrAt_eq_of_covers 10 _ (by decide +kernel) fun t _ y => ?_
  have e := (idx t).2.2.2.2.2.2.2.2.2.2.1
  have key : ((cfg0.win 10).blk t).view.emb y = ix2 (rowOf t (y 0)) (y 1) := funext fun a => Fin.ext (by
    match a with
    | ⟨0, _⟩ => blk_simp [e]; rfl
    | ⟨1, _⟩ => blk_simp [e]; rfl)
  rw [key]
  blk_simp
  rw [after0_10]
  obtain ⟨r, q, rfl⟩ : ∃ (r : Fin 512) (q : Fin 1024), y = ix2 r q := ⟨y 0, y 1, funext fun a => by match a with | ⟨0, _⟩ => rfl | ⟨1, _⟩ => rfl⟩
  exact (congrFun (point10 m c t) _).trans ((pay3_apply _ _ r q).trans (scaled_tile m c t r q))

theorem final11 (c : Dev nD) : (dats m 0 c).arrAt 11 cfg0.N = R11 m c := by
  refine (dats m 0 c).arrAt_eq_of_covers 11 _ (by decide +kernel) fun t hf y => ?_
  have ht := (flush0_11 t).mp hf
  show _ = loss (xx m c) (gg m c) (w1 m c) (w3 m c) (w2 m c) (gl m c) (tt m c)
  blk_simp
  rw [after0_11]
  refine (sofar11 m c y t.val t.isLt).trans ?_
  have hN : cfg0.N = 16 := N_0
  rw [show t.val = 15 by omega]
  exact lossParts m c

theorem final12 (c : Dev nD) : (dats m 0 c).arrAt 12 cfg0.N = R12 m c := by
  refine (dats m 0 c).arrAt_eq_of_covers 12 _ (by decide +kernel) fun t hf y => ?_
  have ht := (flush0_12 t).mp hf
  have e := (idx t).2.2.2.2.2.2.2.2.2.2.2.2
  have e1 : (((cfg0.win 12).blk t).view.emb y) 1 = y 1 := Fin.ext (by blk_simp [e])
  have key : R12 m c (((cfg0.win 12).blk t).view.emb y) = ∑ l : Fin 8192, dGain (xx m c) (gg m c) (w1 m c) (w3 m c) (w2 m c) (gl m c) (tt m c) l (y 1) := by
    unfold R12
    rw [e1]
  refine Eq.trans ?_ key.symm
  blk_simp
  rw [after0_12]
  refine (sofar12 m c y t.val t.isLt).trans ?_
  have hN : cfg0.N = 16 := N_0
  rw [show t.val = 15 by omega]
  exact gainParts m c (y 1)

end Cert.ForwardIdeal.Value

end
-- ==== Proof.ForwardRef.lean ====
/-
  The reference's forward unit with the loss and its gradient, at an entry, and its agreement with the kernel's form on
  real numbers.
-/
module

public import proofs.«01_k».proof.Proof.Gen.ForwardRefIdeal.Read
public import proofs.«01_k».proof.Proof.Head
public import Idealize.ShloMosaic.Lib.KernelVsHost
public import Idealize.ShloMosaic.Lib.Pointwise

@[expose] public section

noncomputable section

namespace Cert.ForwardRefIdeal.Read

open Idealize.ShloMosaic Idealize.ShloMosaic.TcCoe Cert.ForwardRefIdeal Cert.ForwardRefIdeal.Gen Cert.RowGrad Cert.Gate Cert.Head

section Entries
variable (x : FVec Ideal S8192x1024 .f32) (g : FVec Ideal S1x1024 .f32) (w1 w3 : FVec Ideal S1024x2816 .f32) (w2 : FVec Ideal S2816x1024 .f32)
  (gf : FVec Ideal S1x1024 .f32) (tg : FVec Ideal S8192x1024 .f32)

theorem v6_at (l : Fin 8192) (z : Fin 1) : val_main_v6 (F := Ideal) x (ix2 l z) = under fun p => x (ix2 l p) := by
  unfold val_main_v6 val_main_v5 val_main_v4 val_main_v3 val_main_v2 val_main_v1 val_main_v0 val_main_cst val_main_cst_0 val_main_cst_1 under
  pointwise

theorem v11_at (l : Fin 8192) (k : Fin 1024) : val_main_v11 (F := Ideal) x g (ix2 l k) = scaled x g l k := by
  unfold val_main_v11 val_main_v10 val_main_v9 val_main_v8 val_main_v7 scaled
  pointwise
  rw [v6_at]
  rfl

theorem v12_at (l : Fin 8192) (p : Fin 2816) : val_main_v12 (F := Ideal) x g w1 (ix2 l p) = hidden x g w1 l p := by
  unfold val_main_v12 Cert.Head.hidden
  pointwise
  exact Finset.sum_congr rfl fun k _ => congrArg (fun y : EReal => y * w1 (ix2 k p)) (v11_at x g l k)

theorem v13_at (l : Fin 8192) (p : Fin 2816) : val_main_v13 (F := Ideal) x g w3 (ix2 l p) = hidden x g w3 l p := by
  unfold val_main_v13 Cert.Head.hidden
  pointwise
  exact Finset.sum_congr rfl fun k _ => congrArg (fun y : EReal => y * w3 (ix2 k p)) (v11_at x g l k)

theorem v69_at (l : Fin 8192) (p : Fin 2816) : val_main_v69 (F := Ideal) x g w1 (ix2 l p) = hidden x g w1 l p := by
  unfold val_main_v69
  pointwise
  exact v12_at x g w1 l p

theorem v70_at (l : Fin 8192) (p : Fin 2816) : val_main_v70 (F := Ideal) x g w3 (ix2 l p) = hidden x g w3 l p := by
  unfold val_main_v70
  pointwise
  exact v13_at x g w3 l p

theorem v71_at (l : Fin 8192) (k : Fin 1024) : val_main_v71 (F := Ideal) x g (ix2 l k) = scaled x g l k := by
  unfold val_main_v71
  pointwise
  exact v11_at x g l k

theorem v26_at (l : Fin 8192) (z : Fin 1) : val_main_v26 (F := Ideal) x g w1 w3 w2 (ix2 l z) = under fun p => val_main_v19 (F := Ideal) x g w1 w3 w2 (ix2 l p) := by
  unfold val_main_v26 val_main_v25 val_main_v24 val_main_v23 val_main_v22 val_main_v21 val_main_v20 val_main_cst_3 val_main_cst_4 val_main_cst_5 under
  pointwise

theorem v35_at (l : Fin 8192) (q : Fin 1024) : val_main_v35 (F := Ideal) x g w1 w3 w2 gf tg (ix2 l q)
    = err (fun p => val_main_v19 (F := Ideal) x g w1 w3 w2 (ix2 l p)) (gfRow gf) (tgRow tg l) q := by
  unfold val_main_v35 val_main_v34 val_main_v33 val_main_v32 val_main_v31 val_main_v27 err
  pointwise
  rw [v26_at]
  rfl

theorem v49_at (l : Fin 8192) (q : Fin 1024) : val_main_v49 (F := Ideal) x g w1 w3 w2 gf tg (ix2 l q)
    = Ideal.div (half * 1) width * (two * err (fun p => val_main_v19 (F := Ideal) x g w1 w3 w2 (ix2 l p)) (gfRow gf) (tgRow tg l) q) := by
  rw [← v35_at]
  unfold val_main_v49 val_main_v48 val_main_v47 val_main_v46 val_main_v45 val_main_v44 val_main_v38 val_main_v37 val_main_cst_7 val_main_cst_12 val_main_cst_13 val_main_cst_14
  pointwise

theorem v52_at (i : S1x1024.Idx) : val_main_v52 (F := Ideal) x g w1 w3 w2 gf tg i
    = ∑ l : Fin 8192, gain (fun p => val_main_v49 (F := Ideal) x g w1 w3 w2 gf tg (ix2 l p)) (fun p => val_main_v19 (F := Ideal) x g w1 w3 w2 (ix2 l p)) (i 1) := by
  unfold val_main_v52 val_main_v51 val_main_v50 val_main_v32 val_main_v31 val_main_v27 val_main_cst_15
  pointwise
  refine Finset.sum_congr rfl fun l _ => ?_
  rw [v26_at]
  exact mul_comm _ _

theorem v68_at (l : Fin 8192) (q : Fin 1024) : val_main_v68 (F := Ideal) x g w1 w3 w2 gf tg (ix2 l q)
    = forth 0 (fun p => val_main_v49 (F := Ideal) x g w1 w3 w2 gf tg (ix2 l p)) (fun p => val_main_v19 (F := Ideal) x g w1 w3 w2 (ix2 l p)) (gfRow gf) q := by
  unfold forth
  rw [zero_add]
  unfold val_main_v68 val_main_v67 val_main_v66 val_main_v65 val_main_v64 val_main_v63 val_main_v62 val_main_v61 val_main_v60 val_main_v59 val_main_v58 val_main_v57
    val_main_v56 val_main_v55 val_main_v54 val_main_v53 val_main_v30 val_main_v29 val_main_v28 val_main_v27 val_main_cst_6 val_main_cst_16 val_main_cst_17 val_main_cst_18
  pointwise
  simp only [v26_at]
  rfl

theorem v72_at (i : S8x128.Idx) : val_main_v72 (F := Ideal) x g w1 w3 w2 gf tg i
    = half * ∑ l : Fin 8192, msq (fun p => val_main_v19 (F := Ideal) x g w1 w3 w2 (ix2 l p)) (gfRow gf) (tgRow tg l) := by
  unfold val_main_v72 val_main_v43 val_main_v42 val_main_v41 val_main_v40 val_main_v39 val_main_v36 val_main_cst_8 val_main_cst_9 val_main_cst_10 val_main_cst_11 msq
  pointwise
  simp only [v35_at]

end Entries

section Real
variable {x : FVec Ideal S8192x1024 .f32} {g : FVec Ideal S1x1024 .f32} {w1 w3 : FVec Ideal S1024x2816 .f32} {w2 : FVec Ideal S2816x1024 .f32}
  {gf : FVec Ideal S1x1024 .f32} {tg : FVec Ideal S8192x1024 .f32}

theorem v19_at (hx : ∀ i, IsReal (x i)) (hg : ∀ i, IsReal (g i)) (h1 : ∀ i, IsReal (w1 i)) (l : Fin 8192) (q : Fin 1024) :
    val_main_v19 (F := Ideal) x g w1 w3 w2 (ix2 l q) = out x g w1 w3 w2 l q := by
  unfold val_main_v19 val_main_v18 val_main_v17 val_main_v16 val_main_v15 val_main_v14 val_main_call0_v5 val_main_call0_v4 val_main_call0_v3 val_main_call0_v2
    val_main_call0_v1 val_main_call0_v0 val_main_call0_cst val_main_call0_cst_0 val_main_cst_2 out
  pointwise
  simp only [v12_at, v13_at]
  refine congrArg (fun s : EReal => x (ix2 l q) + half * s) (Finset.sum_congr rfl fun p _ => ?_)
  exact congrArg (fun s : EReal => hidden x g w1 l p * s * hidden x g w3 l p * w2 (ix2 p q)) (sig_eq (hidden_real hx hg h1 l p))

variable (hx : ∀ i, IsReal (x i)) (hg : ∀ i, IsReal (g i)) (h1 : ∀ i, IsReal (w1 i)) (h3 : ∀ i, IsReal (w3 i)) (h2 : ∀ i, IsReal (w2 i))
  (hf : ∀ i, IsReal (gf i)) (ht : ∀ i, IsReal (tg i))

include hx hg h1 in
theorem row_eq (l : Fin 8192) : (fun p => val_main_v19 (F := Ideal) x g w1 w3 w2 (ix2 l p)) = out x g w1 w3 w2 l :=
  funext fun p => v19_at hx hg h1 l p

include hx hg h1 h3 h2 hf ht

theorem err_at (l : Fin 8192) (q : Fin 1024) : IsReal (err (out x g w1 w3 w2 l) (gfRow gf) (tgRow tg l) q) :=
  err_real (fun p => out_real hx hg h1 h3 h2 l p) (fun p => hf _) (fun p => ht _) q

theorem dy_at (l : Fin 8192) : (fun p => val_main_v49 (F := Ideal) x g w1 w3 w2 gf tg (ix2 l p)) = dy (out x g w1 w3 w2 l) (gfRow gf) (tgRow tg l) := by
  funext p
  rw [v49_at, row_eq hx hg h1]
  exact dy_eq (err_at hx hg h1 h3 h2 hf ht l p)

theorem dy_real (l : Fin 8192) (q : Fin 1024) : IsReal (dy (out x g w1 w3 w2 l) (gfRow gf) (tgRow tg l) q) :=
  (err_at hx hg h1 h3 h2 hf ht l q).mul ⟨_, perWidth_eq⟩

theorem v68_eq (l : Fin 8192) (q : Fin 1024) : val_main_v68 (F := Ideal) x g w1 w3 w2 gf tg (ix2 l q) = dOut x g w1 w3 w2 gf tg l q := by
  rw [v68_at, row_eq hx hg h1, dy_at hx hg h1 h3 h2 hf ht]
  refine (forth_eq ⟨0, rfl⟩ (dy_real hx hg h1 h3 h2 hf ht l) (fun p => out_real hx hg h1 h3 h2 l p) (fun p => hf _) q).trans ?_
  exact zero_add _

theorem v52_eq (i : S1x1024.Idx) : val_main_v52 (F := Ideal) x g w1 w3 w2 gf tg i = ∑ l : Fin 8192, dGain x g w1 w3 w2 gf tg l (i 1) := by
  rw [v52_at]
  refine Finset.sum_congr rfl fun l _ => ?_
  rw [row_eq hx hg h1, dy_at hx hg h1 h3 h2 hf ht]
  rfl

theorem v72_eq (i : S8x128.Idx) : val_main_v72 (F := Ideal) x g w1 w3 w2 gf tg i = loss x g w1 w3 w2 gf tg := by
  rw [v72_at]
  simp only [row_eq hx hg h1]
  exact loss_eq fun l => mean_real (IsReal.sum fun p => (err_at hx hg h1 h3 h2 hf ht l p).mul (err_at hx hg h1 h3 h2 hf ht l p))

end Real

end Cert.ForwardRefIdeal.Read

end
-- ==== Proof.ForwardArgs.lean ====
/-
  The forward unit's precondition read back: every entry of every argument is a real number; and with it the six arrays
  are the reference's.
-/
module

public import proofs.«01_k».proof.Proof.ForwardSum
public import proofs.«01_k».proof.Proof.ForwardRef
public import proofs.«01_k».proof.Proof.ConvReal
public import proofs.«01_k».proof.Pre_finite5

@[expose] public section

noncomputable section

namespace Cert.Forward5

open Idealize.ShloMosaic Cert.RowGrad Cert.ConvBwd

theorem pre_facts : Cert.Pre_finite5.Facts where
  bcast_S_S8192x1024 := by decide
  reducesTo_S8192x1024_S_d0_1 := by decide
  h_S_ := by decide
  bcast_S_S1x1024 := by decide
  reducesTo_S1x1024_S_d0_1 := by decide
  bcast_S_S1024x2816 := by decide
  reducesTo_S1024x2816_S_d0_1 := by decide
  bcast_S_S2816x1024 := by decide
  reducesTo_S2816x1024_S_d0_1 := by decide

theorem real_args [Cert.Pre_finite5.Facts] {x : FVec Ideal ⟨2, ![8192, 1024]⟩ .f32} {g : FVec Ideal ⟨2, ![1, 1024]⟩ .f32} {w1 w3 : FVec Ideal ⟨2, ![1024, 2816]⟩ .f32}
    {w2 : FVec Ideal ⟨2, ![2816, 1024]⟩ .f32} {gf : FVec Ideal ⟨2, ![1, 1024]⟩ .f32} {tg : FVec Ideal ⟨2, ![8192, 1024]⟩ .f32}
    (h : Cert.Pre_finite5.fn (F := Ideal) x g w1 w3 w2 gf tg = fun _ => 1#1) :
    (∀ i, IsReal (x i)) ∧ (∀ i, IsReal (g i)) ∧ (∀ i, IsReal (w1 i)) ∧ (∀ i, IsReal (w3 i)) ∧ (∀ i, IsReal (w2 i)) ∧ (∀ i, IsReal (gf i)) ∧ ∀ i, IsReal (tg i) := by
  have e := congrFun h (fun a => a.elim0)
  obtain ⟨e, h6⟩ := IntOp.andi_eq_one.mp e
  obtain ⟨e, h5⟩ := IntOp.andi_eq_one.mp e
  obtain ⟨e, h4⟩ := IntOp.andi_eq_one.mp e
  obtain ⟨e, h3⟩ := IntOp.andi_eq_one.mp e
  obtain ⟨e, h2⟩ := IntOp.andi_eq_one.mp e
  obtain ⟨h0, h1⟩ := IntOp.andi_eq_one.mp e
  exact ⟨fun i => ⟨_, real_of_all h0 i⟩, fun i => ⟨_, real_of_all h1 i⟩, fun i => ⟨_, real_of_all h2 i⟩, fun i => ⟨_, real_of_all h3 i⟩,
    fun i => ⟨_, real_of_all h4 i⟩, fun i => ⟨_, real_of_all h5 i⟩, fun i => ⟨_, real_of_all h6 i⟩⟩

theorem at2 {n k : ℕ} (i : Shape.Idx ⟨2, ![n, k]⟩) : ∃ (r : Fin n) (q : Fin k), i = ix2 r q :=
  ⟨i 0, i 1, funext fun a => by match a with | ⟨0, _⟩ => rfl | ⟨1, _⟩ => rfl⟩

open Cert.ForwardIdeal Cert.ForwardIdeal.Value Cert.ForwardRefIdeal.Read in
theorem results_eq [Cert.Pre_finite5.Facts] (m : (ℓ : Loc nD τ sig) → Buf (Elt Ideal) ℓ) (c : Dev nD)
    (h : Cert.Pre_finite5.fn (F := Ideal) (xx m c) (gg m c) (w1 m c) (w3 m c) (w2 m c) (gl m c) (tt m c) = fun _ => 1#1) :
    val_main_v68 (F := Ideal) (xx m c) (gg m c) (w1 m c) (w3 m c) (w2 m c) (gl m c) (tt m c) = R7 m c
      ∧ val_main_v69 (F := Ideal) (xx m c) (gg m c) (w1 m c) = R8 m c ∧ val_main_v70 (F := Ideal) (xx m c) (gg m c) (w3 m c) = R9 m c
      ∧ val_main_v71 (F := Ideal) (xx m c) (gg m c) = R10 m c
      ∧ val_main_v72 (F := Ideal) (xx m c) (gg m c) (w1 m c) (w3 m c) (w2 m c) (gl m c) (tt m c) = R11 m c
      ∧ val_main_v52 (F := Ideal) (xx m c) (gg m c) (w1 m c) (w3 m c) (w2 m c) (gl m c) (tt m c) = R12 m c := by
  obtain ⟨hx, hg, h1, h3, h2, hf, ht⟩ := real_args h
  refine ⟨funext fun i => ?_, funext fun i => ?_, funext fun i => ?_, funext fun i => ?_, funext fun i => v72_eq hx hg h1 h3 h2 hf ht i,
    funext fun i => v52_eq hx hg h1 h3 h2 hf ht i⟩
  · obtain ⟨r, q, rfl⟩ := at2 i
    exact v68_eq hx hg h1 h3 h2 hf ht r q
  · obtain ⟨r, q, rfl⟩ := at2 i
    exact v69_at _ _ _ r q
  · obtain ⟨r, q, rfl⟩ := at2 i
    exact v70_at _ _ _ r q
  · obtain ⟨r, q, rfl⟩ := at2 i
    exact v71_at _ _ r q

end Cert.Forward5

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.ConvSum
public import proofs.«01_k».proof.Proof.ConvRef
public import proofs.«01_k».proof.Proof.ConvReal
public import proofs.«01_k».proof.Proof.Gen.Weight
public import proofs.«01_k».proof.Proof.Gen.Weight.Frame
public import proofs.«01_k».proof.Proof.Gen.WeightIdeal.Value
public import proofs.«01_k».proof.Proof.Gen.WeightRefIdeal.Run
public import proofs.«01_k».proof.Proof.Gen.WeightRefIdeal.Read
public import proofs.«01_k».proof.Proof.WeightSum
public import proofs.«01_k».proof.Proof.Gen.Hidden
public import proofs.«01_k».proof.Proof.Gen.Hidden.Frame
public import proofs.«01_k».proof.Proof.Gen.HiddenIdeal.Value
public import proofs.«01_k».proof.Proof.Gen.HiddenRefIdeal.Run
public import proofs.«01_k».proof.Proof.Gen.HiddenRefIdeal.Read
public import proofs.«01_k».proof.Proof.Gen.Inner
public import proofs.«01_k».proof.Proof.Gen.Inner.Frame
public import proofs.«01_k».proof.Proof.Gen.InnerIdeal.Value
public import proofs.«01_k».proof.Proof.Gen.InnerRefIdeal.Run
public import proofs.«01_k».proof.Proof.Gen.InnerRefIdeal.Read
public import proofs.«01_k».proof.Proof.Gen.Forward
public import proofs.«01_k».proof.Proof.Gen.Forward.Frame
public import proofs.«01_k».proof.Proof.Gen.ForwardIdeal.Value
public import proofs.«01_k».proof.Proof.Gen.ForwardRefIdeal.Run
public import proofs.«01_k».proof.Proof.Gen.ForwardRefIdeal.Read
public import proofs.«01_k».proof.Proof.Gen.ProjWeight
public import proofs.«01_k».proof.Proof.Gen.ProjWeight.Frame
public import proofs.«01_k».proof.Proof.Gen.ProjWeightIdeal.Value
public import proofs.«01_k».proof.Proof.Gen.ProjWeightRefIdeal.Run
public import proofs.«01_k».proof.Proof.Gen.ProjWeightRefIdeal.Read
public import proofs.«01_k».proof.Proof.Gen.OutWeight
public import proofs.«01_k».proof.Proof.Gen.OutWeight.Frame
public import proofs.«01_k».proof.Proof.Gen.OutWeightIdeal.Value
public import proofs.«01_k».proof.Proof.Gen.OutWeightRefIdeal.Run
public import proofs.«01_k».proof.Proof.Gen.OutWeightRefIdeal.Read
public import proofs.«01_k».proof.Proof.Gen.MixIn
public import proofs.«01_k».proof.Proof.Gen.MixIn.Frame
public import proofs.«01_k».proof.Proof.Gen.MixInIdeal.Value
public import proofs.«01_k».proof.Proof.Gen.MixInRefIdeal.Run
public import proofs.«01_k».proof.Proof.Gen.MixInRefIdeal.Read
public import proofs.«01_k».proof.Proof.Gen.MixOut
public import proofs.«01_k».proof.Proof.Gen.MixOut.Frame
public import proofs.«01_k».proof.Proof.Gen.MixOutIdeal.Value
public import proofs.«01_k».proof.Proof.Gen.MixOutRefIdeal.Run
public import proofs.«01_k».proof.Proof.Gen.MixOutRefIdeal.Read
public import proofs.«01_k».proof.Proof.ProjWeightSum
public import proofs.«01_k».proof.Proof.OutWeightSum
public import proofs.«01_k».proof.Proof.MixInSum
public import proofs.«01_k».proof.Proof.MixOutSum
public import proofs.«01_k».proof.Proof.InnerArgs
public import proofs.«01_k».proof.Proof.HiddenArgs
public import proofs.«01_k».proof.Proof.ForwardArgs
public import Idealize.ShloMosaic.Adequacy
public import Idealize.ShloMosaic.Init

@[expose] public section

noncomputable section

namespace Cert.Proof

open Idealize.ShloMosaic Idealize.SL.Sem Cert.Kernel

/-- The reference's run ends with its arguments unchanged; it declares no semaphore. -/
theorem frame_reference : Cert.quiescent_ReferenceIdeal := fun m ρ _ =>
  (θ_run Cert.ReferenceIdeal.defs _ _).mono
    (fun r h => ⟨fun c => (h c).2.2.2.2.2.2, Idealize.ShloMosaic.sem_eq_zero_of_no_sems (by decide) r.2⟩)
    (Cert.ReferenceIdeal.Value.run (F := Ideal) m ρ)

/-- The model of the arguments a device holds at the kernel's launch. -/
def model (m : (ℓ : Loc Cert.KernelIdeal.nD Cert.KernelIdeal.τ Cert.KernelIdeal.sig) → Buf (Elt Ideal) ℓ) (c : Dev Cert.KernelIdeal.nD) : Cert.ConvBwd.Model :=
  Cert.ConvBwd.modelOf (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2))
    (m ((c.tc : Thread Cert.KernelIdeal.nD Cert.KernelIdeal.τ).loc Cert.KernelIdeal.main_arg3))
    (m ((c.tc : Thread Cert.KernelIdeal.nD Cert.KernelIdeal.τ).loc Cert.KernelIdeal.main_arg4))
    (m ((c.tc : Thread Cert.KernelIdeal.nD Cert.KernelIdeal.τ).loc Cert.KernelIdeal.main_arg5))
    (m ((c.tc : Thread Cert.KernelIdeal.nD Cert.KernelIdeal.τ).loc Cert.KernelIdeal.main_arg6))

open Cert.KernelIdeal.Value (Given R12 R13 R14 R15 R16 R17)

/-- Finite arguments hold their model's numbers, and the region reads the model's convolution. -/
theorem given [Cert.Pre_finite.Facts] {m : (ℓ : Loc Cert.KernelIdeal.nD Cert.KernelIdeal.τ Cert.KernelIdeal.sig) → Buf (Elt Ideal) ℓ} (h : Cert.Pre_KernelIdeal_finite m)
    (c : Dev Cert.KernelIdeal.nD) : Given m (model m c) c :=
  have a := Cert.ConvBwd.args_of (Cert.ConvBwd.real_args (h c))
  ⟨a, fun i => (congrFun (Cert.KernelIdeal.Value.cv_entry m c) i).trans (a.r86 i)⟩

/-- Both programs end with the model's gradients. -/
theorem algebraic [hPre : Cert.Pre_finite.Facts] : Cert.algebraic_KernelIdeal_ReferenceIdeal_pre_finite := by
  intro m g m' g' hpre hagree
  refine ⟨fun c => R12 (model m c), fun c => R13 (model m c), fun c => R14 (model m c), fun c => R15 (model m c), fun c => R16 (model m c), fun c => R17 (model m c), ?_, ?_⟩
  · refine (θ_run Cert.KernelIdeal.defs _ _).mono (fun r h c => ?_) (Cert.KernelIdeal.Value.run_blocks (F := Ideal) m g)
    obtain ⟨h0, h1, h2, h3, h4, h5, ha⟩ := h c
    have k := given hpre c
    exact ⟨h0.trans (Cert.KernelIdeal.Value.final12 k), h1.trans (Cert.KernelIdeal.Value.final13 k), h2.trans (Cert.KernelIdeal.Value.final14 k),
      h3.trans (Cert.KernelIdeal.Value.final15 k), h4.trans (Cert.KernelIdeal.Value.final16 k), h5.trans (Cert.KernelIdeal.Value.final17 k), ha⟩
  · refine (θ_run Cert.ReferenceIdeal.defs _ _).mono (fun r h c => ?_) (Cert.ReferenceIdeal.Value.run (F := Ideal) m' g')
    obtain ⟨h0, h1, h2, h3, h4, h5, ha⟩ := h c
    obtain ⟨e0, e1, e2, e3, e4, e5, e6⟩ := hagree c
    have k := (given hpre c).args
    rw [← e0, ← e1, ← e2, ← e3, ← e4, ← e5, ← e6] at k
    exact ⟨h0.trans ((Cert.ReferenceIdeal.Read.val_main_v328_eq _).trans (funext k.r328)), h1.trans ((Cert.ReferenceIdeal.Read.val_main_v329_eq _).trans (funext k.r329)),
      h2.trans ((Cert.ReferenceIdeal.Read.val_main_v188_eq _).trans (funext k.r188)), h3.trans ((Cert.ReferenceIdeal.Read.val_main_v162_eq _).trans (funext k.r162)),
      h4.trans ((Cert.ReferenceIdeal.Read.val_main_v155_eq _).trans (funext k.r155)), h5.trans ((Cert.ReferenceIdeal.Read.val_main_v136_eq _).trans (funext k.r136)), ha⟩

/-- The reference of the weight gradient ends with its arguments unchanged; it declares no semaphore. -/
theorem frame_weight_reference : Cert.quiescent_WeightRefIdeal := fun m ρ _ =>
  (θ_run Cert.WeightRefIdeal.defs _ _).mono
    (fun r h => ⟨fun c => (h c).2, Idealize.ShloMosaic.sem_eq_zero_of_no_sems (by decide) r.2⟩)
    (Cert.WeightRefIdeal.Value.run (F := Ideal) m ρ)

/-- Both programs end with the product over all tokens. -/
theorem algebraic_weight : Cert.algebraic_WeightIdeal_WeightRefIdeal := by
  intro m g m' g' _ hagree
  refine ⟨fun c => Cert.WeightIdeal.Value.G2 m c, Cert.WeightIdeal.Value.run (F := Ideal) m g, ?_⟩
  refine (θ_run Cert.WeightRefIdeal.defs _ _).mono (fun r h c => ?_) (Cert.WeightRefIdeal.Value.run (F := Ideal) m' g')
  obtain ⟨h0, ha⟩ := h c
  obtain ⟨e0, e1⟩ := hagree c
  refine ⟨h0.trans ?_, ha⟩
  rw [e0, e1]
  exact (Cert.WeightRefIdeal.Read.val_main_v6_eq _ _).trans (Cert.WeightIdeal.Value.G2_eq m c).symm

/-- The reference of the unit's inner gradient ends with its arguments unchanged; it declares no semaphore. -/
theorem frame_inner_reference : Cert.quiescent_InnerRefIdeal := fun m ρ _ =>
  (θ_run Cert.InnerRefIdeal.defs _ _).mono
    (fun r h => ⟨fun c => (h c).2.2, Idealize.ShloMosaic.sem_eq_zero_of_no_sems (by decide) r.2⟩)
    (Cert.InnerRefIdeal.Value.run (F := Ideal) m ρ)

open Cert.InnerIdeal.Value in
/-- Both programs end with the unit's input gradient and its gain's gradient. -/
theorem algebraic_inner [hPre : Cert.Pre_finite3.Facts] : Cert.algebraic_InnerIdeal_InnerRefIdeal_pre_finite3 := by
  intro m g m' g' hpre hagree
  refine ⟨fun c => R7 m c, fun c => R8 m c, ?_, ?_⟩
  · refine (θ_run Cert.InnerIdeal.defs _ _).mono (fun r h c => ?_) (Cert.InnerIdeal.Value.run_blocks (F := Ideal) m g)
    obtain ⟨h0, h1, ha⟩ := h c
    exact ⟨h0.trans (final7 m c), h1.trans (final8 m c), ha⟩
  · refine (θ_run Cert.InnerRefIdeal.defs _ _).mono (fun r h c => ?_) (Cert.InnerRefIdeal.Value.run (F := Ideal) m' g')
    obtain ⟨h0, h1, ha⟩ := h c
    obtain ⟨e0, e1, e2, e3, e4, e5, e6⟩ := hagree c
    refine ⟨h0.trans ?_, h1.trans ?_, ha⟩
    · refine (Cert.InnerRefIdeal.Read.val_main_v41_eq m' c).trans ?_
      rw [e0, e1, e2, e3, e4, e5, e6]
      exact (Cert.Inner3.R7_eq m c (hpre c))
    · refine (Cert.InnerRefIdeal.Read.val_main_v24_eq _ _ _ _ _).trans ?_
      rw [e1, e2, e3, e5, e6]
      exact (Cert.Inner3.R8_eq m c)

/-- The reference of the gated unit's gradient ends with its arguments unchanged; it declares no semaphore. -/
theorem frame_hidden_reference : Cert.quiescent_HiddenRefIdeal := fun m ρ _ =>
  (θ_run Cert.HiddenRefIdeal.defs _ _).mono
    (fun r h => ⟨fun c => (h c).2.2.2.2, Idealize.ShloMosaic.sem_eq_zero_of_no_sems (by decide) r.2⟩)
    (Cert.HiddenRefIdeal.Value.run (F := Ideal) m ρ)

open Cert.HiddenIdeal.Value in
/-- Both programs end with the gated unit's two gradients, its product and the halved gradient. -/
theorem algebraic_hidden [hPre : Cert.Pre_finite4.Facts] : Cert.algebraic_HiddenIdeal_HiddenRefIdeal_pre_finite4 := by
  intro m g m' g' hpre hagree
  refine ⟨fun c => R4 m c, fun c => R5 m c, fun c => R6 m c, fun c => R7 m c, ?_, ?_⟩
  · refine (θ_run Cert.HiddenIdeal.defs _ _).mono (fun r h c => ?_) (Cert.HiddenIdeal.Value.run_blocks (F := Ideal) m g)
    obtain ⟨h0, h1, h2, h3, ha⟩ := h c
    exact ⟨h0.trans (final4 m c), h1.trans (final5 m c), h2.trans (final6 m c), h3.trans (final7 m c), ha⟩
  · refine (θ_run Cert.HiddenRefIdeal.defs _ _).mono (fun r h c => ?_) (Cert.HiddenRefIdeal.Value.run (F := Ideal) m' g')
    obtain ⟨h0, h1, h2, h3, ha⟩ := h c
    obtain ⟨e0, e1, e2, e3⟩ := hagree c
    obtain ⟨k0, k1, k2, k3⟩ := Cert.Hidden4.results_eq m c (hpre c)
    refine ⟨h0.trans ?_, h1.trans ?_, h2.trans ?_, h3.trans ?_, ha⟩
    · refine (Cert.HiddenRefIdeal.Read.val_main_v15_eq _ _ _ _).trans ?_
      rw [e0, e1, e2, e3]
      exact k0
    · refine (Cert.HiddenRefIdeal.Read.val_main_v16_eq _ _ _).trans ?_
      rw [e0, e1, e3]
      exact k1
    · refine (Cert.HiddenRefIdeal.Read.val_main_v17_eq _ _).trans ?_
      rw [e1, e2]
      exact k2
    · refine (Cert.HiddenRefIdeal.Read.val_main_v20_eq _).trans ?_
      rw [e0]
      exact k3

/-- The reference of the forward unit ends with its arguments unchanged; it declares no semaphore. -/
theorem frame_forward_reference : Cert.quiescent_ForwardRefIdeal := fun m ρ _ =>
  (θ_run Cert.ForwardRefIdeal.defs _ _).mono
    (fun r h => ⟨fun c => (h c).2.2.2.2.2.2, Idealize.ShloMosaic.sem_eq_zero_of_no_sems (by decide) r.2⟩)
    (Cert.ForwardRefIdeal.Value.run (F := Ideal) m ρ)

open Cert.ForwardIdeal.Value in
/-- Both programs end with the unit's gradient, its hidden values, its scaled rows, the loss and the last gain's gradient. -/
theorem algebraic_forward [hPre : Cert.Pre_finite5.Facts] : Cert.algebraic_ForwardIdeal_ForwardRefIdeal_pre_finite5 := by
  intro m g m' g' hpre hagree
  refine ⟨fun c => R7 m c, fun c => R8 m c, fun c => R9 m c, fun c => R10 m c, fun c => R11 m c, fun c => R12 m c, ?_, ?_⟩
  · refine (θ_run Cert.ForwardIdeal.defs _ _).mono (fun r h c => ?_) (Cert.ForwardIdeal.Value.run_blocks (F := Ideal) m g)
    obtain ⟨h0, h1, h2, h3, h4, h5, ha⟩ := h c
    exact ⟨h0.trans (final7 m c), h1.trans (final8 m c), h2.trans (final9 m c), h3.trans (final10 m c), h4.trans (final11 m c), h5.trans (final12 m c), ha⟩
  · refine (θ_run Cert.ForwardRefIdeal.defs _ _).mono (fun r h c => ?_) (Cert.ForwardRefIdeal.Value.run (F := Ideal) m' g')
    obtain ⟨h0, h1, h2, h3, h4, h5, ha⟩ := h c
    obtain ⟨e0, e1, e2, e3, e4, e5, e6⟩ := hagree c
    obtain ⟨k0, k1, k2, k3, k4, k5⟩ := Cert.Forward5.results_eq m c (hpre c)
    refine ⟨h0.trans ?_, h1.trans ?_, h2.trans ?_, h3.trans ?_, h4.trans ?_, h5.trans ?_, ha⟩
    · refine (Cert.ForwardRefIdeal.Read.val_main_v68_eq m' c).trans ?_
      rw [e0, e1, e2, e3, e4, e5, e6]
      exact k0
    · refine (Cert.ForwardRefIdeal.Read.val_main_v69_eq _ _ _).trans ?_
      rw [e0, e1, e2]
      exact k1
    · refine (Cert.ForwardRefIdeal.Read.val_main_v70_eq _ _ _).trans ?_
      rw [e0, e1, e3]
      exact k2
    · refine (Cert.ForwardRefIdeal.Read.val_main_v71_eq _ _).trans ?_
      rw [e0, e1]
      exact k3
    · refine (Cert.ForwardRefIdeal.Read.val_main_v72_eq m' c).trans ?_
      rw [e0, e1, e2, e3, e4, e5, e6]
      exact k4
    · refine (Cert.ForwardRefIdeal.Read.val_main_v52_eq m' c).trans ?_
      rw [e0, e1, e2, e3, e4, e5, e6]
      exact k5

/-- The reference of the mixing projection's weight gradient ends with its arguments unchanged; it declares no semaphore. -/
theorem frame_projWeight_reference : Cert.quiescent_ProjWeightRefIdeal := fun m ρ _ =>
  (θ_run Cert.ProjWeightRefIdeal.defs _ _).mono
    (fun r h => ⟨fun c => (h c).2, Idealize.ShloMosaic.sem_eq_zero_of_no_sems (by decide) r.2⟩)
    (Cert.ProjWeightRefIdeal.Value.run (F := Ideal) m ρ)

open Cert.ProjWeightIdeal.Value in
/-- Both programs end with the product of the two gradients, side by side, with the normed rows, over all tokens. -/
theorem algebraic_projWeight : Cert.algebraic_ProjWeightIdeal_ProjWeightRefIdeal := by
  intro m g m' g' _ hagree
  refine ⟨fun c => R3 m c, ?_, ?_⟩
  · refine (θ_run Cert.ProjWeightIdeal.defs _ _).mono (fun r h c => ?_) (Cert.ProjWeightIdeal.Value.run_blocks (F := Ideal) m g)
    obtain ⟨h0, ha⟩ := h c
    exact ⟨h0.trans (final3 m c), ha⟩
  · refine (θ_run Cert.ProjWeightRefIdeal.defs _ _).mono (fun r h c => ?_) (Cert.ProjWeightRefIdeal.Value.run (F := Ideal) m' g')
    obtain ⟨h0, ha⟩ := h c
    obtain ⟨e0, e1, e2⟩ := hagree c
    refine ⟨h0.trans ?_, ha⟩
    rw [e0, e1, e2]
    exact (Cert.ProjWeightRefIdeal.Read.val_main_v7_eq _ _ _).trans (ref7 m c)

/-- The reference of the output projection's weight gradient ends with its arguments unchanged; it declares no semaphore. -/
theorem frame_outWeight_reference : Cert.quiescent_OutWeightRefIdeal := fun m ρ _ =>
  (θ_run Cert.OutWeightRefIdeal.defs _ _).mono
    (fun r h => ⟨fun c => (h c).2, Idealize.ShloMosaic.sem_eq_zero_of_no_sems (by decide) r.2⟩)
    (Cert.OutWeightRefIdeal.Value.run (F := Ideal) m ρ)

open Cert.OutWeightIdeal.Value in
/-- Both programs end with the product of the mixed rows, side by side, with the gradient, over all tokens. -/
theorem algebraic_outWeight : Cert.algebraic_OutWeightIdeal_OutWeightRefIdeal := by
  intro m g m' g' _ hagree
  refine ⟨fun c => R3 m c, ?_, ?_⟩
  · refine (θ_run Cert.OutWeightIdeal.defs _ _).mono (fun r h c => ?_) (Cert.OutWeightIdeal.Value.run_blocks (F := Ideal) m g)
    obtain ⟨h0, ha⟩ := h c
    exact ⟨h0.trans (final3 m c), ha⟩
  · refine (θ_run Cert.OutWeightRefIdeal.defs _ _).mono (fun r h c => ?_) (Cert.OutWeightRefIdeal.Value.run (F := Ideal) m' g')
    obtain ⟨h0, ha⟩ := h c
    obtain ⟨e0, e1, e2⟩ := hagree c
    refine ⟨h0.trans ?_, ha⟩
    rw [e0, e1, e2]
    exact (Cert.OutWeightRefIdeal.Read.val_main_v5_eq _ _ _).trans (ref5 m c)

/-- The reference of the mixing projection ends with its arguments unchanged; it declares no semaphore. -/
theorem frame_mixIn_reference : Cert.quiescent_MixInRefIdeal := fun m ρ _ =>
  (θ_run Cert.MixInRefIdeal.defs _ _).mono
    (fun r h => ⟨fun c => (h c).2.2, Idealize.ShloMosaic.sem_eq_zero_of_no_sems (by decide) r.2⟩)
    (Cert.MixInRefIdeal.Value.run (F := Ideal) m ρ)

open Cert.MixInIdeal.Value in
/-- Both programs end with the projection of the normed rows, and the normed rows. -/
theorem algebraic_mixIn : Cert.algebraic_MixInIdeal_MixInRefIdeal := by
  intro m g m' g' _ hagree
  refine ⟨fun c => R3 m c, fun c => R4 m c, ?_, ?_⟩
  · refine (θ_run Cert.MixInIdeal.defs _ _).mono (fun r h c => ?_) (Cert.MixInIdeal.Value.run_blocks (F := Ideal) m g)
    obtain ⟨h0, h1, ha⟩ := h c
    exact ⟨h0.trans (final3 m c), h1.trans (final4 m c), ha⟩
  · refine (θ_run Cert.MixInRefIdeal.defs _ _).mono (fun r h c => ?_) (Cert.MixInRefIdeal.Value.run (F := Ideal) m' g')
    obtain ⟨h0, h1, ha⟩ := h c
    obtain ⟨e0, e1, e2⟩ := hagree c
    refine ⟨h0.trans ?_, h1.trans ?_, ha⟩
    · refine (Cert.MixInRefIdeal.Read.val_main_v12_eq _ _ _).trans ?_
      rw [e0, e1, e2]
      exact ref3 m c
    · refine (Cert.MixInRefIdeal.Read.val_main_v13_eq _ _).trans ?_
      rw [e0, e1]
      exact ref4 m c

/-- The reference of the projection out of the mixer ends with its arguments unchanged; it declares no semaphore. -/
theorem frame_mixOut_reference : Cert.quiescent_MixOutRefIdeal := fun m ρ _ =>
  (θ_run Cert.MixOutRefIdeal.defs _ _).mono
    (fun r h => ⟨fun c => (h c).2.2.2, Idealize.ShloMosaic.sem_eq_zero_of_no_sems (by decide) r.2⟩)
    (Cert.MixOutRefIdeal.Value.run (F := Ideal) m ρ)

open Cert.MixOutIdeal.Value in
/-- Both programs end with the scan's rows before the gate, those rows gated and scaled, and the mixer's result. -/
theorem algebraic_mixOut : Cert.algebraic_MixOutIdeal_MixOutRefIdeal := by
  intro m g m' g' _ hagree
  refine ⟨fun c => R9 m c, fun c => R10 m c, fun c => R11 m c, ?_, ?_⟩
  · refine (θ_run Cert.MixOutIdeal.defs _ _).mono (fun r h c => ?_) (Cert.MixOutIdeal.Value.run_blocks (F := Ideal) m g)
    obtain ⟨h0, h1, h2, ha⟩ := h c
    exact ⟨h0.trans (final9 m c), h1.trans (final10 m c), h2.trans (final11 m c), ha⟩
  · refine (θ_run Cert.MixOutRefIdeal.defs _ _).mono (fun r h c => ?_) (Cert.MixOutRefIdeal.Value.run (F := Ideal) m' g')
    obtain ⟨h0, h1, h2, ha⟩ := h c
    obtain ⟨e0, e1, e2, e3, e4, e5, e6, e7, e8⟩ := hagree c
    refine ⟨h0.trans ?_, h1.trans ?_, h2.trans ?_, ha⟩
    · refine (Cert.MixOutRefIdeal.Read.val_main_v3_eq _ _ _).trans ?_
      rw [e0, e1, e2]
      exact ref3 m c
    · refine (Cert.MixOutRefIdeal.Read.val_main_v41_eq m' c).trans ?_
      rw [e0, e1, e2, e3, e4, e5]
      exact ref41 m c
    · refine (Cert.MixOutRefIdeal.Read.val_main_v43_eq m' c).trans ?_
      rw [e0, e1, e2, e3, e4, e5, e6, e7, e8]
      exact ref43 m c

theorem claim : Cert.Claim := ⟨Cert.Kernel.Gen.facts, Cert.KernelIdeal.Gen.facts, Cert.ReferenceIdeal.Gen.facts,
  Cert.Weight.Gen.facts, Cert.WeightIdeal.Gen.facts, Cert.WeightRefIdeal.Gen.facts,
  Cert.Inner.Gen.facts, Cert.InnerIdeal.Gen.facts, Cert.InnerRefIdeal.Gen.facts,
  Cert.Hidden.Gen.facts, Cert.HiddenIdeal.Gen.facts, Cert.HiddenRefIdeal.Gen.facts,
  Cert.Forward.Gen.facts, Cert.ForwardIdeal.Gen.facts, Cert.ForwardRefIdeal.Gen.facts,
  Cert.ProjWeight.Gen.facts, Cert.ProjWeightIdeal.Gen.facts, Cert.ProjWeightRefIdeal.Gen.facts,
  Cert.OutWeight.Gen.facts, Cert.OutWeightIdeal.Gen.facts, Cert.OutWeightRefIdeal.Gen.facts,
  Cert.MixIn.Gen.facts, Cert.MixInIdeal.Gen.facts, Cert.MixInRefIdeal.Gen.facts,
  Cert.MixOut.Gen.facts, Cert.MixOutIdeal.Gen.facts, Cert.MixOutRefIdeal.Gen.facts,
  Cert.ConvBwd.pre_facts, Cert.Inner3.pre_facts, Cert.Hidden4.pre_facts, Cert.Forward5.pre_facts,
  fun m ρ _ => Cert.Kernel.Gen.frame m ρ,
  fun m ρ _ => Cert.KernelIdeal.Gen.frame m ρ,
  fun m ρ _ => Cert.KernelIdeal.Gen.frame m ρ,
  frame_reference,
  fun m ρ _ => frame_reference m ρ trivial,
  fun m ρ _ => Cert.Weight.Gen.frame m ρ,
  fun m ρ _ => Cert.WeightIdeal.Gen.frame m ρ,
  frame_weight_reference,
  fun m ρ _ => Cert.Inner.Gen.frame m ρ,
  fun m ρ _ => Cert.InnerIdeal.Gen.frame m ρ,
  fun m ρ _ => Cert.InnerIdeal.Gen.frame m ρ,
  frame_inner_reference,
  fun m ρ _ => frame_inner_reference m ρ trivial,
  fun m ρ _ => Cert.Hidden.Gen.frame m ρ,
  fun m ρ _ => Cert.HiddenIdeal.Gen.frame m ρ,
  fun m ρ _ => Cert.HiddenIdeal.Gen.frame m ρ,
  frame_hidden_reference,
  fun m ρ _ => frame_hidden_reference m ρ trivial,
  fun m ρ _ => Cert.Forward.Gen.frame m ρ,
  fun m ρ _ => Cert.ForwardIdeal.Gen.frame m ρ,
  fun m ρ _ => Cert.ForwardIdeal.Gen.frame m ρ,
  frame_forward_reference,
  fun m ρ _ => frame_forward_reference m ρ trivial,
  fun m ρ _ => Cert.ProjWeight.Gen.frame m ρ,
  fun m ρ _ => Cert.ProjWeightIdeal.Gen.frame m ρ,
  frame_projWeight_reference,
  fun m ρ _ => Cert.OutWeight.Gen.frame m ρ,
  fun m ρ _ => Cert.OutWeightIdeal.Gen.frame m ρ,
  frame_outWeight_reference,
  fun m ρ _ => Cert.MixIn.Gen.frame m ρ,
  fun m ρ _ => Cert.MixInIdeal.Gen.frame m ρ,
  frame_mixIn_reference,
  fun m ρ _ => Cert.MixOut.Gen.frame m ρ,
  fun m ρ _ => Cert.MixOutIdeal.Gen.frame m ρ,
  frame_mixOut_reference,
  trivial,
  algebraic (hPre := Cert.ConvBwd.pre_facts),
  trivial,
  algebraic_weight,
  trivial,
  algebraic_inner (hPre := Cert.Inner3.pre_facts),
  trivial,
  algebraic_hidden (hPre := Cert.Hidden4.pre_facts),
  trivial,
  algebraic_forward (hPre := Cert.Forward5.pre_facts),
  trivial,
  algebraic_projWeight,
  trivial,
  algebraic_outWeight,
  trivial,
  algebraic_mixIn,
  trivial,
  algebraic_mixOut⟩

end Cert.Proof

end
